-- ==== Defs.lean ====
def Pre_Kernel [hPre_routed : Cert.Pre_routed.Facts] (m : (ℓ : Loc Cert.Kernel.nD Cert.Kernel.τ Cert.Kernel.sig) → Buf (Elt Bits) ℓ) : Prop :=
  ∀ c : Dev Cert.Kernel.nD,
    (Cert.Pre_routed.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_routed : Cert.Pre_routed.Facts] (m : (ℓ : Loc Cert.KernelIdeal.nD Cert.KernelIdeal.τ Cert.KernelIdeal.sig) → Buf (Elt Ideal) ℓ) : Prop :=
  ∀ c : Dev Cert.KernelIdeal.nD,
    (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_routed : Cert.Pre_routed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def Pre_KernelKv (m : (ℓ : Loc Cert.KernelKv.nD Cert.KernelKv.τ Cert.KernelKv.sig) → Buf (Elt Bits) ℓ) : Prop :=
  True

def Pre_KernelKvIdeal (m : (ℓ : Loc Cert.KernelKvIdeal.nD Cert.KernelKvIdeal.τ Cert.KernelKvIdeal.sig) → Buf (Elt Ideal) ℓ) : Prop :=
  True

def Pre_ReferenceKvIdeal (m : (ℓ : Loc Cert.ReferenceKvIdeal.nD Cert.ReferenceKvIdeal.τ Cert.ReferenceKvIdeal.sig) → Buf (Elt Ideal) ℓ) : Prop :=
  True

def Pre_KernelMod (m : (ℓ : Loc Cert.KernelMod.nD Cert.KernelMod.τ Cert.KernelMod.sig) → Buf (Elt Bits) ℓ) : Prop :=
  True

def Pre_KernelModIdeal (m : (ℓ : Loc Cert.KernelModIdeal.nD Cert.KernelModIdeal.τ Cert.KernelModIdeal.sig) → Buf (Elt Ideal) ℓ) : Prop :=
  True

def Pre_ReferenceModIdeal (m : (ℓ : Loc Cert.ReferenceModIdeal.nD Cert.ReferenceModIdeal.τ Cert.ReferenceModIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelNorm (m : (ℓ : Loc Cert.KernelNorm.nD Cert.KernelNorm.τ Cert.KernelNorm.sig) → Buf (Elt Bits) ℓ) : Prop :=
  True

def Pre_KernelNormIdeal (m : (ℓ : Loc Cert.KernelNormIdeal.nD Cert.KernelNormIdeal.τ Cert.KernelNormIdeal.sig) → Buf (Elt Ideal) ℓ) : Prop :=
  True

def Pre_ReferenceNormIdeal (m : (ℓ : Loc Cert.ReferenceNormIdeal.nD Cert.ReferenceNormIdeal.τ Cert.ReferenceNormIdeal.sig) → Buf (Elt Ideal) ℓ) : Prop :=
  True

def Pre_KernelOutRnn (m : (ℓ : Loc Cert.KernelOutRnn.nD Cert.KernelOutRnn.τ Cert.KernelOutRnn.sig) → Buf (Elt Bits) ℓ) : Prop :=
  True

def Pre_KernelOutRnnIdeal (m : (ℓ : Loc Cert.KernelOutRnnIdeal.nD Cert.KernelOutRnnIdeal.τ Cert.KernelOutRnnIdeal.sig) → Buf (Elt Ideal) ℓ) : Prop :=
  True

def Pre_ReferenceOutRnnIdeal (m : (ℓ : Loc Cert.ReferenceOutRnnIdeal.nD Cert.ReferenceOutRnnIdeal.τ Cert.ReferenceOutRnnIdeal.sig) → Buf (Elt Ideal) ℓ) : Prop :=
  True

def quiescent_Kernel [hKernel : Cert.Kernel.Facts] [hPre_routed : Cert.Pre_routed.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] [hPre_routed : Cert.Pre_routed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_KernelKv [hKernelKv : Cert.KernelKv.Facts] : Prop :=
  ∀ (m : (ℓ : Loc Cert.KernelKv.nD Cert.KernelKv.τ Cert.KernelKv.sig) → Buf (Elt Bits) ℓ) (g : Dev Cert.KernelKv.nD → PrngReg), Pre_KernelKv m →
    θ_run (Cert.KernelKv.defs (F := Bits)) (onTc (τ := Cert.KernelKv.τ) (Cert.KernelKv.main (F := Bits))) ⟨m, fun _ => 0, g⟩ (fun r => (∀ c : Dev Cert.KernelKv.nD,
      r.2.mem ((c.tc : Thread Cert.KernelKv.nD Cert.KernelKv.τ).loc Cert.KernelKv.main_arg0) = m ((c.tc : Thread Cert.KernelKv.nD Cert.KernelKv.τ).loc Cert.KernelKv.main_arg0)
      ∧ r.2.mem ((c.tc : Thread Cert.KernelKv.nD Cert.KernelKv.τ).loc Cert.KernelKv.main_arg1) = m ((c.tc : Thread Cert.KernelKv.nD Cert.KernelKv.τ).loc Cert.KernelKv.main_arg1)
      ∧ r.2.mem ((c.tc : Thread Cert.KernelKv.nD Cert.KernelKv.τ).loc Cert.KernelKv.main_arg2) = m ((c.tc : Thread Cert.KernelKv.nD Cert.KernelKv.τ).loc Cert.KernelKv.main_arg2)
      ∧ r.2.mem ((c.tc : Thread Cert.KernelKv.nD Cert.KernelKv.τ).loc Cert.KernelKv.main_arg3) = m ((c.tc : Thread Cert.KernelKv.nD Cert.KernelKv.τ).loc Cert.KernelKv.main_arg3)
      ∧ r.2.mem ((c.tc : Thread Cert.KernelKv.nD Cert.KernelKv.τ).loc Cert.KernelKv.main_arg4) = m ((c.tc : Thread Cert.KernelKv.nD Cert.KernelKv.τ).loc Cert.KernelKv.main_arg4)
      ∧ r.2.mem ((c.tc : Thread Cert.KernelKv.nD Cert.KernelKv.τ).loc Cert.KernelKv.main_arg5) = m ((c.tc : Thread Cert.KernelKv.nD Cert.KernelKv.τ).loc Cert.KernelKv.main_arg5))
      ∧ r.2.sem = fun _ => 0)

def quiescent_KernelKvIdeal [hKernelKvIdeal : Cert.KernelKvIdeal.Facts] : Prop :=
  ∀ (m : (ℓ : Loc Cert.KernelKvIdeal.nD Cert.KernelKvIdeal.τ Cert.KernelKvIdeal.sig) → Buf (Elt Ideal) ℓ) (g : Dev Cert.KernelKvIdeal.nD → PrngReg), Pre_KernelKvIdeal m →
    θ_run (Cert.KernelKvIdeal.defs (F := Ideal)) (onTc (τ := Cert.KernelKvIdeal.τ) (Cert.KernelKvIdeal.main (F := Ideal))) ⟨m, fun _ => 0, g⟩ (fun r => (∀ c : Dev Cert.KernelKvIdeal.nD,
      r.2.mem ((c.tc : Thread Cert.KernelKvIdeal.nD Cert.KernelKvIdeal.τ).loc Cert.KernelKvIdeal.main_arg0) = m ((c.tc : Thread Cert.KernelKvIdeal.nD Cert.KernelKvIdeal.τ).loc Cert.KernelKvIdeal.main_arg0)
      ∧ r.2.mem ((c.tc : Thread Cert.KernelKvIdeal.nD Cert.KernelKvIdeal.τ).loc Cert.KernelKvIdeal.main_arg1) = m ((c.tc : Thread Cert.KernelKvIdeal.nD Cert.KernelKvIdeal.τ).loc Cert.KernelKvIdeal.main_arg1)
      ∧ r.2.mem ((c.tc : Thread Cert.KernelKvIdeal.nD Cert.KernelKvIdeal.τ).loc Cert.KernelKvIdeal.main_arg2) = m ((c.tc : Thread Cert.KernelKvIdeal.nD Cert.KernelKvIdeal.τ).loc Cert.KernelKvIdeal.main_arg2)
      ∧ r.2.mem ((c.tc : Thread Cert.KernelKvIdeal.nD Cert.KernelKvIdeal.τ).loc Cert.KernelKvIdeal.main_arg3) = m ((c.tc : Thread Cert.KernelKvIdeal.nD Cert.KernelKvIdeal.τ).loc Cert.KernelKvIdeal.main_arg3)
      ∧ r.2.mem ((c.tc : Thread Cert.KernelKvIdeal.nD Cert.KernelKvIdeal.τ).loc Cert.KernelKvIdeal.main_arg4) = m ((c.tc : Thread Cert.KernelKvIdeal.nD Cert.KernelKvIdeal.τ).loc Cert.KernelKvIdeal.main_arg4)
      ∧ r.2.mem ((c.tc : Thread Cert.KernelKvIdeal.nD Cert.KernelKvIdeal.τ).loc Cert.KernelKvIdeal.main_arg5) = m ((c.tc : Thread Cert.KernelKvIdeal.nD Cert.KernelKvIdeal.τ).loc Cert.KernelKvIdeal.main_arg5))
      ∧ r.2.sem = fun _ => 0)

def quiescent_ReferenceKvIdeal [hReferenceKvIdeal : Cert.ReferenceKvIdeal.Facts] : Prop :=
  ∀ (m : (ℓ : Loc Cert.ReferenceKvIdeal.nD Cert.ReferenceKvIdeal.τ Cert.ReferenceKvIdeal.sig) → Buf (Elt Ideal) ℓ) (g : Dev Cert.ReferenceKvIdeal.nD → PrngReg), Pre_ReferenceKvIdeal m →
    θ_run (Cert.ReferenceKvIdeal.defs (F := Ideal)) (onTc (τ := Cert.ReferenceKvIdeal.τ) (Cert.ReferenceKvIdeal.main (F := Ideal))) ⟨m, fun _ => 0, g⟩ (fun r => (∀ c : Dev Cert.ReferenceKvIdeal.nD,
      r.2.mem ((c.tc : Thread Cert.ReferenceKvIdeal.nD Cert.ReferenceKvIdeal.τ).loc Cert.ReferenceKvIdeal.main_arg0) = m ((c.tc : Thread Cert.ReferenceKvIdeal.nD Cert.ReferenceKvIdeal.τ).loc Cert.ReferenceKvIdeal.main_arg0)
      ∧ r.2.mem ((c.tc : Thread Cert.ReferenceKvIdeal.nD Cert.ReferenceKvIdeal.τ).loc Cert.ReferenceKvIdeal.main_arg1) = m ((c.tc : Thread Cert.ReferenceKvIdeal.nD Cert.ReferenceKvIdeal.τ).loc Cert.ReferenceKvIdeal.main_arg1)
      ∧ r.2.mem ((c.tc : Thread Cert.ReferenceKvIdeal.nD Cert.ReferenceKvIdeal.τ).loc Cert.ReferenceKvIdeal.main_arg2) = m ((c.tc : Thread Cert.ReferenceKvIdeal.nD Cert.ReferenceKvIdeal.τ).loc Cert.ReferenceKvIdeal.main_arg2)
      ∧ r.2.mem ((c.tc : Thread Cert.ReferenceKvIdeal.nD Cert.ReferenceKvIdeal.τ).loc Cert.ReferenceKvIdeal.main_arg3) = m ((c.tc : Thread Cert.ReferenceKvIdeal.nD Cert.ReferenceKvIdeal.τ).loc Cert.ReferenceKvIdeal.main_arg3)
      ∧ r.2.mem ((c.tc : Thread Cert.ReferenceKvIdeal.nD Cert.ReferenceKvIdeal.τ).loc Cert.ReferenceKvIdeal.main_arg4) = m ((c.tc : Thread Cert.ReferenceKvIdeal.nD Cert.ReferenceKvIdeal.τ).loc Cert.ReferenceKvIdeal.main_arg4)
      ∧ r.2.mem ((c.tc : Thread Cert.ReferenceKvIdeal.nD Cert.ReferenceKvIdeal.τ).loc Cert.ReferenceKvIdeal.main_arg5) = m ((c.tc : Thread Cert.ReferenceKvIdeal.nD Cert.ReferenceKvIdeal.τ).loc Cert.ReferenceKvIdeal.main_arg5))
      ∧ r.2.sem = fun _ => 0)

def quiescent_KernelMod [hKernelMod : Cert.KernelMod.Facts] : Prop :=
  ∀ (m : (ℓ : Loc Cert.KernelMod.nD Cert.KernelMod.τ Cert.KernelMod.sig) → Buf (Elt Bits) ℓ) (g : Dev Cert.KernelMod.nD → PrngReg), Pre_KernelMod m →
    θ_run (Cert.KernelMod.defs (F := Bits)) (onTc (τ := Cert.KernelMod.τ) (Cert.KernelMod.main (F := Bits))) ⟨m, fun _ => 0, g⟩ (fun r => (∀ c : Dev Cert.KernelMod.nD,
      r.2.mem ((c.tc : Thread Cert.KernelMod.nD Cert.KernelMod.τ).loc Cert.KernelMod.main_arg0) = m ((c.tc : Thread Cert.KernelMod.nD Cert.KernelMod.τ).loc Cert.KernelMod.main_arg0)
      ∧ r.2.mem ((c.tc : Thread Cert.KernelMod.nD Cert.KernelMod.τ).loc Cert.KernelMod.main_arg1) = m ((c.tc : Thread Cert.KernelMod.nD Cert.KernelMod.τ).loc Cert.KernelMod.main_arg1)
      ∧ r.2.mem ((c.tc : Thread Cert.KernelMod.nD Cert.KernelMod.τ).loc Cert.KernelMod.main_arg2) = m ((c.tc : Thread Cert.KernelMod.nD Cert.KernelMod.τ).loc Cert.KernelMod.main_arg2)
      ∧ r.2.mem ((c.tc : Thread Cert.KernelMod.nD Cert.KernelMod.τ).loc Cert.KernelMod.main_arg3) = m ((c.tc : Thread Cert.KernelMod.nD Cert.KernelMod.τ).loc Cert.KernelMod.main_arg3))
      ∧ r.2.sem = fun _ => 0)

def quiescent_KernelModIdeal [hKernelModIdeal : Cert.KernelModIdeal.Facts] : Prop :=
  ∀ (m : (ℓ : Loc Cert.KernelModIdeal.nD Cert.KernelModIdeal.τ Cert.KernelModIdeal.sig) → Buf (Elt Ideal) ℓ) (g : Dev Cert.KernelModIdeal.nD → PrngReg), Pre_KernelModIdeal m →
    θ_run (Cert.KernelModIdeal.defs (F := Ideal)) (onTc (τ := Cert.KernelModIdeal.τ) (Cert.KernelModIdeal.main (F := Ideal))) ⟨m, fun _ => 0, g⟩ (fun r => (∀ c : Dev Cert.KernelModIdeal.nD,
      r.2.mem ((c.tc : Thread Cert.KernelModIdeal.nD Cert.KernelModIdeal.τ).loc Cert.KernelModIdeal.main_arg0) = m ((c.tc : Thread Cert.KernelModIdeal.nD Cert.KernelModIdeal.τ).loc Cert.KernelModIdeal.main_arg0)
      ∧ r.2.mem ((c.tc : Thread Cert.KernelModIdeal.nD Cert.KernelModIdeal.τ).loc Cert.KernelModIdeal.main_arg1) = m ((c.tc : Thread Cert.KernelModIdeal.nD Cert.KernelModIdeal.τ).loc Cert.KernelModIdeal.main_arg1)
      ∧ r.2.mem ((c.tc : Thread Cert.KernelModIdeal.nD Cert.KernelModIdeal.τ).loc Cert.KernelModIdeal.main_arg2) = m ((c.tc : Thread Cert.KernelModIdeal.nD Cert.KernelModIdeal.τ).loc Cert.KernelModIdeal.main_arg2)
      ∧ r.2.mem ((c.tc : Thread Cert.KernelModIdeal.nD Cert.KernelModIdeal.τ).loc Cert.KernelModIdeal.main_arg3) = m ((c.tc : Thread Cert.KernelModIdeal.nD Cert.KernelModIdeal.τ).loc Cert.KernelModIdeal.main_arg3))
      ∧ r.2.sem = fun _ => 0)

def quiescent_ReferenceModIdeal [hReferenceModIdeal : Cert.ReferenceModIdeal.Facts] : Prop :=
  ∀ (m : (ℓ : Loc Cert.ReferenceModIdeal.nD Cert.ReferenceModIdeal.τ Cert.ReferenceModIdeal.sig) → Buf (Elt Ideal) ℓ) (g : Dev Cert.ReferenceModIdeal.nD → PrngReg), Pre_ReferenceModIdeal m →
    θ_run (Cert.ReferenceModIdeal.defs (F := Ideal)) (onTc (τ := Cert.ReferenceModIdeal.τ) (Cert.ReferenceModIdeal.main (F := Ideal))) ⟨m, fun _ => 0, g⟩ (fun r => (∀ c : Dev Cert.ReferenceModIdeal.nD,
      r.2.mem ((c.tc : Thread Cert.ReferenceModIdeal.nD Cert.ReferenceModIdeal.τ).loc Cert.ReferenceModIdeal.main_arg0) = m ((c.tc : Thread Cert.ReferenceModIdeal.nD Cert.ReferenceModIdeal.τ).loc Cert.ReferenceModIdeal.main_arg0)
      ∧ r.2.mem ((c.tc : Thread Cert.ReferenceModIdeal.nD Cert.ReferenceModIdeal.τ).loc Cert.ReferenceModIdeal.main_arg1) = m ((c.tc : Thread Cert.ReferenceModIdeal.nD Cert.ReferenceModIdeal.τ).loc Cert.ReferenceModIdeal.main_arg1)
      ∧ r.2.mem ((c.tc : Thread Cert.ReferenceModIdeal.nD Cert.ReferenceModIdeal.τ).loc Cert.ReferenceModIdeal.main_arg2) = m ((c.tc : Thread Cert.ReferenceModIdeal.nD Cert.ReferenceModIdeal.τ).loc Cert.ReferenceModIdeal.main_arg2)
      ∧ r.2.mem ((c.tc : Thread Cert.ReferenceModIdeal.nD Cert.ReferenceModIdeal.τ).loc Cert.ReferenceModIdeal.main_arg3) = m ((c.tc : Thread Cert.ReferenceModIdeal.nD Cert.ReferenceModIdeal.τ).loc Cert.ReferenceModIdeal.main_arg3))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2)
      ∧ r.2.mem ((c.tc : Thread Cert.KernelOut.nD Cert.KernelOut.τ).loc Cert.KernelOut.main_arg3) = m ((c.tc : Thread Cert.KernelOut.nD Cert.KernelOut.τ).loc Cert.KernelOut.main_arg3)
      ∧ r.2.mem ((c.tc : Thread Cert.KernelOut.nD Cert.KernelOut.τ).loc Cert.KernelOut.main_arg4) = m ((c.tc : Thread Cert.KernelOut.nD Cert.KernelOut.τ).loc Cert.KernelOut.main_arg4)
      ∧ r.2.mem ((c.tc : Thread Cert.KernelOut.nD Cert.KernelOut.τ).loc Cert.KernelOut.main_arg5) = m ((c.tc : Thread Cert.KernelOut.nD Cert.KernelOut.τ).loc Cert.KernelOut.main_arg5)
      ∧ r.2.mem ((c.tc : Thread Cert.KernelOut.nD Cert.KernelOut.τ).loc Cert.KernelOut.main_arg6) = m ((c.tc : Thread Cert.KernelOut.nD Cert.KernelOut.τ).loc Cert.KernelOut.main_arg6))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
      ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
      ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4)
      ∧ r.2.mem ((c.tc : Thread Cert.KernelOutIdeal.nD Cert.KernelOutIdeal.τ).loc Cert.KernelOutIdeal.main_arg5) = m ((c.tc : Thread Cert.KernelOutIdeal.nD Cert.KernelOutIdeal.τ).loc Cert.KernelOutIdeal.main_arg5)
      ∧ r.2.mem ((c.tc : Thread Cert.KernelOutIdeal.nD Cert.KernelOutIdeal.τ).loc Cert.KernelOutIdeal.main_arg6) = m ((c.tc : Thread Cert.KernelOutIdeal.nD Cert.KernelOutIdeal.τ).loc Cert.KernelOutIdeal.main_arg6))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2)
      ∧ r.2.mem ((c.tc : Thread Cert.ReferenceOutIdeal.nD Cert.ReferenceOutIdeal.τ).loc Cert.ReferenceOutIdeal.main_arg3) = m ((c.tc : Thread Cert.ReferenceOutIdeal.nD Cert.ReferenceOutIdeal.τ).loc Cert.ReferenceOutIdeal.main_arg3)
      ∧ r.2.mem ((c.tc : Thread Cert.ReferenceOutIdeal.nD Cert.ReferenceOutIdeal.τ).loc Cert.ReferenceOutIdeal.main_arg4) = m ((c.tc : Thread Cert.ReferenceOutIdeal.nD Cert.ReferenceOutIdeal.τ).loc Cert.ReferenceOutIdeal.main_arg4)
      ∧ r.2.mem ((c.tc : Thread Cert.ReferenceOutIdeal.nD Cert.ReferenceOutIdeal.τ).loc Cert.ReferenceOutIdeal.main_arg5) = m ((c.tc : Thread Cert.ReferenceOutIdeal.nD Cert.ReferenceOutIdeal.τ).loc Cert.ReferenceOutIdeal.main_arg5)
      ∧ r.2.mem ((c.tc : Thread Cert.ReferenceOutIdeal.nD Cert.ReferenceOutIdeal.τ).loc Cert.ReferenceOutIdeal.main_arg6) = m ((c.tc : Thread Cert.ReferenceOutIdeal.nD Cert.ReferenceOutIdeal.τ).loc Cert.ReferenceOutIdeal.main_arg6))
      ∧ r.2.sem = fun _ => 0)

def quiescent_KernelNorm [hKernelNorm : Cert.KernelNorm.Facts] : Prop :=
  ∀ (m : (ℓ : Loc Cert.KernelNorm.nD Cert.KernelNorm.τ Cert.KernelNorm.sig) → Buf (Elt Bits) ℓ) (g : Dev Cert.KernelNorm.nD → PrngReg), Pre_KernelNorm m →
    θ_run (Cert.KernelNorm.defs (F := Bits)) (onTc (τ := Cert.KernelNorm.τ) (Cert.KernelNorm.main (F := Bits))) ⟨m, fun _ => 0, g⟩ (fun r => (∀ c : Dev Cert.KernelNorm.nD,
      r.2.mem ((c.tc : Thread Cert.KernelNorm.nD Cert.KernelNorm.τ).loc Cert.KernelNorm.main_arg0) = m ((c.tc : Thread Cert.KernelNorm.nD Cert.KernelNorm.τ).loc Cert.KernelNorm.main_arg0)
      ∧ r.2.mem ((c.tc : Thread Cert.KernelNorm.nD Cert.KernelNorm.τ).loc Cert.KernelNorm.main_arg1) = m ((c.tc : Thread Cert.KernelNorm.nD Cert.KernelNorm.τ).loc Cert.KernelNorm.main_arg1))
      ∧ r.2.sem = fun _ => 0)

def quiescent_KernelNormIdeal [hKernelNormIdeal : Cert.KernelNormIdeal.Facts] : Prop :=
  ∀ (m : (ℓ : Loc Cert.KernelNormIdeal.nD Cert.KernelNormIdeal.τ Cert.KernelNormIdeal.sig) → Buf (Elt Ideal) ℓ) (g : Dev Cert.KernelNormIdeal.nD → PrngReg), Pre_KernelNormIdeal m →
    θ_run (Cert.KernelNormIdeal.defs (F := Ideal)) (onTc (τ := Cert.KernelNormIdeal.τ) (Cert.KernelNormIdeal.main (F := Ideal))) ⟨m, fun _ => 0, g⟩ (fun r => (∀ c : Dev Cert.KernelNormIdeal.nD,
      r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
      ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1))
      ∧ r.2.sem = fun _ => 0)

def quiescent_ReferenceNormIdeal [hReferenceNormIdeal : Cert.ReferenceNormIdeal.Facts] : Prop :=
  ∀ (m : (ℓ : Loc Cert.ReferenceNormIdeal.nD Cert.ReferenceNormIdeal.τ Cert.ReferenceNormIdeal.sig) → Buf (Elt Ideal) ℓ) (g : Dev Cert.ReferenceNormIdeal.nD → PrngReg), Pre_ReferenceNormIdeal m →
    θ_run (Cert.ReferenceNormIdeal.defs (F := Ideal)) (onTc (τ := Cert.ReferenceNormIdeal.τ) (Cert.ReferenceNormIdeal.main (F := Ideal))) ⟨m, fun _ => 0, g⟩ (fun r => (∀ c : Dev Cert.ReferenceNormIdeal.nD,
      r.2.mem ((c.tc : Thread Cert.ReferenceNormIdeal.nD Cert.ReferenceNormIdeal.τ).loc Cert.ReferenceNormIdeal.main_arg0) = m ((c.tc : Thread Cert.ReferenceNormIdeal.nD Cert.ReferenceNormIdeal.τ).loc Cert.ReferenceNormIdeal.main_arg0)
      ∧ r.2.mem ((c.tc : Thread Cert.ReferenceNormIdeal.nD Cert.ReferenceNormIdeal.τ).loc Cert.ReferenceNormIdeal.main_arg1) = m ((c.tc : Thread Cert.ReferenceNormIdeal.nD Cert.ReferenceNormIdeal.τ).loc Cert.ReferenceNormIdeal.main_arg1))
      ∧ r.2.sem = fun _ => 0)

def quiescent_KernelOutRnn [hKernelOutRnn : Cert.KernelOutRnn.Facts] : Prop :=
  ∀ (m : (ℓ : Loc Cert.KernelOutRnn.nD Cert.KernelOutRnn.τ Cert.KernelOutRnn.sig) → Buf (Elt Bits) ℓ) (g : Dev Cert.KernelOutRnn.nD → PrngReg), Pre_KernelOutRnn m →
    θ_run (Cert.KernelOutRnn.defs (F := Bits)) (onTc (τ := Cert.KernelOutRnn.τ) (Cert.KernelOutRnn.main (F := Bits))) ⟨m, fun _ => 0, g⟩ (fun r => (∀ c : Dev Cert.KernelOutRnn.nD,
      r.2.mem ((c.tc : Thread Cert.KernelOutRnn.nD Cert.KernelOutRnn.τ).loc Cert.KernelOutRnn.main_arg0) = m ((c.tc : Thread Cert.KernelOutRnn.nD Cert.KernelOutRnn.τ).loc Cert.KernelOutRnn.main_arg0)
      ∧ r.2.mem ((c.tc : Thread Cert.KernelOutRnn.nD Cert.KernelOutRnn.τ).loc Cert.KernelOutRnn.main_arg1) = m ((c.tc : Thread Cert.KernelOutRnn.nD Cert.KernelOutRnn.τ).loc Cert.KernelOutRnn.main_arg1)
      ∧ r.2.mem ((c.tc : Thread Cert.KernelOutRnn.nD Cert.KernelOutRnn.τ).loc Cert.KernelOutRnn.main_arg2) = m ((c.tc : Thread Cert.KernelOutRnn.nD Cert.KernelOutRnn.τ).loc Cert.KernelOutRnn.main_arg2)
      ∧ r.2.mem ((c.tc : Thread Cert.KernelOutRnn.nD Cert.KernelOutRnn.τ).loc Cert.KernelOutRnn.main_arg3) = m ((c.tc : Thread Cert.KernelOutRnn.nD Cert.KernelOutRnn.τ).loc Cert.KernelOutRnn.main_arg3)
      ∧ r.2.mem ((c.tc : Thread Cert.KernelOutRnn.nD Cert.KernelOutRnn.τ).loc Cert.KernelOutRnn.main_arg4) = m ((c.tc : Thread Cert.KernelOutRnn.nD Cert.KernelOutRnn.τ).loc Cert.KernelOutRnn.main_arg4)
      ∧ r.2.mem ((c.tc : Thread Cert.KernelOutRnn.nD Cert.KernelOutRnn.τ).loc Cert.KernelOutRnn.main_arg5) = m ((c.tc : Thread Cert.KernelOutRnn.nD Cert.KernelOutRnn.τ).loc Cert.KernelOutRnn.main_arg5)
      ∧ r.2.mem ((c.tc : Thread Cert.KernelOutRnn.nD Cert.KernelOutRnn.τ).loc Cert.KernelOutRnn.main_arg6) = m ((c.tc : Thread Cert.KernelOutRnn.nD Cert.KernelOutRnn.τ).loc Cert.KernelOutRnn.main_arg6))
      ∧ r.2.sem = fun _ => 0)

def quiescent_KernelOutRnnIdeal [hKernelOutRnnIdeal : Cert.KernelOutRnnIdeal.Facts] : Prop :=
  ∀ (m : (ℓ : Loc Cert.KernelOutRnnIdeal.nD Cert.KernelOutRnnIdeal.τ Cert.KernelOutRnnIdeal.sig) → Buf (Elt Ideal) ℓ) (g : Dev Cert.KernelOutRnnIdeal.nD → PrngReg), Pre_KernelOutRnnIdeal m →
    θ_run (Cert.KernelOutRnnIdeal.defs (F := Ideal)) (onTc (τ := Cert.KernelOutRnnIdeal.τ) (Cert.KernelOutRnnIdeal.main (F := Ideal))) ⟨m, fun _ => 0, g⟩ (fun r => (∀ c : Dev Cert.KernelOutRnnIdeal.nD,
      r.2.mem ((c.tc : Thread Cert.KernelOutRnnIdeal.nD Cert.KernelOutRnnIdeal.τ).loc Cert.KernelOutRnnIdeal.main_arg0) = m ((c.tc : Thread Cert.KernelOutRnnIdeal.nD Cert.KernelOutRnnIdeal.τ).loc Cert.KernelOutRnnIdeal.main_arg0)
      ∧ r.2.mem ((c.tc : Thread Cert.KernelOutRnnIdeal.nD Cert.KernelOutRnnIdeal.τ).loc Cert.KernelOutRnnIdeal.main_arg1) = m ((c.tc : Thread Cert.KernelOutRnnIdeal.nD Cert.KernelOutRnnIdeal.τ).loc Cert.KernelOutRnnIdeal.main_arg1)
      ∧ r.2.mem ((c.tc : Thread Cert.KernelOutRnnIdeal.nD Cert.KernelOutRnnIdeal.τ).loc Cert.KernelOutRnnIdeal.main_arg2) = m ((c.tc : Thread Cert.KernelOutRnnIdeal.nD Cert.KernelOutRnnIdeal.τ).loc Cert.KernelOutRnnIdeal.main_arg2)
      ∧ r.2.mem ((c.tc : Thread Cert.KernelOutRnnIdeal.nD Cert.KernelOutRnnIdeal.τ).loc Cert.KernelOutRnnIdeal.main_arg3) = m ((c.tc : Thread Cert.KernelOutRnnIdeal.nD Cert.KernelOutRnnIdeal.τ).loc Cert.KernelOutRnnIdeal.main_arg3)
      ∧ r.2.mem ((c.tc : Thread Cert.KernelOutRnnIdeal.nD Cert.KernelOutRnnIdeal.τ).loc Cert.KernelOutRnnIdeal.main_arg4) = m ((c.tc : Thread Cert.KernelOutRnnIdeal.nD Cert.KernelOutRnnIdeal.τ).loc Cert.KernelOutRnnIdeal.main_arg4)
      ∧ r.2.mem ((c.tc : Thread Cert.KernelOutRnnIdeal.nD Cert.KernelOutRnnIdeal.τ).loc Cert.KernelOutRnnIdeal.main_arg5) = m ((c.tc : Thread Cert.KernelOutRnnIdeal.nD Cert.KernelOutRnnIdeal.τ).loc Cert.KernelOutRnnIdeal.main_arg5)
      ∧ r.2.mem ((c.tc : Thread Cert.KernelOutRnnIdeal.nD Cert.KernelOutRnnIdeal.τ).loc Cert.KernelOutRnnIdeal.main_arg6) = m ((c.tc : Thread Cert.KernelOutRnnIdeal.nD Cert.KernelOutRnnIdeal.τ).loc Cert.KernelOutRnnIdeal.main_arg6))
      ∧ r.2.sem = fun _ => 0)

def quiescent_ReferenceOutRnnIdeal [hReferenceOutRnnIdeal : Cert.ReferenceOutRnnIdeal.Facts] : Prop :=
  ∀ (m : (ℓ : Loc Cert.ReferenceOutRnnIdeal.nD Cert.ReferenceOutRnnIdeal.τ Cert.ReferenceOutRnnIdeal.sig) → Buf (Elt Ideal) ℓ) (g : Dev Cert.ReferenceOutRnnIdeal.nD → PrngReg), Pre_ReferenceOutRnnIdeal m →
    θ_run (Cert.ReferenceOutRnnIdeal.defs (F := Ideal)) (onTc (τ := Cert.ReferenceOutRnnIdeal.τ) (Cert.ReferenceOutRnnIdeal.main (F := Ideal))) ⟨m, fun _ => 0, g⟩ (fun r => (∀ c : Dev Cert.ReferenceOutRnnIdeal.nD,
      r.2.mem ((c.tc : Thread Cert.ReferenceOutRnnIdeal.nD Cert.ReferenceOutRnnIdeal.τ).loc Cert.ReferenceOutRnnIdeal.main_arg0) = m ((c.tc : Thread Cert.ReferenceOutRnnIdeal.nD Cert.ReferenceOutRnnIdeal.τ).loc Cert.ReferenceOutRnnIdeal.main_arg0)
      ∧ r.2.mem ((c.tc : Thread Cert.ReferenceOutRnnIdeal.nD Cert.ReferenceOutRnnIdeal.τ).loc Cert.ReferenceOutRnnIdeal.main_arg1) = m ((c.tc : Thread Cert.ReferenceOutRnnIdeal.nD Cert.ReferenceOutRnnIdeal.τ).loc Cert.ReferenceOutRnnIdeal.main_arg1)
      ∧ r.2.mem ((c.tc : Thread Cert.ReferenceOutRnnIdeal.nD Cert.ReferenceOutRnnIdeal.τ).loc Cert.ReferenceOutRnnIdeal.main_arg2) = m ((c.tc : Thread Cert.ReferenceOutRnnIdeal.nD Cert.ReferenceOutRnnIdeal.τ).loc Cert.ReferenceOutRnnIdeal.main_arg2)
      ∧ r.2.mem ((c.tc : Thread Cert.ReferenceOutRnnIdeal.nD Cert.ReferenceOutRnnIdeal.τ).loc Cert.ReferenceOutRnnIdeal.main_arg3) = m ((c.tc : Thread Cert.ReferenceOutRnnIdeal.nD Cert.ReferenceOutRnnIdeal.τ).loc Cert.ReferenceOutRnnIdeal.main_arg3)
      ∧ r.2.mem ((c.tc : Thread Cert.ReferenceOutRnnIdeal.nD Cert.ReferenceOutRnnIdeal.τ).loc Cert.ReferenceOutRnnIdeal.main_arg4) = m ((c.tc : Thread Cert.ReferenceOutRnnIdeal.nD Cert.ReferenceOutRnnIdeal.τ).loc Cert.ReferenceOutRnnIdeal.main_arg4)
      ∧ r.2.mem ((c.tc : Thread Cert.ReferenceOutRnnIdeal.nD Cert.ReferenceOutRnnIdeal.τ).loc Cert.ReferenceOutRnnIdeal.main_arg5) = m ((c.tc : Thread Cert.ReferenceOutRnnIdeal.nD Cert.ReferenceOutRnnIdeal.τ).loc Cert.ReferenceOutRnnIdeal.main_arg5)
      ∧ r.2.mem ((c.tc : Thread Cert.ReferenceOutRnnIdeal.nD Cert.ReferenceOutRnnIdeal.τ).loc Cert.ReferenceOutRnnIdeal.main_arg6) = m ((c.tc : Thread Cert.ReferenceOutRnnIdeal.nD Cert.ReferenceOutRnnIdeal.τ).loc Cert.ReferenceOutRnnIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v95)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v95) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_KernelKv_KernelKvIdeal : Prop :=
  True

def algebraic_KernelKvIdeal_ReferenceKvIdeal [hKernelKvIdeal : Cert.KernelKvIdeal.Facts] [hReferenceKvIdeal : Cert.ReferenceKvIdeal.Facts] : Prop :=
  ∀ (m : (ℓ : Loc Cert.KernelKvIdeal.nD Cert.KernelKvIdeal.τ Cert.KernelKvIdeal.sig) → Buf (Elt Ideal) ℓ) (g : Dev Cert.KernelKvIdeal.nD → PrngReg)
    (m' : (ℓ : Loc Cert.ReferenceKvIdeal.nD Cert.ReferenceKvIdeal.τ Cert.ReferenceKvIdeal.sig) → Buf (Elt Ideal) ℓ) (g' : Dev Cert.ReferenceKvIdeal.nD → PrngReg), Pre_KernelKvIdeal m →
    (∀ c : Dev Cert.KernelKvIdeal.nD,
      m' ((c.tc : Thread Cert.ReferenceKvIdeal.nD Cert.ReferenceKvIdeal.τ).loc Cert.ReferenceKvIdeal.main_arg0) = m ((c.tc : Thread Cert.KernelKvIdeal.nD Cert.KernelKvIdeal.τ).loc Cert.KernelKvIdeal.main_arg0)
      ∧ m' ((c.tc : Thread Cert.ReferenceKvIdeal.nD Cert.ReferenceKvIdeal.τ).loc Cert.ReferenceKvIdeal.main_arg1) = m ((c.tc : Thread Cert.KernelKvIdeal.nD Cert.KernelKvIdeal.τ).loc Cert.KernelKvIdeal.main_arg1)
      ∧ m' ((c.tc : Thread Cert.ReferenceKvIdeal.nD Cert.ReferenceKvIdeal.τ).loc Cert.ReferenceKvIdeal.main_arg2) = m ((c.tc : Thread Cert.KernelKvIdeal.nD Cert.KernelKvIdeal.τ).loc Cert.KernelKvIdeal.main_arg2)
      ∧ m' ((c.tc : Thread Cert.ReferenceKvIdeal.nD Cert.ReferenceKvIdeal.τ).loc Cert.ReferenceKvIdeal.main_arg3) = m ((c.tc : Thread Cert.KernelKvIdeal.nD Cert.KernelKvIdeal.τ).loc Cert.KernelKvIdeal.main_arg3)
      ∧ m' ((c.tc : Thread Cert.ReferenceKvIdeal.nD Cert.ReferenceKvIdeal.τ).loc Cert.ReferenceKvIdeal.main_arg4) = m ((c.tc : Thread Cert.KernelKvIdeal.nD Cert.KernelKvIdeal.τ).loc Cert.KernelKvIdeal.main_arg4)
      ∧ m' ((c.tc : Thread Cert.ReferenceKvIdeal.nD Cert.ReferenceKvIdeal.τ).loc Cert.ReferenceKvIdeal.main_arg5) = m ((c.tc : Thread Cert.KernelKvIdeal.nD Cert.KernelKvIdeal.τ).loc Cert.KernelKvIdeal.main_arg5)) →
    ∃ (v0 : (c : Dev Cert.KernelKvIdeal.nD) → Buf (Elt Ideal) ((c.tc : Thread Cert.KernelKvIdeal.nD Cert.KernelKvIdeal.τ).loc Cert.KernelKvIdeal.main_v20)) (v1 : (c : Dev Cert.KernelKvIdeal.nD) → Buf (Elt Ideal) ((c.tc : Thread Cert.KernelKvIdeal.nD Cert.KernelKvIdeal.τ).loc Cert.KernelKvIdeal.main_v21)) (v2 : (c : Dev Cert.KernelKvIdeal.nD) → Buf (Elt Ideal) ((c.tc : Thread Cert.KernelKvIdeal.nD Cert.KernelKvIdeal.τ).loc Cert.KernelKvIdeal.main_v15)),
      θ_run (Cert.KernelKvIdeal.defs (F := Ideal)) (onTc (τ := Cert.KernelKvIdeal.τ) (Cert.KernelKvIdeal.main (F := Ideal))) ⟨m, fun _ => 0, g⟩ (fun r => ∀ c : Dev Cert.KernelKvIdeal.nD,
          r.2.mem ((c.tc : Thread Cert.KernelKvIdeal.nD Cert.KernelKvIdeal.τ).loc Cert.KernelKvIdeal.main_v20) = v0 c
          ∧ r.2.mem ((c.tc : Thread Cert.KernelKvIdeal.nD Cert.KernelKvIdeal.τ).loc Cert.KernelKvIdeal.main_v21) = v1 c
          ∧ r.2.mem ((c.tc : Thread Cert.KernelKvIdeal.nD Cert.KernelKvIdeal.τ).loc Cert.KernelKvIdeal.main_v15) = v2 c
          ∧ r.2.mem ((c.tc : Thread Cert.KernelKvIdeal.nD Cert.KernelKvIdeal.τ).loc Cert.KernelKvIdeal.main_arg0) = m ((c.tc : Thread Cert.KernelKvIdeal.nD Cert.KernelKvIdeal.τ).loc Cert.KernelKvIdeal.main_arg0)
          ∧ r.2.mem ((c.tc : Thread Cert.KernelKvIdeal.nD Cert.KernelKvIdeal.τ).loc Cert.KernelKvIdeal.main_arg1) = m ((c.tc : Thread Cert.KernelKvIdeal.nD Cert.KernelKvIdeal.τ).loc Cert.KernelKvIdeal.main_arg1)
          ∧ r.2.mem ((c.tc : Thread Cert.KernelKvIdeal.nD Cert.KernelKvIdeal.τ).loc Cert.KernelKvIdeal.main_arg2) = m ((c.tc : Thread Cert.KernelKvIdeal.nD Cert.KernelKvIdeal.τ).loc Cert.KernelKvIdeal.main_arg2)
          ∧ r.2.mem ((c.tc : Thread Cert.KernelKvIdeal.nD Cert.KernelKvIdeal.τ).loc Cert.KernelKvIdeal.main_arg3) = m ((c.tc : Thread Cert.KernelKvIdeal.nD Cert.KernelKvIdeal.τ).loc Cert.KernelKvIdeal.main_arg3)
          ∧ r.2.mem ((c.tc : Thread Cert.KernelKvIdeal.nD Cert.KernelKvIdeal.τ).loc Cert.KernelKvIdeal.main_arg4) = m ((c.tc : Thread Cert.KernelKvIdeal.nD Cert.KernelKvIdeal.τ).loc Cert.KernelKvIdeal.main_arg4)
          ∧ r.2.mem ((c.tc : Thread Cert.KernelKvIdeal.nD Cert.KernelKvIdeal.τ).loc Cert.KernelKvIdeal.main_arg5) = m ((c.tc : Thread Cert.KernelKvIdeal.nD Cert.KernelKvIdeal.τ).loc Cert.KernelKvIdeal.main_arg5))
      ∧ θ_run (Cert.ReferenceKvIdeal.defs (F := Ideal)) (onTc (τ := Cert.ReferenceKvIdeal.τ) (Cert.ReferenceKvIdeal.main (F := Ideal))) ⟨m', fun _ => 0, g'⟩ (fun r => ∀ c : Dev Cert.ReferenceKvIdeal.nD,
          r.2.mem ((c.tc : Thread Cert.ReferenceKvIdeal.nD Cert.ReferenceKvIdeal.τ).loc Cert.ReferenceKvIdeal.main_v40) = v0 c
          ∧ r.2.mem ((c.tc : Thread Cert.ReferenceKvIdeal.nD Cert.ReferenceKvIdeal.τ).loc Cert.ReferenceKvIdeal.main_v41) = v1 c
          ∧ r.2.mem ((c.tc : Thread Cert.ReferenceKvIdeal.nD Cert.ReferenceKvIdeal.τ).loc Cert.ReferenceKvIdeal.main_v80) = v2 c
          ∧ r.2.mem ((c.tc : Thread Cert.ReferenceKvIdeal.nD Cert.ReferenceKvIdeal.τ).loc Cert.ReferenceKvIdeal.main_arg0) = m' ((c.tc : Thread Cert.ReferenceKvIdeal.nD Cert.ReferenceKvIdeal.τ).loc Cert.ReferenceKvIdeal.main_arg0)
          ∧ r.2.mem ((c.tc : Thread Cert.ReferenceKvIdeal.nD Cert.ReferenceKvIdeal.τ).loc Cert.ReferenceKvIdeal.main_arg1) = m' ((c.tc : Thread Cert.ReferenceKvIdeal.nD Cert.ReferenceKvIdeal.τ).loc Cert.ReferenceKvIdeal.main_arg1)
          ∧ r.2.mem ((c.tc : Thread Cert.ReferenceKvIdeal.nD Cert.ReferenceKvIdeal.τ).loc Cert.ReferenceKvIdeal.main_arg2) = m' ((c.tc : Thread Cert.ReferenceKvIdeal.nD Cert.ReferenceKvIdeal.τ).loc Cert.ReferenceKvIdeal.main_arg2)
          ∧ r.2.mem ((c.tc : Thread Cert.ReferenceKvIdeal.nD Cert.ReferenceKvIdeal.τ).loc Cert.ReferenceKvIdeal.main_arg3) = m' ((c.tc : Thread Cert.ReferenceKvIdeal.nD Cert.ReferenceKvIdeal.τ).loc Cert.ReferenceKvIdeal.main_arg3)
          ∧ r.2.mem ((c.tc : Thread Cert.ReferenceKvIdeal.nD Cert.ReferenceKvIdeal.τ).loc Cert.ReferenceKvIdeal.main_arg4) = m' ((c.tc : Thread Cert.ReferenceKvIdeal.nD Cert.ReferenceKvIdeal.τ).loc Cert.ReferenceKvIdeal.main_arg4)
          ∧ r.2.mem ((c.tc : Thread Cert.ReferenceKvIdeal.nD Cert.ReferenceKvIdeal.τ).loc Cert.ReferenceKvIdeal.main_arg5) = m' ((c.tc : Thread Cert.ReferenceKvIdeal.nD Cert.ReferenceKvIdeal.τ).loc Cert.ReferenceKvIdeal.main_arg5))

def preserves_KernelMod_KernelModIdeal : Prop :=
  True

def algebraic_KernelModIdeal_ReferenceModIdeal [hKernelModIdeal : Cert.KernelModIdeal.Facts] [hReferenceModIdeal : Cert.ReferenceModIdeal.Facts] : Prop :=
  ∀ (m : (ℓ : Loc Cert.KernelModIdeal.nD Cert.KernelModIdeal.τ Cert.KernelModIdeal.sig) → Buf (Elt Ideal) ℓ) (g : Dev Cert.KernelModIdeal.nD → PrngReg)
    (m' : (ℓ : Loc Cert.ReferenceModIdeal.nD Cert.ReferenceModIdeal.τ Cert.ReferenceModIdeal.sig) → Buf (Elt Ideal) ℓ) (g' : Dev Cert.ReferenceModIdeal.nD → PrngReg), Pre_KernelModIdeal m →
    (∀ c : Dev Cert.KernelModIdeal.nD,
      m' ((c.tc : Thread Cert.ReferenceModIdeal.nD Cert.ReferenceModIdeal.τ).loc Cert.ReferenceModIdeal.main_arg0) = m ((c.tc : Thread Cert.KernelModIdeal.nD Cert.KernelModIdeal.τ).loc Cert.KernelModIdeal.main_arg0)
      ∧ m' ((c.tc : Thread Cert.ReferenceModIdeal.nD Cert.ReferenceModIdeal.τ).loc Cert.ReferenceModIdeal.main_arg1) = m ((c.tc : Thread Cert.KernelModIdeal.nD Cert.KernelModIdeal.τ).loc Cert.KernelModIdeal.main_arg1)
      ∧ m' ((c.tc : Thread Cert.ReferenceModIdeal.nD Cert.ReferenceModIdeal.τ).loc Cert.ReferenceModIdeal.main_arg2) = m ((c.tc : Thread Cert.KernelModIdeal.nD Cert.KernelModIdeal.τ).loc Cert.KernelModIdeal.main_arg2)
      ∧ m' ((c.tc : Thread Cert.ReferenceModIdeal.nD Cert.ReferenceModIdeal.τ).loc Cert.ReferenceModIdeal.main_arg3) = m ((c.tc : Thread Cert.KernelModIdeal.nD Cert.KernelModIdeal.τ).loc Cert.KernelModIdeal.main_arg3)) →
    ∃ (v0 : (c : Dev Cert.KernelModIdeal.nD) → Buf (Elt Ideal) ((c.tc : Thread Cert.KernelModIdeal.nD Cert.KernelModIdeal.τ).loc Cert.KernelModIdeal.main_v4)),
      θ_run (Cert.KernelModIdeal.defs (F := Ideal)) (onTc (τ := Cert.KernelModIdeal.τ) (Cert.KernelModIdeal.main (F := Ideal))) ⟨m, fun _ => 0, g⟩ (fun r => ∀ c : Dev Cert.KernelModIdeal.nD,
          r.2.mem ((c.tc : Thread Cert.KernelModIdeal.nD Cert.KernelModIdeal.τ).loc Cert.KernelModIdeal.main_v4) = v0 c
          ∧ r.2.mem ((c.tc : Thread Cert.KernelModIdeal.nD Cert.KernelModIdeal.τ).loc Cert.KernelModIdeal.main_arg0) = m ((c.tc : Thread Cert.KernelModIdeal.nD Cert.KernelModIdeal.τ).loc Cert.KernelModIdeal.main_arg0)
          ∧ r.2.mem ((c.tc : Thread Cert.KernelModIdeal.nD Cert.KernelModIdeal.τ).loc Cert.KernelModIdeal.main_arg1) = m ((c.tc : Thread Cert.KernelModIdeal.nD Cert.KernelModIdeal.τ).loc Cert.KernelModIdeal.main_arg1)
          ∧ r.2.mem ((c.tc : Thread Cert.KernelModIdeal.nD Cert.KernelModIdeal.τ).loc Cert.KernelModIdeal.main_arg2) = m ((c.tc : Thread Cert.KernelModIdeal.nD Cert.KernelModIdeal.τ).loc Cert.KernelModIdeal.main_arg2)
          ∧ r.2.mem ((c.tc : Thread Cert.KernelModIdeal.nD Cert.KernelModIdeal.τ).loc Cert.KernelModIdeal.main_arg3) = m ((c.tc : Thread Cert.KernelModIdeal.nD Cert.KernelModIdeal.τ).loc Cert.KernelModIdeal.main_arg3))
      ∧ θ_run (Cert.ReferenceModIdeal.defs (F := Ideal)) (onTc (τ := Cert.ReferenceModIdeal.τ) (Cert.ReferenceModIdeal.main (F := Ideal))) ⟨m', fun _ => 0, g'⟩ (fun r => ∀ c : Dev Cert.ReferenceModIdeal.nD,
          r.2.mem ((c.tc : Thread Cert.ReferenceModIdeal.nD Cert.ReferenceModIdeal.τ).loc Cert.ReferenceModIdeal.main_v22) = v0 c
          ∧ r.2.mem ((c.tc : Thread Cert.ReferenceModIdeal.nD Cert.ReferenceModIdeal.τ).loc Cert.ReferenceModIdeal.main_arg0) = m' ((c.tc : Thread Cert.ReferenceModIdeal.nD Cert.ReferenceModIdeal.τ).loc Cert.ReferenceModIdeal.main_arg0)
          ∧ r.2.mem ((c.tc : Thread Cert.ReferenceModIdeal.nD Cert.ReferenceModIdeal.τ).loc Cert.ReferenceModIdeal.main_arg1) = m' ((c.tc : Thread Cert.ReferenceModIdeal.nD Cert.ReferenceModIdeal.τ).loc Cert.ReferenceModIdeal.main_arg1)
          ∧ r.2.mem ((c.tc : Thread Cert.ReferenceModIdeal.nD Cert.ReferenceModIdeal.τ).loc Cert.ReferenceModIdeal.main_arg2) = m' ((c.tc : Thread Cert.ReferenceModIdeal.nD Cert.ReferenceModIdeal.τ).loc Cert.ReferenceModIdeal.main_arg2)
          ∧ r.2.mem ((c.tc : Thread Cert.ReferenceModIdeal.nD Cert.ReferenceModIdeal.τ).loc Cert.ReferenceModIdeal.main_arg3) = m' ((c.tc : Thread Cert.ReferenceModIdeal.nD Cert.ReferenceModIdeal.τ).loc Cert.ReferenceModIdeal.main_arg3))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)
      ∧ m' ((c.tc : Thread Cert.ReferenceOutIdeal.nD Cert.ReferenceOutIdeal.τ).loc Cert.ReferenceOutIdeal.main_arg2) = m ((c.tc : Thread Cert.KernelOutIdeal.nD Cert.KernelOutIdeal.τ).loc Cert.KernelOutIdeal.main_arg2)
      ∧ m' ((c.tc : Thread Cert.ReferenceOutIdeal.nD Cert.ReferenceOutIdeal.τ).loc Cert.ReferenceOutIdeal.main_arg3) = m ((c.tc : Thread Cert.KernelOutIdeal.nD Cert.KernelOutIdeal.τ).loc Cert.KernelOutIdeal.main_arg3)
      ∧ m' ((c.tc : Thread Cert.ReferenceOutIdeal.nD Cert.ReferenceOutIdeal.τ).loc Cert.ReferenceOutIdeal.main_arg4) = m ((c.tc : Thread Cert.KernelOutIdeal.nD Cert.KernelOutIdeal.τ).loc Cert.KernelOutIdeal.main_arg4)
      ∧ m' ((c.tc : Thread Cert.ReferenceOutIdeal.nD Cert.ReferenceOutIdeal.τ).loc Cert.ReferenceOutIdeal.main_arg5) = m ((c.tc : Thread Cert.KernelOutIdeal.nD Cert.KernelOutIdeal.τ).loc Cert.KernelOutIdeal.main_arg5)
      ∧ m' ((c.tc : Thread Cert.ReferenceOutIdeal.nD Cert.ReferenceOutIdeal.τ).loc Cert.ReferenceOutIdeal.main_arg6) = m ((c.tc : Thread Cert.KernelOutIdeal.nD Cert.KernelOutIdeal.τ).loc Cert.KernelOutIdeal.main_arg6)) →
    ∃ (v0 : (c : Dev Cert.KernelOutIdeal.nD) → Buf (Elt Ideal) ((c.tc : Thread Cert.KernelOutIdeal.nD Cert.KernelOutIdeal.τ).loc Cert.KernelOutIdeal.main_v10)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v10) = v0 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
          ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
          ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4)
          ∧ r.2.mem ((c.tc : Thread Cert.KernelOutIdeal.nD Cert.KernelOutIdeal.τ).loc Cert.KernelOutIdeal.main_arg5) = m ((c.tc : Thread Cert.KernelOutIdeal.nD Cert.KernelOutIdeal.τ).loc Cert.KernelOutIdeal.main_arg5)
          ∧ r.2.mem ((c.tc : Thread Cert.KernelOutIdeal.nD Cert.KernelOutIdeal.τ).loc Cert.KernelOutIdeal.main_arg6) = m ((c.tc : Thread Cert.KernelOutIdeal.nD Cert.KernelOutIdeal.τ).loc Cert.KernelOutIdeal.main_arg6))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v42) = v0 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1)
          ∧ r.2.mem ((c.tc : Thread Cert.ReferenceOutIdeal.nD Cert.ReferenceOutIdeal.τ).loc Cert.ReferenceOutIdeal.main_arg2) = m' ((c.tc : Thread Cert.ReferenceOutIdeal.nD Cert.ReferenceOutIdeal.τ).loc Cert.ReferenceOutIdeal.main_arg2)
          ∧ r.2.mem ((c.tc : Thread Cert.ReferenceOutIdeal.nD Cert.ReferenceOutIdeal.τ).loc Cert.ReferenceOutIdeal.main_arg3) = m' ((c.tc : Thread Cert.ReferenceOutIdeal.nD Cert.ReferenceOutIdeal.τ).loc Cert.ReferenceOutIdeal.main_arg3)
          ∧ r.2.mem ((c.tc : Thread Cert.ReferenceOutIdeal.nD Cert.ReferenceOutIdeal.τ).loc Cert.ReferenceOutIdeal.main_arg4) = m' ((c.tc : Thread Cert.ReferenceOutIdeal.nD Cert.ReferenceOutIdeal.τ).loc Cert.ReferenceOutIdeal.main_arg4)
          ∧ r.2.mem ((c.tc : Thread Cert.ReferenceOutIdeal.nD Cert.ReferenceOutIdeal.τ).loc Cert.ReferenceOutIdeal.main_arg5) = m' ((c.tc : Thread Cert.ReferenceOutIdeal.nD Cert.ReferenceOutIdeal.τ).loc Cert.ReferenceOutIdeal.main_arg5)
          ∧ r.2.mem ((c.tc : Thread Cert.ReferenceOutIdeal.nD Cert.ReferenceOutIdeal.τ).loc Cert.ReferenceOutIdeal.main_arg6) = m' ((c.tc : Thread Cert.ReferenceOutIdeal.nD Cert.ReferenceOutIdeal.τ).loc Cert.ReferenceOutIdeal.main_arg6))

def preserves_KernelNorm_KernelNormIdeal : Prop :=
  True

def algebraic_KernelNormIdeal_ReferenceNormIdeal [hKernelNormIdeal : Cert.KernelNormIdeal.Facts] [hReferenceNormIdeal : Cert.ReferenceNormIdeal.Facts] : Prop :=
  ∀ (m : (ℓ : Loc Cert.KernelNormIdeal.nD Cert.KernelNormIdeal.τ Cert.KernelNormIdeal.sig) → Buf (Elt Ideal) ℓ) (g : Dev Cert.KernelNormIdeal.nD → PrngReg)
    (m' : (ℓ : Loc Cert.ReferenceNormIdeal.nD Cert.ReferenceNormIdeal.τ Cert.ReferenceNormIdeal.sig) → Buf (Elt Ideal) ℓ) (g' : Dev Cert.ReferenceNormIdeal.nD → PrngReg), Pre_KernelNormIdeal m →
    (∀ c : Dev Cert.KernelNormIdeal.nD,
      m' ((c.tc : Thread Cert.ReferenceNormIdeal.nD Cert.ReferenceNormIdeal.τ).loc Cert.ReferenceNormIdeal.main_arg0) = m ((c.tc : Thread Cert.KernelNormIdeal.nD Cert.KernelNormIdeal.τ).loc Cert.KernelNormIdeal.main_arg0)
      ∧ m' ((c.tc : Thread Cert.ReferenceNormIdeal.nD Cert.ReferenceNormIdeal.τ).loc Cert.ReferenceNormIdeal.main_arg1) = m ((c.tc : Thread Cert.KernelNormIdeal.nD Cert.KernelNormIdeal.τ).loc Cert.KernelNormIdeal.main_arg1)) →
    ∃ (v0 : (c : Dev Cert.KernelNormIdeal.nD) → Buf (Elt Ideal) ((c.tc : Thread Cert.KernelNormIdeal.nD Cert.KernelNormIdeal.τ).loc Cert.KernelNormIdeal.main_v3)) (v1 : (c : Dev Cert.KernelNormIdeal.nD) → Buf (Elt Ideal) ((c.tc : Thread Cert.KernelNormIdeal.nD Cert.KernelNormIdeal.τ).loc Cert.KernelNormIdeal.main_v5)),
      θ_run (Cert.KernelNormIdeal.defs (F := Ideal)) (onTc (τ := Cert.KernelNormIdeal.τ) (Cert.KernelNormIdeal.main (F := Ideal))) ⟨m, fun _ => 0, g⟩ (fun r => ∀ c : Dev Cert.KernelNormIdeal.nD,
          r.2.mem ((c.tc : Thread Cert.KernelNormIdeal.nD Cert.KernelNormIdeal.τ).loc Cert.KernelNormIdeal.main_v3) = v0 c
          ∧ r.2.mem ((c.tc : Thread Cert.KernelNormIdeal.nD Cert.KernelNormIdeal.τ).loc Cert.KernelNormIdeal.main_v5) = v1 c
          ∧ r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
          ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1))
      ∧ θ_run (Cert.ReferenceNormIdeal.defs (F := Ideal)) (onTc (τ := Cert.ReferenceNormIdeal.τ) (Cert.ReferenceNormIdeal.main (F := Ideal))) ⟨m', fun _ => 0, g'⟩ (fun r => ∀ c : Dev Cert.ReferenceNormIdeal.nD,
          r.2.mem ((c.tc : Thread Cert.ReferenceNormIdeal.nD Cert.ReferenceNormIdeal.τ).loc Cert.ReferenceNormIdeal.main_v26) = v0 c
          ∧ r.2.mem ((c.tc : Thread Cert.ReferenceNormIdeal.nD Cert.ReferenceNormIdeal.τ).loc Cert.ReferenceNormIdeal.main_v29) = v1 c
          ∧ r.2.mem ((c.tc : Thread Cert.ReferenceNormIdeal.nD Cert.ReferenceNormIdeal.τ).loc Cert.ReferenceNormIdeal.main_arg0) = m' ((c.tc : Thread Cert.ReferenceNormIdeal.nD Cert.ReferenceNormIdeal.τ).loc Cert.ReferenceNormIdeal.main_arg0)
          ∧ r.2.mem ((c.tc : Thread Cert.ReferenceNormIdeal.nD Cert.ReferenceNormIdeal.τ).loc Cert.ReferenceNormIdeal.main_arg1) = m' ((c.tc : Thread Cert.ReferenceNormIdeal.nD Cert.ReferenceNormIdeal.τ).loc Cert.ReferenceNormIdeal.main_arg1))

def preserves_KernelOutRnn_KernelOutRnnIdeal : Prop :=
  True

def algebraic_KernelOutRnnIdeal_ReferenceOutRnnIdeal [hKernelOutRnnIdeal : Cert.KernelOutRnnIdeal.Facts] [hReferenceOutRnnIdeal : Cert.ReferenceOutRnnIdeal.Facts] : Prop :=
  ∀ (m : (ℓ : Loc Cert.KernelOutRnnIdeal.nD Cert.KernelOutRnnIdeal.τ Cert.KernelOutRnnIdeal.sig) → Buf (Elt Ideal) ℓ) (g : Dev Cert.KernelOutRnnIdeal.nD → PrngReg)
    (m' : (ℓ : Loc Cert.ReferenceOutRnnIdeal.nD Cert.ReferenceOutRnnIdeal.τ Cert.ReferenceOutRnnIdeal.sig) → Buf (Elt Ideal) ℓ) (g' : Dev Cert.ReferenceOutRnnIdeal.nD → PrngReg), Pre_KernelOutRnnIdeal m →
    (∀ c : Dev Cert.KernelOutRnnIdeal.nD,
      m' ((c.tc : Thread Cert.ReferenceOutRnnIdeal.nD Cert.ReferenceOutRnnIdeal.τ).loc Cert.ReferenceOutRnnIdeal.main_arg0) = m ((c.tc : Thread Cert.KernelOutRnnIdeal.nD Cert.KernelOutRnnIdeal.τ).loc Cert.KernelOutRnnIdeal.main_arg0)
      ∧ m' ((c.tc : Thread Cert.ReferenceOutRnnIdeal.nD Cert.ReferenceOutRnnIdeal.τ).loc Cert.ReferenceOutRnnIdeal.main_arg1) = m ((c.tc : Thread Cert.KernelOutRnnIdeal.nD Cert.KernelOutRnnIdeal.τ).loc Cert.KernelOutRnnIdeal.main_arg1)
      ∧ m' ((c.tc : Thread Cert.ReferenceOutRnnIdeal.nD Cert.ReferenceOutRnnIdeal.τ).loc Cert.ReferenceOutRnnIdeal.main_arg2) = m ((c.tc : Thread Cert.KernelOutRnnIdeal.nD Cert.KernelOutRnnIdeal.τ).loc Cert.KernelOutRnnIdeal.main_arg2)
      ∧ m' ((c.tc : Thread Cert.ReferenceOutRnnIdeal.nD Cert.ReferenceOutRnnIdeal.τ).loc Cert.ReferenceOutRnnIdeal.main_arg3) = m ((c.tc : Thread Cert.KernelOutRnnIdeal.nD Cert.KernelOutRnnIdeal.τ).loc Cert.KernelOutRnnIdeal.main_arg3)
      ∧ m' ((c.tc : Thread Cert.ReferenceOutRnnIdeal.nD Cert.ReferenceOutRnnIdeal.τ).loc Cert.ReferenceOutRnnIdeal.main_arg4) = m ((c.tc : Thread Cert.KernelOutRnnIdeal.nD Cert.KernelOutRnnIdeal.τ).loc Cert.KernelOutRnnIdeal.main_arg4)
      ∧ m' ((c.tc : Thread Cert.ReferenceOutRnnIdeal.nD Cert.ReferenceOutRnnIdeal.τ).loc Cert.ReferenceOutRnnIdeal.main_arg5) = m ((c.tc : Thread Cert.KernelOutRnnIdeal.nD Cert.KernelOutRnnIdeal.τ).loc Cert.KernelOutRnnIdeal.main_arg5)
      ∧ m' ((c.tc : Thread Cert.ReferenceOutRnnIdeal.nD Cert.ReferenceOutRnnIdeal.τ).loc Cert.ReferenceOutRnnIdeal.main_arg6) = m ((c.tc : Thread Cert.KernelOutRnnIdeal.nD Cert.KernelOutRnnIdeal.τ).loc Cert.KernelOutRnnIdeal.main_arg6)) →
    ∃ (v0 : (c : Dev Cert.KernelOutRnnIdeal.nD) → Buf (Elt Ideal) ((c.tc : Thread Cert.KernelOutRnnIdeal.nD Cert.KernelOutRnnIdeal.τ).loc Cert.KernelOutRnnIdeal.main_v10)),
      θ_run (Cert.KernelOutRnnIdeal.defs (F := Ideal)) (onTc (τ := Cert.KernelOutRnnIdeal.τ) (Cert.KernelOutRnnIdeal.main (F := Ideal))) ⟨m, fun _ => 0, g⟩ (fun r => ∀ c : Dev Cert.KernelOutRnnIdeal.nD,
          r.2.mem ((c.tc : Thread Cert.KernelOutRnnIdeal.nD Cert.KernelOutRnnIdeal.τ).loc Cert.KernelOutRnnIdeal.main_v10) = v0 c
          ∧ r.2.mem ((c.tc : Thread Cert.KernelOutRnnIdeal.nD Cert.KernelOutRnnIdeal.τ).loc Cert.KernelOutRnnIdeal.main_arg0) = m ((c.tc : Thread Cert.KernelOutRnnIdeal.nD Cert.KernelOutRnnIdeal.τ).loc Cert.KernelOutRnnIdeal.main_arg0)
          ∧ r.2.mem ((c.tc : Thread Cert.KernelOutRnnIdeal.nD Cert.KernelOutRnnIdeal.τ).loc Cert.KernelOutRnnIdeal.main_arg1) = m ((c.tc : Thread Cert.KernelOutRnnIdeal.nD Cert.KernelOutRnnIdeal.τ).loc Cert.KernelOutRnnIdeal.main_arg1)
          ∧ r.2.mem ((c.tc : Thread Cert.KernelOutRnnIdeal.nD Cert.KernelOutRnnIdeal.τ).loc Cert.KernelOutRnnIdeal.main_arg2) = m ((c.tc : Thread Cert.KernelOutRnnIdeal.nD Cert.KernelOutRnnIdeal.τ).loc Cert.KernelOutRnnIdeal.main_arg2)
          ∧ r.2.mem ((c.tc : Thread Cert.KernelOutRnnIdeal.nD Cert.KernelOutRnnIdeal.τ).loc Cert.KernelOutRnnIdeal.main_arg3) = m ((c.tc : Thread Cert.KernelOutRnnIdeal.nD Cert.KernelOutRnnIdeal.τ).loc Cert.KernelOutRnnIdeal.main_arg3)
          ∧ r.2.mem ((c.tc : Thread Cert.KernelOutRnnIdeal.nD Cert.KernelOutRnnIdeal.τ).loc Cert.KernelOutRnnIdeal.main_arg4) = m ((c.tc : Thread Cert.KernelOutRnnIdeal.nD Cert.KernelOutRnnIdeal.τ).loc Cert.KernelOutRnnIdeal.main_arg4)
          ∧ r.2.mem ((c.tc : Thread Cert.KernelOutRnnIdeal.nD Cert.KernelOutRnnIdeal.τ).loc Cert.KernelOutRnnIdeal.main_arg5) = m ((c.tc : Thread Cert.KernelOutRnnIdeal.nD Cert.KernelOutRnnIdeal.τ).loc Cert.KernelOutRnnIdeal.main_arg5)
          ∧ r.2.mem ((c.tc : Thread Cert.KernelOutRnnIdeal.nD Cert.KernelOutRnnIdeal.τ).loc Cert.KernelOutRnnIdeal.main_arg6) = m ((c.tc : Thread Cert.KernelOutRnnIdeal.nD Cert.KernelOutRnnIdeal.τ).loc Cert.KernelOutRnnIdeal.main_arg6))
      ∧ θ_run (Cert.ReferenceOutRnnIdeal.defs (F := Ideal)) (onTc (τ := Cert.ReferenceOutRnnIdeal.τ) (Cert.ReferenceOutRnnIdeal.main (F := Ideal))) ⟨m', fun _ => 0, g'⟩ (fun r => ∀ c : Dev Cert.ReferenceOutRnnIdeal.nD,
          r.2.mem ((c.tc : Thread Cert.ReferenceOutRnnIdeal.nD Cert.ReferenceOutRnnIdeal.τ).loc Cert.ReferenceOutRnnIdeal.main_v42) = v0 c
          ∧ r.2.mem ((c.tc : Thread Cert.ReferenceOutRnnIdeal.nD Cert.ReferenceOutRnnIdeal.τ).loc Cert.ReferenceOutRnnIdeal.main_arg0) = m' ((c.tc : Thread Cert.ReferenceOutRnnIdeal.nD Cert.ReferenceOutRnnIdeal.τ).loc Cert.ReferenceOutRnnIdeal.main_arg0)
          ∧ r.2.mem ((c.tc : Thread Cert.ReferenceOutRnnIdeal.nD Cert.ReferenceOutRnnIdeal.τ).loc Cert.ReferenceOutRnnIdeal.main_arg1) = m' ((c.tc : Thread Cert.ReferenceOutRnnIdeal.nD Cert.ReferenceOutRnnIdeal.τ).loc Cert.ReferenceOutRnnIdeal.main_arg1)
          ∧ r.2.mem ((c.tc : Thread Cert.ReferenceOutRnnIdeal.nD Cert.ReferenceOutRnnIdeal.τ).loc Cert.ReferenceOutRnnIdeal.main_arg2) = m' ((c.tc : Thread Cert.ReferenceOutRnnIdeal.nD Cert.ReferenceOutRnnIdeal.τ).loc Cert.ReferenceOutRnnIdeal.main_arg2)
          ∧ r.2.mem ((c.tc : Thread Cert.ReferenceOutRnnIdeal.nD Cert.ReferenceOutRnnIdeal.τ).loc Cert.ReferenceOutRnnIdeal.main_arg3) = m' ((c.tc : Thread Cert.ReferenceOutRnnIdeal.nD Cert.ReferenceOutRnnIdeal.τ).loc Cert.ReferenceOutRnnIdeal.main_arg3)
          ∧ r.2.mem ((c.tc : Thread Cert.ReferenceOutRnnIdeal.nD Cert.ReferenceOutRnnIdeal.τ).loc Cert.ReferenceOutRnnIdeal.main_arg4) = m' ((c.tc : Thread Cert.ReferenceOutRnnIdeal.nD Cert.ReferenceOutRnnIdeal.τ).loc Cert.ReferenceOutRnnIdeal.main_arg4)
          ∧ r.2.mem ((c.tc : Thread Cert.ReferenceOutRnnIdeal.nD Cert.ReferenceOutRnnIdeal.τ).loc Cert.ReferenceOutRnnIdeal.main_arg5) = m' ((c.tc : Thread Cert.ReferenceOutRnnIdeal.nD Cert.ReferenceOutRnnIdeal.τ).loc Cert.ReferenceOutRnnIdeal.main_arg5)
          ∧ r.2.mem ((c.tc : Thread Cert.ReferenceOutRnnIdeal.nD Cert.ReferenceOutRnnIdeal.τ).loc Cert.ReferenceOutRnnIdeal.main_arg6) = m' ((c.tc : Thread Cert.ReferenceOutRnnIdeal.nD Cert.ReferenceOutRnnIdeal.τ).loc Cert.ReferenceOutRnnIdeal.main_arg6))

def Claim : Prop :=
  ∃ (hKernel : Cert.Kernel.Facts) (hKernelIdeal : Cert.KernelIdeal.Facts) (hReferenceIdeal : Cert.ReferenceIdeal.Facts) (hKernelKv : Cert.KernelKv.Facts) (hKernelKvIdeal : Cert.KernelKvIdeal.Facts) (hReferenceKvIdeal : Cert.ReferenceKvIdeal.Facts) (hKernelMod : Cert.KernelMod.Facts) (hKernelModIdeal : Cert.KernelModIdeal.Facts) (hReferenceModIdeal : Cert.ReferenceModIdeal.Facts) (hKernelOut : Cert.KernelOut.Facts) (hKernelOutIdeal : Cert.KernelOutIdeal.Facts) (hReferenceOutIdeal : Cert.ReferenceOutIdeal.Facts) (hKernelNorm : Cert.KernelNorm.Facts) (hKernelNormIdeal : Cert.KernelNormIdeal.Facts) (hReferenceNormIdeal : Cert.ReferenceNormIdeal.Facts) (hKernelOutRnn : Cert.KernelOutRnn.Facts) (hKernelOutRnnIdeal : Cert.KernelOutRnnIdeal.Facts) (hReferenceOutRnnIdeal : Cert.ReferenceOutRnnIdeal.Facts) (hPre_routed : Cert.Pre_routed.Facts),
    quiescent_Kernel (hKernel := hKernel) (hPre_routed := hPre_routed)
    ∧ quiescent_KernelIdeal (hKernelIdeal := hKernelIdeal) (hPre_routed := hPre_routed)
    ∧ quiescent_ReferenceIdeal (hReferenceIdeal := hReferenceIdeal) (hPre_routed := hPre_routed)
    ∧ quiescent_KernelKv (hKernelKv := hKernelKv)
    ∧ quiescent_KernelKvIdeal (hKernelKvIdeal := hKernelKvIdeal)
    ∧ quiescent_ReferenceKvIdeal (hReferenceKvIdeal := hReferenceKvIdeal)
    ∧ quiescent_KernelMod (hKernelMod := hKernelMod)
    ∧ quiescent_KernelModIdeal (hKernelModIdeal := hKernelModIdeal)
    ∧ quiescent_ReferenceModIdeal (hReferenceModIdeal := hReferenceModIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelNorm (hKernelNorm := hKernelNorm)
    ∧ quiescent_KernelNormIdeal (hKernelNormIdeal := hKernelNormIdeal)
    ∧ quiescent_ReferenceNormIdeal (hReferenceNormIdeal := hReferenceNormIdeal)
    ∧ quiescent_KernelOutRnn (hKernelOutRnn := hKernelOutRnn)
    ∧ quiescent_KernelOutRnnIdeal (hKernelOutRnnIdeal := hKernelOutRnnIdeal)
    ∧ quiescent_ReferenceOutRnnIdeal (hReferenceOutRnnIdeal := hReferenceOutRnnIdeal)
    ∧ preserves_Kernel_KernelIdeal
    ∧ algebraic_KernelIdeal_ReferenceIdeal (hKernelIdeal := hKernelIdeal) (hReferenceIdeal := hReferenceIdeal) (hPre_routed := hPre_routed)
    ∧ preserves_KernelKv_KernelKvIdeal
    ∧ algebraic_KernelKvIdeal_ReferenceKvIdeal (hKernelKvIdeal := hKernelKvIdeal) (hReferenceKvIdeal := hReferenceKvIdeal)
    ∧ preserves_KernelMod_KernelModIdeal
    ∧ algebraic_KernelModIdeal_ReferenceModIdeal (hKernelModIdeal := hKernelModIdeal) (hReferenceModIdeal := hReferenceModIdeal)
    ∧ preserves_KernelOut_KernelOutIdeal
    ∧ algebraic_KernelOutIdeal_ReferenceOutIdeal (hKernelOutIdeal := hKernelOutIdeal) (hReferenceOutIdeal := hReferenceOutIdeal)
    ∧ preserves_KernelNorm_KernelNormIdeal
    ∧ algebraic_KernelNormIdeal_ReferenceNormIdeal (hKernelNormIdeal := hKernelNormIdeal) (hReferenceNormIdeal := hReferenceNormIdeal)
    ∧ preserves_KernelOutRnn_KernelOutRnnIdeal
    ∧ algebraic_KernelOutRnnIdeal_ReferenceOutRnnIdeal (hKernelOutRnnIdeal := hKernelOutRnnIdeal) (hReferenceOutRnnIdeal := hReferenceOutRnnIdeal)
-- ==== Pre_routed.lean ====
abbrev S10240x2048 : Shape := ⟨2, ![10240, 2048]⟩
abbrev S10240x4 : Shape := ⟨2, ![10240, 4]⟩
abbrev S1x32 : Shape := ⟨2, ![1, 32]⟩
abbrev S32x2048x2048 : Shape := ⟨3, ![32, 2048, 2048]⟩
abbrev S32x2048 : Shape := ⟨2, ![32, 2048]⟩
abbrev S32 : Shape := ⟨1, ![32]⟩
abbrev S_ : Shape := ⟨0, ![]⟩
abbrev S10240x4x1 : Shape := ⟨3, ![10240, 4, 1]⟩
abbrev S1x1x32 : Shape := ⟨3, ![1, 1, 32]⟩
abbrev S10240x4x32 : Shape := ⟨3, ![10240, 4, 32]⟩
abbrev S4 : Shape := ⟨1, ![4]⟩
abbrev S1x4x1 : Shape := ⟨3, ![1, 4, 1]⟩
abbrev S1x1x4 : Shape := ⟨3, ![1, 1, 4]⟩
abbrev S1x4x4 : Shape := ⟨3, ![1, 4, 4]⟩
abbrev S10240x1x4 : Shape := ⟨3, ![10240, 1, 4]⟩
abbrev S10240x4x4 : Shape := ⟨3, ![10240, 4, 4]⟩
abbrev S40960 : Shape := ⟨1, ![40960]⟩
abbrev S40960x1 : Shape := ⟨2, ![40960, 1]⟩
abbrev S1x40960 : Shape := ⟨2, ![1, 40960]⟩
abbrev S40960x40960 : Shape := ⟨2, ![40960, 40960]⟩

class Facts : Prop where
  shapeCasts_S1x32_S32 : S1x32.ShapeCasts S32
  bcast_S_S32 : S_.BroadcastsInDim S32 (![] : Fin 0 → Fin S32.rank)
  reducesTo_S32_S_d0 : S32.ReducesTo [0] S_
  h_S_ : 0 < S_.numel
  bcast_S_S10240x4 : S_.BroadcastsInDim S10240x4 (![] : Fin 0 → Fin S10240x4.rank)
  reducesTo_S10240x4_S_d0_1 : S10240x4.ReducesTo [0, 1] S_
  bcast_S10240x4_S10240x4x1_0_1 : S10240x4.BroadcastsInDim S10240x4x1 (![0, 1] : Fin 2 → Fin S10240x4x1.rank)
  bcast_S32_S1x1x32_2 : S32.BroadcastsInDim S1x1x32 (![2] : Fin 1 → Fin S1x1x32.rank)
  bcast_S10240x4x1_S10240x4x32_0_1_2 : S10240x4x1.BroadcastsInDim S10240x4x32 (![0, 1, 2] : Fin 3 → Fin S10240x4x32.rank)
  bcast_S1x1x32_S10240x4x32_0_1_2 : S1x1x32.BroadcastsInDim S10240x4x32 (![0, 1, 2] : Fin 3 → Fin S10240x4x32.rank)
  reducesTo_S10240x4x32_S_d0_1_2 : S10240x4x32.ReducesTo [0, 1, 2] S_
  bcast_S4_S1x4x1_1 : S4.BroadcastsInDim S1x4x1 (![1] : Fin 1 → Fin S1x4x1.rank)
  bcast_S4_S1x1x4_2 : S4.BroadcastsInDim S1x1x4 (![2] : Fin 1 → Fin S1x1x4.rank)
  bcast_S1x4x1_S1x4x4_0_1_2 : S1x4x1.BroadcastsInDim S1x4x4 (![0, 1, 2] : Fin 3 → Fin S1x4x4.rank)
  bcast_S1x1x4_S1x4x4_0_1_2 : S1x1x4.BroadcastsInDim S1x4x4 (![0, 1, 2] : Fin 3 → Fin S1x4x4.rank)
  bcast_S10240x4_S10240x1x4_0_2 : S10240x4.BroadcastsInDim S10240x1x4 (![0, 2] : Fin 2 → Fin S10240x1x4.rank)
  bcast_S10240x4x1_S10240x4x4_0_1_2 : S10240x4x1.BroadcastsInDim S10240x4x4 (![0, 1, 2] : Fin 3 → Fin S10240x4x4.rank)
  bcast_S10240x1x4_S10240x4x4_0_1_2 : S10240x1x4.BroadcastsInDim S10240x4x4 (![0, 1, 2] : Fin 3 → Fin S10240x4x4.rank)
  bcast_S1x4x4_S10240x4x4_0_1_2 : S1x4x4.BroadcastsInDim S10240x4x4 (![0, 1, 2] : Fin 3 → Fin S10240x4x4.rank)
  reducesTo_S10240x4x4_S_d0_1_2 : S10240x4x4.ReducesTo [0, 1, 2] S_
  shapeCasts_S10240x4_S40960 : S10240x4.ShapeCasts S40960
  bcast_S40960_S40960x1_0 : S40960.BroadcastsInDim S40960x1 (![0] : Fin 1 → Fin S40960x1.rank)
  bcast_S40960_S1x40960_1 : S40960.BroadcastsInDim S1x40960 (![1] : Fin 1 → Fin S1x40960.rank)
  bcast_S40960x1_S40960x40960_0_1 : S40960x1.BroadcastsInDim S40960x40960 (![0, 1] : Fin 2 → Fin S40960x40960.rank)
  bcast_S1x40960_S40960x40960_0_1 : S1x40960.BroadcastsInDim S40960x40960 (![0, 1] : Fin 2 → Fin S40960x40960.rank)
  reducesTo_S40960x40960_S_d0_1 : S40960x40960.ReducesTo [0, 1] S_

variable [Facts]

def fn_part3 {F : FTy → Type} [FloatOps F] (main_v11 : IVec S_ 1) (main_v17 : IVec S_ 1) (main_v34 : IVec S_ 1) (main_v48 : IVec S_ 1) (main_v51 : IVec S40960 32) (main_v56 : IVec S40960x40960 1) (main_v59 : IVec S40960x40960 32) (main_v60 : IVec S40960x40960 32) : IVec S_ 1 :=
  let main_v61 : IVec S40960x40960 1 := cmpi .ne main_v59 main_v60
  let main_v62 : IVec S40960x40960 1 := ori main_v56 main_v61
  let main_v63 : IVec S40960x1 32 := broadcastInDim S40960x1 ![0] bcast_S40960_S40960x1_0 main_v51
  let main_v64 : IVec S1x40960 32 := broadcastInDim S1x40960 ![1] bcast_S40960_S1x40960_1 main_v51
  let main_v65 : IVec S40960x40960 32 := broadcastInDim S40960x40960 ![0, 1] bcast_S40960x1_S40960x40960_0_1 main_v63
  let main_v66 : IVec S40960x40960 32 := broadcastInDim S40960x40960 ![0, 1] bcast_S1x40960_S40960x40960_0_1 main_v64
  let main_v67 : IVec S40960x40960 1 := cmpi .ne main_v65 main_v66
  let main_v68 : IVec S40960x40960 1 := ori main_v62 main_v67
  let main_c_10 : IVec S_ 1 := constantI S_ 1 1#1
  let main_v69 : IVec S_ 1 := (fun x v => Host.reduce IntOp.andi x v reducesTo_S40960x40960_S_d0_1 h_S_) main_v68 main_c_10
  let main_v70 : IVec S_ 1 := andi main_v11 main_v17
  let main_v71 : IVec S_ 1 := andi main_v70 main_v34
  let main_v72 : IVec S_ 1 := andi main_v71 main_v48
  let main_v73 : IVec S_ 1 := andi main_v72 main_v69
  main_v73

def fn_part2 {F : FTy → Type} [FloatOps F] (main_arg1 : IVec S10240x4 32) (main_arg3 : IVec S10240x4 32) (main_v11 : IVec S_ 1) (main_v17 : IVec S_ 1) (main_v34 : IVec S_ 1) (main_v36 : IVec S1x4x1 32) (main_v37 : IVec S1x1x4 32) : IVec S_ 1 :=
  let main_v38 : IVec S1x4x4 32 := broadcastInDim S1x4x4 ![0, 1, 2] bcast_S1x4x1_S1x4x4_0_1_2 main_v36
  let main_v39 : IVec S1x4x4 32 := broadcastInDim S1x4x4 ![0, 1, 2] bcast_S1x1x4_S1x4x4_0_1_2 main_v37
  let main_v40 : IVec S1x4x4 1 := cmpi .eq main_v38 main_v39
  let main_v41 : IVec S10240x4x1 32 := broadcastInDim S10240x4x1 ![0, 1] bcast_S10240x4_S10240x4x1_0_1 main_arg1
  let main_v42 : IVec S10240x1x4 32 := broadcastInDim S10240x1x4 ![0, 2] bcast_S10240x4_S10240x1x4_0_2 main_arg1
  let main_v43 : IVec S10240x4x4 32 := broadcastInDim S10240x4x4 ![0, 1, 2] bcast_S10240x4x1_S10240x4x4_0_1_2 main_v41
  let main_v44 : IVec S10240x4x4 32 := broadcastInDim S10240x4x4 ![0, 1, 2] bcast_S10240x1x4_S10240x4x4_0_1_2 main_v42
  let main_v45 : IVec S10240x4x4 1 := cmpi .ne main_v43 main_v44
  let main_v46 : IVec S10240x4x4 1 := broadcastInDim S10240x4x4 ![0, 1, 2] bcast_S1x4x4_S10240x4x4_0_1_2 main_v40
  let main_v47 : IVec S10240x4x4 1 := ori main_v46 main_v45
  let main_c_9 : IVec S_ 1 := constantI S_ 1 1#1
  let main_v48 : IVec S_ 1 := (fun x v => Host.reduce IntOp.andi x v reducesTo_S10240x4x4_S_d0_1_2 h_S_) main_v47 main_c_9
  let main_v49 : IVec S40960 32 := iotaInDim S40960 32 0
  let main_v50 : IVec S40960 32 := shapeCast S40960 main_arg1 shapeCasts_S10240x4_S40960
  let main_v51 : IVec S40960 32 := shapeCast S40960 main_arg3 shapeCasts_S10240x4_S40960
  let main_v52 : IVec S40960x1 32 := broadcastInDim S40960x1 ![0] bcast_S40960_S40960x1_0 main_v49
  let main_v53 : IVec S1x40960 32 := broadcastInDim S1x40960 ![1] bcast_S40960_S1x40960_1 main_v49
  let main_v54 : IVec S40960x40960 32 := broadcastInDim S40960x40960 ![0, 1] bcast_S40960x1_S40960x40960_0_1 main_v52
  let main_v55 : IVec S40960x40960 32 := broadcastInDim S40960x40960 ![0, 1] bcast_S1x40960_S40960x40960_0_1 main_v53
  let main_v56 : IVec S40960x40960 1 := cmpi .eq main_v54 main_v55
  let main_v57 : IVec S40960x1 32 := broadcastInDim S40960x1 ![0] bcast_S40960_S40960x1_0 main_v50
  let main_v58 : IVec S1x40960 32 := broadcastInDim S1x40960 ![1] bcast_S40960_S1x40960_1 main_v50
  let main_v59 : IVec S40960x40960 32 := broadcastInDim S40960x40960 ![0, 1] bcast_S40960x1_S40960x40960_0_1 main_v57
  let main_v60 : IVec S40960x40960 32 := broadcastInDim S40960x40960 ![0, 1] bcast_S1x40960_S40960x40960_0_1 main_v58
  fn_part3 (F := F) main_v11 main_v17 main_v34 main_v48 main_v51 main_v56 main_v59 main_v60

def fn_part1 {F : FTy → Type} [FloatOps F] (main_arg1 : IVec S10240x4 32) (main_arg3 : IVec S10240x4 32) (main_v1 : IVec S32 32) (main_v2 : IVec S32 32) (main_v11 : IVec S_ 1) (main_v16 : IVec S10240x4 1) : IVec S_ 1 :=
  let main_c_6 : IVec S_ 1 := constantI S_ 1 1#1
  let main_v17 : IVec S_ 1 := (fun x v => Host.reduce IntOp.andi x v reducesTo_S10240x4_S_d0_1 h_S_) main_v16 main_c_6
  let main_c_7 : IVec S_ 32 := constantI S_ 32 0#32
  let main_v18 : IVec S10240x4 32 := broadcastInDim S10240x4 ![] bcast_S_S10240x4 main_c_7
  let main_v19 : IVec S10240x4 1 := cmpi .sge main_arg3 main_v18
  let main_v20 : IVec S10240x4x1 1 := broadcastInDim S10240x4x1 ![0, 1] bcast_S10240x4_S10240x4x1_0_1 main_v19
  let main_v21 : IVec S10240x4x1 32 := broadcastInDim S10240x4x1 ![0, 1] bcast_S10240x4_S10240x4x1_0_1 main_arg1
  let main_v22 : IVec S1x1x32 32 := broadcastInDim S1x1x32 ![2] bcast_S32_S1x1x32_2 main_v2
  let main_v23 : IVec S10240x4x32 32 := broadcastInDim S10240x4x32 ![0, 1, 2] bcast_S10240x4x1_S10240x4x32_0_1_2 main_v21
  let main_v24 : IVec S10240x4x32 32 := broadcastInDim S10240x4x32 ![0, 1, 2] bcast_S1x1x32_S10240x4x32_0_1_2 main_v22
  let main_v25 : IVec S10240x4x32 1 := cmpi .ne main_v23 main_v24
  let main_v26 : IVec S10240x4x1 32 := broadcastInDim S10240x4x1 ![0, 1] bcast_S10240x4_S10240x4x1_0_1 main_arg3
  let main_v27 : IVec S1x1x32 32 := broadcastInDim S1x1x32 ![2] bcast_S32_S1x1x32_2 main_v1
  let main_v28 : IVec S10240x4x32 32 := broadcastInDim S10240x4x32 ![0, 1, 2] bcast_S10240x4x1_S10240x4x32_0_1_2 main_v26
  let main_v29 : IVec S10240x4x32 32 := broadcastInDim S10240x4x32 ![0, 1, 2] bcast_S1x1x32_S10240x4x32_0_1_2 main_v27
  let main_v30 : IVec S10240x4x32 1 := cmpi .slt main_v28 main_v29
  let main_v31 : IVec S10240x4x32 1 := ori main_v25 main_v30
  let main_v32 : IVec S10240x4x32 1 := broadcastInDim S10240x4x32 ![0, 1, 2] bcast_S10240x4x1_S10240x4x32_0_1_2 main_v20
  let main_v33 : IVec S10240x4x32 1 := andi main_v32 main_v31
  let main_c_8 : IVec S_ 1 := constantI S_ 1 1#1
  let main_v34 : IVec S_ 1 := (fun x v => Host.reduce IntOp.andi x v reducesTo_S10240x4x32_S_d0_1_2 h_S_) main_v33 main_c_8
  let main_v35 : IVec S4 32 := iotaInDim S4 32 0
  let main_v36 : IVec S1x4x1 32 := broadcastInDim S1x4x1 ![1] bcast_S4_S1x4x1_1 main_v35
  let main_v37 : IVec S1x1x4 32 := broadcastInDim S1x1x4 ![2] bcast_S4_S1x1x4_2 main_v35
  fn_part2 (F := F) main_arg1 main_arg3 main_v11 main_v17 main_v34 main_v36 main_v37

def fn {F : FTy → Type} [FloatOps F] (main_arg0 : FVec F S10240x2048 .bf16) (main_arg1 : IVec S10240x4 32) (main_arg2 : FVec F S10240x4 .f32) (main_arg3 : IVec S10240x4 32) (main_arg4 : FVec F S1x32 .f32) (main_arg5 : FVec F S32x2048x2048 .f32) (main_arg6 : FVec F S32x2048 .f32) (main_arg7 : FVec F S32x2048x2048 .f32) (main_arg8 : FVec F S32x2048 .f32) (main_arg9 : FVec F S32x2048x2048 .f32) (main_arg10 : FVec F S32x2048 .f32) : IVec S_ 1 :=
  let main_v0 : FVec F S32 .f32 := shapeCast S32 main_arg4 shapeCasts_S1x32_S32
  let main_v1 : IVec S32 32 := fptosi 32 main_v0
  let main_v2 : IVec S32 32 := iotaInDim S32 32 0
  let main_c : IVec S_ 32 := constantI S_ 32 0#32
  let main_v3 : IVec S32 32 := broadcastInDim S32 ![] bcast_S_S32 main_c
  let main_v4 : IVec S32 1 := cmpi .sge main_v1 main_v3
  let main_c_0 : IVec S_ 32 := constantI S_ 32 40960#32
  let main_v5 : IVec S32 32 := broadcastInDim S32 ![] bcast_S_S32 main_c_0
  let main_v6 : IVec S32 1 := cmpi .sle main_v1 main_v5
  let main_v7 : IVec S32 1 := andi main_v4 main_v6
  let main_c_1 : IVec S_ 1 := constantI S_ 1 1#1
  let main_v8 : IVec S_ 1 := (fun x v => Host.reduce IntOp.andi x v reducesTo_S32_S_d0 h_S_) main_v7 main_c_1
  let main_c_2 : IVec S_ 32 := constantI S_ 32 0#32
  let main_v9 : IVec S_ 32 := (fun x v => Host.reduce IntOp.addi x v reducesTo_S32_S_d0 h_S_) main_v1 main_c_2
  let main_c_3 : IVec S_ 32 := constantI S_ 32 40960#32
  let main_v10 : IVec S_ 1 := cmpi .sle main_v9 main_c_3
  let main_v11 : IVec S_ 1 := andi main_v8 main_v10
  let main_c_4 : IVec S_ 32 := constantI S_ 32 0#32
  let main_v12 : IVec S10240x4 32 := broadcastInDim S10240x4 ![] bcast_S_S10240x4 main_c_4
  let main_v13 : IVec S10240x4 1 := cmpi .sge main_arg1 main_v12
  let main_c_5 : IVec S_ 32 := constantI S_ 32 32#32
  let main_v14 : IVec S10240x4 32 := broadcastInDim S10240x4 ![] bcast_S_S10240x4 main_c_5
  let main_v15 : IVec S10240x4 1 := cmpi .slt main_arg1 main_v14
  let main_v16 : IVec S10240x4 1 := andi main_v13 main_v15
  fn_part1 (F := F) main_arg1 main_arg3 main_v1 main_v2 main_v11 main_v16
-- ==== Kernel.lean ====
abbrev S10240x2048 : Shape := ⟨2, ![10240, 2048]⟩
abbrev S10240x4 : Shape := ⟨2, ![10240, 4]⟩
abbrev S1x32 : Shape := ⟨2, ![1, 32]⟩
abbrev S32x2048x2048 : Shape := ⟨3, ![32, 2048, 2048]⟩
abbrev S32x2048 : Shape := ⟨2, ![32, 2048]⟩
abbrev S32 : Shape := ⟨1, ![32]⟩
abbrev S_ : Shape := ⟨0, ![]⟩
abbrev S72 : Shape := ⟨1, ![72]⟩
abbrev S1 : Shape := ⟨1, ![1]⟩
abbrev S72x1 : Shape := ⟨2, ![72, 1]⟩
abbrev S72x32 : Shape := ⟨2, ![72, 32]⟩
abbrev S10240x4x1 : Shape := ⟨3, ![10240, 4, 1]⟩
abbrev S10240 : Shape := ⟨1, ![10240]⟩
abbrev S10240x1 : Shape := ⟨2, ![10240, 1]⟩
abbrev S73728 : Shape := ⟨1, ![73728]⟩
abbrev S40960 : Shape := ⟨1, ![40960]⟩
abbrev S40960x1 : Shape := ⟨2, ![40960, 1]⟩
abbrev S73728x1 : Shape := ⟨2, ![73728, 1]⟩
abbrev S1x1 : Shape := ⟨2, ![1, 1]⟩
abbrev S73728x2048 : Shape := ⟨2, ![73728, 2048]⟩
abbrev S32x1x2048 : Shape := ⟨3, ![32, 1, 2048]⟩
abbrev S1024x2048 : Shape := ⟨2, ![1024, 2048]⟩
abbrev S1x2048x256 : Shape := ⟨3, ![1, 2048, 256]⟩
abbrev S1x256x2048 : Shape := ⟨3, ![1, 256, 2048]⟩
abbrev S1x1x256 : Shape := ⟨3, ![1, 1, 256]⟩
abbrev S1x1x2048 : Shape := ⟨3, ![1, 1, 2048]⟩
abbrev S2048x256 : Shape := ⟨2, ![2048, 256]⟩
abbrev S256x2048 : Shape := ⟨2, ![256, 2048]⟩
abbrev S256x256 : Shape := ⟨2, ![256, 256]⟩
abbrev S1x256 : Shape := ⟨2, ![1, 256]⟩
abbrev S1x2048 : Shape := ⟨2, ![1, 2048]⟩
abbrev S40960x2048 : Shape := ⟨2, ![40960, 2048]⟩
abbrev S10240x4x2048 : Shape := ⟨3, ![10240, 4, 2048]⟩

abbrev nBuf : Space → Nat
  | .hbm => 210
  | .vmem => 19
  | .smem => 3
  | _ => 0

abbrev hbmTy0_0 (i : Nat) : BufTy := match i % 128 with
  | 0 => ⟨S10240x2048, .bf16⟩
  | 1 => ⟨S10240x4, .i32⟩
  | 2 => ⟨S10240x4, .f32⟩
  | 3 => ⟨S10240x4, .i32⟩
  | 4 => ⟨S1x32, .f32⟩
  | 5 => ⟨S32x2048x2048, .f32⟩
  | 6 => ⟨S32x2048, .f32⟩
  | 7 => ⟨S32x2048x2048, .f32⟩
  | 8 => ⟨S32x2048, .f32⟩
  | 9 => ⟨S32x2048x2048, .f32⟩
  | 10 => ⟨S32x2048, .f32⟩
  | 11 => ⟨S32, .f32⟩
  | 12 => ⟨S32, .i32⟩
  | 13 => ⟨S_, .i32⟩
  | 14 => ⟨S32, .i32⟩
  | 15 => ⟨S32, .i32⟩
  | 16 => ⟨S_, .i32⟩
  | 17 => ⟨S32, .i32⟩
  | 18 => ⟨S32, .i32⟩
  | 19 => ⟨S_, .i32⟩
  | 20 => ⟨S_, .i32⟩
  | 21 => ⟨S32, .i32⟩
  | 22 => ⟨S32, .i32⟩
  | 23 => ⟨S32, .i32⟩
  | 24 => ⟨S_, .i32⟩
  | 25 => ⟨S32, .i32⟩
  | 26 => ⟨S32, .i1⟩
  | 27 => ⟨S32, .i32⟩
  | 28 => ⟨S32, .i32⟩
  | 29 => ⟨S_, .i32⟩
  | 30 => ⟨S32, .i32⟩
  | 31 => ⟨S32, .i1⟩
  | 32 => ⟨S32, .i1⟩
  | 33 => ⟨S_, .i32⟩
  | 34 => ⟨S32, .i32⟩
  | 35 => ⟨S32, .i32⟩
  | 36 => ⟨S32, .i32⟩
  | 37 => ⟨S_, .i32⟩
  | 38 => ⟨S32, .i32⟩
  | 39 => ⟨S32, .i32⟩
  | 40 => ⟨S_, .i32⟩
  | 41 => ⟨S_, .i32⟩
  | 42 => ⟨S32, .i32⟩
  | 43 => ⟨S32, .i32⟩
  | 44 => ⟨S72, .i32⟩
  | 45 => ⟨S_, .i32⟩
  | 46 => ⟨S72, .i32⟩
  | 47 => ⟨S72, .i32⟩
  | 48 => ⟨S1, .i32⟩
  | 49 => ⟨S_, .i32⟩
  | 50 => ⟨S_, .i32⟩
  | 51 => ⟨S_, .i32⟩
  | 52 => ⟨S_, .i32⟩
  | 53 => ⟨S_, .i32⟩
  | 54 => ⟨S_, .i32⟩
  | 55 => ⟨S_, .i1⟩
  | 56 => ⟨S_, .i32⟩
  | 57 => ⟨S_, .i32⟩
  | 58 => ⟨S_, .i1⟩
  | 59 => ⟨S_, .i1⟩
  | 60 => ⟨S_, .i32⟩
  | 61 => ⟨S_, .i32⟩
  | 62 => ⟨S_, .i32⟩
  | 63 => ⟨S1x32, .i32⟩
  | 64 => ⟨S72x1, .i32⟩
  | 65 => ⟨S72x32, .i32⟩
  | 66 => ⟨S72x32, .i32⟩
  | 67 => ⟨S72x32, .i1⟩
  | 68 => ⟨S72x32, .i32⟩
  | 69 => ⟨S_, .i32⟩
  | 70 => ⟨S72, .i32⟩
  | 71 => ⟨S_, .i32⟩
  | 72 => ⟨S72, .i32⟩
  | 73 => ⟨S72, .i32⟩
  | 74 => ⟨S_, .i32⟩
  | 75 => ⟨S72, .i32⟩
  | 76 => ⟨S72, .i1⟩
  | 77 => ⟨S_, .i32⟩
  | 78 => ⟨S72, .i32⟩
  | 79 => ⟨S72, .i32⟩
  | 80 => ⟨S72, .i32⟩
  | 81 => ⟨S72x1, .i32⟩
  | 82 => ⟨S72, .i32⟩
  | 83 => ⟨S_, .i32⟩
  | 84 => ⟨S72, .i32⟩
  | 85 => ⟨S72, .i1⟩
  | 86 => ⟨S_, .i32⟩
  | 87 => ⟨S72, .i32⟩
  | 88 => ⟨S72, .i32⟩
  | 89 => ⟨S72, .i32⟩
  | 90 => ⟨S72x1, .i32⟩
  | 91 => ⟨S72, .i32⟩
  | 92 => ⟨S72, .i32⟩
  | 93 => ⟨S72, .i32⟩
  | 94 => ⟨S_, .i32⟩
  | 95 => ⟨S_, .i32⟩
  | 96 => ⟨S_, .i32⟩
  | 97 => ⟨S72, .i32⟩
  | 98 => ⟨S72, .i32⟩
  | 99 => ⟨S_, .i32⟩
  | 100 => ⟨S72, .i32⟩
  | 101 => ⟨S72, .i32⟩
  | 102 => ⟨S1, .i32⟩
  | 103 => ⟨S_, .i32⟩
  | 104 => ⟨S72, .i32⟩
  | 105 => ⟨S72, .i1⟩
  | 106 => ⟨S_, .i32⟩
  | 107 => ⟨S_, .i32⟩
  | 108 => ⟨S72, .i32⟩
  | 109 => ⟨S_, .i32⟩
  | 110 => ⟨S_, .i32⟩
  | 111 => ⟨S_, .i32⟩
  | 112 => ⟨S_, .i32⟩
  | 113 => ⟨S72, .i32⟩
  | 114 => ⟨S72, .i32⟩
  | 115 => ⟨S1, .i32⟩
  | 116 => ⟨S_, .i32⟩
  | 117 => ⟨S72, .i32⟩
  | 118 => ⟨S72, .i1⟩
  | 119 => ⟨S_, .i32⟩
  | 120 => ⟨S_, .i1⟩
  | 121 => ⟨S_, .i32⟩
  | 122 => ⟨S_, .i32⟩
  | 123 => ⟨S_, .i32⟩
  | 124 => ⟨S1, .i32⟩
  | 125 => ⟨S_, .i32⟩
  | 126 => ⟨S72, .i32⟩
  | 127 => ⟨S_, .i32⟩
  | _ => ⟨S10240x2048, .bf16⟩

abbrev hbmTy0_1 (i : Nat) : BufTy := match i % 128 with
  | 0 => ⟨S10240x4, .i32⟩
  | 1 => ⟨S10240x4, .i1⟩
  | 2 => ⟨S_, .i32⟩
  | 3 => ⟨S10240x4, .i32⟩
  | 4 => ⟨S10240x4, .i32⟩
  | 5 => ⟨S10240x4, .i32⟩
  | 6 => ⟨S10240x4x1, .i32⟩
  | 7 => ⟨S10240x4, .i32⟩
  | 8 => ⟨S10240x4, .i32⟩
  | 9 => ⟨S10240, .i32⟩
  | 10 => ⟨S10240x1, .i32⟩
  | 11 => ⟨S10240x4, .i32⟩
  | 12 => ⟨S_, .i32⟩
  | 13 => ⟨S73728, .i32⟩
  | 14 => ⟨S40960, .i32⟩
  | 15 => ⟨S40960, .i32⟩
  | 16 => ⟨S_, .i32⟩
  | 17 => ⟨S40960, .i32⟩
  | 18 => ⟨S40960, .i1⟩
  | 19 => ⟨S_, .i32⟩
  | 20 => ⟨S40960, .i32⟩
  | 21 => ⟨S40960, .i32⟩
  | 22 => ⟨S40960, .i32⟩
  | 23 => ⟨S40960x1, .i32⟩
  | 24 => ⟨S73728, .i32⟩
  | 25 => ⟨S_, .i32⟩
  | 26 => ⟨S73728, .i32⟩
  | 27 => ⟨S73728, .i1⟩
  | 28 => ⟨S_, .i32⟩
  | 29 => ⟨S73728, .i32⟩
  | 30 => ⟨S73728, .i32⟩
  | 31 => ⟨S73728, .i32⟩
  | 32 => ⟨S73728x1, .i32⟩
  | 33 => ⟨S1, .i32⟩
  | 34 => ⟨S_, .i32⟩
  | 35 => ⟨S73728x1, .i32⟩
  | 36 => ⟨S73728x1, .i1⟩
  | 37 => ⟨S1x1, .i32⟩
  | 38 => ⟨S73728x1, .i32⟩
  | 39 => ⟨S73728x1, .i1⟩
  | 40 => ⟨S73728x1, .i1⟩
  | 41 => ⟨S_, .i1⟩
  | 42 => ⟨S73728, .i1⟩
  | 43 => ⟨S73728x2048, .bf16⟩
  | 44 => ⟨S73728x2048, .i1⟩
  | 45 => ⟨S_, .bf16⟩
  | 46 => ⟨S73728x2048, .bf16⟩
  | 47 => ⟨S73728x2048, .bf16⟩
  | 48 => ⟨S32x1x2048, .f32⟩
  | 49 => ⟨S32x1x2048, .f32⟩
  | 50 => ⟨S32x1x2048, .f32⟩
  | 51 => ⟨S73728x2048, .f32⟩
  | 52 => ⟨S40960, .i32⟩
  | 53 => ⟨S_, .i32⟩
  | 54 => ⟨S40960, .i32⟩
  | 55 => ⟨S40960, .i1⟩
  | 56 => ⟨S_, .i32⟩
  | 57 => ⟨S40960, .i32⟩
  | 58 => ⟨S40960, .i32⟩
  | 59 => ⟨S40960, .i32⟩
  | 60 => ⟨S40960x1, .i32⟩
  | 61 => ⟨S1, .i32⟩
  | 62 => ⟨S_, .i32⟩
  | 63 => ⟨S40960x1, .i32⟩
  | 64 => ⟨S40960x1, .i1⟩
  | 65 => ⟨S1x1, .i32⟩
  | 66 => ⟨S40960x1, .i32⟩
  | 67 => ⟨S40960x1, .i1⟩
  | 68 => ⟨S40960x1, .i1⟩
  | 69 => ⟨S_, .i1⟩
  | 70 => ⟨S40960, .i1⟩
  | 71 => ⟨S40960x2048, .f32⟩
  | 72 => ⟨S40960x2048, .i1⟩
  | 73 => ⟨S_, .f32⟩
  | 74 => ⟨S40960x2048, .f32⟩
  | 75 => ⟨S40960x2048, .f32⟩
  | 76 => ⟨S10240x4x2048, .f32⟩
  | 77 => ⟨S10240x4x1, .f32⟩
  | 78 => ⟨S10240x4x2048, .f32⟩
  | 79 => ⟨S10240x4x2048, .f32⟩
  | 80 => ⟨S_, .f32⟩
  | 81 => ⟨S10240x2048, .f32⟩
  | _ => ⟨S10240x2048, .bf16⟩

abbrev hbmTy (i : Nat) : BufTy := match i / 128 with
  | 0 => hbmTy0_0 i
  | 1 => hbmTy0_1 i
  | _ => ⟨S10240x2048, .bf16⟩

abbrev bufTy : (tb : Table) → Fin (tcTables nBuf tb) → BufTy
  | .hbm, ⟨i, _⟩ => hbmTy i
  | .local _ .vmem, ⟨0, _⟩ => ⟨S1024x2048, .bf16⟩
  | .local _ .vmem, ⟨1, _⟩ => ⟨S1024x2048, .bf16⟩
  | .local _ .vmem, ⟨2, _⟩ => ⟨S1x2048x256, .f32⟩
  | .local _ .vmem, ⟨3, _⟩ => ⟨S1x2048x256, .f32⟩
  | .local _ .vmem, ⟨4, _⟩ => ⟨S1x2048x256, .f32⟩
  | .local _ .vmem, ⟨5, _⟩ => ⟨S1x2048x256, .f32⟩
  | .local _ .vmem, ⟨6, _⟩ => ⟨S1x256x2048, .f32⟩
  | .local _ .vmem, ⟨7, _⟩ => ⟨S1x256x2048, .f32⟩
  | .local _ .vmem, ⟨8, _⟩ => ⟨S1x1x256, .f32⟩
  | .local _ .vmem, ⟨9, _⟩ => ⟨S1x1x256, .f32⟩
  | .local _ .vmem, ⟨10, _⟩ => ⟨S1x1x256, .f32⟩
  | .local _ .vmem, ⟨11, _⟩ => ⟨S1x1x256, .f32⟩
  | .local _ .vmem, ⟨12, _⟩ => ⟨S1x1x2048, .f32⟩
  | .local _ .vmem, ⟨13, _⟩ => ⟨S1x1x2048, .f32⟩
  | .local _ .vmem, ⟨14, _⟩ => ⟨S1024x2048, .f32⟩
  | .local _ .vmem, ⟨15, _⟩ => ⟨S1024x2048, .f32⟩
  | .local _ .vmem, ⟨16, _⟩ => ⟨S2048x256, .bf16⟩
  | .local _ .vmem, ⟨17, _⟩ => ⟨S2048x256, .bf16⟩
  | .local _ .vmem, ⟨18, _⟩ => ⟨S256x2048, .bf16⟩
  | .local _ .smem, ⟨0, _⟩ => ⟨S72, .i32⟩
  | .local _ .smem, ⟨1, _⟩ => ⟨S72, .i32⟩
  | .local _ .smem, ⟨2, _⟩ => ⟨S72, .i32⟩
  | _, _ => ⟨S10240x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_c_0 : Ref sig .tc := ⟨.hbm, 16, rfl⟩
abbrev main_v4 : Ref sig .tc := ⟨.hbm, 17, rfl⟩
abbrev main_v5 : Ref sig .tc := ⟨.hbm, 18, rfl⟩
abbrev main_c_1 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_c : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_0 : Ref sig .tc := ⟨.hbm, 33, rfl⟩
abbrev main_call0_v12 : Ref sig .tc := ⟨.hbm, 34, rfl⟩
abbrev main_call0_v13 : Ref sig .tc := ⟨.hbm, 35, rfl⟩
abbrev main_v6 : Ref sig .tc := ⟨.hbm, 36, rfl⟩
abbrev main_c_2 : Ref sig .tc := ⟨.hbm, 37, rfl⟩
abbrev main_v7 : Ref sig .tc := ⟨.hbm, 38, rfl⟩
abbrev main_v8 : Ref sig .tc := ⟨.hbm, 39, rfl⟩
abbrev main_call1_call0_c : Ref sig .tc := ⟨.hbm, 40, rfl⟩
abbrev main_call1_call0_v0 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_c_3 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_c_4 : Ref sig .tc := ⟨.hbm, 50, rfl⟩
abbrev main_call2_v0 : Ref sig .tc := ⟨.hbm, 51, rfl⟩
abbrev main_call2_v1 : Ref sig .tc := ⟨.hbm, 52, rfl⟩
abbrev main_call2_v2 : Ref sig .tc := ⟨.hbm, 53, rfl⟩
abbrev main_call2_v3 : Ref sig .tc := ⟨.hbm, 54, rfl⟩
abbrev main_call2_v4 : Ref sig .tc := ⟨.hbm, 55, rfl⟩
abbrev main_call2_v5 : Ref sig .tc := ⟨.hbm, 56, rfl⟩
abbrev main_call2_c : Ref sig .tc := ⟨.hbm, 57, rfl⟩
abbrev main_call2_v6 : Ref sig .tc := ⟨.hbm, 58, rfl⟩
abbrev main_call2_v7 : Ref sig .tc := ⟨.hbm, 59, rfl⟩
abbrev main_call2_c_0 : Ref sig .tc := ⟨.hbm, 60, rfl⟩
abbrev main_call2_v8 : Ref sig .tc := ⟨.hbm, 61, rfl⟩
abbrev main_v16 : Ref sig .tc := ⟨.hbm, 62, rfl⟩
abbrev main_v17 : Ref sig .tc := ⟨.hbm, 63, rfl⟩
abbrev main_v18 : Ref sig .tc := ⟨.hbm, 64, rfl⟩
abbrev main_v19 : Ref sig .tc := ⟨.hbm, 65, rfl⟩
abbrev main_v20 : Ref sig .tc := ⟨.hbm, 66, rfl⟩
abbrev main_v21 : Ref sig .tc := ⟨.hbm, 67, rfl⟩
abbrev main_v22 : Ref sig .tc := ⟨.hbm, 68, rfl⟩
abbrev main_c_5 : Ref sig .tc := ⟨.hbm, 69, rfl⟩
abbrev main_v23 : Ref sig .tc := ⟨.hbm, 70, rfl⟩
abbrev main_c_6 : Ref sig .tc := ⟨.hbm, 71, rfl⟩
abbrev main_v24 : Ref sig .tc := ⟨.hbm, 72, rfl⟩
abbrev main_v25 : Ref sig .tc := ⟨.hbm, 73, rfl⟩
abbrev main_c_7 : Ref sig .tc := ⟨.hbm, 74, rfl⟩
abbrev main_v26 : Ref sig .tc := ⟨.hbm, 75, rfl⟩
abbrev main_v27 : Ref sig .tc := ⟨.hbm, 76, rfl⟩
abbrev main_c_8 : Ref sig .tc := ⟨.hbm, 77, rfl⟩
abbrev main_v28 : Ref sig .tc := ⟨.hbm, 78, rfl⟩
abbrev main_v29 : Ref sig .tc := ⟨.hbm, 79, rfl⟩
abbrev main_v30 : Ref sig .tc := ⟨.hbm, 80, rfl⟩
abbrev main_v31 : Ref sig .tc := ⟨.hbm, 81, rfl⟩
abbrev main_v32 : Ref sig .tc := ⟨.hbm, 82, rfl⟩
abbrev main_c_9 : Ref sig .tc := ⟨.hbm, 83, rfl⟩
abbrev main_v33 : Ref sig .tc := ⟨.hbm, 84, rfl⟩
abbrev main_v34 : Ref sig .tc := ⟨.hbm, 85, rfl⟩
abbrev main_c_10 : Ref sig .tc := ⟨.hbm, 86, rfl⟩
abbrev main_v35 : Ref sig .tc := ⟨.hbm, 87, rfl⟩
abbrev main_v36 : Ref sig .tc := ⟨.hbm, 88, rfl⟩
abbrev main_v37 : Ref sig .tc := ⟨.hbm, 89, rfl⟩
abbrev main_v38 : Ref sig .tc := ⟨.hbm, 90, rfl⟩
abbrev main_v39 : Ref sig .tc := ⟨.hbm, 91, rfl⟩
abbrev main_v40 : Ref sig .tc := ⟨.hbm, 92, rfl⟩
abbrev main_v41 : Ref sig .tc := ⟨.hbm, 93, rfl⟩
abbrev main_c_11 : Ref sig .tc := ⟨.hbm, 94, rfl⟩
abbrev main_c_12 : Ref sig .tc := ⟨.hbm, 95, rfl⟩
abbrev main_call3_v0 : Ref sig .tc := ⟨.hbm, 96, rfl⟩
abbrev main_call3_v1 : Ref sig .tc := ⟨.hbm, 97, rfl⟩
abbrev main_call3_v2 : Ref sig .tc := ⟨.hbm, 98, rfl⟩
abbrev main_call3_v3 : Ref sig .tc := ⟨.hbm, 99, rfl⟩
abbrev main_call3_v4 : Ref sig .tc := ⟨.hbm, 100, rfl⟩
abbrev main_v42 : Ref sig .tc := ⟨.hbm, 101, rfl⟩
abbrev main_v43 : Ref sig .tc := ⟨.hbm, 102, rfl⟩
abbrev main_v44 : Ref sig .tc := ⟨.hbm, 103, rfl⟩
abbrev main_v45 : Ref sig .tc := ⟨.hbm, 104, rfl⟩
abbrev main_v46 : Ref sig .tc := ⟨.hbm, 105, rfl⟩
abbrev main_c_13 : Ref sig .tc := ⟨.hbm, 106, rfl⟩
abbrev main_call4_v0 : Ref sig .tc := ⟨.hbm, 107, rfl⟩
abbrev main_call4_v1 : Ref sig .tc := ⟨.hbm, 108, rfl⟩
abbrev main_c_14 : Ref sig .tc := ⟨.hbm, 109, rfl⟩
abbrev main_v48 : Ref sig .tc := ⟨.hbm, 110, rfl⟩
abbrev main_c_15 : Ref sig .tc := ⟨.hbm, 111, rfl⟩
abbrev main_v49 : Ref sig .tc := ⟨.hbm, 112, rfl⟩
abbrev main_v50 : Ref sig .tc := ⟨.hbm, 113, rfl⟩
abbrev main_v51 : Ref sig .tc := ⟨.hbm, 114, rfl⟩
abbrev main_v53 : Ref sig .tc := ⟨.hbm, 115, rfl⟩
abbrev main_v54 : Ref sig .tc := ⟨.hbm, 116, rfl⟩
abbrev main_v55 : Ref sig .tc := ⟨.hbm, 117, rfl⟩
abbrev main_v56 : Ref sig .tc := ⟨.hbm, 118, rfl⟩
abbrev main_c_16 : Ref sig .tc := ⟨.hbm, 119, rfl⟩
abbrev main_v57 : Ref sig .tc := ⟨.hbm, 120, rfl⟩
abbrev main_c_17 : Ref sig .tc := ⟨.hbm, 121, rfl⟩
abbrev main_v58 : Ref sig .tc := ⟨.hbm, 122, rfl⟩
abbrev main_v59 : Ref sig .tc := ⟨.hbm, 123, rfl⟩
abbrev main_v60 : Ref sig .tc := ⟨.hbm, 124, rfl⟩
abbrev main_v61 : Ref sig .tc := ⟨.hbm, 125, rfl⟩
abbrev main_call5_v0 : Ref sig .tc := ⟨.hbm, 126, rfl⟩
abbrev main_c_18 : Ref sig .tc := ⟨.hbm, 127, rfl⟩
abbrev main_v63 : Ref sig .tc := ⟨.hbm, 128, rfl⟩
abbrev main_v64 : Ref sig .tc := ⟨.hbm, 129, rfl⟩
abbrev main_c_19 : Ref sig .tc := ⟨.hbm, 130, rfl⟩
abbrev main_v65 : Ref sig .tc := ⟨.hbm, 131, rfl⟩
abbrev main_v66 : Ref sig .tc := ⟨.hbm, 132, rfl⟩
abbrev main_v67 : Ref sig .tc := ⟨.hbm, 133, rfl⟩
abbrev main_v68 : Ref sig .tc := ⟨.hbm, 134, rfl⟩
abbrev main_v69 : Ref sig .tc := ⟨.hbm, 135, rfl⟩
abbrev main_v70 : Ref sig .tc := ⟨.hbm, 136, rfl⟩
abbrev main_v71 : Ref sig .tc := ⟨.hbm, 137, rfl⟩
abbrev main_v72 : Ref sig .tc := ⟨.hbm, 138, rfl⟩
abbrev main_v73 : Ref sig .tc := ⟨.hbm, 139, rfl⟩
abbrev main_c_20 : Ref sig .tc := ⟨.hbm, 140, rfl⟩
abbrev main_v74 : Ref sig .tc := ⟨.hbm, 141, rfl⟩
abbrev main_v75 : Ref sig .tc := ⟨.hbm, 142, rfl⟩
abbrev main_v76 : Ref sig .tc := ⟨.hbm, 143, rfl⟩
abbrev main_c_21 : Ref sig .tc := ⟨.hbm, 144, rfl⟩
abbrev main_v77 : Ref sig .tc := ⟨.hbm, 145, rfl⟩
abbrev main_v78 : Ref sig .tc := ⟨.hbm, 146, rfl⟩
abbrev main_c_22 : Ref sig .tc := ⟨.hbm, 147, rfl⟩
abbrev main_v79 : Ref sig .tc := ⟨.hbm, 148, rfl⟩
abbrev main_v80 : Ref sig .tc := ⟨.hbm, 149, rfl⟩
abbrev main_v81 : Ref sig .tc := ⟨.hbm, 150, rfl⟩
abbrev main_v82 : Ref sig .tc := ⟨.hbm, 151, rfl⟩
abbrev main_v83 : Ref sig .tc := ⟨.hbm, 152, rfl⟩
abbrev main_call6_c : Ref sig .tc := ⟨.hbm, 153, rfl⟩
abbrev main_call6_v0 : Ref sig .tc := ⟨.hbm, 154, rfl⟩
abbrev main_call6_v1 : Ref sig .tc := ⟨.hbm, 155, rfl⟩
abbrev main_call6_c_0 : Ref sig .tc := ⟨.hbm, 156, rfl⟩
abbrev main_call6_v2 : Ref sig .tc := ⟨.hbm, 157, rfl⟩
abbrev main_call6_v3 : Ref sig .tc := ⟨.hbm, 158, rfl⟩
abbrev main_call6_v4 : Ref sig .tc := ⟨.hbm, 159, rfl⟩
abbrev main_call6_v5 : Ref sig .tc := ⟨.hbm, 160, rfl⟩
abbrev main_call6_c_1 : Ref sig .tc := ⟨.hbm, 161, rfl⟩
abbrev main_call6_c_2 : Ref sig .tc := ⟨.hbm, 162, rfl⟩
abbrev main_call6_v6 : Ref sig .tc := ⟨.hbm, 163, rfl⟩
abbrev main_call6_v7 : Ref sig .tc := ⟨.hbm, 164, rfl⟩
abbrev main_call6_v8 : Ref sig .tc := ⟨.hbm, 165, rfl⟩
abbrev main_call6_v9 : Ref sig .tc := ⟨.hbm, 166, rfl⟩
abbrev main_call6_v10 : Ref sig .tc := ⟨.hbm, 167, rfl⟩
abbrev main_call6_v11 : Ref sig .tc := ⟨.hbm, 168, rfl⟩
abbrev main_call6_c_3 : Ref sig .tc := ⟨.hbm, 169, rfl⟩
abbrev main_call6_v12 : Ref sig .tc := ⟨.hbm, 170, rfl⟩
abbrev main_call6_v13 : Ref sig .tc := ⟨.hbm, 171, rfl⟩
abbrev main_call6_v14 : Ref sig .tc := ⟨.hbm, 172, rfl⟩
abbrev main_call6_cst : Ref sig .tc := ⟨.hbm, 173, rfl⟩
abbrev main_call6_v15 : Ref sig .tc := ⟨.hbm, 174, rfl⟩
abbrev main_v84 : Ref sig .tc := ⟨.hbm, 175, rfl⟩
abbrev main_v85 : Ref sig .tc := ⟨.hbm, 176, rfl⟩
abbrev main_v86 : Ref sig .tc := ⟨.hbm, 177, rfl⟩
abbrev main_v87 : Ref sig .tc := ⟨.hbm, 178, rfl⟩
abbrev main_v88 : Ref sig .tc := ⟨.hbm, 179, rfl⟩
abbrev main_v89 : Ref sig .tc := ⟨.hbm, 180, rfl⟩
abbrev main_call7_c : Ref sig .tc := ⟨.hbm, 181, rfl⟩
abbrev main_call7_v0 : Ref sig .tc := ⟨.hbm, 182, rfl⟩
abbrev main_call7_v1 : Ref sig .tc := ⟨.hbm, 183, rfl⟩
abbrev main_call7_c_0 : Ref sig .tc := ⟨.hbm, 184, rfl⟩
abbrev main_call7_v2 : Ref sig .tc := ⟨.hbm, 185, rfl⟩
abbrev main_call7_v3 : Ref sig .tc := ⟨.hbm, 186, rfl⟩
abbrev main_call7_v4 : Ref sig .tc := ⟨.hbm, 187, rfl⟩
abbrev main_call7_v5 : Ref sig .tc := ⟨.hbm, 188, rfl⟩
abbrev main_call7_c_1 : Ref sig .tc := ⟨.hbm, 189, rfl⟩
abbrev main_call7_c_2 : Ref sig .tc := ⟨.hbm, 190, rfl⟩
abbrev main_call7_v6 : Ref sig .tc := ⟨.hbm, 191, rfl⟩
abbrev main_call7_v7 : Ref sig .tc := ⟨.hbm, 192, rfl⟩
abbrev main_call7_v8 : Ref sig .tc := ⟨.hbm, 193, rfl⟩
abbrev main_call7_v9 : Ref sig .tc := ⟨.hbm, 194, rfl⟩
abbrev main_call7_v10 : Ref sig .tc := ⟨.hbm, 195, rfl⟩
abbrev main_call7_v11 : Ref sig .tc := ⟨.hbm, 196, rfl⟩
abbrev main_call7_c_3 : Ref sig .tc := ⟨.hbm, 197, rfl⟩
abbrev main_call7_v12 : Ref sig .tc := ⟨.hbm, 198, rfl⟩
abbrev main_call7_v13 : Ref sig .tc := ⟨.hbm, 199, rfl⟩
abbrev main_call7_v14 : Ref sig .tc := ⟨.hbm, 200, rfl⟩
abbrev main_call7_cst : Ref sig .tc := ⟨.hbm, 201, rfl⟩
abbrev main_call7_v15 : Ref sig .tc := ⟨.hbm, 202, rfl⟩
abbrev main_v90 : Ref sig .tc := ⟨.hbm, 203, rfl⟩
abbrev main_v91 : Ref sig .tc := ⟨.hbm, 204, rfl⟩
abbrev main_v92 : Ref sig .tc := ⟨.hbm, 205, rfl⟩
abbrev main_v93 : Ref sig .tc := ⟨.hbm, 206, rfl⟩
abbrev main_v94 : Ref sig .tc := ⟨.hbm, 207, rfl⟩
abbrev main_cst : Ref sig .tc := ⟨.hbm, 208, rfl⟩
abbrev main_v95 : Ref sig .tc := ⟨.hbm, 209, rfl⟩
abbrev main_v62 : Ref sig .tc := ⟨.smem, 0, rfl⟩
abbrev main_v47 : Ref sig .tc := ⟨.smem, 1, rfl⟩
abbrev main_v52 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![72, 8], ![false, false]⟩

abbrev pre0 : Pipeline.Prefetch sig := ⟨3, ![main_v62.idx, main_v47.idx, main_v52.idx], fun | 0 => main_v62.names | 1 => main_v47.names | 2 => main_v52.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
@[reducible] def k0_t1_loop (v1 : BitVec 32) : Scf.Loop 32 :=
  let c0_i32_23 : BitVec 32 := 0#32
  let c256_i32 : BitVec 32 := 256#32
  let v23 : BitVec 32 := Scalar.addi v1 c256_i32
  let c1_i32 : BitVec 32 := 1#32
  let v24 : BitVec 32 := Scalar.subi v23 c1_i32
  let c0_i32_16 : BitVec 32 := 0#32
  let v26 : BitVec 1 := Scalar.cmpi .sgt v24 c0_i32_16
  let v27 : BitVec 32 := Scalar.extui v26
  let c0_i32_17 : BitVec 32 := 0#32
  let v28 : BitVec 1 := Scalar.cmpi .slt v24 c0_i32_17
  let v29 : BitVec 32 := Scalar.extui v28
  let v30 : BitVec 32 := Scalar.subi v27 v29
  let c256_i32_15 : BitVec 32 := 256#32
  let c0_i32_18 : BitVec 32 := 0#32
  let v31 : BitVec 1 := Scalar.cmpi .sgt c256_i32_15 c0_i32_18
  let v32 : BitVec 32 := Scalar.extui v31
  let c0_i32_19 : BitVec 32 := 0#32
  let v33 : BitVec 1 := Scalar.cmpi .slt c256_i32_15 c0_i32_19
  let v34 : BitVec 32 := Scalar.extui v33
  let v35 : BitVec 32 := Scalar.subi v32 v34
  let v36 : BitVec 1 := Scalar.cmpi .ne v30 v35
  let v37 : BitVec 32 := Scalar.remsi v24 c256_i32_15
  let c0_i32_20 : BitVec 32 := 0#32
  let v38 : BitVec 1 := Scalar.cmpi .ne v37 c0_i32_20
  let v39 : BitVec 1 := Scalar.andi v36 v38
  let v25 : BitVec 32 := Scalar.divsi v24 c256_i32_15
  let c1_i32_21 : BitVec 32 := 1#32
  let v40 : BitVec 32 := Scalar.subi v25 c1_i32_21
  let v41 : BitVec 32 := Scalar.select v39 v40 v25
  let v42 : BitVec 32 := Scalar.subi v41 c0_i32_23
  let c1_i32_24 : BitVec 32 := 1#32
  let v44 : BitVec 32 := Scalar.divsi v42 c1_i32_24
  let v45 : BitVec 32 := Scalar.muli v44 c1_i32_24
  let v46 : BitVec 32 := Scalar.addi c0_i32_23 v45
  let c1_i32_25 : BitVec 32 := 1#32
  ⟨c0_i32_23, v46, c1_i32_25⟩
def k0_cond1 (v1 : BitVec 32) : BitVec 1 :=
  let c0_i32 : BitVec 32 := 0#32
  let v2 : BitVec 1 := Scalar.cmpi .sgt v1 c0_i32
  let v3 : BitVec 32 := Scalar.extui v2
  let c0_i32_0 : BitVec 32 := 0#32
  let v4 : BitVec 1 := Scalar.cmpi .ne v3 c0_i32_0
  v4

def k0_mult1 (v1 : BitVec 32) (k0_t1 : Fin (k0_t1_loop v1).trips) : BitVec 32 :=
  let c0_i32_23 : BitVec 32 := 0#32
  let c1_i32_25 : BitVec 32 := 1#32
  let arg16 : BitVec 32 := Scf.iv c0_i32_23 c1_i32_25 k0_t1
  let c256_i32_29 : BitVec 32 := 256#32
  let v50 : BitVec 32 := Scalar.muli arg16 c256_i32_29
  v50
def k0_off2 (v1 : BitVec 32) (k0_t1 : Fin (k0_t1_loop v1).trips) : Fin 2 → Nat :=
  let c0_i32_23 : BitVec 32 := 0#32
  let c1_i32_25 : BitVec 32 := 1#32
  let arg16 : BitVec 32 := Scf.iv c0_i32_23 c1_i32_25 k0_t1
  let c256_i32_29 : BitVec 32 := 256#32
  let v50 : BitVec 32 := Scalar.muli arg16 c256_i32_29
  let v51 : BitVec 32 := v50
  let v52 : Index := Scalar.indexCast v51
  let c0_30 : Index := 0#32
  ![v52.toNat, 0]
def k0_cond2 (i : grid0.Coords) : BitVec 1 :=
  let arg1 : BitVec 32 := BitVec.ofNat 32 (i 1).val
  let c0_i32_50 : BitVec 32 := 0#32
  let v83 : BitVec 1 := Scalar.cmpi .eq arg1 c0_i32_50
  let v84 : BitVec 32 := Scalar.extui v83
  let c0_i32_51 : BitVec 32 := 0#32
  let v85 : BitVec 1 := Scalar.cmpi .ne v84 c0_i32_51
  v85

def k0_off3 (v1 : BitVec 32) (k0_t1 : Fin (k0_t1_loop v1).trips) : Fin 2 → Nat :=
  let c0_i32_23 : BitVec 32 := 0#32
  let c1_i32_25 : BitVec 32 := 1#32
  let arg16 : BitVec 32 := Scf.iv c0_i32_23 c1_i32_25 k0_t1
  let c256_i32_29 : BitVec 32 := 256#32
  let v50 : BitVec 32 := Scalar.muli arg16 c256_i32_29
  let v51 : BitVec 32 := v50
  let v93 : Index := Scalar.indexCast v51
  let c0_57 : Index := 0#32
  ![v93.toNat, 0]
def k0_cond3 (i : grid0.Coords) : BitVec 1 :=
  let arg1 : BitVec 32 := BitVec.ofNat 32 (i 1).val
  let c0_i32_52 : BitVec 32 := 0#32
  let v86 : BitVec 1 := Scalar.cmpi .sgt arg1 c0_i32_52
  let v87 : BitVec 32 := Scalar.extui v86
  let c0_i32_53 : BitVec 32 := 0#32
  let v88 : BitVec 1 := Scalar.cmpi .ne v87 c0_i32_53
  v88

def k0_off4 (v1 : BitVec 32) (k0_t1 : Fin (k0_t1_loop v1).trips) : Fin 2 → Nat :=
  let c0_i32_23 : BitVec 32 := 0#32
  let c1_i32_25 : BitVec 32 := 1#32
  let arg16 : BitVec 32 := Scf.iv c0_i32_23 c1_i32_25 k0_t1
  let c256_i32_29 : BitVec 32 := 256#32
  let v50 : BitVec 32 := Scalar.muli arg16 c256_i32_29
  let v51 : BitVec 32 := v50
  let v89 : Index := Scalar.indexCast v51
  let c0_54 : Index := 0#32
  ![v89.toNat, 0]
@[reducible] def k0_t2_loop (v1 : BitVec 32) : Scf.Loop 32 :=
  let c0_i32_23 : BitVec 32 := 0#32
  let c256_i32 : BitVec 32 := 256#32
  let v23 : BitVec 32 := Scalar.addi v1 c256_i32
  let c1_i32 : BitVec 32 := 1#32
  let v24 : BitVec 32 := Scalar.subi v23 c1_i32
  let c0_i32_16 : BitVec 32 := 0#32
  let v26 : BitVec 1 := Scalar.cmpi .sgt v24 c0_i32_16
  let v27 : BitVec 32 := Scalar.extui v26
  let c0_i32_17 : BitVec 32 := 0#32
  let v28 : BitVec 1 := Scalar.cmpi .slt v24 c0_i32_17
  let v29 : BitVec 32 := Scalar.extui v28
  let v30 : BitVec 32 := Scalar.subi v27 v29
  let c256_i32_15 : BitVec 32 := 256#32
  let c0_i32_18 : BitVec 32 := 0#32
  let v31 : BitVec 1 := Scalar.cmpi .sgt c256_i32_15 c0_i32_18
  let v32 : BitVec 32 := Scalar.extui v31
  let c0_i32_19 : BitVec 32 := 0#32
  let v33 : BitVec 1 := Scalar.cmpi .slt c256_i32_15 c0_i32_19
  let v34 : BitVec 32 := Scalar.extui v33
  let v35 : BitVec 32 := Scalar.subi v32 v34
  let v36 : BitVec 1 := Scalar.cmpi .ne v30 v35
  let v37 : BitVec 32 := Scalar.remsi v24 c256_i32_15
  let c0_i32_20 : BitVec 32 := 0#32
  let v38 : BitVec 1 := Scalar.cmpi .ne v37 c0_i32_20
  let v39 : BitVec 1 := Scalar.andi v36 v38
  let v25 : BitVec 32 := Scalar.divsi v24 c256_i32_15
  let c1_i32_21 : BitVec 32 := 1#32
  let v40 : BitVec 32 := Scalar.subi v25 c1_i32_21
  let v41 : BitVec 32 := Scalar.select v39 v40 v25
  let v42 : BitVec 32 := Scalar.subi v41 c0_i32_23
  let c1_i32_24 : BitVec 32 := 1#32
  let v44 : BitVec 32 := Scalar.divsi v42 c1_i32_24
  let v45 : BitVec 32 := Scalar.muli v44 c1_i32_24
  let v46 : BitVec 32 := Scalar.addi c0_i32_23 v45
  let v43 : BitVec 32 := Scalar.addi c0_i32_23 v42
  let c1_i32_26 : BitVec 32 := 1#32
  ⟨v46, v43, c1_i32_26⟩
def k0_mult2 (v1 : BitVec 32) (k0_t2 : Fin (k0_t2_loop v1).trips) : BitVec 32 :=
  let c0_i32_23 : BitVec 32 := 0#32
  let c256_i32 : BitVec 32 := 256#32
  let v23 : BitVec 32 := Scalar.addi v1 c256_i32
  let c1_i32 : BitVec 32 := 1#32
  let v24 : BitVec 32 := Scalar.subi v23 c1_i32
  let c0_i32_16 : BitVec 32 := 0#32
  let v26 : BitVec 1 := Scalar.cmpi .sgt v24 c0_i32_16
  let v27 : BitVec 32 := Scalar.extui v26
  let c0_i32_17 : BitVec 32 := 0#32
  let v28 : BitVec 1 := Scalar.cmpi .slt v24 c0_i32_17
  let v29 : BitVec 32 := Scalar.extui v28
  let v30 : BitVec 32 := Scalar.subi v27 v29
  let c256_i32_15 : BitVec 32 := 256#32
  let c0_i32_18 : BitVec 32 := 0#32
  let v31 : BitVec 1 := Scalar.cmpi .sgt c256_i32_15 c0_i32_18
  let v32 : BitVec 32 := Scalar.extui v31
  let c0_i32_19 : BitVec 32 := 0#32
  let v33 : BitVec 1 := Scalar.cmpi .slt c256_i32_15 c0_i32_19
  let v34 : BitVec 32 := Scalar.extui v33
  let v35 : BitVec 32 := Scalar.subi v32 v34
  let v36 : BitVec 1 := Scalar.cmpi .ne v30 v35
  let v37 : BitVec 32 := Scalar.remsi v24 c256_i32_15
  let c0_i32_20 : BitVec 32 := 0#32
  let v38 : BitVec 1 := Scalar.cmpi .ne v37 c0_i32_20
  let v39 : BitVec 1 := Scalar.andi v36 v38
  let v25 : BitVec 32 := Scalar.divsi v24 c256_i32_15
  let c1_i32_21 : BitVec 32 := 1#32
  let v40 : BitVec 32 := Scalar.subi v25 c1_i32_21
  let v41 : BitVec 32 := Scalar.select v39 v40 v25
  let v42 : BitVec 32 := Scalar.subi v41 c0_i32_23
  let c1_i32_24 : BitVec 32 := 1#32
  let v44 : BitVec 32 := Scalar.divsi v42 c1_i32_24
  let v45 : BitVec 32 := Scalar.muli v44 c1_i32_24
  let v46 : BitVec 32 := Scalar.addi c0_i32_23 v45
  let c1_i32_26 : BitVec 32 := 1#32
  let arg16 : BitVec 32 := Scf.iv v46 c1_i32_26 k0_t2
  let c256_i32_29 : BitVec 32 := 256#32
  let v50 : BitVec 32 := Scalar.muli arg16 c256_i32_29
  v50
def k0_off5 (v1 : BitVec 32) (k0_t2 : Fin (k0_t2_loop v1).trips) : Fin 2 → Nat :=
  let c0_i32_23 : BitVec 32 := 0#32
  let c256_i32 : BitVec 32 := 256#32
  let v23 : BitVec 32 := Scalar.addi v1 c256_i32
  let c1_i32 : BitVec 32 := 1#32
  let v24 : BitVec 32 := Scalar.subi v23 c1_i32
  let c0_i32_16 : BitVec 32 := 0#32
  let v26 : BitVec 1 := Scalar.cmpi .sgt v24 c0_i32_16
  let v27 : BitVec 32 := Scalar.extui v26
  let c0_i32_17 : BitVec 32 := 0#32
  let v28 : BitVec 1 := Scalar.cmpi .slt v24 c0_i32_17
  let v29 : BitVec 32 := Scalar.extui v28
  let v30 : BitVec 32 := Scalar.subi v27 v29
  let c256_i32_15 : BitVec 32 := 256#32
  let c0_i32_18 : BitVec 32 := 0#32
  let v31 : BitVec 1 := Scalar.cmpi .sgt c256_i32_15 c0_i32_18
  let v32 : BitVec 32 := Scalar.extui v31
  let c0_i32_19 : BitVec 32 := 0#32
  let v33 : BitVec 1 := Scalar.cmpi .slt c256_i32_15 c0_i32_19
  let v34 : BitVec 32 := Scalar.extui v33
  let v35 : BitVec 32 := Scalar.subi v32 v34
  let v36 : BitVec 1 := Scalar.cmpi .ne v30 v35
  let v37 : BitVec 32 := Scalar.remsi v24 c256_i32_15
  let c0_i32_20 : BitVec 32 := 0#32
  let v38 : BitVec 1 := Scalar.cmpi .ne v37 c0_i32_20
  let v39 : BitVec 1 := Scalar.andi v36 v38
  let v25 : BitVec 32 := Scalar.divsi v24 c256_i32_15
  let c1_i32_21 : BitVec 32 := 1#32
  let v40 : BitVec 32 := Scalar.subi v25 c1_i32_21
  let v41 : BitVec 32 := Scalar.select v39 v40 v25
  let v42 : BitVec 32 := Scalar.subi v41 c0_i32_23
  let c1_i32_24 : BitVec 32 := 1#32
  let v44 : BitVec 32 := Scalar.divsi v42 c1_i32_24
  let v45 : BitVec 32 := Scalar.muli v44 c1_i32_24
  let v46 : BitVec 32 := Scalar.addi c0_i32_23 v45
  let c1_i32_26 : BitVec 32 := 1#32
  let arg16 : BitVec 32 := Scf.iv v46 c1_i32_26 k0_t2
  let c256_i32_29 : BitVec 32 := 256#32
  let v50 : BitVec 32 := Scalar.muli arg16 c256_i32_29
  let v51 : BitVec 32 := v50
  let v52 : Index := Scalar.indexCast v51
  let c0_30 : Index := 0#32
  ![v52.toNat, 0]
def k0_cond4 (i : grid0.Coords) : BitVec 1 :=
  let arg1 : BitVec 32 := BitVec.ofNat 32 (i 1).val
  let c0_i32_50 : BitVec 32 := 0#32
  let v83 : BitVec 1 := Scalar.cmpi .eq arg1 c0_i32_50
  let v84 : BitVec 32 := Scalar.extui v83
  let c0_i32_51 : BitVec 32 := 0#32
  let v85 : BitVec 1 := Scalar.cmpi .ne v84 c0_i32_51
  v85

def k0_off6 (v1 : BitVec 32) (k0_t2 : Fin (k0_t2_loop v1).trips) : Fin 2 → Nat :=
  let c0_i32_23 : BitVec 32 := 0#32
  let c256_i32 : BitVec 32 := 256#32
  let v23 : BitVec 32 := Scalar.addi v1 c256_i32
  let c1_i32 : BitVec 32 := 1#32
  let v24 : BitVec 32 := Scalar.subi v23 c1_i32
  let c0_i32_16 : BitVec 32 := 0#32
  let v26 : BitVec 1 := Scalar.cmpi .sgt v24 c0_i32_16
  let v27 : BitVec 32 := Scalar.extui v26
  let c0_i32_17 : BitVec 32 := 0#32
  let v28 : BitVec 1 := Scalar.cmpi .slt v24 c0_i32_17
  let v29 : BitVec 32 := Scalar.extui v28
  let v30 : BitVec 32 := Scalar.subi v27 v29
  let c256_i32_15 : BitVec 32 := 256#32
  let c0_i32_18 : BitVec 32 := 0#32
  let v31 : BitVec 1 := Scalar.cmpi .sgt c256_i32_15 c0_i32_18
  let v32 : BitVec 32 := Scalar.extui v31
  let c0_i32_19 : BitVec 32 := 0#32
  let v33 : BitVec 1 := Scalar.cmpi .slt c256_i32_15 c0_i32_19
  let v34 : BitVec 32 := Scalar.extui v33
  let v35 : BitVec 32 := Scalar.subi v32 v34
  let v36 : BitVec 1 := Scalar.cmpi .ne v30 v35
  let v37 : BitVec 32 := Scalar.remsi v24 c256_i32_15
  let c0_i32_20 : BitVec 32 := 0#32
  let v38 : BitVec 1 := Scalar.cmpi .ne v37 c0_i32_20
  let v39 : BitVec 1 := Scalar.andi v36 v38
  let v25 : BitVec 32 := Scalar.divsi v24 c256_i32_15
  let c1_i32_21 : BitVec 32 := 1#32
  let v40 : BitVec 32 := Scalar.subi v25 c1_i32_21
  let v41 : BitVec 32 := Scalar.select v39 v40 v25
  let v42 : BitVec 32 := Scalar.subi v41 c0_i32_23
  let c1_i32_24 : BitVec 32 := 1#32
  let v44 : BitVec 32 := Scalar.divsi v42 c1_i32_24
  let v45 : BitVec 32 := Scalar.muli v44 c1_i32_24
  let v46 : BitVec 32 := Scalar.addi c0_i32_23 v45
  let c1_i32_26 : BitVec 32 := 1#32
  let arg16 : BitVec 32 := Scf.iv v46 c1_i32_26 k0_t2
  let c256_i32_29 : BitVec 32 := 256#32
  let v50 : BitVec 32 := Scalar.muli arg16 c256_i32_29
  let v51 : BitVec 32 := v50
  let v93 : Index := Scalar.indexCast v51
  let c0_57 : Index := 0#32
  ![v93.toNat, 0]
def k0_cond5 (i : grid0.Coords) : BitVec 1 :=
  let arg1 : BitVec 32 := BitVec.ofNat 32 (i 1).val
  let c0_i32_52 : BitVec 32 := 0#32
  let v86 : BitVec 1 := Scalar.cmpi .sgt arg1 c0_i32_52
  let v87 : BitVec 32 := Scalar.extui v86
  let c0_i32_53 : BitVec 32 := 0#32
  let v88 : BitVec 1 := Scalar.cmpi .ne v87 c0_i32_53
  v88

def k0_off7 (v1 : BitVec 32) (k0_t2 : Fin (k0_t2_loop v1).trips) : Fin 2 → Nat :=
  let c0_i32_23 : BitVec 32 := 0#32
  let c256_i32 : BitVec 32 := 256#32
  let v23 : BitVec 32 := Scalar.addi v1 c256_i32
  let c1_i32 : BitVec 32 := 1#32
  let v24 : BitVec 32 := Scalar.subi v23 c1_i32
  let c0_i32_16 : BitVec 32 := 0#32
  let v26 : BitVec 1 := Scalar.cmpi .sgt v24 c0_i32_16
  let v27 : BitVec 32 := Scalar.extui v26
  let c0_i32_17 : BitVec 32 := 0#32
  let v28 : BitVec 1 := Scalar.cmpi .slt v24 c0_i32_17
  let v29 : BitVec 32 := Scalar.extui v28
  let v30 : BitVec 32 := Scalar.subi v27 v29
  let c256_i32_15 : BitVec 32 := 256#32
  let c0_i32_18 : BitVec 32 := 0#32
  let v31 : BitVec 1 := Scalar.cmpi .sgt c256_i32_15 c0_i32_18
  let v32 : BitVec 32 := Scalar.extui v31
  let c0_i32_19 : BitVec 32 := 0#32
  let v33 : BitVec 1 := Scalar.cmpi .slt c256_i32_15 c0_i32_19
  let v34 : BitVec 32 := Scalar.extui v33
  let v35 : BitVec 32 := Scalar.subi v32 v34
  let v36 : BitVec 1 := Scalar.cmpi .ne v30 v35
  let v37 : BitVec 32 := Scalar.remsi v24 c256_i32_15
  let c0_i32_20 : BitVec 32 := 0#32
  let v38 : BitVec 1 := Scalar.cmpi .ne v37 c0_i32_20
  let v39 : BitVec 1 := Scalar.andi v36 v38
  let v25 : BitVec 32 := Scalar.divsi v24 c256_i32_15
  let c1_i32_21 : BitVec 32 := 1#32
  let v40 : BitVec 32 := Scalar.subi v25 c1_i32_21
  let v41 : BitVec 32 := Scalar.select v39 v40 v25
  let v42 : BitVec 32 := Scalar.subi v41 c0_i32_23
  let c1_i32_24 : BitVec 32 := 1#32
  let v44 : BitVec 32 := Scalar.divsi v42 c1_i32_24
  let v45 : BitVec 32 := Scalar.muli v44 c1_i32_24
  let v46 : BitVec 32 := Scalar.addi c0_i32_23 v45
  let c1_i32_26 : BitVec 32 := 1#32
  let arg16 : BitVec 32 := Scf.iv v46 c1_i32_26 k0_t2
  let c256_i32_29 : BitVec 32 := 256#32
  let v50 : BitVec 32 := Scalar.muli arg16 c256_i32_29
  let v51 : BitVec 32 := v50
  let v89 : Index := Scalar.indexCast v51
  let c0_54 : Index := 0#32
  ![v89.toNat, 0]
def k0_cond6 (i : grid0.Coords) : BitVec 1 :=
  let arg1 : BitVec 32 := BitVec.ofNat 32 (i 1).val
  let c0_i32_27 : BitVec 32 := 0#32
  let v47 : BitVec 1 := Scalar.cmpi .eq arg1 c0_i32_27
  let v48 : BitVec 32 := Scalar.extui v47
  let c0_i32_28 : BitVec 32 := 0#32
  let v49 : BitVec 1 := Scalar.cmpi .ne v48 c0_i32_28
  v49

@[reducible] def k0_t3_loop (v1 : BitVec 32) : Scf.Loop 32 :=
  let c256_i32 : BitVec 32 := 256#32
  let v23 : BitVec 32 := Scalar.addi v1 c256_i32
  let c1_i32 : BitVec 32 := 1#32
  let v24 : BitVec 32 := Scalar.subi v23 c1_i32
  let c0_i32_16 : BitVec 32 := 0#32
  let v26 : BitVec 1 := Scalar.cmpi .sgt v24 c0_i32_16
  let v27 : BitVec 32 := Scalar.extui v26
  let c0_i32_17 : BitVec 32 := 0#32
  let v28 : BitVec 1 := Scalar.cmpi .slt v24 c0_i32_17
  let v29 : BitVec 32 := Scalar.extui v28
  let v30 : BitVec 32 := Scalar.subi v27 v29
  let c256_i32_15 : BitVec 32 := 256#32
  let c0_i32_18 : BitVec 32 := 0#32
  let v31 : BitVec 1 := Scalar.cmpi .sgt c256_i32_15 c0_i32_18
  let v32 : BitVec 32 := Scalar.extui v31
  let c0_i32_19 : BitVec 32 := 0#32
  let v33 : BitVec 1 := Scalar.cmpi .slt c256_i32_15 c0_i32_19
  let v34 : BitVec 32 := Scalar.extui v33
  let v35 : BitVec 32 := Scalar.subi v32 v34
  let v36 : BitVec 1 := Scalar.cmpi .ne v30 v35
  let v37 : BitVec 32 := Scalar.remsi v24 c256_i32_15
  let c0_i32_20 : BitVec 32 := 0#32
  let v38 : BitVec 1 := Scalar.cmpi .ne v37 c0_i32_20
  let v39 : BitVec 1 := Scalar.andi v36 v38
  let v25 : BitVec 32 := Scalar.divsi v24 c256_i32_15
  let c1_i32_21 : BitVec 32 := 1#32
  let v40 : BitVec 32 := Scalar.subi v25 c1_i32_21
  let v41 : BitVec 32 := Scalar.select v39 v40 v25
  let c4_i32 : BitVec 32 := 4#32
  let v50 : BitVec 32 := Scalar.subi c4_i32 v41
  let c1_i32_30 : BitVec 32 := 1#32
  let v52 : BitVec 32 := Scalar.divsi v50 c1_i32_30
  let v53 : BitVec 32 := Scalar.muli v52 c1_i32_30
  let v54 : BitVec 32 := Scalar.addi v41 v53
  let c1_i32_31 : BitVec 32 := 1#32
  ⟨v41, v54, c1_i32_31⟩
def k0_mult3 (v1 : BitVec 32) (k0_t3 : Fin (k0_t3_loop v1).trips) : BitVec 32 :=
  let c256_i32 : BitVec 32 := 256#32
  let v23 : BitVec 32 := Scalar.addi v1 c256_i32
  let c1_i32 : BitVec 32 := 1#32
  let v24 : BitVec 32 := Scalar.subi v23 c1_i32
  let c0_i32_16 : BitVec 32 := 0#32
  let v26 : BitVec 1 := Scalar.cmpi .sgt v24 c0_i32_16
  let v27 : BitVec 32 := Scalar.extui v26
  let c0_i32_17 : BitVec 32 := 0#32
  let v28 : BitVec 1 := Scalar.cmpi .slt v24 c0_i32_17
  let v29 : BitVec 32 := Scalar.extui v28
  let v30 : BitVec 32 := Scalar.subi v27 v29
  let c256_i32_15 : BitVec 32 := 256#32
  let c0_i32_18 : BitVec 32 := 0#32
  let v31 : BitVec 1 := Scalar.cmpi .sgt c256_i32_15 c0_i32_18
  let v32 : BitVec 32 := Scalar.extui v31
  let c0_i32_19 : BitVec 32 := 0#32
  let v33 : BitVec 1 := Scalar.cmpi .slt c256_i32_15 c0_i32_19
  let v34 : BitVec 32 := Scalar.extui v33
  let v35 : BitVec 32 := Scalar.subi v32 v34
  let v36 : BitVec 1 := Scalar.cmpi .ne v30 v35
  let v37 : BitVec 32 := Scalar.remsi v24 c256_i32_15
  let c0_i32_20 : BitVec 32 := 0#32
  let v38 : BitVec 1 := Scalar.cmpi .ne v37 c0_i32_20
  let v39 : BitVec 1 := Scalar.andi v36 v38
  let v25 : BitVec 32 := Scalar.divsi v24 c256_i32_15
  let c1_i32_21 : BitVec 32 := 1#32
  let v40 : BitVec 32 := Scalar.subi v25 c1_i32_21
  let v41 : BitVec 32 := Scalar.select v39 v40 v25
  let c1_i32_31 : BitVec 32 := 1#32
  let arg16 : BitVec 32 := Scf.iv v41 c1_i32_31 k0_t3
  let c256_i32_33 : BitVec 32 := 256#32
  let v55 : BitVec 32 := Scalar.muli arg16 c256_i32_33
  v55
def k0_off8 (v1 : BitVec 32) (k0_t3 : Fin (k0_t3_loop v1).trips) : Fin 2 → Nat :=
  let c256_i32 : BitVec 32 := 256#32
  let v23 : BitVec 32 := Scalar.addi v1 c256_i32
  let c1_i32 : BitVec 32 := 1#32
  let v24 : BitVec 32 := Scalar.subi v23 c1_i32
  let c0_i32_16 : BitVec 32 := 0#32
  let v26 : BitVec 1 := Scalar.cmpi .sgt v24 c0_i32_16
  let v27 : BitVec 32 := Scalar.extui v26
  let c0_i32_17 : BitVec 32 := 0#32
  let v28 : BitVec 1 := Scalar.cmpi .slt v24 c0_i32_17
  let v29 : BitVec 32 := Scalar.extui v28
  let v30 : BitVec 32 := Scalar.subi v27 v29
  let c256_i32_15 : BitVec 32 := 256#32
  let c0_i32_18 : BitVec 32 := 0#32
  let v31 : BitVec 1 := Scalar.cmpi .sgt c256_i32_15 c0_i32_18
  let v32 : BitVec 32 := Scalar.extui v31
  let c0_i32_19 : BitVec 32 := 0#32
  let v33 : BitVec 1 := Scalar.cmpi .slt c256_i32_15 c0_i32_19
  let v34 : BitVec 32 := Scalar.extui v33
  let v35 : BitVec 32 := Scalar.subi v32 v34
  let v36 : BitVec 1 := Scalar.cmpi .ne v30 v35
  let v37 : BitVec 32 := Scalar.remsi v24 c256_i32_15
  let c0_i32_20 : BitVec 32 := 0#32
  let v38 : BitVec 1 := Scalar.cmpi .ne v37 c0_i32_20
  let v39 : BitVec 1 := Scalar.andi v36 v38
  let v25 : BitVec 32 := Scalar.divsi v24 c256_i32_15
  let c1_i32_21 : BitVec 32 := 1#32
  let v40 : BitVec 32 := Scalar.subi v25 c1_i32_21
  let v41 : BitVec 32 := Scalar.select v39 v40 v25
  let c1_i32_31 : BitVec 32 := 1#32
  let arg16 : BitVec 32 := Scf.iv v41 c1_i32_31 k0_t3
  let c256_i32_33 : BitVec 32 := 256#32
  let v55 : BitVec 32 := Scalar.muli arg16 c256_i32_33
  let v56 : BitVec 32 := v55
  let v58 : Index := Scalar.indexCast v56
  let c0_34 : Index := 0#32
  ![v58.toNat, 0]
@[reducible] def k0_t4_loop (v1 : BitVec 32) : Scf.Loop 32 :=
  let c256_i32 : BitVec 32 := 256#32
  let v23 : BitVec 32 := Scalar.addi v1 c256_i32
  let c1_i32 : BitVec 32 := 1#32
  let v24 : BitVec 32 := Scalar.subi v23 c1_i32
  let c0_i32_16 : BitVec 32 := 0#32
  let v26 : BitVec 1 := Scalar.cmpi .sgt v24 c0_i32_16
  let v27 : BitVec 32 := Scalar.extui v26
  let c0_i32_17 : BitVec 32 := 0#32
  let v28 : BitVec 1 := Scalar.cmpi .slt v24 c0_i32_17
  let v29 : BitVec 32 := Scalar.extui v28
  let v30 : BitVec 32 := Scalar.subi v27 v29
  let c256_i32_15 : BitVec 32 := 256#32
  let c0_i32_18 : BitVec 32 := 0#32
  let v31 : BitVec 1 := Scalar.cmpi .sgt c256_i32_15 c0_i32_18
  let v32 : BitVec 32 := Scalar.extui v31
  let c0_i32_19 : BitVec 32 := 0#32
  let v33 : BitVec 1 := Scalar.cmpi .slt c256_i32_15 c0_i32_19
  let v34 : BitVec 32 := Scalar.extui v33
  let v35 : BitVec 32 := Scalar.subi v32 v34
  let v36 : BitVec 1 := Scalar.cmpi .ne v30 v35
  let v37 : BitVec 32 := Scalar.remsi v24 c256_i32_15
  let c0_i32_20 : BitVec 32 := 0#32
  let v38 : BitVec 1 := Scalar.cmpi .ne v37 c0_i32_20
  let v39 : BitVec 1 := Scalar.andi v36 v38
  let v25 : BitVec 32 := Scalar.divsi v24 c256_i32_15
  let c1_i32_21 : BitVec 32 := 1#32
  let v40 : BitVec 32 := Scalar.subi v25 c1_i32_21
  let v41 : BitVec 32 := Scalar.select v39 v40 v25
  let c4_i32 : BitVec 32 := 4#32
  let v50 : BitVec 32 := Scalar.subi c4_i32 v41
  let c1_i32_30 : BitVec 32 := 1#32
  let v52 : BitVec 32 := Scalar.divsi v50 c1_i32_30
  let v53 : BitVec 32 := Scalar.muli v52 c1_i32_30
  let v54 : BitVec 32 := Scalar.addi v41 v53
  let v51 : BitVec 32 := Scalar.addi v41 v50
  let c1_i32_32 : BitVec 32 := 1#32
  ⟨v54, v51, c1_i32_32⟩
def k0_mult4 (v1 : BitVec 32) (k0_t4 : Fin (k0_t4_loop v1).trips) : BitVec 32 :=
  let c256_i32 : BitVec 32 := 256#32
  let v23 : BitVec 32 := Scalar.addi v1 c256_i32
  let c1_i32 : BitVec 32 := 1#32
  let v24 : BitVec 32 := Scalar.subi v23 c1_i32
  let c0_i32_16 : BitVec 32 := 0#32
  let v26 : BitVec 1 := Scalar.cmpi .sgt v24 c0_i32_16
  let v27 : BitVec 32 := Scalar.extui v26
  let c0_i32_17 : BitVec 32 := 0#32
  let v28 : BitVec 1 := Scalar.cmpi .slt v24 c0_i32_17
  let v29 : BitVec 32 := Scalar.extui v28
  let v30 : BitVec 32 := Scalar.subi v27 v29
  let c256_i32_15 : BitVec 32 := 256#32
  let c0_i32_18 : BitVec 32 := 0#32
  let v31 : BitVec 1 := Scalar.cmpi .sgt c256_i32_15 c0_i32_18
  let v32 : BitVec 32 := Scalar.extui v31
  let c0_i32_19 : BitVec 32 := 0#32
  let v33 : BitVec 1 := Scalar.cmpi .slt c256_i32_15 c0_i32_19
  let v34 : BitVec 32 := Scalar.extui v33
  let v35 : BitVec 32 := Scalar.subi v32 v34
  let v36 : BitVec 1 := Scalar.cmpi .ne v30 v35
  let v37 : BitVec 32 := Scalar.remsi v24 c256_i32_15
  let c0_i32_20 : BitVec 32 := 0#32
  let v38 : BitVec 1 := Scalar.cmpi .ne v37 c0_i32_20
  let v39 : BitVec 1 := Scalar.andi v36 v38
  let v25 : BitVec 32 := Scalar.divsi v24 c256_i32_15
  let c1_i32_21 : BitVec 32 := 1#32
  let v40 : BitVec 32 := Scalar.subi v25 c1_i32_21
  let v41 : BitVec 32 := Scalar.select v39 v40 v25
  let c4_i32 : BitVec 32 := 4#32
  let v50 : BitVec 32 := Scalar.subi c4_i32 v41
  let c1_i32_30 : BitVec 32 := 1#32
  let v52 : BitVec 32 := Scalar.divsi v50 c1_i32_30
  let v53 : BitVec 32 := Scalar.muli v52 c1_i32_30
  let v54 : BitVec 32 := Scalar.addi v41 v53
  let c1_i32_32 : BitVec 32 := 1#32
  let arg16 : BitVec 32 := Scf.iv v54 c1_i32_32 k0_t4
  let c256_i32_33 : BitVec 32 := 256#32
  let v55 : BitVec 32 := Scalar.muli arg16 c256_i32_33
  v55
def k0_off9 (v1 : BitVec 32) (k0_t4 : Fin (k0_t4_loop v1).trips) : Fin 2 → Nat :=
  let c256_i32 : BitVec 32 := 256#32
  let v23 : BitVec 32 := Scalar.addi v1 c256_i32
  let c1_i32 : BitVec 32 := 1#32
  let v24 : BitVec 32 := Scalar.subi v23 c1_i32
  let c0_i32_16 : BitVec 32 := 0#32
  let v26 : BitVec 1 := Scalar.cmpi .sgt v24 c0_i32_16
  let v27 : BitVec 32 := Scalar.extui v26
  let c0_i32_17 : BitVec 32 := 0#32
  let v28 : BitVec 1 := Scalar.cmpi .slt v24 c0_i32_17
  let v29 : BitVec 32 := Scalar.extui v28
  let v30 : BitVec 32 := Scalar.subi v27 v29
  let c256_i32_15 : BitVec 32 := 256#32
  let c0_i32_18 : BitVec 32 := 0#32
  let v31 : BitVec 1 := Scalar.cmpi .sgt c256_i32_15 c0_i32_18
  let v32 : BitVec 32 := Scalar.extui v31
  let c0_i32_19 : BitVec 32 := 0#32
  let v33 : BitVec 1 := Scalar.cmpi .slt c256_i32_15 c0_i32_19
  let v34 : BitVec 32 := Scalar.extui v33
  let v35 : BitVec 32 := Scalar.subi v32 v34
  let v36 : BitVec 1 := Scalar.cmpi .ne v30 v35
  let v37 : BitVec 32 := Scalar.remsi v24 c256_i32_15
  let c0_i32_20 : BitVec 32 := 0#32
  let v38 : BitVec 1 := Scalar.cmpi .ne v37 c0_i32_20
  let v39 : BitVec 1 := Scalar.andi v36 v38
  let v25 : BitVec 32 := Scalar.divsi v24 c256_i32_15
  let c1_i32_21 : BitVec 32 := 1#32
  let v40 : BitVec 32 := Scalar.subi v25 c1_i32_21
  let v41 : BitVec 32 := Scalar.select v39 v40 v25
  let c4_i32 : BitVec 32 := 4#32
  let v50 : BitVec 32 := Scalar.subi c4_i32 v41
  let c1_i32_30 : BitVec 32 := 1#32
  let v52 : BitVec 32 := Scalar.divsi v50 c1_i32_30
  let v53 : BitVec 32 := Scalar.muli v52 c1_i32_30
  let v54 : BitVec 32 := Scalar.addi v41 v53
  let c1_i32_32 : BitVec 32 := 1#32
  let arg16 : BitVec 32 := Scf.iv v54 c1_i32_32 k0_t4
  let c256_i32_33 : BitVec 32 := 256#32
  let v55 : BitVec 32 := Scalar.muli arg16 c256_i32_33
  let v56 : BitVec 32 := v55
  let v58 : Index := Scalar.indexCast v56
  let c0_34 : Index := 0#32
  ![v58.toNat, 0]

def k0_chk1 (i : grid0.Coords) (v1 : BitVec 32) : Prop :=
  (∀ (k0_h1 : k0_cond1 v1 = 1#1), (k0_t1_loop v1).OK) ∧
  (∀ k0_t1 : Fin (k0_t1_loop v1).trips, ∀ (k0_h1 : k0_cond1 v1 = 1#1), 256 ∣ (k0_mult1 v1 k0_t1).toNat) ∧
  (∀ k0_t1 : Fin (k0_t1_loop v1).trips, ∀ (k0_h1 : k0_cond1 v1 = 1#1), ∀ a, (k0_off2 v1 k0_t1) a + S256x2048.size a ≤ S1024x2048.size a) ∧
  (∀ k0_t1 : Fin (k0_t1_loop v1).trips, ∀ (k0_h1 : k0_cond1 v1 = 1#1), ∀ (k0_h2 : k0_cond2 i = 1#1), ∀ a, (k0_off3 v1 k0_t1) a + S256x2048.size a ≤ S1024x2048.size a) ∧
  (∀ k0_t1 : Fin (k0_t1_loop v1).trips, ∀ (k0_h1 : k0_cond1 v1 = 1#1), ∀ (k0_h3 : k0_cond3 i = 1#1), ∀ a, (k0_off4 v1 k0_t1) a + S256x2048.size a ≤ S1024x2048.size a) ∧
  (∀ (k0_h1 : k0_cond1 v1 = 1#1), (k0_t2_loop v1).OK) ∧
  (∀ k0_t2 : Fin (k0_t2_loop v1).trips, ∀ (k0_h1 : k0_cond1 v1 = 1#1), 256 ∣ (k0_mult2 v1 k0_t2).toNat) ∧
  (∀ k0_t2 : Fin (k0_t2_loop v1).trips, ∀ (k0_h1 : k0_cond1 v1 = 1#1), ∀ a, (k0_off5 v1 k0_t2) a + S256x2048.size a ≤ S1024x2048.size a) ∧
  (∀ k0_t2 : Fin (k0_t2_loop v1).trips, ∀ (k0_h1 : k0_cond1 v1 = 1#1), ∀ (k0_h4 : k0_cond4 i = 1#1), ∀ a, (k0_off6 v1 k0_t2) a + S256x2048.size a ≤ S1024x2048.size a) ∧
  (∀ k0_t2 : Fin (k0_t2_loop v1).trips, ∀ (k0_h1 : k0_cond1 v1 = 1#1), ∀ (k0_h5 : k0_cond5 i = 1#1), ∀ a, (k0_off7 v1 k0_t2) a + S256x2048.size a ≤ S1024x2048.size a) ∧
  (∀ (k0_h1 : k0_cond1 v1 = 1#1), ∀ (k0_h6 : k0_cond6 i = 1#1), (k0_t3_loop v1).OK) ∧
  (∀ k0_t3 : Fin (k0_t3_loop v1).trips, ∀ (k0_h1 : k0_cond1 v1 = 1#1), ∀ (k0_h6 : k0_cond6 i = 1#1), 256 ∣ (k0_mult3 v1 k0_t3).toNat) ∧
  (∀ k0_t3 : Fin (k0_t3_loop v1).trips, ∀ (k0_h1 : k0_cond1 v1 = 1#1), ∀ (k0_h6 : k0_cond6 i = 1#1), ∀ a, (k0_off8 v1 k0_t3) a + S256x2048.size a ≤ S1024x2048.size a) ∧
  (∀ (k0_h1 : k0_cond1 v1 = 1#1), ∀ (k0_h6 : k0_cond6 i = 1#1), (k0_t4_loop v1).OK) ∧
  (∀ k0_t4 : Fin (k0_t4_loop v1).trips, ∀ (k0_h1 : k0_cond1 v1 = 1#1), ∀ (k0_h6 : k0_cond6 i = 1#1), 256 ∣ (k0_mult4 v1 k0_t4).toNat) ∧
  (∀ k0_t4 : Fin (k0_t4_loop v1).trips, ∀ (k0_h1 : k0_cond1 v1 = 1#1), ∀ (k0_h6 : k0_cond6 i = 1#1), ∀ a, (k0_off9 v1 k0_t4) a + S256x2048.size a ≤ S1024x2048.size a)
theorem k0_t1_ok : ∀ (i : grid0.Coords) (v1 : BitVec 32) (k0_hw1 : k0_chk1 i v1), ∀ (k0_h1 : k0_cond1 v1 = 1#1), (k0_t1_loop v1).OK := fun i v1 k0_hw1 k0_h1 => k0_hw1.1 k0_h1
theorem k0_mult1_dvd : ∀ (i : grid0.Coords) (v1 : BitVec 32) (k0_hw1 : k0_chk1 i v1) (k0_t1 : Fin (k0_t1_loop v1).trips), ∀ (k0_h1 : k0_cond1 v1 = 1#1), 256 ∣ (k0_mult1 v1 k0_t1).toNat := fun i v1 k0_hw1 k0_t1 k0_h1 => k0_hw1.2.1 k0_t1 k0_h1
theorem k0_off2_inb : ∀ (i : grid0.Coords) (v1 : BitVec 32) (k0_hw1 : k0_chk1 i v1) (k0_t1 : Fin (k0_t1_loop v1).trips), ∀ (k0_h1 : k0_cond1 v1 = 1#1), ∀ a, (k0_off2 v1 k0_t1) a + S256x2048.size a ≤ S1024x2048.size a := fun i v1 k0_hw1 k0_t1 k0_h1 => k0_hw1.2.2.1 k0_t1 k0_h1
theorem k0_off3_inb : ∀ (i : grid0.Coords) (v1 : BitVec 32) (k0_hw1 : k0_chk1 i v1) (k0_t1 : Fin (k0_t1_loop v1).trips), ∀ (k0_h1 : k0_cond1 v1 = 1#1), ∀ (k0_h2 : k0_cond2 i = 1#1), ∀ a, (k0_off3 v1 k0_t1) a + S256x2048.size a ≤ S1024x2048.size a := fun i v1 k0_hw1 k0_t1 k0_h1 k0_h2 => k0_hw1.2.2.2.1 k0_t1 k0_h1 k0_h2
theorem k0_off4_inb : ∀ (i : grid0.Coords) (v1 : BitVec 32) (k0_hw1 : k0_chk1 i v1) (k0_t1 : Fin (k0_t1_loop v1).trips), ∀ (k0_h1 : k0_cond1 v1 = 1#1), ∀ (k0_h3 : k0_cond3 i = 1#1), ∀ a, (k0_off4 v1 k0_t1) a + S256x2048.size a ≤ S1024x2048.size a := fun i v1 k0_hw1 k0_t1 k0_h1 k0_h3 => k0_hw1.2.2.2.2.1 k0_t1 k0_h1 k0_h3
theorem k0_t2_ok : ∀ (i : grid0.Coords) (v1 : BitVec 32) (k0_hw1 : k0_chk1 i v1), ∀ (k0_h1 : k0_cond1 v1 = 1#1), (k0_t2_loop v1).OK := fun i v1 k0_hw1 k0_h1 => k0_hw1.2.2.2.2.2.1 k0_h1
theorem k0_mult2_dvd : ∀ (i : grid0.Coords) (v1 : BitVec 32) (k0_hw1 : k0_chk1 i v1) (k0_t2 : Fin (k0_t2_loop v1).trips), ∀ (k0_h1 : k0_cond1 v1 = 1#1), 256 ∣ (k0_mult2 v1 k0_t2).toNat := fun i v1 k0_hw1 k0_t2 k0_h1 => k0_hw1.2.2.2.2.2.2.1 k0_t2 k0_h1
theorem k0_off5_inb : ∀ (i : grid0.Coords) (v1 : BitVec 32) (k0_hw1 : k0_chk1 i v1) (k0_t2 : Fin (k0_t2_loop v1).trips), ∀ (k0_h1 : k0_cond1 v1 = 1#1), ∀ a, (k0_off5 v1 k0_t2) a + S256x2048.size a ≤ S1024x2048.size a := fun i v1 k0_hw1 k0_t2 k0_h1 => k0_hw1.2.2.2.2.2.2.2.1 k0_t2 k0_h1
theorem k0_off6_inb : ∀ (i : grid0.Coords) (v1 : BitVec 32) (k0_hw1 : k0_chk1 i v1) (k0_t2 : Fin (k0_t2_loop v1).trips), ∀ (k0_h1 : k0_cond1 v1 = 1#1), ∀ (k0_h4 : k0_cond4 i = 1#1), ∀ a, (k0_off6 v1 k0_t2) a + S256x2048.size a ≤ S1024x2048.size a := fun i v1 k0_hw1 k0_t2 k0_h1 k0_h4 => k0_hw1.2.2.2.2.2.2.2.2.1 k0_t2 k0_h1 k0_h4
theorem k0_off7_inb : ∀ (i : grid0.Coords) (v1 : BitVec 32) (k0_hw1 : k0_chk1 i v1) (k0_t2 : Fin (k0_t2_loop v1).trips), ∀ (k0_h1 : k0_cond1 v1 = 1#1), ∀ (k0_h5 : k0_cond5 i = 1#1), ∀ a, (k0_off7 v1 k0_t2) a + S256x2048.size a ≤ S1024x2048.size a := fun i v1 k0_hw1 k0_t2 k0_h1 k0_h5 => k0_hw1.2.2.2.2.2.2.2.2.2.1 k0_t2 k0_h1 k0_h5
theorem k0_t3_ok : ∀ (i : grid0.Coords) (v1 : BitVec 32) (k0_hw1 : k0_chk1 i v1), ∀ (k0_h1 : k0_cond1 v1 = 1#1), ∀ (k0_h6 : k0_cond6 i = 1#1), (k0_t3_loop v1).OK := fun i v1 k0_hw1 k0_h1 k0_h6 => k0_hw1.2.2.2.2.2.2.2.2.2.2.1 k0_h1 k0_h6
theorem k0_mult3_dvd : ∀ (i : grid0.Coords) (v1 : BitVec 32) (k0_hw1 : k0_chk1 i v1) (k0_t3 : Fin (k0_t3_loop v1).trips), ∀ (k0_h1 : k0_cond1 v1 = 1#1), ∀ (k0_h6 : k0_cond6 i = 1#1), 256 ∣ (k0_mult3 v1 k0_t3).toNat := fun i v1 k0_hw1 k0_t3 k0_h1 k0_h6 => k0_hw1.2.2.2.2.2.2.2.2.2.2.2.1 k0_t3 k0_h1 k0_h6
theorem k0_off8_inb : ∀ (i : grid0.Coords) (v1 : BitVec 32) (k0_hw1 : k0_chk1 i v1) (k0_t3 : Fin (k0_t3_loop v1).trips), ∀ (k0_h1 : k0_cond1 v1 = 1#1), ∀ (k0_h6 : k0_cond6 i = 1#1), ∀ a, (k0_off8 v1 k0_t3) a + S256x2048.size a ≤ S1024x2048.size a := fun i v1 k0_hw1 k0_t3 k0_h1 k0_h6 => k0_hw1.2.2.2.2.2.2.2.2.2.2.2.2.1 k0_t3 k0_h1 k0_h6
theorem k0_t4_ok : ∀ (i : grid0.Coords) (v1 : BitVec 32) (k0_hw1 : k0_chk1 i v1), ∀ (k0_h1 : k0_cond1 v1 = 1#1), ∀ (k0_h6 : k0_cond6 i = 1#1), (k0_t4_loop v1).OK := fun i v1 k0_hw1 k0_h1 k0_h6 => k0_hw1.2.2.2.2.2.2.2.2.2.2.2.2.2.1 k0_h1 k0_h6
theorem k0_mult4_dvd : ∀ (i : grid0.Coords) (v1 : BitVec 32) (k0_hw1 : k0_chk1 i v1) (k0_t4 : Fin (k0_t4_loop v1).trips), ∀ (k0_h1 : k0_cond1 v1 = 1#1), ∀ (k0_h6 : k0_cond6 i = 1#1), 256 ∣ (k0_mult4 v1 k0_t4).toNat := fun i v1 k0_hw1 k0_t4 k0_h1 k0_h6 => k0_hw1.2.2.2.2.2.2.2.2.2.2.2.2.2.2.1 k0_t4 k0_h1 k0_h6
theorem k0_off9_inb : ∀ (i : grid0.Coords) (v1 : BitVec 32) (k0_hw1 : k0_chk1 i v1) (k0_t4 : Fin (k0_t4_loop v1).trips), ∀ (k0_h1 : k0_cond1 v1 = 1#1), ∀ (k0_h6 : k0_cond6 i = 1#1), ∀ a, (k0_off9 v1 k0_t4) a + S256x2048.size a ≤ S1024x2048.size a := fun i v1 k0_hw1 k0_t4 k0_h1 k0_h6 => k0_hw1.2.2.2.2.2.2.2.2.2.2.2.2.2.2.2 k0_t4 k0_h1 k0_h6

def cc0_transform_0 (k0_off1_inb : ∀ i : grid0.Coords, ∀ a, (k0_off1 i) a + S1.size a ≤ S72.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 2 (Rect.unit (s := S72) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let v2 : Index := Scalar.indexCast arg0
  let v3 : BitVec 32 := pf.at 1 (Rect.unit (s := S72) ![v2.toNat] S1.size (k0_off1_inb i)) numel1_S1
  let c0_i32 : BitVec 32 := 0#32
  let v4 : BitVec 1 := Scalar.cmpi .sgt v3 c0_i32
  let c7_i32 : BitVec 32 := 7#32
  let v5 : BitVec 32 := Scalar.select v4 arg1 c7_i32
  let c0_i32_0 : BitVec 32 := 0#32
  let c0_i32_1 : BitVec 32 := 0#32
  ![v1.toNat, c0_i32_0.toNat, v5.toNat]

def cc0_transform_2 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let v2 : Index := Scalar.indexCast arg0
  let v3 : BitVec 32 := pf.at 1 (Rect.unit (s := S72) ![v2.toNat] S1.size (k0_off1_inb i)) numel1_S1
  let c0_i32 : BitVec 32 := 0#32
  let v4 : BitVec 1 := Scalar.cmpi .sgt v3 c0_i32
  let c7_i32 : BitVec 32 := 7#32
  let v5 : BitVec 32 := Scalar.select v4 arg1 c7_i32
  let c0_i32_0 : BitVec 32 := 0#32
  let c0_i32_1 : BitVec 32 := 0#32
  ![v1.toNat, c0_i32_0.toNat, v5.toNat]

def cc0_transform_3 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let v2 : Index := Scalar.indexCast arg0
  let v3 : BitVec 32 := pf.at 1 (Rect.unit (s := S72) ![v2.toNat] S1.size (k0_off1_inb i)) numel1_S1
  let c0_i32 : BitVec 32 := 0#32
  let v4 : BitVec 1 := Scalar.cmpi .sgt v3 c0_i32
  let c7_i32 : BitVec 32 := 7#32
  let v5 : BitVec 32 := Scalar.select v4 arg1 c7_i32
  let c0_i32_0 : BitVec 32 := 0#32
  let c0_i32_1 : BitVec 32 := 0#32
  ![v1.toNat, v5.toNat, c0_i32_0.toNat]

def cc0_transform_4 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let v2 : Index := Scalar.indexCast arg0
  let v3 : BitVec 32 := pf.at 1 (Rect.unit (s := S72) ![v2.toNat] S1.size (k0_off1_inb i)) numel1_S1
  let c0_i32 : BitVec 32 := 0#32
  let v4 : BitVec 1 := Scalar.cmpi .sgt v3 c0_i32
  let c7_i32 : BitVec 32 := 7#32
  let v5 : BitVec 32 := Scalar.select v4 arg1 c7_i32
  let c0_i32_0 : BitVec 32 := 0#32
  let c0_i32_1 : BitVec 32 := 0#32
  ![v1.toNat, c0_i32_0.toNat, v5.toNat]

def cc0_transform_5 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let v2 : Index := Scalar.indexCast arg0
  let v3 : BitVec 32 := pf.at 1 (Rect.unit (s := S72) ![v2.toNat] S1.size (k0_off1_inb i)) numel1_S1
  let c0_i32 : BitVec 32 := 0#32
  let v4 : BitVec 1 := Scalar.cmpi .sgt v3 c0_i32
  let c7_i32 : BitVec 32 := 7#32
  let v5 : BitVec 32 := Scalar.select v4 arg1 c7_i32
  let c0_i32_0 : BitVec 32 := 0#32
  let c0_i32_1 : BitVec 32 := 0#32
  ![v1.toNat, c0_i32_0.toNat, v5.toNat]

def cc0_transform_6 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_7 (k0_off1_inb : ∀ i : grid0.Coords, ∀ a, (k0_off1 i) a + S1.size a ≤ S72.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 2 (Rect.unit (s := S72) ![v0.toNat] S1.size (k0_off1_inb i)) numel1_S1
  let c0_i32 : BitVec 32 := 0#32
  let c0_i32_0 : BitVec 32 := 0#32
  ![v1.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceIdeal.lean ====
abbrev S10240x2048 : Shape := ⟨2, ![10240, 2048]⟩
abbrev S10240x4 : Shape := ⟨2, ![10240, 4]⟩
abbrev S1x32 : Shape := ⟨2, ![1, 32]⟩
abbrev S32x2048x2048 : Shape := ⟨3, ![32, 2048, 2048]⟩
abbrev S32x2048 : Shape := ⟨2, ![32, 2048]⟩
abbrev S10240x4x1 : Shape := ⟨3, ![10240, 4, 1]⟩
abbrev S1x1x32 : Shape := ⟨3, ![1, 1, 32]⟩
abbrev S10240x4x32 : Shape := ⟨3, ![10240, 4, 32]⟩
abbrev S_ : Shape := ⟨0, ![]⟩
abbrev S10240x32 : Shape := ⟨2, ![10240, 32]⟩
abbrev S32x2048x10240 : Shape := ⟨3, ![32, 2048, 10240]⟩
abbrev S32x10240x2048 : Shape := ⟨3, ![32, 10240, 2048]⟩
abbrev S32x1x2048 : Shape := ⟨3, ![32, 1, 2048]⟩
abbrev S32x10240 : Shape := ⟨2, ![32, 10240]⟩
abbrev S32x10240x1 : Shape := ⟨3, ![32, 10240, 1]⟩

abbrev nBuf : Space → Nat
  | .hbm => 70
  | .vmem => 0
  | .smem => 0
  | _ => 0

abbrev bufTy : (tb : Table) → Fin (tcTables nBuf tb) → BufTy
  | .hbm, ⟨0, _⟩ => ⟨S10240x2048, .bf16⟩
  | .hbm, ⟨1, _⟩ => ⟨S10240x4, .i32⟩
  | .hbm, ⟨2, _⟩ => ⟨S10240x4, .f32⟩
  | .hbm, ⟨3, _⟩ => ⟨S10240x4, .i32⟩
  | .hbm, ⟨4, _⟩ => ⟨S1x32, .f32⟩
  | .hbm, ⟨5, _⟩ => ⟨S32x2048x2048, .f32⟩
  | .hbm, ⟨6, _⟩ => ⟨S32x2048, .f32⟩
  | .hbm, ⟨7, _⟩ => ⟨S32x2048x2048, .f32⟩
  | .hbm, ⟨8, _⟩ => ⟨S32x2048, .f32⟩
  | .hbm, ⟨9, _⟩ => ⟨S32x2048x2048, .f32⟩
  | .hbm, ⟨10, _⟩ => ⟨S32x2048, .f32⟩
  | .hbm, ⟨11, _⟩ => ⟨S10240x2048, .f32⟩
  | .hbm, ⟨12, _⟩ => ⟨S10240x4x1, .i32⟩
  | .hbm, ⟨13, _⟩ => ⟨S1x1x32, .i32⟩
  | .hbm, ⟨14, _⟩ => ⟨S10240x4x32, .i32⟩
  | .hbm, ⟨15, _⟩ => ⟨S10240x4x32, .i32⟩
  | .hbm, ⟨16, _⟩ => ⟨S10240x4x32, .i1⟩
  | .hbm, ⟨17, _⟩ => ⟨S10240x4x32, .f32⟩
  | .hbm, ⟨18, _⟩ => ⟨S10240x4x1, .f32⟩
  | .hbm, ⟨19, _⟩ => ⟨S10240x4x32, .f32⟩
  | .hbm, ⟨20, _⟩ => ⟨S10240x4x32, .f32⟩
  | .hbm, ⟨21, _⟩ => ⟨S_, .f32⟩
  | .hbm, ⟨22, _⟩ => ⟨S10240x32, .f32⟩
  | .hbm, ⟨23, _⟩ => ⟨S32x2048x10240, .f32⟩
  | .hbm, ⟨24, _⟩ => ⟨S32x10240x2048, .f32⟩
  | .hbm, ⟨25, _⟩ => ⟨S32x1x2048, .f32⟩
  | .hbm, ⟨26, _⟩ => ⟨S32x10240x2048, .f32⟩
  | .hbm, ⟨27, _⟩ => ⟨S32x10240x2048, .f32⟩
  | .hbm, ⟨28, _⟩ => ⟨S_, .f32⟩
  | .hbm, ⟨29, _⟩ => ⟨S32x10240x2048, .f32⟩
  | .hbm, ⟨30, _⟩ => ⟨S32x10240x2048, .f32⟩
  | .hbm, ⟨31, _⟩ => ⟨S32x2048x10240, .f32⟩
  | .hbm, ⟨32, _⟩ => ⟨S32x10240x2048, .f32⟩
  | .hbm, ⟨33, _⟩ => ⟨S32x1x2048, .f32⟩
  | .hbm, ⟨34, _⟩ => ⟨S32x10240x2048, .f32⟩
  | .hbm, ⟨35, _⟩ => ⟨S32x10240x2048, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S32x10240x2048, .f32⟩
  | .hbm, ⟨40, _⟩ => ⟨S32x10240x2048, .f32⟩
  | .hbm, ⟨41, _⟩ => ⟨S_, .f32⟩
  | .hbm, ⟨42, _⟩ => ⟨S32x10240x2048, .f32⟩
  | .hbm, ⟨43, _⟩ => ⟨S32x10240x2048, .f32⟩
  | .hbm, ⟨44, _⟩ => ⟨S_, .f32⟩
  | .hbm, ⟨45, _⟩ => ⟨S32x10240x2048, .f32⟩
  | .hbm, ⟨46, _⟩ => ⟨S32x10240x2048, .f32⟩
  | .hbm, ⟨47, _⟩ => ⟨S_, .f32⟩
  | .hbm, ⟨48, _⟩ => ⟨S32x10240x2048, .f32⟩
  | .hbm, ⟨49, _⟩ => ⟨S32x10240x2048, .f32⟩
  | .hbm, ⟨50, _⟩ => ⟨S32x10240x2048, .f32⟩
  | .hbm, ⟨51, _⟩ => ⟨S32x10240x2048, .f32⟩
  | .hbm, ⟨52, _⟩ => ⟨S_, .f32⟩
  | .hbm, ⟨53, _⟩ => ⟨S32x10240x2048, .f32⟩
  | .hbm, ⟨54, _⟩ => ⟨S32x10240x2048, .f32⟩
  | .hbm, ⟨55, _⟩ => ⟨S_, .f32⟩
  | .hbm, ⟨56, _⟩ => ⟨S32x10240x2048, .f32⟩
  | .hbm, ⟨57, _⟩ => ⟨S32x10240x2048, .f32⟩
  | .hbm, ⟨58, _⟩ => ⟨S32x10240x2048, .f32⟩
  | .hbm, ⟨59, _⟩ => ⟨S32x10240x2048, .f32⟩
  | .hbm, ⟨60, _⟩ => ⟨S32x10240x2048, .f32⟩
  | .hbm, ⟨61, _⟩ => ⟨S32x1x2048, .f32⟩
  | .hbm, ⟨62, _⟩ => ⟨S32x10240x2048, .f32⟩
  | .hbm, ⟨63, _⟩ => ⟨S32x10240x2048, .f32⟩
  | .hbm, ⟨64, _⟩ => ⟨S32x10240, .f32⟩
  | .hbm, ⟨65, _⟩ => ⟨S32x10240x1, .f32⟩
  | .hbm, ⟨66, _⟩ => ⟨S32x10240x2048, .f32⟩
  | .hbm, ⟨67, _⟩ => ⟨S32x10240x2048, .f32⟩
  | .hbm, ⟨68, _⟩ => ⟨S_, .f32⟩
  | .hbm, ⟨69, _⟩ => ⟨S10240x2048, .f32⟩
  | _, _ => ⟨S10240x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_cst : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_0 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_1 : Ref sig .tc := ⟨.hbm, 36, rfl⟩
abbrev main_cst_2 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_v18 : Ref sig .tc := ⟨.hbm, 43, rfl⟩
abbrev main_cst_3 : Ref sig .tc := ⟨.hbm, 44, rfl⟩
abbrev main_v19 : Ref sig .tc := ⟨.hbm, 45, rfl⟩
abbrev main_v20 : Ref sig .tc := ⟨.hbm, 46, rfl⟩
abbrev main_cst_4 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_cst_5 : Ref sig .tc := ⟨.hbm, 52, rfl⟩
abbrev main_v25 : Ref sig .tc := ⟨.hbm, 53, rfl⟩
abbrev main_v26 : Ref sig .tc := ⟨.hbm, 54, rfl⟩
abbrev main_cst_6 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_cst_7 : Ref sig .tc := ⟨.hbm, 68, rfl⟩
abbrev main_v39 : Ref sig .tc := ⟨.hbm, 69, rfl⟩

abbrev nD : Nat := 1
abbrev τ : Topo := Topo.v7x

variable {F : FTy → Type} [FloatOps F]
-- ==== KernelKv.lean ====
abbrev S32x256x2048 : Shape := ⟨3, ![32, 256, 2048]⟩
abbrev S2x1024x2048 : Shape := ⟨3, ![2, 1024, 2048]⟩
abbrev S2x8x12288 : Shape := ⟨3, ![2, 8, 12288]⟩
abbrev S2x2048 : Shape := ⟨2, ![2, 2048]⟩
abbrev S1x2048x2304 : Shape := ⟨3, ![1, 2048, 2304]⟩
abbrev S1x2304 : Shape := ⟨2, ![1, 2304]⟩
abbrev S8192x2048 : Shape := ⟨2, ![8192, 2048]⟩
abbrev S2048x2048 : Shape := ⟨2, ![2048, 2048]⟩
abbrev S10240x2048 : Shape := ⟨2, ![10240, 2048]⟩
abbrev S1x8x2048 : Shape := ⟨3, ![1, 8, 2048]⟩
abbrev S8x2048 : Shape := ⟨2, ![8, 2048]⟩
abbrev S8x1x2048 : Shape := ⟨3, ![8, 1, 2048]⟩
abbrev S1x2048 : Shape := ⟨2, ![1, 2048]⟩
abbrev S2048 : Shape := ⟨1, ![2048]⟩
abbrev S2048x2304 : Shape := ⟨2, ![2048, 2304]⟩
abbrev S2304 : Shape := ⟨1, ![2304]⟩
abbrev S10240x2304 : Shape := ⟨2, ![10240, 2304]⟩
abbrev S512x2048 : Shape := ⟨2, ![512, 2048]⟩
abbrev S1x1x2048 : Shape := ⟨3, ![1, 1, 2048]⟩
abbrev S2048x768 : Shape := ⟨2, ![2048, 768]⟩
abbrev S1x768 : Shape := ⟨2, ![1, 768]⟩
abbrev S512x768 : Shape := ⟨2, ![512, 768]⟩
abbrev S512 : Shape := ⟨1, ![512]⟩
abbrev S512x1 : Shape := ⟨2, ![512, 1]⟩
abbrev S8192x128 : Shape := ⟨2, ![8192, 128]⟩
abbrev S32x256x2x64 : Shape := ⟨4, ![32, 256, 2, 64]⟩
abbrev S32x1x256x2x64 : Shape := ⟨5, ![32, 1, 256, 2, 64]⟩

abbrev nBuf : Space → Nat
  | .hbm => 28
  | .vmem => 14
  | .smem => 0
  | _ => 0

abbrev bufTy : (tb : Table) → Fin (tcTables nBuf tb) → BufTy
  | .hbm, ⟨0, _⟩ => ⟨S32x256x2048, .f32⟩
  | .hbm, ⟨1, _⟩ => ⟨S2x1024x2048, .f32⟩
  | .hbm, ⟨2, _⟩ => ⟨S2x8x12288, .f32⟩
  | .hbm, ⟨3, _⟩ => ⟨S2x2048, .f32⟩
  | .hbm, ⟨4, _⟩ => ⟨S1x2048x2304, .f32⟩
  | .hbm, ⟨5, _⟩ => ⟨S1x2304, .f32⟩
  | .hbm, ⟨6, _⟩ => ⟨S8192x2048, .f32⟩
  | .hbm, ⟨7, _⟩ => ⟨S2048x2048, .f32⟩
  | .hbm, ⟨8, _⟩ => ⟨S10240x2048, .f32⟩
  | .hbm, ⟨9, _⟩ => ⟨S1x8x2048, .f32⟩
  | .hbm, ⟨10, _⟩ => ⟨S8x2048, .f32⟩
  | .hbm, ⟨11, _⟩ => ⟨S8x1x2048, .f32⟩
  | .hbm, ⟨12, _⟩ => ⟨S1x8x2048, .f32⟩
  | .hbm, ⟨13, _⟩ => ⟨S8x2048, .f32⟩
  | .hbm, ⟨14, _⟩ => ⟨S8x1x2048, .f32⟩
  | .hbm, ⟨15, _⟩ => ⟨S1x2048, .f32⟩
  | .hbm, ⟨16, _⟩ => ⟨S2048, .f32⟩
  | .hbm, ⟨17, _⟩ => ⟨S2048x2304, .f32⟩
  | .hbm, ⟨18, _⟩ => ⟨S2304, .f32⟩
  | .hbm, ⟨19, _⟩ => ⟨S1x2048, .f32⟩
  | .hbm, ⟨20, _⟩ => ⟨S1x2304, .f32⟩
  | .hbm, ⟨21, _⟩ => ⟨S10240x2304, .f32⟩
  | .hbm, ⟨22, _⟩ => ⟨S8192x128, .f32⟩
  | .hbm, ⟨23, _⟩ => ⟨S32x256x2x64, .f32⟩
  | .hbm, ⟨24, _⟩ => ⟨S8192x128, .f32⟩
  | .hbm, ⟨25, _⟩ => ⟨S32x256x2x64, .f32⟩
  | .hbm, ⟨26, _⟩ => ⟨S32x1x256x2x64, .f32⟩
  | .hbm, ⟨27, _⟩ => ⟨S32x1x256x2x64, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S2048x768, .f32⟩
  | .local _ .vmem, ⟨8, _⟩ => ⟨S2048x768, .f32⟩
  | .local _ .vmem, ⟨9, _⟩ => ⟨S1x768, .f32⟩
  | .local _ .vmem, ⟨10, _⟩ => ⟨S1x768, .f32⟩
  | .local _ .vmem, ⟨11, _⟩ => ⟨S512x768, .f32⟩
  | .local _ .vmem, ⟨12, _⟩ => ⟨S512x768, .f32⟩
  | .local _ .vmem, ⟨13, _⟩ => ⟨S512x2048, .bf16⟩
  | _, _ => ⟨S32x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![20, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 1 := Scalar.cmpi .slt arg0 c16_i32
  let c16_i32_0 : BitVec 32 := 16#32
  let v1 : BitVec 32 := Scalar.subi arg0 c16_i32_0
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c0_i32_8 : BitVec 32 := 0#32
  let c0_i32_9 : BitVec 32 := 0#32
  ![v20.toNat, c0_i32_7.toNat, c0_i32_8.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 1 := Scalar.cmpi .slt arg0 c16_i32
  let c16_i32_0 : BitVec 32 := 16#32
  let v1 : BitVec 32 := Scalar.subi arg0 c16_i32_0
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c0_i32_8 : BitVec 32 := 0#32
  let c0_i32_9 : BitVec 32 := 0#32
  ![v20.toNat, c0_i32_7.toNat, c0_i32_8.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceKvIdeal.lean ====
abbrev S32x256x2048 : Shape := ⟨3, ![32, 256, 2048]⟩
abbrev S2x1024x2048 : Shape := ⟨3, ![2, 1024, 2048]⟩
abbrev S2x8x12288 : Shape := ⟨3, ![2, 8, 12288]⟩
abbrev S2x2048 : Shape := ⟨2, ![2, 2048]⟩
abbrev S1x2048x2304 : Shape := ⟨3, ![1, 2048, 2304]⟩
abbrev S1x2304 : Shape := ⟨2, ![1, 2304]⟩
abbrev S1x1x12288 : Shape := ⟨3, ![1, 1, 12288]⟩
abbrev S1x12288 : Shape := ⟨2, ![1, 12288]⟩
abbrev S1x1x2048 : Shape := ⟨3, ![1, 1, 2048]⟩
abbrev S_ : Shape := ⟨0, ![]⟩
abbrev S32x256 : Shape := ⟨2, ![32, 256]⟩
abbrev S32x256x1 : Shape := ⟨3, ![32, 256, 1]⟩
abbrev S1x2048 : Shape := ⟨2, ![1, 2048]⟩
abbrev S2048 : Shape := ⟨1, ![2048]⟩
abbrev S2048x2304 : Shape := ⟨2, ![2048, 2304]⟩
abbrev S32x256x2304 : Shape := ⟨3, ![32, 256, 2304]⟩
abbrev S2304 : Shape := ⟨1, ![2304]⟩
abbrev S1x1x2304 : Shape := ⟨3, ![1, 1, 2304]⟩
abbrev S32x256x128 : Shape := ⟨3, ![32, 256, 128]⟩
abbrev S32x256x2x64 : Shape := ⟨4, ![32, 256, 2, 64]⟩
abbrev S32x1x256x2x64 : Shape := ⟨5, ![32, 1, 256, 2, 64]⟩
abbrev S1x2x12288 : Shape := ⟨3, ![1, 2, 12288]⟩
abbrev S2x12288 : Shape := ⟨2, ![2, 12288]⟩
abbrev S2x1x12288 : Shape := ⟨3, ![2, 1, 12288]⟩
abbrev S2x1x2048 : Shape := ⟨3, ![2, 1, 2048]⟩
abbrev S2x1024 : Shape := ⟨2, ![2, 1024]⟩
abbrev S2x1024x1 : Shape := ⟨3, ![2, 1024, 1]⟩
abbrev S2x1024x2304 : Shape := ⟨3, ![2, 1024, 2304]⟩
abbrev S8192x2304 : Shape := ⟨2, ![8192, 2304]⟩
abbrev S10240x2304 : Shape := ⟨2, ![10240, 2304]⟩

abbrev nBuf : Space → Nat
  | .hbm => 95
  | .vmem => 0
  | .smem => 0
  | _ => 0

abbrev bufTy : (tb : Table) → Fin (tcTables nBuf tb) → BufTy
  | .hbm, ⟨0, _⟩ => ⟨S32x256x2048, .f32⟩
  | .hbm, ⟨1, _⟩ => ⟨S2x1024x2048, .f32⟩
  | .hbm, ⟨2, _⟩ => ⟨S2x8x12288, .f32⟩
  | .hbm, ⟨3, _⟩ => ⟨S2x2048, .f32⟩
  | .hbm, ⟨4, _⟩ => ⟨S1x2048x2304, .f32⟩
  | .hbm, ⟨5, _⟩ => ⟨S1x2304, .f32⟩
  | .hbm, ⟨6, _⟩ => ⟨S1x1x12288, .f32⟩
  | .hbm, ⟨7, _⟩ => ⟨S1x12288, .f32⟩
  | .hbm, ⟨8, _⟩ => ⟨S1x1x12288, .f32⟩
  | .hbm, ⟨9, _⟩ => ⟨S1x1x2048, .f32⟩
  | .hbm, ⟨10, _⟩ => ⟨S1x1x2048, .f32⟩
  | .hbm, ⟨11, _⟩ => ⟨S1x1x2048, .f32⟩
  | .hbm, ⟨12, _⟩ => ⟨S1x1x2048, .f32⟩
  | .hbm, ⟨13, _⟩ => ⟨S1x1x2048, .f32⟩
  | .hbm, ⟨14, _⟩ => ⟨S1x1x2048, .f32⟩
  | .hbm, ⟨15, _⟩ => ⟨S32x256x2048, .f32⟩
  | .hbm, ⟨16, _⟩ => ⟨S_, .f32⟩
  | .hbm, ⟨17, _⟩ => ⟨S32x256, .f32⟩
  | .hbm, ⟨18, _⟩ => ⟨S32x256x1, .f32⟩
  | .hbm, ⟨19, _⟩ => ⟨S_, .f32⟩
  | .hbm, ⟨20, _⟩ => ⟨S32x256x1, .f32⟩
  | .hbm, ⟨21, _⟩ => ⟨S32x256x1, .f32⟩
  | .hbm, ⟨22, _⟩ => ⟨S_, .f32⟩
  | .hbm, ⟨23, _⟩ => ⟨S32x256x1, .f32⟩
  | .hbm, ⟨24, _⟩ => ⟨S32x256x1, .f32⟩
  | .hbm, ⟨25, _⟩ => ⟨S32x256x1, .f32⟩
  | .hbm, ⟨26, _⟩ => ⟨S32x256x2048, .f32⟩
  | .hbm, ⟨27, _⟩ => ⟨S32x256x2048, .f32⟩
  | .hbm, ⟨28, _⟩ => ⟨S1x2048, .f32⟩
  | .hbm, ⟨29, _⟩ => ⟨S2048, .f32⟩
  | .hbm, ⟨30, _⟩ => ⟨S1x1x2048, .f32⟩
  | .hbm, ⟨31, _⟩ => ⟨S32x256x2048, .f32⟩
  | .hbm, ⟨32, _⟩ => ⟨S32x256x2048, .f32⟩
  | .hbm, ⟨33, _⟩ => ⟨S_, .f32⟩
  | .hbm, ⟨34, _⟩ => ⟨S1x1x2048, .f32⟩
  | .hbm, ⟨35, _⟩ => ⟨S1x1x2048, .f32⟩
  | .hbm, ⟨36, _⟩ => ⟨S32x256x2048, .f32⟩
  | .hbm, ⟨37, _⟩ => ⟨S32x256x2048, .f32⟩
  | .hbm, ⟨38, _⟩ => ⟨S32x256x2048, .f32⟩
  | .hbm, ⟨39, _⟩ => ⟨S32x256x2048, .f32⟩
  | .hbm, ⟨40, _⟩ => ⟨S2048x2304, .f32⟩
  | .hbm, ⟨41, _⟩ => ⟨S32x256x2304, .f32⟩
  | .hbm, ⟨42, _⟩ => ⟨S2304, .f32⟩
  | .hbm, ⟨43, _⟩ => ⟨S1x1x2304, .f32⟩
  | .hbm, ⟨44, _⟩ => ⟨S32x256x2304, .f32⟩
  | .hbm, ⟨45, _⟩ => ⟨S32x256x2304, .f32⟩
  | .hbm, ⟨46, _⟩ => ⟨S32x256x128, .f32⟩
  | .hbm, ⟨47, _⟩ => ⟨S32x256x2x64, .f32⟩
  | .hbm, ⟨48, _⟩ => ⟨S32x256x128, .f32⟩
  | .hbm, ⟨49, _⟩ => ⟨S32x256x2x64, .f32⟩
  | .hbm, ⟨50, _⟩ => ⟨S32x1x256x2x64, .f32⟩
  | .hbm, ⟨51, _⟩ => ⟨S32x1x256x2x64, .f32⟩
  | .hbm, ⟨52, _⟩ => ⟨S1x2x12288, .f32⟩
  | .hbm, ⟨53, _⟩ => ⟨S2x12288, .f32⟩
  | .hbm, ⟨54, _⟩ => ⟨S2x1x12288, .f32⟩
  | .hbm, ⟨55, _⟩ => ⟨S2x1x2048, .f32⟩
  | .hbm, ⟨56, _⟩ => ⟨S2x1x2048, .f32⟩
  | .hbm, ⟨57, _⟩ => ⟨S2x1x2048, .f32⟩
  | .hbm, ⟨58, _⟩ => ⟨S2x1x2048, .f32⟩
  | .hbm, ⟨59, _⟩ => ⟨S2x1x2048, .f32⟩
  | .hbm, ⟨60, _⟩ => ⟨S2x1x2048, .f32⟩
  | .hbm, ⟨61, _⟩ => ⟨S2x1024x2048, .f32⟩
  | .hbm, ⟨62, _⟩ => ⟨S_, .f32⟩
  | .hbm, ⟨63, _⟩ => ⟨S2x1024, .f32⟩
  | .hbm, ⟨64, _⟩ => ⟨S2x1024x1, .f32⟩
  | .hbm, ⟨65, _⟩ => ⟨S_, .f32⟩
  | .hbm, ⟨66, _⟩ => ⟨S2x1024x1, .f32⟩
  | .hbm, ⟨67, _⟩ => ⟨S2x1024x1, .f32⟩
  | .hbm, ⟨68, _⟩ => ⟨S_, .f32⟩
  | .hbm, ⟨69, _⟩ => ⟨S2x1024x1, .f32⟩
  | .hbm, ⟨70, _⟩ => ⟨S2x1024x1, .f32⟩
  | .hbm, ⟨71, _⟩ => ⟨S2x1024x1, .f32⟩
  | .hbm, ⟨72, _⟩ => ⟨S2x1024x2048, .f32⟩
  | .hbm, ⟨73, _⟩ => ⟨S2x1024x2048, .f32⟩
  | .hbm, ⟨74, _⟩ => ⟨S1x2048, .f32⟩
  | .hbm, ⟨75, _⟩ => ⟨S2048, .f32⟩
  | .hbm, ⟨76, _⟩ => ⟨S1x1x2048, .f32⟩
  | .hbm, ⟨77, _⟩ => ⟨S2x1024x2048, .f32⟩
  | .hbm, ⟨78, _⟩ => ⟨S2x1024x2048, .f32⟩
  | .hbm, ⟨79, _⟩ => ⟨S_, .f32⟩
  | .hbm, ⟨80, _⟩ => ⟨S2x1x2048, .f32⟩
  | .hbm, ⟨81, _⟩ => ⟨S2x1x2048, .f32⟩
  | .hbm, ⟨82, _⟩ => ⟨S2x1024x2048, .f32⟩
  | .hbm, ⟨83, _⟩ => ⟨S2x1024x2048, .f32⟩
  | .hbm, ⟨84, _⟩ => ⟨S2x1024x2048, .f32⟩
  | .hbm, ⟨85, _⟩ => ⟨S2x1024x2048, .f32⟩
  | .hbm, ⟨86, _⟩ => ⟨S2048x2304, .f32⟩
  | .hbm, ⟨87, _⟩ => ⟨S2x1024x2304, .f32⟩
  | .hbm, ⟨88, _⟩ => ⟨S2304, .f32⟩
  | .hbm, ⟨89, _⟩ => ⟨S1x1x2304, .f32⟩
  | .hbm, ⟨90, _⟩ => ⟨S2x1024x2304, .f32⟩
  | .hbm, ⟨91, _⟩ => ⟨S2x1024x2304, .f32⟩
  | .hbm, ⟨92, _⟩ => ⟨S8192x2304, .f32⟩
  | .hbm, ⟨93, _⟩ => ⟨S2048x2304, .f32⟩
  | .hbm, ⟨94, _⟩ => ⟨S10240x2304, .f32⟩
  | _, _ => ⟨S32x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_cst_3 : Ref sig .tc := ⟨.hbm, 62, rfl⟩
abbrev main_v52 : Ref sig .tc := ⟨.hbm, 63, rfl⟩
abbrev main_v53 : Ref sig .tc := ⟨.hbm, 64, rfl⟩
abbrev main_cst_4 : Ref sig .tc := ⟨.hbm, 65, rfl⟩
abbrev main_v54 : Ref sig .tc := ⟨.hbm, 66, rfl⟩
abbrev main_v55 : Ref sig .tc := ⟨.hbm, 67, rfl⟩
abbrev main_cst_5 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_cst_6 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩

abbrev nD : Nat := 1
abbrev τ : Topo := Topo.v7x

variable {F : FTy → Type} [FloatOps F]
-- ==== KernelMod.lean ====
abbrev S2x2048 : Shape := ⟨2, ![2, 2048]⟩
abbrev S2048 : Shape := ⟨1, ![2048]⟩
abbrev S2x2048x12288 : Shape := ⟨3, ![2, 2048, 12288]⟩
abbrev S2x12288 : Shape := ⟨2, ![2, 12288]⟩
abbrev S1x2048 : Shape := ⟨2, ![1, 2048]⟩
abbrev S_ : Shape := ⟨0, ![]⟩
abbrev S5x2048 : Shape := ⟨2, ![5, 2048]⟩
abbrev S8x2048 : Shape := ⟨2, ![8, 2048]⟩
abbrev S2x1x12288 : Shape := ⟨3, ![2, 1, 12288]⟩
abbrev S2x8x12288 : Shape := ⟨3, ![2, 8, 12288]⟩
abbrev S1x2048x512 : Shape := ⟨3, ![1, 2048, 512]⟩
abbrev S1x1x512 : Shape := ⟨3, ![1, 1, 512]⟩
abbrev S1x8x512 : Shape := ⟨3, ![1, 8, 512]⟩
abbrev S2048x512 : Shape := ⟨2, ![2048, 512]⟩
abbrev S8x512 : Shape := ⟨2, ![8, 512]⟩
abbrev S1x512 : Shape := ⟨2, ![1, 512]⟩

abbrev nBuf : Space → Nat
  | .hbm => 10
  | .vmem => 7
  | .smem => 0
  | _ => 0

abbrev bufTy : (tb : Table) → Fin (tcTables nBuf tb) → BufTy
  | .hbm, ⟨0, _⟩ => ⟨S2x2048, .f32⟩
  | .hbm, ⟨1, _⟩ => ⟨S2048, .f32⟩
  | .hbm, ⟨2, _⟩ => ⟨S2x2048x12288, .f32⟩
  | .hbm, ⟨3, _⟩ => ⟨S2x12288, .f32⟩
  | .hbm, ⟨4, _⟩ => ⟨S1x2048, .f32⟩
  | .hbm, ⟨5, _⟩ => ⟨S_, .f32⟩
  | .hbm, ⟨6, _⟩ => ⟨S5x2048, .f32⟩
  | .hbm, ⟨7, _⟩ => ⟨S8x2048, .f32⟩
  | .hbm, ⟨8, _⟩ => ⟨S2x1x12288, .f32⟩
  | .hbm, ⟨9, _⟩ => ⟨S2x8x12288, .f32⟩
  | .local _ .vmem, ⟨0, _⟩ => ⟨S8x2048, .f32⟩
  | .local _ .vmem, ⟨1, _⟩ => ⟨S1x2048x512, .f32⟩
  | .local _ .vmem, ⟨2, _⟩ => ⟨S1x2048x512, .f32⟩
  | .local _ .vmem, ⟨3, _⟩ => ⟨S1x1x512, .f32⟩
  | .local _ .vmem, ⟨4, _⟩ => ⟨S1x1x512, .f32⟩
  | .local _ .vmem, ⟨5, _⟩ => ⟨S1x8x512, .f32⟩
  | .local _ .vmem, ⟨6, _⟩ => ⟨S1x8x512, .f32⟩
  | _, _ => ⟨S2x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 24], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceModIdeal.lean ====
abbrev S2x2048 : Shape := ⟨2, ![2, 2048]⟩
abbrev S2048 : Shape := ⟨1, ![2048]⟩
abbrev S2x2048x12288 : Shape := ⟨3, ![2, 2048, 12288]⟩
abbrev S2x12288 : Shape := ⟨2, ![2, 12288]⟩
abbrev S1x2048 : Shape := ⟨2, ![1, 2048]⟩
abbrev S_ : Shape := ⟨0, ![]⟩
abbrev S5x2048 : Shape := ⟨2, ![5, 2048]⟩
abbrev S8x2048 : Shape := ⟨2, ![8, 2048]⟩
abbrev S1x2048x12288 : Shape := ⟨3, ![1, 2048, 12288]⟩
abbrev S2048x12288 : Shape := ⟨2, ![2048, 12288]⟩
abbrev S8x12288 : Shape := ⟨2, ![8, 12288]⟩
abbrev S1x12288 : Shape := ⟨2, ![1, 12288]⟩
abbrev S12288 : Shape := ⟨1, ![12288]⟩
abbrev S1x8x12288 : Shape := ⟨3, ![1, 8, 12288]⟩
abbrev S2x8x12288 : Shape := ⟨3, ![2, 8, 12288]⟩

abbrev nBuf : Space → Nat
  | .hbm => 36
  | .vmem => 0
  | .smem => 0
  | _ => 0

abbrev bufTy : (tb : Table) → Fin (tcTables nBuf tb) → BufTy
  | .hbm, ⟨0, _⟩ => ⟨S2x2048, .f32⟩
  | .hbm, ⟨1, _⟩ => ⟨S2048, .f32⟩
  | .hbm, ⟨2, _⟩ => ⟨S2x2048x12288, .f32⟩
  | .hbm, ⟨3, _⟩ => ⟨S2x12288, .f32⟩
  | .hbm, ⟨4, _⟩ => ⟨S1x2048, .f32⟩
  | .hbm, ⟨5, _⟩ => ⟨S_, .f32⟩
  | .hbm, ⟨6, _⟩ => ⟨S5x2048, .f32⟩
  | .hbm, ⟨7, _⟩ => ⟨S8x2048, .f32⟩
  | .hbm, ⟨8, _⟩ => ⟨S8x2048, .f32⟩
  | .hbm, ⟨9, _⟩ => ⟨S8x2048, .f32⟩
  | .hbm, ⟨10, _⟩ => ⟨S_, .f32⟩
  | .hbm, ⟨11, _⟩ => ⟨S8x2048, .f32⟩
  | .hbm, ⟨12, _⟩ => ⟨S8x2048, .f32⟩
  | .hbm, ⟨13, _⟩ => ⟨S_, .f32⟩
  | .hbm, ⟨14, _⟩ => ⟨S8x2048, .f32⟩
  | .hbm, ⟨15, _⟩ => ⟨S8x2048, .f32⟩
  | .hbm, ⟨16, _⟩ => ⟨S8x2048, .f32⟩
  | .hbm, ⟨17, _⟩ => ⟨S1x2048x12288, .f32⟩
  | .hbm, ⟨18, _⟩ => ⟨S2048x12288, .f32⟩
  | .hbm, ⟨19, _⟩ => ⟨S8x12288, .f32⟩
  | .hbm, ⟨20, _⟩ => ⟨S1x12288, .f32⟩
  | .hbm, ⟨21, _⟩ => ⟨S12288, .f32⟩
  | .hbm, ⟨22, _⟩ => ⟨S1x12288, .f32⟩
  | .hbm, ⟨23, _⟩ => ⟨S8x12288, .f32⟩
  | .hbm, ⟨24, _⟩ => ⟨S8x12288, .f32⟩
  | .hbm, ⟨25, _⟩ => ⟨S1x2048x12288, .f32⟩
  | .hbm, ⟨26, _⟩ => ⟨S2048x12288, .f32⟩
  | .hbm, ⟨27, _⟩ => ⟨S8x12288, .f32⟩
  | .hbm, ⟨28, _⟩ => ⟨S1x12288, .f32⟩
  | .hbm, ⟨29, _⟩ => ⟨S12288, .f32⟩
  | .hbm, ⟨30, _⟩ => ⟨S1x12288, .f32⟩
  | .hbm, ⟨31, _⟩ => ⟨S8x12288, .f32⟩
  | .hbm, ⟨32, _⟩ => ⟨S8x12288, .f32⟩
  | .hbm, ⟨33, _⟩ => ⟨S1x8x12288, .f32⟩
  | .hbm, ⟨34, _⟩ => ⟨S1x8x12288, .f32⟩
  | .hbm, ⟨35, _⟩ => ⟨S2x8x12288, .f32⟩
  | _, _ => ⟨S2x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩

abbrev nD : Nat := 1
abbrev τ : Topo := Topo.v7x

variable {F : FTy → Type} [FloatOps F]
-- ==== KernelOut.lean ====
abbrev S32x256x2048 : Shape := ⟨3, ![32, 256, 2048]⟩
abbrev S2x1024x2048 : Shape := ⟨3, ![2, 1024, 2048]⟩
abbrev S8192x2048 : Shape := ⟨2, ![8192, 2048]⟩
abbrev S2048x2048 : Shape := ⟨2, ![2048, 2048]⟩
abbrev S2x8x12288 : Shape := ⟨3, ![2, 8, 12288]⟩
abbrev S1x2048x2048 : Shape := ⟨3, ![1, 2048, 2048]⟩
abbrev S1x2048 : Shape := ⟨2, ![1, 2048]⟩
abbrev S10240x2048 : Shape := ⟨2, ![10240, 2048]⟩
abbrev S1x8x2048 : Shape := ⟨3, ![1, 8, 2048]⟩
abbrev S8x2048 : Shape := ⟨2, ![8, 2048]⟩
abbrev S8x1x2048 : Shape := ⟨3, ![8, 1, 2048]⟩
abbrev S2048 : Shape := ⟨1, ![2048]⟩
abbrev S512x2048 : Shape := ⟨2, ![512, 2048]⟩
abbrev S2048x512 : Shape := ⟨2, ![2048, 512]⟩
abbrev S1x512 : Shape := ⟨2, ![1, 512]⟩
abbrev S1x1x512 : Shape := ⟨3, ![1, 1, 512]⟩
abbrev S512x512 : Shape := ⟨2, ![512, 512]⟩

abbrev nBuf : Space → Nat
  | .hbm => 18
  | .vmem => 12
  | .smem => 0
  | _ => 0

abbrev bufTy : (tb : Table) → Fin (tcTables nBuf tb) → BufTy
  | .hbm, ⟨0, _⟩ => ⟨S32x256x2048, .f32⟩
  | .hbm, ⟨1, _⟩ => ⟨S2x1024x2048, .f32⟩
  | .hbm, ⟨2, _⟩ => ⟨S8192x2048, .bf16⟩
  | .hbm, ⟨3, _⟩ => ⟨S2048x2048, .bf16⟩
  | .hbm, ⟨4, _⟩ => ⟨S2x8x12288, .f32⟩
  | .hbm, ⟨5, _⟩ => ⟨S1x2048x2048, .f32⟩
  | .hbm, ⟨6, _⟩ => ⟨S1x2048, .f32⟩
  | .hbm, ⟨7, _⟩ => ⟨S8192x2048, .f32⟩
  | .hbm, ⟨8, _⟩ => ⟨S2048x2048, .f32⟩
  | .hbm, ⟨9, _⟩ => ⟨S10240x2048, .f32⟩
  | .hbm, ⟨10, _⟩ => ⟨S1x8x2048, .f32⟩
  | .hbm, ⟨11, _⟩ => ⟨S8x2048, .f32⟩
  | .hbm, ⟨12, _⟩ => ⟨S8x1x2048, .f32⟩
  | .hbm, ⟨13, _⟩ => ⟨S10240x2048, .bf16⟩
  | .hbm, ⟨14, _⟩ => ⟨S2048x2048, .f32⟩
  | .hbm, ⟨15, _⟩ => ⟨S2048, .f32⟩
  | .hbm, ⟨16, _⟩ => ⟨S1x2048, .f32⟩
  | .hbm, ⟨17, _⟩ => ⟨S10240x2048, .f32⟩
  | .local _ .vmem, ⟨0, _⟩ => ⟨S512x2048, .bf16⟩
  | .local _ .vmem, ⟨1, _⟩ => ⟨S512x2048, .bf16⟩
  | .local _ .vmem, ⟨2, _⟩ => ⟨S2048x512, .f32⟩
  | .local _ .vmem, ⟨3, _⟩ => ⟨S2048x512, .f32⟩
  | .local _ .vmem, ⟨4, _⟩ => ⟨S1x512, .f32⟩
  | .local _ .vmem, ⟨5, _⟩ => ⟨S1x512, .f32⟩
  | .local _ .vmem, ⟨6, _⟩ => ⟨S1x1x512, .f32⟩
  | .local _ .vmem, ⟨7, _⟩ => ⟨S1x1x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | _, _ => ⟨S32x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![20, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 1 := Scalar.cmpi .slt arg0 c16_i32
  let c16_i32_0 : BitVec 32 := 16#32
  let v1 : BitVec 32 := Scalar.subi arg0 c16_i32_0
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c0_i32_8 : BitVec 32 := 0#32
  ![v20.toNat, c0_i32_7.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceOutIdeal.lean ====
abbrev S32x256x2048 : Shape := ⟨3, ![32, 256, 2048]⟩
abbrev S2x1024x2048 : Shape := ⟨3, ![2, 1024, 2048]⟩
abbrev S8192x2048 : Shape := ⟨2, ![8192, 2048]⟩
abbrev S2048x2048 : Shape := ⟨2, ![2048, 2048]⟩
abbrev S2x8x12288 : Shape := ⟨3, ![2, 8, 12288]⟩
abbrev S1x2048x2048 : Shape := ⟨3, ![1, 2048, 2048]⟩
abbrev S1x2048 : Shape := ⟨2, ![1, 2048]⟩
abbrev S1x1x12288 : Shape := ⟨3, ![1, 1, 12288]⟩
abbrev S1x12288 : Shape := ⟨2, ![1, 12288]⟩
abbrev S1x1x2048 : Shape := ⟨3, ![1, 1, 2048]⟩
abbrev S1x2x12288 : Shape := ⟨3, ![1, 2, 12288]⟩
abbrev S2x12288 : Shape := ⟨2, ![2, 12288]⟩
abbrev S2x1x12288 : Shape := ⟨3, ![2, 1, 12288]⟩
abbrev S2x1x2048 : Shape := ⟨3, ![2, 1, 2048]⟩
abbrev S2048 : Shape := ⟨1, ![2048]⟩
abbrev S10240x2048 : Shape := ⟨2, ![10240, 2048]⟩

abbrev nBuf : Space → Nat
  | .hbm => 50
  | .vmem => 0
  | .smem => 0
  | _ => 0

abbrev bufTy : (tb : Table) → Fin (tcTables nBuf tb) → BufTy
  | .hbm, ⟨0, _⟩ => ⟨S32x256x2048, .f32⟩
  | .hbm, ⟨1, _⟩ => ⟨S2x1024x2048, .f32⟩
  | .hbm, ⟨2, _⟩ => ⟨S8192x2048, .bf16⟩
  | .hbm, ⟨3, _⟩ => ⟨S2048x2048, .bf16⟩
  | .hbm, ⟨4, _⟩ => ⟨S2x8x12288, .f32⟩
  | .hbm, ⟨5, _⟩ => ⟨S1x2048x2048, .f32⟩
  | .hbm, ⟨6, _⟩ => ⟨S1x2048, .f32⟩
  | .hbm, ⟨7, _⟩ => ⟨S1x1x12288, .f32⟩
  | .hbm, ⟨8, _⟩ => ⟨S1x12288, .f32⟩
  | .hbm, ⟨9, _⟩ => ⟨S1x1x12288, .f32⟩
  | .hbm, ⟨10, _⟩ => ⟨S1x1x2048, .f32⟩
  | .hbm, ⟨11, _⟩ => ⟨S1x1x2048, .f32⟩
  | .hbm, ⟨12, _⟩ => ⟨S1x1x2048, .f32⟩
  | .hbm, ⟨13, _⟩ => ⟨S1x1x2048, .f32⟩
  | .hbm, ⟨14, _⟩ => ⟨S1x1x2048, .f32⟩
  | .hbm, ⟨15, _⟩ => ⟨S1x1x2048, .f32⟩
  | .hbm, ⟨16, _⟩ => ⟨S1x2x12288, .f32⟩
  | .hbm, ⟨17, _⟩ => ⟨S2x12288, .f32⟩
  | .hbm, ⟨18, _⟩ => ⟨S2x1x12288, .f32⟩
  | .hbm, ⟨19, _⟩ => ⟨S2x1x2048, .f32⟩
  | .hbm, ⟨20, _⟩ => ⟨S2x1x2048, .f32⟩
  | .hbm, ⟨21, _⟩ => ⟨S2x1x2048, .f32⟩
  | .hbm, ⟨22, _⟩ => ⟨S2x1x2048, .f32⟩
  | .hbm, ⟨23, _⟩ => ⟨S2x1x2048, .f32⟩
  | .hbm, ⟨24, _⟩ => ⟨S2x1x2048, .f32⟩
  | .hbm, ⟨25, _⟩ => ⟨S8192x2048, .f32⟩
  | .hbm, ⟨26, _⟩ => ⟨S32x256x2048, .f32⟩
  | .hbm, ⟨27, _⟩ => ⟨S2048x2048, .f32⟩
  | .hbm, ⟨28, _⟩ => ⟨S32x256x2048, .f32⟩
  | .hbm, ⟨29, _⟩ => ⟨S2048, .f32⟩
  | .hbm, ⟨30, _⟩ => ⟨S1x1x2048, .f32⟩
  | .hbm, ⟨31, _⟩ => ⟨S32x256x2048, .f32⟩
  | .hbm, ⟨32, _⟩ => ⟨S32x256x2048, .f32⟩
  | .hbm, ⟨33, _⟩ => ⟨S32x256x2048, .f32⟩
  | .hbm, ⟨34, _⟩ => ⟨S32x256x2048, .f32⟩
  | .hbm, ⟨35, _⟩ => ⟨S32x256x2048, .f32⟩
  | .hbm, ⟨36, _⟩ => ⟨S2048x2048, .f32⟩
  | .hbm, ⟨37, _⟩ => ⟨S2x1024x2048, .f32⟩
  | .hbm, ⟨38, _⟩ => ⟨S2048x2048, .f32⟩
  | .hbm, ⟨39, _⟩ => ⟨S2x1024x2048, .f32⟩
  | .hbm, ⟨40, _⟩ => ⟨S2048, .f32⟩
  | .hbm, ⟨41, _⟩ => ⟨S1x1x2048, .f32⟩
  | .hbm, ⟨42, _⟩ => ⟨S2x1024x2048, .f32⟩
  | .hbm, ⟨43, _⟩ => ⟨S2x1024x2048, .f32⟩
  | .hbm, ⟨44, _⟩ => ⟨S2x1024x2048, .f32⟩
  | .hbm, ⟨45, _⟩ => ⟨S2x1024x2048, .f32⟩
  | .hbm, ⟨46, _⟩ => ⟨S2x1024x2048, .f32⟩
  | .hbm, ⟨47, _⟩ => ⟨S8192x2048, .f32⟩
  | .hbm, ⟨48, _⟩ => ⟨S2048x2048, .f32⟩
  | .hbm, ⟨49, _⟩ => ⟨S10240x2048, .f32⟩
  | _, _ => ⟨S32x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩

abbrev nD : Nat := 1
abbrev τ : Topo := Topo.v7x

variable {F : FTy → Type} [FloatOps F]
-- ==== KernelNorm.lean ====
abbrev S10240x2048 : Shape := ⟨2, ![10240, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩
abbrev S8192x2048 : Shape := ⟨2, ![8192, 2048]⟩
abbrev S32x256x2048 : Shape := ⟨3, ![32, 256, 2048]⟩
abbrev S2048x2048 : Shape := ⟨2, ![2048, 2048]⟩
abbrev S2x1024x2048 : Shape := ⟨3, ![2, 1024, 2048]⟩

abbrev nBuf : Space → Nat
  | .hbm => 8
  | .vmem => 5
  | .smem => 0
  | _ => 0

abbrev bufTy : (tb : Table) → Fin (tcTables nBuf tb) → BufTy
  | .hbm, ⟨0, _⟩ => ⟨S10240x2048, .f32⟩
  | .hbm, ⟨1, _⟩ => ⟨S2048, .f32⟩
  | .hbm, ⟨2, _⟩ => ⟨S1x2048, .f32⟩
  | .hbm, ⟨3, _⟩ => ⟨S10240x2048, .f32⟩
  | .hbm, ⟨4, _⟩ => ⟨S8192x2048, .f32⟩
  | .hbm, ⟨5, _⟩ => ⟨S32x256x2048, .f32⟩
  | .hbm, ⟨6, _⟩ => ⟨S2048x2048, .f32⟩
  | .hbm, ⟨7, _⟩ => ⟨S2x1024x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | _, _ => ⟨S10240x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceNormIdeal.lean ====
abbrev S10240x2048 : Shape := ⟨2, ![10240, 2048]⟩
abbrev S2048 : Shape := ⟨1, ![2048]⟩
abbrev S8192x2048 : Shape := ⟨2, ![8192, 2048]⟩
abbrev S32x256x2048 : Shape := ⟨3, ![32, 256, 2048]⟩
abbrev S2048x2048 : Shape := ⟨2, ![2048, 2048]⟩
abbrev S2x1024x2048 : Shape := ⟨3, ![2, 1024, 2048]⟩
abbrev S_ : Shape := ⟨0, ![]⟩
abbrev S32x256 : Shape := ⟨2, ![32, 256]⟩
abbrev S32x256x1 : Shape := ⟨3, ![32, 256, 1]⟩
abbrev S2x1024 : Shape := ⟨2, ![2, 1024]⟩
abbrev S2x1024x1 : Shape := ⟨3, ![2, 1024, 1]⟩
abbrev S1x1x2048 : Shape := ⟨3, ![1, 1, 2048]⟩

abbrev nBuf : Space → Nat
  | .hbm => 38
  | .vmem => 0
  | .smem => 0
  | _ => 0

abbrev bufTy : (tb : Table) → Fin (tcTables nBuf tb) → BufTy
  | .hbm, ⟨0, _⟩ => ⟨S10240x2048, .f32⟩
  | .hbm, ⟨1, _⟩ => ⟨S2048, .f32⟩
  | .hbm, ⟨2, _⟩ => ⟨S8192x2048, .f32⟩
  | .hbm, ⟨3, _⟩ => ⟨S32x256x2048, .f32⟩
  | .hbm, ⟨4, _⟩ => ⟨S2048x2048, .f32⟩
  | .hbm, ⟨5, _⟩ => ⟨S2x1024x2048, .f32⟩
  | .hbm, ⟨6, _⟩ => ⟨S32x256x2048, .f32⟩
  | .hbm, ⟨7, _⟩ => ⟨S_, .f32⟩
  | .hbm, ⟨8, _⟩ => ⟨S32x256, .f32⟩
  | .hbm, ⟨9, _⟩ => ⟨S32x256x1, .f32⟩
  | .hbm, ⟨10, _⟩ => ⟨S_, .f32⟩
  | .hbm, ⟨11, _⟩ => ⟨S32x256x1, .f32⟩
  | .hbm, ⟨12, _⟩ => ⟨S32x256x1, .f32⟩
  | .hbm, ⟨13, _⟩ => ⟨S_, .f32⟩
  | .hbm, ⟨14, _⟩ => ⟨S32x256x1, .f32⟩
  | .hbm, ⟨15, _⟩ => ⟨S32x256x1, .f32⟩
  | .hbm, ⟨16, _⟩ => ⟨S32x256x1, .f32⟩
  | .hbm, ⟨17, _⟩ => ⟨S32x256x2048, .f32⟩
  | .hbm, ⟨18, _⟩ => ⟨S32x256x2048, .f32⟩
  | .hbm, ⟨19, _⟩ => ⟨S2x1024x2048, .f32⟩
  | .hbm, ⟨20, _⟩ => ⟨S_, .f32⟩
  | .hbm, ⟨21, _⟩ => ⟨S2x1024, .f32⟩
  | .hbm, ⟨22, _⟩ => ⟨S2x1024x1, .f32⟩
  | .hbm, ⟨23, _⟩ => ⟨S_, .f32⟩
  | .hbm, ⟨24, _⟩ => ⟨S2x1024x1, .f32⟩
  | .hbm, ⟨25, _⟩ => ⟨S2x1024x1, .f32⟩
  | .hbm, ⟨26, _⟩ => ⟨S_, .f32⟩
  | .hbm, ⟨27, _⟩ => ⟨S2x1024x1, .f32⟩
  | .hbm, ⟨28, _⟩ => ⟨S2x1024x1, .f32⟩
  | .hbm, ⟨29, _⟩ => ⟨S2x1024x1, .f32⟩
  | .hbm, ⟨30, _⟩ => ⟨S2x1024x2048, .f32⟩
  | .hbm, ⟨31, _⟩ => ⟨S2x1024x2048, .f32⟩
  | .hbm, ⟨32, _⟩ => ⟨S1x1x2048, .f32⟩
  | .hbm, ⟨33, _⟩ => ⟨S32x256x2048, .f32⟩
  | .hbm, ⟨34, _⟩ => ⟨S32x256x2048, .f32⟩
  | .hbm, ⟨35, _⟩ => ⟨S1x1x2048, .f32⟩
  | .hbm, ⟨36, _⟩ => ⟨S2x1024x2048, .f32⟩
  | .hbm, ⟨37, _⟩ => ⟨S2x1024x2048, .f32⟩
  | _, _ => ⟨S10240x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩

abbrev nD : Nat := 1
abbrev τ : Topo := Topo.v7x

variable {F : FTy → Type} [FloatOps F]
-- ==== KernelOutRnn.lean ====
abbrev S32x256x2048 : Shape := ⟨3, ![32, 256, 2048]⟩
abbrev S2x1024x2048 : Shape := ⟨3, ![2, 1024, 2048]⟩
abbrev S8192x2048 : Shape := ⟨2, ![8192, 2048]⟩
abbrev S2048x2048 : Shape := ⟨2, ![2048, 2048]⟩
abbrev S2x8x12288 : Shape := ⟨3, ![2, 8, 12288]⟩
abbrev S1x2048x2048 : Shape := ⟨3, ![1, 2048, 2048]⟩
abbrev S1x2048 : Shape := ⟨2, ![1, 2048]⟩
abbrev S10240x2048 : Shape := ⟨2, ![10240, 2048]⟩
abbrev S1x8x2048 : Shape := ⟨3, ![1, 8, 2048]⟩
abbrev S8x2048 : Shape := ⟨2, ![8, 2048]⟩
abbrev S8x1x2048 : Shape := ⟨3, ![8, 1, 2048]⟩
abbrev S2048 : Shape := ⟨1, ![2048]⟩
abbrev S512x2048 : Shape := ⟨2, ![512, 2048]⟩
abbrev S2048x512 : Shape := ⟨2, ![2048, 512]⟩
abbrev S1x512 : Shape := ⟨2, ![1, 512]⟩
abbrev S1x1x512 : Shape := ⟨3, ![1, 1, 512]⟩
abbrev S512x512 : Shape := ⟨2, ![512, 512]⟩

abbrev nBuf : Space → Nat
  | .hbm => 18
  | .vmem => 12
  | .smem => 0
  | _ => 0

abbrev bufTy : (tb : Table) → Fin (tcTables nBuf tb) → BufTy
  | .hbm, ⟨0, _⟩ => ⟨S32x256x2048, .f32⟩
  | .hbm, ⟨1, _⟩ => ⟨S2x1024x2048, .f32⟩
  | .hbm, ⟨2, _⟩ => ⟨S8192x2048, .bf16⟩
  | .hbm, ⟨3, _⟩ => ⟨S2048x2048, .bf16⟩
  | .hbm, ⟨4, _⟩ => ⟨S2x8x12288, .f32⟩
  | .hbm, ⟨5, _⟩ => ⟨S1x2048x2048, .f32⟩
  | .hbm, ⟨6, _⟩ => ⟨S1x2048, .f32⟩
  | .hbm, ⟨7, _⟩ => ⟨S8192x2048, .f32⟩
  | .hbm, ⟨8, _⟩ => ⟨S2048x2048, .f32⟩
  | .hbm, ⟨9, _⟩ => ⟨S10240x2048, .f32⟩
  | .hbm, ⟨10, _⟩ => ⟨S1x8x2048, .f32⟩
  | .hbm, ⟨11, _⟩ => ⟨S8x2048, .f32⟩
  | .hbm, ⟨12, _⟩ => ⟨S8x1x2048, .f32⟩
  | .hbm, ⟨13, _⟩ => ⟨S10240x2048, .bf16⟩
  | .hbm, ⟨14, _⟩ => ⟨S2048x2048, .f32⟩
  | .hbm, ⟨15, _⟩ => ⟨S2048, .f32⟩
  | .hbm, ⟨16, _⟩ => ⟨S1x2048, .f32⟩
  | .hbm, ⟨17, _⟩ => ⟨S10240x2048, .f32⟩
  | .local _ .vmem, ⟨0, _⟩ => ⟨S512x2048, .bf16⟩
  | .local _ .vmem, ⟨1, _⟩ => ⟨S512x2048, .bf16⟩
  | .local _ .vmem, ⟨2, _⟩ => ⟨S2048x512, .f32⟩
  | .local _ .vmem, ⟨3, _⟩ => ⟨S2048x512, .f32⟩
  | .local _ .vmem, ⟨4, _⟩ => ⟨S1x512, .f32⟩
  | .local _ .vmem, ⟨5, _⟩ => ⟨S1x512, .f32⟩
  | .local _ .vmem, ⟨6, _⟩ => ⟨S1x1x512, .f32⟩
  | .local _ .vmem, ⟨7, _⟩ => ⟨S1x1x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | _, _ => ⟨S32x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![20, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 1 := Scalar.cmpi .slt arg0 c16_i32
  let c16_i32_0 : BitVec 32 := 16#32
  let v1 : BitVec 32 := Scalar.subi arg0 c16_i32_0
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c0_i32_8 : BitVec 32 := 0#32
  ![v20.toNat, c0_i32_7.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceOutRnnIdeal.lean ====
abbrev S32x256x2048 : Shape := ⟨3, ![32, 256, 2048]⟩
abbrev S2x1024x2048 : Shape := ⟨3, ![2, 1024, 2048]⟩
abbrev S8192x2048 : Shape := ⟨2, ![8192, 2048]⟩
abbrev S2048x2048 : Shape := ⟨2, ![2048, 2048]⟩
abbrev S2x8x12288 : Shape := ⟨3, ![2, 8, 12288]⟩
abbrev S1x2048x2048 : Shape := ⟨3, ![1, 2048, 2048]⟩
abbrev S1x2048 : Shape := ⟨2, ![1, 2048]⟩
abbrev S1x1x12288 : Shape := ⟨3, ![1, 1, 12288]⟩
abbrev S1x12288 : Shape := ⟨2, ![1, 12288]⟩
abbrev S1x1x2048 : Shape := ⟨3, ![1, 1, 2048]⟩
abbrev S1x2x12288 : Shape := ⟨3, ![1, 2, 12288]⟩
abbrev S2x12288 : Shape := ⟨2, ![2, 12288]⟩
abbrev S2x1x12288 : Shape := ⟨3, ![2, 1, 12288]⟩
abbrev S2x1x2048 : Shape := ⟨3, ![2, 1, 2048]⟩
abbrev S2048 : Shape := ⟨1, ![2048]⟩
abbrev S10240x2048 : Shape := ⟨2, ![10240, 2048]⟩

abbrev nBuf : Space → Nat
  | .hbm => 50
  | .vmem => 0
  | .smem => 0
  | _ => 0

abbrev bufTy : (tb : Table) → Fin (tcTables nBuf tb) → BufTy
  | .hbm, ⟨0, _⟩ => ⟨S32x256x2048, .f32⟩
  | .hbm, ⟨1, _⟩ => ⟨S2x1024x2048, .f32⟩
  | .hbm, ⟨2, _⟩ => ⟨S8192x2048, .bf16⟩
  | .hbm, ⟨3, _⟩ => ⟨S2048x2048, .bf16⟩
  | .hbm, ⟨4, _⟩ => ⟨S2x8x12288, .f32⟩
  | .hbm, ⟨5, _⟩ => ⟨S1x2048x2048, .f32⟩
  | .hbm, ⟨6, _⟩ => ⟨S1x2048, .f32⟩
  | .hbm, ⟨7, _⟩ => ⟨S1x1x12288, .f32⟩
  | .hbm, ⟨8, _⟩ => ⟨S1x12288, .f32⟩
  | .hbm, ⟨9, _⟩ => ⟨S1x1x12288, .f32⟩
  | .hbm, ⟨10, _⟩ => ⟨S1x1x2048, .f32⟩
  | .hbm, ⟨11, _⟩ => ⟨S1x1x2048, .f32⟩
  | .hbm, ⟨12, _⟩ => ⟨S1x1x2048, .f32⟩
  | .hbm, ⟨13, _⟩ => ⟨S1x1x2048, .f32⟩
  | .hbm, ⟨14, _⟩ => ⟨S1x1x2048, .f32⟩
  | .hbm, ⟨15, _⟩ => ⟨S1x1x2048, .f32⟩
  | .hbm, ⟨16, _⟩ => ⟨S1x2x12288, .f32⟩
  | .hbm, ⟨17, _⟩ => ⟨S2x12288, .f32⟩
  | .hbm, ⟨18, _⟩ => ⟨S2x1x12288, .f32⟩
  | .hbm, ⟨19, _⟩ => ⟨S2x1x2048, .f32⟩
  | .hbm, ⟨20, _⟩ => ⟨S2x1x2048, .f32⟩
  | .hbm, ⟨21, _⟩ => ⟨S2x1x2048, .f32⟩
  | .hbm, ⟨22, _⟩ => ⟨S2x1x2048, .f32⟩
  | .hbm, ⟨23, _⟩ => ⟨S2x1x2048, .f32⟩
  | .hbm, ⟨24, _⟩ => ⟨S2x1x2048, .f32⟩
  | .hbm, ⟨25, _⟩ => ⟨S8192x2048, .f32⟩
  | .hbm, ⟨26, _⟩ => ⟨S32x256x2048, .f32⟩
  | .hbm, ⟨27, _⟩ => ⟨S2048x2048, .f32⟩
  | .hbm, ⟨28, _⟩ => ⟨S32x256x2048, .f32⟩
  | .hbm, ⟨29, _⟩ => ⟨S2048, .f32⟩
  | .hbm, ⟨30, _⟩ => ⟨S1x1x2048, .f32⟩
  | .hbm, ⟨31, _⟩ => ⟨S32x256x2048, .f32⟩
  | .hbm, ⟨32, _⟩ => ⟨S32x256x2048, .f32⟩
  | .hbm, ⟨33, _⟩ => ⟨S32x256x2048, .f32⟩
  | .hbm, ⟨34, _⟩ => ⟨S32x256x2048, .f32⟩
  | .hbm, ⟨35, _⟩ => ⟨S32x256x2048, .f32⟩
  | .hbm, ⟨36, _⟩ => ⟨S2048x2048, .f32⟩
  | .hbm, ⟨37, _⟩ => ⟨S2x1024x2048, .f32⟩
  | .hbm, ⟨38, _⟩ => ⟨S2048x2048, .f32⟩
  | .hbm, ⟨39, _⟩ => ⟨S2x1024x2048, .f32⟩
  | .hbm, ⟨40, _⟩ => ⟨S2048, .f32⟩
  | .hbm, ⟨41, _⟩ => ⟨S1x1x2048, .f32⟩
  | .hbm, ⟨42, _⟩ => ⟨S2x1024x2048, .f32⟩
  | .hbm, ⟨43, _⟩ => ⟨S2x1024x2048, .f32⟩
  | .hbm, ⟨44, _⟩ => ⟨S2x1024x2048, .f32⟩
  | .hbm, ⟨45, _⟩ => ⟨S2x1024x2048, .f32⟩
  | .hbm, ⟨46, _⟩ => ⟨S2x1024x2048, .f32⟩
  | .hbm, ⟨47, _⟩ => ⟨S8192x2048, .f32⟩
  | .hbm, ⟨48, _⟩ => ⟨S2048x2048, .f32⟩
  | .hbm, ⟨49, _⟩ => ⟨S10240x2048, .f32⟩
  | _, _ => ⟨S32x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩

abbrev nD : Nat := 1
abbrev τ : Topo := Topo.v7x

variable {F : FTy → Type} [FloatOps F]
-- ==== Proof.Line.lean ====
module

public import Idealize.ShloMosaic.Lib.StableHlo.RunRead

/-! Reading a straight line of host operations in which every buffer is written once: after the whole line a result is its
    operation applied to what the whole line leaves in the operands. -/

@[expose] public section

namespace Cert.Line

open Idealize.ShloMosaic Idealize.ShloMosaic.StableHlo

variable {τ : Topo} {sig : RefSig} {Val : EltTy → Type}

/-- `W` lists what the operations write, one buffer each. -/
def Writes (ops : List (HloOp τ sig Val)) (W : List (Ref sig .tc)) : Prop :=
  ops.map HloOp.writes = W.map fun w => {Proc.devRef (τ := τ) .tc w}

variable {ops : List (HloOp τ sig Val)} {W : List (Ref sig .tc)} (hW : Writes ops W) (i : ℕ) (V : Valuation τ sig Val)

include hW

theorem kept {r : Ref sig .tc} (hr : r ∉ W.drop i) : upto ops V i (Proc.devRef .tc r) = after ops V (Proc.devRef .tc r) := by
  have h : (ops.drop i).map HloOp.writes = (W.drop i).map fun w => {Proc.devRef (τ := τ) .tc w} := by
    rw [List.map_drop, List.map_drop]; exact congrArg _ hW
  have e : after ops V = after (ops.drop i) (after (ops.take i) V) := by
    conv_lhs => rw [← List.take_append_drop i ops]
    generalize ops.take i = a
    generalize ops.drop i = b
    induction a generalizing V with
    | nil => rfl
    | cons x xs ih => exact ih _
  rw [e]
  exact (after_unwritten (W.drop i) h hr _).symm

theorem last {op : HloOp τ sig Val} (hop : ops[i]? = some op) {y : Ref sig .tc} (hy : y ∉ W.drop (i + 1)) :
    after ops V (Proc.devRef .tc y) = op.result (upto ops V i) (Proc.devRef .tc y) := by
  obtain ⟨hi, he⟩ := List.getElem?_eq_some_iff.1 hop
  have hseg : ops.drop i = op :: ops.drop (i + 1) := by rw [List.drop_eq_getElem_cons hi, he]
  refine after_last_write (W.drop (i + 1)) hseg ?_ hy V
  rw [List.map_drop, List.map_drop]; exact congrArg _ hW

theorem nullary {y : Ref sig .tc} {v : y.ty.Contents Val} {hy} (hop : ops[i]? = some (StableHlo.nullary y v hy)) (h : y ∉ W.drop (i + 1)) :
    after ops V (Proc.devRef .tc y) = v :=
  (last hW i V hop h).trans (nullary_result y v hy _)

theorem unary {x y : Ref sig .tc} {f : x.ty.Contents Val → y.ty.Contents Val} {hx hy} (hop : ops[i]? = some (StableHlo.unary x y f hx hy))
    (h : y ∉ W.drop (i + 1)) (h1 : x ∉ W.drop i) : after ops V (Proc.devRef .tc y) = f (after ops V (Proc.devRef .tc x)) :=
  (last hW i V hop h).trans ((unary_result x y f hx hy _).trans (congrArg f (kept hW i V h1)))

theorem reshape {x y : Ref sig .tc} {he hn hx hy} (hop : ops[i]? = some (StableHlo.reshape x y he hn hx hy))
    (h : y ∉ W.drop (i + 1)) (h1 : x ∉ W.drop i) : after ops V (Proc.devRef .tc y) = fun i => he ▸ shapeCast y.ty.shape (after ops V (Proc.devRef .tc x)) hn i :=
  (last hW i V hop h).trans ((reshape_result x y he hn hx hy _).trans (by rw [kept hW i V h1]))

theorem binary {a b y : Ref sig .tc} {f : a.ty.Contents Val → b.ty.Contents Val → y.ty.Contents Val} {ha hb hy} (hop : ops[i]? = some (StableHlo.binary a b y f ha hb hy))
    (h : y ∉ W.drop (i + 1)) (h1 : a ∉ W.drop i) (h2 : b ∉ W.drop i) :
    after ops V (Proc.devRef .tc y) = f (after ops V (Proc.devRef .tc a)) (after ops V (Proc.devRef .tc b)) :=
  (last hW i V hop h).trans ((binary_result a b y f ha hb hy _).trans (congrArg₂ f (kept hW i V h1) (kept hW i V h2)))

theorem ternary {c a b y : Ref sig .tc} {f : c.ty.Contents Val → a.ty.Contents Val → b.ty.Contents Val → y.ty.Contents Val} {hc ha hb hy}
    (hop : ops[i]? = some (StableHlo.ternary c a b y f hc ha hb hy)) (h : y ∉ W.drop (i + 1)) (h0 : c ∉ W.drop i) (h1 : a ∉ W.drop i) (h2 : b ∉ W.drop i) :
    after ops V (Proc.devRef .tc y) = f (after ops V (Proc.devRef .tc c)) (after ops V (Proc.devRef .tc a)) (after ops V (Proc.devRef .tc b)) :=
  (last hW i V hop h).trans ((ternary_result c a b y f hc ha hb hy _).trans (by rw [kept hW i V h0, kept hW i V h1, kept hW i V h2]))

theorem unaryIndexed {a : Ref sig .tc} {n : ℕ} {ix : Fin n → Ref sig .tc} {T : BufTy} {y : Ref sig .tc}
    {f : a.ty.Contents Val → (Fin n → T.Contents Val) → y.ty.Contents Val} {hT ha hix hy}
    (hop : ops[i]? = some (StableHlo.unaryIndexed a ix T y f hT ha hix hy)) (h : y ∉ W.drop (i + 1)) (h1 : a ∉ W.drop i) (h2 : ∀ k, ix k ∉ W.drop i) :
    after ops V (Proc.devRef .tc y) = f (after ops V (Proc.devRef .tc a)) (fun k => cast (congrArg (fun U : BufTy => U.Contents Val) (hT k)) (after ops V (Proc.devRef .tc (ix k)))) :=
  (last hW i V hop h).trans ((unaryIndexed_result a ix T y f hT ha hix hy _).trans (by
    rw [kept hW i V h1]; exact congrArg _ (funext fun k => congrArg _ (kept hW i V (h2 k)))))

end Cert.Line

end
-- ==== Proof.Pre.lean ====
module

public import Idealize.ShloMosaic.Lib.ReduceAll
public import Idealize.ShloMosaic.Lib.WordCmp
public import Idealize.ShloMosaic.Lib.SortNet.Extract
public import Idealize.ShloMosaic.Lib.ValueIdxCore

/-! What is needed of the three tile tables, and small facts about words. -/

@[expose] public section

namespace Cert.Pre

open Idealize.ShloMosaic ValueIdx

/-- What is known of three tables: tiles `0 … last` are in use, each by one expert, with at most 1024 rows; the later
    tiles name the last tile's row block. -/
structure Tables (te tv ti : Fin 72 → BitVec 32) (last : ℕ) : Prop where
  last_lt : last < 72
  expert : ∀ t, (te t).toNat < 32
  le : ∀ t, (tv t).toInt ≤ 1024
  pos : ∀ t, 0 < (tv t).toInt ↔ t.val ≤ last
  index : ∀ t, (ti t).toNat = min t.val last

theorem toNat_of {x : BitVec 32} {n : ℕ} (h0 : 0 ≤ x.toInt) (h : x.toInt < n) : x.toNat < n := by
  have := BitVec.toInt_eq_toNat_cond x; split at this <;> omega

theorem andi_split {a b : BitVec 1} (h : IntOp.andi a b = 1#1) : a = 1#1 ∧ b = 1#1 := by
  revert a b; decide

theorem eq_bit {a b : BitVec 1} (h : IntOp.cmpi .eq a b = 1#1) : a = 1#1 ↔ b = 1#1 := by
  revert a b; decide

theorem iota_toInt (t : Fin 72) : (BitVec.ofNat 32 t.val).toInt = t.val := by revert t; decide

theorem ix_one (k : (⟨1, ![1]⟩ : Shape).Idx) : k = ix1 (0 : Fin 1) := funext fun a => by
  match a with
  | ⟨0, _⟩ => exact Subsingleton.elim (α := Fin 1) _ _

end Cert.Pre
-- ==== Proof.Places.lean ====
module

public import Mathlib.Algebra.BigOperators.Fin
public import Mathlib.Data.Fintype.BigOperators
public import Mathlib.Algebra.Order.BigOperators.Group.Finset
public import Mathlib.Tactic.Linarith

/-! The layout of the dispatched rows, in plain numbers: each expert's rows start at a multiple of 1024, one expert after
    another, and a tile of 1024 rows belongs to one expert. -/

@[expose] public section

namespace Cert.Places

open scoped BigOperators

/-- An expert's number of rows rounded up to whole tiles. -/
def pad (cnt : Fin 32 → ℕ) (e : Fin 32) : ℕ := (cnt e + 1023) / 1024 * 1024
/-- Where an expert's rows end. -/
def fin (cnt : Fin 32 → ℕ) (e : Fin 32) : ℕ := ∑ i, if i ≤ e then pad cnt i else 0
/-- Where an expert's rows start. -/
def start (cnt : Fin 32 → ℕ) (e : Fin 32) : ℕ := fin cnt e - pad cnt e
/-- Where the last expert's rows end. -/
def total (cnt : Fin 32 → ℕ) : ℕ := fin cnt 31
/-- How many experts end at or before tile `t`. -/
def hit (cnt : Fin 32 → ℕ) (t : ℕ) : ℕ := (Finset.univ.filter fun e => fin cnt e ≤ 1024 * t).card
/-- The last tile in use. -/
def last (cnt : Fin 32 → ℕ) : ℕ := total cnt / 1024 - 1

variable (cnt : Fin 32 → ℕ)

theorem pad_le (e : Fin 32) : pad cnt e ≤ cnt e + 1023 := by unfold pad; omega
theorem le_pad (e : Fin 32) : cnt e ≤ pad cnt e := by unfold pad; omega
theorem pad_lt (e : Fin 32) : pad cnt e < cnt e + 1024 := by unfold pad; omega
theorem dvd_pad (e : Fin 32) : 1024 ∣ pad cnt e := ⟨_, Nat.mul_comm _ _⟩

theorem fin_split (e : Fin 32) : fin cnt e = (∑ i, if i < e then pad cnt i else 0) + pad cnt e := by
  unfold fin
  have h : ∀ i, (if i ≤ e then pad cnt i else 0) = (if i < e then pad cnt i else 0) + if i = e then pad cnt i else 0 := fun i => by
    rcases lt_trichotomy i e with h | h | h
    · rw [if_pos h.le, if_pos h, if_neg h.ne, Nat.add_zero]
    · rw [if_pos h.le, if_neg (by rw [h]; exact lt_irrefl _), if_pos h, Nat.zero_add]
    · rw [if_neg (not_le.2 h), if_neg (not_lt.2 h.le), if_neg h.ne', Nat.add_zero]
  rw [Finset.sum_congr rfl fun i _ => h i, Finset.sum_add_distrib, Finset.sum_ite_eq' Finset.univ e]
  simp

theorem start_eq (e : Fin 32) : start cnt e = ∑ i, if i < e then pad cnt i else 0 := by
  unfold start; rw [fin_split]; omega

theorem start_add_pad (e : Fin 32) : start cnt e + pad cnt e = fin cnt e := by
  rw [start_eq, fin_split]

theorem dvd_fin (e : Fin 32) : 1024 ∣ fin cnt e :=
  Finset.dvd_sum fun i _ => by
    split
    · exact dvd_pad cnt i
    · exact dvd_zero _

theorem dvd_start (e : Fin 32) : 1024 ∣ start cnt e := by
  rw [start_eq]
  exact Finset.dvd_sum fun i _ => by
    split
    · exact dvd_pad cnt i
    · exact dvd_zero _

theorem fin_le_start {i j : Fin 32} (h : i < j) : fin cnt i ≤ start cnt j := by
  rw [start_eq]; unfold fin
  refine Finset.sum_le_sum fun k _ => ?_
  by_cases hk : k ≤ i
  · rw [if_pos hk, if_pos (lt_of_le_of_lt hk h)]
  · rw [if_neg hk]; exact Nat.zero_le _

theorem fin_mono {i j : Fin 32} (h : i ≤ j) : fin cnt i ≤ fin cnt j := by
  rcases h.lt_or_eq with h | h
  · exact (fin_le_start cnt h).trans (by rw [← start_add_pad cnt j]; omega)
  · rw [h]

variable {cnt}

theorem fin_le (hs : ∑ e, cnt e ≤ 40960) (e : Fin 32) : fin cnt e ≤ 72704 := by
  have h1 : fin cnt e ≤ ∑ i : Fin 32, (cnt i + 1023) := Finset.sum_le_sum fun i _ => by
    split
    · exact pad_le cnt i
    · exact Nat.zero_le _
  rw [Finset.sum_add_distrib] at h1
  have h2 : ∑ _i : Fin 32, 1023 = 32736 := by simp
  have h3 := dvd_fin cnt e
  omega

theorem total_le (hs : ∑ e, cnt e ≤ 40960) : total cnt ≤ 72704 := fin_le hs 31

theorem cnt_le (hs : ∑ e, cnt e ≤ 40960) (e : Fin 32) : cnt e ≤ 40960 :=
  (Finset.single_le_sum (f := cnt) (fun _ _ => Nat.zero_le _) (Finset.mem_univ e)).trans hs

/-- A tile inside an expert's rows is the expert's. -/
theorem hit_eq {t : ℕ} {e : Fin 32} (h1 : start cnt e ≤ 1024 * t) (h2 : 1024 * t < fin cnt e) : hit cnt t = e.val := by
  have : (Finset.univ.filter fun i => fin cnt i ≤ 1024 * t) = Finset.univ.filter fun i : Fin 32 => i < e := by
    ext i
    simp only [Finset.mem_filter, Finset.mem_univ, true_and]
    constructor
    · intro hi; by_contra hc
      exact absurd ((fin_mono cnt (not_lt.1 hc)).trans hi) (not_le.2 h2)
    · intro hi; exact (fin_le_start cnt hi).trans h1
  unfold hit; rw [this]
  have h3 : (Finset.univ.filter fun i : Fin 32 => i < e) = Finset.Iio e := by ext i; simp
  rw [h3, Fin.card_Iio]

/-- A tile before the end lies inside some expert's rows. -/
theorem exists_tile {t : ℕ} (h : 1024 * t < total cnt) : ∃ e, start cnt e ≤ 1024 * t ∧ 1024 * t < fin cnt e := by
  let p : ℕ → Prop := fun n => ∃ hn : n < 32, 1024 * t < fin cnt ⟨n, hn⟩
  have hp : ∃ n, p n := ⟨31, by decide, h⟩
  classical
  obtain ⟨hn, hlt⟩ := Nat.find_spec hp
  refine ⟨⟨Nat.find hp, hn⟩, ?_, hlt⟩
  rcases Nat.eq_zero_or_pos (Nat.find hp) with h0 | h0
  · rw [start_eq]
    rw [Finset.sum_eq_zero fun i _ => if_neg (by rw [Fin.lt_def]; show ¬ i.val < Nat.find hp; omega)]
    exact Nat.zero_le _
  · have hprev : ¬ p (Nat.find hp - 1) := Nat.find_min hp (by omega)
    have hn' : Nat.find hp - 1 < 32 := by omega
    have h1 : fin cnt ⟨Nat.find hp - 1, hn'⟩ ≤ 1024 * t := not_lt.1 fun hc => hprev ⟨hn', hc⟩
    refine le_trans (le_of_eq ?_) h1
    rw [start_eq]; unfold fin
    refine Finset.sum_congr rfl fun i _ => ?_
    have : i < (⟨Nat.find hp, hn⟩ : Fin 32) ↔ i ≤ (⟨Nat.find hp - 1, hn'⟩ : Fin 32) := by
      rw [Fin.lt_def, Fin.le_def]; show i.val < Nat.find hp ↔ i.val ≤ Nat.find hp - 1; omega
    exact if_congr this rfl rfl

/-- A tile in use has rows. -/
theorem rows_pos {t : ℕ} {e : Fin 32} (h1 : start cnt e ≤ 1024 * t) (h2 : 1024 * t < fin cnt e) : 1024 * t - start cnt e < cnt e := by
  have h3 := start_add_pad cnt e; have h4 := pad_lt cnt e; have h5 := dvd_fin cnt e
  omega

theorem total_pos {e : Fin 32} (h : 0 < cnt e) : 1024 ≤ total cnt := by
  have h1 : fin cnt e ≤ total cnt := fin_mono cnt (show e ≤ 31 from Nat.lt_succ_iff.1 e.isLt)
  have h2 := start_add_pad cnt e; have h3 := le_pad cnt e; have h4 := dvd_pad cnt e
  omega

theorem le_last_iff {t : ℕ} (h : 1024 ≤ total cnt) : t ≤ last cnt ↔ 1024 * t < total cnt := by
  have h1 := dvd_fin cnt 31
  unfold last
  change 1024 ∣ total cnt at h1
  omega

/-- Row `r` of expert `e` is in one of the expert's tiles. -/
theorem place_tile {e : Fin 32} {r : ℕ} (h : r < cnt e) :
    start cnt e ≤ 1024 * ((start cnt e + r) / 1024) ∧ 1024 * ((start cnt e + r) / 1024) < fin cnt e ∧
      (start cnt e + r) % 1024 < cnt e - (1024 * ((start cnt e + r) / 1024) - start cnt e) := by
  have h1 := dvd_start cnt e; have h2 := start_add_pad cnt e; have h3 := le_pad cnt e
  omega

theorem place_lt (hs : ∑ e, cnt e ≤ 40960) {e : Fin 32} {r : ℕ} (h : r < cnt e) : start cnt e + r < 72704 := by
  have h2 := start_add_pad cnt e; have h3 := le_pad cnt e; have h4 := fin_le hs e
  omega

/-- Two rows in one place are one expert's same row. -/
theorem place_inj {e e' : Fin 32} {r r' : ℕ} (h : r < cnt e) (h' : r' < cnt e') (he : start cnt e + r = start cnt e' + r') : e = e' ∧ r = r' := by
  have h1 := start_add_pad cnt e; have h2 := le_pad cnt e; have h3 := start_add_pad cnt e'; have h4 := le_pad cnt e'
  rcases lt_trichotomy e e' with hl | hl | hl
  · have := fin_le_start cnt hl; omega
  · subst hl; exact ⟨rfl, by omega⟩
  · have := fin_le_start cnt hl; omega

end Cert.Places

end
-- ==== Proof.Routed.lean ====
module

public import proofs.«01_k».proof.Pre_routed
public import proofs.«01_k».proof.Proof.Pre
public import Idealize.ShloMosaic.Lib.Affine
public import Idealize.ShloMosaic.Lib.Pipeline.Value
public import Idealize.ShloMosaic.Lib.Routing.Ops

/-! What the precondition says: the experts' row counts add up to at most 40960, every token names four different experts,
    and its place among an expert's rows is below the expert's count and taken by no other token. -/

@[expose] public section

namespace Cert.Pre

open Idealize.ShloMosaic ValueIdx
open scoped BigOperators

/-- The routing's properties: `cnt` the experts' counts, `te` the experts a token names, `rk` its place among an expert's rows. -/
structure Routed (cnt : Fin 32 → BitVec 32) (te rk : Fin 10240 → Fin 4 → BitVec 32) : Prop where
  sum : ∑ e, (cnt e).toNat ≤ 40960
  expert : ∀ n k, (te n k).toNat < 32
  rank : ∀ n k (e : Fin 32), (te n k).toNat = e.val → (rk n k).toNat < (cnt e).toNat
  row : ∀ n k k', te n k = te n k' → k = k'
  place : ∀ n k n' k', te n k = te n' k' → rk n k = rk n' k' → n = n' ∧ k = k'

theorem ori_split {a b : BitVec 1} (h : IntOp.ori a b = 1#1) : a = 1#1 ∨ b = 1#1 := by
  revert a b; decide

theorem ofNat_inj {a b : ℕ} (ha : a < 2 ^ 32) (hb : b < 2 ^ 32) (h : BitVec.ofNat 32 a = BitVec.ofNat 32 b) : a = b := by
  have := congrArg BitVec.toNat h
  rwa [BitVec.toNat_ofNat, BitVec.toNat_ofNat, Nat.mod_eq_of_lt ha, Nat.mod_eq_of_lt hb] at this

theorem range_sum (f : ℕ → ℕ) (n : ℕ) : ((List.range n).map f).sum = ∑ i : Fin n, f i.val := by
  rw [← Finset.sum_range]; rfl

/-- Pair `k` of token `n` among all the pairs. -/
def pairOf (n : Fin 10240) (k : Fin 4) : Fin 40960 := ⟨4 * n.val + k.val, by omega⟩

section
open Cert.Pre_routed
variable [Facts] {α : Type}

theorem flat_apply (x : S10240x4.Idx → α) (n : Fin 10240) (k : Fin 4) :
    shapeCast S40960 x Facts.shapeCasts_S10240x4_S40960 (ix1 (pairOf n k)) = x (ix2 n k) := by
  refine shapeCast_apply x _ _ _ ?_
  rw [Shape.rowMajor_val_two, Shape.rowMajor_val_one]
  show n.val * 4 + k.val = 4 * n.val + k.val
  omega

theorem tok_apply (x : S10240x4.Idx → α) (n : Fin 10240) (k : Fin 4) (e : Fin 32) :
    broadcastInDim S10240x4x32 ![0, 1, 2] Facts.bcast_S10240x4x1_S10240x4x32_0_1_2 (broadcastInDim S10240x4x1 ![0, 1] Facts.bcast_S10240x4_S10240x4x1_0_1 x) (ix3 n k e) = x (ix2 n k) :=
  (broadcastInDim_apply _ _ _ _ (ix3 n k (0 : Fin 1)) fun a => by
    match a with
    | ⟨0, _⟩ => rfl
    | ⟨1, _⟩ => rfl
    | ⟨2, _⟩ => rfl).trans (broadcastInDim_apply _ _ _ _ (ix2 n k) fun a => by
    match a with
    | ⟨0, _⟩ => rfl
    | ⟨1, _⟩ => rfl)

theorem exp_apply (x : S32.Idx → α) (n : Fin 10240) (k : Fin 4) (e : Fin 32) :
    broadcastInDim S10240x4x32 ![0, 1, 2] Facts.bcast_S1x1x32_S10240x4x32_0_1_2 (broadcastInDim S1x1x32 ![2] Facts.bcast_S32_S1x1x32_2 x) (ix3 n k e) = x (ix1 e) :=
  (broadcastInDim_apply _ _ _ _ (ix3 (0 : Fin 1) (0 : Fin 1) e) fun a => by
    match a with
    | ⟨0, _⟩ => rfl
    | ⟨1, _⟩ => rfl
    | ⟨2, _⟩ => rfl).trans (broadcastInDim_apply _ _ _ _ (ix1 e) fun a => by
    match a with
    | ⟨0, _⟩ => rfl)

theorem left_apply (x : S10240x4.Idx → α) (n : Fin 10240) (k k' : Fin 4) :
    broadcastInDim S10240x4x4 ![0, 1, 2] Facts.bcast_S10240x4x1_S10240x4x4_0_1_2 (broadcastInDim S10240x4x1 ![0, 1] Facts.bcast_S10240x4_S10240x4x1_0_1 x) (ix3 n k k') = x (ix2 n k) :=
  (broadcastInDim_apply _ _ _ _ (ix3 n k (0 : Fin 1)) fun a => by
    match a with
    | ⟨0, _⟩ => rfl
    | ⟨1, _⟩ => rfl
    | ⟨2, _⟩ => rfl).trans (broadcastInDim_apply _ _ _ _ (ix2 n k) fun a => by
    match a with
    | ⟨0, _⟩ => rfl
    | ⟨1, _⟩ => rfl)

theorem right_apply (x : S10240x4.Idx → α) (n : Fin 10240) (k k' : Fin 4) :
    broadcastInDim S10240x4x4 ![0, 1, 2] Facts.bcast_S10240x1x4_S10240x4x4_0_1_2 (broadcastInDim S10240x1x4 ![0, 2] Facts.bcast_S10240x4_S10240x1x4_0_2 x) (ix3 n k k') = x (ix2 n k') :=
  (broadcastInDim_apply _ _ _ _ (ix3 n (0 : Fin 1) k') fun a => by
    match a with
    | ⟨0, _⟩ => rfl
    | ⟨1, _⟩ => rfl
    | ⟨2, _⟩ => rfl).trans (broadcastInDim_apply _ _ _ _ (ix2 n k') fun a => by
    match a with
    | ⟨0, _⟩ => rfl
    | ⟨1, _⟩ => rfl)

theorem diag_apply (x : S1x4x4.Idx → α) (n : Fin 10240) (k k' : Fin 4) :
    broadcastInDim S10240x4x4 ![0, 1, 2] Facts.bcast_S1x4x4_S10240x4x4_0_1_2 x (ix3 n k k') = x (ix3 (0 : Fin 1) k k') :=
  broadcastInDim_apply _ _ _ _ (ix3 (0 : Fin 1) k k') fun a => by
    match a with
    | ⟨0, _⟩ => rfl
    | ⟨1, _⟩ => rfl
    | ⟨2, _⟩ => rfl

theorem four_left (x : S4.Idx → α) (k k' : Fin 4) :
    broadcastInDim S1x4x4 ![0, 1, 2] Facts.bcast_S1x4x1_S1x4x4_0_1_2 (broadcastInDim S1x4x1 ![1] Facts.bcast_S4_S1x4x1_1 x) (ix3 (0 : Fin 1) k k') = x (ix1 k) :=
  (broadcastInDim_apply _ _ _ _ (ix3 (0 : Fin 1) k (0 : Fin 1)) fun a => by
    match a with
    | ⟨0, _⟩ => rfl
    | ⟨1, _⟩ => rfl
    | ⟨2, _⟩ => rfl).trans (broadcastInDim_apply _ _ _ _ (ix1 k) fun a => by
    match a with
    | ⟨0, _⟩ => rfl)

theorem four_right (x : S4.Idx → α) (k k' : Fin 4) :
    broadcastInDim S1x4x4 ![0, 1, 2] Facts.bcast_S1x1x4_S1x4x4_0_1_2 (broadcastInDim S1x1x4 ![2] Facts.bcast_S4_S1x1x4_2 x) (ix3 (0 : Fin 1) k k') = x (ix1 k') :=
  (broadcastInDim_apply _ _ _ _ (ix3 (0 : Fin 1) (0 : Fin 1) k') fun a => by
    match a with
    | ⟨0, _⟩ => rfl
    | ⟨1, _⟩ => rfl
    | ⟨2, _⟩ => rfl).trans (broadcastInDim_apply _ _ _ _ (ix1 k') fun a => by
    match a with
    | ⟨0, _⟩ => rfl)

theorem pair_left (x : S40960.Idx → α) (p p' : Fin 40960) :
    broadcastInDim S40960x40960 ![0, 1] Facts.bcast_S40960x1_S40960x40960_0_1 (broadcastInDim S40960x1 ![0] Facts.bcast_S40960_S40960x1_0 x) (ix2 p p') = x (ix1 p) :=
  (broadcastInDim_apply _ _ _ _ (ix2 p (0 : Fin 1)) fun a => by
    match a with
    | ⟨0, _⟩ => rfl
    | ⟨1, _⟩ => rfl).trans (broadcastInDim_apply _ _ _ _ (ix1 p) fun a => by
    match a with
    | ⟨0, _⟩ => rfl)

theorem pair_right (x : S40960.Idx → α) (p p' : Fin 40960) :
    broadcastInDim S40960x40960 ![0, 1] Facts.bcast_S1x40960_S40960x40960_0_1 (broadcastInDim S1x40960 ![1] Facts.bcast_S40960_S1x40960_1 x) (ix2 p p') = x (ix1 p') :=
  (broadcastInDim_apply _ _ _ _ (ix2 (0 : Fin 1) p') fun a => by
    match a with
    | ⟨0, _⟩ => rfl
    | ⟨1, _⟩ => rfl).trans (broadcastInDim_apply _ _ _ _ (ix1 p') fun a => by
    match a with
    | ⟨0, _⟩ => rfl)
end

variable {F : FTy → Type} [FloatOps F]

open Cert.Pre_routed in
/-- The precondition, read. -/
theorem routed [Facts] {h te g rk cnt w1 b1 w2 b2 w3 b3} (hp : fn (F := F) h te g rk cnt w1 b1 w2 b2 w3 b3 = fun _ => 1#1) :
    Routed (fun e => fptosi 32 (shapeCast S32 cnt Facts.shapeCasts_S1x32_S32) (ix1 e)) (fun n k => te (ix2 n k)) (fun n k => rk (ix2 n k)) := by
  obtain ⟨h4, hplace⟩ := andi_split (congrFun hp ix0)
  obtain ⟨h3, hrow⟩ := andi_split h4
  obtain ⟨h2, hrank⟩ := andi_split h3
  obtain ⟨hcnt, hexp⟩ := andi_split h2
  obtain ⟨hb, hsum⟩ := andi_split hcnt
  generalize hc : fptosi 32 (shapeCast S32 cnt Facts.shapeCasts_S1x32_S32) = c
  rw [hc] at hb hsum hrank
  have bound : ∀ e : Fin 32, 0 ≤ (c (ix1 e)).toInt ∧ (c (ix1 e)).toInt ≤ 40960 := fun e => by
    obtain ⟨a1, a2⟩ := andi_split (Host.reduce_andi_all _ _ _ _ _ hb (ix1 e))
    exact ⟨IntOp.cmpi_sge.1 a1, IntOp.cmpi_sle.1 a2⟩
  have bnat : ∀ e : Fin 32, (c (ix1 e)).toNat ≤ 40960 := fun e => Nat.lt_succ_iff.1 (toNat_of (bound e).1 (by have := (bound e).2; omega))
  have expert : ∀ n k, (te (ix2 n k)).toNat < 32 := fun n k => by
    obtain ⟨a1, a2⟩ := andi_split (Host.reduce_andi_all _ _ _ _ _ hexp (ix2 n k))
    exact toNat_of (IntOp.cmpi_sge.1 a1) (IntOp.cmpi_slt.1 a2)
  refine ⟨?_, expert, ?_, ?_, ?_⟩
  · have h1 := IntOp.cmpi_sle.1 hsum
    change (Host.reduce IntOp.addi c (constantI S_ 32 0#32) Facts.reducesTo_S32_S_d0 Facts.h_S_ ix0).toInt ≤ 40960 at h1
    rw [Routing.reduce_sum c (fun i => if h : i < 32 then (c (ix1 ⟨i, h⟩)).toNat else 0) (fun i => by
      show _ = BitVec.ofNat 32 (if h : i.val < 32 then (c (ix1 ⟨i.val, h⟩)).toNat else 0)
      rw [dif_pos i.isLt, BitVec.ofNat_toNat, BitVec.setWidth_eq])] at h1
    rw [range_sum, Finset.sum_congr rfl fun (i : Fin 32) _ => dif_pos i.isLt] at h1
    change (BitVec.ofNat 32 (∑ i : Fin 32, (c (ix1 i)).toNat)).toInt ≤ 40960 at h1
    have hb : ∑ i : Fin 32, (c (ix1 i)).toNat ≤ 32 * 40960 := (Finset.sum_le_sum fun i _ => bnat i).trans (by simp)
    rw [StableHlo.Predicate.toInt_ofNat_small _ (by omega)] at h1
    exact_mod_cast h1
  · intro n k e he
    obtain ⟨a1, a2⟩ := andi_split (Host.reduce_andi_all _ _ _ _ _ hrank (ix3 n k e))
    rw [tok_apply] at a1
    have r0 : 0 ≤ (rk (ix2 n k)).toInt := IntOp.cmpi_sge.1 a1
    have heq : te (ix2 n k) = BitVec.ofNat 32 e.val := BitVec.eq_of_toNat_eq (by rw [he, BitVec.toNat_ofNat]; have := e.isLt; omega)
    rcases ori_split a2 with a3 | a3
    · refine absurd heq (IntOp.cmpi_ne.1 (?_ : IntOp.cmpi .ne (te (ix2 n k)) (BitVec.ofNat 32 e.val) = 1#1))
      exact (congrArg₂ (IntOp.cmpi .ne) (tok_apply te n k e).symm (exp_apply (iotaInDim S32 32 0) n k e).symm).trans a3
    · have lt : (rk (ix2 n k)).toInt < (c (ix1 e)).toInt := IntOp.cmpi_slt.1
        ((congrArg₂ (IntOp.cmpi .slt) (tok_apply rk n k e).symm (exp_apply c n k e).symm).trans a3)
      have hce := BitVec.toInt_eq_toNat_cond (c (ix1 e)); have hbe := bnat e
      refine toNat_of r0 (lt_of_lt_of_le lt ?_)
      split at hce <;> omega
  · intro n k k' he
    rcases ori_split (Host.reduce_andi_all _ _ _ _ _ hrow (ix3 n k k')) with a | a
    · rw [diag_apply] at a
      have a' := IntOp.cmpi_eq.1 ((congrArg₂ (IntOp.cmpi .eq) (four_left (iotaInDim S4 32 0) k k').symm (four_right (iotaInDim S4 32 0) k k').symm).trans a)
      exact Fin.ext (ofNat_inj (by omega) (by omega) a')
    · exact absurd he (IntOp.cmpi_ne.1 ((congrArg₂ (IntOp.cmpi .ne) (left_apply te n k k').symm (right_apply te n k k').symm).trans a))
  · intro n k n' k' he hr
    rcases ori_split (Host.reduce_andi_all _ _ _ _ _ hplace (ix2 (pairOf n k) (pairOf n' k'))) with a | a
    · rcases ori_split a with a | a
      · have a' := IntOp.cmpi_eq.1 ((congrArg₂ (IntOp.cmpi .eq) (pair_left (iotaInDim S40960 32 0) (pairOf n k) (pairOf n' k')).symm (pair_right (iotaInDim S40960 32 0) (pairOf n k) (pairOf n' k')).symm).trans a)
        have hv : (pairOf n k).val = (pairOf n' k').val := ofNat_inj (by omega) (by omega) a'
        unfold pairOf at hv
        exact ⟨Fin.ext (by simp only at hv; omega), Fin.ext (by simp only at hv; omega)⟩
      · refine absurd he (IntOp.cmpi_ne.1 (Eq.trans ?_ a))
        exact congrArg₂ (IntOp.cmpi .ne) ((pair_left _ _ _).trans (flat_apply te n k)).symm ((pair_right _ _ _).trans (flat_apply te n' k')).symm
    · refine absurd hr (IntOp.cmpi_ne.1 (Eq.trans ?_ a))
      exact congrArg₂ (IntOp.cmpi .ne) ((pair_left _ _ _).trans (flat_apply rk n k)).symm ((pair_right _ _ _).trans (flat_apply rk n' k')).symm

end Cert.Pre
-- ==== Proof.Wd.lean ====
module

public import Idealize.ShloMosaic.Lib.Routing.Words
public import Idealize.ShloMosaic.Lib.Routing.OpsOne
public import Idealize.ShloMosaic.Lib.Routing.OpsPair
public import Idealize.ShloMosaic.Lib.Routing.OpsSearch
public import Idealize.ShloMosaic.Lib.ReduceAll
public import Idealize.ShloMosaic.Lib.WordArith
public import Mathlib.Algebra.BigOperators.Fin

/-! Words that hold small numbers: what the host's integer operations make of them. -/

@[expose] public section

namespace Cert.Wd

open Idealize.ShloMosaic Idealize.ShloMosaic.ValueIdx Idealize.ShloMosaic.WordCmp
open Idealize.ShloMosaic.Routing (shape0 shape1 shape2)
open scoped BigOperators

/-- An entry of a scalar, a vector or a matrix of words. -/
def s0 (x : IVec shape0 32) : BitVec 32 := x ix0
def s1 {n : ℕ} (x : IVec (shape1 n) 32) (i : Fin n) : BitVec 32 := x (ix1 i)
def s2 {a b : ℕ} (x : IVec (shape2 a b) 32) (i : Fin a) (j : Fin b) : BitVec 32 := x (ix2 i j)

theorem ofNat_toNat (x : BitVec 32) : x = BitVec.ofNat 32 x.toNat := by
  rw [BitVec.ofNat_toNat, BitVec.setWidth_eq]

theorem toNat_w {a : ℕ} (h : a < 2 ^ 31) : (BitVec.ofNat 32 a).toNat = a := toNat_ofNat_of_lt (by omega)

theorem toInt_w {a : ℕ} (h : a < 2 ^ 31) : (BitVec.ofNat 32 a).toInt = a := toInt_ofNat_of_lt h

/-- The smaller of two. -/
theorem minsi_w {a b : ℕ} (ha : a < 2 ^ 31) (hb : b < 2 ^ 31) : IntOp.minsi (BitVec.ofNat 32 a) (BitVec.ofNat 32 b) = BitVec.ofNat 32 (min a b) := by
  apply BitVec.eq_of_toNat_eq
  rw [WordArith.toNat_minsi_of_lt _ _ (by rw [toNat_w ha]; exact ha) (by rw [toNat_w hb]; exact hb), toNat_w ha, toNat_w hb, toNat_w (by omega)]

theorem minsi_toInt_le (a b : BitVec 32) : (IntOp.minsi a b).toInt ≤ a.toInt := by
  unfold IntOp.minsi
  by_cases h : a.slt b = true
  · rw [if_pos h]
  · rw [if_neg h]
    rw [BitVec.slt_iff_toInt_lt] at h
    omega

theorem slt_w {a b : ℕ} (ha : a < 2 ^ 31) (hb : b < 2 ^ 31) {α : Type} (x y : α) :
    Scalar.select (IntOp.cmpi .slt (BitVec.ofNat 32 a) (BitVec.ofNat 32 b)) x y = if a < b then x else y := by
  rw [cmpi_slt_ofNat ha hb, select_decide]

/-- An index that is not negative is not moved. -/
theorem wrap_w {a : ℕ} (ha : a < 2 ^ 31) (y : BitVec 32) :
    Scalar.select (IntOp.cmpi .slt (BitVec.ofNat 32 a) 0#32) y (BitVec.ofNat 32 a) = BitVec.ofNat 32 a :=
  Routing.wrap_of_lt _ _ (by rw [toNat_w ha]; exact ha)

/-- A sum of words up to an index. -/
theorem sum_w {n : ℕ} (f : Fin n → ℕ) (j : Fin n) :
    (∑ i : Fin n, if i ≤ j then BitVec.ofNat 32 (f i) else 0) = BitVec.ofNat 32 (∑ i : Fin n, if i ≤ j then f i else 0) := by
  classical
  have h : ∀ s : Finset (Fin n), (∑ i ∈ s, if i ≤ j then BitVec.ofNat 32 (f i) else 0) = BitVec.ofNat 32 (∑ i ∈ s, if i ≤ j then f i else 0) := by
    intro s
    induction s using Finset.induction_on with
    | empty => rfl
    | insert a s ha ih =>
      rw [Finset.sum_insert ha, Finset.sum_insert ha, ih, BitVec.ofNat_add]
      congr 1
      by_cases hj : a ≤ j
      · rw [if_pos hj, if_pos hj]
      · rw [if_neg hj, if_neg hj]; rfl
  exact h _

/-- One entry of a vector, as a scalar. -/
theorem cast10 {α : Type} (x : (shape1 1).Idx → α) (h : (shape1 1).ShapeCasts shape0) : shapeCast shape0 x h ix0 = x (ix1 0) := by
  unfold shapeCast
  exact congrArg x (funext fun a => by
    match a with
    | ⟨0, _⟩ => exact Subsingleton.elim (α := Fin 1) _ _)

/-- Where an update of a scatter into a vector lands. -/
theorem lands {N n : ℕ} (d : ScatterDims (shape1 N) (shape2 n 1) (shape1 n)) (hiw : d.insertedWindowDims = [0])
    (hsd : d.scatterDimsToOperandDims = [0]) (hivd : d.indexVectorDim = 1) (idx : IVec (shape2 n 1) 32) (i : Fin n) (x : Fin N) :
    d.resultIdx? (ix1 i) idx = some (ix1 x) ↔ (idx (ix2 i (0 : Fin 1))).toInt = (x.val : Int) := by
  have hm : (0 : Fin 1) ∈ d.scatterDimsToOperandDims := by rw [hsd]; exact List.mem_singleton.2 rfl
  have hwin : d.window (ix1 i) 0 = 0 := by
    unfold ScatterDims.window
    rw [dif_neg fun h => (of_decide_eq_true (List.mem_filter.1 h).2) (by rw [hiw]; exact List.mem_singleton.2 rfl)]
  have hstart : d.start (ix1 i) idx 0 = (idx (ix2 i (0 : Fin 1))).toInt := by
    unfold ScatterDims.start
    rw [dif_pos hm]
    refine congrArg (fun q => (idx q).toInt) (funext fun b => Fin.ext ?_)
    match b with
    | ⟨0, _⟩ =>
      unfold ScatterDims.siIdx
      rw [dif_neg (by rw [hivd]; exact Nat.zero_ne_one)]
      unfold ScatterDims.siCoord
      have e : ∀ X : Fin 1, (ix1 i X).val = i.val := fun X => by
        obtain rfl : X = 0 := Subsingleton.elim _ _
        rfl
      exact e _
    | ⟨1, _⟩ =>
      unfold ScatterDims.siIdx
      rw [dif_pos (by rw [hivd])]
      show List.idxOf (0 : Fin 1) d.scatterDimsToOperandDims = 0
      rw [hsd]; simp
  rw [Routing.resultIdx?_ix1, hstart, hwin]
  simp

/-- A scatter that sets, at a place where just one update lands. -/
theorem set_at {α : Type} {N n : ℕ} (d : ScatterDims (shape1 N) (shape2 n 1) (shape1 n)) (hiw : d.insertedWindowDims = [0])
    (hsd : d.scatterDimsToOperandDims = [0]) (hivd : d.indexVectorDim = 1) (x0 : (shape1 N).Idx → α) (idx : IVec (shape2 n 1) 32) (upd : (shape1 n).Idx → α)
    (i : Fin n) (x : Fin N) (hi : (idx (ix2 i (0 : Fin 1))).toInt = (x.val : Int))
    (hu : ∀ k : Fin n, (idx (ix2 k (0 : Fin 1))).toInt = (x.val : Int) → k = i) :
    Host.scatter d (fun _ b => b) x0 idx upd (ix1 x) = upd (ix1 i) := by
  refine Routing.scatter_set_hit d x0 idx upd (ix1 x) (upd (ix1 i)) (fun k hk => ?_) (ix1 i) ((lands d hiw hsd hivd idx i x).2 hi)
  have hk1 : k = ix1 (k 0) := funext fun a => by
    match a with
    | ⟨0, _⟩ => rfl
  rw [hk1] at hk
  exact (congrArg upd hk1).trans (congrArg (fun q => upd (ix1 q)) (hu _ ((lands d hiw hsd hivd idx (k 0) x).1 hk)))

/-- The conjunction along an axis of length one. -/
theorem all_one {n : ℕ} (x : IVec (shape2 n 1) 1) (v : IVec shape0 1) (h : (shape2 n 1).ReducesTo [1] (shape1 n)) (hu : 0 < shape0.numel) (p : Fin n)
    (hv : v ix0 = 1#1) (hx : x (ix2 p (0 : Fin 1)) = 1#1) : Host.reduce IntOp.andi x v h hu (ix1 p) = 1#1 := by
  rw [Host.reduce_eq_foldl]
  refine IntOp.foldl_andi_one x _ _ ((congrArg v (eq_ix0 _)).trans hv) fun i hi => ?_
  have hd : h.drop i = ix1 p := by simpa using (List.mem_filter.1 hi).2
  have hv0 : (h.drop i 0 : Nat) = i 0 := Shape.ReducesTo.drop_apply_val h i 0
  rw [hd] at hv0
  have hi' : i = ix2 p (0 : Fin 1) := funext fun a => Fin.ext (by
    match a with
    | ⟨0, _⟩ => exact hv0.symm
    | ⟨1, _⟩ => have h1 : (i 1).val < 1 := (i 1).isLt; show (i 1).val = 0; omega)
  rw [hi', hx]

/-- An entry of a column. -/
def sc {n : ℕ} (x : IVec (shape2 n 1) 32) (p : Fin n) : BitVec 32 := x (ix2 p (0 : Fin 1))

/-- A word in range passes both comparisons. -/
theorem inside {a b : ℕ} (hab : a ≤ b) (hb : b < 2 ^ 31) :
    IntOp.andi (IntOp.cmpi .sge (BitVec.ofNat 32 a) 0#32) (IntOp.cmpi .sle (BitVec.ofNat 32 a) (BitVec.ofNat 32 b)) = 1#1 := by
  have h1 : IntOp.cmpi .sge (BitVec.ofNat 32 a) 0#32 = 1#1 := (cmpi_sge_ofNat_eq_one_iff (w := 32) (a := a) (b := 0) (by show a < 2 ^ 31; omega) (by decide)).2 (Nat.zero_le _)
  have h2 : IntOp.cmpi .sle (BitVec.ofNat 32 a) (BitVec.ofNat 32 b) = 1#1 := (cmpi_sle_ofNat_eq_one_iff (w := 32) (by show a < 2 ^ 31; omega) hb).2 hab
  rw [h1, h2]
  rfl

end Cert.Wd
-- ==== Proof.KI.Words.lean ====
/- The word arithmetic of one grid point: how many blocks of 256 rows the loops visit and where each block starts, as a function of the
   number of rows of the tile that are in use. Every fact is a finite one: the number of rows in use is between 1 and 1024. -/
module

public import proofs.«01_k».proof.Proof.Gen.KernelIdeal.Skeleton

@[expose] public section

set_option maxRecDepth 16384

namespace Cert.KernelIdeal.Moe

open Cert.KernelIdeal Cert.KernelIdeal.Gen
open Idealize.ShloMosaic

/-- The number of blocks of 256 rows that hold a row in use. -/
def nSub (v : BitVec 32) : ℕ := (v.toNat + 255) / 256

/-- A number of rows in use: between 1 and 1024. -/
def InUse (v : BitVec 32) : Prop := 1 ≤ v.toNat ∧ v.toNat ≤ 1024

theorem inUse_cases {Q : BitVec 32 → Prop} (h : ∀ n : Fin 1024, Q (BitVec.ofNat 32 (n.val + 1))) {v : BitVec 32} (hv : InUse v) : Q v := by
  obtain ⟨h1, h2⟩ := hv
  have e : v = BitVec.ofNat 32 ((⟨v.toNat - 1, by omega⟩ : Fin 1024).val + 1) := by
    apply BitVec.eq_of_toNat_eq; rw [BitVec.toNat_ofNat]; show v.toNat = (v.toNat - 1 + 1) % 2 ^ 32; have := v.isLt; omega
  rw [e]; exact h _

theorem nSub_pos {v : BitVec 32} (hv : InUse v) : 1 ≤ nSub v ∧ nSub v ≤ 4 := by
  obtain ⟨h1, h2⟩ := hv; unfold nSub; omega

/-- The loop over the blocks in use visits each of them. -/
theorem t1_facts {v : BitVec 32} (hv : InUse v) : (k0_t1_loop v).OK ∧ (k0_t1_loop v).trips = nSub v
    ∧ ∀ k : Fin (k0_t1_loop v).trips, (k0_mult1 v k).toNat = 256 * k.val ∧ k0_off2 v k = ![256 * k.val, 0] ∧ k0_off3 v k = ![256 * k.val, 0] ∧ k0_off4 v k = ![256 * k.val, 0] :=
  inUse_cases (Q := fun v => (k0_t1_loop v).OK ∧ (k0_t1_loop v).trips = nSub v
    ∧ ∀ k : Fin (k0_t1_loop v).trips, (k0_mult1 v k).toNat = 256 * k.val ∧ k0_off2 v k = ![256 * k.val, 0] ∧ k0_off3 v k = ![256 * k.val, 0] ∧ k0_off4 v k = ![256 * k.val, 0])
    (by decide +kernel) hv

/-- The rest of that loop is empty. -/
theorem t2_facts {v : BitVec 32} (hv : InUse v) : (k0_t2_loop v).OK ∧ (k0_t2_loop v).trips = 0 :=
  inUse_cases (Q := fun v => (k0_t2_loop v).OK ∧ (k0_t2_loop v).trips = 0) (by decide +kernel) hv

/-- The clearing loop visits each block not in use. -/
theorem t3_facts {v : BitVec 32} (hv : InUse v) : (k0_t3_loop v).OK ∧ (k0_t3_loop v).trips = 4 - nSub v
    ∧ ∀ k : Fin (k0_t3_loop v).trips, (k0_mult3 v k).toNat = 256 * (nSub v + k.val) ∧ k0_off8 v k = ![256 * (nSub v + k.val), 0] :=
  inUse_cases (Q := fun v => (k0_t3_loop v).OK ∧ (k0_t3_loop v).trips = 4 - nSub v
    ∧ ∀ k : Fin (k0_t3_loop v).trips, (k0_mult3 v k).toNat = 256 * (nSub v + k.val) ∧ k0_off8 v k = ![256 * (nSub v + k.val), 0])
    (by decide +kernel) hv

/-- The rest of the clearing loop is empty. -/
theorem t4_facts {v : BitVec 32} (hv : InUse v) : (k0_t4_loop v).OK ∧ (k0_t4_loop v).trips = 0 :=
  inUse_cases (Q := fun v => (k0_t4_loop v).OK ∧ (k0_t4_loop v).trips = 0) (by decide +kernel) hv

/-- The tile is worked on exactly when its word is positive. -/
theorem cond1_iff (v : BitVec 32) : k0_cond1 v = 1#1 ↔ 0 < v.toInt := by
  have key : ∀ b : Bool, IntOp.cmpi CmpIPredicate.ne (BitVec.setWidth 32 (BitVec.ofBool b)) 0#32 = 1#1 ↔ b = true := by decide
  show IntOp.cmpi CmpIPredicate.ne (BitVec.setWidth 32 (BitVec.ofBool (BitVec.slt 0#32 v))) 0#32 = 1#1 ↔ _
  rw [key, BitVec.slt_iff_toInt_lt]; simp

theorem inUse_of {v : BitVec 32} (h1 : k0_cond1 v = 1#1) (h : v.toInt ≤ 1024) : InUse v := by
  have := (cond1_iff v).1 h1
  have e : v.toInt = v.toNat := by
    rw [BitVec.toInt_eq_toNat_cond] at this ⊢
    split <;> omega
  constructor <;> omega

/-- The side conditions of a grid point hold when its tile has at most 1024 rows in use. -/
theorem chk_of (i : grid0.Coords) (v : BitVec 32) (h : v.toInt ≤ 1024) : k0_chk1 i v := by
  have hv := fun h1 => inUse_of (v := v) h1 h
  unfold k0_chk1
  refine ⟨fun h1 => (t1_facts (hv h1)).1, fun k h1 => ?_, fun k h1 => ?_, fun k h1 _ => ?_, fun k h1 _ => ?_, fun h1 => (t2_facts (hv h1)).1,
    fun k h1 => ?_, fun k h1 => ?_, fun k h1 => ?_, fun k h1 => ?_, fun h1 _ => (t3_facts (hv h1)).1, fun k h1 _ => ?_, fun k h1 _ => ?_,
    fun h1 _ => (t4_facts (hv h1)).1, fun k h1 => ?_, fun k h1 => ?_⟩
  · rw [((t1_facts (hv h1)).2.2 k).1]; exact ⟨_, rfl⟩
  · rw [((t1_facts (hv h1)).2.2 k).2.1]
    have := k.isLt; have := (t1_facts (hv h1)).2.1; have := nSub_pos (hv h1); intro a; fin_cases a <;> simp [S256x2048, S1024x2048] <;> omega
  · rw [((t1_facts (hv h1)).2.2 k).2.2.1]
    have := k.isLt; have := (t1_facts (hv h1)).2.1; have := nSub_pos (hv h1); intro a; fin_cases a <;> simp [S256x2048, S1024x2048] <;> omega
  · rw [((t1_facts (hv h1)).2.2 k).2.2.2]
    have := k.isLt; have := (t1_facts (hv h1)).2.1; have := nSub_pos (hv h1); intro a; fin_cases a <;> simp [S256x2048, S1024x2048] <;> omega
  · exact absurd (k.isLt.trans_eq (t2_facts (hv h1)).2) (Nat.not_lt_zero _)
  · exact absurd (k.isLt.trans_eq (t2_facts (hv h1)).2) (Nat.not_lt_zero _)
  · exact absurd (k.isLt.trans_eq (t2_facts (hv h1)).2) (Nat.not_lt_zero _)
  · exact absurd (k.isLt.trans_eq (t2_facts (hv h1)).2) (Nat.not_lt_zero _)
  · rw [((t3_facts (hv h1)).2.2 k).1]; exact ⟨_, rfl⟩
  · rw [((t3_facts (hv h1)).2.2 k).2]
    have := k.isLt; have := (t3_facts (hv h1)).2.1; have := nSub_pos (hv h1); intro a; fin_cases a <;> simp [S256x2048, S1024x2048] <;> omega
  · exact absurd (k.isLt.trans_eq (t4_facts (hv h1)).2) (Nat.not_lt_zero _)
  · exact absurd (k.isLt.trans_eq (t4_facts (hv h1)).2) (Nat.not_lt_zero _)

/-! The conditions on the hidden block read as one fact: whether it is the first. -/

theorem cond2_iff (i : grid0.Coords) : k0_cond2 i = 1#1 ↔ (i 1).val = 0 :=
  (by decide : ∀ j : Fin 8, IntOp.cmpi CmpIPredicate.ne (BitVec.setWidth 32 (IntOp.cmpi CmpIPredicate.eq (BitVec.ofNat 32 j.val) 0#32)) 0#32 = 1#1 ↔ j.val = 0) (i 1)

theorem cond3_iff (i : grid0.Coords) : k0_cond3 i = 1#1 ↔ (i 1).val ≠ 0 :=
  (by decide : ∀ j : Fin 8, IntOp.cmpi CmpIPredicate.ne (BitVec.setWidth 32 (IntOp.cmpi CmpIPredicate.sgt (BitVec.ofNat 32 j.val) 0#32)) 0#32 = 1#1 ↔ j.val ≠ 0) (i 1)

theorem cond6_iff (i : grid0.Coords) : k0_cond6 i = 1#1 ↔ (i 1).val = 0 := cond2_iff i

end Cert.KernelIdeal.Moe
-- ==== Proof.KI.Loops.lean ====
/- The two loops of one grid point: what each trip leaves in the output block. -/
module

public import proofs.«01_k».proof.Proof.KI.Words
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import Idealize.ShloMosaic.Lib.ValueIdxCore
public import Idealize.ShloMosaic.Lib.WritesUnit

@[expose] public section

set_option maxRecDepth 16384

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Rows `256 k` to `256 k + 255` of a block of 1024 rows. -/
def rowsAt {e : EltTy} (x : Vec F S1024x2048 e) (k : ℕ) : Vec F S256x2048 e := fun y =>
  x (ValueIdx.ix2 (⟨(256 * k + (y 0).val) % 1024, Nat.mod_lt _ (by omega)⟩ : Fin 1024) (⟨(y 1).val, (y 1).isLt⟩ : Fin 2048))

/-- The block `o` with rows `256 k` to `256 k + 255` replaced by `p`. -/
def putRows (o : Vec F S1024x2048 .f32) (k : ℕ) (p : Vec F S256x2048 .f32) : Vec F S1024x2048 .f32 :=
  VecWindow.put o ![256 * k, 0] S256x2048.size p

/-- A load of 256 rows reads those rows. -/
theorem readAt_rows {κ : Kind} {sp : Space} {e : EltTy} (v : View sig κ sp S1024x2048 e) (f : v.ty.Contents (Elt F)) {off : Fin 2 → ℕ}
    (inb : ∀ a, off a + S256x2048.size a ≤ S1024x2048.size a) {k : ℕ} (h : off = ![256 * k, 0]) :
    v.readAt (Elt F) (Rect.unit (s := S1024x2048) off S256x2048.size inb).toLoadRect f = rowsAt (v.read (Elt F) f) k := by
  subst h
  funext y
  have h0 : 256 * k + 256 ≤ 1024 := inb 0
  have h1 : (y 0).val < 256 := (y 0).isLt
  exact congrArg (v.read (Elt F) f) (funext fun a => Fin.ext (by
    match a with
    | ⟨0, _⟩ => show 256 * k + 1 * (y 0).val = (256 * k + (y 0).val) % 1024; rw [Nat.mod_eq_of_lt (by omega)]; omega
    | ⟨1, _⟩ => show 0 + 1 * (y 1).val = (y 1).val; omega))

/-- A store of 256 rows replaces those rows. -/
theorem read_write_rows {κ : Kind} {sp : Space} (v : View sig κ sp S1024x2048 .f32) (f : v.ty.Contents (Elt F)) {off : Fin 2 → ℕ}
    (inb : ∀ a, off a + S256x2048.size a ≤ S1024x2048.size a) (w : Vec F S256x2048 .f32) {k : ℕ} (h : off = ![256 * k, 0]) :
    v.read (Elt F) (v.writes (Elt F) f [⟨Rect.unit (s := S1024x2048) off S256x2048.size inb, w⟩]) = putRows (v.read (Elt F) f) k w :=
  View.read_writes_cons_put v f inb w [] h

/-- The expert's output of one hidden block on the 256 rows `k` of the tile. -/
def hid (x : Vec F S1024x2048 .bf16) (bg : Vec F S1x1x256 .f32) (bu : Vec F S1x1x256 .f32) (wg wu : Vec F S2048x256 .bf16) (wd : Vec F S256x2048 .bf16) (k : ℕ) : Vec F S256x2048 .f32 :=
  k0_pay7 (rowsAt x k) wg bg wu bu wd

/-- What a trip of the first loop leaves in the output block `o`: rows `k` take the hidden block's output, with the bias at the first hidden block and
    added to what they held afterwards. -/
def tileStep (i : grid0.Coords) (x : Vec F S1024x2048 .bf16) (bg bu : Vec F S1x1x256 .f32) (bd : Vec F S1x1x2048 .f32) (wg wu : Vec F S2048x256 .bf16) (wd : Vec F S256x2048 .bf16)
    (k : ℕ) (o : Vec F S1024x2048 .f32) : Vec F S1024x2048 .f32 :=
  putRows o k (if (i 1).val = 0 then k0_pay1 (hid x bg bu wg wu wd k) bd else k0_pay2 (hid x bg bu wg wu wd k) (rowsAt o k))

/-- The output block after `n` trips of the first loop. -/
def tileRows (i : grid0.Coords) (x : Vec F S1024x2048 .bf16) (bg bu : Vec F S1x1x256 .f32) (bd : Vec F S1x1x2048 .f32) (wg wu : Vec F S2048x256 .bf16) (wd : Vec F S256x2048 .bf16)
    (o : Vec F S1024x2048 .f32) : ℕ → Vec F S1024x2048 .f32
  | 0 => o
  | n + 1 => tileStep i x bg bu bd wg wu wd n (tileRows i x bg bu bd wg wu wd o n)

/-- The output block after `n` trips of the clearing loop, which starts at rows `s`. -/
def clearRows (s : ℕ) (o : Vec F S1024x2048 .f32) : ℕ → Vec F S1024x2048 .f32
  | 0 => o
  | n + 1 => putRows (clearRows s o n) (s + n) k0_pay5

/-- What the first loop reads and writes. -/
abbrev Res1 (c : Dev nD) (arg5 : Memref sig .tc .vmem S1024x2048 .bf16) (arg9 : Memref sig .tc .vmem S1x1x256 .f32) (arg10 : Memref sig .tc .vmem S1x1x256 .f32) (arg11 : Memref sig .tc .vmem S1x1x2048 .f32) (arg13 : Memref sig .tc .vmem S2048x256 .bf16) (arg14 : Memref sig .tc .vmem S2048x256 .bf16) (arg15 : Memref sig .tc .vmem S256x2048 .bf16) (arg12 : Memref sig .tc .vmem S1024x2048 .f32) (X5 : BufTy.Contents (Elt F) arg5.view.ty) (X9 : BufTy.Contents (Elt F) arg9.view.ty) (X10 : BufTy.Contents (Elt F) arg10.view.ty) (X11 : BufTy.Contents (Elt F) arg11.view.ty) (X13 : BufTy.Contents (Elt F) arg13.view.ty) (X14 : BufTy.Contents (Elt F) arg14.view.ty) (X15 : BufTy.Contents (Elt F) arg15.view.ty) (f : BufTy.Contents (Elt F) arg12.view.ty) : sProp 𝕄 :=
  iprop((arg5.view.loc (c : Thread nD τ) ↦[arg5.view.set]{fullShare} X5) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg13.view.loc (c : Thread nD τ) ↦[arg13.view.set]{fullShare} X13) ∗ (arg14.view.loc (c : Thread nD τ) ↦[arg14.view.set]{fullShare} X14) ∗ (arg15.view.loc (c : Thread nD τ) ↦[arg15.view.set]{fullShare} X15) ∗ (arg12.view.loc (c : Thread nD τ) ↦[arg12.view.set]{fullShare} f))

/-- The hidden block's output, computed from the loads of one trip. -/
theorem hid_of_loads {κ : Kind} {sp : Space} (v5 : View sig κ sp S1024x2048 .bf16) (v9 v10 : View sig κ sp S1x1x256 .f32) (v13 v14 : View sig κ sp S2048x256 .bf16) (v15 : View sig κ sp S256x2048 .bf16)
    (X5 : v5.ty.Contents (Elt F)) (X9 : v9.ty.Contents (Elt F)) (X10 : v10.ty.Contents (Elt F)) (X13 : v13.ty.Contents (Elt F)) (X14 : v14.ty.Contents (Elt F)) (X15 : v15.ty.Contents (Elt F))
    {off : Fin 2 → ℕ} (inb : ∀ a, off a + S256x2048.size a ≤ S1024x2048.size a) {k : ℕ} (h : off = ![256 * k, 0]) :
    k0_pay7 (v5.readAt (Elt F) (Rect.unit (s := S1024x2048) off S256x2048.size inb).toLoadRect X5)
      (v13.readAt (Elt F) (Rect.unit (s := S2048x256) ![0, 0] S2048x256.size inb_S2048x256_S2048x256_0_0).toLoadRect X13)
      (v9.readAt (Elt F) (Rect.unit (s := S1x1x256) ![0, 0, 0] S1x1x256.size inb_S1x1x256_S1x1x256_0_0_0).toLoadRect X9)
      (v14.readAt (Elt F) (Rect.unit (s := S2048x256) ![0, 0] S2048x256.size inb_S2048x256_S2048x256_0_0).toLoadRect X14)
      (v10.readAt (Elt F) (Rect.unit (s := S1x1x256) ![0, 0, 0] S1x1x256.size inb_S1x1x256_S1x1x256_0_0_0).toLoadRect X10)
      (v15.readAt (Elt F) (Rect.unit (s := S256x2048) ![0, 0] S256x2048.size inb_S256x2048_S256x2048_0_0).toLoadRect X15)
    = hid (v5.read (Elt F) X5) (v9.read (Elt F) X9) (v10.read (Elt F) X10) (v13.read (Elt F) X13) (v14.read (Elt F) X14) (v15.read (Elt F) X15) k := by
  unfold hid
  rw [readAt_rows v5 X5 inb h, View.readAt_full v13, View.readAt_full v9, View.readAt_full v14, View.readAt_full v10, View.readAt_full v15]

theorem trip1 (𝒱 : Variants) (c : Dev nD) (bdd : Option 𝒱.V) (E : Set ℕ) (i : grid0.Coords) (arg2 : Memref sig .tc .smem S72 .i32) (harg2 : arg2.IsWhole) (arg3 : Memref sig .tc .smem S72 .i32) (harg3 : arg3.IsWhole) (arg4 : Memref sig .tc .smem S72 .i32) (harg4 : arg4.IsWhole) (arg5 : Memref sig .tc .vmem S1024x2048 .bf16) (harg5 : arg5.IsWhole) (arg6 : Memref sig .tc .vmem S1x2048x256 .f32) (harg6 : arg6.IsWhole) (arg7 : Memref sig .tc .vmem S1x2048x256 .f32) (harg7 : arg7.IsWhole) (arg8 : Memref sig .tc .vmem S1x256x2048 .f32) (harg8 : arg8.IsWhole) (arg9 : Memref sig .tc .vmem S1x1x256 .f32) (harg9 : arg9.IsWhole) (arg10 : Memref sig .tc .vmem S1x1x256 .f32) (harg10 : arg10.IsWhole) (arg11 : Memref sig .tc .vmem S1x1x2048 .f32) (harg11 : arg11.IsWhole) (arg12 : Memref sig .tc .vmem S1024x2048 .f32) (harg12 : arg12.IsWhole) (arg13 : Memref sig .tc .vmem S2048x256 .bf16) (harg13 : arg13.IsWhole) (arg14 : Memref sig .tc .vmem S2048x256 .bf16) (harg14 : arg14.IsWhole) (arg15 : Memref sig .tc .vmem S256x2048 .bf16) (harg15 : arg15.IsWhole) (arg1 : BitVec 32) (v1 : Elt F .i32) (k0_hw1 : k0_chk1 i v1) (k0_h1 : k0_cond1 v1 = 1#1) (hv : InUse v1) (X5 : BufTy.Contents (Elt F) arg5.view.ty) (X9 : BufTy.Contents (Elt F) arg9.view.ty) (X10 : BufTy.Contents (Elt F) arg10.view.ty) (X11 : BufTy.Contents (Elt F) arg11.view.ty) (X13 : BufTy.Contents (Elt F) arg13.view.ty) (X14 : BufTy.Contents (Elt F) arg14.view.ty) (X15 : BufTy.Contents (Elt F) arg15.view.ty) (k : Fin (k0_t1_loop v1).trips) (f : BufTy.Contents (Elt F) arg12.view.ty) :
    Res1 (F := F) c arg5 arg9 arg10 arg11 arg13 arg14 arg15 arg12 X5 X9 X10 X11 X13 X14 X15 f
      ⊢ wp frame (wpE (defs₀ (F := F)) 𝒱 (c : Thread nD τ) bdd) E (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg1 v1 k0_hw1 k0_h1 k PUnit.unit)
          (fun _ => iprop(∃ g, Res1 (F := F) c arg5 arg9 arg10 arg11 arg13 arg14 arg15 arg12 X5 X9 X10 X11 X13 X14 X15 g
            ∗ ⌜arg12.view.read (Elt F) g = tileStep i (arg5.view.read (Elt F) X5) (arg9.view.read (Elt F) X9) (arg10.view.read (Elt F) X10) (arg11.view.read (Elt F) X11) (arg13.view.read (Elt F) X13) (arg14.view.read (Elt F) X14) (arg15.view.read (Elt F) X15) k.val (arg12.view.read (Elt F) f)⌝)) := by
  obtain ⟨-, -, hk⟩ := t1_facts hv
  obtain ⟨-, e2, e3, e4⟩ := hk k
  unfold k0_t1_body
  simp only [k0_part1_eq_skeleton]
  iintro ⟨H5, H9, H10, H11, H13, H14, H15, H12⟩
  by_cases h0 : (i 1).val = 0
  · have h2 : k0_cond2 i = 1#1 := (cond2_iff i).2 h0
    have h3 : ¬ k0_cond3 i = 1#1 := fun h => (cond3_iff i).1 h h0
    simp only [dif_pos h2, dif_neg h3]
    sl_exec
    sl_step
    iexists _
    isplitl [H5 H9 H10 H11 H13 H14 H15 H12]
    · isplitl [H5]; · iexact H5
      isplitl [H9]; · iexact H9
      isplitl [H10]; · iexact H10
      isplitl [H11]; · iexact H11
      isplitl [H13]; · iexact H13
      isplitl [H14]; · iexact H14
      isplitl [H15]; · iexact H15
      iexact H12
    · ipureintro
      rw [read_write_rows _ _ _ _ e3]
      unfold tileStep
      rw [if_pos h0]
      exact congrArg _ (congr (congrArg k0_pay1 (hid_of_loads arg5.view arg9.view arg10.view arg13.view arg14.view arg15.view X5 X9 X10 X13 X14 X15 _ e2)) (View.readAt_full _ _ _))
  · have h2 : ¬ k0_cond2 i = 1#1 := fun h => h0 ((cond2_iff i).1 h)
    have h3 : k0_cond3 i = 1#1 := (cond3_iff i).2 h0
    simp only [dif_neg h2, dif_pos h3]
    sl_exec
    sl_step
    iexists _
    isplitl [H5 H9 H10 H11 H13 H14 H15 H12]
    · isplitl [H5]; · iexact H5
      isplitl [H9]; · iexact H9
      isplitl [H10]; · iexact H10
      isplitl [H11]; · iexact H11
      isplitl [H13]; · iexact H13
      isplitl [H14]; · iexact H14
      isplitl [H15]; · iexact H15
      iexact H12
    · ipureintro
      rw [read_write_rows _ _ _ _ e4]
      unfold tileStep
      rw [if_neg h0]
      exact congrArg _ (congr (congrArg k0_pay2 (hid_of_loads arg5.view arg9.view arg10.view arg13.view arg14.view arg15.view X5 X9 X10 X13 X14 X15 _ e2)) (readAt_rows _ _ _ e4))

set_option warn.classDefReducibility false in
/-- The first loop, by what it has left after each trip. -/
@[sl_loop] def loop1 (𝒱 : Variants) (c : Dev nD) (bdd : Option 𝒱.V) (E : Set ℕ) (i : grid0.Coords) (arg2 : Memref sig .tc .smem S72 .i32) (harg2 : arg2.IsWhole) (arg3 : Memref sig .tc .smem S72 .i32) (harg3 : arg3.IsWhole) (arg4 : Memref sig .tc .smem S72 .i32) (harg4 : arg4.IsWhole) (arg5 : Memref sig .tc .vmem S1024x2048 .bf16) (harg5 : arg5.IsWhole) (arg6 : Memref sig .tc .vmem S1x2048x256 .f32) (harg6 : arg6.IsWhole) (arg7 : Memref sig .tc .vmem S1x2048x256 .f32) (harg7 : arg7.IsWhole) (arg8 : Memref sig .tc .vmem S1x256x2048 .f32) (harg8 : arg8.IsWhole) (arg9 : Memref sig .tc .vmem S1x1x256 .f32) (harg9 : arg9.IsWhole) (arg10 : Memref sig .tc .vmem S1x1x256 .f32) (harg10 : arg10.IsWhole) (arg11 : Memref sig .tc .vmem S1x1x2048 .f32) (harg11 : arg11.IsWhole) (arg12 : Memref sig .tc .vmem S1024x2048 .f32) (harg12 : arg12.IsWhole) (arg13 : Memref sig .tc .vmem S2048x256 .bf16) (harg13 : arg13.IsWhole) (arg14 : Memref sig .tc .vmem S2048x256 .bf16) (harg14 : arg14.IsWhole) (arg15 : Memref sig .tc .vmem S256x2048 .bf16) (harg15 : arg15.IsWhole) (arg1 : BitVec 32) (v1 : Elt F .i32) (k0_hw1 : k0_chk1 i v1) (k0_h1 : k0_cond1 v1 = 1#1) (hv : InUse v1) (X5 : BufTy.Contents (Elt F) arg5.view.ty) (X9 : BufTy.Contents (Elt F) arg9.view.ty) (X10 : BufTy.Contents (Elt F) arg10.view.ty) (X11 : BufTy.Contents (Elt F) arg11.view.ty) (X13 : BufTy.Contents (Elt F) arg13.view.ty) (X14 : BufTy.Contents (Elt F) arg14.view.ty) (X15 : BufTy.Contents (Elt F) arg15.view.ty) (G : BufTy.Contents (Elt F) arg12.view.ty) :
    Idealize.ShloMosaic.LoopInv (M := 𝕄) Idealize.ShloMosaic.frame (wpE defs₀ 𝒱 (c : Thread nD τ) bdd) E
    (k0_t1_loop v1).lb (k0_t1_loop v1).ub (k0_t1_loop v1).st (k0_t1_ok i v1 k0_hw1 k0_h1) () (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg1 v1 k0_hw1 k0_h1) where
  inv k _ := iprop(∃ f, Res1 (F := F) c arg5 arg9 arg10 arg11 arg13 arg14 arg15 arg12 X5 X9 X10 X11 X13 X14 X15 f
            ∗ ⌜arg12.view.read (Elt F) f = tileRows i (arg5.view.read (Elt F) X5) (arg9.view.read (Elt F) X9) (arg10.view.read (Elt F) X10) (arg11.view.read (Elt F) X11) (arg13.view.read (Elt F) X13) (arg14.view.read (Elt F) X14) (arg15.view.read (Elt F) X15) (arg12.view.read (Elt F) G) k⌝)
  step k acc := by
    iintro ⟨%f, HR, %h⟩
    iapply (wp_wand_r Idealize.ShloMosaic.frame (wpE (defs₀ (F := F)) 𝒱 (c : Thread nD τ) bdd) E)
    isplitl [HR]
    · iapply (trip1 (F := F) 𝒱 c bdd E i arg2 harg2 arg3 harg3 arg4 harg4 arg5 harg5 arg6 harg6 arg7 harg7 arg8 harg8 arg9 harg9 arg10 harg10 arg11 harg11 arg12 harg12 arg13 harg13 arg14 harg14 arg15 harg15 arg1 v1 k0_hw1 k0_h1 hv X5 X9 X10 X11 X13 X14 X15 k f)
      iexact HR
    · iintro %_ ⟨%g, HR, %hg⟩
      iexists g
      isplitl [HR]; · iexact HR
      ipureintro
      rw [hg, h]; rfl

set_option warn.classDefReducibility false in
/-- The rest of the first loop runs no trip. -/
@[sl_loop] def loop2 (𝒱 : Variants) (c : Dev nD) (bdd : Option 𝒱.V) (E : Set ℕ) (i : grid0.Coords) (arg2 : Memref sig .tc .smem S72 .i32) (harg2 : arg2.IsWhole) (arg3 : Memref sig .tc .smem S72 .i32) (harg3 : arg3.IsWhole) (arg4 : Memref sig .tc .smem S72 .i32) (harg4 : arg4.IsWhole) (arg5 : Memref sig .tc .vmem S1024x2048 .bf16) (harg5 : arg5.IsWhole) (arg6 : Memref sig .tc .vmem S1x2048x256 .f32) (harg6 : arg6.IsWhole) (arg7 : Memref sig .tc .vmem S1x2048x256 .f32) (harg7 : arg7.IsWhole) (arg8 : Memref sig .tc .vmem S1x256x2048 .f32) (harg8 : arg8.IsWhole) (arg9 : Memref sig .tc .vmem S1x1x256 .f32) (harg9 : arg9.IsWhole) (arg10 : Memref sig .tc .vmem S1x1x256 .f32) (harg10 : arg10.IsWhole) (arg11 : Memref sig .tc .vmem S1x1x2048 .f32) (harg11 : arg11.IsWhole) (arg12 : Memref sig .tc .vmem S1024x2048 .f32) (harg12 : arg12.IsWhole) (arg13 : Memref sig .tc .vmem S2048x256 .bf16) (harg13 : arg13.IsWhole) (arg14 : Memref sig .tc .vmem S2048x256 .bf16) (harg14 : arg14.IsWhole) (arg15 : Memref sig .tc .vmem S256x2048 .bf16) (harg15 : arg15.IsWhole) (arg1 : BitVec 32) (v1 : Elt F .i32) (k0_hw1 : k0_chk1 i v1) (k0_h1 : k0_cond1 v1 = 1#1) (v46 : BitVec 32) (hv : InUse v1) (G : BufTy.Contents (Elt F) arg12.view.ty) :
    Idealize.ShloMosaic.LoopInv (M := 𝕄) Idealize.ShloMosaic.frame (wpE defs₀ 𝒱 (c : Thread nD τ) bdd) E
    (k0_t2_loop v1).lb (k0_t2_loop v1).ub (k0_t2_loop v1).st (k0_t2_ok i v1 k0_hw1 k0_h1) () (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg1 v1 k0_hw1 k0_h1 v46) where
  inv k _ := iprop((arg12.view.loc (c : Thread nD τ) ↦[arg12.view.set]{fullShare} G))
  step k acc := absurd (k.isLt.trans_eq (t2_facts hv).2) (Nat.not_lt_zero _)

theorem trip3 (𝒱 : Variants) (c : Dev nD) (bdd : Option 𝒱.V) (E : Set ℕ) (i : grid0.Coords) (arg2 : Memref sig .tc .smem S72 .i32) (harg2 : arg2.IsWhole) (arg3 : Memref sig .tc .smem S72 .i32) (harg3 : arg3.IsWhole) (arg4 : Memref sig .tc .smem S72 .i32) (harg4 : arg4.IsWhole) (arg5 : Memref sig .tc .vmem S1024x2048 .bf16) (harg5 : arg5.IsWhole) (arg6 : Memref sig .tc .vmem S1x2048x256 .f32) (harg6 : arg6.IsWhole) (arg7 : Memref sig .tc .vmem S1x2048x256 .f32) (harg7 : arg7.IsWhole) (arg8 : Memref sig .tc .vmem S1x256x2048 .f32) (harg8 : arg8.IsWhole) (arg9 : Memref sig .tc .vmem S1x1x256 .f32) (harg9 : arg9.IsWhole) (arg10 : Memref sig .tc .vmem S1x1x256 .f32) (harg10 : arg10.IsWhole) (arg11 : Memref sig .tc .vmem S1x1x2048 .f32) (harg11 : arg11.IsWhole) (arg12 : Memref sig .tc .vmem S1024x2048 .f32) (harg12 : arg12.IsWhole) (arg13 : Memref sig .tc .vmem S2048x256 .bf16) (harg13 : arg13.IsWhole) (arg14 : Memref sig .tc .vmem S2048x256 .bf16) (harg14 : arg14.IsWhole) (arg15 : Memref sig .tc .vmem S256x2048 .bf16) (harg15 : arg15.IsWhole) (v1 : Elt F .i32) (k0_hw1 : k0_chk1 i v1) (k0_h1 : k0_cond1 v1 = 1#1) (k0_h6 : k0_cond6 i = 1#1) (hv : InUse v1) (k : Fin (k0_t3_loop v1).trips) (f : BufTy.Contents (Elt F) arg12.view.ty) :
    (iprop((arg12.view.loc (c : Thread nD τ) ↦[arg12.view.set]{fullShare} f)) : sProp 𝕄)
      ⊢ wp frame (wpE (defs₀ (F := F)) 𝒱 (c : Thread nD τ) bdd) E (k0_t3_body (F := F) i arg2 harg2 arg3 harg3 arg4 harg4 arg5 harg5 arg6 harg6 arg7 harg7 arg8 harg8 arg9 harg9 arg10 harg10 arg11 harg11 arg12 harg12 arg13 harg13 arg14 harg14 arg15 harg15 v1 k0_hw1 k0_h1 k0_h6 k PUnit.unit)
          (fun _ => iprop(∃ g, (arg12.view.loc (c : Thread nD τ) ↦[arg12.view.set]{fullShare} g)
            ∗ ⌜arg12.view.read (Elt F) g = putRows (arg12.view.read (Elt F) f) (nSub v1 + k.val) k0_pay5⌝)) := by
  obtain ⟨-, -, hk⟩ := t3_facts hv
  obtain ⟨-, e2⟩ := hk k
  unfold k0_t3_body
  iintro H12
  sl_exec
  sl_step
  iexists _
  isplitl [H12]
  · iexact H12
  · ipureintro
    exact read_write_rows _ _ _ _ e2

set_option warn.classDefReducibility false in
/-- The clearing loop, by what it has left after each trip. -/
@[sl_loop] def loop3 (𝒱 : Variants) (c : Dev nD) (bdd : Option 𝒱.V) (E : Set ℕ) (i : grid0.Coords) (arg2 : Memref sig .tc .smem S72 .i32) (harg2 : arg2.IsWhole) (arg3 : Memref sig .tc .smem S72 .i32) (harg3 : arg3.IsWhole) (arg4 : Memref sig .tc .smem S72 .i32) (harg4 : arg4.IsWhole) (arg5 : Memref sig .tc .vmem S1024x2048 .bf16) (harg5 : arg5.IsWhole) (arg6 : Memref sig .tc .vmem S1x2048x256 .f32) (harg6 : arg6.IsWhole) (arg7 : Memref sig .tc .vmem S1x2048x256 .f32) (harg7 : arg7.IsWhole) (arg8 : Memref sig .tc .vmem S1x256x2048 .f32) (harg8 : arg8.IsWhole) (arg9 : Memref sig .tc .vmem S1x1x256 .f32) (harg9 : arg9.IsWhole) (arg10 : Memref sig .tc .vmem S1x1x256 .f32) (harg10 : arg10.IsWhole) (arg11 : Memref sig .tc .vmem S1x1x2048 .f32) (harg11 : arg11.IsWhole) (arg12 : Memref sig .tc .vmem S1024x2048 .f32) (harg12 : arg12.IsWhole) (arg13 : Memref sig .tc .vmem S2048x256 .bf16) (harg13 : arg13.IsWhole) (arg14 : Memref sig .tc .vmem S2048x256 .bf16) (harg14 : arg14.IsWhole) (arg15 : Memref sig .tc .vmem S256x2048 .bf16) (harg15 : arg15.IsWhole) (v1 : Elt F .i32) (k0_hw1 : k0_chk1 i v1) (k0_h1 : k0_cond1 v1 = 1#1) (k0_h6 : k0_cond6 i = 1#1) (hv : InUse v1) (G : BufTy.Contents (Elt F) arg12.view.ty) :
    Idealize.ShloMosaic.LoopInv (M := 𝕄) Idealize.ShloMosaic.frame (wpE defs₀ 𝒱 (c : Thread nD τ) bdd) E
    (k0_t3_loop v1).lb (k0_t3_loop v1).ub (k0_t3_loop v1).st (k0_t3_ok i v1 k0_hw1 k0_h1 k0_h6) () (k0_t3_body (F := F) i arg2 harg2 arg3 harg3 arg4 harg4 arg5 harg5 arg6 harg6 arg7 harg7 arg8 harg8 arg9 harg9 arg10 harg10 arg11 harg11 arg12 harg12 arg13 harg13 arg14 harg14 arg15 harg15 v1 k0_hw1 k0_h1 k0_h6) where
  inv k _ := iprop(∃ f, (arg12.view.loc (c : Thread nD τ) ↦[arg12.view.set]{fullShare} f) ∗ ⌜arg12.view.read (Elt F) f = clearRows (nSub v1) (arg12.view.read (Elt F) G) k⌝)
  step k acc := by
    iintro ⟨%f, HR, %h⟩
    iapply (wp_wand_r Idealize.ShloMosaic.frame (wpE (defs₀ (F := F)) 𝒱 (c : Thread nD τ) bdd) E)
    isplitl [HR]
    · iapply (trip3 (F := F) 𝒱 c bdd E i arg2 harg2 arg3 harg3 arg4 harg4 arg5 harg5 arg6 harg6 arg7 harg7 arg8 harg8 arg9 harg9 arg10 harg10 arg11 harg11 arg12 harg12 arg13 harg13 arg14 harg14 arg15 harg15 v1 k0_hw1 k0_h1 k0_h6 hv k f)
      iexact HR
    · iintro %_ ⟨%g, HR, %hg⟩
      iexists g
      isplitl [HR]; · iexact HR
      ipureintro
      rw [hg, h]; rfl

set_option warn.classDefReducibility false in
/-- The rest of the clearing loop runs no trip. -/
@[sl_loop] def loop4 (𝒱 : Variants) (c : Dev nD) (bdd : Option 𝒱.V) (E : Set ℕ) (i : grid0.Coords) (arg2 : Memref sig .tc .smem S72 .i32) (harg2 : arg2.IsWhole) (arg3 : Memref sig .tc .smem S72 .i32) (harg3 : arg3.IsWhole) (arg4 : Memref sig .tc .smem S72 .i32) (harg4 : arg4.IsWhole) (arg5 : Memref sig .tc .vmem S1024x2048 .bf16) (harg5 : arg5.IsWhole) (arg6 : Memref sig .tc .vmem S1x2048x256 .f32) (harg6 : arg6.IsWhole) (arg7 : Memref sig .tc .vmem S1x2048x256 .f32) (harg7 : arg7.IsWhole) (arg8 : Memref sig .tc .vmem S1x256x2048 .f32) (harg8 : arg8.IsWhole) (arg9 : Memref sig .tc .vmem S1x1x256 .f32) (harg9 : arg9.IsWhole) (arg10 : Memref sig .tc .vmem S1x1x256 .f32) (harg10 : arg10.IsWhole) (arg11 : Memref sig .tc .vmem S1x1x2048 .f32) (harg11 : arg11.IsWhole) (arg12 : Memref sig .tc .vmem S1024x2048 .f32) (harg12 : arg12.IsWhole) (arg13 : Memref sig .tc .vmem S2048x256 .bf16) (harg13 : arg13.IsWhole) (arg14 : Memref sig .tc .vmem S2048x256 .bf16) (harg14 : arg14.IsWhole) (arg15 : Memref sig .tc .vmem S256x2048 .bf16) (harg15 : arg15.IsWhole) (v1 : Elt F .i32) (k0_hw1 : k0_chk1 i v1) (k0_h1 : k0_cond1 v1 = 1#1) (k0_h6 : k0_cond6 i = 1#1) (hv : InUse v1) (G : BufTy.Contents (Elt F) arg12.view.ty) :
    Idealize.ShloMosaic.LoopInv (M := 𝕄) Idealize.ShloMosaic.frame (wpE defs₀ 𝒱 (c : Thread nD τ) bdd) E
    (k0_t4_loop v1).lb (k0_t4_loop v1).ub (k0_t4_loop v1).st (k0_t4_ok i v1 k0_hw1 k0_h1 k0_h6) () (k0_t4_body (F := F) i arg2 harg2 arg3 harg3 arg4 harg4 arg5 harg5 arg6 harg6 arg7 harg7 arg8 harg8 arg9 harg9 arg10 harg10 arg11 harg11 arg12 harg12 arg13 harg13 arg14 harg14 arg15 harg15 v1 k0_hw1 k0_h1 k0_h6) where
  inv k _ := iprop((arg12.view.loc (c : Thread nD τ) ↦[arg12.view.set]{fullShare} G))
  step k acc := absurd (k.isLt.trans_eq (t4_facts hv).2) (Nat.not_lt_zero _)

end Cert.KernelIdeal.Moe

end
-- ==== Proof.KI.Body.lean ====
/- One grid point of the kernel: what the body leaves in the output block. -/
module

public import proofs.«01_k».proof.Proof.KI.Loops
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import Idealize.ShloMosaic.Lib.ValueIdxCore
public import Idealize.ShloMosaic.Lib.WritesUnit

@[expose] public section

set_option maxRecDepth 16384

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A table's buffer and the half of it the body holds. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The word of a table at the tile of grid point `i`. -/
def wordAt (x : Vec F S72 .i32) (i : grid0.Coords) : BitVec 32 := x (ValueIdx.ix1 (⟨(i 0).val, (i 0).isLt⟩ : Fin 72))

/-- What the body leaves in the output block `o` at grid point `i`, the tile having `v` rows in use. -/
def bodyOut (i : grid0.Coords) (v : BitVec 32) (x : Vec F S1024x2048 .bf16) (w1 w2 : Vec F S1x2048x256 .f32) (w3 : Vec F S1x256x2048 .f32) (bg bu : Vec F S1x1x256 .f32) (bd : Vec F S1x1x2048 .f32)
    (o : Vec F S1024x2048 .f32) : Vec F S1024x2048 .f32 :=
  if k0_cond1 v = 1#1 then
    if (i 1).val = 0 then
      clearRows (nSub v) (tileRows i x bg bu bd (k0_pay9 w1) (k0_pay10 w2) (k0_pay11 w3) o (nSub v)) (4 - nSub v)
    else tileRows i x bg bu bd (k0_pay9 w1) (k0_pay10 w2) (k0_pay11 w3) o (nSub v)
  else o

/-- A scratch holding a weight block rounded, and the block it was rounded from. -/
theorem scr1 {κ κ' : Kind} {sp sp' : Space} (v : View sig κ sp S2048x256 .bf16) (f : v.ty.Contents (Elt F)) (w : View sig κ' sp' S1x2048x256 .f32) (g : w.ty.Contents (Elt F)) :
    v.read (Elt F) (v.writes (Elt F) f [⟨Rect.unit (s := S2048x256) ![0, 0] S2048x256.size inb_S2048x256_S2048x256_0_0,
      k0_pay9 (w.readAt (Elt F) (Rect.unit (s := S1x2048x256) ![0, 0, 0] S1x2048x256.size inb_S1x2048x256_S1x2048x256_0_0_0).toLoadRect g)⟩]) = k0_pay9 (w.read (Elt F) g) :=
  (View.read_writes_full v f inb_S2048x256_S2048x256_0_0 _ []).trans (congrArg k0_pay9 (View.readAt_full w g _))

theorem scr2 {κ κ' : Kind} {sp sp' : Space} (v : View sig κ sp S2048x256 .bf16) (f : v.ty.Contents (Elt F)) (w : View sig κ' sp' S1x2048x256 .f32) (g : w.ty.Contents (Elt F)) :
    v.read (Elt F) (v.writes (Elt F) f [⟨Rect.unit (s := S2048x256) ![0, 0] S2048x256.size inb_S2048x256_S2048x256_0_0,
      k0_pay10 (w.readAt (Elt F) (Rect.unit (s := S1x2048x256) ![0, 0, 0] S1x2048x256.size inb_S1x2048x256_S1x2048x256_0_0_0).toLoadRect g)⟩]) = k0_pay10 (w.read (Elt F) g) :=
  (View.read_writes_full v f inb_S2048x256_S2048x256_0_0 _ []).trans (congrArg k0_pay10 (View.readAt_full w g _))

theorem scr3 {κ κ' : Kind} {sp sp' : Space} (v : View sig κ sp S256x2048 .bf16) (f : v.ty.Contents (Elt F)) (w : View sig κ' sp' S1x256x2048 .f32) (g : w.ty.Contents (Elt F)) :
    v.read (Elt F) (v.writes (Elt F) f [⟨Rect.unit (s := S256x2048) ![0, 0] S256x2048.size inb_S256x2048_S256x2048_0_0,
      k0_pay11 (w.readAt (Elt F) (Rect.unit (s := S1x256x2048) ![0, 0, 0] S1x256x2048.size inb_S1x256x2048_S1x256x2048_0_0_0).toLoadRect g)⟩]) = k0_pay11 (w.read (Elt F) g) :=
  (View.read_writes_full v f inb_S256x2048_S256x2048_0_0 _ []).trans (congrArg k0_pay11 (View.readAt_full w g _))

theorem tileRows_congr (i : grid0.Coords) (x : Vec F S1024x2048 .bf16) (bg bu : Vec F S1x1x256 .f32) (bd : Vec F S1x1x2048 .f32) {wg wg' wu wu' : Vec F S2048x256 .bf16} {wd wd' : Vec F S256x2048 .bf16}
    (o : Vec F S1024x2048 .f32) {n n' : ℕ} (h1 : wg = wg') (h2 : wu = wu') (h3 : wd = wd') (h4 : n = n') :
    tileRows i x bg bu bd wg wu wd o n = tileRows i x bg bu bd wg' wu' wd' o n' := by subst h1 h2 h3 h4; rfl

set_option maxHeartbeats 1000000 in
/-- The body's triple. -/
theorem body (c : Dev nD) (i : grid0.Coords) (arg2 : Memref sig .tc .smem S72 .i32) (harg2 : arg2.IsWhole) (arg3 : Memref sig .tc .smem S72 .i32) (harg3 : arg3.IsWhole) (arg4 : Memref sig .tc .smem S72 .i32) (harg4 : arg4.IsWhole) (arg5 : Memref sig .tc .vmem S1024x2048 .bf16) (harg5 : arg5.IsWhole) (arg6 : Memref sig .tc .vmem S1x2048x256 .f32) (harg6 : arg6.IsWhole) (arg7 : Memref sig .tc .vmem S1x2048x256 .f32) (harg7 : arg7.IsWhole) (arg8 : Memref sig .tc .vmem S1x256x2048 .f32) (harg8 : arg8.IsWhole) (arg9 : Memref sig .tc .vmem S1x1x256 .f32) (harg9 : arg9.IsWhole) (arg10 : Memref sig .tc .vmem S1x1x256 .f32) (harg10 : arg10.IsWhole) (arg11 : Memref sig .tc .vmem S1x1x2048 .f32) (harg11 : arg11.IsWhole) (arg12 : Memref sig .tc .vmem S1024x2048 .f32) (harg12 : arg12.IsWhole) (arg13 : Memref sig .tc .vmem S2048x256 .bf16) (harg13 : arg13.IsWhole) (arg14 : Memref sig .tc .vmem S2048x256 .bf16) (harg14 : arg14.IsWhole) (arg15 : Memref sig .tc .vmem S256x2048 .bf16) (harg15 : arg15.IsWhole)
    (x0 : Vec F S1024x2048 .bf16) (x1 : Vec F S1x2048x256 .f32) (x2 : Vec F S1x2048x256 .f32) (x3 : Vec F S1x256x2048 .f32) (x4 : Vec F S1x1x256 .f32) (x5 : Vec F S1x1x256 .f32) (x6 : Vec F S1x1x2048 .f32) (o : Vec F S1024x2048 .f32) (xt0 : TbBuf0 (F := F) c arg2) (xt1 : TbBuf0 (F := F) c arg3) (xt2 : TbBuf0 (F := F) c arg4)
    (hv : (wordAt (arg3.view.read (Elt F) xt1) i).toInt ≤ 1024) :
      ∀ (E : Set ℕ) (K : PUnit → sProp 𝕄),
        iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare x5 ∗ owns (c : Thread nD τ) arg11 fullShare x6 ∗ owns (c : Thread nD τ) arg12 fullShare o ∗ (∃ d, owns (c : Thread nD τ) arg13 fullShare d) ∗ (∃ d, owns (c : Thread nD τ) arg14 fullShare d) ∗ (∃ d, owns (c : Thread nD τ) arg15 fullShare d) ∗ tbPt0 c arg2 xt0 ∗ tbPt0 c arg3 xt1 ∗ tbPt0 c arg4 xt2
            ∗ (iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare x5 ∗ owns (c : Thread nD τ) arg11 fullShare x6 ∗ owns (c : Thread nD τ) arg12 fullShare (bodyOut i (wordAt (arg3.view.read (Elt F) xt1) i) x0 x1 x2 x3 x4 x5 x6 o) ∗ (∃ d, owns (c : Thread nD τ) arg13 fullShare d) ∗ (∃ d, owns (c : Thread nD τ) arg14 fullShare d) ∗ (∃ d, owns (c : Thread nD τ) arg15 fullShare d) ∗ tbPt0 c arg2 xt0 ∗ tbPt0 c arg3 xt1 ∗ tbPt0 c arg4 xt2) -∗ K ⟨⟩))
          ⊢ wp frame (wpE (defs₀ (F := F)) Variants.none c none) E (cc0_moe_experts i arg2 harg2 arg3 harg3 arg4 harg4 arg5 harg5 arg6 harg6 arg7 harg7 arg8 harg8 arg9 harg9 arg10 harg10 arg11 harg11 arg12 harg12 arg13 harg13 arg14 harg14 arg15 harg15) K := by
    intro E K
    simp only [cc0_moe_experts_eq_skeleton]; unfold cc0_moe_experts_skel
    simp only [k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%ds1, %fs1, -, HS1⟩, ⟨%ds2, %fs2, -, HS2⟩, HT0, HT1, HT2, Hk⟩
    subst hf0 hf1 hf2 hf3 hf4 hf5 hf6 hf7
    sl_exec
    have e : body.sl.r c i arg3 xt1 = wordAt (arg3.view.read (Elt F) xt1) i :=
      congrArg (arg3.view.read (Elt F) xt1) (funext fun a => Fin.ext (by
        match a with
        | ⟨0, _⟩ => exact (by decide : ∀ t : Fin 72, (BitVec.ofNat 32 t.val).toNat + 1 * 0 = t.val) (i 0)))
    generalize body.sl.r c i arg3 xt1 = v at e ⊢
    rw [← e] at hv ⊢
    have hchk := chk_of i v hv
    by_cases h1 : k0_cond1 v = 1#1
    · have hu : InUse v := inUse_of h1 hv
      by_cases h0 : (i 1).val = 0
      · have h6 : k0_cond6 i = 1#1 := (cond6_iff i).2 h0
        simp only [dif_pos h1, dif_pos h6]
        sl_exec
        sl_step
        iapply Hk
        isplitl [H0]
        · iexists _; isplitr; · ipureintro; rfl
          iexact H0
        isplitl [H1]
        · iexists _; isplitr; · ipureintro; rfl
          iexact H1
        isplitl [H2]
        · iexists _; isplitr; · ipureintro; rfl
          iexact H2
        isplitl [H3]
        · iexists _; isplitr; · ipureintro; rfl
          iexact H3
        isplitl [H4]
        · iexists _; isplitr; · ipureintro; rfl
          iexact H4
        isplitl [H5]
        · iexists _; isplitr; · ipureintro; rfl
          iexact H5
        isplitl [H6]
        · iexists _; isplitr; · ipureintro; rfl
          iexact H6
        isplitl [H7]
        · iexists _; isplitr; swap; · iexact H7
          ipureintro
          unfold bodyOut; rw [if_pos h1, if_pos h0]
          exact hL11.trans (congr (congrArg (clearRows (nSub v)) (hL8.trans (tileRows_congr i _ _ _ _ _ (scr1 arg13.view _ arg6.view f1) (scr2 arg14.view _ arg7.view f2) (scr3 arg15.view _ arg8.view f3) (t1_facts hu).2.1))) (t3_facts hu).2.1)
        isplitl [HS0]
        · iexists _, _; isplitr; swap; · iexact HS0
          ipureintro; rfl
        isplitl [HS1]
        · iexists _, _; isplitr; swap; · iexact HS1
          ipureintro; rfl
        isplitl [HS2]
        · iexists _, _; isplitr; swap; · iexact HS2
          ipureintro; rfl
        isplitl [HT0]; · iexact HT0
        isplitl [HT1]; · iexact HT1
        iexact HT2
      · have h6 : ¬ k0_cond6 i = 1#1 := fun h => h0 ((cond6_iff i).1 h)
        simp only [dif_pos h1, dif_neg h6]
        sl_exec
        sl_step
        iapply Hk
        isplitl [H0]
        · iexists _; isplitr; · ipureintro; rfl
          iexact H0
        isplitl [H1]
        · iexists _; isplitr; · ipureintro; rfl
          iexact H1
        isplitl [H2]
        · iexists _; isplitr; · ipureintro; rfl
          iexact H2
        isplitl [H3]
        · iexists _; isplitr; · ipureintro; rfl
          iexact H3
        isplitl [H4]
        · iexists _; isplitr; · ipureintro; rfl
          iexact H4
        isplitl [H5]
        · iexists _; isplitr; · ipureintro; rfl
          iexact H5
        isplitl [H6]
        · iexists _; isplitr; · ipureintro; rfl
          iexact H6
        isplitl [H7]
        · iexists _; isplitr; swap; · iexact H7
          ipureintro
          unfold bodyOut; rw [if_pos h1, if_neg h0]
          exact hL8.trans (tileRows_congr i _ _ _ _ _ (scr1 arg13.view _ arg6.view f1) (scr2 arg14.view _ arg7.view f2) (scr3 arg15.view _ arg8.view f3) (t1_facts hu).2.1)
        isplitl [HS0]
        · iexists _, _; isplitr; swap; · iexact HS0
          ipureintro; rfl
        isplitl [HS1]
        · iexists _, _; isplitr; swap; · iexact HS1
          ipureintro; rfl
        isplitl [HS2]
        · iexists _, _; isplitr; swap; · iexact HS2
          ipureintro; rfl
        isplitl [HT0]; · iexact HT0
        isplitl [HT1]; · iexact HT1
        iexact HT2
    · simp only [dif_neg h1]
      sl_exec
      sl_step
      iapply Hk
      isplitl [H0]
      · iexists _; isplitr; · ipureintro; rfl
        iexact H0
      isplitl [H1]
      · iexists _; isplitr; · ipureintro; rfl
        iexact H1
      isplitl [H2]
      · iexists _; isplitr; · ipureintro; rfl
        iexact H2
      isplitl [H3]
      · iexists _; isplitr; · ipureintro; rfl
        iexact H3
      isplitl [H4]
      · iexists _; isplitr; · ipureintro; rfl
        iexact H4
      isplitl [H5]
      · iexists _; isplitr; · ipureintro; rfl
        iexact H5
      isplitl [H6]
      · iexists _; isplitr; · ipureintro; rfl
        iexact H6
      isplitl [H7]
      · iexists _; isplitr; swap; · iexact H7
        ipureintro
        unfold bodyOut; rw [if_neg h1]
      isplitl [HS0]
      · iexists _, _; isplitr; swap; · iexact HS0
        ipureintro; rfl
      isplitl [HS1]
      · iexists _, _; isplitr; swap; · iexact HS1
        ipureintro; rfl
      isplitl [HS2]
      · iexists _, _; isplitr; swap; · iexact HS2
        ipureintro; rfl
      isplitl [HT0]; · iexact HT0
      isplitl [HT1]; · iexact HT1
      iexact HT2

end Cert.KernelIdeal.Moe

end
-- ==== Proof.KI.Setup.lean ====
module

public import proofs.«01_k».proof.Proof.Gen.KernelIdeal.Launch
public import proofs.«01_k».proof.Proof.Gen.KernelIdeal.Skeleton
public import proofs.«01_k».proof.Proof.KI.Body
public import Idealize.ShloMosaic.Lib.Pipeline.FrameBody
public import Idealize.ShloMosaic.Lib.Ring
public import Idealize.ShloMosaic.Lib.Tactic
public import Idealize.ShloMosaic.Lib.WordCmp
public import Idealize.ShloMosaic.Lib.Pipeline.Kit
public import Idealize.ShloMosaic.Lib.Pipeline.FrameSuffix
public import Idealize.ShloMosaic.Lib.StableHlo.Run

/-! The launch set-up: the memrefs at a point, the arrays as the pipeline finds them, the tables' words, the windows' blocks. -/

@[expose] public section

set_option maxRecDepth 16384

noncomputable section

namespace Cert.KernelIdeal.Moe

open Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_moe_experts (grid0.coords t) (Memref.whole main_v62) (Memref.isWhole_whole _) (Memref.whole main_v47) (Memref.isWhole_whole _) (Memref.whole main_v52) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (Memref.whole cc0_scratch0) (Memref.isWhole_whole _) (Memref.whole cc0_scratch1) (Memref.isWhole_whole _) (Memref.whole cc0_scratch2) (Memref.isWhole_whole _)

variable (m : (ℓ : Loc nD τ sig) → Buf (Elt F) ℓ) (ρ : Dev nD → PrngReg)
/-! ## @main up to the region, and after it -/

/-- The stretches of host operations before the region, in order. -/
abbrev hostPre : List (List (HloOp τ sig (Elt F))) := [hostOps0, hostOps0_1, hostOps0_2, hostOps0_3, hostOps0_4, hostOps0_5, hostOps0_6, hostOps0_7, hostOps0_8, hostOps0_9, hostOps0_10, hostOps0_11, hostOps0_12, hostOps0_13, hostOps0_14]
/-- The stretches of host operations after it. -/
abbrev hostPost : List (List (HloOp τ sig (Elt F))) := [hostOps1, hostOps1_1, hostOps1_2]

/-- Core `c`'s buffers when the region is entered: after the host operations before it. -/
def V₀ (c : Dev nD) : Valuation τ sig (Elt F) := StableHlo.after hostPre.flatten (fun b => m (c, b))
/-- The same, buffer by buffer of the TensorCore. -/
abbrev V (c : Dev nD) (b : Ref sig .tc) : Buf (Elt F) ((c : Thread nD τ).loc b) := V₀ m c (Proc.devRef .tc b)

theorem hostPre_sub : (hostPre : List (List (HloOp τ sig (Elt F)))).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub⟩

set_option maxHeartbeats 1600000 in
theorem hostPre_fresh : (hostPre : List (List (HloOp τ sig (Elt F)))).Forall fun ops => ops.Forall fun op => op.fresh = ∅ := by
  simp only [List.Forall]; repeat' constructor

set_option maxHeartbeats 800000 in
/-- @main is the lines before the region, the region, and the lines after it. -/
theorem hmain (𝒱₀ : Variants) : Pipeline.HMainPK (Ix := Unit) (Name := ℕ) (U := UR sig nD τ) (Lvl := ℕ) pcfgs 0 defs₀ 𝒱₀ m (main (F := F))
    (fun c b => V₀ m c (Proc.devRef .tc b)) (fun _ => Pipeline.chain (hostPost.map StableHlo.seq)) :=
  Pipeline.hmainP_around pcfgs 0 defs₀ 𝒱₀ m main hostPre hostPost hostPre_sub hostPre_fresh main_chain

/-- No line before the region writes one of @main's arguments. -/
theorem V_arg (c : Dev nD) (b : Ref sig .tc) (hb : b ∈ ([main_arg0, main_arg1, main_arg2, main_arg3, main_arg4, main_arg5, main_arg6, main_arg7, main_arg8, main_arg9, main_arg10] : List (Ref sig .tc))) :
    V m c b = m ((c : Thread nD τ).loc b) :=
  StableHlo.after_of_forall_not_mem (b := Proc.devRef .tc b) _ _ (List.forall_iff_forall_mem.mp (by
    simp only [hostPre, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
    repeat' apply And.intro
    all_goals (intro e; rw [Proc.devRef_injective _ e] at hb; revert hb; decide)))

theorem V_def (c : Dev nD) (b : Ref sig .tc) : V m c b = StableHlo.after hostPre.flatten (fun b => m (c, b)) (Proc.devRef .tc b) := rfl

attribute [irreducible] V₀

/-- The buffers the lines after the region write. -/
def tailW : Finset (Ref sig .tc) := {main_v89, main_call7_c, main_call7_v0, main_call7_v1, main_call7_c_0, main_call7_v2, main_call7_v3, main_call7_v4, main_call7_v5, main_call7_c_1, main_call7_c_2, main_call7_v6, main_call7_v7, main_call7_v8, main_call7_v9, main_call7_v10, main_call7_v11, main_call7_c_3, main_call7_v12, main_call7_v13, main_call7_v14, main_call7_cst, main_call7_v15, main_v90, main_v91, main_v92, main_v93, main_v94, main_cst, main_v95}

theorem devRef_iff (a b : Ref sig .tc) : (Proc.devRef (τ := τ) .tc a = Proc.devRef .tc b) ↔ a = b := (Proc.devRef_injective _).eq_iff

set_option maxHeartbeats 1600000 in
/-- The lines after the region touch no prefetched table. -/
theorem hostPost_sub : ∀ ops ∈ (hostPost : List (List (HloOp τ sig (Elt F)))), ∀ op ∈ ops, op.bufs ⊆ Pipeline.tailRefs (τ := τ) sig pre0 spec0 := by
  have h₁ : (hostPost : List (List (HloOp τ sig (Elt F)))).Forall fun ops => ops.Forall fun op => op.bufs ⊆ StableHlo.tcRefs τ sig :=
    ⟨hostOps1_sub, hostOps1_1_sub, hostOps1_2_sub⟩
  have h₂ : (hostPost : List (List (HloOp τ sig (Elt F)))).Forall fun ops => ops.Forall fun op => ∀ k, Proc.devRef .tc (pre0.ref k) ∉ op.bufs := by
    simp only [hostPost, hostOps1, hostOps1_1, hostOps1_2, List.Forall, StableHlo.nullary_bufs, StableHlo.unary_bufs, StableHlo.binary_bufs, StableHlo.ternary_bufs, StableHlo.reshape_bufs, Finset.mem_insert, Finset.mem_singleton, devRef_iff]
    repeat' apply And.intro
    all_goals decide
  intro ops ho op hp
  exact Pipeline.sub_tailRefs pre0 spec0 op (List.forall_iff_forall_mem.mp (List.forall_iff_forall_mem.mp h₁ ops ho) op hp)
    (List.forall_iff_forall_mem.mp (List.forall_iff_forall_mem.mp h₂ ops ho) op hp)

theorem hostPost_fresh : ∀ ops ∈ (hostPost : List (List (HloOp τ sig (Elt F)))), ∀ op ∈ ops, op.fresh = ∅ := by
  have h : (hostPost : List (List (HloOp τ sig (Elt F)))).Forall fun ops => ops.Forall fun op => op.fresh = ∅ := by
    simp only [List.Forall]; repeat' constructor
  exact fun ops ho op hp => List.forall_iff_forall_mem.mp (List.forall_iff_forall_mem.mp h ops ho) op hp

set_option maxHeartbeats 1600000 in
/-- A line after the region writes only buffers of `tailW`. -/
theorem hostPost_writes : ∀ ops ∈ (hostPost : List (List (HloOp τ sig (Elt F)))), ∀ op ∈ ops, ∀ b : Ref sig .tc, Proc.devRef .tc b ∈ op.writes → b ∈ tailW := by
  have h : (hostPost : List (List (HloOp τ sig (Elt F)))).Forall fun ops => ops.Forall fun op => ∀ b : Ref sig .tc, Proc.devRef .tc b ∈ op.writes → b ∈ tailW := by
    simp only [hostPost, hostOps1, hostOps1_1, hostOps1_2, List.Forall, StableHlo.nullary_writes, StableHlo.unary_writes, StableHlo.binary_writes, StableHlo.ternary_writes, StableHlo.reshape_writes, Finset.mem_singleton]
    repeat' apply And.intro
    all_goals (intro b hb; rw [Proc.devRef_injective _ hb]; decide)
  exact fun ops ho op hp => List.forall_iff_forall_mem.mp (List.forall_iff_forall_mem.mp h ops ho) op hp

/-- No array of the pipeline is one of them. -/
theorem hostPost_keep : ∀ ops ∈ (hostPost : List (List (HloOp τ sig (Elt F)))), ∀ op ∈ ops, ∀ w, Proc.devRef .tc (Pipeline.arrRef spec0 w) ∉ op.writes := by
  intro ops ho op hp w hw
  have hk : ∀ w, Pipeline.arrRef spec0 w ∉ tailW := by decide
  exact hk w (hostPost_writes ops ho op hp _ hw)

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 3) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S72 .i32 := Memref.whole main_v62
abbrev htbM0_0 : tbM0_0.IsWhole := Memref.isWhole_whole _
abbrev tbM0_1 : Memref sig .tc .smem S72 .i32 := Memref.whole main_v47
abbrev htbM0_1 : tbM0_1.IsWhole := Memref.isWhole_whole _
abbrev tbM0_2 : Memref sig .tc .smem S72 .i32 := Memref.whole main_v52
abbrev htbM0_2 : tbM0_2.IsWhole := Memref.isWhole_whole _

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1) ∗ tbPt0 c tbM0_2 (tbl m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Window 0's staging buffer (and below, each input window's) holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The buffers neither the pipeline nor the lines after it write. -/
abbrev Rest := Pipeline.restRefs sig spec0 \ tailW

/-- Every fair run ends with @main's arguments unchanged, off the run's post over the buffers the lines after the
    region do not write. -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePostR ((Pipeline.pin pcfgs fun _ => adm m hO) 0) rdat tailW (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).2 main_arg0 (by decide : main_arg0 ∈ Rest)).trans (V_arg m c main_arg0 (by decide)),
      ((h c).2 main_arg1 (by decide : main_arg1 ∈ Rest)).trans (V_arg m c main_arg1 (by decide)),
      ((h c).2 main_arg2 (by decide : main_arg2 ∈ Rest)).trans (V_arg m c main_arg2 (by decide)),
      ((h c).2 main_arg3 (by decide : main_arg3 ∈ Rest)).trans (V_arg m c main_arg3 (by decide)),
      ((h c).2 main_arg4 (by decide : main_arg4 ∈ Rest)).trans (V_arg m c main_arg4 (by decide)),
      (Pipeline.RDat.FramePostR.arr_in h c 1 rfl).trans ((hA c 1).trans (V_arg m c main_arg5 (by decide))),
      ((h c).2 main_arg6 (by decide : main_arg6 ∈ Rest)).trans (V_arg m c main_arg6 (by decide)),
      (Pipeline.RDat.FramePostR.arr_in h c 2 rfl).trans ((hA c 2).trans (V_arg m c main_arg7 (by decide))),
      ((h c).2 main_arg8 (by decide : main_arg8 ∈ Rest)).trans (V_arg m c main_arg8 (by decide)),
      (Pipeline.RDat.FramePostR.arr_in h c 3 rfl).trans ((hA c 3).trans (V_arg m c main_arg9 (by decide))),
      ((h c).2 main_arg10 (by decide : main_arg10 ∈ Rest)).trans (V_arg m c main_arg10 (by decide))⟩) h

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S1024x2048 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x2048x256 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x2048x256 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x256x2048 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x1x256 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x1x256 .f32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x1x2048 .f32 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1024x2048 .f32 := spec0_7.stage ((cfgM m hO).slots t 7)
abbrev hs0_7 (hO : Ok m) (t : Fin (cfgM m hO).N) : (ms0_7 m hO t).IsWhole := hstage0_7 (((cfgM m hO).slots t 7).cast nbuf0_7)
/-- The scratch operands: whole scoped buffers of the kernel's own, passed beside the windows. -/
abbrev scM0_0 : Memref sig .tc .vmem S2048x256 .bf16 := Memref.whole cc0_scratch0
abbrev scM0_1 : Memref sig .tc .vmem S2048x256 .bf16 := Memref.whole cc0_scratch1
abbrev scM0_2 : Memref sig .tc .vmem S256x2048 .bf16 := Memref.whole cc0_scratch2

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Moe

end
-- ==== Proof.KI.Rows.lean ====
module

public import proofs.«01_k».proof.Proof.KI.Body

/-! What the body leaves in the output block, element by element. -/

@[expose] public section

noncomputable section

namespace Cert.KernelIdeal.Moe

open Cert.KernelIdeal.Gen Idealize.ShloMosaic Idealize.ShloMosaic.TcCoe
open Idealize.SL Idealize.SL.Sem

variable {F : FTy → Type} [FloatOps F]

/-- The group of 256 rows an element of the tile is in. -/
abbrev grp (y : S1024x2048.Idx) : ℕ := (y 0).val / 256

/-- Its place within the group. -/
def lo (y : S1024x2048.Idx) : S256x2048.Idx :=
  ValueIdx.ix2 (⟨(y 0).val % 256, Nat.mod_lt _ (by omega)⟩ : Fin 256) (⟨(y 1).val, (y 1).isLt⟩ : Fin 2048)

theorem grp_lt (y : S1024x2048.Idx) : grp y < 4 := by
  have : (y 0).val < 1024 := (y 0).isLt
  unfold grp; omega

theorem putRows_apply (o : Vec F S1024x2048 .f32) {k : ℕ} (hk : k < 4) (p : Vec F S256x2048 .f32) (y : S1024x2048.Idx) :
    putRows o k p y = if grp y = k then p (lo y) else o y := by
  have h0 : (y 0).val < 1024 := (y 0).isLt
  have h1 : (y 1).val < 2048 := (y 1).isLt
  unfold putRows VecWindow.put
  by_cases h : grp y = k
  · have hin : ∀ a, (![256 * k, 0] : Fin 2 → ℕ) a ≤ (y a).val ∧ (y a).val < (![256 * k, 0] : Fin 2 → ℕ) a + S256x2048.size a := fun a => by
      match a with
      | ⟨0, _⟩ => show 256 * k ≤ (y 0).val ∧ (y 0).val < 256 * k + 256; unfold grp at h; omega
      | ⟨1, _⟩ => show 0 ≤ (y 1).val ∧ (y 1).val < 0 + 2048; omega
    rw [dif_pos hin, if_pos h]
    refine congrArg p (funext fun a => Fin.ext ?_)
    match a with
    | ⟨0, _⟩ => show (y 0).val - 256 * k = (y 0).val % 256; unfold grp at h; omega
    | ⟨1, _⟩ => show (y 1).val - 0 = (y 1).val; omega
  · rw [dif_neg (fun hin => h (by
      have := hin 0
      change 256 * k ≤ (y 0).val ∧ (y 0).val < 256 * k + 256 at this
      unfold grp; omega)), if_neg h]

theorem rowsAt_lo {e : EltTy} (o : Vec F S1024x2048 e) (y : S1024x2048.Idx) : rowsAt o (grp y) (lo y) = o y := by
  have h0 : (y 0).val < 1024 := (y 0).isLt
  refine congrArg o (funext fun a => Fin.ext ?_)
  match a with
  | ⟨0, _⟩ => show (256 * ((y 0).val / 256) + (y 0).val % 256) % 1024 = (y 0).val; omega
  | ⟨1, _⟩ => rfl

/-- What a row in use takes from a hidden block. -/
def newRow (i : grid0.Coords) (x : Vec F S1024x2048 .bf16) (bg bu : Vec F S1x1x256 .f32) (bd : Vec F S1x1x2048 .f32) (wg wu : Vec F S2048x256 .bf16) (wd : Vec F S256x2048 .bf16)
    (o : Vec F S1024x2048 .f32) (y : S1024x2048.Idx) : F .f32 :=
  (if (i 1).val = 0 then k0_pay1 (hid x bg bu wg wu wd (grp y)) bd else k0_pay2 (hid x bg bu wg wu wd (grp y)) (rowsAt o (grp y))) (lo y)

theorem tileRows_apply (i : grid0.Coords) (x : Vec F S1024x2048 .bf16) (bg bu : Vec F S1x1x256 .f32) (bd : Vec F S1x1x2048 .f32) (wg wu : Vec F S2048x256 .bf16) (wd : Vec F S256x2048 .bf16)
    (o : Vec F S1024x2048 .f32) : ∀ n : ℕ, n ≤ 4 → ∀ y : S1024x2048.Idx,
      tileRows i x bg bu bd wg wu wd o n y = if grp y < n then newRow i x bg bu bd wg wu wd o y else o y
  | 0, _, y => by rw [if_neg (Nat.not_lt_zero _)]; rfl
  | n + 1, hn, y => by
    have ih := tileRows_apply i x bg bu bd wg wu wd o n (by omega)
    have hr : rowsAt (tileRows i x bg bu bd wg wu wd o n) n = rowsAt o n := funext fun z => by
      have hz : (z 0).val < 256 := (z 0).isLt
      have hg : ¬ grp (ValueIdx.ix2 (⟨(256 * n + (z 0).val) % 1024, Nat.mod_lt _ (by omega)⟩ : Fin 1024) (⟨(z 1).val, (z 1).isLt⟩ : Fin 2048)) < n := by
        show ¬ (256 * n + (z 0).val) % 1024 / 256 < n
        omega
      unfold rowsAt
      exact (ih _).trans (if_neg hg)
    show tileStep i x bg bu bd wg wu wd n (tileRows i x bg bu bd wg wu wd o n) y = _
    unfold tileStep
    rw [putRows_apply _ (by omega), hr]
    by_cases h : grp y = n
    · have h' : grp y < n + 1 := by omega
      rw [if_pos h, if_pos h']
      subst h; rfl
    · rw [if_neg h, ih]
      by_cases h' : grp y < n
      · rw [if_pos h', if_pos (by omega)]
      · rw [if_neg h', if_neg (by omega)]

theorem clearRows_apply (s : ℕ) (o : Vec F S1024x2048 .f32) : ∀ n : ℕ, s + n ≤ 4 → ∀ y : S1024x2048.Idx,
      clearRows s o n y = if s ≤ grp y ∧ grp y < s + n then k0_pay5 (F := F) (lo y) else o y
  | 0, _, y => by rw [if_neg (by omega)]; rfl
  | n + 1, hn, y => by
    show putRows (clearRows s o n) (s + n) k0_pay5 y = _
    rw [putRows_apply _ (by omega), clearRows_apply s o n (by omega)]
    by_cases h : grp y = s + n
    · rw [if_pos h, if_pos (by omega)]
    · rw [if_neg h]
      by_cases h' : s ≤ grp y ∧ grp y < s + n
      · rw [if_pos h', if_pos (by omega)]
      · rw [if_neg h', if_neg (by omega)]

variable (i : grid0.Coords) (v : BitVec 32) (x : Vec F S1024x2048 .bf16) (w1 w2 : Vec F S1x2048x256 .f32) (w3 : Vec F S1x256x2048 .f32) (bg bu : Vec F S1x1x256 .f32) (bd : Vec F S1x1x2048 .f32)

/-- A tile without rows in use leaves the block alone. -/
theorem bodyOut_idle (h : ¬ 0 < v.toInt) (o : Vec F S1024x2048 .f32) : bodyOut i v x w1 w2 w3 bg bu bd o = o := by
  unfold bodyOut; rw [if_neg (fun e => h ((cond1_iff v).1 e))]

/-- A row in a group in use takes the hidden block's output. -/
theorem bodyOut_apply (h : 0 < v.toInt) (h' : v.toInt ≤ 1024) (o : Vec F S1024x2048 .f32) (y : S1024x2048.Idx) (hy : grp y < nSub v) :
    bodyOut i v x w1 w2 w3 bg bu bd o y = newRow i x bg bu bd (k0_pay9 w1) (k0_pay10 w2) (k0_pay11 w3) o y := by
  have hn := nSub_pos (inUse_of ((cond1_iff v).2 h) h')
  unfold bodyOut; rw [if_pos ((cond1_iff v).2 h)]
  split
  · rw [clearRows_apply _ _ _ (by omega), if_neg (by omega), tileRows_apply _ _ _ _ _ _ _ _ _ _ hn.2, if_pos hy]
  · rw [tileRows_apply _ _ _ _ _ _ _ _ _ _ hn.2, if_pos hy]

/-- At the first hidden block of a tile in use nothing the block held before is left. -/
theorem bodyOut_first (h : 0 < v.toInt) (h' : v.toInt ≤ 1024) (hi : (i 1).val = 0) (o o' : Vec F S1024x2048 .f32) :
    bodyOut i v x w1 w2 w3 bg bu bd o = bodyOut i v x w1 w2 w3 bg bu bd o' := by
  have hn := nSub_pos (inUse_of ((cond1_iff v).2 h) h')
  funext y
  by_cases hy : grp y < nSub v
  · rw [bodyOut_apply i v x w1 w2 w3 bg bu bd h h' o y hy, bodyOut_apply i v x w1 w2 w3 bg bu bd h h' o' y hy]
    unfold newRow; rw [if_pos hi, if_pos hi]
  · unfold bodyOut; rw [if_pos ((cond1_iff v).2 h), if_pos hi]
    have := grp_lt y
    rw [if_pos ((cond1_iff v).2 h), if_pos hi, clearRows_apply _ _ _ (by omega), clearRows_apply _ _ _ (by omega), if_pos (by omega), if_pos (by omega)]

end Cert.KernelIdeal.Moe

end
-- ==== Proof.KI.Tables.lean ====
module

public import proofs.«01_k».proof.Proof.Gen.KernelIdeal.Launch
public import proofs.«01_k».proof.Proof.Gen.KernelIdeal.Skeleton
public import proofs.«01_k».proof.Proof.KI.Setup
public import proofs.«01_k».proof.Proof.Pre
public import Idealize.ShloMosaic.Lib.Pipeline.FrameBody
public import Idealize.ShloMosaic.Lib.WordCmp

/-! The tile tables: the words each index map reads, the blocks they name, and the windows' side conditions from what
is known of the tables (`Tables`). -/

@[expose] public section

noncomputable section

namespace Cert.KernelIdeal.Moe

open Cert.Pre (Tables)
open Cert.KernelIdeal.Gen Idealize.ShloMosaic Idealize.ShloMosaic.TcCoe
open Idealize.SL Idealize.SL.Sem

variable {F : FTy → Type} [FloatOps F]

/-- The tile of a grid point. -/
abbrev tile (i : grid0.Coords) : Fin 72 := ⟨(i 0).val, (i 0).isLt⟩

/-- The expert of a tile, its number of rows in use and the row block it reads and writes. -/
def te (pf : pre0.Contents (Elt F)) (t : Fin 72) : BitVec 32 := (show Vec F S72 .i32 from pf 0) (ValueIdx.ix1 t)
def tv (pf : pre0.Contents (Elt F)) (t : Fin 72) : BitVec 32 := (show Vec F S72 .i32 from pf 1) (ValueIdx.ix1 t)
def ti (pf : pre0.Contents (Elt F)) (t : Fin 72) : BitVec 32 := (show Vec F S72 .i32 from pf 2) (ValueIdx.ix1 t)

/-- The hidden block of a grid point. -/
def jb (pf : pre0.Contents (Elt F)) (i : grid0.Coords) : ℕ := if 0 < (tv pf (tile i)).toInt then (i 1).val else 7

theorem tile_off (i : grid0.Coords) : (k0_off1 i) 0 = (tile i).val :=
  (by decide : ∀ t : Fin 72, (Scalar.indexCast (BitVec.ofNat 32 t.val)).toNat = t.val) (tile i)

theorem at0 (pf : pre0.Contents (Elt F)) (i : grid0.Coords) : pf.at 0 (Rect.unit (s := S72) (k0_off1 i) S1.size (k0_off1_inb i)) numel1_S1 = te pf (tile i) :=
  congrArg (show Vec F S72 .i32 from pf 0) (funext fun a => Fin.ext (by
    match a with
    | ⟨0, _⟩ => exact (by decide : ∀ t : Fin 72, (BitVec.ofNat 32 t.val).toNat + 1 * 0 = t.val) (i 0)))
theorem at1 (pf : pre0.Contents (Elt F)) (i : grid0.Coords) : pf.at 1 (Rect.unit (s := S72) (k0_off1 i) S1.size (k0_off1_inb i)) numel1_S1 = tv pf (tile i) :=
  congrArg (show Vec F S72 .i32 from pf 1) (funext fun a => Fin.ext (by
    match a with
    | ⟨0, _⟩ => exact (by decide : ∀ t : Fin 72, (BitVec.ofNat 32 t.val).toNat + 1 * 0 = t.val) (i 0)))
theorem at2 (pf : pre0.Contents (Elt F)) (i : grid0.Coords) : pf.at 2 (Rect.unit (s := S72) (k0_off1 i) S1.size (k0_off1_inb i)) numel1_S1 = ti pf (tile i) :=
  congrArg (show Vec F S72 .i32 from pf 2) (funext fun a => Fin.ext (by
    match a with
    | ⟨0, _⟩ => exact (by decide : ∀ t : Fin 72, (BitVec.ofNat 32 t.val).toNat + 1 * 0 = t.val) (i 0)))

/-- The hidden block an index map computes from a tile's row count. -/
theorem sel_eq (v : BitVec 32) (j : Fin 8) :
    (Scalar.select (Scalar.cmpi .sgt v 0#32) (BitVec.ofNat 32 j.val) 7#32).toNat = if 0 < v.toInt then j.val else 7 := by
  have hj : (BitVec.ofNat 32 j.val).toNat = j.val := by have := j.isLt; simp; omega
  show (if IntOp.cmpi .sgt v 0#32 = 1#1 then BitVec.ofNat 32 j.val else 7#32).toNat = _
  by_cases h : 0 < v.toInt
  · rw [if_pos h, if_pos (IntOp.cmpi_sgt.2 (by simpa using h)), hj]
  · rw [if_neg h, if_neg (fun e => h (by simpa using IntOp.cmpi_sgt.1 e))]; rfl

theorem tr0 (pf : pre0.Contents (Elt F)) (i : grid0.Coords) : cc0_transform_0 k0_off1_inb numel1_S1 pf i = ![(ti pf (tile i)).toNat, 0] := by
  rw [← at2]; rfl
theorem tr1 (pf : pre0.Contents (Elt F)) (i : grid0.Coords) : cc0_transform_1 k0_off1_inb numel1_S1 pf i = ![(te pf (tile i)).toNat, 0, jb pf i] := by
  rw [jb, ← sel_eq _ (⟨(i 1).val, (i 1).isLt⟩ : Fin 8), ← at0, ← at1]; rfl
theorem tr2 (pf : pre0.Contents (Elt F)) (i : grid0.Coords) : cc0_transform_2 k0_off1_inb numel1_S1 pf i = ![(te pf (tile i)).toNat, 0, jb pf i] := by
  rw [jb, ← sel_eq _ (⟨(i 1).val, (i 1).isLt⟩ : Fin 8), ← at0, ← at1]; rfl
theorem tr3 (pf : pre0.Contents (Elt F)) (i : grid0.Coords) : cc0_transform_3 k0_off1_inb numel1_S1 pf i = ![(te pf (tile i)).toNat, jb pf i, 0] := by
  rw [jb, ← sel_eq _ (⟨(i 1).val, (i 1).isLt⟩ : Fin 8), ← at0, ← at1]; rfl
theorem tr4 (pf : pre0.Contents (Elt F)) (i : grid0.Coords) : cc0_transform_4 k0_off1_inb numel1_S1 pf i = ![(te pf (tile i)).toNat, 0, jb pf i] := by
  rw [jb, ← sel_eq _ (⟨(i 1).val, (i 1).isLt⟩ : Fin 8), ← at0, ← at1]; rfl
theorem tr5 (pf : pre0.Contents (Elt F)) (i : grid0.Coords) : cc0_transform_5 k0_off1_inb numel1_S1 pf i = ![(te pf (tile i)).toNat, 0, jb pf i] := by
  rw [jb, ← sel_eq _ (⟨(i 1).val, (i 1).isLt⟩ : Fin 8), ← at0, ← at1]; rfl
theorem tr6 (pf : pre0.Contents (Elt F)) (i : grid0.Coords) : cc0_transform_6 k0_off1_inb numel1_S1 pf i = ![(te pf (tile i)).toNat, 0, 0] := by
  rw [← at0]; rfl
theorem tr7 (pf : pre0.Contents (Elt F)) (i : grid0.Coords) : cc0_transform_7 k0_off1_inb numel1_S1 pf i = ![(ti pf (tile i)).toNat, 0] := by
  rw [← at2]; rfl

theorem jb_lt (pf : pre0.Contents (Elt F)) (i : grid0.Coords) : jb pf i < 8 := by
  unfold jb; split
  · exact (i 1).isLt
  · omega

theorem ok_of {pf : pre0.Contents (Elt F)} {last : ℕ} (h : Tables (te pf) (tv pf) (ti pf) last) : ok0 pf := by
  have hi : ∀ i : grid0.Coords, (ti pf (tile i)).toNat < 72 := fun i => by
    rw [h.index]; have := (tile i).isLt; have := h.last_lt; omega
  have he : ∀ i : grid0.Coords, (te pf (tile i)).toNat < 32 := fun i => h.expert _
  have hj := fun i : grid0.Coords => jb_lt pf i
  refine ⟨fun i => ⟨fun a => ?_, Or.inr ?_⟩, fun i => ⟨fun a => ?_, Or.inl rfl⟩, fun i => ⟨fun a => ?_, Or.inl rfl⟩, fun i => ⟨fun a => ?_, Or.inl rfl⟩,
    fun i => ⟨fun a => ?_, Or.inl rfl⟩, fun i => ⟨fun a => ?_, Or.inl rfl⟩, fun i => ⟨fun a => ?_, Or.inl rfl⟩, fun i => ⟨fun a => ?_, Or.inl rfl⟩⟩
  · rw [tr0]
    match a with
    | ⟨0, _⟩ => show ((ti pf (tile i)).toNat + 1) * 1024 ≤ 73728; have := hi i; omega
    | ⟨1, _⟩ => show (0 + 1) * 2048 ≤ 2048; omega
  · refine .inl (.inr ⟨by decide, rfl, .inl ⟨?_, ?_⟩⟩)
    · exact Dvd.dvd.mul_left (show (2 : ℕ) ∣ 1024 by decide) (cc0_transform_0 k0_off1_inb numel1_S1 pf i 0)
    · exact (show (2 : ℕ) ∣ 1024 by decide)
  · rw [tr1]
    match a with
    | ⟨0, _⟩ => show ((te pf (tile i)).toNat + 1) * 1 ≤ 32; have := he i; omega
    | ⟨1, _⟩ => show (0 + 1) * 2048 ≤ 2048; omega
    | ⟨2, _⟩ => show (jb pf i + 1) * 256 ≤ 2048; have := hj i; omega
  · rw [tr2]
    match a with
    | ⟨0, _⟩ => show ((te pf (tile i)).toNat + 1) * 1 ≤ 32; have := he i; omega
    | ⟨1, _⟩ => show (0 + 1) * 2048 ≤ 2048; omega
    | ⟨2, _⟩ => show (jb pf i + 1) * 256 ≤ 2048; have := hj i; omega
  · rw [tr3]
    match a with
    | ⟨0, _⟩ => show ((te pf (tile i)).toNat + 1) * 1 ≤ 32; have := he i; omega
    | ⟨1, _⟩ => show (jb pf i + 1) * 256 ≤ 2048; have := hj i; omega
    | ⟨2, _⟩ => show (0 + 1) * 2048 ≤ 2048; omega
  · rw [tr4]
    match a with
    | ⟨0, _⟩ => show ((te pf (tile i)).toNat + 1) * 1 ≤ 32; have := he i; omega
    | ⟨1, _⟩ => show (0 + 1) * 1 ≤ 1; omega
    | ⟨2, _⟩ => show (jb pf i + 1) * 256 ≤ 2048; have := hj i; omega
  · rw [tr5]
    match a with
    | ⟨0, _⟩ => show ((te pf (tile i)).toNat + 1) * 1 ≤ 32; have := he i; omega
    | ⟨1, _⟩ => show (0 + 1) * 1 ≤ 1; omega
    | ⟨2, _⟩ => show (jb pf i + 1) * 256 ≤ 2048; have := hj i; omega
  · rw [tr6]
    match a with
    | ⟨0, _⟩ => show ((te pf (tile i)).toNat + 1) * 1 ≤ 32; have := he i; omega
    | ⟨1, _⟩ => show (0 + 1) * 1 ≤ 1; omega
    | ⟨2, _⟩ => show (0 + 1) * 2048 ≤ 2048; omega
  · rw [tr7]
    match a with
    | ⟨0, _⟩ => show ((ti pf (tile i)).toNat + 1) * 1024 ≤ 73728; have := hi i; omega
    | ⟨1, _⟩ => show (0 + 1) * 2048 ≤ 2048; omega

theorem wordAt_tv (pf : pre0.Contents (Elt F)) (i : grid0.Coords) : wordAt (tbM0_1.view.read (Elt F) (pf 1)) i = tv pf (tile i) := rfl

variable (m : (ℓ : Loc nD τ sig) → Buf (Elt F) ℓ)

theorem small_of {last : ℕ} (h : Tables (te (tbl m)) (tv (tbl m)) (ti (tbl m)) last) (t : Fin grid0.N) :
    (wordAt (tbM0_1.view.read (Elt F) (tbl m 1)) (grid0.coords t)).toInt ≤ 1024 := h.le _

end Cert.KernelIdeal.Moe

end
-- ==== Proof.KI.Acc.lean ====
module

public import proofs.«01_k».proof.Proof.Gen.KernelIdeal.Launch
public import proofs.«01_k».proof.Proof.Gen.KernelIdeal.Skeleton
public import proofs.«01_k».proof.Proof.KI.Setup
public import proofs.«01_k».proof.Proof.KI.Rows
public import proofs.«01_k».proof.Proof.KI.Tables
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

/-! The output block point by point, and the launch at exactly what each point leaves. -/

@[expose] public section

set_option maxRecDepth 16384

noncomputable section

namespace Cert.KernelIdeal.Moe

open Cert.Pre (Tables)
open Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The output block over the grid points -/

theorem coord0 (t : Fin grid0.N) : (grid0.coords t 0).val = t.val / 8 := by
  rw [Pipeline.Grid.coords_val t 0 (by decide : grid0.stride 0 = 8) (rfl : grid0.bound 0 = 72)]
  have h : t.val < 576 := t.isLt
  show t.val / 8 % 72 = t.val / 8
  omega
theorem coord1 (t : Fin grid0.N) : (grid0.coords t 1).val = t.val % 8 := by
  rw [Pipeline.Grid.coords_val t 1 (by decide : grid0.stride 1 = 1) (rfl : grid0.bound 1 = 8)]
  show t.val / 1 % 8 = t.val % 8
  omega

/-- The word of a point's tile. -/
abbrev wd (t : Fin grid0.N) : BitVec 32 := tv (tbl m) (tile (grid0.coords t))

/-- What the body at point `t` makes of the output block `o`. -/
def stepAt (hO : Ok m) (c : Dev nD) (t : Fin grid0.N) (o : Vec F S1024x2048 .f32) : Vec F S1024x2048 .f32 :=
  bodyOut (grid0.coords t) (wd m t) (iblk m hO c 0 t) (iblk m hO c 1 t) (iblk m hO c 2 t) (iblk m hO c 3 t) (iblk m hO c 4 t) (iblk m hO c 5 t) (iblk m hO c 6 t) o

/-- The output block after point `n`. -/
def accAt (hO : Ok m) (c : Dev nD) : ℕ → Vec F S1024x2048 .f32
  | 0 => stepAt m hO c ⟨0, by decide⟩ fun _ => Scalar.ofBits .f32 0#32
  | n + 1 => if h : n + 1 < grid0.N then stepAt m hO c ⟨n + 1, h⟩ (accAt hO c n) else accAt hO c n

theorem accAt_succ (hO : Ok m) (c : Dev nD) (n : ℕ) (h : n + 1 < grid0.N) : accAt m hO c (n + 1) = stepAt m hO c ⟨n + 1, h⟩ (accAt m hO c n) := dif_pos h

section
variable {m} {last : ℕ} (hT : Tables (te (tbl m)) (tv (tbl m)) (ti (tbl m)) last)
include hT

theorem inUse_iff (t : Fin grid0.N) : 0 < (wd m t).toInt ↔ t.val / 8 ≤ last := by
  rw [hT.pos]; show (grid0.coords t 0).val ≤ last ↔ _; rw [coord0]

theorem stepAt_idle (hO : Ok m) (c : Dev nD) (t : Fin grid0.N) (h : ¬ t.val / 8 ≤ last) (o : Vec F S1024x2048 .f32) : stepAt m hO c t o = o :=
  bodyOut_idle _ _ _ _ _ _ _ _ _ (fun e => h ((inUse_iff hT t).1 e)) o

theorem stepAt_first (hO : Ok m) (c : Dev nD) (t : Fin grid0.N) (h : t.val / 8 ≤ last) (h0 : t.val % 8 = 0) (o o' : Vec F S1024x2048 .f32) : stepAt m hO c t o = stepAt m hO c t o' :=
  bodyOut_first _ _ _ _ _ _ _ _ _ ((inUse_iff hT t).2 h) (hT.le _) ((coord1 t).trans h0) o o'

theorem index7 (hO : Ok m) (t : Fin (cfgM m hO).N) : ((cfgM m hO).win 7).index t = ![min (t.val / 8) last, 0] := by
  show cc0_transform_7 k0_off1_inb numel1_S1 (tbl m) (grid0.coords t) = _
  rw [tr7, hT.index]; show ![min (grid0.coords t 0).val last, 0] = _; rw [coord0]

theorem flush7 (hO : Ok m) (t : Fin (cfgM m hO).N) : ((cfgM m hO).win 7).flush t = true ↔ t.val = 575 ∨ (t.val % 8 = 7 ∧ t.val / 8 < last) := by
  have hN : (cfgM m hO).N = 576 := rfl
  have hl := hT.last_lt
  have ht : t.val < 576 := t.isLt
  unfold Pipeline.Window.flush
  rw [show ((cfgM m hO).win 7).isOut = true from rfl, Bool.true_and, Bool.or_eq_true, decide_eq_true_iff, decide_eq_true_iff]
  constructor
  · rintro (h | ⟨h, hne⟩)
    · left; change t.val + 1 = 576 at h; omega
    · right
      change t.val + 1 < 576 at h
      rw [index7 hT, index7 hT] at hne
      have : min ((t.val + 1) / 8) last ≠ min (t.val / 8) last := fun e => hne (by show ![min ((t.val + 1) / 8) last, 0] = ![min (t.val / 8) last, 0]; rw [e])
      omega
  · rintro (h | ⟨h, h'⟩)
    · left; show t.val + 1 = 576; omega
    · right
      refine ⟨show t.val + 1 < 576 by omega, fun e => ?_⟩
      rw [index7 hT, index7 hT] at e
      have := congrFun e 0
      change min ((t.val + 1) / 8) last = min (t.val / 8) last at this
      omega

theorem idle7 (hO : Ok m) (t : Fin (cfgM m hO).N) (h : (cfgM m hO).idle 7 ((cfgM m hO).grid.coords t) = true) : ¬ t.val / 8 ≤ last := by
  intro hl
  have hc := (cond1_iff _).2 ((inUse_iff hT t).2 hl)
  change idle0 (tbl m) 7 (grid0.coords t) = true at h
  have e : (tbl m).atD 1 (k0_off1 (grid0.coords t)) = wd m t := by
    have hb : ∀ a, (k0_off1 (grid0.coords t)) a + 1 ≤ (pre0.ref 1).ty.shape.size a := fun a => by
      match a with
      | ⟨0, _⟩ => rw [show (⟨0, by decide⟩ : Fin 1) = 0 from rfl]; exact (tile_off (grid0.coords t)).symm ▸ (tile (grid0.coords t)).isLt
    refine (dif_pos hb).trans (congrArg (show Vec F S72 .i32 from tbl m 1) (funext fun a => Fin.ext ?_))
    match a with
    | ⟨0, _⟩ => exact tile_off (grid0.coords t)
  unfold idle0 at h
  simp only [e, hc] at h
  by_cases h0 : (grid0.coords t 1).val = 0
  · simp [(cond2_iff _).2 h0] at h
  · simp [(cond3_iff _).2 h0] at h
end

end Cert.KernelIdeal.Moe

end
-- ==== Proof.KI.Exact.lean ====
module

public import proofs.«01_k».proof.Proof.Gen.KernelIdeal.Launch
public import proofs.«01_k».proof.Proof.Gen.KernelIdeal.Skeleton
public import proofs.«01_k».proof.Proof.KI.Setup
public import proofs.«01_k».proof.Proof.KI.Rows
public import proofs.«01_k».proof.Proof.KI.Acc
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

/-! The launch at exactly what each grid point leaves in the output block. -/

@[expose] public section

set_option maxRecDepth 16384

noncomputable section

namespace Cert.KernelIdeal.Moe

open Cert.Pre (Tables)
open Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data of the one pipeline on core `c`: the arrays as the region finds them (`V`); after the body at
    point `t` each input's buffer at its block and the output at `accAt`; the invariant the class's
    (Lib/Pipeline/Frame.lean `ΦA`: the scoped rest and the generator register) and the tables' halves (`ΦT`); nothing owed;
    full shares. -/
def datsV (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => accAt m hO c t.val
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem AV_eq (hO : Ok m) (c : Dev nD) (w : Fin (cfgM m hO).W) : (datsV m hO 0 c).A w = V m c (Pipeline.arrRef spec0 w) := by
  dsimp only [datsV]

/-- What the body leaves, window by window (the proof data's `match` reduced by `dsimp`). -/
theorem after0_0V (hO : Ok m) (c : Dev nD) (t : Fin (cfgM m hO).N) : (datsV m hO 0 c).after 0 t = iblk m hO c 0 t := by dsimp only [datsV]; try rfl
theorem after0_1V (hO : Ok m) (c : Dev nD) (t : Fin (cfgM m hO).N) : (datsV m hO 0 c).after 1 t = iblk m hO c 1 t := by dsimp only [datsV]; try rfl
theorem after0_2V (hO : Ok m) (c : Dev nD) (t : Fin (cfgM m hO).N) : (datsV m hO 0 c).after 2 t = iblk m hO c 2 t := by dsimp only [datsV]; try rfl
theorem after0_3V (hO : Ok m) (c : Dev nD) (t : Fin (cfgM m hO).N) : (datsV m hO 0 c).after 3 t = iblk m hO c 3 t := by dsimp only [datsV]; try rfl
theorem after0_4V (hO : Ok m) (c : Dev nD) (t : Fin (cfgM m hO).N) : (datsV m hO 0 c).after 4 t = iblk m hO c 4 t := by dsimp only [datsV]; try rfl
theorem after0_5V (hO : Ok m) (c : Dev nD) (t : Fin (cfgM m hO).N) : (datsV m hO 0 c).after 5 t = iblk m hO c 5 t := by dsimp only [datsV]; try rfl
theorem after0_6V (hO : Ok m) (c : Dev nD) (t : Fin (cfgM m hO).N) : (datsV m hO 0 c).after 6 t = iblk m hO c 6 t := by dsimp only [datsV]; try rfl

/-- Each input's current staging buffer holds its block at every point, fetched there or not (`beforeK_W_of`). -/
theorem before0_0V (hO : Ok m) (c : Dev nD) (t : Fin (cfgM m hO).N) (d) : (datsV m hO 0 c).before 0 t d = iblk m hO c 0 t :=
  before0_0_of m hO (datsV m hO 0 c) (AV_eq m hO c 0) (after0_0V m hO c) t d
theorem before0_1V (hO : Ok m) (c : Dev nD) (t : Fin (cfgM m hO).N) (d) : (datsV m hO 0 c).before 1 t d = iblk m hO c 1 t :=
  before0_1_of m hO (datsV m hO 0 c) (AV_eq m hO c 1) (after0_1V m hO c) t d
theorem before0_2V (hO : Ok m) (c : Dev nD) (t : Fin (cfgM m hO).N) (d) : (datsV m hO 0 c).before 2 t d = iblk m hO c 2 t :=
  before0_2_of m hO (datsV m hO 0 c) (AV_eq m hO c 2) (after0_2V m hO c) t d
theorem before0_3V (hO : Ok m) (c : Dev nD) (t : Fin (cfgM m hO).N) (d) : (datsV m hO 0 c).before 3 t d = iblk m hO c 3 t :=
  before0_3_of m hO (datsV m hO 0 c) (AV_eq m hO c 3) (after0_3V m hO c) t d
theorem before0_4V (hO : Ok m) (c : Dev nD) (t : Fin (cfgM m hO).N) (d) : (datsV m hO 0 c).before 4 t d = iblk m hO c 4 t :=
  before0_4_of m hO (datsV m hO 0 c) (AV_eq m hO c 4) (after0_4V m hO c) t d
theorem before0_5V (hO : Ok m) (c : Dev nD) (t : Fin (cfgM m hO).N) (d) : (datsV m hO 0 c).before 5 t d = iblk m hO c 5 t :=
  before0_5_of m hO (datsV m hO 0 c) (AV_eq m hO c 5) (after0_5V m hO c) t d
theorem before0_6V (hO : Ok m) (c : Dev nD) (t : Fin (cfgM m hO).N) (d) : (datsV m hO 0 c).before 6 t d = iblk m hO c 6 t :=
  before0_6_of m hO (datsV m hO 0 c) (AV_eq m hO c 6) (after0_6V m hO c) t d

theorem after0_7V (hO : Ok m) (c : Dev nD) (t : Fin (cfgM m hO).N) : (datsV m hO 0 c).after 7 t = accAt m hO c t.val := by dsimp only [datsV]; try rfl

/-- Whatever the output's buffer held when nothing had filled it, the body at point `t` leaves `accAt` there: at the first
    hidden block of a tile nothing is kept, and otherwise the buffer still holds what the point before left. -/
theorem step_before {last : ℕ} (hO : Ok m) (hT : Tables (te (tbl m)) (tv (tbl m)) (ti (tbl m)) last) (c : Dev nD) (d) :
    ∀ (n : ℕ) (h : n < grid0.N), stepAt m hO c ⟨n, h⟩ ((datsV m hO 0 c).before 7 ⟨n, h⟩ d) = accAt m hO c n
  | 0, h => stepAt_first hT hO c ⟨0, h⟩ (show 0 / 8 ≤ last by omega) rfl _ _
  | n + 1, h => by
    rw [accAt_succ m hO c n h]
    have hn : n < grid0.N := Nat.lt_of_succ_lt h
    have ih := step_before hO hT c d n hn
    have hb := (datsV m hO 0 c).before_of_pos 7 ⟨n + 1, h⟩ (Nat.succ_ne_zero n) (Pipeline.Window.fetch_out _ rfl _) d
    rw [hb]
    by_cases hf : ((cfgM m hO).win 7).flush ⟨n, hn⟩ = true
    · have h7 := (flush7 hT hO ⟨n, hn⟩).1 hf
      have h' : n + 1 < 576 := h
      have : n % 8 = 7 ∧ n / 8 < last := h7.resolve_left (fun e => by have e' : n = 575 := e; omega)
      exact stepAt_first hT hO c ⟨n + 1, h⟩ (show (n + 1) / 8 ≤ last by omega) (show (n + 1) % 8 = 0 by omega) _ _
    · refine congrArg (stepAt m hO c ⟨n + 1, h⟩) ((if_neg hf).trans ?_)
      show (datsV m hO 0 c).left 7 ⟨n, hn⟩ d = _
      unfold Dat.left
      cases hi : (cfgM m hO).idle 7 ((cfgM m hO).grid.coords ⟨n, hn⟩)
      · exact after0_7V m hO c ⟨n, hn⟩
      · exact (stepAt_idle hT hO c ⟨n, hn⟩ (idle7 hT hO ⟨n, hn⟩ hi) _).symm.trans ih

/-- What the body leaves in the output's buffer is what the pipeline expects there. -/
theorem leaves7 {last : ℕ} (hO : Ok m) (hT : Tables (te (tbl m)) (tv (tbl m)) (ti (tbl m)) last) (c : Dev nD) (t : Fin (cfgM m hO).N) (d) :
    (owns (c : Thread nD τ) (((cfgM m hO).win 7).stage ((cfgM m hO).slots t 7)) fullShare (stepAt m hO c t ((datsV m hO 0 c).before 7 t d)) : sProp 𝕄) ⊢ (datsV m hO 0 c).leavesExact 7 t := by
  have e : stepAt m hO c t ((datsV m hO 0 c).before 7 t d) = accAt m hO c t.val := step_before m hO hT c d t.val t.isLt
  unfold Dat.leavesExact
  cases hi : (cfgM m hO).idle 7 ((cfgM m hO).grid.coords t)
  · rw [e]; exact .rfl
  · cases hf : ((cfgM m hO).win 7).flush t
    · rw [show stepAt m hO c t ((datsV m hO 0 c).before 7 t d) = (datsV m hO 0 c).before 7 t d from stepAt_idle hT hO c t (idle7 hT hO t hi) _]
      iintro H
      iexists d
      iexact H
    · rw [e]; exact .rfl

/-! ## The body obligation, at a generic point -/

/-- What the body is called with at point `t` (Lib/Pipeline.lean `BodyObligation`'s precondition, the windows one by one), -/
def bodyPreV (hO : Ok m) (c : Dev nD) (t : Fin (cfgM m hO).N) : sProp 𝕄 :=
  iprop((datsV m hO 0 c).Φ t.castSucc ∗ (datsV m hO 0 c).owesAt () t.castSucc
    ∗ (∃ d, owns (c : Thread nD τ) (ms0_0 m hO t) fullShare ((datsV m hO 0 c).before 0 t d))
    ∗ (∃ d, owns (c : Thread nD τ) (ms0_1 m hO t) fullShare ((datsV m hO 0 c).before 1 t d))
    ∗ (∃ d, owns (c : Thread nD τ) (ms0_2 m hO t) fullShare ((datsV m hO 0 c).before 2 t d))
    ∗ (∃ d, owns (c : Thread nD τ) (ms0_3 m hO t) fullShare ((datsV m hO 0 c).before 3 t d))
    ∗ (∃ d, owns (c : Thread nD τ) (ms0_4 m hO t) fullShare ((datsV m hO 0 c).before 4 t d))
    ∗ (∃ d, owns (c : Thread nD τ) (ms0_5 m hO t) fullShare ((datsV m hO 0 c).before 5 t d))
    ∗ (∃ d, owns (c : Thread nD τ) (ms0_6 m hO t) fullShare ((datsV m hO 0 c).before 6 t d))
    ∗ (∃ d, owns (c : Thread nD τ) (ms0_7 m hO t) fullShare ((datsV m hO 0 c).before 7 t d)))

/-- and what it returns. -/
def bodyPostV (hO : Ok m) (c : Dev nD) (t : Fin (cfgM m hO).N) : sProp 𝕄 :=
  iprop((datsV m hO 0 c).Φ t.succ ∗ (datsV m hO 0 c).owesAt () t.succ
    ∗ owns (c : Thread nD τ) (ms0_0 m hO t) fullShare ((datsV m hO 0 c).after 0 t)
    ∗ owns (c : Thread nD τ) (ms0_1 m hO t) fullShare ((datsV m hO 0 c).after 1 t)
    ∗ owns (c : Thread nD τ) (ms0_2 m hO t) fullShare ((datsV m hO 0 c).after 2 t)
    ∗ owns (c : Thread nD τ) (ms0_3 m hO t) fullShare ((datsV m hO 0 c).after 3 t)
    ∗ owns (c : Thread nD τ) (ms0_4 m hO t) fullShare ((datsV m hO 0 c).after 4 t)
    ∗ owns (c : Thread nD τ) (ms0_5 m hO t) fullShare ((datsV m hO 0 c).after 5 t)
    ∗ owns (c : Thread nD τ) (ms0_6 m hO t) fullShare ((datsV m hO 0 c).after 6 t)
    ∗ (datsV m hO 0 c).leavesExact 7 t)

set_option maxHeartbeats 800000 in
/-- The body at any point: the inputs' memrefs hold their blocks (`before0_W`); so the
    run applies; the invariant hands the body its scratch buffers at some contents (and the generator register) and takes them back at some contents (`PhiA_eq`); the core owes nothing throughout. -/
theorem sound_bodyV {last : ℕ} (hO : Ok m) (hT : Tables (te (tbl m)) (tv (tbl m)) (ti (tbl m)) last) (c : Dev nD) (t : Fin (cfgM m hO).N) :
    bodyPreV m hO c t ⊢ wp frame (wpE (defs₀ (F := F)) Variants.none c none) Set.univ (bodyAt0 (adm m hO) t) (fun _ => bodyPostV m hO c t) := by
  unfold bodyPreV bodyPostV bodyAt0
  simp only [before0_0V, before0_1V, before0_2V, before0_3V, before0_4V, before0_5V, before0_6V]
  rw [show (datsV m hO 0 c).Φ t.succ = (datsV m hO 0 c).Φ t.castSucc from rfl,
    show (datsV m hO 0 c).owesAt () t.succ = (datsV m hO 0 c).owesAt () t.castSucc from rfl,
    after0_0V, after0_1V, after0_2V, after0_3V, after0_4V, after0_5V, after0_6V]
  rw [show (datsV m hO 0 c).Φ t.castSucc = iprop(Pipeline.ΦA spec0 c ∗ Pipeline.ΦT pre0 (tbl m) c) from rfl, PhiT0_eq, PhiA0_eq]
  iintro ⟨⟨⟨⟨HS0, HS1, HS2⟩, Hg⟩, ⟨HT0, HT1, HT2⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
  have hb := body (F := F) c (grid0.coords t) tbM0_0 htbM0_0 tbM0_1 htbM0_1 tbM0_2 htbM0_2 (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) scM0_1 (Memref.isWhole_whole _) scM0_2 (Memref.isWhole_whole _) (iblk m hO c 0 t) (iblk m hO c 1 t) (iblk m hO c 2 t) (iblk m hO c 3 t) (iblk m hO c 4 t) (iblk m hO c 5 t) (iblk m hO c 6 t) ((datsV m hO 0 c).before 7 t d7) (tbl m 0) (tbl m 1) (tbl m 2) (small_of m hT t)
  iapply (hb Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  isplitl [HS2]; · iexact HS2
  isplitl [HT0]; · iexact HT0
  isplitl [HT1]; · iexact HT1
  isplitl [HT2]; · iexact HT2
  iintro ⟨H0, H1, H2, H3, H4, H5, H6, H7, HS0, HS1, HS2, HT0, HT1, HT2⟩
  isplitl [HS0 HS1 HS2 Hg HT0 HT1 HT2]
  · isplitl [HS0 HS1 HS2 Hg]
    · isplitl [HS0 HS1 HS2]
      · isplitl [HS0]
        · iexact HS0
        isplitl [HS1]
        · iexact HS1
        iexact HS2
      iexact Hg
    isplitl [HT0]; · iexact HT0
    isplitl [HT1]; · iexact HT1
    iexact HT2
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iapply (leaves7 m hO hT c t d7)
  iexact H7

/-- The body table's row at point `t`'s slots is the body as `bodyAt0` spells it. -/
theorem defs₀_rowV (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligationV {last : ℕ} (hO : Ok m) (hT : Tables (te (tbl m)) (tv (tbl m)) (ti (tbl m)) last) (c : Dev nD) : BodyObligation (datsV (F := F) m hO 0 c) (defs₀ (F := F)) Variants.none () Set.univ := fun t => by
  rw [bigSep_W0, bigSep_W0, defs₀_rowV m hO]
  exact triple_restated (sound_bodyV m hO hT c t) rfl .rfl fun _ => .rfl

/-! ## The run and the frame -/

set_option backward.isDefEq.respectTransparency.types false in
/-- Every run from zero counters ends with the arrays at what the write-backs make of them. -/
theorem run_mainV {last : ℕ} (hO : Ok m) (hT : Tables (te (tbl m)) (tv (tbl m)) (ti (tbl m)) last) :
    θ_run defs (onTc (τ := τ) (main (F := F))) (s₀ m ρ) (Pipeline.FramePost (Pipeline.pin pcfgs fun _ => adm m hO) (datsV m hO) 0
      (Pipeline.afterTail pcfgs (fun _ => adm m hO) (datsV m hO) 0 (V₀ m) hostPost)) :=
  Pipeline.θ_run_frameP_around (Q' := _) pcfgs (fun _ => adm m hO) (datsV m hO) (0 : Fin 1) launch0 defs₀ Variants.none m ρ main
    (hbody := fun c => (body_obligationV m hO hT c).loose) (hshare := fun c => (datsV m hO 0 c).share_full fun _ => rfl)
    (howed := fun _ _ => rfl) (V₀ := V₀ m) (opss := hostPost) (hsub := hostPost_sub) (hfresh := hostPost_fresh) (hkeep := hostPost_keep)
    (hmain := hmain m Variants.none) (hA := AV_eq m hO) (hpf := V_pre m) (hΦ := fun _ _ => rfl)
    (hQ' := fun _ h => h.1)

end Cert.KernelIdeal.Moe

end
-- ==== Proof.KI.Result.lean ====
module

public import proofs.«01_k».proof.Proof.Gen.KernelIdeal.Launch
public import proofs.«01_k».proof.Proof.Gen.KernelIdeal.Skeleton
public import proofs.«01_k».proof.Proof.KI.Setup
public import proofs.«01_k».proof.Proof.KI.Rows
public import proofs.«01_k».proof.Proof.KI.Exact
public import Idealize.ShloMosaic.Lib.Pipeline.Value
public import Idealize.ShloMosaic.Lib.Pipeline.ValueKit.Geometry
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

/-! The result array: every row block of a tile in use holds what the tile's last point left. -/

@[expose] public section

set_option maxRecDepth 16384

noncomputable section

namespace Cert.KernelIdeal.Moe

open Cert.Pre (Tables)
open Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

variable {m} {last : ℕ} (hO : Ok m) (hT : Tables (te (tbl m)) (tv (tbl m)) (ti (tbl m)) last) (c : Dev nD)

include hT in
/-- Past the last tile in use the block stays. -/
theorem accAt_last : ∀ k : ℕ, 8 * last + 7 + k < 576 → accAt m hO c (8 * last + 7 + k) = accAt m hO c (8 * last + 7)
  | 0, _ => rfl
  | k + 1, h => by
    rw [← accAt_last k (by omega)]
    exact (accAt_succ m hO c (8 * last + 7 + k) h).trans (stepAt_idle hT hO c _ (show ¬ (8 * last + 7 + k + 1) / 8 ≤ last by omega) _)

/-- The result array, block by block. -/
def outArr : Vec F S73728x2048 .f32 := fun y =>
  accAt m hO c (8 * ((y 0).val / 1024) + 7) (ValueIdx.ix2 (⟨(y 0).val % 1024, Nat.mod_lt _ (by omega)⟩ : Fin 1024) (⟨(y 1).val, (y 1).isLt⟩ : Fin 2048))

include hT in
theorem flushed7 (t : Fin (cfgM m hO).N) (hf : ((cfgM m hO).win 7).flush t = true) :
    (datsV m hO 0 c).flushed 7 t = (((cfgM m hO).win 7).blk t).view.read (Elt F) (outArr hO c) := by
  funext y
  have ht : t.val < 576 := t.isLt
  have hl := hT.last_lt
  have hy0 : (y (0 : Fin 2)).val < 1024 := (y (0 : Fin 2)).isLt
  have e0 : ((((cfgM m hO).win 7).rect t).emb y (0 : Fin 2) : ℕ) = min (t.val / 8) last * 1024 + (y (0 : Fin 2)).val := by
    rw [Pipeline.Window.rect_emb_val _ t y (0 : Fin 2), index7 hT hO t]; rfl
  have e1 : ((((cfgM m hO).win 7).rect t).emb y (1 : Fin 2) : ℕ) = (y (1 : Fin 2)).val := by
    rw [Pipeline.Window.rect_emb_val _ t y (1 : Fin 2), index7 hT hO t]; show 0 * 2048 + _ = _; omega
  have hacc : accAt m hO c t.val = accAt m hO c (8 * (min (t.val / 8) last) + 7) := by
    rcases (flush7 hT hO t).1 hf with h | ⟨h, h'⟩
    · by_cases h7 : last = 71
      · rw [show 8 * (min (t.val / 8) last) + 7 = t.val by omega]
      · rw [show min (t.val / 8) last = last by omega, ← accAt_last hO hT c (575 - (8 * last + 7)) (by omega)]
        exact congrArg _ (by omega)
    · rw [show 8 * (min (t.val / 8) last) + 7 = t.val by omega]
  show accAt m hO c t.val y = outArr hO c ((((cfgM m hO).win 7).rect t).emb y)
  rw [hacc]
  unfold outArr
  rw [show ((((cfgM m hO).win 7).rect t).emb y (0 : Fin 2) : ℕ) / 1024 = min (t.val / 8) last by rw [e0]; omega]
  refine congrArg _ (funext fun a => Fin.ext ?_)
  match a with
  | ⟨0, _⟩ => show (y (0 : Fin 2)).val = ((((cfgM m hO).win 7).rect t).emb y (0 : Fin 2) : ℕ) % 1024; rw [e0]; omega
  | ⟨1, _⟩ => exact e1.symm

include hT in
/-- Every element of a tile in use is what the tile's last point left. -/
theorem arrAt_apply (y : S73728x2048.Idx) (hy : (y 0).val / 1024 ≤ last) :
    (show Vec F S73728x2048 .f32 from (datsV m hO 0 c).arrAt 7 (cfgM m hO).N) y = outArr hO c y := by
  have hl := hT.last_lt
  have h0 : (y 0).val < 73728 := (y 0).isLt
  have h1 : (y 1).val < 2048 := (y 1).isLt
  -- the flushing point of the tile
  obtain ⟨t, hq, hfl⟩ : ∃ t : Fin (cfgM m hO).N, min (t.val / 8) last = (y 0).val / 1024 ∧ (t.val = 575 ∨ (t.val % 8 = 7 ∧ t.val / 8 < last)) := by
    by_cases h : (y 0).val / 1024 = last
    · exact ⟨⟨575, show 575 < 576 by omega⟩, show min (575 / 8) last = _ by omega, .inl rfl⟩
    · have hlt : 8 * ((y 0).val / 1024) + 7 < 576 := by omega
      exact ⟨⟨8 * ((y 0).val / 1024) + 7, hlt⟩, show min ((8 * ((y 0).val / 1024) + 7) / 8) last = _ by omega,
        .inr (show (8 * ((y 0).val / 1024) + 7) % 8 = 7 ∧ (8 * ((y 0).val / 1024) + 7) / 8 < last by omega)⟩
  refine Dat.arrAt_apply_of_mem (datsV m hO 0 c) 7 (outArr hO c) (flushed7 hO hT c) (cfgM m hO).N t y t.isLt ((flush7 hT hO t).2 hfl) ?_
  refine (Pipeline.Window.emb_mem_blk_iff ((cfgM m hO).win 7) t y).2 fun a => ?_
  rw [index7 hT hO t]
  match a with
  | ⟨0, _⟩ => show min (t.val / 8) last * 1024 ≤ (y 0).val ∧ (y 0).val < min (t.val / 8) last * 1024 + 1024; omega
  | ⟨1, _⟩ => show 0 * 2048 ≤ (y 1).val ∧ (y 1).val < 0 * 2048 + 2048; omega

end Cert.KernelIdeal.Moe

end
-- ==== Proof.KI.Blocks.lean ====
module

public import proofs.«01_k».proof.Proof.KI.Result

/-! The blocks the body reads, element by element, as elements of the arrays they are cut from. -/

@[expose] public section

set_option maxRecDepth 16384

noncomputable section

namespace Cert.KernelIdeal.Moe

open Cert.Pre (Tables)
open Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

variable {m} {last : ℕ} (hO : Ok m) (hT : Tables (te (tbl m)) (tv (tbl m)) (ti (tbl m)) last) (c : Dev nD)

/-- The expert of the tile of a grid point. -/
abbrev ex (m : (ℓ : Loc nD τ sig) → Buf (Elt F) ℓ) (t : Fin grid0.N) : ℕ := (te (tbl m) (tile (grid0.coords t))).toNat

include hT in
theorem ex_lt (t : Fin grid0.N) : ex m t < 32 := hT.expert _

include hT in
theorem jb_eq (t : Fin grid0.N) (h : t.val / 8 ≤ last) : jb (tbl m) (grid0.coords t) = t.val % 8 := by
  unfold jb; rw [if_pos ((inUse_iff hT t).2 h)]; exact coord1 t

include hT in
theorem index0 (t : Fin (cfgM m hO).N) : ((cfgM m hO).win 0).index t = ![min (t.val / 8) last, 0] := by
  show cc0_transform_0 k0_off1_inb numel1_S1 (tbl m) (grid0.coords t) = _
  rw [tr0, hT.index]; show ![min (grid0.coords t 0).val last, 0] = _; rw [coord0]
include hT in
theorem index1 (t : Fin (cfgM m hO).N) (h : t.val / 8 ≤ last) : ((cfgM m hO).win 1).index t = ![ex m t, 0, t.val % 8] := by
  show cc0_transform_1 k0_off1_inb numel1_S1 (tbl m) (grid0.coords t) = _
  rw [tr1, jb_eq hT t h]
include hT in
theorem index2 (t : Fin (cfgM m hO).N) (h : t.val / 8 ≤ last) : ((cfgM m hO).win 2).index t = ![ex m t, 0, t.val % 8] := by
  show cc0_transform_2 k0_off1_inb numel1_S1 (tbl m) (grid0.coords t) = _
  rw [tr2, jb_eq hT t h]
include hT in
theorem index3 (t : Fin (cfgM m hO).N) (h : t.val / 8 ≤ last) : ((cfgM m hO).win 3).index t = ![ex m t, t.val % 8, 0] := by
  show cc0_transform_3 k0_off1_inb numel1_S1 (tbl m) (grid0.coords t) = _
  rw [tr3, jb_eq hT t h]
include hT in
theorem index4 (t : Fin (cfgM m hO).N) (h : t.val / 8 ≤ last) : ((cfgM m hO).win 4).index t = ![ex m t, 0, t.val % 8] := by
  show cc0_transform_4 k0_off1_inb numel1_S1 (tbl m) (grid0.coords t) = _
  rw [tr4, jb_eq hT t h]
include hT in
theorem index5 (t : Fin (cfgM m hO).N) (h : t.val / 8 ≤ last) : ((cfgM m hO).win 5).index t = ![ex m t, 0, t.val % 8] := by
  show cc0_transform_5 k0_off1_inb numel1_S1 (tbl m) (grid0.coords t) = _
  rw [tr5, jb_eq hT t h]
theorem index6 (t : Fin (cfgM m hO).N) : ((cfgM m hO).win 6).index t = ![ex m t, 0, 0] := by
  show cc0_transform_6 k0_off1_inb numel1_S1 (tbl m) (grid0.coords t) = _
  rw [tr6]

include hT in
/-- The rows of the tile. -/
theorem iblk0_apply (t : Fin (cfgM m hO).N) (h : t.val / 8 ≤ last) (r : Fin 1024) (d : Fin 2048) (r' : Fin 73728) (hr : r'.val = t.val / 8 * 1024 + r.val) :
    (show Vec F S1024x2048 .bf16 from iblk m hO c 0 t) (ValueIdx.ix2 r d) = (show Vec F S73728x2048 .bf16 from V m c main_v84) (ValueIdx.ix2 r' d) := by
  show (show Vec F S73728x2048 .bf16 from V m c main_v84) ((((cfgM m hO).win 0).rect t).emb (ValueIdx.ix2 r d)) = _
  refine congrArg (show Vec F S73728x2048 .bf16 from V m c main_v84) (funext fun a => Fin.ext ?_)
  match a with
  | ⟨0, _⟩ =>
    refine (Pipeline.Window.rect_emb_val ((cfgM m hO).win 0) t (ValueIdx.ix2 r d) (0 : Fin 2)).trans ?_
    rw [index0 hO hT t]; show min (t.val / 8) last * 1024 + r.val = r'.val; omega
  | ⟨1, _⟩ =>
    refine (Pipeline.Window.rect_emb_val ((cfgM m hO).win 0) t (ValueIdx.ix2 r d) (1 : Fin 2)).trans ?_
    rw [index0 hO hT t]; show 0 * 2048 + d.val = d.val; omega

include hT in
/-- The expert's gate weights for the hidden block. -/
theorem iblk1_apply (t : Fin (cfgM m hO).N) (h : t.val / 8 ≤ last) (p : Fin 2048) (q : Fin 256) (e : Fin 32) (he : e.val = ex m t) (p' : Fin 2048) (q' : Fin 2048) (hp : p'.val = 0 + p.val) (hq : q'.val = 256 * (t.val % 8) + q.val) :
    (show Vec F S1x2048x256 .f32 from iblk m hO c 1 t) (ValueIdx.ix3 (0 : Fin 1) p q) = (show Vec F S32x2048x2048 .f32 from V m c main_arg5) (ValueIdx.ix3 e p' q') := by
  show (show Vec F S32x2048x2048 .f32 from V m c main_arg5) ((((cfgM m hO).win 1).rect t).emb (ValueIdx.ix3 (0 : Fin 1) p q)) = _
  refine congrArg (show Vec F S32x2048x2048 .f32 from V m c main_arg5) (funext fun a => Fin.ext ?_)
  match a with
  | ⟨0, _⟩ =>
    refine (Pipeline.Window.rect_emb_val ((cfgM m hO).win 1) t (ValueIdx.ix3 (0 : Fin 1) p q) (0 : Fin 3)).trans ?_
    rw [index1 hO hT t h]; show ex m t * 1 + 0 = e.val; omega
  | ⟨1, _⟩ =>
    refine (Pipeline.Window.rect_emb_val ((cfgM m hO).win 1) t (ValueIdx.ix3 (0 : Fin 1) p q) (1 : Fin 3)).trans ?_
    rw [index1 hO hT t h]; show 0 * 2048 + p.val = p'.val; omega
  | ⟨2, _⟩ =>
    refine (Pipeline.Window.rect_emb_val ((cfgM m hO).win 1) t (ValueIdx.ix3 (0 : Fin 1) p q) (2 : Fin 3)).trans ?_
    rw [index1 hO hT t h]; show t.val % 8 * 256 + q.val = q'.val; omega

include hT in
/-- The expert's up weights for the hidden block. -/
theorem iblk2_apply (t : Fin (cfgM m hO).N) (h : t.val / 8 ≤ last) (p : Fin 2048) (q : Fin 256) (e : Fin 32) (he : e.val = ex m t) (p' : Fin 2048) (q' : Fin 2048) (hp : p'.val = 0 + p.val) (hq : q'.val = 256 * (t.val % 8) + q.val) :
    (show Vec F S1x2048x256 .f32 from iblk m hO c 2 t) (ValueIdx.ix3 (0 : Fin 1) p q) = (show Vec F S32x2048x2048 .f32 from V m c main_arg7) (ValueIdx.ix3 e p' q') := by
  show (show Vec F S32x2048x2048 .f32 from V m c main_arg7) ((((cfgM m hO).win 2).rect t).emb (ValueIdx.ix3 (0 : Fin 1) p q)) = _
  refine congrArg (show Vec F S32x2048x2048 .f32 from V m c main_arg7) (funext fun a => Fin.ext ?_)
  match a with
  | ⟨0, _⟩ =>
    refine (Pipeline.Window.rect_emb_val ((cfgM m hO).win 2) t (ValueIdx.ix3 (0 : Fin 1) p q) (0 : Fin 3)).trans ?_
    rw [index2 hO hT t h]; show ex m t * 1 + 0 = e.val; omega
  | ⟨1, _⟩ =>
    refine (Pipeline.Window.rect_emb_val ((cfgM m hO).win 2) t (ValueIdx.ix3 (0 : Fin 1) p q) (1 : Fin 3)).trans ?_
    rw [index2 hO hT t h]; show 0 * 2048 + p.val = p'.val; omega
  | ⟨2, _⟩ =>
    refine (Pipeline.Window.rect_emb_val ((cfgM m hO).win 2) t (ValueIdx.ix3 (0 : Fin 1) p q) (2 : Fin 3)).trans ?_
    rw [index2 hO hT t h]; show t.val % 8 * 256 + q.val = q'.val; omega

include hT in
/-- The expert's down weights for the hidden block. -/
theorem iblk3_apply (t : Fin (cfgM m hO).N) (h : t.val / 8 ≤ last) (p : Fin 256) (q : Fin 2048) (e : Fin 32) (he : e.val = ex m t) (p' : Fin 2048) (q' : Fin 2048) (hp : p'.val = 256 * (t.val % 8) + p.val) (hq : q'.val = 0 + q.val) :
    (show Vec F S1x256x2048 .f32 from iblk m hO c 3 t) (ValueIdx.ix3 (0 : Fin 1) p q) = (show Vec F S32x2048x2048 .f32 from V m c main_arg9) (ValueIdx.ix3 e p' q') := by
  show (show Vec F S32x2048x2048 .f32 from V m c main_arg9) ((((cfgM m hO).win 3).rect t).emb (ValueIdx.ix3 (0 : Fin 1) p q)) = _
  refine congrArg (show Vec F S32x2048x2048 .f32 from V m c main_arg9) (funext fun a => Fin.ext ?_)
  match a with
  | ⟨0, _⟩ =>
    refine (Pipeline.Window.rect_emb_val ((cfgM m hO).win 3) t (ValueIdx.ix3 (0 : Fin 1) p q) (0 : Fin 3)).trans ?_
    rw [index3 hO hT t h]; show ex m t * 1 + 0 = e.val; omega
  | ⟨1, _⟩ =>
    refine (Pipeline.Window.rect_emb_val ((cfgM m hO).win 3) t (ValueIdx.ix3 (0 : Fin 1) p q) (1 : Fin 3)).trans ?_
    rw [index3 hO hT t h]; show t.val % 8 * 256 + p.val = p'.val; omega
  | ⟨2, _⟩ =>
    refine (Pipeline.Window.rect_emb_val ((cfgM m hO).win 3) t (ValueIdx.ix3 (0 : Fin 1) p q) (2 : Fin 3)).trans ?_
    rw [index3 hO hT t h]; show 0 * 2048 + q.val = q'.val; omega

include hT in
/-- The expert's gate biases for the hidden block. -/
theorem iblk4_apply (t : Fin (cfgM m hO).N) (h : t.val / 8 ≤ last) (p : Fin 1) (q : Fin 256) (e : Fin 32) (he : e.val = ex m t) (p' : Fin 1) (q' : Fin 2048) (hp : p'.val = 0 + p.val) (hq : q'.val = 256 * (t.val % 8) + q.val) :
    (show Vec F S1x1x256 .f32 from iblk m hO c 4 t) (ValueIdx.ix3 (0 : Fin 1) p q) = (show Vec F S32x1x2048 .f32 from V m c main_v85) (ValueIdx.ix3 e p' q') := by
  show (show Vec F S32x1x2048 .f32 from V m c main_v85) ((((cfgM m hO).win 4).rect t).emb (ValueIdx.ix3 (0 : Fin 1) p q)) = _
  refine congrArg (show Vec F S32x1x2048 .f32 from V m c main_v85) (funext fun a => Fin.ext ?_)
  match a with
  | ⟨0, _⟩ =>
    refine (Pipeline.Window.rect_emb_val ((cfgM m hO).win 4) t (ValueIdx.ix3 (0 : Fin 1) p q) (0 : Fin 3)).trans ?_
    rw [index4 hO hT t h]; show ex m t * 1 + 0 = e.val; omega
  | ⟨1, _⟩ =>
    refine (Pipeline.Window.rect_emb_val ((cfgM m hO).win 4) t (ValueIdx.ix3 (0 : Fin 1) p q) (1 : Fin 3)).trans ?_
    rw [index4 hO hT t h]; show 0 * 1 + p.val = p'.val; omega
  | ⟨2, _⟩ =>
    refine (Pipeline.Window.rect_emb_val ((cfgM m hO).win 4) t (ValueIdx.ix3 (0 : Fin 1) p q) (2 : Fin 3)).trans ?_
    rw [index4 hO hT t h]; show t.val % 8 * 256 + q.val = q'.val; omega

include hT in
/-- The expert's up biases for the hidden block. -/
theorem iblk5_apply (t : Fin (cfgM m hO).N) (h : t.val / 8 ≤ last) (p : Fin 1) (q : Fin 256) (e : Fin 32) (he : e.val = ex m t) (p' : Fin 1) (q' : Fin 2048) (hp : p'.val = 0 + p.val) (hq : q'.val = 256 * (t.val % 8) + q.val) :
    (show Vec F S1x1x256 .f32 from iblk m hO c 5 t) (ValueIdx.ix3 (0 : Fin 1) p q) = (show Vec F S32x1x2048 .f32 from V m c main_v86) (ValueIdx.ix3 e p' q') := by
  show (show Vec F S32x1x2048 .f32 from V m c main_v86) ((((cfgM m hO).win 5).rect t).emb (ValueIdx.ix3 (0 : Fin 1) p q)) = _
  refine congrArg (show Vec F S32x1x2048 .f32 from V m c main_v86) (funext fun a => Fin.ext ?_)
  match a with
  | ⟨0, _⟩ =>
    refine (Pipeline.Window.rect_emb_val ((cfgM m hO).win 5) t (ValueIdx.ix3 (0 : Fin 1) p q) (0 : Fin 3)).trans ?_
    rw [index5 hO hT t h]; show ex m t * 1 + 0 = e.val; omega
  | ⟨1, _⟩ =>
    refine (Pipeline.Window.rect_emb_val ((cfgM m hO).win 5) t (ValueIdx.ix3 (0 : Fin 1) p q) (1 : Fin 3)).trans ?_
    rw [index5 hO hT t h]; show 0 * 1 + p.val = p'.val; omega
  | ⟨2, _⟩ =>
    refine (Pipeline.Window.rect_emb_val ((cfgM m hO).win 5) t (ValueIdx.ix3 (0 : Fin 1) p q) (2 : Fin 3)).trans ?_
    rw [index5 hO hT t h]; show t.val % 8 * 256 + q.val = q'.val; omega

include hT in
/-- The expert's output biases. -/
theorem iblk6_apply (t : Fin (cfgM m hO).N) (h : t.val / 8 ≤ last) (p : Fin 1) (q : Fin 2048) (e : Fin 32) (he : e.val = ex m t) (p' : Fin 1) (q' : Fin 2048) (hp : p'.val = 0 + p.val) (hq : q'.val = 0 + q.val) :
    (show Vec F S1x1x2048 .f32 from iblk m hO c 6 t) (ValueIdx.ix3 (0 : Fin 1) p q) = (show Vec F S32x1x2048 .f32 from V m c main_v87) (ValueIdx.ix3 e p' q') := by
  show (show Vec F S32x1x2048 .f32 from V m c main_v87) ((((cfgM m hO).win 6).rect t).emb (ValueIdx.ix3 (0 : Fin 1) p q)) = _
  refine congrArg (show Vec F S32x1x2048 .f32 from V m c main_v87) (funext fun a => Fin.ext ?_)
  match a with
  | ⟨0, _⟩ =>
    refine (Pipeline.Window.rect_emb_val ((cfgM m hO).win 6) t (ValueIdx.ix3 (0 : Fin 1) p q) (0 : Fin 3)).trans ?_
    rw [index6 hO t]; show ex m t * 1 + 0 = e.val; omega
  | ⟨1, _⟩ =>
    refine (Pipeline.Window.rect_emb_val ((cfgM m hO).win 6) t (ValueIdx.ix3 (0 : Fin 1) p q) (1 : Fin 3)).trans ?_
    rw [index6 hO t]; show 0 * 1 + p.val = p'.val; omega
  | ⟨2, _⟩ =>
    refine (Pipeline.Window.rect_emb_val ((cfgM m hO).win 6) t (ValueIdx.ix3 (0 : Fin 1) p q) (2 : Fin 3)).trans ?_
    rw [index6 hO t]; show 0 * 2048 + q.val = q'.val; omega

end Cert.KernelIdeal.Moe

end
-- ==== Proof.Spec.lean ====
module

public import Idealize.ShloMosaic.PureOps.Ideal.Laws
public import Idealize.ShloMosaic.Lib.ValueIdxCore

/-! An expert's feed-forward network at one row, over the extended reals. -/

@[expose] public section

noncomputable section

namespace Cert.Spec

open Idealize.ShloMosaic
open scoped BigOperators

/-- The clamped gate times its own sigmoid, times the clamped up value plus one. -/
def act (a b : EReal) : EReal :=
  FloatOps.mulf (F := Ideal) (φ := .f32)
    (FloatOps.addf (FloatOps.minimumf (FloatOps.ofBits .f32 0x40E00000#32) (FloatOps.maximumf (FloatOps.ofBits .f32 0xC0E00000#32) b)) (FloatOps.ofBits .f32 0x3F800000#32))
    (FloatOps.mulf (FloatOps.minimumf a (FloatOps.ofBits .f32 0x40E00000#32))
      (FloatOps.logistic (FloatOps.mulf (FloatOps.ofBits .f32 0x3FD9DB23#32) (FloatOps.minimumf a (FloatOps.ofBits .f32 0x40E00000#32)))))

/-- Hidden unit `f` of a row `x`: its gate and up products with their biases, activated. -/
def hidden {n : ℕ} (x : Fin 2048 → EReal) (wg : Fin 2048 → Fin n → EReal) (bg : Fin n → EReal) (wu : Fin 2048 → Fin n → EReal) (bu : Fin n → EReal) (f : Fin n) : EReal :=
  act ((∑ d, x d * wg d f) + bg f) ((∑ d, x d * wu d f) + bu f)

/-- The row's output in one column. -/
def ffn (x : Fin 2048 → EReal) (wg : Fin 2048 → Fin 2048 → EReal) (bg : Fin 2048 → EReal) (wu : Fin 2048 → Fin 2048 → EReal) (bu : Fin 2048 → EReal)
    (wd : Fin 2048 → EReal) (bd : EReal) : EReal :=
  (∑ f, hidden x wg bg wu bu f * wd f) + bd

/-- Hidden unit `k` of block `j`. -/
def unitOf (j : Fin 8) (k : Fin 256) : Fin 2048 := ⟨256 * j.val + k.val, by omega⟩

/-- A sum over the hidden units, block by block. -/
theorem sum_blocks (h : Fin 2048 → EReal) : ∑ f, h f = ∑ j : Fin 8, ∑ k : Fin 256, h (unitOf j k) := by
  rw [← Fintype.sum_prod_type', ← Equiv.sum_comp (finProdFinEquiv (m := 8) (n := 256))]
  refine Finset.sum_congr rfl fun p _ => congrArg h (Fin.ext ?_)
  show p.2.val + 256 * p.1.val = 256 * p.1.val + p.2.val
  omega

end Cert.Spec

end
-- ==== Proof.KI.Pay.lean ====
module

public import proofs.«01_k».proof.Proof.KI.Rows
public import proofs.«01_k».proof.Proof.Spec
public import Idealize.ShloMosaic.Lib.MatmulPlain
public import Idealize.ShloMosaic.Lib.Pipeline.Value
public import Idealize.ShloMosaic.Lib.Pointwise.TacticCore

/-! The body's values over the extended reals. -/

@[expose] public section

noncomputable section

namespace Cert.KernelIdeal.Moe

open Cert.KernelIdeal.Gen Idealize.ShloMosaic Idealize.ShloMosaic.TcCoe Idealize.ShloMosaic.Pipeline
open Idealize.SL Idealize.SL.Sem
open scoped BigOperators

/-- A product onto zeros, read at an element. -/
theorem dot_hidden_apply (x : FVec Ideal S256x2048 .bf16) (w : FVec Ideal S2048x256 .bf16) (r k : Fin 256) :
    (matmul dot_S256x2048_S2048x256_S256x256_1_0_0_1_n_n none x w (constant S256x256 .f32 0x00000000#32) (ValueIdx.ix2 r k) : EReal)
      = ∑ d : Fin 2048, x (ValueIdx.ix2 r d) * w (ValueIdx.ix2 d k) := by
  refine (Ideal.matmul_plain_apply none x w _ r k).trans ?_
  rw [show (constant S256x256 .f32 0x00000000#32 : FVec Ideal S256x256 .f32) (ValueIdx.ix2 r k) = 0 from Ideal.ofBits_zero_f32, zero_add]

theorem dot_down_apply (h : FVec Ideal S256x256 .bf16) (w : FVec Ideal S256x2048 .bf16) (r : Fin 256) (c : Fin 2048) :
    (matmul dot_S256x256_S256x2048_S256x2048_1_0_0_1_n_n none h w (constant S256x2048 .f32 0x00000000#32) (ValueIdx.ix2 r c) : EReal)
      = ∑ k : Fin 256, h (ValueIdx.ix2 r k) * w (ValueIdx.ix2 k c) := by
  refine (Ideal.matmul_plain_apply none h w _ r c).trans ?_
  rw [show (constant S256x2048 .f32 0x00000000#32 : FVec Ideal S256x2048 .f32) (ValueIdx.ix2 r c) = 0 from Ideal.ofBits_zero_f32, zero_add]

/-- A bias row repeated over the rows. -/
theorem bias_hidden_apply (b : Vec Ideal S1x1x256 .f32) (r k : Fin 256) :
    broadcastTo S256x256 (shapeCast S1x256 b shapeCasts_S1x1x256_S1x256) broadcasts_S1x256_S256x256 (ValueIdx.ix2 r k) = b (ValueIdx.ix3 (0 : Fin 1) (0 : Fin 1) k) := by
  refine (broadcastTo_apply _ broadcasts_S1x256_S256x256 _ (ValueIdx.ix2 (0 : Fin 1) k) (fun a => ?_)).trans (shapeCast_apply b shapeCasts_S1x1x256_S1x256 _ _ ?_)
  · match a with
    | ⟨0, _⟩ => rfl
    | ⟨1, _⟩ => rfl
  · rw [Shape.rowMajor_val_three, Shape.rowMajor_val_two]; rfl

theorem bias_out_apply (b : Vec Ideal S1x1x2048 .f32) (r : Fin 256) (c : Fin 2048) :
    broadcastTo S256x2048 (shapeCast S1x2048 b shapeCasts_S1x1x2048_S1x2048) broadcasts_S1x2048_S256x2048 (ValueIdx.ix2 r c) = b (ValueIdx.ix3 (0 : Fin 1) (0 : Fin 1) c) := by
  refine (broadcastTo_apply _ broadcasts_S1x2048_S256x2048 _ (ValueIdx.ix2 (0 : Fin 1) c) (fun a => ?_)).trans (shapeCast_apply b shapeCasts_S1x1x2048_S1x2048 _ _ ?_)
  · match a with
    | ⟨0, _⟩ => rfl
    | ⟨1, _⟩ => rfl
  · rw [Shape.rowMajor_val_three, Shape.rowMajor_val_two]; rfl

/-- What a group of rows takes from a hidden block, element by element. -/
theorem pay7_apply (x : Vec Ideal S256x2048 .bf16) (wg wu : Vec Ideal S2048x256 .bf16) (bg bu : Vec Ideal S1x1x256 .f32) (wd : Vec Ideal S256x2048 .bf16) (r : Fin 256) (c : Fin 2048) :
    k0_pay7 x wg bg wu bu wd (ValueIdx.ix2 r c) = ∑ k : Fin 256, Spec.hidden (fun d => x (ValueIdx.ix2 r d)) (fun d f => wg (ValueIdx.ix2 d f)) (fun f => bg (ValueIdx.ix3 (0 : Fin 1) (0 : Fin 1) f)) (fun d f => wu (ValueIdx.ix2 d f)) (fun f => bu (ValueIdx.ix3 (0 : Fin 1) (0 : Fin 1) f)) k * wd (ValueIdx.ix2 k c) := by
  unfold k0_pay7
  simp only [shapeCast_self]
  refine (dot_down_apply _ wd r c).trans (Finset.sum_congr rfl fun k _ => congrArg (· * wd (ValueIdx.ix2 k c)) ?_)
  unfold Spec.hidden
  exact congrArg₂ Spec.act (congrArg₂ (fun p q : EReal => p + q) (dot_hidden_apply x wg r k) (bias_hidden_apply bg r k))
    (congrArg₂ (fun p q : EReal => p + q) (dot_hidden_apply x wu r k) (bias_hidden_apply bu r k))

theorem pay9_apply (w : Vec Ideal S1x2048x256 .f32) (d : Fin 2048) (k : Fin 256) : k0_pay9 w (ValueIdx.ix2 d k) = w (ValueIdx.ix3 (0 : Fin 1) d k) := by
  unfold k0_pay9
  refine (shapeCast_apply _ shapeCasts_S2048x256_S2048x256 _ (ValueIdx.ix2 d k) rfl).trans (shapeCast_apply w shapeCasts_S1x2048x256_S2048x256 _ _ ?_)
  rw [Shape.rowMajor_val_three, Shape.rowMajor_val_two]
  simp

theorem pay10_apply (w : Vec Ideal S1x2048x256 .f32) (d : Fin 2048) (k : Fin 256) : k0_pay10 w (ValueIdx.ix2 d k) = w (ValueIdx.ix3 (0 : Fin 1) d k) := pay9_apply w d k

theorem pay11_apply (w : Vec Ideal S1x256x2048 .f32) (k : Fin 256) (c : Fin 2048) : k0_pay11 w (ValueIdx.ix2 k c) = w (ValueIdx.ix3 (0 : Fin 1) k c) := by
  unfold k0_pay11
  refine (shapeCast_apply _ shapeCasts_S256x2048_S256x2048 _ (ValueIdx.ix2 k c) rfl).trans (shapeCast_apply w shapeCasts_S1x256x2048_S256x2048 _ _ ?_)
  rw [Shape.rowMajor_val_three, Shape.rowMajor_val_two]
  simp

theorem pay1_apply (y : Vec Ideal S256x2048 .f32) (b : Vec Ideal S1x1x2048 .f32) (r : Fin 256) (c : Fin 2048) :
    k0_pay1 y b (ValueIdx.ix2 r c) = y (ValueIdx.ix2 r c) + b (ValueIdx.ix3 (0 : Fin 1) (0 : Fin 1) c) := by
  rw [← bias_out_apply b r c]; rfl

theorem pay2_apply (y o : Vec Ideal S256x2048 .f32) (z : S256x2048.Idx) : k0_pay2 y o z = o z + y z := by
  unfold k0_pay2
  exact congrArg (· + y z) (shapeCast_apply o shapeCasts_S256x2048_S256x2048 z z rfl)

end Cert.KernelIdeal.Moe

end
-- ==== Proof.KI.Value.lean ====
module

public import proofs.«01_k».proof.Proof.KI.Blocks
public import proofs.«01_k».proof.Proof.KI.Pay

/-! The output block over the extended reals: after a tile's last hidden block every row in use holds its expert's
    feed-forward output. -/

@[expose] public section

set_option maxRecDepth 16384

noncomputable section

namespace Cert.KernelIdeal.Moe

open Cert.Pre (Tables)
open scoped BigOperators
open Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {m : (ℓ : Loc nD τ sig) → Buf (Elt Ideal) ℓ} {last : ℕ} (hO : Ok m) (hT : Tables (te (tbl m)) (tv (tbl m)) (ti (tbl m)) last) (c : Dev nD)

/-! ## The arrays as functions -/

variable (m) in
def rowX (r : Fin 73728) : Fin 2048 → EReal := fun d => (show Vec Ideal S73728x2048 .bf16 from V m c main_v84) (ValueIdx.ix2 r d)
variable (m) in
def matG (e : Fin 32) : Fin 2048 → Fin 2048 → EReal := fun d f => (show Vec Ideal S32x2048x2048 .f32 from V m c main_arg5) (ValueIdx.ix3 e d f)
variable (m) in
def matU (e : Fin 32) : Fin 2048 → Fin 2048 → EReal := fun d f => (show Vec Ideal S32x2048x2048 .f32 from V m c main_arg7) (ValueIdx.ix3 e d f)
variable (m) in
def matD (e : Fin 32) : Fin 2048 → Fin 2048 → EReal := fun f d => (show Vec Ideal S32x2048x2048 .f32 from V m c main_arg9) (ValueIdx.ix3 e f d)
variable (m) in
def vecG (e : Fin 32) : Fin 2048 → EReal := fun f => (show Vec Ideal S32x1x2048 .f32 from V m c main_v85) (ValueIdx.ix3 e (0 : Fin 1) f)
variable (m) in
def vecU (e : Fin 32) : Fin 2048 → EReal := fun f => (show Vec Ideal S32x1x2048 .f32 from V m c main_v86) (ValueIdx.ix3 e (0 : Fin 1) f)
variable (m) in
def vecD (e : Fin 32) : Fin 2048 → EReal := fun d => (show Vec Ideal S32x1x2048 .f32 from V m c main_v87) (ValueIdx.ix3 e (0 : Fin 1) d)

variable (m) in
/-- What hidden block `j` adds to row `r`, column `d`. -/
def blockTerm (r : Fin 73728) (e : Fin 32) (d : Fin 2048) (j : Fin 8) : EReal :=
  ∑ k : Fin 256, Spec.hidden (rowX m c r) (matG m c e) (vecG m c e) (matU m c e) (vecU m c e) (Spec.unitOf j k) * matD m c e (Spec.unitOf j k) d

include hT in
/-- The group's output at a row is the hidden block's term. -/
theorem hid_apply (t : Fin (cfgM m hO).N) (h : t.val / 8 ≤ last) (y : Fin 1024) (d : Fin 2048) (r : Fin 73728) (hr : r.val = t.val / 8 * 1024 + y.val)
    (e : Fin 32) (he : e.val = ex m t) :
    hid (iblk m hO c 0 t) (iblk m hO c 4 t) (iblk m hO c 5 t) (k0_pay9 (iblk m hO c 1 t)) (k0_pay10 (iblk m hO c 2 t)) (k0_pay11 (iblk m hO c 3 t)) (y.val / 256)
        (ValueIdx.ix2 (⟨y.val % 256, Nat.mod_lt _ (by omega)⟩ : Fin 256) d)
      = blockTerm m c r e d ⟨t.val % 8, Nat.mod_lt _ (by omega)⟩ := by
  unfold hid blockTerm
  refine (pay7_apply _ _ _ _ _ _ _ d).trans (Finset.sum_congr rfl fun k _ => ?_)
  refine congrArg₂ (fun p q : EReal => p * q) ?_ ?_
  · unfold Spec.hidden
    have hx : ∀ d' : Fin 2048, rowsAt (show Vec Ideal S1024x2048 .bf16 from iblk m hO c 0 t) (y.val / 256) (ValueIdx.ix2 (⟨y.val % 256, Nat.mod_lt _ (by omega)⟩ : Fin 256) d') = rowX m c r d' := fun d' => by
      refine Eq.trans ?_ (iblk0_apply hO hT c t h y d' r hr)
      refine congrArg (show Vec Ideal S1024x2048 .bf16 from iblk m hO c 0 t) (funext fun a => Fin.ext ?_)
      match a with
      | ⟨0, _⟩ => show (256 * (y.val / 256) + y.val % 256) % 1024 = y.val; have := y.isLt; omega
      | ⟨1, _⟩ => rfl
    refine congrArg₂ Spec.act (congrArg₂ (fun p q : EReal => p + q) (Finset.sum_congr rfl fun d' _ => congrArg₂ (fun p q : EReal => p * q) (hx d') ?_) ?_)
      (congrArg₂ (fun p q : EReal => p + q) (Finset.sum_congr rfl fun d' _ => congrArg₂ (fun p q : EReal => p * q) (hx d') ?_) ?_)
    · exact (pay9_apply _ d' k).trans (iblk1_apply hO hT c t h d' k e he d' (Spec.unitOf _ k) (Nat.zero_add _).symm rfl)
    · exact iblk4_apply hO hT c t h (0 : Fin 1) k e he (0 : Fin 1) (Spec.unitOf _ k) rfl rfl
    · exact (pay10_apply _ d' k).trans (iblk2_apply hO hT c t h d' k e he d' (Spec.unitOf _ k) (Nat.zero_add _).symm rfl)
    · exact iblk5_apply hO hT c t h (0 : Fin 1) k e he (0 : Fin 1) (Spec.unitOf _ k) rfl rfl
  · exact (pay11_apply _ k d).trans (iblk3_apply hO hT c t h k d e he (Spec.unitOf _ k) d rfl (Nat.zero_add _).symm)

include hT in
/-- One grid point at a row in use. -/
theorem stepAt_apply (t : Fin (cfgM m hO).N) (h : t.val / 8 ≤ last) (o : Vec Ideal S1024x2048 .f32) (y : Fin 1024) (d : Fin 2048) (r : Fin 73728) (hr : r.val = t.val / 8 * 1024 + y.val)
    (e : Fin 32) (he : e.val = ex m t) (hy : (y.val : ℤ) < (wd m t).toInt) :
    stepAt m hO c t o (ValueIdx.ix2 y d)
      = if t.val % 8 = 0 then blockTerm m c r e d ⟨t.val % 8, Nat.mod_lt _ (by omega)⟩ + vecD m c e d
        else o (ValueIdx.ix2 y d) + blockTerm m c r e d ⟨t.val % 8, Nat.mod_lt _ (by omega)⟩ := by
  have hp := (inUse_iff hT t).2 h
  have hle : (wd m t).toInt ≤ 1024 := hT.le _
  have hg : grp (ValueIdx.ix2 y d) < nSub (wd m t) := by
    have hn := BitVec.toInt_eq_toNat_cond (wd m t)
    show y.val / 256 < ((wd m t).toNat + 255) / 256
    split at hn <;> omega
  refine (bodyOut_apply (grid0.coords t) (wd m t) _ _ _ _ _ _ _ hp hle o _ hg).trans ?_
  unfold newRow
  rw [coord1 t]
  by_cases h0 : t.val % 8 = 0
  · rw [if_pos h0, if_pos h0]
    refine (pay1_apply _ _ (⟨y.val % 256, Nat.mod_lt _ (by omega)⟩ : Fin 256) d).trans ?_
    exact congrArg₂ (fun p q : EReal => p + q) (hid_apply hO hT c t h y d r hr e he) (iblk6_apply hO hT c t h (0 : Fin 1) d e he (0 : Fin 1) d rfl (Nat.zero_add _).symm)
  · rw [if_neg h0, if_neg h0]
    refine (pay2_apply _ _ _).trans ?_
    exact congrArg₂ (fun p q : EReal => p + q) (rowsAt_lo o (ValueIdx.ix2 y d)) (hid_apply hO hT c t h y d r hr e he)

include hT in
/-- The block after hidden block `j` of tile `q`: the bias and the first `j + 1` terms. -/
theorem accAt_apply (q : Fin 72) (hq : q.val ≤ last) (y : Fin 1024) (d : Fin 2048) (r : Fin 73728) (hr : r.val = q.val * 1024 + y.val)
    (e : Fin 32) (he : e.val = (te (tbl m) q).toNat) (hy : (y.val : ℤ) < (tv (tbl m) q).toInt) :
    ∀ j : ℕ, j < 8 → accAt m hO c (8 * q.val + j) (ValueIdx.ix2 y d)
      = (∑ i ∈ Finset.range (j + 1), if h : i < 8 then blockTerm m c r e d ⟨i, h⟩ else 0) + vecD m c e d := by
  have hl := hT.last_lt
  have pt : ∀ j : ℕ, (hj : j < 8) → ∃ t : Fin (cfgM m hO).N, t.val = 8 * q.val + j ∧ tile (grid0.coords t) = q := fun j hj => by
    have hlt : 8 * q.val + j < 576 := by omega
    refine ⟨⟨8 * q.val + j, hlt⟩, rfl, Fin.ext ?_⟩
    refine (coord0 _).trans ?_
    show (8 * q.val + j) / 8 = q.val
    omega
  have tl : ∀ s t : Fin (cfgM m hO).N, s.val = t.val → tile (grid0.coords t) = q → tile (grid0.coords s) = q := fun s t h h' =>
    (congrArg (fun s => tile (grid0.coords s)) (Fin.ext h)).trans h'
  have one : ∀ (j : ℕ) (hj : j < 8) (t : Fin (cfgM m hO).N), t.val = 8 * q.val + j → tile (grid0.coords t) = q → ∀ o : Vec Ideal S1024x2048 .f32, stepAt m hO c t o (ValueIdx.ix2 y d)
      = if j = 0 then blockTerm m c r e d ⟨j, hj⟩ + vecD m c e d else o (ValueIdx.ix2 y d) + blockTerm m c r e d ⟨j, hj⟩ := fun j hj t ht htile o => by
    have h8 : t.val % 8 = j := by omega
    have hd : t.val / 8 = q.val := by omega
    refine (stepAt_apply hO hT c t (by omega) o y d r (by rw [hd]; exact hr) e (by unfold ex; rw [htile]; exact he) (by unfold wd; rw [htile]; exact hy)).trans ?_
    subst h8
    rfl
  intro j
  induction j with
  | zero =>
    intro hj
    obtain ⟨t, ht, htile⟩ := pt 0 hj
    have hacc : accAt m hO c (8 * q.val + 0) (ValueIdx.ix2 y d) = blockTerm m c r e d ⟨0, hj⟩ + vecD m c e d := by
      rcases Nat.eq_zero_or_pos (8 * q.val + 0) with hz | hz
      · rw [hz]
        exact (one 0 hj ⟨0, show 0 < 576 by omega⟩ hz.symm (tl _ t (hz.symm.trans ht.symm) htile) _).trans (if_pos rfl)
      · obtain ⟨n, hn⟩ := Nat.exists_eq_succ_of_ne_zero (Nat.pos_iff_ne_zero.1 hz)
        have hlt : n + 1 < grid0.N := by rw [← Nat.succ_eq_add_one, ← hn, ← ht]; exact t.isLt
        rw [hn]
        refine (congrFun (accAt_succ m hO c n hlt) _).trans ?_
        exact (one 0 hj ⟨n + 1, hlt⟩ hn.symm (tl _ t (hn.symm.trans ht.symm) htile) _).trans (if_pos rfl)
    rw [hacc, Finset.sum_range_one, dif_pos hj]
  | succ j ih =>
    intro hj
    obtain ⟨t, ht, htile⟩ := pt (j + 1) hj
    have hlt : 8 * q.val + j + 1 < grid0.N := by rw [Nat.add_assoc, ← ht]; exact t.isLt
    refine (congrFun (accAt_succ m hO c (8 * q.val + j) hlt) _).trans ?_
    refine (one (j + 1) hj ⟨8 * q.val + j + 1, hlt⟩ rfl (tl _ t ht.symm htile) _).trans ?_
    rw [if_neg (Nat.succ_ne_zero j), ih (by omega), Finset.sum_range_succ _ (j + 1), dif_pos hj]
    exact add_right_comm _ _ _

include hT in
/-- The result array at a row in use. -/
theorem outArr_apply (r : Fin 73728) (d : Fin 2048) (q : Fin 72) (hq : q.val = r.val / 1024) (hl : q.val ≤ last) (hy : ((r.val % 1024 : ℕ) : ℤ) < (tv (tbl m) q).toInt)
    (e : Fin 32) (he : e.val = (te (tbl m) q).toNat) :
    outArr hO c (ValueIdx.ix2 r d)
      = Spec.ffn (rowX m c r) (matG m c e) (vecG m c e) (matU m c e) (vecU m c e) (fun f => matD m c e f d) (vecD m c e d) := by
  have h := accAt_apply hO hT c q hl (⟨r.val % 1024, Nat.mod_lt _ (by omega)⟩ : Fin 1024) d r (by show r.val = q.val * 1024 + r.val % 1024; omega) e he hy 7 (by omega)
  refine Eq.trans ?_ (h.trans ?_)
  · show accAt m hO c (8 * (r.val / 1024) + 7) _ = accAt m hO c (8 * q.val + 7) _
    rw [hq]
  · unfold Spec.ffn
    refine congrArg (fun s : EReal => s + vecD m c e d) ?_
    rw [Spec.sum_blocks, ← Fin.sum_univ_eq_sum_range (fun i => if h : i < 8 then blockTerm m c r e d ⟨i, h⟩ else 0) 8]
    exact Finset.sum_congr rfl fun j _ => dif_pos j.isLt

end Cert.KernelIdeal.Moe

end
-- ==== Proof.KI.Frame.lean ====
module

public import proofs.«01_k».proof.Proof.Gen.KernelIdeal.Launch
public import proofs.«01_k».proof.Proof.Gen.KernelIdeal.Skeleton
public import proofs.«01_k».proof.Proof.KI.Setup
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

/-! The frame: the program runs under the tables' side conditions and leaves its arguments unchanged. -/

@[expose] public section

set_option maxRecDepth 16384

noncomputable section

namespace Cert.KernelIdeal.Moe

open Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Every tile's row count is at most the tile's 1024 rows. -/
def Small : Prop := ∀ t : Fin grid0.N, (wordAt (tbM0_1.view.read (Elt F) (tbl m 1)) (grid0.coords t)).toInt ≤ 1024

/-! ## The pipeline's proof data -/

/-- The output windows this certificate FORGETS (7): nothing reads what the kernel leaves in them, so nothing
    of it is named (Lib/Pipeline/Dat.lean `Dat.toRForget`). -/
def forgets0 : Fin 8 → Bool := fun w => w.val == 7

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, h⟩ => Pipeline.Dat.unnamed (cfg := (cfgM m hO)) ⟨7, h⟩ t
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare d))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ (∃ d, owns (c : Thread nD τ) (ms0_7 m hO t) fullShare d))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (hO : Ok m) (hW : Small m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5, after0_6]
  rw [show (dats m hO 0 c).Φ t.castSucc = iprop(Pipeline.ΦA spec0 c ∗ Pipeline.ΦT pre0 (tbl m) c) from rfl, PhiT0_eq, PhiA0_eq]
  iintro ⟨⟨⟨⟨HS0, HS1, HS2⟩, Hg⟩, ⟨HT0, HT1, HT2⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
  have hb := body (F := F) c (grid0.coords t) tbM0_0 htbM0_0 tbM0_1 htbM0_1 tbM0_2 htbM0_2 (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) scM0_1 (Memref.isWhole_whole _) scM0_2 (Memref.isWhole_whole _) (iblk m hO c 0 t) (iblk m hO c 1 t) (iblk m hO c 2 t) (iblk m hO c 3 t) (iblk m hO c 4 t) (iblk m hO c 5 t) (iblk m hO c 6 t) d7 (tbl m 0) (tbl m 1) (tbl m 2) (hW t)
  iapply (hb Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  isplitl [HS2]; · iexact HS2
  isplitl [HT0]; · iexact HT0
  isplitl [HT1]; · iexact HT1
  isplitl [HT2]; · iexact HT2
  iintro ⟨H0, H1, H2, H3, H4, H5, H6, H7, HS0, HS1, HS2, HT0, HT1, HT2⟩
  isplitl [HS0 HS1 HS2 Hg HT0 HT1 HT2]
  · isplitl [HS0 HS1 HS2 Hg]
    · isplitl [HS0 HS1 HS2]
      · isplitl [HS0]
        · iexact HS0
        isplitl [HS1]
        · iexact HS1
        iexact HS2
      iexact Hg
    isplitl [HT0]; · iexact HT0
    isplitl [HT1]; · iexact HT1
    iexact HT2
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexists _; iexact H7

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (hW : Small m) (c : Dev nD) : BodyObligation (dats (F := F) m hO 0 c) (defs₀ (F := F)) Variants.none () Set.univ forgets0 := fun t => by
  rw [bigSep_W0, bigSep_W0, defs₀_row m hO]
  exact triple_restated (sound_body m hO hW c t) rfl .rfl fun _ => .rfl

/-! ## The run and the frame -/

-- the launch theorem's implicit arguments are found by unifying its conclusion with this one, which takes unfolding plain
-- definitions in a metavariable's type
set_option backward.isDefEq.respectTransparency.types false in
/-- THE LAUNCH: every weakly fair execution of @main terminates with every buffer the lines after the region do not write
    as the region found it, the output array left out, and every semaphore counter at zero. -/
theorem run_main_quiescent (hO : Ok m) (hW : Small m) : θ_run defs (onTc (τ := τ) (main (F := F))) (s₀ m ρ) (fun r => (Pipeline.RDat.FramePostR ((Pipeline.pin pcfgs fun _ => adm m hO) 0) (fun c => (dats m hO 0 c).toRForget forgets0) tailW (V m)) r ∧ r.2.sem = fun _ => 0) :=
  Pipeline.θ_run_frameP_around_T_forget (Q' := _) pcfgs (fun _ => adm m hO) (dats m hO) (0 : Fin 1) launch0 defs₀ Variants.none forgets0 tailW m ρ main
    (hbody := fun c => (body_obligation m hO hW c).loose) (hshare := fun c => (dats m hO 0 c).share_full fun _ => rfl)
    (howed := fun _ _ => rfl) (V₀ := V₀ m) (opss := hostPost) (hsub := hostPost_sub) (hfresh := hostPost_fresh) (hkeep := hostPost_keep)
    (hT := hostPost_writes) (hmain := hmain m Variants.none) (hA := A_eq m hO) (hpf := V_pre m) (hΦ := fun _ _ => rfl)

/-- THE FRAME: the argument arrays end unchanged and the counters at zero, under the two facts of the tables. -/
theorem frame (hO : Ok m) (hW : Small m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (frame_of m ρ hO (fun c => (dats m hO 0 c).toRForget forgets0) (A_eq m hO)
    ((θ_run defs _ _).mono (fun _ h => h.1) (run_main_quiescent m ρ hO hW)))
    ((θ_run defs _ _).mono (fun _ h => h.2) (run_main_quiescent m ρ hO hW))

end Cert.KernelIdeal.Moe

end
-- ==== Proof.KI.Reads.lean ====
module

public import proofs.«01_k».proof.Proof.KI.Setup
public import proofs.«01_k».proof.Proof.Line

/-! The host lines before the region, result by result: each is its operation applied to the earlier results. -/

@[expose] public section

set_option maxRecDepth 16384

noncomputable section

namespace Cert.KernelIdeal.Moe

open Cert.KernelIdeal.Gen Idealize.ShloMosaic Idealize.ShloMosaic.TcCoe

variable {F : FTy → Type} [FloatOps F]
variable (m : (ℓ : Loc nD τ sig) → Buf (Elt F) ℓ) (c : Dev nD)

/-- The contents of a buffer of a shape and a type. -/
abbrev Ct (F : FTy → Type) (S : Shape) (e : EltTy) : Type := (⟨S, e⟩ : BufTy).Contents (Elt F)

/-- A function of two of them. -/
abbrev Ct2 (F : FTy → Type) (S : Shape) (e : EltTy) : Type := Ct F S e → Ct F S e → Ct F S e

/-- What the lines before the region write, in order. -/
abbrev preW : List (Ref sig .tc) := [main_v0, main_v1, main_c, main_v2, main_v3, main_c_0, main_v4, main_v5, main_c_1, main_call0_v0, main_call0_v1, main_call0_v2, main_call0_v3, main_call0_v4, main_call0_v5, main_call0_v6, main_call0_v7, main_call0_v8, main_call0_c, main_call0_v9, main_call0_v10, main_call0_v11, main_call0_c_0, main_call0_v12, main_call0_v13, main_v6, main_c_2, main_v7, main_v8, main_call1_call0_c, main_call1_call0_v0, main_v9, main_v10, main_v11, main_c_3, main_v12, main_v13, main_v14, main_v15, main_c_4, main_call2_v0, main_call2_v1, main_call2_v2, main_call2_v3, main_call2_v4, main_call2_v5, main_call2_c, main_call2_v6, main_call2_v7, main_call2_c_0, main_call2_v8, main_v16, main_v17, main_v18, main_v19, main_v20, main_v21, main_v22, main_c_5, main_v23, main_c_6, main_v24, main_v25, main_c_7, main_v26, main_v27, main_c_8, main_v28, main_v29, main_v30, main_v31, main_v32, main_c_9, main_v33, main_v34, main_c_10, main_v35, main_v36, main_v37, main_v38, main_v39, main_v40, main_v41, main_c_11, main_c_12, main_call3_v0, main_call3_v1, main_call3_v2, main_call3_v3, main_call3_v4, main_v42, main_v43, main_v44, main_v45, main_v46, main_c_13, main_call4_v0, main_call4_v1, main_v47, main_c_14, main_v48, main_c_15, main_v49, main_v50, main_v51, main_v52, main_v53, main_v54, main_v55, main_v56, main_c_16, main_v57, main_c_17, main_v58, main_v59, main_v60, main_v61, main_call5_v0, main_v62, main_c_18, main_v63, main_v64, main_c_19, main_v65, main_v66, main_v67, main_v68, main_v69, main_v70, main_v71, main_v72, main_v73, main_c_20, main_v74, main_v75, main_v76, main_c_21, main_v77, main_v78, main_c_22, main_v79, main_v80, main_v81, main_v82, main_v83, main_call6_c, main_call6_v0, main_call6_v1, main_call6_c_0, main_call6_v2, main_call6_v3, main_call6_v4, main_call6_v5, main_call6_c_1, main_call6_c_2, main_call6_v6, main_call6_v7, main_call6_v8, main_call6_v9, main_call6_v10, main_call6_v11, main_call6_c_3, main_call6_v12, main_call6_v13, main_call6_v14, main_call6_cst, main_call6_v15, main_v84, main_v85, main_v86, main_v87]

theorem preWrites : Line.Writes (hostPre (F := F)).flatten preW := rfl

theorem line_nullary (i : ℕ) {y : Ref sig .tc} {v : y.ty.Contents (Elt F)} {hy} (hop : (hostPre (F := F)).flatten[i]? = some (StableHlo.nullary y v hy)) (h : y ∉ preW.drop (i + 1) := by decide) :
    V m c y = v := by
  rw [V_def]; exact Line.nullary preWrites i _ hop h

theorem line_unary (i : ℕ) {x y : Ref sig .tc} {f : x.ty.Contents (Elt F) → y.ty.Contents (Elt F)} {hx hy} (hop : (hostPre (F := F)).flatten[i]? = some (StableHlo.unary x y f hx hy))
    (h : y ∉ preW.drop (i + 1) := by decide) (h1 : x ∉ preW.drop i := by decide) : V m c y = f (V m c x) := by
  rw [V_def, V_def]; exact Line.unary preWrites i _ hop h h1

theorem line_reshape (i : ℕ) {x y : Ref sig .tc} {he hn hx hy} (hop : (hostPre (F := F)).flatten[i]? = some (StableHlo.reshape x y he hn hx hy))
    (h : y ∉ preW.drop (i + 1) := by decide) (h1 : x ∉ preW.drop i := by decide) : V m c y = fun i => he ▸ shapeCast y.ty.shape (V m c x) hn i := by
  rw [V_def, V_def]; exact Line.reshape preWrites i _ hop h h1

theorem line_binary (i : ℕ) {a b y : Ref sig .tc} {f : a.ty.Contents (Elt F) → b.ty.Contents (Elt F) → y.ty.Contents (Elt F)} {ha hb hy} (hop : (hostPre (F := F)).flatten[i]? = some (StableHlo.binary a b y f ha hb hy))
    (h : y ∉ preW.drop (i + 1) := by decide) (h1 : a ∉ preW.drop i := by decide) (h2 : b ∉ preW.drop i := by decide) : V m c y = f (V m c a) (V m c b) := by
  rw [V_def, V_def, V_def]; exact Line.binary preWrites i _ hop h h1 h2

theorem line_ternary (i : ℕ) {p a b y : Ref sig .tc} {f : p.ty.Contents (Elt F) → a.ty.Contents (Elt F) → b.ty.Contents (Elt F) → y.ty.Contents (Elt F)} {hp ha hb hy}
    (hop : (hostPre (F := F)).flatten[i]? = some (StableHlo.ternary p a b y f hp ha hb hy)) (h : y ∉ preW.drop (i + 1) := by decide) (h0 : p ∉ preW.drop i := by decide) (h1 : a ∉ preW.drop i := by decide) (h2 : b ∉ preW.drop i := by decide) :
    V m c y = f (V m c p) (V m c a) (V m c b) := by
  rw [V_def, V_def, V_def, V_def]; exact Line.ternary preWrites i _ hop h h0 h1 h2

theorem line_unaryIndexed (i : ℕ) {a : Ref sig .tc} {n : ℕ} {ix : Fin n → Ref sig .tc} {T : BufTy} {y : Ref sig .tc}
    {f : a.ty.Contents (Elt F) → (Fin n → T.Contents (Elt F)) → y.ty.Contents (Elt F)} {hT ha hix hy}
    (hop : (hostPre (F := F)).flatten[i]? = some (StableHlo.unaryIndexed a ix T y f hT ha hix hy)) (h : y ∉ preW.drop (i + 1) := by decide) (h1 : a ∉ preW.drop i := by decide) (h2 : ∀ k, ix k ∉ preW.drop i := by decide) :
    V m c y = f (V m c a) (fun k => cast (congrArg (fun U : BufTy => U.Contents (Elt F)) (hT k)) (V m c (ix k))) := by
  rw [V_def m c y, V_def m c a, show (fun k => cast (congrArg (fun U : BufTy => U.Contents (Elt F)) (hT k)) (V m c (ix k))) = fun k => cast (congrArg (fun U : BufTy => U.Contents (Elt F)) (hT k)) (StableHlo.after hostPre.flatten (fun b => m (c, b)) (Proc.devRef .tc (ix k))) from funext fun k => congrArg _ (V_def m c (ix k))]
  exact Line.unaryIndexed preWrites i _ hop h h1 h2

theorem rd_v0 : V m c main_v0 = shapeCast S32 (show Vec F S1x32 .f32 from V m c main_arg4) shapeCasts_S1x32_S32 :=
  line_reshape m c 0 rfl
theorem rd_v1 : V m c main_v1 = (fptosi 32 : Ct F S32 .f32 → Ct F S32 .i32) (V m c main_v0) :=
  line_unary m c 1 rfl
theorem rd_c : V m c main_c = (constantI S_ 32 1024#32) :=
  line_nullary m c 2 rfl
theorem rd_v2 : V m c main_v2 = (broadcastInDim S32 ![] bcast_S_S32 : Ct F S_ .i32 → Ct F S32 .i32) (V m c main_c) :=
  line_unary m c 3 rfl
theorem rd_v3 : V m c main_v3 = (addi : Ct2 F S32 .i32) (V m c main_v1) (V m c main_v2) :=
  line_binary m c 4 rfl
theorem rd_c_0 : V m c main_c_0 = (constantI S_ 32 1#32) :=
  line_nullary m c 5 rfl
theorem rd_v4 : V m c main_v4 = (broadcastInDim S32 ![] bcast_S_S32 : Ct F S_ .i32 → Ct F S32 .i32) (V m c main_c_0) :=
  line_unary m c 6 rfl
theorem rd_v5 : V m c main_v5 = (subi : Ct2 F S32 .i32) (V m c main_v3) (V m c main_v4) :=
  line_binary m c 7 rfl
theorem rd_c_1 : V m c main_c_1 = (constantI S_ 32 1024#32) :=
  line_nullary m c 8 rfl
theorem rd_call0_v0 : V m c main_call0_v0 = (id : Ct F S_ .i32 → Ct F S_ .i32) (V m c main_c_1) :=
  line_unary m c 9 rfl
theorem rd_call0_v1 : V m c main_call0_v1 = ((broadcastInDim S32 ![] bcast_S_S32) : Ct F S_ .i32 → Ct F S32 .i32) (V m c main_call0_v0) :=
  line_unary m c 10 rfl
theorem rd_call0_v2 : V m c main_call0_v2 = (Host.divsi : Ct2 F S32 .i32) (V m c main_v5) (V m c main_call0_v1) :=
  line_binary m c 11 rfl
theorem rd_call0_v3 : V m c main_call0_v3 = (signi : Ct F S32 .i32 → Ct F S32 .i32) (V m c main_v5) :=
  line_unary m c 12 rfl
theorem rd_call0_v4 : V m c main_call0_v4 = (signi : Ct F S_ .i32 → Ct F S_ .i32) (V m c main_call0_v0) :=
  line_unary m c 13 rfl
theorem rd_call0_v5 : V m c main_call0_v5 = ((broadcastInDim S32 ![] bcast_S_S32) : Ct F S_ .i32 → Ct F S32 .i32) (V m c main_call0_v4) :=
  line_unary m c 14 rfl
theorem rd_call0_v6 : V m c main_call0_v6 = ((cmpi .ne) : Ct F S32 .i32 → Ct F S32 .i32 → Ct F S32 .i1) (V m c main_call0_v3) (V m c main_call0_v5) :=
  line_binary m c 15 rfl
theorem rd_call0_v7 : V m c main_call0_v7 = ((broadcastInDim S32 ![] bcast_S_S32) : Ct F S_ .i32 → Ct F S32 .i32) (V m c main_call0_v0) :=
  line_unary m c 16 rfl
theorem rd_call0_v8 : V m c main_call0_v8 = (Host.remsi : Ct2 F S32 .i32) (V m c main_v5) (V m c main_call0_v7) :=
  line_binary m c 17 rfl
theorem rd_call0_c : V m c main_call0_c = ((constantI S_ 32 0#32) : Ct F S_ .i32) :=
  line_nullary m c 18 rfl
theorem rd_call0_v9 : V m c main_call0_v9 = ((broadcastInDim S32 ![] bcast_S_S32) : Ct F S_ .i32 → Ct F S32 .i32) (V m c main_call0_c) :=
  line_unary m c 19 rfl
theorem rd_call0_v10 : V m c main_call0_v10 = ((cmpi .ne) : Ct F S32 .i32 → Ct F S32 .i32 → Ct F S32 .i1) (V m c main_call0_v8) (V m c main_call0_v9) :=
  line_binary m c 20 rfl
theorem rd_call0_v11 : V m c main_call0_v11 = (andi : Ct2 F S32 .i1) (V m c main_call0_v6) (V m c main_call0_v10) :=
  line_binary m c 21 rfl
theorem rd_call0_c_0 : V m c main_call0_c_0 = ((constantI S_ 32 1#32) : Ct F S_ .i32) :=
  line_nullary m c 22 rfl
theorem rd_call0_v12 : V m c main_call0_v12 = ((broadcastInDim S32 ![] bcast_S_S32) : Ct F S_ .i32 → Ct F S32 .i32) (V m c main_call0_c_0) :=
  line_unary m c 23 rfl
theorem rd_call0_v13 : V m c main_call0_v13 = (subi : Ct2 F S32 .i32) (V m c main_call0_v2) (V m c main_call0_v12) :=
  line_binary m c 24 rfl
theorem rd_v6 : V m c main_v6 = (select : Ct F S32 .i1 → Ct F S32 .i32 → Ct F S32 .i32 → Ct F S32 .i32) (V m c main_call0_v11) (V m c main_call0_v13) (V m c main_call0_v2) :=
  line_ternary m c 25 rfl
theorem rd_c_2 : V m c main_c_2 = (constantI S_ 32 1024#32) :=
  line_nullary m c 26 rfl
theorem rd_v7 : V m c main_v7 = (broadcastInDim S32 ![] bcast_S_S32 : Ct F S_ .i32 → Ct F S32 .i32) (V m c main_c_2) :=
  line_unary m c 27 rfl
theorem rd_v8 : V m c main_v8 = (muli : Ct2 F S32 .i32) (V m c main_v6) (V m c main_v7) :=
  line_binary m c 28 rfl
theorem rd_call1_call0_c : V m c main_call1_call0_c = ((constantI S_ 32 0#32) : Ct F S_ .i32) :=
  line_nullary m c 29 rfl
theorem rd_call1_call0_v0 : V m c main_call1_call0_v0 = ((broadcastInDim S_ ![] bcast_S_S_) : Ct F S_ .i32 → Ct F S_ .i32) (V m c main_call1_call0_c) :=
  line_unary m c 30 rfl
theorem line_v9 (f : Ct F S32 .i32 → Ct F S_ .i32 → Ct F S32 .i32) (hop : (hostPre (F := F)).flatten[31]? = some (StableHlo.TRef.binary (.of main_v8 : StableHlo.TRef sig ⟨S32, .i32⟩) (.of main_call1_call0_v0 : StableHlo.TRef sig ⟨S_, .i32⟩) (.of main_v9 : StableHlo.TRef sig ⟨S32, .i32⟩) f)) : V m c main_v9 = f (V m c main_v8) (V m c main_call1_call0_v0) :=
  line_binary m c 31 hop (by decide) (by decide) (by decide)
theorem rd_v9 : V m c main_v9 = ((fun x v => Host.reduceWindow IntOp.addi ![32] ![1] ![31] ![0] x v reduceWindows_S32_S32_w32s1p31_0 h_S_) : Ct F S32 .i32 → Ct F S_ .i32 → Ct F S32 .i32) (V m c main_v8) (V m c main_call1_call0_v0) :=
  line_v9 m c _ rfl
theorem rd_v10 : V m c main_v10 = (subi : Ct2 F S32 .i32) (V m c main_v9) (V m c main_v8) :=
  line_binary m c 32 rfl
theorem rd_v11 : V m c main_v11 = (iotaInDim S72 32 0) :=
  line_nullary m c 33 rfl
theorem rd_c_3 : V m c main_c_3 = (constantI S_ 32 1024#32) :=
  line_nullary m c 34 rfl
theorem rd_v12 : V m c main_v12 = (broadcastInDim S72 ![] bcast_S_S72 : Ct F S_ .i32 → Ct F S72 .i32) (V m c main_c_3) :=
  line_unary m c 35 rfl
theorem rd_v13 : V m c main_v13 = (muli : Ct2 F S72 .i32) (V m c main_v11) (V m c main_v12) :=
  line_binary m c 36 rfl
theorem rd_v14 : V m c main_v14 = ((extractStridedSlice S1 ![31] · slices_S32_S1_31) : Ct F S32 .i32 → Ct F S1 .i32) (V m c main_v9) :=
  line_unary m c 37 rfl
theorem rd_v15 : V m c main_v15 = shapeCast S_ (show Vec F S1 .i32 from V m c main_v14) shapeCasts_S1_S_ :=
  line_reshape m c 38 rfl
theorem rd_c_4 : V m c main_c_4 = (constantI S_ 32 1024#32) :=
  line_nullary m c 39 rfl
theorem rd_call2_v0 : V m c main_call2_v0 = (id : Ct F S_ .i32 → Ct F S_ .i32) (V m c main_c_4) :=
  line_unary m c 40 rfl
theorem rd_call2_v1 : V m c main_call2_v1 = (Host.divsi : Ct2 F S_ .i32) (V m c main_v15) (V m c main_call2_v0) :=
  line_binary m c 41 rfl
theorem rd_call2_v2 : V m c main_call2_v2 = (signi : Ct F S_ .i32 → Ct F S_ .i32) (V m c main_v15) :=
  line_unary m c 42 rfl
theorem rd_call2_v3 : V m c main_call2_v3 = (signi : Ct F S_ .i32 → Ct F S_ .i32) (V m c main_call2_v0) :=
  line_unary m c 43 rfl
theorem rd_call2_v4 : V m c main_call2_v4 = ((cmpi .ne) : Ct F S_ .i32 → Ct F S_ .i32 → Ct F S_ .i1) (V m c main_call2_v2) (V m c main_call2_v3) :=
  line_binary m c 44 rfl
theorem rd_call2_v5 : V m c main_call2_v5 = (Host.remsi : Ct2 F S_ .i32) (V m c main_v15) (V m c main_call2_v0) :=
  line_binary m c 45 rfl
theorem rd_call2_c : V m c main_call2_c = ((constantI S_ 32 0#32) : Ct F S_ .i32) :=
  line_nullary m c 46 rfl
theorem rd_call2_v6 : V m c main_call2_v6 = ((cmpi .ne) : Ct F S_ .i32 → Ct F S_ .i32 → Ct F S_ .i1) (V m c main_call2_v5) (V m c main_call2_c) :=
  line_binary m c 47 rfl
theorem rd_call2_v7 : V m c main_call2_v7 = (andi : Ct2 F S_ .i1) (V m c main_call2_v4) (V m c main_call2_v6) :=
  line_binary m c 48 rfl
theorem rd_call2_c_0 : V m c main_call2_c_0 = ((constantI S_ 32 1#32) : Ct F S_ .i32) :=
  line_nullary m c 49 rfl
theorem rd_call2_v8 : V m c main_call2_v8 = (subi : Ct2 F S_ .i32) (V m c main_call2_v1) (V m c main_call2_c_0) :=
  line_binary m c 50 rfl
theorem rd_v16 : V m c main_v16 = (select : Ct F S_ .i1 → Ct F S_ .i32 → Ct F S_ .i32 → Ct F S_ .i32) (V m c main_call2_v7) (V m c main_call2_v8) (V m c main_call2_v1) :=
  line_ternary m c 51 rfl
theorem rd_v17 : V m c main_v17 = (broadcastInDim S1x32 ![1] bcast_S32_S1x32_1 : Ct F S32 .i32 → Ct F S1x32 .i32) (V m c main_v9) :=
  line_unary m c 52 rfl
theorem rd_v18 : V m c main_v18 = (broadcastInDim S72x1 ![0] bcast_S72_S72x1_0 : Ct F S72 .i32 → Ct F S72x1 .i32) (V m c main_v13) :=
  line_unary m c 53 rfl
theorem rd_v19 : V m c main_v19 = (broadcastInDim S72x32 ![0, 1] bcast_S1x32_S72x32_0_1 : Ct F S1x32 .i32 → Ct F S72x32 .i32) (V m c main_v17) :=
  line_unary m c 54 rfl
theorem rd_v20 : V m c main_v20 = (broadcastInDim S72x32 ![0, 1] bcast_S72x1_S72x32_0_1 : Ct F S72x1 .i32 → Ct F S72x32 .i32) (V m c main_v18) :=
  line_unary m c 55 rfl
theorem rd_v21 : V m c main_v21 = (cmpi .sle : Ct F S72x32 .i32 → Ct F S72x32 .i32 → Ct F S72x32 .i1) (V m c main_v19) (V m c main_v20) :=
  line_binary m c 56 rfl
theorem rd_v22 : V m c main_v22 = ((extui 32 · natLt_1_32) : Ct F S72x32 .i1 → Ct F S72x32 .i32) (V m c main_v21) :=
  line_unary m c 57 rfl
theorem rd_c_5 : V m c main_c_5 = (constantI S_ 32 0#32) :=
  line_nullary m c 58 rfl
theorem rd_v23 : V m c main_v23 = ((fun x v => Host.reduce IntOp.addi x v reducesTo_S72x32_S72_d1 h_S_) : Ct F S72x32 .i32 → Ct F S_ .i32 → Ct F S72 .i32) (V m c main_v22) (V m c main_c_5) :=
  line_binary m c 59 rfl
theorem rd_c_6 : V m c main_c_6 = (constantI S_ 32 31#32) :=
  line_nullary m c 60 rfl
theorem rd_v24 : V m c main_v24 = (broadcastInDim S72 ![] bcast_S_S72 : Ct F S_ .i32 → Ct F S72 .i32) (V m c main_c_6) :=
  line_unary m c 61 rfl
theorem rd_v25 : V m c main_v25 = (minsi : Ct2 F S72 .i32) (V m c main_v23) (V m c main_v24) :=
  line_binary m c 62 rfl
theorem rd_c_7 : V m c main_c_7 = (constantI S_ 32 0#32) :=
  line_nullary m c 63 rfl
theorem rd_v26 : V m c main_v26 = (broadcastInDim S72 ![] bcast_S_S72 : Ct F S_ .i32 → Ct F S72 .i32) (V m c main_c_7) :=
  line_unary m c 64 rfl
theorem rd_v27 : V m c main_v27 = (cmpi .slt : Ct F S72 .i32 → Ct F S72 .i32 → Ct F S72 .i1) (V m c main_v25) (V m c main_v26) :=
  line_binary m c 65 rfl
theorem rd_c_8 : V m c main_c_8 = (constantI S_ 32 32#32) :=
  line_nullary m c 66 rfl
theorem rd_v28 : V m c main_v28 = (broadcastInDim S72 ![] bcast_S_S72 : Ct F S_ .i32 → Ct F S72 .i32) (V m c main_c_8) :=
  line_unary m c 67 rfl
theorem rd_v29 : V m c main_v29 = (addi : Ct2 F S72 .i32) (V m c main_v25) (V m c main_v28) :=
  line_binary m c 68 rfl
theorem rd_v30 : V m c main_v30 = (select : Ct F S72 .i1 → Ct F S72 .i32 → Ct F S72 .i32 → Ct F S72 .i32) (V m c main_v27) (V m c main_v29) (V m c main_v25) :=
  line_ternary m c 69 rfl
theorem rd_v31 : V m c main_v31 = (broadcastInDim S72x1 ![0] bcast_S72_S72x1_0 : Ct F S72 .i32 → Ct F S72x1 .i32) (V m c main_v30) :=
  line_unary m c 70 rfl
theorem rd_v32 : V m c main_v32 = ((fun x i => Host.gather gather_S32_S72x1_S72_n_0_n_n_0_1_1 x i) : Ct F S32 .i32 → Ct F S72x1 .i32 → Ct F S72 .i32) (V m c main_v1) (V m c main_v31) :=
  line_binary m c 71 rfl
theorem rd_c_9 : V m c main_c_9 = (constantI S_ 32 0#32) :=
  line_nullary m c 72 rfl
theorem rd_v33 : V m c main_v33 = (broadcastInDim S72 ![] bcast_S_S72 : Ct F S_ .i32 → Ct F S72 .i32) (V m c main_c_9) :=
  line_unary m c 73 rfl
theorem rd_v34 : V m c main_v34 = (cmpi .slt : Ct F S72 .i32 → Ct F S72 .i32 → Ct F S72 .i1) (V m c main_v25) (V m c main_v33) :=
  line_binary m c 74 rfl
theorem rd_c_10 : V m c main_c_10 = (constantI S_ 32 32#32) :=
  line_nullary m c 75 rfl
theorem rd_v35 : V m c main_v35 = (broadcastInDim S72 ![] bcast_S_S72 : Ct F S_ .i32 → Ct F S72 .i32) (V m c main_c_10) :=
  line_unary m c 76 rfl
theorem rd_v36 : V m c main_v36 = (addi : Ct2 F S72 .i32) (V m c main_v25) (V m c main_v35) :=
  line_binary m c 77 rfl
theorem rd_v37 : V m c main_v37 = (select : Ct F S72 .i1 → Ct F S72 .i32 → Ct F S72 .i32 → Ct F S72 .i32) (V m c main_v34) (V m c main_v36) (V m c main_v25) :=
  line_ternary m c 78 rfl
theorem rd_v38 : V m c main_v38 = (broadcastInDim S72x1 ![0] bcast_S72_S72x1_0 : Ct F S72 .i32 → Ct F S72x1 .i32) (V m c main_v37) :=
  line_unary m c 79 rfl
theorem rd_v39 : V m c main_v39 = ((fun x i => Host.gather gather_S32_S72x1_S72_n_0_n_n_0_1_1 x i) : Ct F S32 .i32 → Ct F S72x1 .i32 → Ct F S72 .i32) (V m c main_v10) (V m c main_v38) :=
  line_binary m c 80 rfl
theorem rd_v40 : V m c main_v40 = (subi : Ct2 F S72 .i32) (V m c main_v13) (V m c main_v39) :=
  line_binary m c 81 rfl
theorem rd_v41 : V m c main_v41 = (subi : Ct2 F S72 .i32) (V m c main_v32) (V m c main_v40) :=
  line_binary m c 82 rfl
theorem rd_c_11 : V m c main_c_11 = (constantI S_ 32 0#32) :=
  line_nullary m c 83 rfl
theorem rd_c_12 : V m c main_c_12 = (constantI S_ 32 1024#32) :=
  line_nullary m c 84 rfl
theorem rd_call3_v0 : V m c main_call3_v0 = (id : Ct F S_ .i32 → Ct F S_ .i32) (V m c main_c_11) :=
  line_unary m c 85 rfl
theorem rd_call3_v1 : V m c main_call3_v1 = ((broadcastInDim S72 ![] bcast_S_S72) : Ct F S_ .i32 → Ct F S72 .i32) (V m c main_call3_v0) :=
  line_unary m c 86 rfl
theorem rd_call3_v2 : V m c main_call3_v2 = (maxsi : Ct2 F S72 .i32) (V m c main_call3_v1) (V m c main_v41) :=
  line_binary m c 87 rfl
theorem rd_call3_v3 : V m c main_call3_v3 = (id : Ct F S_ .i32 → Ct F S_ .i32) (V m c main_c_12) :=
  line_unary m c 88 rfl
theorem rd_call3_v4 : V m c main_call3_v4 = ((broadcastInDim S72 ![] bcast_S_S72) : Ct F S_ .i32 → Ct F S72 .i32) (V m c main_call3_v3) :=
  line_unary m c 89 rfl
theorem rd_v42 : V m c main_v42 = (minsi : Ct2 F S72 .i32) (V m c main_call3_v4) (V m c main_call3_v2) :=
  line_binary m c 90 rfl
theorem rd_v43 : V m c main_v43 = ((extractStridedSlice S1 ![31] · slices_S32_S1_31) : Ct F S32 .i32 → Ct F S1 .i32) (V m c main_v9) :=
  line_unary m c 91 rfl
theorem rd_v44 : V m c main_v44 = shapeCast S_ (show Vec F S1 .i32 from V m c main_v43) shapeCasts_S1_S_ :=
  line_reshape m c 92 rfl
theorem rd_v45 : V m c main_v45 = (broadcastInDim S72 ![] bcast_S_S72 : Ct F S_ .i32 → Ct F S72 .i32) (V m c main_v44) :=
  line_unary m c 93 rfl
theorem rd_v46 : V m c main_v46 = (cmpi .slt : Ct F S72 .i32 → Ct F S72 .i32 → Ct F S72 .i1) (V m c main_v13) (V m c main_v45) :=
  line_binary m c 94 rfl
theorem rd_c_13 : V m c main_c_13 = (constantI S_ 32 0#32) :=
  line_nullary m c 95 rfl
theorem rd_call4_v0 : V m c main_call4_v0 = (id : Ct F S_ .i32 → Ct F S_ .i32) (V m c main_c_13) :=
  line_unary m c 96 rfl
theorem rd_call4_v1 : V m c main_call4_v1 = ((broadcastInDim S72 ![] bcast_S_S72) : Ct F S_ .i32 → Ct F S72 .i32) (V m c main_call4_v0) :=
  line_unary m c 97 rfl
theorem rd_v47 : V m c main_v47 = (select : Ct F S72 .i1 → Ct F S72 .i32 → Ct F S72 .i32 → Ct F S72 .i32) (V m c main_v46) (V m c main_v42) (V m c main_call4_v1) :=
  line_ternary m c 98 rfl
theorem rd_c_14 : V m c main_c_14 = (constantI S_ 32 1#32) :=
  line_nullary m c 99 rfl
theorem rd_v48 : V m c main_v48 = (subi : Ct2 F S_ .i32) (V m c main_v16) (V m c main_c_14) :=
  line_binary m c 100 rfl
theorem rd_c_15 : V m c main_c_15 = (constantI S_ 32 0#32) :=
  line_nullary m c 101 rfl
theorem rd_v49 : V m c main_v49 = (maxsi : Ct2 F S_ .i32) (V m c main_v48) (V m c main_c_15) :=
  line_binary m c 102 rfl
theorem rd_v50 : V m c main_v50 = (iotaInDim S72 32 0) :=
  line_nullary m c 103 rfl
theorem rd_v51 : V m c main_v51 = (broadcastInDim S72 ![] bcast_S_S72 : Ct F S_ .i32 → Ct F S72 .i32) (V m c main_v49) :=
  line_unary m c 104 rfl
theorem rd_v52 : V m c main_v52 = (minsi : Ct2 F S72 .i32) (V m c main_v50) (V m c main_v51) :=
  line_binary m c 105 rfl
theorem rd_v53 : V m c main_v53 = ((extractStridedSlice S1 ![31] · slices_S32_S1_31) : Ct F S32 .i32 → Ct F S1 .i32) (V m c main_v9) :=
  line_unary m c 106 rfl
theorem rd_v54 : V m c main_v54 = shapeCast S_ (show Vec F S1 .i32 from V m c main_v53) shapeCasts_S1_S_ :=
  line_reshape m c 107 rfl
theorem rd_v55 : V m c main_v55 = (broadcastInDim S72 ![] bcast_S_S72 : Ct F S_ .i32 → Ct F S72 .i32) (V m c main_v54) :=
  line_unary m c 108 rfl
theorem rd_v56 : V m c main_v56 = (cmpi .slt : Ct F S72 .i32 → Ct F S72 .i32 → Ct F S72 .i1) (V m c main_v13) (V m c main_v55) :=
  line_binary m c 109 rfl
theorem rd_c_16 : V m c main_c_16 = (constantI S_ 32 0#32) :=
  line_nullary m c 110 rfl
theorem rd_v57 : V m c main_v57 = (cmpi .slt : Ct F S_ .i32 → Ct F S_ .i32 → Ct F S_ .i1) (V m c main_v49) (V m c main_c_16) :=
  line_binary m c 111 rfl
theorem rd_c_17 : V m c main_c_17 = (constantI S_ 32 72#32) :=
  line_nullary m c 112 rfl
theorem rd_v58 : V m c main_v58 = (addi : Ct2 F S_ .i32) (V m c main_v49) (V m c main_c_17) :=
  line_binary m c 113 rfl
theorem rd_v59 : V m c main_v59 = (select : Ct F S_ .i1 → Ct F S_ .i32 → Ct F S_ .i32 → Ct F S_ .i32) (V m c main_v57) (V m c main_v58) (V m c main_v49) :=
  line_ternary m c 114 rfl
theorem line_v60 (f : Ct F S72 .i32 → (Fin 1 → Ct F S_ .i32) → Ct F S1 .i32)
    (hop : (hostPre (F := F)).flatten[115]? = some (StableHlo.unaryIndexed main_v25 ![main_v59] ⟨S_, .i32⟩ main_v60 f)) : V m c main_v60 = f (V m c main_v25) (fun _ => V m c main_v59) :=
  (line_unaryIndexed m c 115 hop (by decide) (by decide) (by decide)).trans (congrArg (f _) (funext fun k => by
    match k with
    | ⟨0, _⟩ => rfl))
theorem rd_v60 : V m c main_v60 = Host.dynamicSlice S1 (show Vec F S72 .i32 from V m c main_v25) (fun _ => ((show Vec F S_ .i32 from V m c main_v59) (Shape.Idx.first h_S_)).toInt) sliceFits_S72_S1 :=
  line_v60 m c _ rfl
theorem rd_v61 : V m c main_v61 = shapeCast S_ (show Vec F S1 .i32 from V m c main_v60) shapeCasts_S1_S_ :=
  line_reshape m c 116 rfl
theorem rd_call5_v0 : V m c main_call5_v0 = ((broadcastInDim S72 ![] bcast_S_S72) : Ct F S_ .i32 → Ct F S72 .i32) (V m c main_v61) :=
  line_unary m c 117 rfl
theorem rd_v62 : V m c main_v62 = (select : Ct F S72 .i1 → Ct F S72 .i32 → Ct F S72 .i32 → Ct F S72 .i32) (V m c main_v56) (V m c main_v25) (V m c main_call5_v0) :=
  line_ternary m c 118 rfl
theorem rd_c_18 : V m c main_c_18 = (constantI S_ 32 0#32) :=
  line_nullary m c 119 rfl
theorem rd_v63 : V m c main_v63 = (broadcastInDim S10240x4 ![] bcast_S_S10240x4 : Ct F S_ .i32 → Ct F S10240x4 .i32) (V m c main_c_18) :=
  line_unary m c 120 rfl
theorem rd_v64 : V m c main_v64 = (cmpi .slt : Ct F S10240x4 .i32 → Ct F S10240x4 .i32 → Ct F S10240x4 .i1) (V m c main_arg1) (V m c main_v63) :=
  line_binary m c 121 rfl
theorem rd_c_19 : V m c main_c_19 = (constantI S_ 32 32#32) :=
  line_nullary m c 122 rfl
theorem rd_v65 : V m c main_v65 = (broadcastInDim S10240x4 ![] bcast_S_S10240x4 : Ct F S_ .i32 → Ct F S10240x4 .i32) (V m c main_c_19) :=
  line_unary m c 123 rfl
theorem rd_v66 : V m c main_v66 = (addi : Ct2 F S10240x4 .i32) (V m c main_arg1) (V m c main_v65) :=
  line_binary m c 124 rfl
theorem rd_v67 : V m c main_v67 = (select : Ct F S10240x4 .i1 → Ct F S10240x4 .i32 → Ct F S10240x4 .i32 → Ct F S10240x4 .i32) (V m c main_v64) (V m c main_v66) (V m c main_arg1) :=
  line_ternary m c 125 rfl
theorem rd_v68 : V m c main_v68 = (broadcastInDim S10240x4x1 ![0, 1] bcast_S10240x4_S10240x4x1_0_1 : Ct F S10240x4 .i32 → Ct F S10240x4x1 .i32) (V m c main_v67) :=
  line_unary m c 126 rfl
theorem rd_v69 : V m c main_v69 = ((fun x i => Host.gather gather_S32_S10240x4x1_S10240x4_n_0_n_n_0_2_1 x i) : Ct F S32 .i32 → Ct F S10240x4x1 .i32 → Ct F S10240x4 .i32) (V m c main_v10) (V m c main_v68) :=
  line_binary m c 127 rfl
theorem rd_v70 : V m c main_v70 = (addi : Ct2 F S10240x4 .i32) (V m c main_v69) (V m c main_arg3) :=
  line_binary m c 128 rfl
theorem rd_v71 : V m c main_v71 = (iotaInDim S10240 32 0) :=
  line_nullary m c 129 rfl
theorem rd_v72 : V m c main_v72 = (broadcastInDim S10240x1 ![0] bcast_S10240_S10240x1_0 : Ct F S10240 .i32 → Ct F S10240x1 .i32) (V m c main_v71) :=
  line_unary m c 130 rfl
theorem rd_v73 : V m c main_v73 = (broadcastInDim S10240x4 ![0, 1] bcast_S10240x1_S10240x4_0_1 : Ct F S10240x1 .i32 → Ct F S10240x4 .i32) (V m c main_v72) :=
  line_unary m c 131 rfl
theorem rd_c_20 : V m c main_c_20 = (constantI S_ 32 0#32) :=
  line_nullary m c 132 rfl
theorem rd_v74 : V m c main_v74 = (broadcastInDim S73728 ![] bcast_S_S73728 : Ct F S_ .i32 → Ct F S73728 .i32) (V m c main_c_20) :=
  line_unary m c 133 rfl
theorem rd_v75 : V m c main_v75 = shapeCast S40960 (show Vec F S10240x4 .i32 from V m c main_v70) shapeCasts_S10240x4_S40960 :=
  line_reshape m c 134 rfl
theorem rd_v76 : V m c main_v76 = shapeCast S40960 (show Vec F S10240x4 .i32 from V m c main_v73) shapeCasts_S10240x4_S40960 :=
  line_reshape m c 135 rfl
theorem rd_c_21 : V m c main_c_21 = (constantI S_ 32 0#32) :=
  line_nullary m c 136 rfl
theorem rd_v77 : V m c main_v77 = (broadcastInDim S40960 ![] bcast_S_S40960 : Ct F S_ .i32 → Ct F S40960 .i32) (V m c main_c_21) :=
  line_unary m c 137 rfl
theorem rd_v78 : V m c main_v78 = (cmpi .slt : Ct F S40960 .i32 → Ct F S40960 .i32 → Ct F S40960 .i1) (V m c main_v75) (V m c main_v77) :=
  line_binary m c 138 rfl
theorem rd_c_22 : V m c main_c_22 = (constantI S_ 32 73728#32) :=
  line_nullary m c 139 rfl
theorem rd_v79 : V m c main_v79 = (broadcastInDim S40960 ![] bcast_S_S40960 : Ct F S_ .i32 → Ct F S40960 .i32) (V m c main_c_22) :=
  line_unary m c 140 rfl
theorem rd_v80 : V m c main_v80 = (addi : Ct2 F S40960 .i32) (V m c main_v75) (V m c main_v79) :=
  line_binary m c 141 rfl
theorem rd_v81 : V m c main_v81 = (select : Ct F S40960 .i1 → Ct F S40960 .i32 → Ct F S40960 .i32 → Ct F S40960 .i32) (V m c main_v78) (V m c main_v80) (V m c main_v75) :=
  line_ternary m c 142 rfl
theorem rd_v82 : V m c main_v82 = (broadcastInDim S40960x1 ![0] bcast_S40960_S40960x1_0 : Ct F S40960 .i32 → Ct F S40960x1 .i32) (V m c main_v81) :=
  line_unary m c 143 rfl
theorem rd_v83 : V m c main_v83 = ((fun x i u => Host.scatter scatter_S73728_S40960x1_S40960_n_0_0_1 (fun _ b => b) x i u) : Ct F S73728 .i32 → Ct F S40960x1 .i32 → Ct F S40960 .i32 → Ct F S73728 .i32) (V m c main_v74) (V m c main_v82) (V m c main_v76) :=
  line_ternary m c 144 rfl
theorem rd_call6_c : V m c main_call6_c = ((constantI S_ 32 0#32) : Ct F S_ .i32) :=
  line_nullary m c 145 rfl
theorem rd_call6_v0 : V m c main_call6_v0 = ((broadcastInDim S73728 ![] bcast_S_S73728) : Ct F S_ .i32 → Ct F S73728 .i32) (V m c main_call6_c) :=
  line_unary m c 146 rfl
theorem rd_call6_v1 : V m c main_call6_v1 = ((cmpi .slt) : Ct F S73728 .i32 → Ct F S73728 .i32 → Ct F S73728 .i1) (V m c main_v83) (V m c main_call6_v0) :=
  line_binary m c 147 rfl
theorem rd_call6_c_0 : V m c main_call6_c_0 = ((constantI S_ 32 10240#32) : Ct F S_ .i32) :=
  line_nullary m c 148 rfl
theorem rd_call6_v2 : V m c main_call6_v2 = ((broadcastInDim S73728 ![] bcast_S_S73728) : Ct F S_ .i32 → Ct F S73728 .i32) (V m c main_call6_c_0) :=
  line_unary m c 149 rfl
theorem rd_call6_v3 : V m c main_call6_v3 = (addi : Ct2 F S73728 .i32) (V m c main_v83) (V m c main_call6_v2) :=
  line_binary m c 150 rfl
theorem rd_call6_v4 : V m c main_call6_v4 = (select : Ct F S73728 .i1 → Ct F S73728 .i32 → Ct F S73728 .i32 → Ct F S73728 .i32) (V m c main_call6_v1) (V m c main_call6_v3) (V m c main_v83) :=
  line_ternary m c 151 rfl
theorem rd_call6_v5 : V m c main_call6_v5 = ((broadcastInDim S73728x1 ![0] bcast_S73728_S73728x1_0) : Ct F S73728 .i32 → Ct F S73728x1 .i32) (V m c main_call6_v4) :=
  line_unary m c 152 rfl
theorem rd_call6_c_1 : V m c main_call6_c_1 = ((constantI S1 32 10239#32) : Ct F S1 .i32) :=
  line_nullary m c 153 rfl
theorem rd_call6_c_2 : V m c main_call6_c_2 = ((constantI S_ 32 0#32) : Ct F S_ .i32) :=
  line_nullary m c 154 rfl
theorem rd_call6_v6 : V m c main_call6_v6 = ((broadcastInDim S73728x1 ![] bcast_S_S73728x1) : Ct F S_ .i32 → Ct F S73728x1 .i32) (V m c main_call6_c_2) :=
  line_unary m c 155 rfl
theorem rd_call6_v7 : V m c main_call6_v7 = ((cmpi .sge) : Ct F S73728x1 .i32 → Ct F S73728x1 .i32 → Ct F S73728x1 .i1) (V m c main_call6_v5) (V m c main_call6_v6) :=
  line_binary m c 156 rfl
theorem rd_call6_v8 : V m c main_call6_v8 = ((broadcastInDim S1x1 ![1] bcast_S1_S1x1_1) : Ct F S1 .i32 → Ct F S1x1 .i32) (V m c main_call6_c_1) :=
  line_unary m c 157 rfl
theorem rd_call6_v9 : V m c main_call6_v9 = ((broadcastInDim S73728x1 ![0, 1] bcast_S1x1_S73728x1_0_1) : Ct F S1x1 .i32 → Ct F S73728x1 .i32) (V m c main_call6_v8) :=
  line_unary m c 158 rfl
theorem rd_call6_v10 : V m c main_call6_v10 = ((cmpi .sle) : Ct F S73728x1 .i32 → Ct F S73728x1 .i32 → Ct F S73728x1 .i1) (V m c main_call6_v5) (V m c main_call6_v9) :=
  line_binary m c 159 rfl
theorem rd_call6_v11 : V m c main_call6_v11 = (andi : Ct2 F S73728x1 .i1) (V m c main_call6_v7) (V m c main_call6_v10) :=
  line_binary m c 160 rfl
theorem rd_call6_c_3 : V m c main_call6_c_3 = ((constantI S_ 1 1#1) : Ct F S_ .i1) :=
  line_nullary m c 161 rfl
theorem line_call6_v12 (f : Ct F S73728x1 .i1 → Ct F S_ .i1 → Ct F S73728 .i1) (hop : (hostPre (F := F)).flatten[162]? = some (StableHlo.TRef.binary (.of main_call6_v11 : StableHlo.TRef sig ⟨S73728x1, .i1⟩) (.of main_call6_c_3 : StableHlo.TRef sig ⟨S_, .i1⟩) (.of main_call6_v12 : StableHlo.TRef sig ⟨S73728, .i1⟩) f)) : V m c main_call6_v12 = f (V m c main_call6_v11) (V m c main_call6_c_3) :=
  line_binary m c 162 hop (by decide) (by decide) (by decide)
theorem rd_call6_v12 : V m c main_call6_v12 = ((fun x v => Host.reduce IntOp.andi x v reducesTo_S73728x1_S73728_d1 h_S_) : Ct F S73728x1 .i1 → Ct F S_ .i1 → Ct F S73728 .i1) (V m c main_call6_v11) (V m c main_call6_c_3) :=
  line_call6_v12 m c _ rfl
theorem rd_call6_v13 : V m c main_call6_v13 = ((fun x i => Host.gather gather_S10240x2048_S73728x1_S73728x2048_1_0_n_n_0_1_12048 x i) : Ct F S10240x2048 .bf16 → Ct F S73728x1 .i32 → Ct F S73728x2048 .bf16) (V m c main_arg0) (V m c main_call6_v5) :=
  line_binary m c 163 rfl
theorem rd_call6_v14 : V m c main_call6_v14 = ((broadcastInDim S73728x2048 ![0] bcast_S73728_S73728x2048_0) : Ct F S73728 .i1 → Ct F S73728x2048 .i1) (V m c main_call6_v12) :=
  line_unary m c 164 rfl
theorem rd_call6_cst : V m c main_call6_cst = ((constant S_ .bf16 0x7FC0#16) : Ct F S_ .bf16) :=
  line_nullary m c 165 rfl
theorem rd_call6_v15 : V m c main_call6_v15 = ((broadcastInDim S73728x2048 ![] bcast_S_S73728x2048) : Ct F S_ .bf16 → Ct F S73728x2048 .bf16) (V m c main_call6_cst) :=
  line_unary m c 166 rfl
theorem rd_v84 : V m c main_v84 = (select : Ct F S73728x2048 .i1 → Ct F S73728x2048 .bf16 → Ct F S73728x2048 .bf16 → Ct F S73728x2048 .bf16) (V m c main_call6_v14) (V m c main_call6_v13) (V m c main_call6_v15) :=
  line_ternary m c 167 rfl
theorem rd_v85 : V m c main_v85 = shapeCast S32x1x2048 (show Vec F S32x2048 .f32 from V m c main_arg6) shapeCasts_S32x2048_S32x1x2048 :=
  line_reshape m c 168 rfl
theorem rd_v86 : V m c main_v86 = shapeCast S32x1x2048 (show Vec F S32x2048 .f32 from V m c main_arg8) shapeCasts_S32x2048_S32x1x2048 :=
  line_reshape m c 169 rfl
theorem rd_v87 : V m c main_v87 = shapeCast S32x1x2048 (show Vec F S32x2048 .f32 from V m c main_arg10) shapeCasts_S32x2048_S32x1x2048 :=
  line_reshape m c 170 rfl

end Cert.KernelIdeal.Moe

end
-- ==== Proof.KI.Host.lean ====
module

public import proofs.«01_k».proof.Proof.KI.Reads
public import proofs.«01_k».proof.Proof.KI.Tables
public import proofs.«01_k».proof.Proof.Places
public import proofs.«01_k».proof.Proof.Routed
public import proofs.«01_k».proof.Proof.Wd

/-! What the host lines leave in the layout's words: each expert's rows, the tiles and their experts. -/

@[expose] public section

set_option maxRecDepth 16384

noncomputable section

namespace Cert.KernelIdeal.Moe

open Cert.KernelIdeal.Gen Idealize.ShloMosaic Idealize.ShloMosaic.TcCoe Idealize.ShloMosaic.ValueIdx Idealize.ShloMosaic.WordCmp
open Cert.Wd Cert.Places
open Cert.Pre (Tables)

variable {F : FTy → Type} [FloatOps F]
variable (m : (ℓ : Loc nD τ sig) → Buf (Elt F) ℓ) (c : Dev nD)

/-- Each expert's number of rows. -/
def cntW (e : Fin 32) : BitVec 32 := s1 (V m c main_v1) e
def cnt (e : Fin 32) : ℕ := (cntW m c e).toNat
/-- The expert and the rank of a row's choice. -/
def teW (n : Fin 10240) (k : Fin 4) : BitVec 32 := s2 (V m c main_arg1) n k
def rkW (n : Fin 10240) (k : Fin 4) : BitVec 32 := s2 (V m c main_arg3) n k

/-- What the layout needs of the arguments. -/
abbrev Ready : Prop := Cert.Pre.Routed (cntW m c) (teW m c) (rkW m c)

variable {m c}

theorem w1 (e : Fin 32) : s1 (V m c main_v1) e = BitVec.ofNat 32 (cnt m c e) := ofNat_toNat _

/-- The running sum of 32 words. -/
theorem cumsum32 (x : IVec S32 32) (v : IVec S_ 32) (hv : v ValueIdx.ix0 = 0#32) (h) (hu) (e : Fin 32) :
    Host.reduceWindow IntOp.addi ![32] ![1] ![31] ![0] x v h hu (ix1 e) = ∑ i : Fin 32, if i ≤ e then x (ix1 i) else 0 :=
  Routing.cumsum_vec (N := 32) (Nm1 := 31) rfl x v hv h hu e

/-- A slice of one entry. -/
theorem slice72 {α : Type} (x : S72.Idx → α) (k : ℕ) (hk : k < 72) (h) : extractStridedSlice S1 (fun _ => k) x h (ix1 (0 : Fin 1)) = x (ix1 ⟨k, hk⟩) := by
  unfold extractStridedSlice
  refine congrArg x (funext fun a => Fin.ext ?_)
  match a with
  | ⟨0, _⟩ => rfl

variable (hR : Ready m c)
include hR

theorem hsum : ∑ e, cnt m c e ≤ 40960 := hR.sum

theorem cnt_le' (e : Fin 32) : cnt m c e ≤ 40960 := cnt_le (hsum hR) e

theorem w5 (e : Fin 32) : s1 (V m c main_v5) e = BitVec.ofNat 32 (cnt m c e + 1023) := by
  have h := cnt_le' hR e
  rw [rd_v5, rd_v3, rd_v4, rd_v2, rd_c, rd_c_0]
  show s1 (V m c main_v1) e + BitVec.ofNat 32 1024 - BitVec.ofNat 32 1 = _
  rw [w1, BitVec.ofNat_add_ofNat, Routing.ofNat32_sub (by omega)]
  rfl

theorem w6 (e : Fin 32) : s1 (V m c main_v6) e = BitVec.ofNat 32 ((cnt m c e + 1023) / 1024) := by
  have h := cnt_le' hR e
  rw [rd_v6, rd_call0_v11, rd_call0_v13, rd_call0_v6, rd_call0_v10, rd_call0_v2, rd_call0_v3, rd_call0_v5, rd_call0_v8, rd_call0_v9, rd_call0_v12, rd_call0_c_0, rd_call0_c,
    rd_call0_v1, rd_call0_v7, rd_call0_v4]
  show Routing.pyDiv bcast_S_S32 (V m c main_v5) (V m c main_call0_v0) (ix1 e) = _
  refine Routing.pyDiv_ap _ _ _ _ (w5 hR e) (b := 1024) ?_ (by omega) (by decide) (by decide)
  rw [rd_call0_v0, rd_c_1]
  rfl

theorem w8 (e : Fin 32) : s1 (V m c main_v8) e = BitVec.ofNat 32 (pad (cnt m c) e) := by
  rw [rd_v8, rd_v7, rd_c_2]
  show IntOp.muli (s1 (V m c main_v6) e) (BitVec.ofNat 32 1024) = _
  rw [w6 hR, muli_ofNat]
  rfl

theorem w9 (e : Fin 32) : s1 (V m c main_v9) e = BitVec.ofNat 32 (fin (cnt m c) e) := by
  refine (congrArg (fun q : IVec S32 32 => s1 q e) (rd_v9 m c)).trans ?_
  dsimp only [s1]
  rw [cumsum32]
  rotate_left
  · rw [rd_call1_call0_v0, rd_call1_call0_c]
    rfl
  · refine (Finset.sum_congr rfl fun i _ => ?_).trans (sum_w (pad (cnt m c)) e)
    exact if_congr Iff.rfl (w8 hR i) rfl

theorem w10 (e : Fin 32) : s1 (V m c main_v10) e = BitVec.ofNat 32 (start (cnt m c) e) := by
  rw [rd_v10]
  show s1 (V m c main_v9) e - s1 (V m c main_v8) e = _
  have := start_add_pad (cnt m c) e
  rw [w9 hR, w8 hR, Routing.ofNat32_sub (by omega)]
  rfl

omit hR in
theorem w13 (t : Fin 72) : s1 (V m c main_v13) t = BitVec.ofNat 32 (1024 * t.val) := by
  rw [rd_v13, rd_v12, rd_v11, rd_c_3]
  show IntOp.muli (BitVec.ofNat 32 t.val) (BitVec.ofNat 32 1024) = _
  rw [muli_ofNat, Nat.mul_comm]

theorem w15 : s0 (V m c main_v15) = BitVec.ofNat 32 (total (cnt m c)) := by
  rw [rd_v15, rd_v14]
  refine (cast10 _ _).trans ?_
  exact (Routing.slice1 31 (V m c main_v9) _ (0 : Fin 1) (by decide)).trans (w9 hR 31)

theorem w44 : s0 (V m c main_v44) = BitVec.ofNat 32 (total (cnt m c)) := by
  rw [rd_v44, rd_v43]
  refine (cast10 _ _).trans ?_
  exact (Routing.slice1 31 (V m c main_v9) _ (0 : Fin 1) (by decide)).trans (w9 hR 31)

theorem w54 : s0 (V m c main_v54) = BitVec.ofNat 32 (total (cnt m c)) := by
  rw [rd_v54, rd_v53]
  refine (cast10 _ _).trans ?_
  exact (Routing.slice1 31 (V m c main_v9) _ (0 : Fin 1) (by decide)).trans (w9 hR 31)

theorem w16 : s0 (V m c main_v16) = BitVec.ofNat 32 (total (cnt m c) / 1024) := by
  have h := total_le (hsum hR)
  rw [rd_v16, rd_call2_v7, rd_call2_v8, rd_call2_v4, rd_call2_v6, rd_call2_v2, rd_call2_v3, rd_call2_v5, rd_call2_v1, rd_call2_c_0, rd_call2_c]
  show Routing.pyDiv0 (V m c main_v15) (V m c main_call2_v0) ValueIdx.ix0 = _
  refine Routing.pyDiv0_ap _ _ (w15 hR) (b := 1024) ?_ (by omega) (by decide) (by decide)
  rw [rd_call2_v0, rd_c_4]
  rfl

theorem w49 : s0 (V m c main_v49) = BitVec.ofNat 32 (last (cnt m c)) := by
  have h := total_le (hsum hR)
  rw [rd_v49, rd_v48, rd_c_14, rd_c_15]
  show IntOp.maxsi (s0 (V m c main_v16) - 1#32) 0#32 = _
  rw [w16 hR, Routing.maxsi_pred (by omega)]
  rfl

theorem w52 (t : Fin 72) : s1 (V m c main_v52) t = BitVec.ofNat 32 (min t.val (last (cnt m c))) := by
  have h := total_le (hsum hR)
  rw [rd_v52, rd_v50, rd_v51]
  show IntOp.minsi (BitVec.ofNat 32 t.val) (broadcastInDim S72 ![] bcast_S_S72 (V m c main_v49 : IVec S_ 32) (ix1 t)) = _
  rw [show broadcastInDim S72 ![] bcast_S_S72 (V m c main_v49 : IVec S_ 32) (ix1 t) = s0 (V m c main_v49) from Routing.bc0 _ _ _, w49 hR, minsi_w]
  · have := t.isLt; omega
  · unfold last; omega

theorem w23 (t : Fin 72) : s1 (V m c main_v23) t = BitVec.ofNat 32 (hit (cnt m c) t.val) := by
  rw [rd_v23, rd_v22, rd_c_5]
  refine (ofNat_toNat _).trans (congrArg (BitVec.ofNat 32) ?_)
  refine (StableHlo.Predicate.toNat_reduce_count_cols (n := 72) (m := 32) (by decide) (V m c main_v21) _ _ _ (ix1 t)).trans ?_
  unfold hit
  refine congrArg Finset.card (Finset.filter_congr fun e _ => ?_)
  have ht := t.isLt
  have hf := fin_le (hsum hR) e
  rw [Routing.ij_eq_ix2, rd_v21, rd_v19, rd_v17, rd_v20, rd_v18]
  show IntOp.cmpi .sle (broadcastInDim S72x32 ![0, 1] bcast_S1x32_S72x32_0_1 (broadcastInDim S1x32 ![1] bcast_S32_S1x32_1 (V m c main_v9 : IVec S32 32)) (ix2 t e))
    (broadcastInDim S72x32 ![0, 1] bcast_S72x1_S72x32_0_1 (broadcastInDim S72x1 ![0] bcast_S72_S72x1_0 (V m c main_v13 : IVec S72 32)) (ix2 t e)) = 1#1 ↔ _
  rw [Routing.bcCols, Routing.bcRows]
  change IntOp.cmpi .sle (s1 (V m c main_v9) e) (s1 (V m c main_v13) t) = 1#1 ↔ _
  rw [w9 hR, w13, cmpi_sle_ofNat_eq_one_iff (by show _ < 2 ^ 31; omega) (by show _ < 2 ^ 31; omega)]

omit hR in
theorem hit_le (t : ℕ) : hit (cnt m c) t ≤ 32 := (Finset.card_le_univ _).trans (by simp)

/-- The expert read for a tile. -/
def exOf (m : (ℓ : Loc nD τ sig) → Buf (Elt F) ℓ) (c : Dev nD) (t : Fin 72) : Fin 32 := ⟨min (hit (cnt m c) t.val) 31, by omega⟩

theorem w25 (t : Fin 72) : s1 (V m c main_v25) t = BitVec.ofNat 32 (exOf m c t).val := by
  have := hit_le (m := m) (c := c) t.val
  rw [rd_v25, rd_v24, rd_c_6]
  show IntOp.minsi (s1 (V m c main_v23) t) (BitVec.ofNat 32 31) = _
  rw [w23 hR, minsi_w (by omega) (by omega)]
  rfl

theorem w31 (t : Fin 72) : s2 (V m c main_v31) t (0 : Fin 1) = BitVec.ofNat 32 (exOf m c t).val := by
  rw [rd_v31]
  refine (Routing.bcCol _ _ t).trans ?_
  rw [rd_v30, rd_v27, rd_v26, rd_c_7]
  show Scalar.select (IntOp.cmpi .slt (s1 (V m c main_v25) t) 0#32) _ (s1 (V m c main_v25) t) = _
  rw [w25 hR]
  exact wrap_w (by have := (exOf m c t).isLt; omega) _

theorem w38 (t : Fin 72) : s2 (V m c main_v38) t (0 : Fin 1) = BitVec.ofNat 32 (exOf m c t).val := by
  rw [rd_v38]
  refine (Routing.bcCol _ _ t).trans ?_
  rw [rd_v37, rd_v34, rd_v33, rd_c_9]
  show Scalar.select (IntOp.cmpi .slt (s1 (V m c main_v25) t) 0#32) _ (s1 (V m c main_v25) t) = _
  rw [w25 hR]
  exact wrap_w (by have := (exOf m c t).isLt; omega) _

theorem w32 (t : Fin 72) : s1 (V m c main_v32) t = BitVec.ofNat 32 (cnt m c (exOf m c t)) := by
  rw [rd_v32]
  exact (Routing.gather_take1 (N := 32) (n := 72) gather_S32_S72x1_S72_n_0_n_n_0_1_1 rfl rfl rfl rfl (V m c main_v1) (V m c main_v31) t (exOf m c t) (w31 hR t) (by decide)).trans (w1 _)

theorem w39 (t : Fin 72) : s1 (V m c main_v39) t = BitVec.ofNat 32 (start (cnt m c) (exOf m c t)) := by
  rw [rd_v39]
  exact (Routing.gather_take1 (N := 32) (n := 72) gather_S32_S72x1_S72_n_0_n_n_0_1_1 rfl rfl rfl rfl (V m c main_v10) (V m c main_v38) t (exOf m c t) (w38 hR t) (by decide)).trans (w10 hR _)

theorem w47 (t : Fin 72) : s1 (V m c main_v47) t = if 1024 * t.val < total (cnt m c) then IntOp.minsi (BitVec.ofNat 32 1024) (IntOp.maxsi 0#32
    (BitVec.ofNat 32 (cnt m c (exOf m c t)) - (BitVec.ofNat 32 (1024 * t.val) - BitVec.ofNat 32 (start (cnt m c) (exOf m c t))))) else 0#32 := by
  have ht := t.isLt
  have h := total_le (hsum hR)
  rw [rd_v47, rd_v46, rd_v45, rd_call4_v1, rd_call4_v0, rd_c_13, rd_v42, rd_call3_v4, rd_call3_v3, rd_c_12, rd_call3_v2, rd_call3_v1, rd_call3_v0, rd_c_11, rd_v41, rd_v40]
  show Scalar.select (IntOp.cmpi .slt (s1 (V m c main_v13) t) (broadcastInDim S72 ![] bcast_S_S72 (V m c main_v44 : IVec S_ 32) (ix1 t)))
    (IntOp.minsi (BitVec.ofNat 32 1024) (IntOp.maxsi 0#32 (s1 (V m c main_v32) t - (s1 (V m c main_v13) t - s1 (V m c main_v39) t)))) 0#32 = _
  rw [show broadcastInDim S72 ![] bcast_S_S72 (V m c main_v44 : IVec S_ 32) (ix1 t) = s0 (V m c main_v44) from Routing.bc0 _ _ _, w44 hR, w13, w32 hR, w39 hR,
    slt_w (by omega) (by omega)]

/-- The expert of a tile in use, and its rows. -/
theorem use {t : Fin 72} (h : 1024 * t.val < total (cnt m c)) : start (cnt m c) (exOf m c t) ≤ 1024 * t.val ∧ 1024 * t.val < fin (cnt m c) (exOf m c t) := by
  obtain ⟨e, h1, h2⟩ := exists_tile h
  have he := hit_eq h1 h2
  have : exOf m c t = e := Fin.ext (by show min (hit (cnt m c) t.val) 31 = e.val; have := e.isLt; omega)
  rw [this]
  exact ⟨h1, h2⟩

theorem w47_use {t : Fin 72} (h : 1024 * t.val < total (cnt m c)) : s1 (V m c main_v47) t = BitVec.ofNat 32 (min 1024 (cnt m c (exOf m c t) - (1024 * t.val - start (cnt m c) (exOf m c t)))) := by
  obtain ⟨h1, h2⟩ := use hR h
  have h3 := rows_pos h1 h2
  have h4 := cnt_le' hR (exOf m c t)
  rw [w47 hR, if_pos h, Routing.ofNat32_sub h1, Routing.ofNat32_sub (by omega), Routing.maxsi_zero_left (by omega), minsi_w (by omega) (by omega)]

theorem w60 : (V m c main_v60 : IVec S1 32) (ix1 (0 : Fin 1)) = BitVec.ofNat 32 (exOf m c ⟨last (cnt m c), by have := total_le (hsum hR); unfold last; omega⟩).val := by
  have h := total_le (hsum hR)
  rw [rd_v60, dynamicSlice_eq_extract (s := S72) S1 _ _ _ (fun _ => last (cnt m c)) ⟨rfl, fun a => by
    match a with
    | ⟨0, _⟩ => show last (cnt m c) + 1 ≤ 72; unfold last; omega⟩ (fun a => ?_)]
  · exact (slice72 (V m c main_v25) _ _ _).trans (w25 hR _)
  · refine (congrArg BitVec.toInt (?_ : _ = BitVec.ofNat 32 (last (cnt m c)))).trans (toInt_w (by unfold last; omega))
    rw [rd_v59, rd_v57, rd_c_16]
    show Scalar.select (IntOp.cmpi .slt ((V m c main_v49 : IVec S_ 32) (Shape.Idx.first h_S_)) 0#32) _ ((V m c main_v49 : IVec S_ 32) (Shape.Idx.first h_S_)) = _
    rw [show (V m c main_v49 : IVec S_ 32) (Shape.Idx.first h_S_) = s0 (V m c main_v49) from congrArg (V m c main_v49 : IVec S_ 32) (eq_ix0 _), w49 hR]
    exact wrap_w (by unfold last; omega) _

theorem w62 (t : Fin 72) : s1 (V m c main_v62) t = if 1024 * t.val < total (cnt m c) then BitVec.ofNat 32 (exOf m c t).val
    else BitVec.ofNat 32 (exOf m c ⟨last (cnt m c), by have := total_le (hsum hR); unfold last; omega⟩).val := by
  have ht := t.isLt
  have h := total_le (hsum hR)
  rw [rd_v62, rd_v56, rd_v55, rd_call5_v0, rd_v61]
  show Scalar.select (IntOp.cmpi .slt (s1 (V m c main_v13) t) (broadcastInDim S72 ![] bcast_S_S72 (V m c main_v54 : IVec S_ 32) (ix1 t)))
    (s1 (V m c main_v25) t) (broadcastInDim S72 ![] bcast_S_S72 (shapeCast S_ (V m c main_v60 : IVec S1 32) shapeCasts_S1_S_) (ix1 t)) = _
  rw [show broadcastInDim S72 ![] bcast_S_S72 (V m c main_v54 : IVec S_ 32) (ix1 t) = s0 (V m c main_v54) from Routing.bc0 _ _ _, w54 hR, w13, w25 hR, slt_w (by omega) (by omega),
    show broadcastInDim S72 ![] bcast_S_S72 (shapeCast S_ (V m c main_v60 : IVec S1 32) shapeCasts_S1_S_) (ix1 t) = (V m c main_v60 : IVec S1 32) (ix1 (0 : Fin 1)) from
      (Routing.bc0 _ _ _).trans (cast10 _ _), w60 hR]

theorem total_ge : 1024 ≤ total (cnt m c) := by
  have h := hR.rank 0 0 ⟨_, hR.expert 0 0⟩ rfl
  exact total_pos (e := ⟨_, hR.expert 0 0⟩) (Nat.lt_of_le_of_lt (Nat.zero_le _) h)

/-- The tables the launch reads are a layout's. -/
theorem tables : Tables (s1 (V m c main_v62)) (s1 (V m c main_v47)) (s1 (V m c main_v52)) (last (cnt m c)) where
  last_lt := by have := total_le (hsum hR); unfold last; omega
  expert t := by
    rw [w62 hR]
    split
    · rw [toNat_w (by have := (exOf m c t).isLt; omega)]; exact (exOf m c t).isLt
    · rw [toNat_w (by omega)]; omega
  le t := by
    rw [w47 hR]
    split
    · exact (minsi_toInt_le _ _).trans (by decide)
    · decide
  pos t := by
    rw [le_last_iff (total_ge hR)]
    by_cases h : 1024 * t.val < total (cnt m c)
    · have h3 := rows_pos (use hR h).1 (use hR h).2
      rw [w47_use hR h, toInt_w (by omega)]
      exact ⟨fun _ => h, fun _ => by omega⟩
    · rw [w47 hR, if_neg h]
      exact ⟨fun q => absurd q (by decide), fun q => absurd q h⟩
  index t := by
    have ht := t.isLt
    rw [w52 hR, toNat_w (by omega)]

end Cert.KernelIdeal.Moe

end
-- ==== Proof.KI.Ready.lean ====
module

public import proofs.«01_k».proof.Proof.KI.Host
public import proofs.«01_k».proof.Proof.Routed

/-! The layout's needs and the tables' form, from the precondition. -/

@[expose] public section

set_option maxRecDepth 16384

noncomputable section

namespace Cert.KernelIdeal.Moe

open Cert.KernelIdeal.Gen Idealize.ShloMosaic Idealize.ShloMosaic.TcCoe Idealize.ShloMosaic.ValueIdx
open Cert.Wd Cert.Places
open Cert.Pre (Tables)

variable {F : FTy → Type} [FloatOps F]
variable (m : (ℓ : Loc nD τ sig) → Buf (Elt F) ℓ) (c : Dev nD)

/-- The precondition gives what the layout needs of the arguments. -/
theorem ready [Cert.Pre_routed.Facts]
    (h : Cert.Pre_routed.fn (F := F) (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) (m ((c : Thread nD τ).loc main_arg7)) (m ((c : Thread nD τ).loc main_arg8))
      (m ((c : Thread nD τ).loc main_arg9)) (m ((c : Thread nD τ).loc main_arg10)) = fun _ => 1#1) : Ready m c := by
  have hr := Cert.Pre.routed h
  have h1 : cntW m c = fun e => fptosi 32 (shapeCast Cert.Pre_routed.S32 (show Vec F S1x32 .f32 from m ((c : Thread nD τ).loc main_arg4)) Cert.Pre_routed.Facts.shapeCasts_S1x32_S32) (ix1 e) := by
    funext e
    unfold cntW
    rw [rd_v1, rd_v0, V_arg m c main_arg4 (by decide)]
    rfl
  have h2 : teW m c = fun n k => (show IVec S10240x4 32 from m ((c : Thread nD τ).loc main_arg1)) (ix2 n k) := by
    funext n k
    unfold teW
    rw [V_arg m c main_arg1 (by decide)]
    rfl
  have h3 : rkW m c = fun n k => (show IVec S10240x4 32 from m ((c : Thread nD τ).loc main_arg3)) (ix2 n k) := by
    funext n k
    unfold rkW
    rw [V_arg m c main_arg3 (by decide)]
    rfl
  unfold Ready
  rw [h1, h2, h3]
  exact hr

/-- The tile tables have their form. -/
theorem tables_of (hR : Ready m 0) : Tables (te (tbl m)) (tv (tbl m)) (ti (tbl m)) (last (cnt m 0)) := tables hR

end Cert.KernelIdeal.Moe

end
-- ==== Proof.KI.HostRows.lean ====
module

public import proofs.«01_k».proof.Proof.KI.Host

/-! Where the host lines put each row: the place of a row's choice, and the row found there. -/

@[expose] public section

set_option maxRecDepth 16384

noncomputable section

namespace Cert.KernelIdeal.Moe

open Cert.KernelIdeal.Gen Idealize.ShloMosaic Idealize.ShloMosaic.TcCoe Idealize.ShloMosaic.ValueIdx Idealize.ShloMosaic.WordCmp
open Cert.Wd Cert.Places
open Cert.Pre (pairOf)

variable {F : FTy → Type} [FloatOps F]
variable {m : (ℓ : Loc nD τ sig) → Buf (Elt F) ℓ} {c : Dev nD}

variable (hR : Ready m c)
include hR

/-- The expert of a row's choice. -/
def ch (n : Fin 10240) (k : Fin 4) : Fin 32 := ⟨(teW m c n k).toNat, hR.expert n k⟩

theorem rank_lt (n : Fin 10240) (k : Fin 4) : (rkW m c n k).toNat < cnt m c (ch hR n k) := hR.rank n k _ rfl

/-- The place of a row's choice. -/
def pl (n : Fin 10240) (k : Fin 4) : ℕ := start (cnt m c) (ch hR n k) + (rkW m c n k).toNat

theorem pl_lt (n : Fin 10240) (k : Fin 4) : pl hR n k < 72704 := place_lt (hsum hR) (rank_lt hR n k)

/-- The place of a row's choice, as a row of the dispatched array. -/
def plF (n : Fin 10240) (k : Fin 4) : Fin 73728 := ⟨pl hR n k, (pl_lt hR n k).trans (by decide)⟩

theorem pl_inj {n n' : Fin 10240} {k k' : Fin 4} (h : pl hR n k = pl hR n' k') : n = n' ∧ k = k' := by
  obtain ⟨h1, h2⟩ := place_inj (rank_lt hR n k) (rank_lt hR n' k') h
  exact hR.place n k n' k' (BitVec.eq_of_toNat_eq (show (ch hR n k).val = (ch hR n' k').val by rw [h1])) (BitVec.eq_of_toNat_eq h2)

theorem w67 (n : Fin 10240) (k : Fin 4) : s2 (V m c main_v67) n k = BitVec.ofNat 32 (ch hR n k).val := by
  rw [rd_v67, rd_v64, rd_v63, rd_c_18]
  show Scalar.select (IntOp.cmpi .slt (teW m c n k) 0#32) _ (teW m c n k) = _
  have h := hR.expert n k
  refine (Routing.wrap_of_lt _ _ (by show _ < 2 ^ 31; omega)).trans (ofNat_toNat _)

theorem w69 (n : Fin 10240) (k : Fin 4) : s2 (V m c main_v69) n k = BitVec.ofNat 32 (start (cnt m c) (ch hR n k)) := by
  rw [rd_v69]
  refine (gather_take_apply (N := 32) (R := 10240) (C := 4) (by decide) _ (V m c main_v10) (V m c main_v68) (ix2 n k)).trans ?_
  have hi : (V m c main_v68 : IVec S10240x4x1 32) (takeIdx (ix2 n k)) = BitVec.ofNat 32 (ch hR n k).val := by
    rw [rd_v68]
    refine (broadcastInDim_apply _ bcast_S10240x4_S10240x4x1_0_1 _ (takeIdx (ix2 n k)) (ix2 n k) fun a => ?_).trans (w67 hR n k)
    match a with
    | ⟨0, _⟩ => rfl
    | ⟨1, _⟩ => rfl
  refine (congrArg (fun q : Fin 32 => s1 (V m c main_v10) q) (Fin.ext ?_)).trans (w10 hR (ch hR n k))
  show min ((V m c main_v68 : IVec S10240x4x1 32) (takeIdx (ix2 n k))).toInt.toNat (32 - 1) = (ch hR n k).val
  have h := (ch hR n k).isLt
  rw [hi, toInt_w (by omega)]
  omega

theorem w70 (n : Fin 10240) (k : Fin 4) : s2 (V m c main_v70) n k = BitVec.ofNat 32 (pl hR n k) := by
  rw [rd_v70]
  show s2 (V m c main_v69) n k + rkW m c n k = _
  rw [w69 hR, ofNat_toNat (rkW m c n k), BitVec.ofNat_add_ofNat]
  rfl

omit hR in
/-- Every place in the flat list is a row's choice. -/
theorem unpair (p : Fin 40960) : ∃ n k, p = pairOf n k :=
  ⟨⟨p.val / 4, by omega⟩, ⟨p.val % 4, by omega⟩, Fin.ext (by show p.val = 4 * (p.val / 4) + p.val % 4; omega)⟩

theorem w75 (n : Fin 10240) (k : Fin 4) : s1 (V m c main_v75) (pairOf n k) = BitVec.ofNat 32 (pl hR n k) := by
  rw [rd_v75]
  exact (Routing.cast21 (a := 10240) (b := 4) (n := 40960) (V m c main_v70) _ n k (pairOf n k) (by show 4 * n.val + k.val = n.val * 4 + k.val; omega)).trans (w70 hR n k)

omit hR in
theorem w76 (n : Fin 10240) (k : Fin 4) : s1 (V m c main_v76) (pairOf n k) = BitVec.ofNat 32 n.val := by
  rw [rd_v76]
  refine (Routing.cast21 (a := 10240) (b := 4) (n := 40960) (V m c main_v73) _ n k (pairOf n k) (by show 4 * n.val + k.val = n.val * 4 + k.val; omega)).trans ?_
  rw [rd_v73, rd_v72]
  refine (Routing.bcRows (n := 10240) (m := 4) bcast_S10240_S10240x1_0 bcast_S10240x1_S10240x4_0_1 (V m c main_v71) n k).trans ?_
  rw [rd_v71]
  rfl

theorem w82 (n : Fin 10240) (k : Fin 4) : sc (V m c main_v82) (pairOf n k) = BitVec.ofNat 32 (pl hR n k) := by
  have h := pl_lt hR n k
  rw [rd_v82]
  refine (Routing.bcCol _ _ (pairOf n k)).trans ?_
  rw [rd_v81, rd_v78, rd_v77, rd_c_21]
  show Scalar.select (IntOp.cmpi .slt (s1 (V m c main_v75) (pairOf n k)) 0#32) _ (s1 (V m c main_v75) (pairOf n k)) = _
  rw [w75 hR]
  exact wrap_w (by omega) _

theorem w83 (n : Fin 10240) (k : Fin 4) : s1 (V m c main_v83) (plF hR n k) = BitVec.ofNat 32 n.val := by
  have h := pl_lt hR n k
  rw [rd_v83]
  refine (set_at (N := 73728) (n := 40960) scatter_S73728_S40960x1_S40960_n_0_0_1 rfl rfl rfl (V m c main_v74) (V m c main_v82) (V m c main_v76) (pairOf n k) (plF hR n k) ?_ ?_).trans (w76 n k)
  · refine (congrArg BitVec.toInt (w82 hR n k)).trans (toInt_w (by omega))
  · intro p hp
    obtain ⟨n', k', rfl⟩ := unpair p
    have h' := pl_lt hR n' k'
    have e : ((pl hR n' k' : ℕ) : ℤ) = (pl hR n k : ℕ) := ((congrArg BitVec.toInt (w82 hR n' k')).trans (toInt_w (by omega))).symm.trans hp
    obtain ⟨e1, e2⟩ := pl_inj hR (Int.ofNat.inj e)
    rw [e1, e2]

theorem wt5 (n : Fin 10240) (k : Fin 4) : sc (V m c main_call6_v5) (plF hR n k) = BitVec.ofNat 32 n.val := by
  have h := n.isLt
  rw [rd_call6_v5]
  refine (Routing.bcCol _ _ (plF hR n k)).trans ?_
  rw [rd_call6_v4, rd_call6_v1, rd_call6_v0, rd_call6_c]
  show Scalar.select (IntOp.cmpi .slt (s1 (V m c main_v83) (plF hR n k)) 0#32) _ (s1 (V m c main_v83) (plF hR n k)) = _
  rw [w83 hR]
  exact wrap_w (by omega) _

theorem wt11 (n : Fin 10240) (k : Fin 4) : (V m c main_call6_v11 : IVec S73728x1 1) (ix2 (plF hR n k) (0 : Fin 1)) = 1#1 := by
  have h := n.isLt
  rw [rd_call6_v11, rd_call6_v7, rd_call6_v10, rd_call6_v6, rd_call6_c_2, rd_call6_v9, rd_call6_v8, rd_call6_c_1]
  show IntOp.andi (IntOp.cmpi .sge (sc (V m c main_call6_v5) (plF hR n k)) 0#32) (IntOp.cmpi .sle (sc (V m c main_call6_v5) (plF hR n k)) (BitVec.ofNat 32 10239)) = 1#1
  rw [wt5 hR]
  exact inside (by omega) (by decide)

theorem wt12 (n : Fin 10240) (k : Fin 4) : (V m c main_call6_v12 : IVec S73728 1) (ix1 (plF hR n k)) = 1#1 := by
  refine (congrFun (rd_call6_v12 m c) (ix1 (plF hR n k))).trans ?_
  refine all_one (n := 73728) (V m c main_call6_v11) (V m c main_call6_c_3) reducesTo_S73728x1_S73728_d1 h_S_ (plF hR n k) ?_ (wt11 hR n k)
  rw [rd_call6_c_3]
  rfl

/-- The row found at the place of a row's choice is that row. -/
theorem row_at (n : Fin 10240) (k : Fin 4) (d : Fin 2048) :
    (V m c main_v84 : Vec F S73728x2048 .bf16) (ix2 (plF hR n k) d) = (V m c main_arg0 : Vec F S10240x2048 .bf16) (ix2 n d) := by
  rw [rd_v84, rd_call6_v14, rd_call6_v13]
  show Scalar.select (broadcastInDim S73728x2048 ![0] bcast_S73728_S73728x2048_0 (V m c main_call6_v12 : IVec S73728 1) (ix2 (plF hR n k) d))
    (Host.gather gather_S10240x2048_S73728x1_S73728x2048_1_0_n_n_0_1_12048 (V m c main_arg0 : Vec F S10240x2048 .bf16) (V m c main_call6_v5 : IVec S73728x1 32) (ix2 (plF hR n k) d)) _ = _
  rw [show broadcastInDim S73728x2048 ![0] bcast_S73728_S73728x2048_0 (V m c main_call6_v12 : IVec S73728 1) (ix2 (plF hR n k) d) = 1#1 from
    (broadcastInDim_apply _ bcast_S73728_S73728x2048_0 _ (ix2 (plF hR n k) d) (ix1 (plF hR n k)) fun a => by
      match a with
      | ⟨0, _⟩ => rfl).trans (wt12 hR n k), WordCmp.select_one]
  exact Routing.gather_row (nb := 10240) (B := 2048) (n := 73728) gather_S10240x2048_S73728x1_S73728x2048_1_0_n_n_0_1_12048 rfl rfl rfl rfl rfl
    (V m c main_arg0) (V m c main_call6_v5) (plF hR n k) d n (wt5 hR n k) (by decide)

/-! ## The tile of a place -/

/-- The tile of a row's choice. -/
def tl (n : Fin 10240) (k : Fin 4) : Fin 72 := ⟨pl hR n k / 1024, by have := pl_lt hR n k; omega⟩

theorem tl_use (n : Fin 10240) (k : Fin 4) : 1024 * (tl hR n k).val < total (cnt m c) ∧ exOf m c (tl hR n k) = ch hR n k := by
  obtain ⟨h1, h2, h3⟩ := place_tile (rank_lt hR n k)
  have hl : 1024 * (pl hR n k / 1024) < fin (cnt m c) (ch hR n k) := h2
  have he := hit_eq h1 h2
  refine ⟨?_, Fin.ext ?_⟩
  · exact lt_of_lt_of_le hl (fin_mono (cnt m c) (by have := (ch hR n k).isLt; exact Fin.le_def.2 (by show _ ≤ 31; omega)))
  · have hh : hit (cnt m c) (pl hR n k / 1024) = (ch hR n k).val := he
    show min (hit (cnt m c) (pl hR n k / 1024)) 31 = (ch hR n k).val
    have := (ch hR n k).isLt
    omega

theorem tl_expert (n : Fin 10240) (k : Fin 4) : (s1 (V m c main_v62) (tl hR n k)).toNat = (ch hR n k).val := by
  obtain ⟨h1, h2⟩ := tl_use hR n k
  have := (ch hR n k).isLt
  rw [w62 hR, if_pos h1, h2, toNat_w (by omega)]

theorem tl_row (n : Fin 10240) (k : Fin 4) : ((pl hR n k % 1024 : ℕ) : ℤ) < (s1 (V m c main_v47) (tl hR n k)).toInt := by
  obtain ⟨h1, h2⟩ := tl_use hR n k
  obtain ⟨_, _, h3⟩ := place_tile (rank_lt hR n k)
  have hm : pl hR n k % 1024 < 1024 := Nat.mod_lt _ (by decide)
  have h3' : pl hR n k % 1024 < cnt m c (ch hR n k) - (1024 * (tl hR n k).val - start (cnt m c) (ch hR n k)) := h3
  rw [w47_use hR h1, toInt_w (by omega), h2]
  exact Int.ofNat_lt.2 (Nat.lt_min.2 ⟨hm, h3'⟩)

end Cert.KernelIdeal.Moe

end
-- ==== Proof.KI.Tail.lean ====
module

public import proofs.«01_k».proof.Proof.KI.Reads
public import proofs.«01_k».proof.Proof.Line

/-! The host lines after the region, result by result, from any contents `W` before them. -/

@[expose] public section

set_option maxRecDepth 16384

noncomputable section

namespace Cert.KernelIdeal.Moe

open Cert.KernelIdeal.Gen Idealize.ShloMosaic Idealize.ShloMosaic.TcCoe

variable {F : FTy → Type} [FloatOps F]
variable (W : Valuation τ sig (Elt F))

/-- What the lines after the region write, in order. -/
abbrev postW : List (Ref sig .tc) := [main_v89, main_call7_c, main_call7_v0, main_call7_v1, main_call7_c_0, main_call7_v2, main_call7_v3, main_call7_v4, main_call7_v5, main_call7_c_1, main_call7_c_2, main_call7_v6, main_call7_v7, main_call7_v8, main_call7_v9, main_call7_v10, main_call7_v11, main_call7_c_3, main_call7_v12, main_call7_v13, main_call7_v14, main_call7_cst, main_call7_v15, main_v90, main_v91, main_v92, main_v93, main_v94, main_cst, main_v95]

theorem postWrites : Line.Writes (hostPost (F := F)).flatten postW := rfl

/-- What the lines after the region leave in a buffer. -/
def T (b : Ref sig .tc) : b.ty.Contents (Elt F) := StableHlo.after hostPost.flatten W (Proc.devRef .tc b)

theorem T_def (b : Ref sig .tc) : T (F := F) W b = StableHlo.after hostPost.flatten W (Proc.devRef .tc b) := rfl

attribute [irreducible] T

theorem T_old (b : Ref sig .tc) (hb : b ∉ postW) : T (F := F) W b = W (Proc.devRef .tc b) := by
  rw [T_def]; exact StableHlo.after_unwritten postW postWrites hb W

theorem tail_nullary (i : ℕ) {y : Ref sig .tc} {v : y.ty.Contents (Elt F)} {hy} (hop : (hostPost (F := F)).flatten[i]? = some (StableHlo.nullary y v hy)) (h : y ∉ postW.drop (i + 1) := by decide) :
    T (F := F) W y = v := by
  rw [T_def]; exact Line.nullary postWrites i _ hop h

theorem tail_unary (i : ℕ) {x y : Ref sig .tc} {f : x.ty.Contents (Elt F) → y.ty.Contents (Elt F)} {hx hy} (hop : (hostPost (F := F)).flatten[i]? = some (StableHlo.unary x y f hx hy))
    (h : y ∉ postW.drop (i + 1) := by decide) (h1 : x ∉ postW.drop i := by decide) : T (F := F) W y = f (T (F := F) W x) := by
  rw [T_def, T_def]; exact Line.unary postWrites i _ hop h h1

theorem tail_reshape (i : ℕ) {x y : Ref sig .tc} {he hn hx hy} (hop : (hostPost (F := F)).flatten[i]? = some (StableHlo.reshape x y he hn hx hy))
    (h : y ∉ postW.drop (i + 1) := by decide) (h1 : x ∉ postW.drop i := by decide) : T (F := F) W y = fun i => he ▸ shapeCast y.ty.shape (T (F := F) W x) hn i := by
  rw [T_def, T_def]; exact Line.reshape postWrites i _ hop h h1

theorem tail_binary (i : ℕ) {a b y : Ref sig .tc} {f : a.ty.Contents (Elt F) → b.ty.Contents (Elt F) → y.ty.Contents (Elt F)} {ha hb hy} (hop : (hostPost (F := F)).flatten[i]? = some (StableHlo.binary a b y f ha hb hy))
    (h : y ∉ postW.drop (i + 1) := by decide) (h1 : a ∉ postW.drop i := by decide) (h2 : b ∉ postW.drop i := by decide) : T (F := F) W y = f (T (F := F) W a) (T (F := F) W b) := by
  rw [T_def, T_def, T_def]; exact Line.binary postWrites i _ hop h h1 h2

theorem tail_ternary (i : ℕ) {p a b y : Ref sig .tc} {f : p.ty.Contents (Elt F) → a.ty.Contents (Elt F) → b.ty.Contents (Elt F) → y.ty.Contents (Elt F)} {hp ha hb hy}
    (hop : (hostPost (F := F)).flatten[i]? = some (StableHlo.ternary p a b y f hp ha hb hy)) (h : y ∉ postW.drop (i + 1) := by decide) (h0 : p ∉ postW.drop i := by decide) (h1 : a ∉ postW.drop i := by decide) (h2 : b ∉ postW.drop i := by decide) :
    T (F := F) W y = f (T (F := F) W p) (T (F := F) W a) (T (F := F) W b) := by
  rw [T_def, T_def, T_def, T_def]; exact Line.ternary postWrites i _ hop h h0 h1 h2

theorem rd_v89 : T (F := F) W main_v89 = shapeCast S40960 (show Vec F S10240x4 .i32 from T (F := F) W main_v70) shapeCasts_S10240x4_S40960 :=
  tail_reshape W 0 rfl
theorem rd_call7_c : T (F := F) W main_call7_c = ((constantI S_ 32 0#32) : Ct F S_ .i32) :=
  tail_nullary W 1 rfl
theorem rd_call7_v0 : T (F := F) W main_call7_v0 = ((broadcastInDim S40960 ![] bcast_S_S40960) : Ct F S_ .i32 → Ct F S40960 .i32) (T (F := F) W main_call7_c) :=
  tail_unary W 2 rfl
theorem rd_call7_v1 : T (F := F) W main_call7_v1 = ((cmpi .slt) : Ct F S40960 .i32 → Ct F S40960 .i32 → Ct F S40960 .i1) (T (F := F) W main_v89) (T (F := F) W main_call7_v0) :=
  tail_binary W 3 rfl
theorem rd_call7_c_0 : T (F := F) W main_call7_c_0 = ((constantI S_ 32 73728#32) : Ct F S_ .i32) :=
  tail_nullary W 4 rfl
theorem rd_call7_v2 : T (F := F) W main_call7_v2 = ((broadcastInDim S40960 ![] bcast_S_S40960) : Ct F S_ .i32 → Ct F S40960 .i32) (T (F := F) W main_call7_c_0) :=
  tail_unary W 5 rfl
theorem rd_call7_v3 : T (F := F) W main_call7_v3 = (addi : Ct2 F S40960 .i32) (T (F := F) W main_v89) (T (F := F) W main_call7_v2) :=
  tail_binary W 6 rfl
theorem rd_call7_v4 : T (F := F) W main_call7_v4 = (select : Ct F S40960 .i1 → Ct F S40960 .i32 → Ct F S40960 .i32 → Ct F S40960 .i32) (T (F := F) W main_call7_v1) (T (F := F) W main_call7_v3) (T (F := F) W main_v89) :=
  tail_ternary W 7 rfl
theorem rd_call7_v5 : T (F := F) W main_call7_v5 = ((broadcastInDim S40960x1 ![0] bcast_S40960_S40960x1_0) : Ct F S40960 .i32 → Ct F S40960x1 .i32) (T (F := F) W main_call7_v4) :=
  tail_unary W 8 rfl
theorem rd_call7_c_1 : T (F := F) W main_call7_c_1 = ((constantI S1 32 73727#32) : Ct F S1 .i32) :=
  tail_nullary W 9 rfl
theorem rd_call7_c_2 : T (F := F) W main_call7_c_2 = ((constantI S_ 32 0#32) : Ct F S_ .i32) :=
  tail_nullary W 10 rfl
theorem rd_call7_v6 : T (F := F) W main_call7_v6 = ((broadcastInDim S40960x1 ![] bcast_S_S40960x1) : Ct F S_ .i32 → Ct F S40960x1 .i32) (T (F := F) W main_call7_c_2) :=
  tail_unary W 11 rfl
theorem rd_call7_v7 : T (F := F) W main_call7_v7 = ((cmpi .sge) : Ct F S40960x1 .i32 → Ct F S40960x1 .i32 → Ct F S40960x1 .i1) (T (F := F) W main_call7_v5) (T (F := F) W main_call7_v6) :=
  tail_binary W 12 rfl
theorem rd_call7_v8 : T (F := F) W main_call7_v8 = ((broadcastInDim S1x1 ![1] bcast_S1_S1x1_1) : Ct F S1 .i32 → Ct F S1x1 .i32) (T (F := F) W main_call7_c_1) :=
  tail_unary W 13 rfl
theorem rd_call7_v9 : T (F := F) W main_call7_v9 = ((broadcastInDim S40960x1 ![0, 1] bcast_S1x1_S40960x1_0_1) : Ct F S1x1 .i32 → Ct F S40960x1 .i32) (T (F := F) W main_call7_v8) :=
  tail_unary W 14 rfl
theorem rd_call7_v10 : T (F := F) W main_call7_v10 = ((cmpi .sle) : Ct F S40960x1 .i32 → Ct F S40960x1 .i32 → Ct F S40960x1 .i1) (T (F := F) W main_call7_v5) (T (F := F) W main_call7_v9) :=
  tail_binary W 15 rfl
theorem rd_call7_v11 : T (F := F) W main_call7_v11 = (andi : Ct2 F S40960x1 .i1) (T (F := F) W main_call7_v7) (T (F := F) W main_call7_v10) :=
  tail_binary W 16 rfl
theorem rd_call7_c_3 : T (F := F) W main_call7_c_3 = ((constantI S_ 1 1#1) : Ct F S_ .i1) :=
  tail_nullary W 17 rfl
theorem tail_call7_v12 (f : Ct F S40960x1 .i1 → Ct F S_ .i1 → Ct F S40960 .i1) (hop : (hostPost (F := F)).flatten[18]? = some (StableHlo.TRef.binary (.of main_call7_v11 : StableHlo.TRef sig ⟨S40960x1, .i1⟩) (.of main_call7_c_3 : StableHlo.TRef sig ⟨S_, .i1⟩) (.of main_call7_v12 : StableHlo.TRef sig ⟨S40960, .i1⟩) f)) : T (F := F) W main_call7_v12 = f (T (F := F) W main_call7_v11) (T (F := F) W main_call7_c_3) :=
  tail_binary W 18 hop (by decide) (by decide) (by decide)
theorem rd_call7_v12 : T (F := F) W main_call7_v12 = ((fun x v => Host.reduce IntOp.andi x v reducesTo_S40960x1_S40960_d1 h_S_) : Ct F S40960x1 .i1 → Ct F S_ .i1 → Ct F S40960 .i1) (T (F := F) W main_call7_v11) (T (F := F) W main_call7_c_3) :=
  tail_call7_v12 W _ rfl
theorem rd_call7_v13 : T (F := F) W main_call7_v13 = ((fun x i => Host.gather gather_S73728x2048_S40960x1_S40960x2048_1_0_n_n_0_1_12048 x i) : Ct F S73728x2048 .f32 → Ct F S40960x1 .i32 → Ct F S40960x2048 .f32) (T (F := F) W main_v88) (T (F := F) W main_call7_v5) :=
  tail_binary W 19 rfl
theorem rd_call7_v14 : T (F := F) W main_call7_v14 = ((broadcastInDim S40960x2048 ![0] bcast_S40960_S40960x2048_0) : Ct F S40960 .i1 → Ct F S40960x2048 .i1) (T (F := F) W main_call7_v12) :=
  tail_unary W 20 rfl
theorem rd_call7_cst : T (F := F) W main_call7_cst = ((constant S_ .f32 0x7FC00000#32) : Ct F S_ .f32) :=
  tail_nullary W 21 rfl
theorem rd_call7_v15 : T (F := F) W main_call7_v15 = ((broadcastInDim S40960x2048 ![] bcast_S_S40960x2048) : Ct F S_ .f32 → Ct F S40960x2048 .f32) (T (F := F) W main_call7_cst) :=
  tail_unary W 22 rfl
theorem rd_v90 : T (F := F) W main_v90 = (select : Ct F S40960x2048 .i1 → Ct F S40960x2048 .f32 → Ct F S40960x2048 .f32 → Ct F S40960x2048 .f32) (T (F := F) W main_call7_v14) (T (F := F) W main_call7_v13) (T (F := F) W main_call7_v15) :=
  tail_ternary W 23 rfl
theorem rd_v91 : T (F := F) W main_v91 = shapeCast S10240x4x2048 (show Vec F S40960x2048 .f32 from T (F := F) W main_v90) shapeCasts_S40960x2048_S10240x4x2048 :=
  tail_reshape W 24 rfl
theorem rd_v92 : T (F := F) W main_v92 = (broadcastInDim S10240x4x1 ![0, 1] bcast_S10240x4_S10240x4x1_0_1 : Ct F S10240x4 .f32 → Ct F S10240x4x1 .f32) (T (F := F) W main_arg2) :=
  tail_unary W 25 rfl
theorem rd_v93 : T (F := F) W main_v93 = (broadcastInDim S10240x4x2048 ![0, 1, 2] bcast_S10240x4x1_S10240x4x2048_0_1_2 : Ct F S10240x4x1 .f32 → Ct F S10240x4x2048 .f32) (T (F := F) W main_v92) :=
  tail_unary W 26 rfl
theorem rd_v94 : T (F := F) W main_v94 = (mulf : Ct2 F S10240x4x2048 .f32) (T (F := F) W main_v91) (T (F := F) W main_v93) :=
  tail_binary W 27 rfl
theorem rd_cst : T (F := F) W main_cst = (constant S_ .f32 0x00000000#32) :=
  tail_nullary W 28 rfl
theorem rd_v95 : T (F := F) W main_v95 = ((fun x v => Host.reduceAdd x v reducesTo_S10240x4x2048_S10240x2048_d1 h_S_) : Ct F S10240x4x2048 .f32 → Ct F S_ .f32 → Ct F S10240x2048 .f32) (T (F := F) W main_v94) (T (F := F) W main_cst) :=
  tail_binary W 29 rfl

end Cert.KernelIdeal.Moe

end
-- ==== Proof.KI.Combine.lean ====
module

public import proofs.«01_k».proof.Proof.KI.Tail
public import proofs.«01_k».proof.Proof.Wd
public import proofs.«01_k».proof.Proof.Routed
public import Idealize.ShloMosaic.Lib.IdealHost

/-! The host lines after the region: each row's four results are picked at their places and added up, weighed by the
gates. -/

@[expose] public section

set_option maxRecDepth 16384

noncomputable section

namespace Cert.KernelIdeal.Moe

open Cert.KernelIdeal.Gen Idealize.ShloMosaic Idealize.ShloMosaic.TcCoe Idealize.ShloMosaic.ValueIdx Idealize.ShloMosaic.WordCmp
open Cert.Wd
open Cert.Pre (pairOf)
open scoped BigOperators

variable {W : Valuation τ sig (Elt Ideal)}

section
variable {pl : Fin 10240 → Fin 4 → Fin 73728}
variable (hp : ∀ n k, s2 (show IVec S10240x4 32 from W (Proc.devRef .tc main_v70)) n k = BitVec.ofNat 32 (pl n k).val)
include hp

theorem t89 (n : Fin 10240) (k : Fin 4) : s1 (T (F := Ideal) W main_v89) (pairOf n k) = BitVec.ofNat 32 (pl n k).val := by
  rw [rd_v89, T_old W main_v70 (by decide)]
  exact (Routing.cast21 (a := 10240) (b := 4) (n := 40960) (show IVec S10240x4 32 from W (Proc.devRef .tc main_v70)) _ n k (pairOf n k) (by show 4 * n.val + k.val = n.val * 4 + k.val; omega)).trans (hp n k)

theorem t5 (n : Fin 10240) (k : Fin 4) : sc (T (F := Ideal) W main_call7_v5) (pairOf n k) = BitVec.ofNat 32 (pl n k).val := by
  have h := (pl n k).isLt
  rw [rd_call7_v5]
  refine (Routing.bcCol _ _ (pairOf n k)).trans ?_
  rw [rd_call7_v4, rd_call7_v1, rd_call7_v0, rd_call7_c]
  show Scalar.select (IntOp.cmpi .slt (s1 (T (F := Ideal) W main_v89) (pairOf n k)) 0#32) _ (s1 (T (F := Ideal) W main_v89) (pairOf n k)) = _
  rw [t89 hp]
  exact wrap_w (by omega) _

theorem t11 (n : Fin 10240) (k : Fin 4) : (T (F := Ideal) W main_call7_v11 : IVec S40960x1 1) (ix2 (pairOf n k) (0 : Fin 1)) = 1#1 := by
  have h := (pl n k).isLt
  rw [rd_call7_v11, rd_call7_v7, rd_call7_v10, rd_call7_v6, rd_call7_c_2, rd_call7_v9, rd_call7_v8, rd_call7_c_1]
  show IntOp.andi (IntOp.cmpi .sge (sc (T (F := Ideal) W main_call7_v5) (pairOf n k)) 0#32) (IntOp.cmpi .sle (sc (T (F := Ideal) W main_call7_v5) (pairOf n k)) (BitVec.ofNat 32 73727)) = 1#1
  rw [t5 hp]
  exact inside (by omega) (by decide)

theorem t12 (n : Fin 10240) (k : Fin 4) : (T (F := Ideal) W main_call7_v12 : IVec S40960 1) (ix1 (pairOf n k)) = 1#1 := by
  refine (congrFun (rd_call7_v12 W) (ix1 (pairOf n k))).trans ?_
  refine all_one (n := 40960) (T (F := Ideal) W main_call7_v11) (T (F := Ideal) W main_call7_c_3) reducesTo_S40960x1_S40960_d1 h_S_ (pairOf n k) ?_ (t11 hp n k)
  rw [rd_call7_c_3]
  rfl

/-- The picked rows are the call's rows at the places. -/
theorem t90 (n : Fin 10240) (k : Fin 4) (d : Fin 2048) :
    (T (F := Ideal) W main_v90 : Vec Ideal S40960x2048 .f32) (ix2 (pairOf n k) d) = (show Vec Ideal S73728x2048 .f32 from W (Proc.devRef .tc main_v88)) (ix2 (pl n k) d) := by
  rw [rd_v90, rd_call7_v14, rd_call7_v13, T_old W main_v88 (by decide)]
  show Scalar.select (broadcastInDim S40960x2048 ![0] bcast_S40960_S40960x2048_0 (T (F := Ideal) W main_call7_v12 : IVec S40960 1) (ix2 (pairOf n k) d))
    (Host.gather gather_S73728x2048_S40960x1_S40960x2048_1_0_n_n_0_1_12048 (show Vec Ideal S73728x2048 .f32 from W (Proc.devRef .tc main_v88)) (T (F := Ideal) W main_call7_v5 : IVec S40960x1 32) (ix2 (pairOf n k) d)) _ = _
  rw [show broadcastInDim S40960x2048 ![0] bcast_S40960_S40960x2048_0 (T (F := Ideal) W main_call7_v12 : IVec S40960 1) (ix2 (pairOf n k) d) = 1#1 from
    (broadcastInDim_apply _ bcast_S40960_S40960x2048_0 _ (ix2 (pairOf n k) d) (ix1 (pairOf n k)) fun a => by
      match a with
      | ⟨0, _⟩ => rfl).trans (t12 hp n k), WordCmp.select_one]
  exact Routing.gather_row (nb := 73728) (B := 2048) (n := 40960) gather_S73728x2048_S40960x1_S40960x2048_1_0_n_n_0_1_12048 rfl rfl rfl rfl rfl
    (show Vec Ideal S73728x2048 .f32 from W (Proc.devRef .tc main_v88)) (T (F := Ideal) W main_call7_v5) (pairOf n k) d (pl n k) (t5 hp n k) (by decide)

theorem t91 (n : Fin 10240) (k : Fin 4) (d : Fin 2048) :
    (T (F := Ideal) W main_v91 : Vec Ideal S10240x4x2048 .f32) (ix3 n k d) = (show Vec Ideal S73728x2048 .f32 from W (Proc.devRef .tc main_v88)) (ix2 (pl n k) d) := by
  rw [rd_v91]
  refine (shapeCast_apply _ _ _ (ix2 (pairOf n k) d) ?_).trans (t90 hp n k d)
  rw [Shape.rowMajor_val_three, Shape.rowMajor_val_two]
  show (4 * n.val + k.val) * 2048 + d.val = (n.val * 4 + k.val) * 2048 + d.val
  omega

omit hp in
theorem t93 (n : Fin 10240) (k : Fin 4) (d : Fin 2048) :
    (T (F := Ideal) W main_v93 : Vec Ideal S10240x4x2048 .f32) (ix3 n k d) = (show Vec Ideal S10240x4 .f32 from W (Proc.devRef .tc main_arg2)) (ix2 n k) := by
  rw [rd_v93, rd_v92, T_old W main_arg2 (by decide)]
  refine (broadcastInDim_apply _ bcast_S10240x4x1_S10240x4x2048_0_1_2 _ (ix3 n k d) (ix3 n k (0 : Fin 1)) fun a => ?_).trans
    (broadcastInDim_apply _ bcast_S10240x4_S10240x4x1_0_1 _ (ix3 n k (0 : Fin 1)) (ix2 n k) fun a => ?_)
  · match a with
    | ⟨0, _⟩ => rfl
    | ⟨1, _⟩ => rfl
    | ⟨2, _⟩ => rfl
  · match a with
    | ⟨0, _⟩ => rfl
    | ⟨1, _⟩ => rfl

/-- The result: a row's four picked rows, each times its gate. -/
theorem t95 (n : Fin 10240) (d : Fin 2048) :
    (T (F := Ideal) W main_v95 : Vec Ideal S10240x2048 .f32) (ix2 n d)
      = ∑ k : Fin 4, (show EReal from (show Vec Ideal S73728x2048 .f32 from W (Proc.devRef .tc main_v88)) (ix2 (pl n k) d)) * (show Vec Ideal S10240x4 .f32 from W (Proc.devRef .tc main_arg2)) (ix2 n k) := by
  rw [rd_v95]
  show Host.reduceAdd (F := Ideal) (φ := .f32) (T (F := Ideal) W main_v94 : Vec Ideal S10240x4x2048 .f32) (T (F := Ideal) W main_cst : Vec Ideal S_ .f32) reducesTo_S10240x4x2048_S10240x2048_d1 h_S_ (ix2 n d) = _
  have h := fun k : Fin 4 => congrArg₂ (fun p q : EReal => p * q) (t91 hp n k d) (t93 (W := W) n k d)
  have h94 : ∀ k : Fin 4, (T (F := Ideal) W main_v94 : Vec Ideal S10240x4x2048 .f32) (ix3 n k d)
      = (show EReal from (show Vec Ideal S73728x2048 .f32 from W (Proc.devRef .tc main_v88)) (ix2 (pl n k) d)) * (show Vec Ideal S10240x4 .f32 from W (Proc.devRef .tc main_arg2)) (ix2 n k) := fun k => by
    rw [rd_v94]; exact h k
  have hc : (T (F := Ideal) W main_cst : Vec Ideal S_ .f32) (Shape.Idx.first h_S_) = (0 : EReal) := by
    rw [rd_cst]; exact Ideal.ofBits_zero_f32
  generalize (T (F := Ideal) W main_v94 : Vec Ideal S10240x4x2048 .f32) = y at h94 ⊢
  generalize (T (F := Ideal) W main_cst : Vec Ideal S_ .f32) = z at hc ⊢
  simp only [Host.reduceAdd, Ideal.hostReduceAdd_def]
  rw [Ideal.hostReduceAdd_single reducesTo_S10240x4x2048_S10240x2048_d1 (by decide), hc, zero_add]
  refine Finset.sum_congr rfl fun k _ => Eq.trans (congrArg y (funext fun a => Fin.ext ?_)) (h94 k)
  match a with
  | ⟨0, _⟩ => rfl
  | ⟨1, _⟩ => rfl
  | ⟨2, _⟩ => rfl
end

end Cert.KernelIdeal.Moe

end
-- ==== Proof.KI.Final.lean ====
module

public import proofs.«01_k».proof.Proof.KI.Value
public import proofs.«01_k».proof.Proof.KI.Frame
public import proofs.«01_k».proof.Proof.KI.Ready
public import proofs.«01_k».proof.Proof.KI.HostRows
public import proofs.«01_k».proof.Proof.KI.Combine
public import Idealize.ShloMosaic.Lib.Claim
public import Idealize.ShloMosaic.Lib.StableHlo.Run

/-! The run over the extended reals: every row of the result is the sum of its four experts' feed-forward outputs, each
    times its gate, in the program's arguments. -/

@[expose] public section

set_option maxRecDepth 16384

noncomputable section

namespace Cert.KernelIdeal.Moe

open Cert.Pre (Tables)
open Cert.Wd Cert.Places
open scoped BigOperators
open Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg) (c : Dev nD)

theorem unit_axis_apply (b : Vec Ideal S32x2048 .f32) (e : Fin 32) (f : Fin 2048) :
    shapeCast S32x1x2048 b shapeCasts_S32x2048_S32x1x2048 (ValueIdx.ix3 e (0 : Fin 1) f) = b (ValueIdx.ix2 e f) := by
  refine shapeCast_apply b _ _ _ ?_
  rw [Shape.rowMajor_val_three, Shape.rowMajor_val_two]
  show e.val * 2048 + f.val = (e.val * 1 + 0) * 2048 + f.val
  omega

/-- The feed-forward output of token `n` under an expert, in the program's arguments. -/
def ffnOf (n : Fin 10240) (e : Fin 32) (d : Fin 2048) : EReal :=
  Spec.ffn (fun d => (show Vec Ideal S10240x2048 .bf16 from m ((c : Thread nD τ).loc main_arg0)) (ValueIdx.ix2 n d))
    (fun d f => (show Vec Ideal S32x2048x2048 .f32 from m ((c : Thread nD τ).loc main_arg5)) (ValueIdx.ix3 e d f))
    (fun f => (show Vec Ideal S32x2048 .f32 from m ((c : Thread nD τ).loc main_arg6)) (ValueIdx.ix2 e f))
    (fun d f => (show Vec Ideal S32x2048x2048 .f32 from m ((c : Thread nD τ).loc main_arg7)) (ValueIdx.ix3 e d f))
    (fun f => (show Vec Ideal S32x2048 .f32 from m ((c : Thread nD τ).loc main_arg8)) (ValueIdx.ix2 e f))
    (fun f => (show Vec Ideal S32x2048x2048 .f32 from m ((c : Thread nD τ).loc main_arg9)) (ValueIdx.ix3 e f d))
    ((show Vec Ideal S32x2048 .f32 from m ((c : Thread nD τ).loc main_arg10)) (ValueIdx.ix2 e d))

/-- At the place of a token's choice the call computes the token's feed-forward output. -/
theorem ffn_args (hR : Ready m c) (n : Fin 10240) (k : Fin 4) (e : Fin 32) (d : Fin 2048) :
    Spec.ffn (rowX m c (plF hR n k)) (matG m c e) (vecG m c e) (matU m c e) (vecU m c e) (fun f => matD m c e f d) (vecD m c e d) = ffnOf m c n e d := by
  have hX : rowX m c (plF hR n k) = fun d => (show Vec Ideal S10240x2048 .bf16 from m ((c : Thread nD τ).loc main_arg0)) (ValueIdx.ix2 n d) := funext fun d => by
    unfold rowX
    refine (row_at hR n k d).trans ?_
    rw [V_arg m c main_arg0 (by decide)]
  have hG : vecG m c e = fun f => (show Vec Ideal S32x2048 .f32 from m ((c : Thread nD τ).loc main_arg6)) (ValueIdx.ix2 e f) := funext fun f => by
    unfold vecG; rw [rd_v85, V_arg m c main_arg6 (by decide)]; exact unit_axis_apply _ e f
  have hU : vecU m c e = fun f => (show Vec Ideal S32x2048 .f32 from m ((c : Thread nD τ).loc main_arg8)) (ValueIdx.ix2 e f) := funext fun f => by
    unfold vecU; rw [rd_v86, V_arg m c main_arg8 (by decide)]; exact unit_axis_apply _ e f
  have hD : vecD m c e d = (show Vec Ideal S32x2048 .f32 from m ((c : Thread nD τ).loc main_arg10)) (ValueIdx.ix2 e d) := by
    unfold vecD; rw [rd_v87, V_arg m c main_arg10 (by decide)]; exact unit_axis_apply _ e d
  rw [hX, hG, hU, hD]
  unfold matG matU matD ffnOf
  rw [V_arg m c main_arg5 (by decide), V_arg m c main_arg7 (by decide), V_arg m c main_arg9 (by decide)]

theorem arr_inj : Function.Injective (Pipeline.arrRef spec0) := by decide

/-- The buffers between the region and the lines after it. -/
def mid (hO : Ok m) : Valuation τ sig (Elt Ideal) :=
  Pipeline.withArrays (Pipeline.pin pcfgs (fun _ => adm m hO) 0).spec c (V₀ m c) fun w => (datsV m hO 0 c).arrAt w (Pipeline.pin pcfgs (fun _ => adm m hO) 0).N

theorem mid_out (hO : Ok m) : mid m c hO (Proc.devRef .tc main_v88) = (datsV m hO 0 c).arrAt 7 (cfgM m hO).N :=
  Pipeline.withArrays_arr spec0 arr_inj c (V₀ m c) (fun w => (datsV m hO 0 c).arrAt w (cfgM m hO).N) 7

theorem mid_other (hO : Ok m) (b : Ref sig .tc) (hb : ∀ w, Pipeline.arrRef spec0 w ≠ b) : mid m c hO (Proc.devRef .tc b) = V m c b :=
  Pipeline.withArrays_of_ne spec0 c (V₀ m c) (fun w => (datsV m hO 0 c).arrAt w (cfgM m hO).N) b hb

/-- The run ends with every row at the weighed sum of its experts' outputs. -/
theorem run_value (hR : Ready m 0) :
    θ_run defs (onTc (τ := τ) (main (F := Ideal))) ⟨m, fun _ => 0, ρ⟩ (fun r => ∀ (n : Fin 10240) (d : Fin 2048),
        (show Vec Ideal S10240x2048 .f32 from r.2.mem (((0 : Dev nD).tc : Thread nD τ).loc main_v95)) (ValueIdx.ix2 n d)
          = ∑ k : Fin 4, ffnOf m 0 n (ch hR n k) d * (show Vec Ideal S10240x4 .f32 from m (((0 : Dev nD) : Thread nD τ).loc main_arg2)) (ValueIdx.ix2 n k)) := by
  have hT := tables_of m hR
  refine (θ_run defs _ _).mono (fun r h n d => ?_) (run_mainV m ρ (ok_of hT) hT)
  have h95 : r.2.mem (((0 : Dev nD).tc : Thread nD τ).loc main_v95) = T (F := Ideal) (mid m 0 (ok_of hT)) main_v95 := by
    rw [T_def]
    exact (h 0).2 main_v95 (by decide : main_v95 ∈ Pipeline.restRefs sig spec0)
  have hp : ∀ n k, s2 (show IVec S10240x4 32 from mid m 0 (ok_of hT) (Proc.devRef .tc main_v70)) n k = BitVec.ofNat 32 (plF hR n k).val := fun n k => by
    rw [mid_other m 0 (ok_of hT) main_v70 (by decide)]
    exact w70 hR n k
  rw [h95]
  refine (t95 hp n d).trans (Finset.sum_congr (M := EReal) rfl fun k _ => congrArg₂ (fun p q : EReal => p * q) ?_ ?_)
  · rw [mid_out]
    have hl : (tl hR n k).val ≤ last (cnt m 0) := (hT.pos _).1 (lt_of_le_of_lt (Int.natCast_nonneg _) (tl_row hR n k))
    refine (arrAt_apply (ok_of hT) hT 0 (ValueIdx.ix2 (plF hR n k) d) hl).trans ?_
    refine (outArr_apply (ok_of hT) hT 0 (plF hR n k) d (tl hR n k) rfl hl (tl_row hR n k) (ch hR n k) (tl_expert hR n k).symm).trans ?_
    exact ffn_args m 0 hR n k (ch hR n k) d
  · rw [mid_other m 0 (ok_of hT) main_arg2 (by decide), V_arg m 0 main_arg2 (by decide)]

/-- The expert of a row's choice, in the program's argument. -/
theorem ch_val (hR : Ready m c) (n : Fin 10240) (k : Fin 4) :
    (ch hR n k).val = ((show IVec S10240x4 32 from m ((c : Thread nD τ).loc main_arg1)) (ValueIdx.ix2 n k)).toNat := by
  show (teW m c n k).toNat = _
  unfold teW
  rw [V_arg m c main_arg1 (by decide)]
  rfl

/-- A row's four experts are different. -/
theorem ch_inj (hR : Ready m c) (n : Fin 10240) : Function.Injective (ch hR n) := fun k k' h =>
  hR.row n k k' (BitVec.eq_of_toNat_eq (show (ch hR n k).val = (ch hR n k').val by rw [h]))

end Cert.KernelIdeal.Moe

end
-- ==== Proof.Combine.lean ====
module

public import Idealize.ShloMosaic.PureOps.Ideal.Laws

/-! A token's combination weights: zero for every expert but the four it chose. Over the extended reals the sum over
all experts is then the sum over the four choices. -/

@[expose] public section

noncomputable section

namespace Cert.Combine

open scoped BigOperators

/-- The weight of a chosen expert is its gate. -/
theorem weight_chosen (ch : Fin 4 → Fin 32) (hch : Function.Injective ch) (g : Fin 4 → EReal) (k : Fin 4) :
    (∑ k' : Fin 4, (if ch k = ch k' then (1 : EReal) else 0) * g k') = g k := by
  rw [Finset.sum_eq_single k]
  · rw [if_pos rfl, one_mul]
  · intro b _ hb
    rw [if_neg (fun h => hb (hch h).symm), zero_mul]
  · exact fun h => absurd (Finset.mem_univ k) h

/-- The weight of an expert the token did not choose is zero. -/
theorem weight_other (ch : Fin 4 → Fin 32) (g : Fin 4 → EReal) (e : Fin 32) (he : ∀ k, ch k ≠ e) :
    (∑ k' : Fin 4, (if e = ch k' then (1 : EReal) else 0) * g k') = 0 :=
  Finset.sum_eq_zero fun k _ => by rw [if_neg (fun h => he k h.symm), zero_mul]

/-- Weighing every expert's output is weighing the four chosen ones by their gates. -/
theorem sum_experts (ch : Fin 4 → Fin 32) (hch : Function.Injective ch) (g : Fin 4 → EReal) (o : Fin 32 → EReal) :
    (∑ e : Fin 32, (∑ k : Fin 4, (if e = ch k then (1 : EReal) else 0) * g k) * o e) = ∑ k : Fin 4, o (ch k) * g k := by
  rw [← Finset.sum_subset (Finset.subset_univ (Finset.univ.image ch)), Finset.sum_image (fun a _ b _ h => hch h)]
  · refine Finset.sum_congr rfl fun k _ => ?_
    rw [weight_chosen ch hch g k, mul_comm]
  · intro e _ he
    rw [weight_other ch g e (fun k h => he (Finset.mem_image.2 ⟨k, Finset.mem_univ k, h⟩)), zero_mul]

end Cert.Combine

end
-- ==== Proof.RI.Value.lean ====
module

public import proofs.«01_k».proof.Proof.Gen.ReferenceIdeal.Read
public import proofs.«01_k».proof.Proof.Spec
public import proofs.«01_k».proof.Proof.Combine
public import Idealize.ShloMosaic.Lib.IdealHost
public import Idealize.ShloMosaic.Lib.WordCmp

/-! The reference's result, element by element: the four chosen experts' outputs, weighed by the gates. -/

@[expose] public section

noncomputable section

namespace Cert.ReferenceIdeal.Moe

open Cert.ReferenceIdeal Cert.ReferenceIdeal.Gen Cert.ReferenceIdeal.Read Idealize.ShloMosaic
open scoped BigOperators

variable (x0 : (⟨S10240x2048, .bf16⟩ : BufTy).Contents (Elt Ideal)) (x1 : (⟨S10240x4, .i32⟩ : BufTy).Contents (Elt Ideal)) (x2 : (⟨S10240x4, .f32⟩ : BufTy).Contents (Elt Ideal))
  (x5 : (⟨S32x2048x2048, .f32⟩ : BufTy).Contents (Elt Ideal))
  (x6 : (⟨S32x2048, .f32⟩ : BufTy).Contents (Elt Ideal)) (x7 : (⟨S32x2048x2048, .f32⟩ : BufTy).Contents (Elt Ideal)) (x8 : (⟨S32x2048, .f32⟩ : BufTy).Contents (Elt Ideal))
  (x9 : (⟨S32x2048x2048, .f32⟩ : BufTy).Contents (Elt Ideal)) (x10 : (⟨S32x2048, .f32⟩ : BufTy).Contents (Elt Ideal))

/-- Whether token `n`'s choice `k` is expert `e`, as one or zero. -/
theorem hot_apply (n : Fin 10240) (k : Fin 4) (e : Fin 32) :
    val_main_v1 (F := Ideal) x1 (ValueIdx.ix3 n k e) = if e.val = (x1 (ValueIdx.ix2 n k)).toNat then (1 : EReal) else 0 := by
  rw [val_main_v1_apply, val_main_call0_v4_apply, val_main_call0_v2_apply, val_main_call0_v0_apply, val_main_call0_v3_apply, val_main_call0_v1_apply]
  have hi : x1 (idx_main_call0_v0 (idx_main_call0_v2 (ValueIdx.ix3 n k e))) = x1 (ValueIdx.ix2 n k) :=
    congrArg x1 (funext fun a => Fin.ext (by
      match a with
      | ⟨0, _⟩ => rfl
      | ⟨1, _⟩ => rfl))
  rw [hi]
  show FloatOps.uitofp (F := Ideal) .f32 (IntOp.cmpi .eq (x1 (ValueIdx.ix2 n k)) (BitVec.ofNat 32 e.val)) = _
  by_cases h : e.val = (x1 (ValueIdx.ix2 n k)).toNat
  · rw [if_pos h, IntOp.cmpi_eq.2 (BitVec.eq_of_toNat_eq (by rw [← h, BitVec.toNat_ofNat]; have := e.isLt; omega))]
    show (((1#1 : BitVec 1).toNat : ℝ) : EReal) = 1
    norm_num
  · rw [if_neg h, show IntOp.cmpi .eq (x1 (ValueIdx.ix2 n k)) (BitVec.ofNat 32 e.val) = 0#1 from by
      have hne : ¬ IntOp.cmpi .eq (x1 (ValueIdx.ix2 n k)) (BitVec.ofNat 32 e.val) = 1#1 := fun h1 => h (by
        rw [IntOp.cmpi_eq.1 h1, BitVec.toNat_ofNat]; have := e.isLt; omega)
      revert hne; generalize IntOp.cmpi .eq (x1 (ValueIdx.ix2 n k)) (BitVec.ofNat 32 e.val) = b; revert b; decide]
    show (((0#1 : BitVec 1).toNat : ℝ) : EReal) = 0
    norm_num

/-- The weight token `n` gives expert `e`. -/
theorem combine_apply (n : Fin 10240) (e : Fin 32) (d : Fin 2048) (ch : Fin 4 → Fin 32) (hch : ∀ k, (ch k).val = (x1 (ValueIdx.ix2 n k)).toNat) :
    val_main_v37 (F := Ideal) x1 x2 (ValueIdx.ix3 e n d) = ∑ k : Fin 4, (if e = ch k then (1 : EReal) else 0) * x2 (ValueIdx.ix2 n k) := by
  rw [val_main_v37_apply, val_main_v36_apply, val_main_v35_apply, val_main_v5_apply, show (val_main_cst (F := Ideal)) (Shape.Idx.first h_S_) = 0 from Ideal.ofBits_zero_f32, zero_add]
  refine Finset.sum_congr rfl fun k _ => ?_
  have hi : idx_main_v5 (idx_main_v35 (idx_main_v36 (idx_main_v37 (ValueIdx.ix3 e n d)))) k = ValueIdx.ix3 n k e := funext fun a => Fin.ext (by
    match a with
    | ⟨0, _⟩ => rfl
    | ⟨1, _⟩ => rfl
    | ⟨2, _⟩ => rfl)
  rw [hi, val_main_v4_apply, hot_apply x1 n k e, val_main_v3_apply, val_main_v2_apply]
  refine congrArg₂ (fun p q : EReal => p * q) ?_ (congrArg x2 (funext fun a => Fin.ext (by
    match a with
    | ⟨0, _⟩ => rfl
    | ⟨1, _⟩ => rfl)))
  rw [← hch k]
  exact if_congr (Fin.ext_iff (a := e) (b := ch k)).symm rfl rfl

/-- An expert's gate before the clamp. -/
theorem gate_apply (e : Fin 32) (r : Fin 10240) (f : Fin 2048) :
    val_main_v10 (F := Ideal) x0 x5 x6 (ValueIdx.ix3 e r f) = (∑ d : Fin 2048, x0 (ValueIdx.ix2 r d) * x5 (ValueIdx.ix3 e d f)) + x6 (ValueIdx.ix2 e f) := by
  rw [val_main_v10_apply, val_main_v7_apply, val_main_v6_apply, val_main_v9_apply, val_main_v8_apply]
  refine congrArg₂ (fun p q : EReal => p + q) (Finset.sum_congr rfl fun d _ => (mul_comm _ _).trans (congrArg₂ (fun p q : EReal => p * q) ?_ ?_)) ?_
  · exact congrArg x0 (funext fun a => Fin.ext (by match a with | ⟨0, _⟩ => rfl | ⟨1, _⟩ => rfl))
  · exact congrArg x5 (funext fun a => Fin.ext (by match a with | ⟨0, _⟩ => rfl | ⟨1, _⟩ => rfl | ⟨2, _⟩ => rfl))
  · exact congrArg x6 (funext fun a => Fin.ext (by match a with | ⟨0, _⟩ => rfl | ⟨1, _⟩ => rfl))

/-- An expert's up value before the clamp. -/
theorem up_apply (e : Fin 32) (r : Fin 10240) (f : Fin 2048) :
    val_main_v17 (F := Ideal) x0 x7 x8 (ValueIdx.ix3 e r f) = (∑ d : Fin 2048, x0 (ValueIdx.ix2 r d) * x7 (ValueIdx.ix3 e d f)) + x8 (ValueIdx.ix2 e f) := by
  rw [val_main_v17_apply, val_main_v14_apply, val_main_v13_apply, val_main_v16_apply, val_main_v15_apply]
  refine congrArg₂ (fun p q : EReal => p + q) (Finset.sum_congr rfl fun d _ => (mul_comm _ _).trans (congrArg₂ (fun p q : EReal => p * q) ?_ ?_)) ?_
  · exact congrArg x0 (funext fun a => Fin.ext (by match a with | ⟨0, _⟩ => rfl | ⟨1, _⟩ => rfl))
  · exact congrArg x7 (funext fun a => Fin.ext (by match a with | ⟨0, _⟩ => rfl | ⟨1, _⟩ => rfl | ⟨2, _⟩ => rfl))
  · exact congrArg x8 (funext fun a => Fin.ext (by match a with | ⟨0, _⟩ => rfl | ⟨1, _⟩ => rfl))

/-- The sigmoid written out. -/
theorem sigmoid_eq (z : EReal) :
    FloatOps.hostDivf (F := Ideal) (φ := .f32) (FloatOps.ofBits .f32 0x3F800000#32) (FloatOps.addf (FloatOps.ofBits .f32 0x3F800000#32) (FloatOps.hostUnary .exp (FloatOps.hostNegf z)))
      = FloatOps.logistic (F := Ideal) (φ := .f32) z := by
  have h1 : (FloatOps.ofBits (F := Ideal) .f32 0x3F800000#32 : EReal) = 1 := Ideal.ofBits_one_f32
  rw [h1]; rfl

/-- Hidden unit `f` of row `r` under expert `e`. -/
theorem hidden_apply (e : Fin 32) (r : Fin 10240) (f : Fin 2048) :
    val_main_v30 (F := Ideal) x0 x5 x6 x7 x8 (ValueIdx.ix3 e r f)
      = Spec.hidden (fun d => x0 (ValueIdx.ix2 r d)) (fun d f => x5 (ValueIdx.ix3 e d f)) (fun f => x6 (ValueIdx.ix2 e f)) (fun d f => x7 (ValueIdx.ix3 e d f)) (fun f => x8 (ValueIdx.ix2 e f)) f := by
  unfold Spec.hidden
  rw [← gate_apply x0 x5 x6 e r f, ← up_apply x0 x7 x8 e r f]
  unfold Spec.act
  rw [val_main_v30_apply, val_main_v29_apply, val_main_v28_apply, val_main_v27_apply, val_main_v26_apply, val_main_v25_apply, val_main_v24_apply, val_main_v23_apply, val_main_v22_apply,
    val_main_v21_apply, val_main_v20_apply, val_main_v19_apply, val_main_v18_apply, val_main_call1_v4_apply, val_main_call1_v3_apply, val_main_call1_v2_apply, val_main_call1_v1_apply, val_main_call1_v0_apply,
    val_main_v12_apply, val_main_v11_apply, val_main_cst_0_apply, val_main_cst_1_apply, val_main_cst_2_apply, val_main_cst_3_apply, val_main_cst_4_apply, val_main_cst_5_apply, val_main_cst_6_apply]
  exact congrArg _ (congrArg _ (sigmoid_eq _))

/-- Expert `e`'s output for row `r`. -/
theorem out_apply (e : Fin 32) (r : Fin 10240) (d : Fin 2048) :
    val_main_v34 (F := Ideal) x0 x5 x6 x7 x8 x9 x10 (ValueIdx.ix3 e r d)
      = Spec.ffn (fun d => x0 (ValueIdx.ix2 r d)) (fun d f => x5 (ValueIdx.ix3 e d f)) (fun f => x6 (ValueIdx.ix2 e f)) (fun d f => x7 (ValueIdx.ix3 e d f)) (fun f => x8 (ValueIdx.ix2 e f))
          (fun f => x9 (ValueIdx.ix3 e f d)) (x10 (ValueIdx.ix2 e d)) := by
  rw [val_main_v34_apply, val_main_v31_apply, val_main_v33_apply, val_main_v32_apply]
  unfold Spec.ffn
  refine congrArg₂ (fun p q : EReal => p + q) (Finset.sum_congr rfl fun f _ => congrArg₂ (fun p q : EReal => p * q) ?_ ?_) ?_
  · refine Eq.trans (congrArg (val_main_v30 (F := Ideal) x0 x5 x6 x7 x8) ?_) (hidden_apply x0 x5 x6 x7 x8 e r f)
    exact funext fun a => Fin.ext (by match a with | ⟨0, _⟩ => rfl | ⟨1, _⟩ => rfl | ⟨2, _⟩ => rfl)
  · exact congrArg x9 (funext fun a => Fin.ext (by match a with | ⟨0, _⟩ => rfl | ⟨1, _⟩ => rfl | ⟨2, _⟩ => rfl))
  · exact congrArg x10 (funext fun a => Fin.ext (by match a with | ⟨0, _⟩ => rfl | ⟨1, _⟩ => rfl))

/-- The result at token `n`: the chosen experts' outputs, each times its gate. -/
theorem result_apply (n : Fin 10240) (d : Fin 2048) (ch : Fin 4 → Fin 32) (hch : ∀ k, (ch k).val = (x1 (ValueIdx.ix2 n k)).toNat) (hinj : Function.Injective ch) :
    val_main_v39 (F := Ideal) x0 x1 x2 x5 x6 x7 x8 x9 x10 (ValueIdx.ix2 n d)
      = ∑ k : Fin 4, Spec.ffn (fun d => x0 (ValueIdx.ix2 n d)) (fun d f => x5 (ValueIdx.ix3 (ch k) d f)) (fun f => x6 (ValueIdx.ix2 (ch k) f)) (fun d f => x7 (ValueIdx.ix3 (ch k) d f))
          (fun f => x8 (ValueIdx.ix2 (ch k) f)) (fun f => x9 (ValueIdx.ix3 (ch k) f d)) (x10 (ValueIdx.ix2 (ch k) d)) * x2 (ValueIdx.ix2 n k) := by
  rw [val_main_v39_apply, show (val_main_cst_7 (F := Ideal)) (Shape.Idx.first h_S_) = 0 from Ideal.ofBits_zero_f32, zero_add]
  refine Eq.trans (Finset.sum_congr rfl fun e _ => ?_) (Combine.sum_experts ch hinj (fun k => x2 (ValueIdx.ix2 n k)) (fun e =>
    Spec.ffn (fun d => x0 (ValueIdx.ix2 n d)) (fun d f => x5 (ValueIdx.ix3 e d f)) (fun f => x6 (ValueIdx.ix2 e f)) (fun d f => x7 (ValueIdx.ix3 e d f))
          (fun f => x8 (ValueIdx.ix2 e f)) (fun f => x9 (ValueIdx.ix3 e f d)) (x10 (ValueIdx.ix2 e d))))
  have hx : idx_main_v39 (ValueIdx.ix2 n d) e = ValueIdx.ix3 e n d := funext fun a => Fin.ext (by match a with | ⟨0, _⟩ => rfl | ⟨1, _⟩ => rfl | ⟨2, _⟩ => rfl)
  rw [hx, val_main_v38_apply, combine_apply x1 x2 n e d ch hch, out_apply x0 x5 x6 x7 x8 x9 x10 e n d]
  rfl

end Cert.ReferenceIdeal.Moe

end
-- ==== Proof.Kv.Out.lean ====
module

public import proofs.«01_k».proof.Proof.Gen.KernelKvIdeal.Frame
public import Idealize.ShloMosaic.Lib.Pipeline.Value

/-! What one grid point of the projection leaves in its block and in the kept rows, as the body's values. -/

@[expose] public section

set_option maxRecDepth 16384

noncomputable section

namespace Cert.KernelKvIdeal.Kv

open Cert.KernelKvIdeal.Gen Idealize.ShloMosaic Idealize.ShloMosaic.TcCoe
open Idealize.SL Idealize.SL.Sem

variable {F : FTy → Type} [FloatOps F]

theorem hz2 : (![0, 0] : Fin 2 → ℕ) = fun _ => 0 := by decide

theorem hz3 : (![0, 0, 0] : Fin 3 → ℕ) = fun _ => 0 := by decide

/-- A later column block: the product of the kept rows. -/
theorem outB (c : Dev nD) (i : grid0.Coords) (a2 : Memref sig .tc .vmem S512x2048 .f32) (h2 : a2.IsWhole) (a3 : Memref sig .tc .vmem S1x2048 .f32) (h3 : a3.IsWhole) (a4 : Memref sig .tc .vmem S1x1x2048 .f32) (h4 : a4.IsWhole) (a5 : Memref sig .tc .vmem S1x1x2048 .f32) (h5 : a5.IsWhole) (a6 : Memref sig .tc .vmem S2048x768 .f32) (h6 : a6.IsWhole) (a7 : Memref sig .tc .vmem S1x768 .f32) (h7 : a7.IsWhole) (a8 : Memref sig .tc .vmem S512x768 .f32) (h8 : a8.IsWhole) (a9 : Memref sig .tc .vmem S512x2048 .bf16) (h9 : a9.IsWhole) (hc : ¬cond0_0 i)
    (x0 : Vec F S512x2048 .f32) (x1 : Vec F S1x2048 .f32) (x2 x3 : Vec F S1x1x2048 .f32) (x4 : Vec F S2048x768 .f32) (x5 : Vec F S1x768 .f32) (xs : Vec F S512x2048 .bf16) :
    out0_B_6 c i a2 h2 a3 h3 a4 h4 a5 h5 a6 h6 a7 h7 a8 h8 a9 h9 hc x0 x1 x2 x3 x4 x5 xs = k0_pay2 xs x4 x5 := by
  unfold out0_B_6
  rw [View.read_writes_eq_canon _ _ _ (cover0_B_6 c i a2 h2 a3 h3 a4 h4 a5 h5 a6 h6 a7 h7 a8 h8 a9 h9 hc x0 x1 x2 x3 x4 x5 xs)]
  unfold kernelRun0_B
  dsimp only
  rw [View.canon_unit_zero (S := S512x768) hz2]
  simp only [View.readAt_eq_ld, View.ld_unit_zero (S := S512x2048) hz2, View.ld_unit_zero (S := S2048x768) hz2,
    View.ld_unit_zero (S := S1x768) hz2, h9.read_unread, h6.read_unread, h7.read_unread]

/-- The first column block: the product of the rows it has just normalised. -/
theorem outA (c : Dev nD) (i : grid0.Coords) (a2 : Memref sig .tc .vmem S512x2048 .f32) (h2 : a2.IsWhole) (a3 : Memref sig .tc .vmem S1x2048 .f32) (h3 : a3.IsWhole) (a4 : Memref sig .tc .vmem S1x1x2048 .f32) (h4 : a4.IsWhole) (a5 : Memref sig .tc .vmem S1x1x2048 .f32) (h5 : a5.IsWhole) (a6 : Memref sig .tc .vmem S2048x768 .f32) (h6 : a6.IsWhole) (a7 : Memref sig .tc .vmem S1x768 .f32) (h7 : a7.IsWhole) (a8 : Memref sig .tc .vmem S512x768 .f32) (h8 : a8.IsWhole) (a9 : Memref sig .tc .vmem S512x2048 .bf16) (h9 : a9.IsWhole) (hc : cond0_0 i)
    (x0 : Vec F S512x2048 .f32) (x1 : Vec F S1x2048 .f32) (x2 x3 : Vec F S1x1x2048 .f32) (x4 : Vec F S2048x768 .f32) (x5 : Vec F S1x768 .f32) :
    out0_A_6 c i a2 h2 a3 h3 a4 h4 a5 h5 a6 h6 a7 h7 a8 h8 a9 h9 hc x0 x1 x2 x3 x4 x5 = k0_pay2 (k0_pay1 x0 x1 x2 x3) x4 x5 := by
  unfold out0_A_6
  rw [View.read_writes_eq_canon _ _ _ (cover0_A_6 c i a2 h2 a3 h3 a4 h4 a5 h5 a6 h6 a7 h7 a8 h8 a9 h9 hc x0 x1 x2 x3 x4 x5)]
  unfold kernelRun0_A
  dsimp only
  sl_unfold_words
  rw [View.canon_unit_zero (S := S512x768) hz2, View.readCov_unit_zero (S := S512x2048) _ hz2]
  simp only [View.readAt_eq_ld, View.ld_unit_zero (S := S512x2048) hz2, View.ld_unit_zero (S := S2048x768) hz2,
    View.ld_unit_zero (S := S1x768) hz2, View.ld_unit_zero (S := S1x2048) hz2, View.ld_unit_zero (S := S1x1x2048) hz3,
    h2.read_unread, h3.read_unread, h4.read_unread, h5.read_unread, h6.read_unread, h7.read_unread]

/-- The rows kept by the first column block. -/
theorem soutA (c : Dev nD) (i : grid0.Coords) (a2 : Memref sig .tc .vmem S512x2048 .f32) (h2 : a2.IsWhole) (a3 : Memref sig .tc .vmem S1x2048 .f32) (h3 : a3.IsWhole) (a4 : Memref sig .tc .vmem S1x1x2048 .f32) (h4 : a4.IsWhole) (a5 : Memref sig .tc .vmem S1x1x2048 .f32) (h5 : a5.IsWhole) (a6 : Memref sig .tc .vmem S2048x768 .f32) (h6 : a6.IsWhole) (a7 : Memref sig .tc .vmem S1x768 .f32) (h7 : a7.IsWhole) (a8 : Memref sig .tc .vmem S512x768 .f32) (h8 : a8.IsWhole) (a9 : Memref sig .tc .vmem S512x2048 .bf16) (h9 : a9.IsWhole) (hc : cond0_0 i)
    (x0 : Vec F S512x2048 .f32) (x1 : Vec F S1x2048 .f32) (x2 x3 : Vec F S1x1x2048 .f32) (x4 : Vec F S2048x768 .f32) (x5 : Vec F S1x768 .f32) :
    sout0_A_0 c i a2 h2 a3 h3 a4 h4 a5 h5 a6 h6 a7 h7 a8 h8 a9 h9 hc x0 x1 x2 x3 x4 x5 = k0_pay1 x0 x1 x2 x3 := by
  unfold sout0_A_0
  rw [View.read_writes_eq_canon _ _ _ (scover0_A_0 c i a2 h2 a3 h3 a4 h4 a5 h5 a6 h6 a7 h7 a8 h8 a9 h9 hc x0 x1 x2 x3 x4 x5)]
  unfold kernelRun0_A
  dsimp only
  sl_unfold_words
  rw [View.canon_unit_zero (S := S512x2048) hz2]
  simp only [View.readAt_eq_ld, View.ld_unit_zero (S := S512x2048) hz2,
    View.ld_unit_zero (S := S1x2048) hz2, View.ld_unit_zero (S := S1x1x2048) hz3,
    h2.read_unread, h3.read_unread, h4.read_unread, h5.read_unread]

end Cert.KernelKvIdeal.Kv

end
-- ==== Proof.Kv.Spec.lean ====
module

public import Idealize.ShloMosaic.PureOps.Ideal.Laws

/-! The modulated normalised row and its projection, over the extended reals. -/

@[expose] public section

noncomputable section

namespace Cert.Kv.Spec

open Idealize.ShloMosaic
open scoped BigOperators

/-- The number one of the modulation. -/
def one : EReal := FloatOps.ofBits (F := Ideal) .f32 0x3F800000#32

/-- The reciprocal root of a sum of squares over 2048, plus a small number. -/
def inv (s : EReal) : EReal :=
  FloatOps.rsqrt (F := Ideal) (φ := .f32) (FloatOps.addf (F := Ideal) (φ := .f32) (FloatOps.divf (F := Ideal) (φ := .f32) s
    (FloatOps.ofBits (F := Ideal) .f32 0x45000000#32)) (FloatOps.ofBits (F := Ideal) .f32 0x358637BD#32))

/-- A row over its root mean square, times its weights, scaled and shifted. -/
def row (x g sc sh : Fin 2048 → EReal) (d : Fin 2048) : EReal :=
  x d * inv (∑ k : Fin 2048, x k * x k) * g d * (one + sc d) + sh d

/-- A column of the projection of the row. -/
def proj (x g sc sh w : Fin 2048 → EReal) (b : EReal) : EReal := (∑ d : Fin 2048, row x g sc sh d * w d) + b

end Cert.Kv.Spec

end
-- ==== Proof.Kv.Pay.lean ====
module

public import proofs.«01_k».proof.Proof.Kv.Spec
public import proofs.«01_k».proof.Proof.Gen.KernelKvIdeal.Skeleton
public import Idealize.ShloMosaic.Lib.MatmulPlain
public import Idealize.ShloMosaic.Lib.ValueIdx
public import Idealize.ShloMosaic.Lib.Pipeline.Value
public import Idealize.ShloMosaic.Lib.Pointwise.TacticCore

/-! The projection's values over the extended reals, element by element. -/

@[expose] public section

noncomputable section

namespace Cert.KernelKvIdeal.Kv

open Cert.KernelKvIdeal.Gen Idealize.ShloMosaic Idealize.ShloMosaic.TcCoe Idealize.ShloMosaic.Pipeline
open Idealize.SL Idealize.SL.Sem
open Cert.Kv
open scoped BigOperators

/-- One row repeated over the rows. -/
theorem rows_apply (v : FVec Ideal S1x2048 .f32) (r : Fin 512) (d : Fin 2048) :
    broadcastTo S512x2048 v broadcasts_S1x2048_S512x2048 (ValueIdx.ix2 r d) = v (ValueIdx.ix2 (0 : Fin 1) d) :=
  broadcastTo_apply _ broadcasts_S1x2048_S512x2048 _ (ValueIdx.ix2 (0 : Fin 1) d) (fun a => by
    match a with
    | ⟨0, _⟩ => rfl
    | ⟨1, _⟩ => rfl)

/-- One column repeated over the columns. -/
theorem cols_apply (v : FVec Ideal S512x1 .f32) (r : Fin 512) (d : Fin 2048) :
    broadcastTo S512x2048 v broadcasts_S512x1_S512x2048 (ValueIdx.ix2 r d) = v (ValueIdx.ix2 r (0 : Fin 1)) :=
  broadcastTo_apply _ broadcasts_S512x1_S512x2048 _ (ValueIdx.ix2 r (0 : Fin 1)) (fun a => by
    match a with
    | ⟨0, _⟩ => rfl
    | ⟨1, _⟩ => rfl)

theorem flat_apply (v : Vec Ideal S1x1x2048 .f32) (d : Fin 2048) :
    shapeCast S1x2048 v shapeCasts_S1x1x2048_S1x2048 (ValueIdx.ix2 (0 : Fin 1) d) = v (ValueIdx.ix3 (0 : Fin 1) (0 : Fin 1) d) :=
  shapeCast_apply v shapeCasts_S1x1x2048_S1x2048 _ _ (by rw [Shape.rowMajor_val_three, Shape.rowMajor_val_two]; rfl)

/-- The sum along a row. -/
theorem sum_apply (v : FVec Ideal S512x2048 .f32) (r : Fin 512) :
    shapeCast S512x1 (multiReduction .add [1] S512 v 0x00000000#32 reduces_S512x2048_S512 (.inl rfl) rfl) shapeCasts_S512_S512x1 (ValueIdx.ix2 r (0 : Fin 1))
      = ∑ k : Fin 2048, v (ValueIdx.ix2 r k) := by
  refine (shapeCast_apply _ shapeCasts_S512_S512x1 _ (ValueIdx.ix1 r) ?_).trans ?_
  · rw [Shape.rowMajor_val_two, Shape.rowMajor_val_one]; show r.val = r.val * 1 + 0; omega
  · refine (Ideal.multiReduction_add_single v 0x00000000#32 reduces_S512x2048_S512 (.inl rfl) rfl (ValueIdx.ix1 r)).trans ?_
    refine Finset.sum_congr (M := EReal) rfl fun k _ => congrArg v (funext fun a => Fin.ext ?_)
    match a with
    | ⟨0, _⟩ => rfl
    | ⟨1, _⟩ => rfl

/-- The kept rows. -/
theorem pay1_apply (x : Vec Ideal S512x2048 .f32) (g : Vec Ideal S1x2048 .f32) (sc sh : Vec Ideal S1x1x2048 .f32) (r : Fin 512) (d : Fin 2048) :
    k0_pay1 x g sc sh (ValueIdx.ix2 r d) = Spec.row (fun d => x (ValueIdx.ix2 r d)) (fun d => g (ValueIdx.ix2 (0 : Fin 1) d))
      (fun d => sc (ValueIdx.ix3 (0 : Fin 1) (0 : Fin 1) d)) (fun d => sh (ValueIdx.ix3 (0 : Fin 1) (0 : Fin 1) d)) d := by
  unfold k0_pay1
  simp only [shapeCast_self]
  unfold Spec.row
  refine congrArg₂ (fun p q : EReal => p + q) (congrArg₂ (fun p q : EReal => p * q) (congrArg₂ (fun p q : EReal => p * q)
    (congrArg (fun q : EReal => x (ValueIdx.ix2 r d) * q) ?_) (rows_apply g r d)) ?_) ((rows_apply _ r d).trans (flat_apply sh d))
  · refine (cols_apply _ r d).trans ?_
    exact congrArg Spec.inv (sum_apply (mulf x x) r)
  · refine (rows_apply _ r d).trans ?_
    exact congrArg (fun q : EReal => Spec.one + q) (flat_apply sc d)

/-- A column block of the product. -/
theorem pay2_apply (h : Vec Ideal S512x2048 .bf16) (w : Vec Ideal S2048x768 .f32) (b : Vec Ideal S1x768 .f32) (r : Fin 512) (q : Fin 768) :
    k0_pay2 h w b (ValueIdx.ix2 r q) = (∑ d : Fin 2048, h (ValueIdx.ix2 r d) * w (ValueIdx.ix2 d q) : EReal) + b (ValueIdx.ix2 (0 : Fin 1) q) := by
  unfold k0_pay2
  simp only [shapeCast_self]
  refine congrArg₂ (fun p q : EReal => p + q) ?_ ?_
  · refine (Ideal.matmul_plain_apply none h _ _ r q).trans ?_
    rw [show (constant S512x768 .f32 0x00000000#32 : FVec Ideal S512x768 .f32) (ValueIdx.ix2 r q) = 0 from Ideal.ofBits_zero_f32, zero_add]
    rfl
  · exact broadcastTo_apply _ broadcasts_S1x768_S512x768 _ (ValueIdx.ix2 (0 : Fin 1) q) (fun a => by
      match a with
      | ⟨0, _⟩ => rfl
      | ⟨1, _⟩ => rfl)

end Cert.KernelKvIdeal.Kv

end
-- ==== Proof.Kv.Blocks.lean ====
module

public import proofs.«01_k».proof.Proof.Kv.Out
public import proofs.«01_k».proof.Proof.Kv.Pay
public import Idealize.ShloMosaic.Lib.Pipeline.ValueKit.Geometry

/-! The blocks a grid point reads, and what it leaves, as elements of the arrays the region finds. -/

@[expose] public section

set_option maxRecDepth 16384

noncomputable section

namespace Cert.KernelKvIdeal.Kv

open Cert.KernelKvIdeal.Gen Idealize.ShloMosaic Idealize.ShloMosaic.TcCoe
open Idealize.SL Idealize.SL.Sem
open Idealize.ShloMosaic.Pipeline (Dat Cfg Window)

variable {F : FTy → Type} [FloatOps F]
variable (m : (ℓ : Loc nD τ sig) → Buf (Elt F) ℓ) (c : Dev nD)

/-- The row of the table a grid point reads its scale and shift from. -/
def seg (t : ℕ) : ℕ := if t < 48 then 0 else 1 + (t - 48) / 6

theorem index0 : ∀ t : Fin cfg0.N, (cfg0.win 0).index t = ![t.val / 3, 0] := by decide
theorem index1 : ∀ t : Fin cfg0.N, (cfg0.win 1).index t = ![0, 0] := by decide
theorem index2 : ∀ t : Fin cfg0.N, (cfg0.win 2).index t = ![seg t.val, 0, 0] := by decide
theorem index3 : ∀ t : Fin cfg0.N, (cfg0.win 3).index t = ![seg t.val, 0, 0] := by decide
theorem index4 : ∀ t : Fin cfg0.N, (cfg0.win 4).index t = ![0, t.val % 3] := by decide
theorem index5 : ∀ t : Fin cfg0.N, (cfg0.win 5).index t = ![0, t.val % 3] := by decide
theorem index6 : ∀ t : Fin cfg0.N, (cfg0.win 6).index t = ![t.val / 3, t.val % 3] := by decide

theorem iblk0_apply (t : Fin cfg0.N) (r : Fin 512) (d : Fin 2048) (n : Fin 10240) (hn : n.val = t.val / 3 * 512 + r.val) :
    (show Vec F S512x2048 .f32 from iblk m c 0 t) (ValueIdx.ix2 r d) = (show Vec F S10240x2048 .f32 from V m c main_v2) (ValueIdx.ix2 n d) := by
  show (show Vec F S10240x2048 .f32 from V m c main_v2) (((cfg0.win 0).rect t).emb (ValueIdx.ix2 r d)) = _
  refine congrArg (show Vec F S10240x2048 .f32 from V m c main_v2) (funext fun a => Fin.ext ?_)
  match a with
  | ⟨0, _⟩ =>
    refine (Pipeline.Window.rect_emb_val (cfg0.win 0) t (ValueIdx.ix2 r d) (0 : Fin 2)).trans ?_
    rw [index0 t]; show t.val / 3 * 512 + r.val = n.val; omega
  | ⟨1, _⟩ =>
    refine (Pipeline.Window.rect_emb_val (cfg0.win 0) t (ValueIdx.ix2 r d) (1 : Fin 2)).trans ?_
    rw [index0 t]; show 0 * 2048 + d.val = d.val; omega

theorem iblk1_apply (t : Fin cfg0.N) (d : Fin 2048) :
    (show Vec F S1x2048 .f32 from iblk m c 1 t) (ValueIdx.ix2 (0 : Fin 1) d) = (show Vec F S1x2048 .f32 from V m c main_v13) (ValueIdx.ix2 (0 : Fin 1) d) := by
  show (show Vec F S1x2048 .f32 from V m c main_v13) (((cfg0.win 1).rect t).emb (ValueIdx.ix2 (0 : Fin 1) d)) = _
  refine congrArg (show Vec F S1x2048 .f32 from V m c main_v13) (funext fun a => Fin.ext ?_)
  match a with
  | ⟨0, _⟩ =>
    refine (Pipeline.Window.rect_emb_val (cfg0.win 1) t (ValueIdx.ix2 (0 : Fin 1) d) (0 : Fin 2)).trans ?_
    rw [index1 t]; rfl
  | ⟨1, _⟩ =>
    refine (Pipeline.Window.rect_emb_val (cfg0.win 1) t (ValueIdx.ix2 (0 : Fin 1) d) (1 : Fin 2)).trans ?_
    rw [index1 t]; show 0 * 2048 + d.val = d.val; omega

theorem iblk2_apply (t : Fin cfg0.N) (s : Fin 8) (hs : s.val = seg t.val) (d : Fin 2048) :
    (show Vec F S1x1x2048 .f32 from iblk m c 2 t) (ValueIdx.ix3 (0 : Fin 1) (0 : Fin 1) d) = (show Vec F S8x1x2048 .f32 from V m c main_v8) (ValueIdx.ix3 s (0 : Fin 1) d) := by
  show (show Vec F S8x1x2048 .f32 from V m c main_v8) (((cfg0.win 2).rect t).emb (ValueIdx.ix3 (0 : Fin 1) (0 : Fin 1) d)) = _
  refine congrArg (show Vec F S8x1x2048 .f32 from V m c main_v8) (funext fun a => Fin.ext ?_)
  match a with
  | ⟨0, _⟩ =>
    refine (Pipeline.Window.rect_emb_val (cfg0.win 2) t (ValueIdx.ix3 (0 : Fin 1) (0 : Fin 1) d) (0 : Fin 3)).trans ?_
    rw [index2 t]; show seg t.val * 1 + 0 = s.val; omega
  | ⟨1, _⟩ =>
    refine (Pipeline.Window.rect_emb_val (cfg0.win 2) t (ValueIdx.ix3 (0 : Fin 1) (0 : Fin 1) d) (1 : Fin 3)).trans ?_
    rw [index2 t]; rfl
  | ⟨2, _⟩ =>
    refine (Pipeline.Window.rect_emb_val (cfg0.win 2) t (ValueIdx.ix3 (0 : Fin 1) (0 : Fin 1) d) (2 : Fin 3)).trans ?_
    rw [index2 t]; show 0 * 2048 + d.val = d.val; omega

theorem iblk3_apply (t : Fin cfg0.N) (s : Fin 8) (hs : s.val = seg t.val) (d : Fin 2048) :
    (show Vec F S1x1x2048 .f32 from iblk m c 3 t) (ValueIdx.ix3 (0 : Fin 1) (0 : Fin 1) d) = (show Vec F S8x1x2048 .f32 from V m c main_v5) (ValueIdx.ix3 s (0 : Fin 1) d) := by
  show (show Vec F S8x1x2048 .f32 from V m c main_v5) (((cfg0.win 3).rect t).emb (ValueIdx.ix3 (0 : Fin 1) (0 : Fin 1) d)) = _
  refine congrArg (show Vec F S8x1x2048 .f32 from V m c main_v5) (funext fun a => Fin.ext ?_)
  match a with
  | ⟨0, _⟩ =>
    refine (Pipeline.Window.rect_emb_val (cfg0.win 3) t (ValueIdx.ix3 (0 : Fin 1) (0 : Fin 1) d) (0 : Fin 3)).trans ?_
    rw [index3 t]; show seg t.val * 1 + 0 = s.val; omega
  | ⟨1, _⟩ =>
    refine (Pipeline.Window.rect_emb_val (cfg0.win 3) t (ValueIdx.ix3 (0 : Fin 1) (0 : Fin 1) d) (1 : Fin 3)).trans ?_
    rw [index3 t]; rfl
  | ⟨2, _⟩ =>
    refine (Pipeline.Window.rect_emb_val (cfg0.win 3) t (ValueIdx.ix3 (0 : Fin 1) (0 : Fin 1) d) (2 : Fin 3)).trans ?_
    rw [index3 t]; show 0 * 2048 + d.val = d.val; omega

theorem iblk4_apply (t : Fin cfg0.N) (d : Fin 2048) (q : Fin 768) (q' : Fin 2304) (hq : q'.val = t.val % 3 * 768 + q.val) :
    (show Vec F S2048x768 .f32 from iblk m c 4 t) (ValueIdx.ix2 d q) = (show Vec F S2048x2304 .f32 from V m c main_v11) (ValueIdx.ix2 d q') := by
  show (show Vec F S2048x2304 .f32 from V m c main_v11) (((cfg0.win 4).rect t).emb (ValueIdx.ix2 d q)) = _
  refine congrArg (show Vec F S2048x2304 .f32 from V m c main_v11) (funext fun a => Fin.ext ?_)
  match a with
  | ⟨0, _⟩ =>
    refine (Pipeline.Window.rect_emb_val (cfg0.win 4) t (ValueIdx.ix2 d q) (0 : Fin 2)).trans ?_
    rw [index4 t]; show 0 * 2048 + d.val = d.val; omega
  | ⟨1, _⟩ =>
    refine (Pipeline.Window.rect_emb_val (cfg0.win 4) t (ValueIdx.ix2 d q) (1 : Fin 2)).trans ?_
    rw [index4 t]; show t.val % 3 * 768 + q.val = q'.val; omega

theorem iblk5_apply (t : Fin cfg0.N) (q : Fin 768) (q' : Fin 2304) (hq : q'.val = t.val % 3 * 768 + q.val) :
    (show Vec F S1x768 .f32 from iblk m c 5 t) (ValueIdx.ix2 (0 : Fin 1) q) = (show Vec F S1x2304 .f32 from V m c main_v14) (ValueIdx.ix2 (0 : Fin 1) q') := by
  show (show Vec F S1x2304 .f32 from V m c main_v14) (((cfg0.win 5).rect t).emb (ValueIdx.ix2 (0 : Fin 1) q)) = _
  refine congrArg (show Vec F S1x2304 .f32 from V m c main_v14) (funext fun a => Fin.ext ?_)
  match a with
  | ⟨0, _⟩ =>
    refine (Pipeline.Window.rect_emb_val (cfg0.win 5) t (ValueIdx.ix2 (0 : Fin 1) q) (0 : Fin 2)).trans ?_
    rw [index5 t]; rfl
  | ⟨1, _⟩ =>
    refine (Pipeline.Window.rect_emb_val (cfg0.win 5) t (ValueIdx.ix2 (0 : Fin 1) q) (1 : Fin 2)).trans ?_
    rw [index5 t]; show t.val % 3 * 768 + q.val = q'.val; omega

theorem keptA (t : Fin cfg0.N) (h : t.val % 3 = 0) :
    (outsAt0 m c t.val t.isLt).2 = k0_pay1 (iblk m c 0 t) (iblk m c 1 t) (iblk m c 2 t) (iblk m c 3 t) := by
  rw [outsAt0_A m c t h]
  dsimp only
  rw [soutA]

theorem keptB (t : Fin cfg0.N) (h : ¬t.val % 3 = 0) :
    (outsAt0 m c t.val t.isLt).2 = (outsAt0 m c (t.val - 1) (Nat.lt_of_le_of_lt (Nat.sub_le _ _) t.isLt)).2 := by
  rw [outsAt0_B m c t h]
  dsimp only
  rw [sout0_B_0]

theorem leftA (t : Fin cfg0.N) (h : t.val % 3 = 0) :
    (outsAt0 m c t.val t.isLt).1 = k0_pay2 (k0_pay1 (iblk m c 0 t) (iblk m c 1 t) (iblk m c 2 t) (iblk m c 3 t)) (iblk m c 4 t) (iblk m c 5 t) := by
  rw [outsAt0_A m c t h]
  dsimp only
  rw [outA]

theorem leftB (t : Fin cfg0.N) (h : ¬t.val % 3 = 0) :
    (outsAt0 m c t.val t.isLt).1 = k0_pay2 (outsAt0 m c (t.val - 1) (Nat.lt_of_le_of_lt (Nat.sub_le _ _) t.isLt)).2 (iblk m c 4 t) (iblk m c 5 t) := by
  rw [outsAt0_B m c t h]
  dsimp only
  rw [outB]

/-- The rows the first point of a row block normalises. -/
def normed (s : Fin cfg0.N) : Vec F S512x2048 .bf16 := k0_pay1 (iblk m c 0 s) (iblk m c 1 s) (iblk m c 2 s) (iblk m c 3 s)

/-- The rows kept at the points of a row block are those its first point normalised. -/
theorem kept (s : Fin cfg0.N) (hs : s.val % 3 = 0) : ∀ (j : ℕ) (hj : j < 3) (t : Fin cfg0.N) (ht : t.val = s.val + j),
    (outsAt0 m c t.val t.isLt).2 = normed m c s
  | 0, _, t, ht => by
    obtain rfl : t = s := Fin.ext ht
    exact keptA m c t hs
  | j + 1, hj, t, ht => by
    refine (keptB m c t (by omega)).trans ?_
    exact kept s hs j (by omega) ⟨t.val - 1, Nat.lt_of_le_of_lt (Nat.sub_le _ _) t.isLt⟩ (show t.val - 1 = s.val + j by omega)

/-- The block a point leaves. -/
theorem left (s t : Fin cfg0.N) (hs : s.val % 3 = 0) (h1 : s.val ≤ t.val) (h2 : t.val < s.val + 3) :
    (outsAt0 m c t.val t.isLt).1 = k0_pay2 (normed m c s) (iblk m c 4 t) (iblk m c 5 t) := by
  by_cases h : t.val % 3 = 0
  · obtain rfl : t = s := Fin.ext (by omega)
    exact leftA m c t h
  · refine (leftB m c t h).trans ?_
    rw [kept m c s hs (t.val - 1 - s.val) (by omega) ⟨t.val - 1, Nat.lt_of_le_of_lt (Nat.sub_le _ _) t.isLt⟩ (show t.val - 1 = s.val + (t.val - 1 - s.val) by omega)]

/-- The result array, block by block. -/
def outArr : Vec F S10240x2304 .f32 := fun y =>
  (outsAt0 m c (3 * ((y 0).val / 512) + (y 1).val / 768) (by
    have h0 : (y 0).val < 10240 := (y 0).isLt
    have h1 : (y 1).val < 2304 := (y 1).isLt
    show _ < 60; omega)).1
    (ValueIdx.ix2 (⟨(y 0).val % 512, Nat.mod_lt _ (by omega)⟩ : Fin 512) (⟨(y 1).val % 768, Nat.mod_lt _ (by omega)⟩ : Fin 768))

theorem outs_congr {n n' : ℕ} (h : n = n') (hn : n < cfg0.N) (hn' : n' < cfg0.N) (z z' : S512x768.Idx) (hz : z = z') :
    (outsAt0 m c n hn).1 z = (outsAt0 m c n' hn').1 z' := by subst h; subst hz; rfl

theorem flushed6 (t : Fin cfg0.N) (hf : (cfg0.win 6).flush t = true) :
    (dats m 0 c).flushed 6 t = ((cfg0.win 6).blk t).view.read (Elt F) (outArr m c) := by
  funext y
  have ht : t.val < 60 := t.isLt
  have hy0 : (y (0 : Fin 2)).val < 512 := (y (0 : Fin 2)).isLt
  have hy1 : (y (1 : Fin 2)).val < 768 := (y (1 : Fin 2)).isLt
  have e0 : (((cfg0.win 6).rect t).emb y (0 : Fin 2) : ℕ) = t.val / 3 * 512 + (y (0 : Fin 2)).val := by
    rw [Pipeline.Window.rect_emb_val _ t y (0 : Fin 2), index6 t]; rfl
  have e1 : (((cfg0.win 6).rect t).emb y (1 : Fin 2) : ℕ) = t.val % 3 * 768 + (y (1 : Fin 2)).val := by
    rw [Pipeline.Window.rect_emb_val _ t y (1 : Fin 2), index6 t]; rfl
  show (outsAt0 m c t.val t.isLt).1 y = outArr m c (((cfg0.win 6).rect t).emb y)
  unfold outArr
  refine outs_congr m c ?_ _ _ _ _ (funext fun a => Fin.ext ?_)
  · rw [e0, e1]; omega
  · match a with
    | ⟨0, _⟩ => show (y (0 : Fin 2)).val = (((cfg0.win 6).rect t).emb y (0 : Fin 2) : ℕ) % 512; rw [e0]; omega
    | ⟨1, _⟩ => show (y (1 : Fin 2)).val = (((cfg0.win 6).rect t).emb y (1 : Fin 2) : ℕ) % 768; rw [e1]; omega

theorem arrAt_apply (y : S10240x2304.Idx) : (show Vec F S10240x2304 .f32 from (dats m 0 c).arrAt 6 cfg0.N) y = outArr m c y := by
  have h0 : (y 0).val < 10240 := (y 0).isLt
  have h1 : (y 1).val < 2304 := (y 1).isLt
  have hlt : 3 * ((y 0).val / 512) + (y 1).val / 768 < 60 := by omega
  refine Dat.arrAt_apply_of_mem (dats m 0 c) 6 (outArr m c) (flushed6 m c) cfg0.N ⟨3 * ((y 0).val / 512) + (y 1).val / 768, hlt⟩ y hlt (flush0_6 _) ?_
  refine (Pipeline.Window.emb_mem_blk_iff (cfg0.win 6) ⟨3 * ((y 0).val / 512) + (y 1).val / 768, hlt⟩ y).2 fun a => ?_
  rw [index6]
  match a with
  | ⟨0, _⟩ => show (3 * ((y 0).val / 512) + (y 1).val / 768) / 3 * 512 ≤ (y 0).val ∧ (y 0).val < (3 * ((y 0).val / 512) + (y 1).val / 768) / 3 * 512 + 512; omega
  | ⟨1, _⟩ => show (3 * ((y 0).val / 512) + (y 1).val / 768) % 3 * 768 ≤ (y 1).val ∧ (y 1).val < (3 * ((y 0).val / 512) + (y 1).val / 768) % 3 * 768 + 768; omega

end Cert.KernelKvIdeal.Kv

end
-- ==== Proof.Kv.Host.lean ====
module

public import proofs.«01_k».proof.Proof.Gen.KernelKvIdeal.Frame
public import Idealize.ShloMosaic.Lib.StableHlo.Run
public import Idealize.ShloMosaic.Lib.Pipeline.Value
public import Idealize.ShloMosaic.Lib.ValueIdx

/-! What the region finds in its arrays, element by element, in the program's arguments. -/

@[expose] public section

noncomputable section

namespace Cert.KernelKvIdeal.Kv

open Cert.KernelKvIdeal Cert.KernelKvIdeal.Gen Idealize.ShloMosaic Idealize.ShloMosaic.TcCoe Idealize.SL.Sem Idealize.ShloMosaic.StableHlo

variable {F : FTy → Type} [FloatOps F]
variable (m : (ℓ : Loc nD τ sig) → Buf (Elt F) ℓ) (c : Dev nD)

theorem rd_v2 : V m c main_v2 = concatenate S10240x2048 0
    [⟨S8192x2048, shapeCast S8192x2048 (show Vec F S32x256x2048 .f32 from m ((c : Thread nD τ).loc main_arg0)) shapeCasts_S32x256x2048_S8192x2048⟩,
     ⟨S2048x2048, shapeCast S2048x2048 (show Vec F S2x1024x2048 .f32 from m ((c : Thread nD τ).loc main_arg1)) shapeCasts_S2x1024x2048_S2048x2048⟩]
    concatenates_S8192x2048_S2048x2048_S10240x2048_d0 := by
  show after (List.flatten [hostOps0]) _ (Proc.devRef .tc main_v2) = _
  simp only [hostOps0, List.flatten_cons, List.flatten_nil, List.append_nil, List.cons_append, List.nil_append]
  after_results <;> rfl

theorem rd_v5 : V m c main_v5 = shapeCast S8x1x2048 (shapeCast S8x2048 (extractStridedSlice S1x8x2048 ![0, 0, 0]
    (show Vec F S2x8x12288 .f32 from m ((c : Thread nD τ).loc main_arg2)) slices_S2x8x12288_S1x8x2048_0_0_0) shapeCasts_S1x8x2048_S8x2048) shapeCasts_S8x2048_S8x1x2048 := by
  show after (List.flatten [hostOps0]) _ (Proc.devRef .tc main_v5) = _
  simp only [hostOps0, List.flatten_cons, List.flatten_nil, List.append_nil, List.cons_append, List.nil_append]
  after_results <;> rfl

theorem rd_v8 : V m c main_v8 = shapeCast S8x1x2048 (shapeCast S8x2048 (extractStridedSlice S1x8x2048 ![0, 0, 2048]
    (show Vec F S2x8x12288 .f32 from m ((c : Thread nD τ).loc main_arg2)) slices_S2x8x12288_S1x8x2048_0_0_2048) shapeCasts_S1x8x2048_S8x2048) shapeCasts_S8x2048_S8x1x2048 := by
  show after (List.flatten [hostOps0]) _ (Proc.devRef .tc main_v8) = _
  simp only [hostOps0, List.flatten_cons, List.flatten_nil, List.append_nil, List.cons_append, List.nil_append]
  after_results <;> rfl

theorem rd_v11 : V m c main_v11 = shapeCast S2048x2304 (show Vec F S1x2048x2304 .f32 from m ((c : Thread nD τ).loc main_arg4)) shapeCasts_S1x2048x2304_S2048x2304 := by
  show after (List.flatten [hostOps0]) _ (Proc.devRef .tc main_v11) = _
  simp only [hostOps0, List.flatten_cons, List.flatten_nil, List.append_nil, List.cons_append, List.nil_append]
  after_results <;> rfl

theorem rd_v13 : V m c main_v13 = shapeCast S1x2048 (shapeCast S2048 (extractStridedSlice S1x2048 ![0, 0]
    (show Vec F S2x2048 .f32 from m ((c : Thread nD τ).loc main_arg3)) slices_S2x2048_S1x2048_0_0) shapeCasts_S1x2048_S2048) shapeCasts_S2048_S1x2048 := by
  show after (List.flatten [hostOps0]) _ (Proc.devRef .tc main_v13) = _
  simp only [hostOps0, List.flatten_cons, List.flatten_nil, List.append_nil, List.cons_append, List.nil_append]
  after_results <;> rfl

theorem rd_v14 : V m c main_v14 = shapeCast S1x2304 (shapeCast S2304 (show Vec F S1x2304 .f32 from m ((c : Thread nD τ).loc main_arg5)) shapeCasts_S1x2304_S2304) shapeCasts_S2304_S1x2304 := by
  show after (List.flatten [hostOps0]) _ (Proc.devRef .tc main_v14) = _
  simp only [hostOps0, List.flatten_cons, List.flatten_nil, List.append_nil, List.cons_append, List.nil_append]
  after_results <;> rfl

/-- A token of the prompts. -/
theorem tokens_apply (n : Fin 10240) (a : Fin 32) (b : Fin 256) (d : Fin 2048) (hn : n.val = a.val * 256 + b.val) :
    (show Vec F S10240x2048 .f32 from V m c main_v2) (ValueIdx.ix2 n d)
      = (show Vec F S32x256x2048 .f32 from m ((c : Thread nD τ).loc main_arg0)) (ValueIdx.ix3 a b d) := by
  have hb := b.isLt
  have ha := a.isLt
  rw [rd_v2]
  refine (concatenate_pair_apply_left _ _ _ concatenates_S8192x2048_S2048x2048_S10240x2048_d0 (ValueIdx.ix2 n d) rfl
    (ValueIdx.ix2 (⟨n.val, by omega⟩ : Fin 8192) d) (fun z => ?_)).trans ?_
  · match z with
    | ⟨0, _⟩ => rfl
    | ⟨1, _⟩ => rfl
  · refine shapeCast_apply _ shapeCasts_S32x256x2048_S8192x2048 _ _ ?_
    rw [Shape.rowMajor_val_three, Shape.rowMajor_val_two]
    show (a.val * 256 + b.val) * 2048 + d.val = n.val * 2048 + d.val
    rw [hn]

/-- A token of the samples. -/
theorem samples_apply (n : Fin 10240) (a : Fin 2) (b : Fin 1024) (d : Fin 2048) (hn : n.val = 8192 + (a.val * 1024 + b.val)) :
    (show Vec F S10240x2048 .f32 from V m c main_v2) (ValueIdx.ix2 n d)
      = (show Vec F S2x1024x2048 .f32 from m ((c : Thread nD τ).loc main_arg1)) (ValueIdx.ix3 a b d) := by
  have hb := b.isLt
  have ha := a.isLt
  rw [rd_v2]
  refine (concatenate_pair_apply_right _ _ _ concatenates_S8192x2048_S2048x2048_S10240x2048_d0 (ValueIdx.ix2 n d) rfl rfl
    (ValueIdx.ix2 (⟨a.val * 1024 + b.val, by omega⟩ : Fin 2048) d) (fun z hz => ?_) ?_).trans ?_
  · match z with
    | ⟨0, _⟩ => exact absurd rfl hz
    | ⟨1, _⟩ => rfl
  · show a.val * 1024 + b.val + 8192 = n.val; omega
  · refine shapeCast_apply _ shapeCasts_S2x1024x2048_S2048x2048 _ _ ?_
    rw [Shape.rowMajor_val_three, Shape.rowMajor_val_two]
    rfl

/-- The shift of a row of the table. -/
theorem shift_apply (s : Fin 8) (d : Fin 2048) (k : Fin 12288) (hk : k.val = d.val) :
    (show Vec F S8x1x2048 .f32 from V m c main_v5) (ValueIdx.ix3 s (0 : Fin 1) d)
      = (show Vec F S2x8x12288 .f32 from m ((c : Thread nD τ).loc main_arg2)) (ValueIdx.ix3 (0 : Fin 2) s k) := by
  rw [rd_v5]
  refine (shapeCast_apply _ shapeCasts_S8x2048_S8x1x2048 _ (ValueIdx.ix2 s d) ?_).trans ?_
  · rw [Shape.rowMajor_val_three, Shape.rowMajor_val_two]
    show s.val * 2048 + d.val = (s.val * 1 + 0) * 2048 + d.val
    omega
  refine (shapeCast_apply _ shapeCasts_S1x8x2048_S8x2048 _ (ValueIdx.ix3 (0 : Fin 1) s d) ?_).trans ?_
  · rw [Shape.rowMajor_val_three, Shape.rowMajor_val_two]
    show (0 * 8 + s.val) * 2048 + d.val = s.val * 2048 + d.val
    omega
  refine extractStridedSlice_apply (s := S2x8x12288) (t := S1x8x2048) ![0, 0, 0] _ slices_S2x8x12288_S1x8x2048_0_0_0 _ _ (fun z => ?_)
  match z with
  | ⟨0, _⟩ => rfl
  | ⟨1, _⟩ => show s.val = 0 + s.val; omega
  | ⟨2, _⟩ => show k.val = 0 + d.val; omega

/-- The scale of a row of the table. -/
theorem scale_apply (s : Fin 8) (d : Fin 2048) (k : Fin 12288) (hk : k.val = 2048 + d.val) :
    (show Vec F S8x1x2048 .f32 from V m c main_v8) (ValueIdx.ix3 s (0 : Fin 1) d)
      = (show Vec F S2x8x12288 .f32 from m ((c : Thread nD τ).loc main_arg2)) (ValueIdx.ix3 (0 : Fin 2) s k) := by
  rw [rd_v8]
  refine (shapeCast_apply _ shapeCasts_S8x2048_S8x1x2048 _ (ValueIdx.ix2 s d) ?_).trans ?_
  · rw [Shape.rowMajor_val_three, Shape.rowMajor_val_two]
    show s.val * 2048 + d.val = (s.val * 1 + 0) * 2048 + d.val
    omega
  refine (shapeCast_apply _ shapeCasts_S1x8x2048_S8x2048 _ (ValueIdx.ix3 (0 : Fin 1) s d) ?_).trans ?_
  · rw [Shape.rowMajor_val_three, Shape.rowMajor_val_two]
    show (0 * 8 + s.val) * 2048 + d.val = s.val * 2048 + d.val
    omega
  refine extractStridedSlice_apply (s := S2x8x12288) (t := S1x8x2048) ![0, 0, 2048] _ slices_S2x8x12288_S1x8x2048_0_0_2048 _ _ (fun z => ?_)
  match z with
  | ⟨0, _⟩ => rfl
  | ⟨1, _⟩ => show s.val = 0 + s.val; omega
  | ⟨2, _⟩ => exact hk

theorem weights_apply (d : Fin 2048) (q : Fin 2304) :
    (show Vec F S2048x2304 .f32 from V m c main_v11) (ValueIdx.ix2 d q)
      = (show Vec F S1x2048x2304 .f32 from m ((c : Thread nD τ).loc main_arg4)) (ValueIdx.ix3 (0 : Fin 1) d q) := by
  rw [rd_v11]
  refine shapeCast_apply _ shapeCasts_S1x2048x2304_S2048x2304 _ _ ?_
  rw [Shape.rowMajor_val_three, Shape.rowMajor_val_two]
  show (0 * 2048 + d.val) * 2304 + q.val = d.val * 2304 + q.val
  omega

theorem norm_apply (d : Fin 2048) :
    (show Vec F S1x2048 .f32 from V m c main_v13) (ValueIdx.ix2 (0 : Fin 1) d)
      = (show Vec F S2x2048 .f32 from m ((c : Thread nD τ).loc main_arg3)) (ValueIdx.ix2 (0 : Fin 2) d) := by
  rw [rd_v13]
  refine (shapeCast_apply _ shapeCasts_S2048_S1x2048 _ (ValueIdx.ix1 d) ?_).trans ?_
  · rw [Shape.rowMajor_val_two, Shape.rowMajor_val_one]; show d.val = 0 * 2048 + d.val; omega
  refine (shapeCast_apply _ shapeCasts_S1x2048_S2048 _ (ValueIdx.ix2 (0 : Fin 1) d) ?_).trans ?_
  · rw [Shape.rowMajor_val_two, Shape.rowMajor_val_one]; show 0 * 2048 + d.val = d.val; omega
  refine extractStridedSlice_apply (s := S2x2048) (t := S1x2048) ![0, 0] _ slices_S2x2048_S1x2048_0_0 _ _ (fun z => ?_)
  match z with
  | ⟨0, _⟩ => rfl
  | ⟨1, _⟩ => show d.val = 0 + d.val; omega

theorem bias_apply (q : Fin 2304) :
    (show Vec F S1x2304 .f32 from V m c main_v14) (ValueIdx.ix2 (0 : Fin 1) q)
      = (show Vec F S1x2304 .f32 from m ((c : Thread nD τ).loc main_arg5)) (ValueIdx.ix2 (0 : Fin 1) q) := by
  rw [rd_v14]
  refine (shapeCast_apply _ shapeCasts_S2304_S1x2304 _ (ValueIdx.ix1 q) ?_).trans ?_
  · rw [Shape.rowMajor_val_two, Shape.rowMajor_val_one]; show q.val = 0 * 2304 + q.val; omega
  refine shapeCast_apply _ shapeCasts_S1x2304_S2304 _ _ ?_
  rw [Shape.rowMajor_val_two, Shape.rowMajor_val_one]; show 0 * 2304 + q.val = q.val; omega

end Cert.KernelKvIdeal.Kv

end
-- ==== Proof.Kv.Value.lean ====
module

public import proofs.«01_k».proof.Proof.Kv.Blocks
public import proofs.«01_k».proof.Proof.Kv.Host
public import proofs.«01_k».proof.Proof.Gen.KernelKvIdeal.Run
public import proofs.«01_k».proof.Proof.Gen.KernelKvIdeal.Read

/-! The projection's result array over the extended reals, in the program's arguments. -/

@[expose] public section

set_option maxRecDepth 16384

noncomputable section

namespace Cert.KernelKvIdeal.Kv

open Cert.KernelKvIdeal Cert.KernelKvIdeal.Gen Idealize.ShloMosaic Idealize.ShloMosaic.TcCoe
open Idealize.SL Idealize.SL.Sem
open Cert.Kv
open scoped BigOperators

variable (m : (ℓ : Loc nD τ sig) → Buf (Elt Ideal) ℓ) (c : Dev nD)

/-- A row of a block of tokens, normalised and modulated. -/
theorem normed_apply (s : Fin cfg0.N) (g : Fin 8) (hg : g.val = seg s.val) (r : Fin 512) (d : Fin 2048) (n : Fin 10240) (hn : n.val = s.val / 3 * 512 + r.val) :
    normed m c s (ValueIdx.ix2 r d) = Spec.row (fun d => (show Vec Ideal S10240x2048 .f32 from V m c main_v2) (ValueIdx.ix2 n d))
      (fun d => (show Vec Ideal S1x2048 .f32 from V m c main_v13) (ValueIdx.ix2 (0 : Fin 1) d))
      (fun d => (show Vec Ideal S8x1x2048 .f32 from V m c main_v8) (ValueIdx.ix3 g (0 : Fin 1) d))
      (fun d => (show Vec Ideal S8x1x2048 .f32 from V m c main_v5) (ValueIdx.ix3 g (0 : Fin 1) d)) d := by
  unfold normed
  refine (pay1_apply _ _ _ _ r d).trans ?_
  have e0 := funext fun d => iblk0_apply m c s r d n hn
  have e1 := funext fun d => iblk1_apply m c s d
  have e2 := funext fun d => iblk2_apply m c s g hg d
  have e3 := funext fun d => iblk3_apply m c s g hg d
  exact congrFun (congr (congr (congr (congrArg Spec.row e0) e1) e2) e3) d

/-- An element of the result array. -/
theorem outArr_apply (n : Fin 10240) (g : Fin 8) (hg : g.val = if n.val < 8192 then 0 else 1 + (n.val - 8192) / 1024) (q : Fin 2304) :
    outArr m c (ValueIdx.ix2 n q) = Spec.proj (fun d => (show Vec Ideal S10240x2048 .f32 from V m c main_v2) (ValueIdx.ix2 n d))
      (fun d => (show Vec Ideal S1x2048 .f32 from V m c main_v13) (ValueIdx.ix2 (0 : Fin 1) d))
      (fun d => (show Vec Ideal S8x1x2048 .f32 from V m c main_v8) (ValueIdx.ix3 g (0 : Fin 1) d))
      (fun d => (show Vec Ideal S8x1x2048 .f32 from V m c main_v5) (ValueIdx.ix3 g (0 : Fin 1) d))
      (fun d => (show Vec Ideal S2048x2304 .f32 from V m c main_v11) (ValueIdx.ix2 d q))
      ((show Vec Ideal S1x2304 .f32 from V m c main_v14) (ValueIdx.ix2 (0 : Fin 1) q)) := by
  have hn := n.isLt
  have hq := q.isLt
  have es : g.val = seg (3 * (n.val / 512)) := by
    rw [hg]; unfold seg
    split <;> split <;> omega
  have hs : 3 * (n.val / 512) < cfg0.N := by show _ < 60; omega
  have ht : 3 * (n.val / 512) + q.val / 768 < cfg0.N := by show _ < 60; omega
  have hl := left m c ⟨3 * (n.val / 512), hs⟩ ⟨3 * (n.val / 512) + q.val / 768, ht⟩ (show 3 * (n.val / 512) % 3 = 0 by omega)
    (show 3 * (n.val / 512) ≤ 3 * (n.val / 512) + q.val / 768 by omega) (show 3 * (n.val / 512) + q.val / 768 < 3 * (n.val / 512) + 3 by omega)
  unfold outArr
  refine (congrFun hl _).trans ?_
  refine (pay2_apply _ _ _ (⟨n.val % 512, Nat.mod_lt _ (by omega)⟩ : Fin 512) (⟨q.val % 768, Nat.mod_lt _ (by omega)⟩ : Fin 768)).trans ?_
  refine congrArg₂ (fun p q : EReal => p + q) (Finset.sum_congr (M := EReal) rfl fun d _ => congrArg₂ (fun p q : EReal => p * q) ?_ ?_) ?_
  · exact normed_apply m c _ g es _ d n (show n.val = 3 * (n.val / 512) / 3 * 512 + n.val % 512 by omega)
  · exact iblk4_apply m c _ d _ q (show q.val = (3 * (n.val / 512) + q.val / 768) % 3 * 768 + q.val % 768 by omega)
  · exact iblk5_apply m c _ _ q (show q.val = (3 * (n.val / 512) + q.val / 768) % 3 * 768 + q.val % 768 by omega)

/-- The same at a token of the prompts, in the program's arguments. -/
theorem reg_apply (a : Fin 32) (b : Fin 256) (n : Fin 10240) (hn : n.val = a.val * 256 + b.val) (q : Fin 2304) (sc sh : Fin 2048 → Fin 12288)
    (hsc : ∀ d, (sc d).val = 2048 + d.val) (hsh : ∀ d, (sh d).val = d.val) :
    (show Vec Ideal S10240x2304 .f32 from Value.reg_main_v15 m c) (ValueIdx.ix2 n q)
      = Spec.proj (fun d => (show Vec Ideal S32x256x2048 .f32 from m ((c : Thread nD τ).loc main_arg0)) (ValueIdx.ix3 a b d))
        (fun d => (show Vec Ideal S2x2048 .f32 from m ((c : Thread nD τ).loc main_arg3)) (ValueIdx.ix2 (0 : Fin 2) d))
        (fun d => (show Vec Ideal S2x8x12288 .f32 from m ((c : Thread nD τ).loc main_arg2)) (ValueIdx.ix3 (0 : Fin 2) (0 : Fin 8) (sc d)))
        (fun d => (show Vec Ideal S2x8x12288 .f32 from m ((c : Thread nD τ).loc main_arg2)) (ValueIdx.ix3 (0 : Fin 2) (0 : Fin 8) (sh d)))
        (fun d => (show Vec Ideal S1x2048x2304 .f32 from m ((c : Thread nD τ).loc main_arg4)) (ValueIdx.ix3 (0 : Fin 1) d q))
        ((show Vec Ideal S1x2304 .f32 from m ((c : Thread nD τ).loc main_arg5)) (ValueIdx.ix2 (0 : Fin 1) q)) := by
  have ha := a.isLt
  have hb := b.isLt
  refine (arrAt_apply m c (ValueIdx.ix2 n q)).trans ((outArr_apply m c n (0 : Fin 8) (by rw [if_pos (by omega)]; rfl) q).trans ?_)
  rw [bias_apply m c q, funext fun d => tokens_apply m c n a b d hn, funext fun d => norm_apply m c d, funext fun d => scale_apply m c 0 d (sc d) (hsc d),
    funext fun d => shift_apply m c 0 d (sh d) (hsh d), funext fun d => weights_apply m c d q]

/-- The same at a token of the samples, in the program's arguments. -/
theorem reg_apply_sample (a : Fin 2) (b : Fin 1024) (s : Fin 8) (hs : s.val = 1 + a.val) (n : Fin 10240) (hn : n.val = 8192 + (a.val * 1024 + b.val)) (q : Fin 2304) (sc sh : Fin 2048 → Fin 12288)
    (hsc : ∀ d, (sc d).val = 2048 + d.val) (hsh : ∀ d, (sh d).val = d.val) :
    (show Vec Ideal S10240x2304 .f32 from Value.reg_main_v15 m c) (ValueIdx.ix2 n q)
      = Spec.proj (fun d => (show Vec Ideal S2x1024x2048 .f32 from m ((c : Thread nD τ).loc main_arg1)) (ValueIdx.ix3 a b d))
        (fun d => (show Vec Ideal S2x2048 .f32 from m ((c : Thread nD τ).loc main_arg3)) (ValueIdx.ix2 (0 : Fin 2) d))
        (fun d => (show Vec Ideal S2x8x12288 .f32 from m ((c : Thread nD τ).loc main_arg2)) (ValueIdx.ix3 (0 : Fin 2) s (sc d)))
        (fun d => (show Vec Ideal S2x8x12288 .f32 from m ((c : Thread nD τ).loc main_arg2)) (ValueIdx.ix3 (0 : Fin 2) s (sh d)))
        (fun d => (show Vec Ideal S1x2048x2304 .f32 from m ((c : Thread nD τ).loc main_arg4)) (ValueIdx.ix3 (0 : Fin 1) d q))
        ((show Vec Ideal S1x2304 .f32 from m ((c : Thread nD τ).loc main_arg5)) (ValueIdx.ix2 (0 : Fin 1) q)) := by
  have ha := a.isLt
  have hb := b.isLt
  refine (arrAt_apply m c (ValueIdx.ix2 n q)).trans ((outArr_apply m c n s (by rw [if_neg (by omega)]; omega) q).trans ?_)
  rw [bias_apply m c q, funext fun d => samples_apply m c n a b d hn, funext fun d => norm_apply m c d, funext fun d => scale_apply m c s d (sc d) (hsc d),
    funext fun d => shift_apply m c s d (sh d) (hsh d), funext fun d => weights_apply m c d q]

theorem keys_apply (r0 : Vec Ideal S10240x2304 .f32) (i : S32x1x256x2x64.Idx) (n : Fin 10240) (q : Fin 2304) (hn : n.val = (i 0).val * 256 + (i 2).val)
    (hq : q.val = 1024 + ((i 3).val * 64 + (i 4).val)) : Read.val_main_v20 (F := Ideal) r0 i = r0 (ValueIdx.ix2 n q) := by
  rw [Read.val_main_v20_apply, Read.val_main_v17_apply, Read.val_main_v16_apply]
  refine congrArg r0 (funext fun z => Fin.ext ?_)
  have h0 : (i 0).val < 32 := (i 0).isLt
  have h2 : (i 2).val < 256 := (i 2).isLt
  have h3 : (i 3).val < 2 := (i 3).isLt
  have h4 : (i 4).val < 64 := (i 4).isLt
  match z with
  | ⟨0, _⟩ => show ((((i 0).val * 256 + (i 2).val) * 2 + (i 3).val) * 64 + (i 4).val) / 128 = n.val; omega
  | ⟨1, _⟩ => show 1024 + ((((i 0).val * 256 + (i 2).val) * 2 + (i 3).val) * 64 + (i 4).val) % 128 = q.val; omega

theorem values_apply (r0 : Vec Ideal S10240x2304 .f32) (i : S32x1x256x2x64.Idx) (n : Fin 10240) (q : Fin 2304) (hn : n.val = (i 0).val * 256 + (i 2).val)
    (hq : q.val = 1152 + ((i 3).val * 64 + (i 4).val)) : Read.val_main_v21 (F := Ideal) r0 i = r0 (ValueIdx.ix2 n q) := by
  rw [Read.val_main_v21_apply, Read.val_main_v19_apply, Read.val_main_v18_apply]
  refine congrArg r0 (funext fun z => Fin.ext ?_)
  have h0 : (i 0).val < 32 := (i 0).isLt
  have h2 : (i 2).val < 256 := (i 2).isLt
  have h3 : (i 3).val < 2 := (i 3).isLt
  have h4 : (i 4).val < 64 := (i 4).isLt
  match z with
  | ⟨0, _⟩ => show ((((i 0).val * 256 + (i 2).val) * 2 + (i 3).val) * 64 + (i 4).val) / 128 = n.val; omega
  | ⟨1, _⟩ => show 1152 + ((((i 0).val * 256 + (i 2).val) * 2 + (i 3).val) * 64 + (i 4).val) % 128 = q.val; omega

end Cert.KernelKvIdeal.Kv

end
-- ==== Proof.Kv.Ref.lean ====
module

public import proofs.«01_k».proof.Proof.Gen.ReferenceKvIdeal.Read
public import proofs.«01_k».proof.Proof.Kv.Spec

/-! The plain program's projection, element by element. -/

@[expose] public section

noncomputable section

namespace Cert.ReferenceKvIdeal.Kv

open Cert.ReferenceKvIdeal Cert.ReferenceKvIdeal.Gen Cert.ReferenceKvIdeal.Read Idealize.ShloMosaic Idealize.ShloMosaic.TcCoe Idealize.SL.Sem
open Cert.Kv
open scoped BigOperators

variable (x0 : Vec Ideal S32x256x2048 .f32) (x1 : Vec Ideal S2x1024x2048 .f32) (x2 : Vec Ideal S2x8x12288 .f32) (x3 : Vec Ideal S2x2048 .f32) (x4 : Vec Ideal S1x2048x2304 .f32) (x5 : Vec Ideal S1x2304 .f32)

/-- The column of the modulation table the shift is read at. -/
def cSh (d : Fin 2048) : Fin 12288 := ⟨d.val, by have := d.isLt; omega⟩
/-- The column the scale is read at. -/
def cSc (d : Fin 2048) : Fin 12288 := ⟨2048 + d.val, by have := d.isLt; omega⟩

theorem scale_apply (a : Fin 32) (b : Fin 256) (d : Fin 2048) :
    val_main_v26 (F := Ideal) x2 (ValueIdx.ix3 a b d) = Spec.one + x2 (ValueIdx.ix3 (0 : Fin 2) (0 : Fin 8) (cSc d)) := by
  rw [val_main_v26_apply, val_main_v25_apply, val_main_v24_apply, val_main_cst_2_apply, val_main_v4_apply, val_main_v2_apply, val_main_v1_apply, val_main_v0_apply]
  refine congrArg (fun z => Spec.one + x2 z) (funext fun z => Fin.ext ?_)
  have := d.isLt
  match z with
  | ⟨0, _⟩ => rfl
  | ⟨1, _⟩ => rfl
  | ⟨2, _⟩ => show (0 * 12288 + (2048 + d.val)) % 12288 = 2048 + d.val; omega

theorem shift_apply (a : Fin 32) (b : Fin 256) (d : Fin 2048) :
    val_main_v28 (F := Ideal) x2 (ValueIdx.ix3 a b d) = x2 (ValueIdx.ix3 (0 : Fin 2) (0 : Fin 8) (cSh d)) := by
  rw [val_main_v28_apply, val_main_v3_apply, val_main_v2_apply, val_main_v1_apply, val_main_v0_apply]
  refine congrArg x2 (funext fun z => Fin.ext ?_)
  have := d.isLt
  match z with
  | ⟨0, _⟩ => rfl
  | ⟨1, _⟩ => rfl
  | ⟨2, _⟩ => show (0 * 12288 + d.val) % 12288 = d.val; omega

theorem norm_apply (a : Fin 32) (b : Fin 256) (d : Fin 2048) :
    val_main_v22 (F := Ideal) x3 (ValueIdx.ix3 a b d) = x3 (ValueIdx.ix2 (0 : Fin 2) d) := by
  rw [val_main_v22_apply, val_main_v21_apply, val_main_v20_apply, val_main_v19_apply]
  refine congrArg x3 (funext fun z => Fin.ext ?_)
  have := d.isLt
  match z with
  | ⟨0, _⟩ => rfl
  | ⟨1, _⟩ => show d.val % 2048 = d.val; omega

theorem inv_apply (a : Fin 32) (b : Fin 256) (d : Fin 2048) :
    val_main_v17 (F := Ideal) x0 (ValueIdx.ix3 a b d) = Spec.inv (∑ k : Fin 2048, x0 (ValueIdx.ix3 a b k) * x0 (ValueIdx.ix3 a b k)) := by
  rw [val_main_v17_apply, val_main_v16_apply, val_main_v15_apply, val_main_v14_apply, val_main_cst_1_apply, val_main_v13_apply, val_main_v12_apply,
    val_main_cst_0_apply, val_main_v11_apply, val_main_v10_apply, val_main_cst_apply]
  show Spec.inv _ = _
  refine congrArg Spec.inv ?_
  rw [show (FloatOps.ofBits (F := Ideal) .f32 0x00000000#32) = (0 : EReal) from Ideal.ofBits_zero_f32, zero_add]
  refine Finset.sum_congr (M := EReal) rfl fun k _ => ?_
  rw [val_main_v9_apply]
  have e : idx_main_v10 (idx_main_v11 (idx_main_v17 (ValueIdx.ix3 a b d))) k = ValueIdx.ix3 a b k := funext fun z => Fin.ext (by
    match z with
    | ⟨0, _⟩ => rfl
    | ⟨1, _⟩ => rfl
    | ⟨2, _⟩ => rfl)
  rw [e]; rfl

theorem row_apply (a : Fin 32) (b : Fin 256) (d : Fin 2048) :
    val_main_v29 (F := Ideal) x0 x2 x3 (ValueIdx.ix3 a b d) = Spec.row (fun d => x0 (ValueIdx.ix3 a b d)) (fun d => x3 (ValueIdx.ix2 (0 : Fin 2) d))
      (fun d => x2 (ValueIdx.ix3 (0 : Fin 2) (0 : Fin 8) (cSc d))) (fun d => x2 (ValueIdx.ix3 (0 : Fin 2) (0 : Fin 8) (cSh d))) d := by
  rw [val_main_v29_apply, val_main_v27_apply, val_main_v23_apply, val_main_v18_apply, shift_apply, scale_apply, norm_apply, inv_apply]
  rfl

theorem bias_apply (a : Fin 32) (b : Fin 256) (q : Fin 2304) :
    val_main_v34 (F := Ideal) x5 (ValueIdx.ix3 a b q) = x5 (ValueIdx.ix2 (0 : Fin 1) q) := by
  rw [val_main_v34_apply, val_main_v33_apply, val_main_v32_apply]
  refine congrArg x5 (funext fun z => Fin.ext ?_)
  have := q.isLt
  match z with
  | ⟨0, _⟩ => rfl
  | ⟨1, _⟩ => show q.val % 2304 = q.val; omega

/-- An element of the projection. -/
theorem proj_apply (a : Fin 32) (b : Fin 256) (q : Fin 2304) :
    val_main_v35 (F := Ideal) x0 x2 x3 x4 x5 (ValueIdx.ix3 a b q) = Spec.proj (fun d => x0 (ValueIdx.ix3 a b d)) (fun d => x3 (ValueIdx.ix2 (0 : Fin 2) d))
      (fun d => x2 (ValueIdx.ix3 (0 : Fin 2) (0 : Fin 8) (cSc d))) (fun d => x2 (ValueIdx.ix3 (0 : Fin 2) (0 : Fin 8) (cSh d)))
      (fun d => x4 (ValueIdx.ix3 (0 : Fin 1) d q)) (x5 (ValueIdx.ix2 (0 : Fin 1) q)) := by
  rw [val_main_v35_apply, bias_apply, val_main_v31_apply]
  refine congrArg (fun z : EReal => z + x5 (ValueIdx.ix2 (0 : Fin 1) q)) (Finset.sum_congr (M := EReal) rfl fun k _ => ?_)
  have e : lidx_main_v31 (ValueIdx.ix3 a b q) k = ValueIdx.ix3 a b k := funext fun z => Fin.ext (by
    match z with
    | ⟨0, _⟩ => rfl
    | ⟨1, _⟩ => rfl
    | ⟨2, _⟩ => rfl)
  rw [e, row_apply, val_main_v30_apply]
  refine congrArg (fun z => Spec.row _ _ _ _ k * x4 z) (funext fun z => Fin.ext ?_)
  have h0 := k.isLt
  have h1 := q.isLt
  match z with
  | ⟨0, _⟩ => rfl
  | ⟨1, _⟩ => show (k.val * 2304 + q.val) / 2304 % 2048 = k.val; omega
  | ⟨2, _⟩ => show (k.val * 2304 + q.val) % 2304 = q.val; omega

theorem scale_apply_sample (a : Fin 2) (b : Fin 1024) (s : Fin 8) (hs : s.val = 1 + a.val) (d : Fin 2048) :
    val_main_v68 (F := Ideal) x2 (ValueIdx.ix3 a b d) = Spec.one + x2 (ValueIdx.ix3 (0 : Fin 2) s (cSc d)) := by
  rw [val_main_v68_apply, val_main_v67_apply, val_main_v66_apply, val_main_cst_6_apply, val_main_v46_apply, val_main_v44_apply, val_main_v43_apply, val_main_v42_apply]
  refine congrArg (fun z => Spec.one + x2 z) (funext fun z => Fin.ext ?_)
  have := d.isLt
  match z with
  | ⟨0, _⟩ => rfl
  | ⟨1, _⟩ => show 1 + (a.val * 12288 + (2048 + d.val)) / 12288 % 2 = s.val; omega
  | ⟨2, _⟩ => show (a.val * 12288 + (2048 + d.val)) % 12288 = 2048 + d.val; omega

theorem shift_apply_sample (a : Fin 2) (b : Fin 1024) (s : Fin 8) (hs : s.val = 1 + a.val) (d : Fin 2048) :
    val_main_v70 (F := Ideal) x2 (ValueIdx.ix3 a b d) = x2 (ValueIdx.ix3 (0 : Fin 2) s (cSh d)) := by
  rw [val_main_v70_apply, val_main_v45_apply, val_main_v44_apply, val_main_v43_apply, val_main_v42_apply]
  refine congrArg x2 (funext fun z => Fin.ext ?_)
  have := d.isLt
  match z with
  | ⟨0, _⟩ => rfl
  | ⟨1, _⟩ => show 1 + (a.val * 12288 + d.val) / 12288 % 2 = s.val; omega
  | ⟨2, _⟩ => show (a.val * 12288 + d.val) % 12288 = d.val; omega

theorem norm_apply_sample (a : Fin 2) (b : Fin 1024) (d : Fin 2048) :
    val_main_v64 (F := Ideal) x3 (ValueIdx.ix3 a b d) = x3 (ValueIdx.ix2 (0 : Fin 2) d) := by
  rw [val_main_v64_apply, val_main_v63_apply, val_main_v62_apply, val_main_v61_apply]
  refine congrArg x3 (funext fun z => Fin.ext ?_)
  have := d.isLt
  match z with
  | ⟨0, _⟩ => rfl
  | ⟨1, _⟩ => show d.val % 2048 = d.val; omega

theorem inv_apply_sample (a : Fin 2) (b : Fin 1024) (d : Fin 2048) :
    val_main_v59 (F := Ideal) x1 (ValueIdx.ix3 a b d) = Spec.inv (∑ k : Fin 2048, x1 (ValueIdx.ix3 a b k) * x1 (ValueIdx.ix3 a b k)) := by
  rw [val_main_v59_apply, val_main_v58_apply, val_main_v57_apply, val_main_v56_apply, val_main_cst_5_apply, val_main_v55_apply, val_main_v54_apply,
    val_main_cst_4_apply, val_main_v53_apply, val_main_v52_apply, val_main_cst_3_apply]
  show Spec.inv _ = _
  refine congrArg Spec.inv ?_
  rw [show (FloatOps.ofBits (F := Ideal) .f32 0x00000000#32) = (0 : EReal) from Ideal.ofBits_zero_f32, zero_add]
  refine Finset.sum_congr (M := EReal) rfl fun k _ => ?_
  rw [val_main_v51_apply]
  have e : idx_main_v52 (idx_main_v53 (idx_main_v59 (ValueIdx.ix3 a b d))) k = ValueIdx.ix3 a b k := funext fun z => Fin.ext (by
    match z with
    | ⟨0, _⟩ => rfl
    | ⟨1, _⟩ => rfl
    | ⟨2, _⟩ => rfl)
  rw [e]; rfl

theorem row_apply_sample (a : Fin 2) (b : Fin 1024) (s : Fin 8) (hs : s.val = 1 + a.val) (d : Fin 2048) :
    val_main_v71 (F := Ideal) x1 x2 x3 (ValueIdx.ix3 a b d) = Spec.row (fun d => x1 (ValueIdx.ix3 a b d)) (fun d => x3 (ValueIdx.ix2 (0 : Fin 2) d))
      (fun d => x2 (ValueIdx.ix3 (0 : Fin 2) s (cSc d))) (fun d => x2 (ValueIdx.ix3 (0 : Fin 2) s (cSh d))) d := by
  rw [val_main_v71_apply, val_main_v69_apply, val_main_v65_apply, val_main_v60_apply, shift_apply_sample x2 a b s hs d, scale_apply_sample x2 a b s hs d, norm_apply_sample, inv_apply_sample]
  rfl

theorem bias_apply_sample (a : Fin 2) (b : Fin 1024) (q : Fin 2304) :
    val_main_v76 (F := Ideal) x5 (ValueIdx.ix3 a b q) = x5 (ValueIdx.ix2 (0 : Fin 1) q) := by
  rw [val_main_v76_apply, val_main_v75_apply, val_main_v74_apply]
  refine congrArg x5 (funext fun z => Fin.ext ?_)
  have := q.isLt
  match z with
  | ⟨0, _⟩ => rfl
  | ⟨1, _⟩ => show q.val % 2304 = q.val; omega

/-- An element of the projection of a token of the samples. -/
theorem proj_apply_sample (a : Fin 2) (b : Fin 1024) (s : Fin 8) (hs : s.val = 1 + a.val) (q : Fin 2304) :
    val_main_v77 (F := Ideal) x1 x2 x3 x4 x5 (ValueIdx.ix3 a b q) = Spec.proj (fun d => x1 (ValueIdx.ix3 a b d)) (fun d => x3 (ValueIdx.ix2 (0 : Fin 2) d))
      (fun d => x2 (ValueIdx.ix3 (0 : Fin 2) s (cSc d))) (fun d => x2 (ValueIdx.ix3 (0 : Fin 2) s (cSh d)))
      (fun d => x4 (ValueIdx.ix3 (0 : Fin 1) d q)) (x5 (ValueIdx.ix2 (0 : Fin 1) q)) := by
  rw [val_main_v77_apply, bias_apply_sample, val_main_v73_apply]
  refine congrArg (fun z : EReal => z + x5 (ValueIdx.ix2 (0 : Fin 1) q)) (Finset.sum_congr (M := EReal) rfl fun k _ => ?_)
  have e : lidx_main_v73 (ValueIdx.ix3 a b q) k = ValueIdx.ix3 a b k := funext fun z => Fin.ext (by
    match z with
    | ⟨0, _⟩ => rfl
    | ⟨1, _⟩ => rfl
    | ⟨2, _⟩ => rfl)
  rw [e, row_apply_sample x1 x2 x3 a b s hs k, val_main_v72_apply]
  refine congrArg (fun z => Spec.row _ _ _ _ k * x4 z) (funext fun z => Fin.ext ?_)
  have h0 := k.isLt
  have h1 := q.isLt
  match z with
  | ⟨0, _⟩ => rfl
  | ⟨1, _⟩ => show (k.val * 2304 + q.val) / 2304 % 2048 = k.val; omega
  | ⟨2, _⟩ => show (k.val * 2304 + q.val) % 2304 = q.val; omega

/-- The column of a key. -/
def cK (h : Fin 2) (e : Fin 64) : Fin 2304 := ⟨1024 + (h.val * 64 + e.val), by have := h.isLt; have := e.isLt; omega⟩
/-- The column of a value. -/
def cV (h : Fin 2) (e : Fin 64) : Fin 2304 := ⟨1152 + (h.val * 64 + e.val), by have := h.isLt; have := e.isLt; omega⟩

theorem keys_apply (i : S32x1x256x2x64.Idx) : val_main_v40 (F := Ideal) x0 x2 x3 x4 x5 i
    = val_main_v35 (F := Ideal) x0 x2 x3 x4 x5 (ValueIdx.ix3 (i 0 : Fin 32) (i 2 : Fin 256) (cK (i 3) (i 4))) := by
  rw [val_main_v40_apply, val_main_v37_apply, val_main_v36_apply]
  refine congrArg _ (funext fun z => Fin.ext ?_)
  have h0 : (i 0).val < 32 := (i 0).isLt
  have h2 : (i 2).val < 256 := (i 2).isLt
  have h3 : (i 3).val < 2 := (i 3).isLt
  have h4 : (i 4).val < 64 := (i 4).isLt
  match z with
  | ⟨0, _⟩ => show ((((i 0).val * 256 + (i 2).val) * 2 + (i 3).val) * 64 + (i 4).val) / 32768 = (i 0).val; omega
  | ⟨1, _⟩ => show ((((i 0).val * 256 + (i 2).val) * 2 + (i 3).val) * 64 + (i 4).val) / 128 % 256 = (i 2).val; omega
  | ⟨2, _⟩ => show 1024 + ((((i 0).val * 256 + (i 2).val) * 2 + (i 3).val) * 64 + (i 4).val) % 128 = 1024 + ((i 3).val * 64 + (i 4).val); omega

theorem values_apply (i : S32x1x256x2x64.Idx) : val_main_v41 (F := Ideal) x0 x2 x3 x4 x5 i
    = val_main_v35 (F := Ideal) x0 x2 x3 x4 x5 (ValueIdx.ix3 (i 0 : Fin 32) (i 2 : Fin 256) (cV (i 3) (i 4))) := by
  rw [val_main_v41_apply, val_main_v39_apply, val_main_v38_apply]
  refine congrArg _ (funext fun z => Fin.ext ?_)
  have h0 : (i 0).val < 32 := (i 0).isLt
  have h2 : (i 2).val < 256 := (i 2).isLt
  have h3 : (i 3).val < 2 := (i 3).isLt
  have h4 : (i 4).val < 64 := (i 4).isLt
  match z with
  | ⟨0, _⟩ => show ((((i 0).val * 256 + (i 2).val) * 2 + (i 3).val) * 64 + (i 4).val) / 32768 = (i 0).val; omega
  | ⟨1, _⟩ => show ((((i 0).val * 256 + (i 2).val) * 2 + (i 3).val) * 64 + (i 4).val) / 128 % 256 = (i 2).val; omega
  | ⟨2, _⟩ => show 1152 + ((((i 0).val * 256 + (i 2).val) * 2 + (i 3).val) * 64 + (i 4).val) % 128 = 1152 + ((i 3).val * 64 + (i 4).val); omega

/-- The joined array at a token of the prompts. -/
theorem joined_left (n : Fin 10240) (a : Fin 32) (b : Fin 256) (q : Fin 2304) (hn : n.val = a.val * 256 + b.val) :
    val_main_v80 (F := Ideal) x0 x1 x2 x3 x4 x5 (ValueIdx.ix2 n q) = val_main_v35 (F := Ideal) x0 x2 x3 x4 x5 (ValueIdx.ix3 a b q) := by
  have ha := a.isLt
  have hb := b.isLt
  have hq := q.isLt
  unfold val_main_v80
  refine (concatenate_pair_apply_left _ _ _ concatenates_S8192x2304_S2048x2304_S10240x2304_d0 (ValueIdx.ix2 n q) rfl
    (ValueIdx.ix2 (⟨n.val, by omega⟩ : Fin 8192) q) (fun z => ?_)).trans ?_
  · match z with
    | ⟨0, _⟩ => rfl
    | ⟨1, _⟩ => rfl
  rw [val_main_v78_apply]
  refine congrArg (val_main_v35 (F := Ideal) x0 x2 x3 x4 x5) (funext fun z => Fin.ext ?_)
  match z with
  | ⟨0, _⟩ => show (n.val * 2304 + q.val) / 589824 = a.val; omega
  | ⟨1, _⟩ => show (n.val * 2304 + q.val) / 2304 % 256 = b.val; omega
  | ⟨2, _⟩ => show (n.val * 2304 + q.val) % 2304 = q.val; omega

/-- The joined array at a token of the samples. -/
theorem joined_right (n : Fin 10240) (a : Fin 2) (b : Fin 1024) (q : Fin 2304) (hn : n.val = 8192 + (a.val * 1024 + b.val)) :
    val_main_v80 (F := Ideal) x0 x1 x2 x3 x4 x5 (ValueIdx.ix2 n q) = val_main_v77 (F := Ideal) x1 x2 x3 x4 x5 (ValueIdx.ix3 a b q) := by
  have ha := a.isLt
  have hb := b.isLt
  have hq := q.isLt
  unfold val_main_v80
  refine (concatenate_pair_apply_right _ _ _ concatenates_S8192x2304_S2048x2304_S10240x2304_d0 (ValueIdx.ix2 n q) rfl rfl
    (ValueIdx.ix2 (⟨a.val * 1024 + b.val, by omega⟩ : Fin 2048) q) (fun z hz => ?_) (show a.val * 1024 + b.val + 8192 = n.val by omega)).trans ?_
  · match z with
    | ⟨0, _⟩ => exact absurd rfl hz
    | ⟨1, _⟩ => rfl
  rw [val_main_v79_apply]
  refine congrArg (val_main_v77 (F := Ideal) x1 x2 x3 x4 x5) (funext fun z => Fin.ext ?_)
  match z with
  | ⟨0, _⟩ => show ((a.val * 1024 + b.val) * 2304 + q.val) / 2359296 = a.val; omega
  | ⟨1, _⟩ => show ((a.val * 1024 + b.val) * 2304 + q.val) / 2304 % 1024 = b.val; omega
  | ⟨2, _⟩ => show ((a.val * 1024 + b.val) * 2304 + q.val) % 2304 = q.val; omega

end Cert.ReferenceKvIdeal.Kv

end
-- ==== Proof.Kv.Final.lean ====
module

public import proofs.«01_k».proof.Proof.Kv.Value
public import proofs.«01_k».proof.Proof.Kv.Ref

/-! The new keys and values of both programs are the same. -/

@[expose] public section

noncomputable section

namespace Cert.Kv

open Idealize.ShloMosaic Idealize.ShloMosaic.TcCoe Idealize.SL.Sem
open Cert.KernelKvIdeal

variable (m : (ℓ : Loc nD τ sig) → Buf (Elt Ideal) ℓ) (c : Dev nD)
variable (x0 : Vec Ideal S32x256x2048 .f32) (x2 : Vec Ideal S2x8x12288 .f32) (x3 : Vec Ideal S2x2048 .f32) (x4 : Vec Ideal S1x2048x2304 .f32) (x5 : Vec Ideal S1x2304 .f32)

theorem keys_eq (h0 : x0 = m ((c : Thread nD τ).loc main_arg0)) (h2 : x2 = m ((c : Thread nD τ).loc main_arg2)) (h3 : x3 = m ((c : Thread nD τ).loc main_arg3))
    (h4 : x4 = m ((c : Thread nD τ).loc main_arg4)) (h5 : x5 = m ((c : Thread nD τ).loc main_arg5)) :
    (Cert.KernelKvIdeal.Read.val_main_v20 (F := Ideal) (Cert.KernelKvIdeal.Value.reg_main_v15 m c) : S32x1x256x2x64.Idx → EReal)
      = Cert.ReferenceKvIdeal.Read.val_main_v40 (F := Ideal) x0 x2 x3 x4 x5 := by
  subst h0 h2 h3 h4 h5
  refine funext fun (i : S32x1x256x2x64.Idx) => ?_
  have hn : (i 0).val * 256 + (i 2).val < 10240 := by
    have a0 : (i 0).val < 32 := (i 0).isLt
    have a2 : (i 2).val < 256 := (i 2).isLt
    omega
  refine (Cert.KernelKvIdeal.Kv.keys_apply _ i ⟨_, hn⟩ (Cert.ReferenceKvIdeal.Kv.cK (i 3) (i 4)) rfl rfl).trans ?_
  refine (Cert.KernelKvIdeal.Kv.reg_apply m c (i 0) (i 2) ⟨_, hn⟩ rfl _ Cert.ReferenceKvIdeal.Kv.cSc Cert.ReferenceKvIdeal.Kv.cSh (fun _ => rfl) (fun _ => rfl)).trans (Eq.symm ?_)
  exact (Cert.ReferenceKvIdeal.Kv.keys_apply _ _ _ _ _ i).trans (Cert.ReferenceKvIdeal.Kv.proj_apply _ _ _ _ _ (i 0) (i 2) _)

theorem values_eq (h0 : x0 = m ((c : Thread nD τ).loc main_arg0)) (h2 : x2 = m ((c : Thread nD τ).loc main_arg2)) (h3 : x3 = m ((c : Thread nD τ).loc main_arg3))
    (h4 : x4 = m ((c : Thread nD τ).loc main_arg4)) (h5 : x5 = m ((c : Thread nD τ).loc main_arg5)) :
    (Cert.KernelKvIdeal.Read.val_main_v21 (F := Ideal) (Cert.KernelKvIdeal.Value.reg_main_v15 m c) : S32x1x256x2x64.Idx → EReal)
      = Cert.ReferenceKvIdeal.Read.val_main_v41 (F := Ideal) x0 x2 x3 x4 x5 := by
  subst h0 h2 h3 h4 h5
  refine funext fun (i : S32x1x256x2x64.Idx) => ?_
  have hn : (i 0).val * 256 + (i 2).val < 10240 := by
    have a0 : (i 0).val < 32 := (i 0).isLt
    have a2 : (i 2).val < 256 := (i 2).isLt
    omega
  refine (Cert.KernelKvIdeal.Kv.values_apply _ i ⟨_, hn⟩ (Cert.ReferenceKvIdeal.Kv.cV (i 3) (i 4)) rfl rfl).trans ?_
  refine (Cert.KernelKvIdeal.Kv.reg_apply m c (i 0) (i 2) ⟨_, hn⟩ rfl _ Cert.ReferenceKvIdeal.Kv.cSc Cert.ReferenceKvIdeal.Kv.cSh (fun _ => rfl) (fun _ => rfl)).trans (Eq.symm ?_)
  exact (Cert.ReferenceKvIdeal.Kv.values_apply _ _ _ _ _ i).trans (Cert.ReferenceKvIdeal.Kv.proj_apply _ _ _ _ _ (i 0) (i 2) _)

variable (x1 : Vec Ideal S2x1024x2048 .f32)

/-- The whole projection, of the prompts and the samples. -/
theorem proj_eq (h0 : x0 = m ((c : Thread nD τ).loc main_arg0)) (h1 : x1 = m ((c : Thread nD τ).loc main_arg1)) (h2 : x2 = m ((c : Thread nD τ).loc main_arg2))
    (h3 : x3 = m ((c : Thread nD τ).loc main_arg3)) (h4 : x4 = m ((c : Thread nD τ).loc main_arg4)) (h5 : x5 = m ((c : Thread nD τ).loc main_arg5)) :
    (Cert.KernelKvIdeal.Value.reg_main_v15 m c : S10240x2304.Idx → EReal) = Cert.ReferenceKvIdeal.Read.val_main_v80 (F := Ideal) x0 x1 x2 x3 x4 x5 := by
  subst h0 h1 h2 h3 h4 h5
  refine funext fun (i : S10240x2304.Idx) => ?_
  obtain ⟨n, q, rfl⟩ : ∃ (n : Fin 10240) (q : Fin 2304), i = ValueIdx.ix2 n q := ⟨i 0, i 1, funext fun a => by
    match a with
    | ⟨0, _⟩ => rfl
    | ⟨1, _⟩ => rfl⟩
  have hn := n.isLt
  by_cases hlt : n.val < 8192
  · let a : Fin 32 := ⟨n.val / 256, by omega⟩
    let b : Fin 256 := ⟨n.val % 256, by omega⟩
    have hab : n.val = a.val * 256 + b.val := by show n.val = n.val / 256 * 256 + n.val % 256; omega
    refine (Cert.KernelKvIdeal.Kv.reg_apply m c a b n hab q Cert.ReferenceKvIdeal.Kv.cSc Cert.ReferenceKvIdeal.Kv.cSh (fun _ => rfl) (fun _ => rfl)).trans (Eq.symm ?_)
    exact (Cert.ReferenceKvIdeal.Kv.joined_left _ _ _ _ _ _ n a b q hab).trans (Cert.ReferenceKvIdeal.Kv.proj_apply _ _ _ _ _ a b q)
  · let a : Fin 2 := ⟨(n.val - 8192) / 1024, by omega⟩
    let b : Fin 1024 := ⟨(n.val - 8192) % 1024, by omega⟩
    have hab : n.val = 8192 + (a.val * 1024 + b.val) := by
      show n.val = 8192 + ((n.val - 8192) / 1024 * 1024 + (n.val - 8192) % 1024)
      omega
    let s : Fin 8 := ⟨1 + (n.val - 8192) / 1024, by omega⟩
    refine (Cert.KernelKvIdeal.Kv.reg_apply_sample m c a b s rfl n hab q Cert.ReferenceKvIdeal.Kv.cSc Cert.ReferenceKvIdeal.Kv.cSh (fun _ => rfl) (fun _ => rfl)).trans (Eq.symm ?_)
    exact (Cert.ReferenceKvIdeal.Kv.joined_right _ _ _ _ _ _ n a b q hab).trans (Cert.ReferenceKvIdeal.Kv.proj_apply_sample _ _ _ _ _ a b s rfl q)

end Cert.Kv

end
-- ==== Proof.Mod.Spec.lean ====
module

public import proofs.«01_k».proof.Proof.Gen.KernelModIdeal
public import Idealize.ShloMosaic.PureOps.Ideal
public import Idealize.ShloMosaic.Lib.ValueIdx

/-! The modulation table: each layer's map of the activated conditioning rows. -/

@[expose] public section

noncomputable section

namespace Cert.Mod.Spec

open Idealize.ShloMosaic
open scoped BigOperators

/-- The activation: a number times its logistic. -/
def silu (x : EReal) : EReal := x * (FloatOps.logistic (F := Ideal) (φ := .f32) x : EReal)

/-- One cell: the activated row against a column, and the column's bias. -/
def cell (x w : Fin 2048 → EReal) (b : EReal) : EReal := (∑ d : Fin 2048, silu (x d) * w d) + b

end Cert.Mod.Spec

end
-- ==== Proof.Mod.Pay.lean ====
module

public import proofs.«01_k».proof.Proof.Mod.Spec
public import proofs.«01_k».proof.Proof.Gen.KernelModIdeal.Frame
public import Idealize.ShloMosaic.Lib.MatmulPlain
public import Idealize.ShloMosaic.Lib.ValueIdx
public import Idealize.ShloMosaic.Lib.Pipeline.Value
public import Idealize.ShloMosaic.Lib.Pointwise.TacticCore

/-! What one grid point of the modulation leaves, element by element. -/

@[expose] public section

noncomputable section

namespace Cert.KernelModIdeal.Mod

open Cert.KernelModIdeal.Gen Idealize.ShloMosaic Idealize.ShloMosaic.TcCoe Idealize.ShloMosaic.Pipeline
open Idealize.SL Idealize.SL.Sem
open Cert.Mod
open scoped BigOperators

theorem hz2 : (![0, 0] : Fin 2 → ℕ) = fun _ => 0 := by decide

theorem hz3 : (![0, 0, 0] : Fin 3 → ℕ) = fun _ => 0 := by decide

/-- The block a point leaves is the body's value of the blocks it reads. -/
theorem out_eq {F : FTy → Type} [FloatOps F] (x0 : Vec F S8x2048 .f32) (x1 : Vec F S1x2048x512 .f32) (x2 : Vec F S1x1x512 .f32) :
    out0_3 x0 x1 x2 = k0_pay1 x0 x1 x2 := by
  unfold out0_3
  rw [View.canon_unit_zero (S := S1x8x512) hz3, View.ld_unit_zero (S := S8x2048) hz2, View.ld_unit_zero (S := S1x2048x512) hz3,
    View.ld_unit_zero (S := S1x1x512) hz3]

theorem pay_apply (x : Vec Ideal S8x2048 .f32) (w : Vec Ideal S1x2048x512 .f32) (b : Vec Ideal S1x1x512 .f32) (r : Fin 8) (q : Fin 512) :
    k0_pay1 x w b (ValueIdx.ix3 (0 : Fin 1) r q) = Spec.cell (fun d => x (ValueIdx.ix2 r d)) (fun d => w (ValueIdx.ix3 (0 : Fin 1) d q))
      (b (ValueIdx.ix3 (0 : Fin 1) (0 : Fin 1) q)) := by
  unfold k0_pay1
  simp only [shapeCast_self]
  refine (shapeCast_apply _ shapeCasts_S8x512_S1x8x512 _ (ValueIdx.ix2 r q) ?_).trans ?_
  · rw [Shape.rowMajor_val_three, Shape.rowMajor_val_two]; show r.val * 512 + q.val = (0 * 8 + r.val) * 512 + q.val; omega
  unfold Spec.cell
  refine congrArg₂ (fun p q : EReal => p + q) ?_ ?_
  · refine (Ideal.matmul_plain_apply none _ _ _ r q).trans ?_
    rw [show (constant S8x512 .f32 0x00000000#32 : FVec Ideal S8x512 .f32) (ValueIdx.ix2 r q) = 0 from Ideal.ofBits_zero_f32, zero_add]
    refine Finset.sum_congr (M := EReal) rfl fun d _ => congrArg (fun z : EReal => Spec.silu (x (ValueIdx.ix2 r d)) * z) ?_
    refine shapeCast_apply w shapeCasts_S1x2048x512_S2048x512 _ (ValueIdx.ix3 (0 : Fin 1) d q) ?_
    rw [Shape.rowMajor_val_three, Shape.rowMajor_val_two]; show (0 * 2048 + d.val) * 512 + q.val = d.val * 512 + q.val; omega
  · refine (broadcastTo_apply _ broadcasts_S1x512_S8x512 _ (ValueIdx.ix2 (0 : Fin 1) q) (fun a => by
      match a with
      | ⟨0, _⟩ => rfl
      | ⟨1, _⟩ => rfl)).trans ?_
    refine shapeCast_apply b shapeCasts_S1x1x512_S1x512 _ (ValueIdx.ix3 (0 : Fin 1) (0 : Fin 1) q) ?_
    rw [Shape.rowMajor_val_three, Shape.rowMajor_val_two]; rfl

end Cert.KernelModIdeal.Mod

end
-- ==== Proof.Mod.Blocks.lean ====
module

public import proofs.«01_k».proof.Proof.Mod.Pay
public import proofs.«01_k».proof.Proof.Gen.KernelModIdeal.Value
public import Idealize.ShloMosaic.Lib.Pipeline.ValueKit.Geometry
public import Idealize.ShloMosaic.Lib.StableHlo.Run

/-! The modulation's blocks as elements of its arrays, and the table it leaves. -/

@[expose] public section

set_option maxRecDepth 16384

noncomputable section

namespace Cert.KernelModIdeal.Mod

open Cert.KernelModIdeal Cert.KernelModIdeal.Gen Idealize.ShloMosaic Idealize.ShloMosaic.TcCoe Idealize.ShloMosaic.StableHlo
open Idealize.SL Idealize.SL.Sem
open Idealize.ShloMosaic.Pipeline (Dat Cfg Window)
open Cert.Mod

variable {F : FTy → Type} [FloatOps F]
variable (m : (ℓ : Loc nD τ sig) → Buf (Elt F) ℓ) (c : Dev nD)

theorem index0 : ∀ t : Fin cfg0.N, (cfg0.win 0).index t = ![0, 0] := by decide
theorem index1 : ∀ t : Fin cfg0.N, (cfg0.win 1).index t = ![t.val / 24, 0, t.val % 24] := by decide
theorem index2 : ∀ t : Fin cfg0.N, (cfg0.win 2).index t = ![t.val / 24, 0, t.val % 24] := by decide
theorem index3 : ∀ t : Fin cfg0.N, (cfg0.win 3).index t = ![t.val / 24, 0, t.val % 24] := by decide

theorem iblk0_apply (t : Fin cfg0.N) (r : Fin 8) (d : Fin 2048) :
    (show Vec F S8x2048 .f32 from iblk m c 0 t) (ValueIdx.ix2 r d) = (show Vec F S8x2048 .f32 from V m c main_v2) (ValueIdx.ix2 r d) := by
  show (show Vec F S8x2048 .f32 from V m c main_v2) (((cfg0.win 0).rect t).emb (ValueIdx.ix2 r d)) = _
  refine congrArg (show Vec F S8x2048 .f32 from V m c main_v2) (funext fun a => Fin.ext ?_)
  match a with
  | ⟨0, _⟩ =>
    refine (Pipeline.Window.rect_emb_val (cfg0.win 0) t (ValueIdx.ix2 r d) (0 : Fin 2)).trans ?_
    rw [index0 t]; show 0 * 8 + r.val = r.val; omega
  | ⟨1, _⟩ =>
    refine (Pipeline.Window.rect_emb_val (cfg0.win 0) t (ValueIdx.ix2 r d) (1 : Fin 2)).trans ?_
    rw [index0 t]; show 0 * 2048 + d.val = d.val; omega

theorem iblk1_apply (t : Fin cfg0.N) (d : Fin 2048) (q : Fin 512) (l : Fin 2) (j : Fin 12288) (hl : l.val = t.val / 24) (hj : j.val = t.val % 24 * 512 + q.val) :
    (show Vec F S1x2048x512 .f32 from iblk m c 1 t) (ValueIdx.ix3 (0 : Fin 1) d q) = (show Vec F S2x2048x12288 .f32 from V m c main_arg2) (ValueIdx.ix3 l d j) := by
  show (show Vec F S2x2048x12288 .f32 from V m c main_arg2) (((cfg0.win 1).rect t).emb (ValueIdx.ix3 (0 : Fin 1) d q)) = _
  refine congrArg (show Vec F S2x2048x12288 .f32 from V m c main_arg2) (funext fun a => Fin.ext ?_)
  match a with
  | ⟨0, _⟩ =>
    refine (Pipeline.Window.rect_emb_val (cfg0.win 1) t (ValueIdx.ix3 (0 : Fin 1) d q) (0 : Fin 3)).trans ?_
    rw [index1 t]; show t.val / 24 * 1 + 0 = l.val; omega
  | ⟨1, _⟩ =>
    refine (Pipeline.Window.rect_emb_val (cfg0.win 1) t (ValueIdx.ix3 (0 : Fin 1) d q) (1 : Fin 3)).trans ?_
    rw [index1 t]; show 0 * 2048 + d.val = d.val; omega
  | ⟨2, _⟩ =>
    refine (Pipeline.Window.rect_emb_val (cfg0.win 1) t (ValueIdx.ix3 (0 : Fin 1) d q) (2 : Fin 3)).trans ?_
    rw [index1 t]; show t.val % 24 * 512 + q.val = j.val; omega

theorem iblk2_apply (t : Fin cfg0.N) (q : Fin 512) (l : Fin 2) (j : Fin 12288) (hl : l.val = t.val / 24) (hj : j.val = t.val % 24 * 512 + q.val) :
    (show Vec F S1x1x512 .f32 from iblk m c 2 t) (ValueIdx.ix3 (0 : Fin 1) (0 : Fin 1) q) = (show Vec F S2x1x12288 .f32 from V m c main_v3) (ValueIdx.ix3 l (0 : Fin 1) j) := by
  show (show Vec F S2x1x12288 .f32 from V m c main_v3) (((cfg0.win 2).rect t).emb (ValueIdx.ix3 (0 : Fin 1) (0 : Fin 1) q)) = _
  refine congrArg (show Vec F S2x1x12288 .f32 from V m c main_v3) (funext fun a => Fin.ext ?_)
  match a with
  | ⟨0, _⟩ =>
    refine (Pipeline.Window.rect_emb_val (cfg0.win 2) t (ValueIdx.ix3 (0 : Fin 1) (0 : Fin 1) q) (0 : Fin 3)).trans ?_
    rw [index2 t]; show t.val / 24 * 1 + 0 = l.val; omega
  | ⟨1, _⟩ =>
    refine (Pipeline.Window.rect_emb_val (cfg0.win 2) t (ValueIdx.ix3 (0 : Fin 1) (0 : Fin 1) q) (1 : Fin 3)).trans ?_
    rw [index2 t]; rfl
  | ⟨2, _⟩ =>
    refine (Pipeline.Window.rect_emb_val (cfg0.win 2) t (ValueIdx.ix3 (0 : Fin 1) (0 : Fin 1) q) (2 : Fin 3)).trans ?_
    rw [index2 t]; show t.val % 24 * 512 + q.val = j.val; omega

/-- The table, block by block. -/
def outArr : Vec F S2x8x12288 .f32 := fun y =>
  k0_pay1 (iblk m c 0 ⟨24 * (y 0).val + (y 2).val / 512, by
      have h0 : (y 0).val < 2 := (y 0).isLt
      have h1 : (y 2).val < 12288 := (y 2).isLt
      show _ < 48; omega⟩)
    (iblk m c 1 ⟨24 * (y 0).val + (y 2).val / 512, by
      have h0 : (y 0).val < 2 := (y 0).isLt
      have h1 : (y 2).val < 12288 := (y 2).isLt
      show _ < 48; omega⟩)
    (iblk m c 2 ⟨24 * (y 0).val + (y 2).val / 512, by
      have h0 : (y 0).val < 2 := (y 0).isLt
      have h1 : (y 2).val < 12288 := (y 2).isLt
      show _ < 48; omega⟩)
    (ValueIdx.ix3 (0 : Fin 1) (y 1 : Fin 8) (⟨(y 2).val % 512, Nat.mod_lt _ (by omega)⟩ : Fin 512))

theorem pay_congr (t t' : Fin cfg0.N) (h : t = t') (z z' : S1x8x512.Idx) (hz : z = z') :
    k0_pay1 (iblk m c 0 t) (iblk m c 1 t) (iblk m c 2 t) z = k0_pay1 (iblk m c 0 t') (iblk m c 1 t') (iblk m c 2 t') z' := by subst h; subst hz; rfl

theorem flushed_eq (t : Fin cfg0.N) (hf : (cfg0.win 3).flush t = true) :
    (dats m 0 c).flushed 3 t = ((cfg0.win 3).blk t).view.read (Elt F) (outArr m c) := by
  funext y
  have ht : t.val < 48 := t.isLt
  have hy0 : (y (0 : Fin 3)).val < 1 := (y (0 : Fin 3)).isLt
  have hy1 : (y (1 : Fin 3)).val < 8 := (y (1 : Fin 3)).isLt
  have hy2 : (y (2 : Fin 3)).val < 512 := (y (2 : Fin 3)).isLt
  have e0 : (((cfg0.win 3).rect t).emb y (0 : Fin 3) : ℕ) = t.val / 24 * 1 + (y (0 : Fin 3)).val := by
    rw [Pipeline.Window.rect_emb_val _ t y (0 : Fin 3), index3 t]; rfl
  have e1 : (((cfg0.win 3).rect t).emb y (1 : Fin 3) : ℕ) = 0 * 8 + (y (1 : Fin 3)).val := by
    rw [Pipeline.Window.rect_emb_val _ t y (1 : Fin 3), index3 t]; rfl
  have e2 : (((cfg0.win 3).rect t).emb y (2 : Fin 3) : ℕ) = t.val % 24 * 512 + (y (2 : Fin 3)).val := by
    rw [Pipeline.Window.rect_emb_val _ t y (2 : Fin 3), index3 t]; rfl
  rw [Value.flushed3, out_eq]
  show k0_pay1 (iblk m c 0 t) (iblk m c 1 t) (iblk m c 2 t) y = outArr m c (((cfg0.win 3).rect t).emb y)
  unfold outArr
  refine pay_congr m c _ _ (Fin.ext ?_) _ _ (funext fun a => Fin.ext ?_)
  · show t.val = 24 * (((cfg0.win 3).rect t).emb y (0 : Fin 3) : ℕ) + (((cfg0.win 3).rect t).emb y (2 : Fin 3) : ℕ) / 512
    rw [e0, e2]; omega
  · match a with
    | ⟨0, _⟩ => show (y (0 : Fin 3)).val = 0; omega
    | ⟨1, _⟩ => show (y (1 : Fin 3)).val = (((cfg0.win 3).rect t).emb y (1 : Fin 3) : ℕ); rw [e1]; omega
    | ⟨2, _⟩ => show (y (2 : Fin 3)).val = (((cfg0.win 3).rect t).emb y (2 : Fin 3) : ℕ) % 512; rw [e2]; omega

theorem arrAt_apply (y : S2x8x12288.Idx) : (show Vec F S2x8x12288 .f32 from (dats m 0 c).arrAt 3 cfg0.N) y = outArr m c y := by
  have h0 : (y 0).val < 2 := (y 0).isLt
  have h1 : (y 1).val < 8 := (y 1).isLt
  have h2 : (y 2).val < 12288 := (y 2).isLt
  have hlt : 24 * (y 0).val + (y 2).val / 512 < 48 := by omega
  refine Dat.arrAt_apply_of_mem (dats m 0 c) 3 (outArr m c) (flushed_eq m c) cfg0.N ⟨24 * (y 0).val + (y 2).val / 512, hlt⟩ y hlt (flush0_3 _) ?_
  refine (Pipeline.Window.emb_mem_blk_iff (cfg0.win 3) ⟨24 * (y 0).val + (y 2).val / 512, hlt⟩ y).2 fun a => ?_
  rw [index3]
  match a with
  | ⟨0, _⟩ => show (24 * (y 0).val + (y 2).val / 512) / 24 * 1 ≤ (y 0).val ∧ (y 0).val < (24 * (y 0).val + (y 2).val / 512) / 24 * 1 + 1; omega
  | ⟨1, _⟩ => show 0 * 8 ≤ (y 1).val ∧ (y 1).val < 0 * 8 + 8; omega
  | ⟨2, _⟩ => show (24 * (y 0).val + (y 2).val / 512) % 24 * 512 ≤ (y 2).val ∧ (y 2).val < (24 * (y 0).val + (y 2).val / 512) % 24 * 512 + 512; omega

/-- The conditioning rows: the context's, the two samples', and rows of zeros. -/
def cond (x0 : Vec F S2x2048 .f32) (x1 : Vec F S2048 .f32) : Vec F S8x2048 .f32 :=
  concatenate S8x2048 0 [⟨S1x2048, broadcastInDim S1x2048 ![1] bcast_S2048_S1x2048_1 x1⟩, ⟨S2x2048, x0⟩,
    ⟨S5x2048, broadcastInDim S5x2048 ![] bcast_S_S5x2048 (constant S_ .f32 0x00000000#32)⟩] concatenates_S1x2048_S2x2048_S5x2048_S8x2048_d0

theorem rd_v2 : V m c main_v2 = cond (show Vec F S2x2048 .f32 from m ((c : Thread nD τ).loc main_arg0)) (show Vec F S2048 .f32 from m ((c : Thread nD τ).loc main_arg1)) := by
  show after hostOps0 _ (Proc.devRef .tc main_v2) = _
  simp only [hostOps0]
  after_results <;> rfl

theorem rd_v3 : V m c main_v3 = shapeCast S2x1x12288 (show Vec F S2x12288 .f32 from m ((c : Thread nD τ).loc main_arg3)) shapeCasts_S2x12288_S2x1x12288 := by
  show after hostOps0 _ (Proc.devRef .tc main_v3) = _
  simp only [hostOps0]
  after_results <;> rfl

/-- A cell of the table the calls leave, in the program's arguments. -/
theorem table_apply (m : (ℓ : Loc nD τ sig) → Buf (Elt Ideal) ℓ) (l : Fin 2) (r : Fin 8) (j : Fin 12288) :
    (show Vec Ideal S2x8x12288 .f32 from (dats m 0 c).arrAt 3 cfg0.N) (ValueIdx.ix3 l r j)
      = Spec.cell (fun d => cond (F := Ideal) (show Vec Ideal S2x2048 .f32 from m ((c : Thread nD τ).loc main_arg0)) (show Vec Ideal S2048 .f32 from m ((c : Thread nD τ).loc main_arg1)) (ValueIdx.ix2 r d))
        (fun d => (show Vec Ideal S2x2048x12288 .f32 from m ((c : Thread nD τ).loc main_arg2)) (ValueIdx.ix3 l d j))
        ((show Vec Ideal S2x12288 .f32 from m ((c : Thread nD τ).loc main_arg3)) (ValueIdx.ix2 l j)) := by
  have hl := l.isLt
  have hj := j.isLt
  have ht : 24 * l.val + j.val / 512 < cfg0.N := by show _ < 48; omega
  refine (arrAt_apply m c (ValueIdx.ix3 l r j)).trans ?_
  unfold outArr
  refine (pay_apply _ _ _ r (⟨j.val % 512, Nat.mod_lt _ (by omega)⟩ : Fin 512)).trans ?_
  refine congr (congr (congrArg Spec.cell (funext fun d => ?_)) (funext fun d => ?_)) ?_
  · exact (iblk0_apply m c _ r d).trans (congrFun (rd_v2 m c) _)
  · exact (iblk1_apply m c ⟨24 * l.val + j.val / 512, ht⟩ d _ l j (show l.val = (24 * l.val + j.val / 512) / 24 by omega)
      (show j.val = (24 * l.val + j.val / 512) % 24 * 512 + j.val % 512 by omega)).trans (congrFun (V_main_arg2 m c) _)
  · refine (iblk2_apply m c ⟨24 * l.val + j.val / 512, ht⟩ _ l j (show l.val = (24 * l.val + j.val / 512) / 24 by omega)
      (show j.val = (24 * l.val + j.val / 512) % 24 * 512 + j.val % 512 by omega)).trans ((congrFun (rd_v3 m c) _).trans ?_)
    refine shapeCast_apply _ shapeCasts_S2x12288_S2x1x12288 _ (ValueIdx.ix2 l j) ?_
    rw [Shape.rowMajor_val_three, Shape.rowMajor_val_two]
    show l.val * 12288 + j.val = (l.val * 1 + 0) * 12288 + j.val
    omega

end Cert.KernelModIdeal.Mod

end
-- ==== Proof.Mod.Ref.lean ====
module

public import proofs.«01_k».proof.Proof.Gen.ReferenceModIdeal.Read
public import proofs.«01_k».proof.Proof.Mod.Spec
public import Idealize.ShloMosaic.Lib.IdealHost

/-! The plain program's modulation table, element by element. -/

@[expose] public section

noncomputable section

namespace Cert.ReferenceModIdeal.Mod

open Cert.ReferenceModIdeal Cert.ReferenceModIdeal.Gen Cert.ReferenceModIdeal.Read Idealize.ShloMosaic Idealize.ShloMosaic.TcCoe Idealize.SL.Sem
open Cert.Mod
open scoped BigOperators

variable (x0 : Vec Ideal S2x2048 .f32) (x1 : Vec Ideal S2048 .f32) (x2 : Vec Ideal S2x2048x12288 .f32) (x3 : Vec Ideal S2x12288 .f32)

/-- The activated conditioning. -/
theorem silu_apply (i : S8x2048.Idx) : val_main_v3 (F := Ideal) x0 x1 i = Spec.silu (val_main_v2 (F := Ideal) x0 x1 i) := by
  rw [val_main_v3_apply, val_main_call0_v5_apply, val_main_call0_v4_apply, val_main_call0_v3_apply, val_main_call0_v2_apply, val_main_call0_v1_apply,
    val_main_call0_v0_apply, val_main_call0_cst_apply, val_main_call0_cst_0_apply]
  generalize val_main_v2 (F := Ideal) x0 x1 i = x
  unfold Spec.silu
  refine congrArg (fun z : EReal => x * z) ?_
  rw [show (FloatOps.ofBits (F := Ideal) .f32 0x3F800000#32) = (1 : EReal) from Ideal.ofBits_one_f32]
  rfl

/-- A cell of the first layer's table. -/
theorem first_apply (r : Fin 8) (j : Fin 12288) : val_main_v11 (F := Ideal) x0 x1 x2 x3 (ValueIdx.ix2 r j)
    = Spec.cell (fun d => val_main_v2 (F := Ideal) x0 x1 (ValueIdx.ix2 r d)) (fun d => x2 (ValueIdx.ix3 (0 : Fin 2) d j)) (x3 (ValueIdx.ix2 (0 : Fin 2) j)) := by
  have hj := j.isLt
  rw [val_main_v11_apply, val_main_v10_apply, val_main_v9_apply, val_main_v8_apply, val_main_v7_apply, val_main_v6_apply]
  refine congrArg₂ (fun p q : EReal => p + q) (Finset.sum_congr (M := EReal) rfl fun k _ => congrArg₂ (fun p q : EReal => p * q) ?_ ?_) ?_
  · refine (silu_apply x0 x1 _).trans (congrArg (fun z => Spec.silu (val_main_v2 (F := Ideal) x0 x1 z)) (funext fun z => Fin.ext ?_))
    match z with
    | ⟨0, _⟩ => rfl
    | ⟨1, _⟩ => rfl
  · rw [val_main_v5_apply, val_main_v4_apply]
    refine congrArg x2 (funext fun z => Fin.ext ?_)
    have hk := k.isLt
    match z with
    | ⟨0, _⟩ => rfl
    | ⟨1, _⟩ => show (k.val * 12288 + j.val) / 12288 % 2048 = k.val; omega
    | ⟨2, _⟩ => show (k.val * 12288 + j.val) % 12288 = j.val; omega
  · refine congrArg x3 (funext fun z => Fin.ext ?_)
    match z with
    | ⟨0, _⟩ => rfl
    | ⟨1, _⟩ => show j.val % 12288 = j.val; omega

/-- A cell of the second layer's table. -/
theorem second_apply (r : Fin 8) (j : Fin 12288) : val_main_v19 (F := Ideal) x0 x1 x2 x3 (ValueIdx.ix2 r j)
    = Spec.cell (fun d => val_main_v2 (F := Ideal) x0 x1 (ValueIdx.ix2 r d)) (fun d => x2 (ValueIdx.ix3 (1 : Fin 2) d j)) (x3 (ValueIdx.ix2 (1 : Fin 2) j)) := by
  have hj := j.isLt
  rw [val_main_v19_apply, val_main_v18_apply, val_main_v17_apply, val_main_v16_apply, val_main_v15_apply, val_main_v14_apply]
  refine congrArg₂ (fun p q : EReal => p + q) (Finset.sum_congr (M := EReal) rfl fun k _ => congrArg₂ (fun p q : EReal => p * q) ?_ ?_) ?_
  · refine (silu_apply x0 x1 _).trans (congrArg (fun z => Spec.silu (val_main_v2 (F := Ideal) x0 x1 z)) (funext fun z => Fin.ext ?_))
    match z with
    | ⟨0, _⟩ => rfl
    | ⟨1, _⟩ => rfl
  · rw [val_main_v13_apply, val_main_v12_apply]
    refine congrArg x2 (funext fun z => Fin.ext ?_)
    have hk := k.isLt
    match z with
    | ⟨0, _⟩ => rfl
    | ⟨1, _⟩ => show (k.val * 12288 + j.val) / 12288 % 2048 = k.val; omega
    | ⟨2, _⟩ => show (k.val * 12288 + j.val) % 12288 = j.val; omega
  · refine congrArg x3 (funext fun z => Fin.ext ?_)
    match z with
    | ⟨0, _⟩ => rfl
    | ⟨1, _⟩ => show j.val % 12288 = j.val; omega

/-- A cell of the stacked table. -/
theorem table_apply (l : Fin 2) (r : Fin 8) (j : Fin 12288) : val_main_v22 (F := Ideal) x0 x1 x2 x3 (ValueIdx.ix3 l r j)
    = Spec.cell (fun d => val_main_v2 (F := Ideal) x0 x1 (ValueIdx.ix2 r d)) (fun d => x2 (ValueIdx.ix3 l d j)) (x3 (ValueIdx.ix2 l j)) := by
  unfold val_main_v22
  match l with
  | ⟨0, _⟩ =>
    refine (concatenate_pair_apply_left _ _ _ concatenates_S1x8x12288_S1x8x12288_S2x8x12288_d0 (ValueIdx.ix3 (0 : Fin 2) r j) rfl
      (ValueIdx.ix3 (0 : Fin 1) r j) (fun z => ?_)).trans ?_
    · match z with
      | ⟨0, _⟩ => rfl
      | ⟨1, _⟩ => rfl
      | ⟨2, _⟩ => rfl
    · rw [val_main_v20_apply]
      refine (congrArg (val_main_v11 (F := Ideal) x0 x1 x2 x3) (funext fun z => Fin.ext ?_)).trans (first_apply x0 x1 x2 x3 r j)
      match z with
      | ⟨0, _⟩ => rfl
      | ⟨1, _⟩ => rfl
  | ⟨1, _⟩ =>
    refine (concatenate_pair_apply_right _ _ _ concatenates_S1x8x12288_S1x8x12288_S2x8x12288_d0 (ValueIdx.ix3 (1 : Fin 2) r j) rfl rfl
      (ValueIdx.ix3 (0 : Fin 1) r j) (fun z hz => ?_) rfl).trans ?_
    · match z with
      | ⟨0, _⟩ => exact absurd rfl hz
      | ⟨1, _⟩ => rfl
      | ⟨2, _⟩ => rfl
    · rw [val_main_v21_apply]
      refine (congrArg (val_main_v19 (F := Ideal) x0 x1 x2 x3) (funext fun z => Fin.ext ?_)).trans (second_apply x0 x1 x2 x3 r j)
      match z with
      | ⟨0, _⟩ => rfl
      | ⟨1, _⟩ => rfl

end Cert.ReferenceModIdeal.Mod

end
-- ==== Proof.Mod.Final.lean ====
module

public import proofs.«01_k».proof.Proof.Mod.Blocks
public import proofs.«01_k».proof.Proof.Mod.Ref

/-! The modulation tables of both programs are the same. -/

@[expose] public section

noncomputable section

namespace Cert.Mod

open Idealize.ShloMosaic Idealize.ShloMosaic.TcCoe Idealize.SL.Sem
open Cert.KernelModIdeal

variable (m : (ℓ : Loc nD τ sig) → Buf (Elt Ideal) ℓ) (c : Dev nD)
variable (x0 : Vec Ideal S2x2048 .f32) (x1 : Vec Ideal S2048 .f32) (x2 : Vec Ideal S2x2048x12288 .f32) (x3 : Vec Ideal S2x12288 .f32)

theorem table_eq (h0 : x0 = m ((c : Thread nD τ).loc main_arg0)) (h1 : x1 = m ((c : Thread nD τ).loc main_arg1)) (h2 : x2 = m ((c : Thread nD τ).loc main_arg2))
    (h3 : x3 = m ((c : Thread nD τ).loc main_arg3)) :
    (show S2x8x12288.Idx → EReal from (Gen.dats m 0 c).arrAt 3 cfg0.N) = Cert.ReferenceModIdeal.Read.val_main_v22 (F := Ideal) x0 x1 x2 x3 := by
  subst h0 h1 h2 h3
  refine funext fun (i : S2x8x12288.Idx) => ?_
  have hi : i = ValueIdx.ix3 (i 0 : Fin 2) (i 1 : Fin 8) (i 2 : Fin 12288) := funext fun a => by
    match a with
    | ⟨0, _⟩ => rfl
    | ⟨1, _⟩ => rfl
    | ⟨2, _⟩ => rfl
  rw [hi]
  exact (Cert.KernelModIdeal.Mod.table_apply c m (i 0) (i 1) (i 2)).trans (Cert.ReferenceModIdeal.Mod.table_apply _ _ _ _ (i 0) (i 1) (i 2)).symm

end Cert.Mod

end
-- ==== Proof.Out.Host.lean ====
module

public import proofs.«01_k».proof.Proof.Gen.KernelOutIdeal.Frame
public import Idealize.ShloMosaic.Lib.StableHlo.Run
public import Idealize.ShloMosaic.Lib.Pipeline.Value
public import Idealize.ShloMosaic.Lib.ValueIdx

/-! What the output projection finds in its arrays, element by element, in the program's arguments. -/

@[expose] public section

noncomputable section

namespace Cert.KernelOutIdeal.Out

open Cert.KernelOutIdeal Cert.KernelOutIdeal.Gen Idealize.ShloMosaic Idealize.ShloMosaic.TcCoe Idealize.SL.Sem Idealize.ShloMosaic.StableHlo

variable {F : FTy → Type} [FloatOps F]
variable (m : (ℓ : Loc nD τ sig) → Buf (Elt F) ℓ) (c : Dev nD)

theorem rd_v2 : V m c main_v2 = concatenate S10240x2048 0
    [⟨S8192x2048, shapeCast S8192x2048 (show Vec F S32x256x2048 .f32 from m ((c : Thread nD τ).loc main_arg0)) shapeCasts_S32x256x2048_S8192x2048⟩,
     ⟨S2048x2048, shapeCast S2048x2048 (show Vec F S2x1024x2048 .f32 from m ((c : Thread nD τ).loc main_arg1)) shapeCasts_S2x1024x2048_S2048x2048⟩]
    concatenates_S8192x2048_S2048x2048_S10240x2048_d0 := by
  show after hostOps0 _ (Proc.devRef .tc main_v2) = _
  simp only [hostOps0]
  after_results <;> rfl

theorem rd_v5 : V m c main_v5 = shapeCast S8x1x2048 (shapeCast S8x2048 (extractStridedSlice S1x8x2048 ![0, 0, 4096]
    (show Vec F S2x8x12288 .f32 from m ((c : Thread nD τ).loc main_arg4)) slices_S2x8x12288_S1x8x2048_0_0_4096) shapeCasts_S1x8x2048_S8x2048) shapeCasts_S8x2048_S8x1x2048 := by
  show after hostOps0 _ (Proc.devRef .tc main_v5) = _
  simp only [hostOps0]
  after_results <;> rfl

theorem rd_v6 : V m c main_v6 = concatenate S10240x2048 0
    [⟨S8192x2048, (show Vec F S8192x2048 .bf16 from m ((c : Thread nD τ).loc main_arg2))⟩,
     ⟨S2048x2048, (show Vec F S2048x2048 .bf16 from m ((c : Thread nD τ).loc main_arg3))⟩]
    concatenates_S8192x2048_S2048x2048_S10240x2048_d0 := by
  show after hostOps0 _ (Proc.devRef .tc main_v6) = _
  simp only [hostOps0]
  after_results <;> rfl

theorem rd_v7 : V m c main_v7 = shapeCast S2048x2048 (show Vec F S1x2048x2048 .f32 from m ((c : Thread nD τ).loc main_arg5)) shapeCasts_S1x2048x2048_S2048x2048 := by
  show after hostOps0 _ (Proc.devRef .tc main_v7) = _
  simp only [hostOps0]
  after_results <;> rfl

theorem rd_v9 : V m c main_v9 = shapeCast S1x2048 (shapeCast S2048 (show Vec F S1x2048 .f32 from m ((c : Thread nD τ).loc main_arg6)) shapeCasts_S1x2048_S2048) shapeCasts_S2048_S1x2048 := by
  show after hostOps0 _ (Proc.devRef .tc main_v9) = _
  simp only [hostOps0]
  after_results <;> rfl

/-- A number of a token of the prompts. -/
theorem tokens_apply (n : Fin 10240) (a : Fin 32) (b : Fin 256) (d : Fin 2048) (hn : n.val = a.val * 256 + b.val) :
    (show Vec F S10240x2048 .f32 from V m c main_v2) (ValueIdx.ix2 n d)
      = (show Vec F S32x256x2048 .f32 from m ((c : Thread nD τ).loc main_arg0)) (ValueIdx.ix3 a b d) := by
  have hb := b.isLt
  have ha := a.isLt
  rw [rd_v2]
  refine (concatenate_pair_apply_left _ _ _ concatenates_S8192x2048_S2048x2048_S10240x2048_d0 (ValueIdx.ix2 n d) rfl
    (ValueIdx.ix2 (⟨n.val, by omega⟩ : Fin 8192) d) (fun z => ?_)).trans ?_
  · match z with
    | ⟨0, _⟩ => rfl
    | ⟨1, _⟩ => rfl
  · refine shapeCast_apply _ shapeCasts_S32x256x2048_S8192x2048 _ _ ?_
    rw [Shape.rowMajor_val_three, Shape.rowMajor_val_two]
    show (a.val * 256 + b.val) * 2048 + d.val = n.val * 2048 + d.val
    rw [hn]

/-- A number of a token of the samples. -/
theorem samples_apply (n : Fin 10240) (a : Fin 2) (b : Fin 1024) (d : Fin 2048) (hn : n.val = 8192 + (a.val * 1024 + b.val)) :
    (show Vec F S10240x2048 .f32 from V m c main_v2) (ValueIdx.ix2 n d)
      = (show Vec F S2x1024x2048 .f32 from m ((c : Thread nD τ).loc main_arg1)) (ValueIdx.ix3 a b d) := by
  have hb := b.isLt
  have ha := a.isLt
  rw [rd_v2]
  refine (concatenate_pair_apply_right _ _ _ concatenates_S8192x2048_S2048x2048_S10240x2048_d0 (ValueIdx.ix2 n d) rfl rfl
    (ValueIdx.ix2 (⟨a.val * 1024 + b.val, by omega⟩ : Fin 2048) d) (fun z hz => ?_) ?_).trans ?_
  · match z with
    | ⟨0, _⟩ => exact absurd rfl hz
    | ⟨1, _⟩ => rfl
  · show a.val * 1024 + b.val + 8192 = n.val; omega
  · refine shapeCast_apply _ shapeCasts_S2x1024x2048_S2048x2048 _ _ ?_
    rw [Shape.rowMajor_val_three, Shape.rowMajor_val_two]
    rfl

/-- A number of a mixed row of the prompts. -/
theorem mix_left (n : Fin 10240) (k : Fin 8192) (d : Fin 2048) (hn : n.val = k.val) :
    (show Vec F S10240x2048 .bf16 from V m c main_v6) (ValueIdx.ix2 n d)
      = (show Vec F S8192x2048 .bf16 from m ((c : Thread nD τ).loc main_arg2)) (ValueIdx.ix2 k d) := by
  rw [rd_v6]
  refine concatenate_pair_apply_left _ _ _ concatenates_S8192x2048_S2048x2048_S10240x2048_d0 (ValueIdx.ix2 n d) rfl (ValueIdx.ix2 k d) (fun z => ?_)
  match z with
  | ⟨0, _⟩ => exact hn.symm
  | ⟨1, _⟩ => rfl

/-- A number of a mixed row of the samples. -/
theorem mix_right (n : Fin 10240) (k : Fin 2048) (d : Fin 2048) (hn : n.val = 8192 + k.val) :
    (show Vec F S10240x2048 .bf16 from V m c main_v6) (ValueIdx.ix2 n d)
      = (show Vec F S2048x2048 .bf16 from m ((c : Thread nD τ).loc main_arg3)) (ValueIdx.ix2 k d) := by
  rw [rd_v6]
  refine concatenate_pair_apply_right _ _ _ concatenates_S8192x2048_S2048x2048_S10240x2048_d0 (ValueIdx.ix2 n d) rfl rfl (ValueIdx.ix2 k d) (fun z hz => ?_)
    (show k.val + 8192 = n.val by omega)
  match z with
  | ⟨0, _⟩ => exact absurd rfl hz
  | ⟨1, _⟩ => rfl

/-- The gate of a row of the table. -/
theorem gate_apply (s : Fin 8) (d : Fin 2048) (k : Fin 12288) (hk : k.val = 4096 + d.val) :
    (show Vec F S8x1x2048 .f32 from V m c main_v5) (ValueIdx.ix3 s (0 : Fin 1) d)
      = (show Vec F S2x8x12288 .f32 from m ((c : Thread nD τ).loc main_arg4)) (ValueIdx.ix3 (0 : Fin 2) s k) := by
  rw [rd_v5]
  refine (shapeCast_apply _ shapeCasts_S8x2048_S8x1x2048 _ (ValueIdx.ix2 s d) ?_).trans ?_
  · rw [Shape.rowMajor_val_three, Shape.rowMajor_val_two]
    show s.val * 2048 + d.val = (s.val * 1 + 0) * 2048 + d.val
    omega
  refine (shapeCast_apply _ shapeCasts_S1x8x2048_S8x2048 _ (ValueIdx.ix3 (0 : Fin 1) s d) ?_).trans ?_
  · rw [Shape.rowMajor_val_three, Shape.rowMajor_val_two]
    show (0 * 8 + s.val) * 2048 + d.val = s.val * 2048 + d.val
    omega
  refine extractStridedSlice_apply (s := S2x8x12288) (t := S1x8x2048) ![0, 0, 4096] _ slices_S2x8x12288_S1x8x2048_0_0_4096 _ _ (fun z => ?_)
  match z with
  | ⟨0, _⟩ => rfl
  | ⟨1, _⟩ => show s.val = 0 + s.val; omega
  | ⟨2, _⟩ => exact hk

theorem weights_apply (d q : Fin 2048) :
    (show Vec F S2048x2048 .f32 from V m c main_v7) (ValueIdx.ix2 d q)
      = (show Vec F S1x2048x2048 .f32 from m ((c : Thread nD τ).loc main_arg5)) (ValueIdx.ix3 (0 : Fin 1) d q) := by
  rw [rd_v7]
  refine shapeCast_apply _ shapeCasts_S1x2048x2048_S2048x2048 _ _ ?_
  rw [Shape.rowMajor_val_three, Shape.rowMajor_val_two]
  show (0 * 2048 + d.val) * 2048 + q.val = d.val * 2048 + q.val
  omega

theorem bias_apply (q : Fin 2048) :
    (show Vec F S1x2048 .f32 from V m c main_v9) (ValueIdx.ix2 (0 : Fin 1) q)
      = (show Vec F S1x2048 .f32 from m ((c : Thread nD τ).loc main_arg6)) (ValueIdx.ix2 (0 : Fin 1) q) := by
  rw [rd_v9]
  refine (shapeCast_apply _ shapeCasts_S2048_S1x2048 _ (ValueIdx.ix1 q) ?_).trans ?_
  · rw [Shape.rowMajor_val_two, Shape.rowMajor_val_one]; show q.val = 0 * 2048 + q.val; omega
  refine shapeCast_apply _ shapeCasts_S1x2048_S2048 _ _ ?_
  rw [Shape.rowMajor_val_two, Shape.rowMajor_val_one]; show 0 * 2048 + q.val = q.val; omega

end Cert.KernelOutIdeal.Out

end
-- ==== Proof.Out.Blocks.lean ====
module

public import proofs.«01_k».proof.Proof.Gen.KernelOutIdeal.Value
public import Idealize.ShloMosaic.Lib.MatmulPlain
public import Idealize.ShloMosaic.Lib.ValueIdx
public import Idealize.ShloMosaic.Lib.Pipeline.Value
public import Idealize.ShloMosaic.Lib.Pipeline.ValueKit.Geometry
public import Idealize.ShloMosaic.Lib.Pointwise.TacticCore

/-! What one grid point of the output projection leaves, and the array all of them leave, element by element. -/

@[expose] public section

set_option maxRecDepth 16384

noncomputable section

namespace Cert.Out.Spec

open Idealize.ShloMosaic
open scoped BigOperators

/-- A number of a row after the projection: what it was, plus the gate times the product with the bias. -/
def cell (r : EReal) (g : EReal) (x w : Fin 2048 → EReal) (b : EReal) : EReal := r + g * ((∑ d : Fin 2048, x d * w d) + b)

end Cert.Out.Spec

namespace Cert.KernelOutIdeal.Out

open Cert.KernelOutIdeal Cert.KernelOutIdeal.Gen Idealize.ShloMosaic Idealize.ShloMosaic.TcCoe Idealize.ShloMosaic.StableHlo
open Idealize.SL Idealize.SL.Sem
open Idealize.ShloMosaic.Pipeline (Dat Cfg Window)
open Cert.Out
open scoped BigOperators

theorem hz2 : (![0, 0] : Fin 2 → ℕ) = fun _ => 0 := by decide

theorem hz3 : (![0, 0, 0] : Fin 3 → ℕ) = fun _ => 0 := by decide

/-- The block a point leaves is the body's value of the blocks it reads. -/
theorem out_eq {F : FTy → Type} [FloatOps F] (x0 : Vec F S512x2048 .bf16) (x1 : Vec F S2048x512 .f32) (x2 : Vec F S1x512 .f32)
    (x3 : Vec F S1x1x512 .f32) (x4 : Vec F S512x512 .f32) : out0_5 x0 x1 x2 x3 x4 = k0_pay1 x0 x1 x2 x4 x3 := by
  unfold out0_5
  rw [View.canon_unit_zero (S := S512x512) hz2, View.ld_unit_zero (S := S512x2048) hz2, View.ld_unit_zero (S := S2048x512) hz2,
    View.ld_unit_zero (S := S1x512) hz2, View.ld_unit_zero (S := S512x512) hz2, View.ld_unit_zero (S := S1x1x512) hz3]

theorem pay_apply (x : Vec Ideal S512x2048 .bf16) (w : Vec Ideal S2048x512 .f32) (b : Vec Ideal S1x512 .f32) (z : Vec Ideal S512x512 .f32)
    (g : Vec Ideal S1x1x512 .f32) (r : Fin 512) (q : Fin 512) :
    k0_pay1 x w b z g (ValueIdx.ix2 r q) = Spec.cell (z (ValueIdx.ix2 r q)) (g (ValueIdx.ix3 (0 : Fin 1) (0 : Fin 1) q))
      (fun d => x (ValueIdx.ix2 r d)) (fun d => w (ValueIdx.ix2 d q)) (b (ValueIdx.ix2 (0 : Fin 1) q)) := by
  unfold k0_pay1
  simp only [shapeCast_self]
  unfold Spec.cell
  refine congrArg (fun p : EReal => z (ValueIdx.ix2 r q) + p) (congrArg₂ (fun p s : EReal => p * s) ?_ (congrArg₂ (fun p s : EReal => p + s) ?_ ?_))
  · refine (broadcastTo_apply _ broadcasts_S1x512_S512x512 _ (ValueIdx.ix2 (0 : Fin 1) q) (fun a => by
      match a with
      | ⟨0, _⟩ => rfl
      | ⟨1, _⟩ => rfl)).trans ?_
    refine shapeCast_apply g shapeCasts_S1x1x512_S1x512 _ (ValueIdx.ix3 (0 : Fin 1) (0 : Fin 1) q) ?_
    rw [Shape.rowMajor_val_three, Shape.rowMajor_val_two]; rfl
  · refine (Ideal.matmul_plain_apply none _ _ _ r q).trans ?_
    rw [show (constant S512x512 .f32 0x00000000#32 : FVec Ideal S512x512 .f32) (ValueIdx.ix2 r q) = 0 from Ideal.ofBits_zero_f32, zero_add]
    rfl
  · exact broadcastTo_apply _ broadcasts_S1x512_S512x512 _ (ValueIdx.ix2 (0 : Fin 1) q) (fun a => by
      match a with
      | ⟨0, _⟩ => rfl
      | ⟨1, _⟩ => rfl)

variable {F : FTy → Type} [FloatOps F]
variable (m : (ℓ : Loc nD τ sig) → Buf (Elt F) ℓ) (c : Dev nD)

/-- The row of the table a grid point reads its gate from. -/
def seg (t : ℕ) : ℕ := if t < 64 then 0 else 1 + (t - 64) / 8

theorem index0 : ∀ t : Fin cfg0.N, (cfg0.win 0).index t = ![t.val / 4, 0] := by decide
theorem index1 : ∀ t : Fin cfg0.N, (cfg0.win 1).index t = ![0, t.val % 4] := by decide
theorem index2 : ∀ t : Fin cfg0.N, (cfg0.win 2).index t = ![0, t.val % 4] := by decide
theorem index3 : ∀ t : Fin cfg0.N, (cfg0.win 3).index t = ![seg t.val, 0, t.val % 4] := by decide
theorem index4 : ∀ t : Fin cfg0.N, (cfg0.win 4).index t = ![t.val / 4, t.val % 4] := by decide
theorem index5 : ∀ t : Fin cfg0.N, (cfg0.win 5).index t = ![t.val / 4, t.val % 4] := by decide

theorem iblk0_apply (t : Fin cfg0.N) (r : Fin 512) (d : Fin 2048) (n : Fin 10240) (hn : n.val = t.val / 4 * 512 + r.val) :
    (show Vec F S512x2048 .bf16 from iblk m c 0 t) (ValueIdx.ix2 r d) = (show Vec F S10240x2048 .bf16 from V m c main_v6) (ValueIdx.ix2 n d) := by
  show (show Vec F S10240x2048 .bf16 from V m c main_v6) (((cfg0.win 0).rect t).emb (ValueIdx.ix2 r d)) = _
  refine congrArg (show Vec F S10240x2048 .bf16 from V m c main_v6) (funext fun a => Fin.ext ?_)
  match a with
  | ⟨0, _⟩ =>
    refine (Pipeline.Window.rect_emb_val (cfg0.win 0) t (ValueIdx.ix2 r d) (0 : Fin 2)).trans ?_
    rw [index0 t]; show t.val / 4 * 512 + r.val = n.val; omega
  | ⟨1, _⟩ =>
    refine (Pipeline.Window.rect_emb_val (cfg0.win 0) t (ValueIdx.ix2 r d) (1 : Fin 2)).trans ?_
    rw [index0 t]; show 0 * 2048 + d.val = d.val; omega

theorem iblk1_apply (t : Fin cfg0.N) (d : Fin 2048) (q : Fin 512) (j : Fin 2048) (hj : j.val = t.val % 4 * 512 + q.val) :
    (show Vec F S2048x512 .f32 from iblk m c 1 t) (ValueIdx.ix2 d q) = (show Vec F S2048x2048 .f32 from V m c main_v7) (ValueIdx.ix2 d j) := by
  show (show Vec F S2048x2048 .f32 from V m c main_v7) (((cfg0.win 1).rect t).emb (ValueIdx.ix2 d q)) = _
  refine congrArg (show Vec F S2048x2048 .f32 from V m c main_v7) (funext fun a => Fin.ext ?_)
  match a with
  | ⟨0, _⟩ =>
    refine (Pipeline.Window.rect_emb_val (cfg0.win 1) t (ValueIdx.ix2 d q) (0 : Fin 2)).trans ?_
    rw [index1 t]; show 0 * 2048 + d.val = d.val; omega
  | ⟨1, _⟩ =>
    refine (Pipeline.Window.rect_emb_val (cfg0.win 1) t (ValueIdx.ix2 d q) (1 : Fin 2)).trans ?_
    rw [index1 t]; show t.val % 4 * 512 + q.val = j.val; omega

theorem iblk2_apply (t : Fin cfg0.N) (q : Fin 512) (j : Fin 2048) (hj : j.val = t.val % 4 * 512 + q.val) :
    (show Vec F S1x512 .f32 from iblk m c 2 t) (ValueIdx.ix2 (0 : Fin 1) q) = (show Vec F S1x2048 .f32 from V m c main_v9) (ValueIdx.ix2 (0 : Fin 1) j) := by
  show (show Vec F S1x2048 .f32 from V m c main_v9) (((cfg0.win 2).rect t).emb (ValueIdx.ix2 (0 : Fin 1) q)) = _
  refine congrArg (show Vec F S1x2048 .f32 from V m c main_v9) (funext fun a => Fin.ext ?_)
  match a with
  | ⟨0, _⟩ =>
    refine (Pipeline.Window.rect_emb_val (cfg0.win 2) t (ValueIdx.ix2 (0 : Fin 1) q) (0 : Fin 2)).trans ?_
    rw [index2 t]; rfl
  | ⟨1, _⟩ =>
    refine (Pipeline.Window.rect_emb_val (cfg0.win 2) t (ValueIdx.ix2 (0 : Fin 1) q) (1 : Fin 2)).trans ?_
    rw [index2 t]; show t.val % 4 * 512 + q.val = j.val; omega

theorem iblk3_apply (t : Fin cfg0.N) (q : Fin 512) (s : Fin 8) (j : Fin 2048) (hs : s.val = seg t.val) (hj : j.val = t.val % 4 * 512 + q.val) :
    (show Vec F S1x1x512 .f32 from iblk m c 3 t) (ValueIdx.ix3 (0 : Fin 1) (0 : Fin 1) q)
      = (show Vec F S8x1x2048 .f32 from V m c main_v5) (ValueIdx.ix3 s (0 : Fin 1) j) := by
  show (show Vec F S8x1x2048 .f32 from V m c main_v5) (((cfg0.win 3).rect t).emb (ValueIdx.ix3 (0 : Fin 1) (0 : Fin 1) q)) = _
  refine congrArg (show Vec F S8x1x2048 .f32 from V m c main_v5) (funext fun a => Fin.ext ?_)
  match a with
  | ⟨0, _⟩ =>
    refine (Pipeline.Window.rect_emb_val (cfg0.win 3) t (ValueIdx.ix3 (0 : Fin 1) (0 : Fin 1) q) (0 : Fin 3)).trans ?_
    rw [index3 t]; show seg t.val * 1 + 0 = s.val; omega
  | ⟨1, _⟩ =>
    refine (Pipeline.Window.rect_emb_val (cfg0.win 3) t (ValueIdx.ix3 (0 : Fin 1) (0 : Fin 1) q) (1 : Fin 3)).trans ?_
    rw [index3 t]; rfl
  | ⟨2, _⟩ =>
    refine (Pipeline.Window.rect_emb_val (cfg0.win 3) t (ValueIdx.ix3 (0 : Fin 1) (0 : Fin 1) q) (2 : Fin 3)).trans ?_
    rw [index3 t]; show t.val % 4 * 512 + q.val = j.val; omega

theorem iblk4_apply (t : Fin cfg0.N) (r : Fin 512) (q : Fin 512) (n : Fin 10240) (j : Fin 2048) (hn : n.val = t.val / 4 * 512 + r.val)
    (hj : j.val = t.val % 4 * 512 + q.val) :
    (show Vec F S512x512 .f32 from iblk m c 4 t) (ValueIdx.ix2 r q) = (show Vec F S10240x2048 .f32 from V m c main_v2) (ValueIdx.ix2 n j) := by
  show (show Vec F S10240x2048 .f32 from V m c main_v2) (((cfg0.win 4).rect t).emb (ValueIdx.ix2 r q)) = _
  refine congrArg (show Vec F S10240x2048 .f32 from V m c main_v2) (funext fun a => Fin.ext ?_)
  match a with
  | ⟨0, _⟩ =>
    refine (Pipeline.Window.rect_emb_val (cfg0.win 4) t (ValueIdx.ix2 r q) (0 : Fin 2)).trans ?_
    rw [index4 t]; show t.val / 4 * 512 + r.val = n.val; omega
  | ⟨1, _⟩ =>
    refine (Pipeline.Window.rect_emb_val (cfg0.win 4) t (ValueIdx.ix2 r q) (1 : Fin 2)).trans ?_
    rw [index4 t]; show t.val % 4 * 512 + q.val = j.val; omega

/-- The point whose block holds a place of the array. -/
def pt (y : S10240x2048.Idx) : Fin cfg0.N := ⟨4 * ((y 0).val / 512) + (y 1).val / 512, by
  have h0 : (y 0).val < 10240 := (y 0).isLt
  have h1 : (y 1).val < 2048 := (y 1).isLt
  show _ < 80; omega⟩

/-- The result array, block by block. -/
def outArr : Vec F S10240x2048 .f32 := fun y =>
  k0_pay1 (iblk m c 0 (pt y)) (iblk m c 1 (pt y)) (iblk m c 2 (pt y)) (iblk m c 4 (pt y)) (iblk m c 3 (pt y))
    (ValueIdx.ix2 (⟨(y 0).val % 512, Nat.mod_lt _ (by omega)⟩ : Fin 512) (⟨(y 1).val % 512, Nat.mod_lt _ (by omega)⟩ : Fin 512))

theorem pay_congr (t t' : Fin cfg0.N) (h : t = t') (z z' : S512x512.Idx) (hz : z = z') :
    k0_pay1 (iblk m c 0 t) (iblk m c 1 t) (iblk m c 2 t) (iblk m c 4 t) (iblk m c 3 t) z
      = k0_pay1 (iblk m c 0 t') (iblk m c 1 t') (iblk m c 2 t') (iblk m c 4 t') (iblk m c 3 t') z' := by subst h; subst hz; rfl

theorem flushed_eq (t : Fin cfg0.N) (hf : (cfg0.win 5).flush t = true) :
    (dats m 0 c).flushed 5 t = ((cfg0.win 5).blk t).view.read (Elt F) (outArr m c) := by
  funext y
  have ht : t.val < 80 := t.isLt
  have hy0 : (y (0 : Fin 2)).val < 512 := (y (0 : Fin 2)).isLt
  have hy1 : (y (1 : Fin 2)).val < 512 := (y (1 : Fin 2)).isLt
  have e0 : (((cfg0.win 5).rect t).emb y (0 : Fin 2) : ℕ) = t.val / 4 * 512 + (y (0 : Fin 2)).val := by
    rw [Pipeline.Window.rect_emb_val _ t y (0 : Fin 2), index5 t]; rfl
  have e1 : (((cfg0.win 5).rect t).emb y (1 : Fin 2) : ℕ) = t.val % 4 * 512 + (y (1 : Fin 2)).val := by
    rw [Pipeline.Window.rect_emb_val _ t y (1 : Fin 2), index5 t]; rfl
  rw [Value.flushed5, out_eq]
  show k0_pay1 (iblk m c 0 t) (iblk m c 1 t) (iblk m c 2 t) (iblk m c 4 t) (iblk m c 3 t) y = outArr m c (((cfg0.win 5).rect t).emb y)
  unfold outArr
  refine pay_congr m c _ _ (Fin.ext ?_) _ _ (funext fun a => Fin.ext ?_)
  · show t.val = 4 * ((((cfg0.win 5).rect t).emb y (0 : Fin 2) : ℕ) / 512) + (((cfg0.win 5).rect t).emb y (1 : Fin 2) : ℕ) / 512
    rw [e0, e1]; omega
  · match a with
    | ⟨0, _⟩ => show (y (0 : Fin 2)).val = (((cfg0.win 5).rect t).emb y (0 : Fin 2) : ℕ) % 512; rw [e0]; omega
    | ⟨1, _⟩ => show (y (1 : Fin 2)).val = (((cfg0.win 5).rect t).emb y (1 : Fin 2) : ℕ) % 512; rw [e1]; omega

theorem arrAt_apply (y : S10240x2048.Idx) : (show Vec F S10240x2048 .f32 from (dats m 0 c).arrAt 5 cfg0.N) y = outArr m c y := by
  have h0 : (y 0).val < 10240 := (y 0).isLt
  have h1 : (y 1).val < 2048 := (y 1).isLt
  refine Dat.arrAt_apply_of_mem (dats m 0 c) 5 (outArr m c) (flushed_eq m c) cfg0.N (pt y) y (pt y).isLt (flush0_5 _) ?_
  refine (Pipeline.Window.emb_mem_blk_iff (cfg0.win 5) (pt y) y).2 fun a => ?_
  rw [index5]
  match a with
  | ⟨0, _⟩ => show (4 * ((y 0).val / 512) + (y 1).val / 512) / 4 * 512 ≤ (y 0).val ∧ (y 0).val < (4 * ((y 0).val / 512) + (y 1).val / 512) / 4 * 512 + 512; omega
  | ⟨1, _⟩ => show (4 * ((y 0).val / 512) + (y 1).val / 512) % 4 * 512 ≤ (y 1).val ∧ (y 1).val < (4 * ((y 0).val / 512) + (y 1).val / 512) % 4 * 512 + 512; omega

/-- A number of the array the call leaves, in the arrays it finds. -/
theorem array_apply (m : (ℓ : Loc nD τ sig) → Buf (Elt Ideal) ℓ) (n : Fin 10240) (q : Fin 2048) (s : Fin 8)
    (hs : s.val = if n.val < 8192 then 0 else 1 + (n.val - 8192) / 1024) :
    (show Vec Ideal S10240x2048 .f32 from (dats m 0 c).arrAt 5 cfg0.N) (ValueIdx.ix2 n q)
      = Spec.cell ((show Vec Ideal S10240x2048 .f32 from V m c main_v2) (ValueIdx.ix2 n q))
        ((show Vec Ideal S8x1x2048 .f32 from V m c main_v5) (ValueIdx.ix3 s (0 : Fin 1) q))
        (fun d => (show Vec Ideal S10240x2048 .bf16 from V m c main_v6) (ValueIdx.ix2 n d))
        (fun d => (show Vec Ideal S2048x2048 .f32 from V m c main_v7) (ValueIdx.ix2 d q))
        ((show Vec Ideal S1x2048 .f32 from V m c main_v9) (ValueIdx.ix2 (0 : Fin 1) q)) := by
  have hn := n.isLt
  have hq := q.isLt
  have er : n.val = (4 * (n.val / 512) + q.val / 512) / 4 * 512 + n.val % 512 := by omega
  have ec : q.val = (4 * (n.val / 512) + q.val / 512) % 4 * 512 + q.val % 512 := by omega
  have es : s.val = seg (4 * (n.val / 512) + q.val / 512) := by
    rw [hs]; unfold seg
    split <;> split <;> omega
  refine (arrAt_apply m c (ValueIdx.ix2 n q)).trans ?_
  unfold outArr
  refine (pay_apply _ _ _ _ _ (⟨n.val % 512, Nat.mod_lt _ (by omega)⟩ : Fin 512) (⟨q.val % 512, Nat.mod_lt _ (by omega)⟩ : Fin 512)).trans ?_
  refine congr (congr (congr (congr (congrArg Spec.cell ?_) ?_) (funext fun d => ?_)) (funext fun d => ?_)) ?_
  · exact iblk4_apply m c (pt (ValueIdx.ix2 n q)) _ _ n q er ec
  · exact iblk3_apply m c (pt (ValueIdx.ix2 n q)) _ s q es ec
  · exact iblk0_apply m c (pt (ValueIdx.ix2 n q)) _ d n er
  · exact iblk1_apply m c (pt (ValueIdx.ix2 n q)) d _ q ec
  · exact iblk2_apply m c (pt (ValueIdx.ix2 n q)) _ q ec

end Cert.KernelOutIdeal.Out

end
-- ==== Proof.Out.Ref.lean ====
module

public import proofs.«01_k».proof.Proof.Gen.ReferenceOutIdeal.Read
public import proofs.«01_k».proof.Proof.Out.Blocks

/-! The plain program's output projection, element by element. -/

@[expose] public section

noncomputable section

namespace Cert.ReferenceOutIdeal.Out

open Cert.ReferenceOutIdeal Cert.ReferenceOutIdeal.Gen Cert.ReferenceOutIdeal.Read Idealize.ShloMosaic Idealize.ShloMosaic.TcCoe Idealize.SL.Sem
open Cert.Out
open scoped BigOperators

variable (x0 : Vec Ideal S32x256x2048 .f32) (x1 : Vec Ideal S2x1024x2048 .f32) (x2 : Vec Ideal S8192x2048 .bf16) (x3 : Vec Ideal S2048x2048 .bf16)
variable (x4 : Vec Ideal S2x8x12288 .f32) (x5 : Vec Ideal S1x2048x2048 .f32) (x6 : Vec Ideal S1x2048 .f32)

/-- A token of the prompts: the gate. -/
theorem gate_prompt (a : Fin 32) (b : Fin 256) (q : Fin 2048) (s : Fin 8) (hs : s.val = 0) (k : Fin 12288) (hk : k.val = 4096 + q.val) :
    val_main_v26 (F := Ideal) x4 (ValueIdx.ix3 a b q) = x4 (ValueIdx.ix3 (0 : Fin 2) s k) := by
  rw [val_main_v26_apply, val_main_v5_apply, val_main_v2_apply, val_main_v1_apply, val_main_v0_apply]
  refine congrArg x4 (funext fun z => Fin.ext ?_)
  have h2 := q.isLt
  match z with
  | ⟨0, _⟩ => rfl
  | ⟨1, _⟩ => show 0 = s.val; omega
  | ⟨2, _⟩ => show (0 * 12288 + (4096 + q.val)) % 12288 = k.val; omega

/-- A token of the prompts: the mixed row, of one more format. -/
theorem mix_prompt (a : Fin 32) (b : Fin 256) (d : Fin 2048) (k : Fin 8192) (hk : k.val = a.val * 256 + b.val) :
    val_main_v19 (F := Ideal) x2 (ValueIdx.ix3 a b d) = x2 (ValueIdx.ix2 k d) := by
  rw [val_main_v19_apply, val_main_v18_apply]
  refine congrArg x2 (funext fun z => Fin.ext ?_)
  have h2 := d.isLt
  match z with
  | ⟨0, _⟩ => show ((a.val * 256 + b.val) * 2048 + d.val) / 2048 = k.val; omega
  | ⟨1, _⟩ => show ((a.val * 256 + b.val) * 2048 + d.val) % 2048 = d.val; omega

theorem weights_prompt (d q : Fin 2048) : val_main_v20 (F := Ideal) x5 (ValueIdx.ix2 d q) = x5 (ValueIdx.ix3 (0 : Fin 1) d q) := by
  rw [val_main_v20_apply]
  refine congrArg x5 (funext fun z => Fin.ext ?_)
  have h1 := d.isLt
  have h2 := q.isLt
  match z with
  | ⟨0, _⟩ => rfl
  | ⟨1, _⟩ => show (d.val * 2048 + q.val) / 2048 % 2048 = d.val; omega
  | ⟨2, _⟩ => show (d.val * 2048 + q.val) % 2048 = q.val; omega

theorem bias_prompt (a : Fin 32) (b : Fin 256) (q : Fin 2048) :
    val_main_v24 (F := Ideal) x6 (ValueIdx.ix3 a b q) = x6 (ValueIdx.ix2 (0 : Fin 1) q) := by
  rw [val_main_v24_apply, val_main_v23_apply, val_main_v22_apply]
  refine congrArg x6 (funext fun z => Fin.ext ?_)
  have h2 := q.isLt
  match z with
  | ⟨0, _⟩ => rfl
  | ⟨1, _⟩ => show q.val % 2048 = q.val; omega

/-- A token of the prompts: a number after the projection. -/
theorem prompt_apply (a : Fin 32) (b : Fin 256) (q : Fin 2048) (s : Fin 8) (hs : s.val = 0) (j : Fin 12288) (hj : j.val = 4096 + q.val)
    (k : Fin 8192) (hk : k.val = a.val * 256 + b.val) :
    val_main_v28 (F := Ideal) x0 x2 x4 x5 x6 (ValueIdx.ix3 a b q) = Spec.cell (x0 (ValueIdx.ix3 a b q)) (x4 (ValueIdx.ix3 (0 : Fin 2) s j))
      (fun d => x2 (ValueIdx.ix2 k d)) (fun d => x5 (ValueIdx.ix3 (0 : Fin 1) d q)) (x6 (ValueIdx.ix2 (0 : Fin 1) q)) := by
  rw [val_main_v28_apply, val_main_v27_apply, val_main_v25_apply, gate_prompt x4 a b q s hs j hj, bias_prompt x6 a b q, val_main_v21_apply]
  unfold Spec.cell
  refine congrArg (fun z : EReal => x0 (ValueIdx.ix3 a b q) + x4 (ValueIdx.ix3 (0 : Fin 2) s j) * (z + x6 (ValueIdx.ix2 (0 : Fin 1) q))) ?_
  refine Finset.sum_congr (M := EReal) rfl fun d _ => ?_
  have el : lidx_main_v21 (ValueIdx.ix3 a b q) d = ValueIdx.ix3 a b d := funext fun z => Fin.ext (by
    match z with
    | ⟨0, _⟩ => rfl
    | ⟨1, _⟩ => rfl
    | ⟨2, _⟩ => rfl)
  have er : ridx_main_v21 (ValueIdx.ix3 a b q) d = ValueIdx.ix2 d q := funext fun z => Fin.ext (by
    match z with
    | ⟨0, _⟩ => rfl
    | ⟨1, _⟩ => rfl)
  rw [el, er, mix_prompt x2 a b d k hk, weights_prompt x5 d q]

/-- A token of the samples: the gate. -/
theorem gate_sample (a : Fin 2) (b : Fin 1024) (q : Fin 2048) (s : Fin 8) (hs : s.val = 1 + a.val) (k : Fin 12288) (hk : k.val = 4096 + q.val) :
    val_main_v37 (F := Ideal) x4 (ValueIdx.ix3 a b q) = x4 (ValueIdx.ix3 (0 : Fin 2) s k) := by
  rw [val_main_v37_apply, val_main_v14_apply, val_main_v11_apply, val_main_v10_apply, val_main_v9_apply]
  refine congrArg x4 (funext fun z => Fin.ext ?_)
  have h2 := q.isLt
  match z with
  | ⟨0, _⟩ => rfl
  | ⟨1, _⟩ => show 1 + (a.val * 12288 + (4096 + q.val)) / 12288 % 2 = s.val; omega
  | ⟨2, _⟩ => show (a.val * 12288 + (4096 + q.val)) % 12288 = k.val; omega

/-- A token of the samples: the mixed row, of one more format. -/
theorem mix_sample (a : Fin 2) (b : Fin 1024) (d : Fin 2048) (k : Fin 2048) (hk : k.val = a.val * 1024 + b.val) :
    val_main_v30 (F := Ideal) x3 (ValueIdx.ix3 a b d) = x3 (ValueIdx.ix2 k d) := by
  rw [val_main_v30_apply, val_main_v29_apply]
  refine congrArg x3 (funext fun z => Fin.ext ?_)
  have h2 := d.isLt
  match z with
  | ⟨0, _⟩ => show ((a.val * 1024 + b.val) * 2048 + d.val) / 2048 = k.val; omega
  | ⟨1, _⟩ => show ((a.val * 1024 + b.val) * 2048 + d.val) % 2048 = d.val; omega

theorem weights_sample (d q : Fin 2048) : val_main_v31 (F := Ideal) x5 (ValueIdx.ix2 d q) = x5 (ValueIdx.ix3 (0 : Fin 1) d q) := by
  rw [val_main_v31_apply]
  refine congrArg x5 (funext fun z => Fin.ext ?_)
  have h1 := d.isLt
  have h2 := q.isLt
  match z with
  | ⟨0, _⟩ => rfl
  | ⟨1, _⟩ => show (d.val * 2048 + q.val) / 2048 % 2048 = d.val; omega
  | ⟨2, _⟩ => show (d.val * 2048 + q.val) % 2048 = q.val; omega

theorem bias_sample (a : Fin 2) (b : Fin 1024) (q : Fin 2048) :
    val_main_v35 (F := Ideal) x6 (ValueIdx.ix3 a b q) = x6 (ValueIdx.ix2 (0 : Fin 1) q) := by
  rw [val_main_v35_apply, val_main_v34_apply, val_main_v33_apply]
  refine congrArg x6 (funext fun z => Fin.ext ?_)
  have h2 := q.isLt
  match z with
  | ⟨0, _⟩ => rfl
  | ⟨1, _⟩ => show q.val % 2048 = q.val; omega

/-- A token of the samples: a number after the projection. -/
theorem sample_apply (a : Fin 2) (b : Fin 1024) (q : Fin 2048) (s : Fin 8) (hs : s.val = 1 + a.val) (j : Fin 12288) (hj : j.val = 4096 + q.val)
    (k : Fin 2048) (hk : k.val = a.val * 1024 + b.val) :
    val_main_v39 (F := Ideal) x1 x3 x4 x5 x6 (ValueIdx.ix3 a b q) = Spec.cell (x1 (ValueIdx.ix3 a b q)) (x4 (ValueIdx.ix3 (0 : Fin 2) s j))
      (fun d => x3 (ValueIdx.ix2 k d)) (fun d => x5 (ValueIdx.ix3 (0 : Fin 1) d q)) (x6 (ValueIdx.ix2 (0 : Fin 1) q)) := by
  rw [val_main_v39_apply, val_main_v38_apply, val_main_v36_apply, gate_sample x4 a b q s hs j hj, bias_sample x6 a b q, val_main_v32_apply]
  unfold Spec.cell
  refine congrArg (fun z : EReal => x1 (ValueIdx.ix3 a b q) + x4 (ValueIdx.ix3 (0 : Fin 2) s j) * (z + x6 (ValueIdx.ix2 (0 : Fin 1) q))) ?_
  refine Finset.sum_congr (M := EReal) rfl fun d _ => ?_
  have el : lidx_main_v32 (ValueIdx.ix3 a b q) d = ValueIdx.ix3 a b d := funext fun z => Fin.ext (by
    match z with
    | ⟨0, _⟩ => rfl
    | ⟨1, _⟩ => rfl
    | ⟨2, _⟩ => rfl)
  have er : ridx_main_v32 (ValueIdx.ix3 a b q) d = ValueIdx.ix2 d q := funext fun z => Fin.ext (by
    match z with
    | ⟨0, _⟩ => rfl
    | ⟨1, _⟩ => rfl)
  rw [el, er, mix_sample x3 a b d k hk, weights_sample x5 d q]

/-- The joined array at a token of the prompts. -/
theorem joined_left (n : Fin 10240) (a : Fin 32) (b : Fin 256) (q : Fin 2048) (hn : n.val = a.val * 256 + b.val) :
    val_main_v42 (F := Ideal) x0 x1 x2 x3 x4 x5 x6 (ValueIdx.ix2 n q) = val_main_v28 (F := Ideal) x0 x2 x4 x5 x6 (ValueIdx.ix3 a b q) := by
  have ha := a.isLt
  have hb := b.isLt
  have hq := q.isLt
  unfold val_main_v42
  refine (concatenate_pair_apply_left _ _ _ concatenates_S8192x2048_S2048x2048_S10240x2048_d0 (ValueIdx.ix2 n q) rfl
    (ValueIdx.ix2 (⟨n.val, by omega⟩ : Fin 8192) q) (fun z => ?_)).trans ?_
  · match z with
    | ⟨0, _⟩ => rfl
    | ⟨1, _⟩ => rfl
  rw [val_main_v40_apply]
  refine congrArg (val_main_v28 (F := Ideal) x0 x2 x4 x5 x6) (funext fun z => Fin.ext ?_)
  match z with
  | ⟨0, _⟩ => show (n.val * 2048 + q.val) / 524288 = a.val; omega
  | ⟨1, _⟩ => show (n.val * 2048 + q.val) / 2048 % 256 = b.val; omega
  | ⟨2, _⟩ => show (n.val * 2048 + q.val) % 2048 = q.val; omega

/-- The joined array at a token of the samples. -/
theorem joined_right (n : Fin 10240) (a : Fin 2) (b : Fin 1024) (q : Fin 2048) (hn : n.val = 8192 + (a.val * 1024 + b.val)) :
    val_main_v42 (F := Ideal) x0 x1 x2 x3 x4 x5 x6 (ValueIdx.ix2 n q) = val_main_v39 (F := Ideal) x1 x3 x4 x5 x6 (ValueIdx.ix3 a b q) := by
  have ha := a.isLt
  have hb := b.isLt
  have hq := q.isLt
  unfold val_main_v42
  refine (concatenate_pair_apply_right _ _ _ concatenates_S8192x2048_S2048x2048_S10240x2048_d0 (ValueIdx.ix2 n q) rfl rfl
    (ValueIdx.ix2 (⟨a.val * 1024 + b.val, by omega⟩ : Fin 2048) q) (fun z hz => ?_) (show a.val * 1024 + b.val + 8192 = n.val by omega)).trans ?_
  · match z with
    | ⟨0, _⟩ => exact absurd rfl hz
    | ⟨1, _⟩ => rfl
  rw [val_main_v41_apply]
  refine congrArg (val_main_v39 (F := Ideal) x1 x3 x4 x5 x6) (funext fun z => Fin.ext ?_)
  match z with
  | ⟨0, _⟩ => show ((a.val * 1024 + b.val) * 2048 + q.val) / 2097152 = a.val; omega
  | ⟨1, _⟩ => show ((a.val * 1024 + b.val) * 2048 + q.val) / 2048 % 1024 = b.val; omega
  | ⟨2, _⟩ => show ((a.val * 1024 + b.val) * 2048 + q.val) % 2048 = q.val; omega

end Cert.ReferenceOutIdeal.Out

end
-- ==== Proof.Out.Final.lean ====
module

public import proofs.«01_k».proof.Proof.Out.Host
public import proofs.«01_k».proof.Proof.Out.Ref

/-! The rows after the output projection, of both programs, are the same. -/

@[expose] public section

noncomputable section

namespace Cert.Out

open Idealize.ShloMosaic Idealize.ShloMosaic.TcCoe Idealize.SL.Sem
open Cert.KernelOutIdeal

variable (m : (ℓ : Loc nD τ sig) → Buf (Elt Ideal) ℓ) (c : Dev nD)
variable (x0 : Vec Ideal S32x256x2048 .f32) (x1 : Vec Ideal S2x1024x2048 .f32) (x2 : Vec Ideal S8192x2048 .bf16) (x3 : Vec Ideal S2048x2048 .bf16)
variable (x4 : Vec Ideal S2x8x12288 .f32) (x5 : Vec Ideal S1x2048x2048 .f32) (x6 : Vec Ideal S1x2048 .f32)

theorem rows_eq (h0 : x0 = m ((c : Thread nD τ).loc main_arg0)) (h1 : x1 = m ((c : Thread nD τ).loc main_arg1)) (h2 : x2 = m ((c : Thread nD τ).loc main_arg2))
    (h3 : x3 = m ((c : Thread nD τ).loc main_arg3)) (h4 : x4 = m ((c : Thread nD τ).loc main_arg4)) (h5 : x5 = m ((c : Thread nD τ).loc main_arg5))
    (h6 : x6 = m ((c : Thread nD τ).loc main_arg6)) :
    (show S10240x2048.Idx → EReal from (Gen.dats m 0 c).arrAt 5 cfg0.N) = Cert.ReferenceOutIdeal.Read.val_main_v42 (F := Ideal) x0 x1 x2 x3 x4 x5 x6 := by
  subst h0 h1 h2 h3 h4 h5 h6
  refine funext fun (i : S10240x2048.Idx) => ?_
  obtain ⟨n, q, rfl⟩ : ∃ (n : Fin 10240) (q : Fin 2048), i = ValueIdx.ix2 n q := ⟨i 0, i 1, funext fun a => by
    match a with
    | ⟨0, _⟩ => rfl
    | ⟨1, _⟩ => rfl⟩
  have hn := n.isLt
  have hq := q.isLt
  let j : Fin 12288 := ⟨4096 + q.val, by omega⟩
  by_cases hlt : n.val < 8192
  · let a : Fin 32 := ⟨n.val / 256, by omega⟩
    let b : Fin 256 := ⟨n.val % 256, by omega⟩
    have hab : n.val = a.val * 256 + b.val := by show n.val = n.val / 256 * 256 + n.val % 256; omega
    let k : Fin 8192 := ⟨n.val, hlt⟩
    refine (Cert.KernelOutIdeal.Out.array_apply c m n q (0 : Fin 8) (by rw [if_pos hlt]; rfl)).trans ?_
    refine Eq.trans ?_ ((Cert.ReferenceOutIdeal.Out.joined_left _ _ _ _ _ _ _ n a b q hab).trans
      (Cert.ReferenceOutIdeal.Out.prompt_apply _ _ _ _ _ a b q (0 : Fin 8) rfl j rfl k hab)).symm
    refine congr (congr (congr (congr (congrArg Spec.cell ?_) ?_) (funext fun d => ?_)) (funext fun d => ?_)) ?_
    · exact Cert.KernelOutIdeal.Out.tokens_apply m c n a b q hab
    · exact Cert.KernelOutIdeal.Out.gate_apply m c (0 : Fin 8) q j rfl
    · exact Cert.KernelOutIdeal.Out.mix_left m c n k d rfl
    · exact Cert.KernelOutIdeal.Out.weights_apply m c d q
    · exact Cert.KernelOutIdeal.Out.bias_apply m c q
  · let a : Fin 2 := ⟨(n.val - 8192) / 1024, by omega⟩
    let b : Fin 1024 := ⟨(n.val - 8192) % 1024, by omega⟩
    have hk : n.val - 8192 = a.val * 1024 + b.val := by show n.val - 8192 = (n.val - 8192) / 1024 * 1024 + (n.val - 8192) % 1024; omega
    have hab : n.val = 8192 + (a.val * 1024 + b.val) := by omega
    let k : Fin 2048 := ⟨n.val - 8192, by omega⟩
    let s : Fin 8 := ⟨1 + (n.val - 8192) / 1024, by omega⟩
    refine (Cert.KernelOutIdeal.Out.array_apply c m n q s (by rw [if_neg hlt])).trans ?_
    refine Eq.trans ?_ ((Cert.ReferenceOutIdeal.Out.joined_right _ _ _ _ _ _ _ n a b q hab).trans
      (Cert.ReferenceOutIdeal.Out.sample_apply _ _ _ _ _ a b q s rfl j rfl k hk)).symm
    refine congr (congr (congr (congr (congrArg Spec.cell ?_) ?_) (funext fun d => ?_)) (funext fun d => ?_)) ?_
    · exact Cert.KernelOutIdeal.Out.samples_apply m c n a b q hab
    · exact Cert.KernelOutIdeal.Out.gate_apply m c s q j rfl
    · exact Cert.KernelOutIdeal.Out.mix_right m c n k d (show n.val = 8192 + (n.val - 8192) by omega)
    · exact Cert.KernelOutIdeal.Out.weights_apply m c d q
    · exact Cert.KernelOutIdeal.Out.bias_apply m c q

end Cert.Out

end
-- ==== Proof.OutRnn.Host.lean ====
module

public import proofs.«01_k».proof.Proof.Gen.KernelOutRnnIdeal.Frame
public import Idealize.ShloMosaic.Lib.StableHlo.Run
public import Idealize.ShloMosaic.Lib.Pipeline.Value
public import Idealize.ShloMosaic.Lib.ValueIdx

/-! What the output projection of layer 1 finds in its arrays, element by element, in the program's arguments. -/

@[expose] public section

noncomputable section

namespace Cert.KernelOutRnnIdeal.Out

open Cert.KernelOutRnnIdeal Cert.KernelOutRnnIdeal.Gen Idealize.ShloMosaic Idealize.ShloMosaic.TcCoe Idealize.SL.Sem Idealize.ShloMosaic.StableHlo

variable {F : FTy → Type} [FloatOps F]
variable (m : (ℓ : Loc nD τ sig) → Buf (Elt F) ℓ) (c : Dev nD)

theorem rd_v2 : V m c main_v2 = concatenate S10240x2048 0
    [⟨S8192x2048, shapeCast S8192x2048 (show Vec F S32x256x2048 .f32 from m ((c : Thread nD τ).loc main_arg0)) shapeCasts_S32x256x2048_S8192x2048⟩,
     ⟨S2048x2048, shapeCast S2048x2048 (show Vec F S2x1024x2048 .f32 from m ((c : Thread nD τ).loc main_arg1)) shapeCasts_S2x1024x2048_S2048x2048⟩]
    concatenates_S8192x2048_S2048x2048_S10240x2048_d0 := by
  show after hostOps0 _ (Proc.devRef .tc main_v2) = _
  simp only [hostOps0]
  after_results <;> rfl

theorem rd_v5 : V m c main_v5 = shapeCast S8x1x2048 (shapeCast S8x2048 (extractStridedSlice S1x8x2048 ![1, 0, 4096]
    (show Vec F S2x8x12288 .f32 from m ((c : Thread nD τ).loc main_arg4)) slices_S2x8x12288_S1x8x2048_1_0_4096) shapeCasts_S1x8x2048_S8x2048) shapeCasts_S8x2048_S8x1x2048 := by
  show after hostOps0 _ (Proc.devRef .tc main_v5) = _
  simp only [hostOps0]
  after_results <;> rfl

theorem rd_v6 : V m c main_v6 = concatenate S10240x2048 0
    [⟨S8192x2048, (show Vec F S8192x2048 .bf16 from m ((c : Thread nD τ).loc main_arg2))⟩,
     ⟨S2048x2048, (show Vec F S2048x2048 .bf16 from m ((c : Thread nD τ).loc main_arg3))⟩]
    concatenates_S8192x2048_S2048x2048_S10240x2048_d0 := by
  show after hostOps0 _ (Proc.devRef .tc main_v6) = _
  simp only [hostOps0]
  after_results <;> rfl

theorem rd_v7 : V m c main_v7 = shapeCast S2048x2048 (show Vec F S1x2048x2048 .f32 from m ((c : Thread nD τ).loc main_arg5)) shapeCasts_S1x2048x2048_S2048x2048 := by
  show after hostOps0 _ (Proc.devRef .tc main_v7) = _
  simp only [hostOps0]
  after_results <;> rfl

theorem rd_v9 : V m c main_v9 = shapeCast S1x2048 (shapeCast S2048 (show Vec F S1x2048 .f32 from m ((c : Thread nD τ).loc main_arg6)) shapeCasts_S1x2048_S2048) shapeCasts_S2048_S1x2048 := by
  show after hostOps0 _ (Proc.devRef .tc main_v9) = _
  simp only [hostOps0]
  after_results <;> rfl

/-- A number of a token of the prompts. -/
theorem tokens_apply (n : Fin 10240) (a : Fin 32) (b : Fin 256) (d : Fin 2048) (hn : n.val = a.val * 256 + b.val) :
    (show Vec F S10240x2048 .f32 from V m c main_v2) (ValueIdx.ix2 n d)
      = (show Vec F S32x256x2048 .f32 from m ((c : Thread nD τ).loc main_arg0)) (ValueIdx.ix3 a b d) := by
  have hb := b.isLt
  have ha := a.isLt
  rw [rd_v2]
  refine (concatenate_pair_apply_left _ _ _ concatenates_S8192x2048_S2048x2048_S10240x2048_d0 (ValueIdx.ix2 n d) rfl
    (ValueIdx.ix2 (⟨n.val, by omega⟩ : Fin 8192) d) (fun z => ?_)).trans ?_
  · match z with
    | ⟨0, _⟩ => rfl
    | ⟨1, _⟩ => rfl
  · refine shapeCast_apply _ shapeCasts_S32x256x2048_S8192x2048 _ _ ?_
    rw [Shape.rowMajor_val_three, Shape.rowMajor_val_two]
    show (a.val * 256 + b.val) * 2048 + d.val = n.val * 2048 + d.val
    rw [hn]

/-- A number of a token of the samples. -/
theorem samples_apply (n : Fin 10240) (a : Fin 2) (b : Fin 1024) (d : Fin 2048) (hn : n.val = 8192 + (a.val * 1024 + b.val)) :
    (show Vec F S10240x2048 .f32 from V m c main_v2) (ValueIdx.ix2 n d)
      = (show Vec F S2x1024x2048 .f32 from m ((c : Thread nD τ).loc main_arg1)) (ValueIdx.ix3 a b d) := by
  have hb := b.isLt
  have ha := a.isLt
  rw [rd_v2]
  refine (concatenate_pair_apply_right _ _ _ concatenates_S8192x2048_S2048x2048_S10240x2048_d0 (ValueIdx.ix2 n d) rfl rfl
    (ValueIdx.ix2 (⟨a.val * 1024 + b.val, by omega⟩ : Fin 2048) d) (fun z hz => ?_) ?_).trans ?_
  · match z with
    | ⟨0, _⟩ => exact absurd rfl hz
    | ⟨1, _⟩ => rfl
  · show a.val * 1024 + b.val + 8192 = n.val; omega
  · refine shapeCast_apply _ shapeCasts_S2x1024x2048_S2048x2048 _ _ ?_
    rw [Shape.rowMajor_val_three, Shape.rowMajor_val_two]
    rfl

/-- A number of a mixed row of the prompts. -/
theorem mix_left (n : Fin 10240) (k : Fin 8192) (d : Fin 2048) (hn : n.val = k.val) :
    (show Vec F S10240x2048 .bf16 from V m c main_v6) (ValueIdx.ix2 n d)
      = (show Vec F S8192x2048 .bf16 from m ((c : Thread nD τ).loc main_arg2)) (ValueIdx.ix2 k d) := by
  rw [rd_v6]
  refine concatenate_pair_apply_left _ _ _ concatenates_S8192x2048_S2048x2048_S10240x2048_d0 (ValueIdx.ix2 n d) rfl (ValueIdx.ix2 k d) (fun z => ?_)
  match z with
  | ⟨0, _⟩ => exact hn.symm
  | ⟨1, _⟩ => rfl

/-- A number of a mixed row of the samples. -/
theorem mix_right (n : Fin 10240) (k : Fin 2048) (d : Fin 2048) (hn : n.val = 8192 + k.val) :
    (show Vec F S10240x2048 .bf16 from V m c main_v6) (ValueIdx.ix2 n d)
      = (show Vec F S2048x2048 .bf16 from m ((c : Thread nD τ).loc main_arg3)) (ValueIdx.ix2 k d) := by
  rw [rd_v6]
  refine concatenate_pair_apply_right _ _ _ concatenates_S8192x2048_S2048x2048_S10240x2048_d0 (ValueIdx.ix2 n d) rfl rfl (ValueIdx.ix2 k d) (fun z hz => ?_)
    (show k.val + 8192 = n.val by omega)
  match z with
  | ⟨0, _⟩ => exact absurd rfl hz
  | ⟨1, _⟩ => rfl

/-- The gate of a row of the table. -/
theorem gate_apply (s : Fin 8) (d : Fin 2048) (k : Fin 12288) (hk : k.val = 4096 + d.val) :
    (show Vec F S8x1x2048 .f32 from V m c main_v5) (ValueIdx.ix3 s (0 : Fin 1) d)
      = (show Vec F S2x8x12288 .f32 from m ((c : Thread nD τ).loc main_arg4)) (ValueIdx.ix3 (1 : Fin 2) s k) := by
  rw [rd_v5]
  refine (shapeCast_apply _ shapeCasts_S8x2048_S8x1x2048 _ (ValueIdx.ix2 s d) ?_).trans ?_
  · rw [Shape.rowMajor_val_three, Shape.rowMajor_val_two]
    show s.val * 2048 + d.val = (s.val * 1 + 0) * 2048 + d.val
    omega
  refine (shapeCast_apply _ shapeCasts_S1x8x2048_S8x2048 _ (ValueIdx.ix3 (0 : Fin 1) s d) ?_).trans ?_
  · rw [Shape.rowMajor_val_three, Shape.rowMajor_val_two]
    show (0 * 8 + s.val) * 2048 + d.val = s.val * 2048 + d.val
    omega
  refine extractStridedSlice_apply (s := S2x8x12288) (t := S1x8x2048) ![1, 0, 4096] _ slices_S2x8x12288_S1x8x2048_1_0_4096 _ _ (fun z => ?_)
  match z with
  | ⟨0, _⟩ => rfl
  | ⟨1, _⟩ => show s.val = 0 + s.val; omega
  | ⟨2, _⟩ => exact hk

theorem weights_apply (d q : Fin 2048) :
    (show Vec F S2048x2048 .f32 from V m c main_v7) (ValueIdx.ix2 d q)
      = (show Vec F S1x2048x2048 .f32 from m ((c : Thread nD τ).loc main_arg5)) (ValueIdx.ix3 (0 : Fin 1) d q) := by
  rw [rd_v7]
  refine shapeCast_apply _ shapeCasts_S1x2048x2048_S2048x2048 _ _ ?_
  rw [Shape.rowMajor_val_three, Shape.rowMajor_val_two]
  show (0 * 2048 + d.val) * 2048 + q.val = d.val * 2048 + q.val
  omega

theorem bias_apply (q : Fin 2048) :
    (show Vec F S1x2048 .f32 from V m c main_v9) (ValueIdx.ix2 (0 : Fin 1) q)
      = (show Vec F S1x2048 .f32 from m ((c : Thread nD τ).loc main_arg6)) (ValueIdx.ix2 (0 : Fin 1) q) := by
  rw [rd_v9]
  refine (shapeCast_apply _ shapeCasts_S2048_S1x2048 _ (ValueIdx.ix1 q) ?_).trans ?_
  · rw [Shape.rowMajor_val_two, Shape.rowMajor_val_one]; show q.val = 0 * 2048 + q.val; omega
  refine shapeCast_apply _ shapeCasts_S1x2048_S2048 _ _ ?_
  rw [Shape.rowMajor_val_two, Shape.rowMajor_val_one]; show 0 * 2048 + q.val = q.val; omega

end Cert.KernelOutRnnIdeal.Out

end
-- ==== Proof.OutRnn.Blocks.lean ====
module

public import proofs.«01_k».proof.Proof.Gen.KernelOutRnnIdeal.Value
public import proofs.«01_k».proof.Proof.Out.Blocks

/-! What one grid point of the output projection of layer 1 leaves, and the array all of them leave, element by element. -/

@[expose] public section

set_option maxRecDepth 16384

noncomputable section

namespace Cert.KernelOutRnnIdeal.Out

open Cert.KernelOutRnnIdeal Cert.KernelOutRnnIdeal.Gen Idealize.ShloMosaic Idealize.ShloMosaic.TcCoe Idealize.ShloMosaic.StableHlo
open Idealize.SL Idealize.SL.Sem
open Idealize.ShloMosaic.Pipeline (Dat Cfg Window)
open Cert.Out
open scoped BigOperators

theorem hz2 : (![0, 0] : Fin 2 → ℕ) = fun _ => 0 := by decide

theorem hz3 : (![0, 0, 0] : Fin 3 → ℕ) = fun _ => 0 := by decide

/-- The block a point leaves is the body's value of the blocks it reads. -/
theorem out_eq {F : FTy → Type} [FloatOps F] (x0 : Vec F S512x2048 .bf16) (x1 : Vec F S2048x512 .f32) (x2 : Vec F S1x512 .f32)
    (x3 : Vec F S1x1x512 .f32) (x4 : Vec F S512x512 .f32) : out0_5 x0 x1 x2 x3 x4 = k0_pay1 x0 x1 x2 x4 x3 := by
  unfold out0_5
  rw [View.canon_unit_zero (S := S512x512) hz2, View.ld_unit_zero (S := S512x2048) hz2, View.ld_unit_zero (S := S2048x512) hz2,
    View.ld_unit_zero (S := S1x512) hz2, View.ld_unit_zero (S := S512x512) hz2, View.ld_unit_zero (S := S1x1x512) hz3]

theorem pay_apply (x : Vec Ideal S512x2048 .bf16) (w : Vec Ideal S2048x512 .f32) (b : Vec Ideal S1x512 .f32) (z : Vec Ideal S512x512 .f32)
    (g : Vec Ideal S1x1x512 .f32) (r : Fin 512) (q : Fin 512) :
    k0_pay1 x w b z g (ValueIdx.ix2 r q) = Spec.cell (z (ValueIdx.ix2 r q)) (g (ValueIdx.ix3 (0 : Fin 1) (0 : Fin 1) q))
      (fun d => x (ValueIdx.ix2 r d)) (fun d => w (ValueIdx.ix2 d q)) (b (ValueIdx.ix2 (0 : Fin 1) q)) := by
  unfold k0_pay1
  simp only [shapeCast_self]
  unfold Spec.cell
  refine congrArg (fun p : EReal => z (ValueIdx.ix2 r q) + p) (congrArg₂ (fun p s : EReal => p * s) ?_ (congrArg₂ (fun p s : EReal => p + s) ?_ ?_))
  · refine (broadcastTo_apply _ broadcasts_S1x512_S512x512 _ (ValueIdx.ix2 (0 : Fin 1) q) (fun a => by
      match a with
      | ⟨0, _⟩ => rfl
      | ⟨1, _⟩ => rfl)).trans ?_
    refine shapeCast_apply g shapeCasts_S1x1x512_S1x512 _ (ValueIdx.ix3 (0 : Fin 1) (0 : Fin 1) q) ?_
    rw [Shape.rowMajor_val_three, Shape.rowMajor_val_two]; rfl
  · refine (Ideal.matmul_plain_apply none _ _ _ r q).trans ?_
    rw [show (constant S512x512 .f32 0x00000000#32 : FVec Ideal S512x512 .f32) (ValueIdx.ix2 r q) = 0 from Ideal.ofBits_zero_f32, zero_add]
    rfl
  · exact broadcastTo_apply _ broadcasts_S1x512_S512x512 _ (ValueIdx.ix2 (0 : Fin 1) q) (fun a => by
      match a with
      | ⟨0, _⟩ => rfl
      | ⟨1, _⟩ => rfl)

variable {F : FTy → Type} [FloatOps F]
variable (m : (ℓ : Loc nD τ sig) → Buf (Elt F) ℓ) (c : Dev nD)

/-- The row of the table a grid point reads its gate from. -/
def seg (t : ℕ) : ℕ := if t < 64 then 0 else 1 + (t - 64) / 8

theorem index0 : ∀ t : Fin cfg0.N, (cfg0.win 0).index t = ![t.val / 4, 0] := by decide
theorem index1 : ∀ t : Fin cfg0.N, (cfg0.win 1).index t = ![0, t.val % 4] := by decide
theorem index2 : ∀ t : Fin cfg0.N, (cfg0.win 2).index t = ![0, t.val % 4] := by decide
theorem index3 : ∀ t : Fin cfg0.N, (cfg0.win 3).index t = ![seg t.val, 0, t.val % 4] := by decide
theorem index4 : ∀ t : Fin cfg0.N, (cfg0.win 4).index t = ![t.val / 4, t.val % 4] := by decide
theorem index5 : ∀ t : Fin cfg0.N, (cfg0.win 5).index t = ![t.val / 4, t.val % 4] := by decide

theorem iblk0_apply (t : Fin cfg0.N) (r : Fin 512) (d : Fin 2048) (n : Fin 10240) (hn : n.val = t.val / 4 * 512 + r.val) :
    (show Vec F S512x2048 .bf16 from iblk m c 0 t) (ValueIdx.ix2 r d) = (show Vec F S10240x2048 .bf16 from V m c main_v6) (ValueIdx.ix2 n d) := by
  show (show Vec F S10240x2048 .bf16 from V m c main_v6) (((cfg0.win 0).rect t).emb (ValueIdx.ix2 r d)) = _
  refine congrArg (show Vec F S10240x2048 .bf16 from V m c main_v6) (funext fun a => Fin.ext ?_)
  match a with
  | ⟨0, _⟩ =>
    refine (Pipeline.Window.rect_emb_val (cfg0.win 0) t (ValueIdx.ix2 r d) (0 : Fin 2)).trans ?_
    rw [index0 t]; show t.val / 4 * 512 + r.val = n.val; omega
  | ⟨1, _⟩ =>
    refine (Pipeline.Window.rect_emb_val (cfg0.win 0) t (ValueIdx.ix2 r d) (1 : Fin 2)).trans ?_
    rw [index0 t]; show 0 * 2048 + d.val = d.val; omega

theorem iblk1_apply (t : Fin cfg0.N) (d : Fin 2048) (q : Fin 512) (j : Fin 2048) (hj : j.val = t.val % 4 * 512 + q.val) :
    (show Vec F S2048x512 .f32 from iblk m c 1 t) (ValueIdx.ix2 d q) = (show Vec F S2048x2048 .f32 from V m c main_v7) (ValueIdx.ix2 d j) := by
  show (show Vec F S2048x2048 .f32 from V m c main_v7) (((cfg0.win 1).rect t).emb (ValueIdx.ix2 d q)) = _
  refine congrArg (show Vec F S2048x2048 .f32 from V m c main_v7) (funext fun a => Fin.ext ?_)
  match a with
  | ⟨0, _⟩ =>
    refine (Pipeline.Window.rect_emb_val (cfg0.win 1) t (ValueIdx.ix2 d q) (0 : Fin 2)).trans ?_
    rw [index1 t]; show 0 * 2048 + d.val = d.val; omega
  | ⟨1, _⟩ =>
    refine (Pipeline.Window.rect_emb_val (cfg0.win 1) t (ValueIdx.ix2 d q) (1 : Fin 2)).trans ?_
    rw [index1 t]; show t.val % 4 * 512 + q.val = j.val; omega

theorem iblk2_apply (t : Fin cfg0.N) (q : Fin 512) (j : Fin 2048) (hj : j.val = t.val % 4 * 512 + q.val) :
    (show Vec F S1x512 .f32 from iblk m c 2 t) (ValueIdx.ix2 (0 : Fin 1) q) = (show Vec F S1x2048 .f32 from V m c main_v9) (ValueIdx.ix2 (0 : Fin 1) j) := by
  show (show Vec F S1x2048 .f32 from V m c main_v9) (((cfg0.win 2).rect t).emb (ValueIdx.ix2 (0 : Fin 1) q)) = _
  refine congrArg (show Vec F S1x2048 .f32 from V m c main_v9) (funext fun a => Fin.ext ?_)
  match a with
  | ⟨0, _⟩ =>
    refine (Pipeline.Window.rect_emb_val (cfg0.win 2) t (ValueIdx.ix2 (0 : Fin 1) q) (0 : Fin 2)).trans ?_
    rw [index2 t]; rfl
  | ⟨1, _⟩ =>
    refine (Pipeline.Window.rect_emb_val (cfg0.win 2) t (ValueIdx.ix2 (0 : Fin 1) q) (1 : Fin 2)).trans ?_
    rw [index2 t]; show t.val % 4 * 512 + q.val = j.val; omega

theorem iblk3_apply (t : Fin cfg0.N) (q : Fin 512) (s : Fin 8) (j : Fin 2048) (hs : s.val = seg t.val) (hj : j.val = t.val % 4 * 512 + q.val) :
    (show Vec F S1x1x512 .f32 from iblk m c 3 t) (ValueIdx.ix3 (0 : Fin 1) (0 : Fin 1) q)
      = (show Vec F S8x1x2048 .f32 from V m c main_v5) (ValueIdx.ix3 s (0 : Fin 1) j) := by
  show (show Vec F S8x1x2048 .f32 from V m c main_v5) (((cfg0.win 3).rect t).emb (ValueIdx.ix3 (0 : Fin 1) (0 : Fin 1) q)) = _
  refine congrArg (show Vec F S8x1x2048 .f32 from V m c main_v5) (funext fun a => Fin.ext ?_)
  match a with
  | ⟨0, _⟩ =>
    refine (Pipeline.Window.rect_emb_val (cfg0.win 3) t (ValueIdx.ix3 (0 : Fin 1) (0 : Fin 1) q) (0 : Fin 3)).trans ?_
    rw [index3 t]; show seg t.val * 1 + 0 = s.val; omega
  | ⟨1, _⟩ =>
    refine (Pipeline.Window.rect_emb_val (cfg0.win 3) t (ValueIdx.ix3 (0 : Fin 1) (0 : Fin 1) q) (1 : Fin 3)).trans ?_
    rw [index3 t]; rfl
  | ⟨2, _⟩ =>
    refine (Pipeline.Window.rect_emb_val (cfg0.win 3) t (ValueIdx.ix3 (0 : Fin 1) (0 : Fin 1) q) (2 : Fin 3)).trans ?_
    rw [index3 t]; show t.val % 4 * 512 + q.val = j.val; omega

theorem iblk4_apply (t : Fin cfg0.N) (r : Fin 512) (q : Fin 512) (n : Fin 10240) (j : Fin 2048) (hn : n.val = t.val / 4 * 512 + r.val)
    (hj : j.val = t.val % 4 * 512 + q.val) :
    (show Vec F S512x512 .f32 from iblk m c 4 t) (ValueIdx.ix2 r q) = (show Vec F S10240x2048 .f32 from V m c main_v2) (ValueIdx.ix2 n j) := by
  show (show Vec F S10240x2048 .f32 from V m c main_v2) (((cfg0.win 4).rect t).emb (ValueIdx.ix2 r q)) = _
  refine congrArg (show Vec F S10240x2048 .f32 from V m c main_v2) (funext fun a => Fin.ext ?_)
  match a with
  | ⟨0, _⟩ =>
    refine (Pipeline.Window.rect_emb_val (cfg0.win 4) t (ValueIdx.ix2 r q) (0 : Fin 2)).trans ?_
    rw [index4 t]; show t.val / 4 * 512 + r.val = n.val; omega
  | ⟨1, _⟩ =>
    refine (Pipeline.Window.rect_emb_val (cfg0.win 4) t (ValueIdx.ix2 r q) (1 : Fin 2)).trans ?_
    rw [index4 t]; show t.val % 4 * 512 + q.val = j.val; omega

/-- The point whose block holds a place of the array. -/
def pt (y : S10240x2048.Idx) : Fin cfg0.N := ⟨4 * ((y 0).val / 512) + (y 1).val / 512, by
  have h0 : (y 0).val < 10240 := (y 0).isLt
  have h1 : (y 1).val < 2048 := (y 1).isLt
  show _ < 80; omega⟩

/-- The result array, block by block. -/
def outArr : Vec F S10240x2048 .f32 := fun y =>
  k0_pay1 (iblk m c 0 (pt y)) (iblk m c 1 (pt y)) (iblk m c 2 (pt y)) (iblk m c 4 (pt y)) (iblk m c 3 (pt y))
    (ValueIdx.ix2 (⟨(y 0).val % 512, Nat.mod_lt _ (by omega)⟩ : Fin 512) (⟨(y 1).val % 512, Nat.mod_lt _ (by omega)⟩ : Fin 512))

theorem pay_congr (t t' : Fin cfg0.N) (h : t = t') (z z' : S512x512.Idx) (hz : z = z') :
    k0_pay1 (iblk m c 0 t) (iblk m c 1 t) (iblk m c 2 t) (iblk m c 4 t) (iblk m c 3 t) z
      = k0_pay1 (iblk m c 0 t') (iblk m c 1 t') (iblk m c 2 t') (iblk m c 4 t') (iblk m c 3 t') z' := by subst h; subst hz; rfl

theorem flushed_eq (t : Fin cfg0.N) (hf : (cfg0.win 5).flush t = true) :
    (dats m 0 c).flushed 5 t = ((cfg0.win 5).blk t).view.read (Elt F) (outArr m c) := by
  funext y
  have ht : t.val < 80 := t.isLt
  have hy0 : (y (0 : Fin 2)).val < 512 := (y (0 : Fin 2)).isLt
  have hy1 : (y (1 : Fin 2)).val < 512 := (y (1 : Fin 2)).isLt
  have e0 : (((cfg0.win 5).rect t).emb y (0 : Fin 2) : ℕ) = t.val / 4 * 512 + (y (0 : Fin 2)).val := by
    rw [Pipeline.Window.rect_emb_val _ t y (0 : Fin 2), index5 t]; rfl
  have e1 : (((cfg0.win 5).rect t).emb y (1 : Fin 2) : ℕ) = t.val % 4 * 512 + (y (1 : Fin 2)).val := by
    rw [Pipeline.Window.rect_emb_val _ t y (1 : Fin 2), index5 t]; rfl
  rw [Value.flushed5, out_eq]
  show k0_pay1 (iblk m c 0 t) (iblk m c 1 t) (iblk m c 2 t) (iblk m c 4 t) (iblk m c 3 t) y = outArr m c (((cfg0.win 5).rect t).emb y)
  unfold outArr
  refine pay_congr m c _ _ (Fin.ext ?_) _ _ (funext fun a => Fin.ext ?_)
  · show t.val = 4 * ((((cfg0.win 5).rect t).emb y (0 : Fin 2) : ℕ) / 512) + (((cfg0.win 5).rect t).emb y (1 : Fin 2) : ℕ) / 512
    rw [e0, e1]; omega
  · match a with
    | ⟨0, _⟩ => show (y (0 : Fin 2)).val = (((cfg0.win 5).rect t).emb y (0 : Fin 2) : ℕ) % 512; rw [e0]; omega
    | ⟨1, _⟩ => show (y (1 : Fin 2)).val = (((cfg0.win 5).rect t).emb y (1 : Fin 2) : ℕ) % 512; rw [e1]; omega

theorem arrAt_apply (y : S10240x2048.Idx) : (show Vec F S10240x2048 .f32 from (dats m 0 c).arrAt 5 cfg0.N) y = outArr m c y := by
  have h0 : (y 0).val < 10240 := (y 0).isLt
  have h1 : (y 1).val < 2048 := (y 1).isLt
  refine Dat.arrAt_apply_of_mem (dats m 0 c) 5 (outArr m c) (flushed_eq m c) cfg0.N (pt y) y (pt y).isLt (flush0_5 _) ?_
  refine (Pipeline.Window.emb_mem_blk_iff (cfg0.win 5) (pt y) y).2 fun a => ?_
  rw [index5]
  match a with
  | ⟨0, _⟩ => show (4 * ((y 0).val / 512) + (y 1).val / 512) / 4 * 512 ≤ (y 0).val ∧ (y 0).val < (4 * ((y 0).val / 512) + (y 1).val / 512) / 4 * 512 + 512; omega
  | ⟨1, _⟩ => show (4 * ((y 0).val / 512) + (y 1).val / 512) % 4 * 512 ≤ (y 1).val ∧ (y 1).val < (4 * ((y 0).val / 512) + (y 1).val / 512) % 4 * 512 + 512; omega

/-- A number of the array the call leaves, in the arrays it finds. -/
theorem array_apply (m : (ℓ : Loc nD τ sig) → Buf (Elt Ideal) ℓ) (n : Fin 10240) (q : Fin 2048) (s : Fin 8)
    (hs : s.val = if n.val < 8192 then 0 else 1 + (n.val - 8192) / 1024) :
    (show Vec Ideal S10240x2048 .f32 from (dats m 0 c).arrAt 5 cfg0.N) (ValueIdx.ix2 n q)
      = Spec.cell ((show Vec Ideal S10240x2048 .f32 from V m c main_v2) (ValueIdx.ix2 n q))
        ((show Vec Ideal S8x1x2048 .f32 from V m c main_v5) (ValueIdx.ix3 s (0 : Fin 1) q))
        (fun d => (show Vec Ideal S10240x2048 .bf16 from V m c main_v6) (ValueIdx.ix2 n d))
        (fun d => (show Vec Ideal S2048x2048 .f32 from V m c main_v7) (ValueIdx.ix2 d q))
        ((show Vec Ideal S1x2048 .f32 from V m c main_v9) (ValueIdx.ix2 (0 : Fin 1) q)) := by
  have hn := n.isLt
  have hq := q.isLt
  have er : n.val = (4 * (n.val / 512) + q.val / 512) / 4 * 512 + n.val % 512 := by omega
  have ec : q.val = (4 * (n.val / 512) + q.val / 512) % 4 * 512 + q.val % 512 := by omega
  have es : s.val = seg (4 * (n.val / 512) + q.val / 512) := by
    rw [hs]; unfold seg
    split <;> split <;> omega
  refine (arrAt_apply m c (ValueIdx.ix2 n q)).trans ?_
  unfold outArr
  refine (pay_apply _ _ _ _ _ (⟨n.val % 512, Nat.mod_lt _ (by omega)⟩ : Fin 512) (⟨q.val % 512, Nat.mod_lt _ (by omega)⟩ : Fin 512)).trans ?_
  refine congr (congr (congr (congr (congrArg Spec.cell ?_) ?_) (funext fun d => ?_)) (funext fun d => ?_)) ?_
  · exact iblk4_apply m c (pt (ValueIdx.ix2 n q)) _ _ n q er ec
  · exact iblk3_apply m c (pt (ValueIdx.ix2 n q)) _ s q es ec
  · exact iblk0_apply m c (pt (ValueIdx.ix2 n q)) _ d n er
  · exact iblk1_apply m c (pt (ValueIdx.ix2 n q)) d _ q ec
  · exact iblk2_apply m c (pt (ValueIdx.ix2 n q)) _ q ec

end Cert.KernelOutRnnIdeal.Out

end
-- ==== Proof.OutRnn.Ref.lean ====
module

public import proofs.«01_k».proof.Proof.Gen.ReferenceOutRnnIdeal.Read
public import proofs.«01_k».proof.Proof.OutRnn.Blocks

/-! The plain program's output projection of layer 1, element by element. -/

@[expose] public section

noncomputable section

namespace Cert.ReferenceOutRnnIdeal.Out

open Cert.ReferenceOutRnnIdeal Cert.ReferenceOutRnnIdeal.Gen Cert.ReferenceOutRnnIdeal.Read Idealize.ShloMosaic Idealize.ShloMosaic.TcCoe Idealize.SL.Sem
open Cert.Out
open scoped BigOperators

variable (x0 : Vec Ideal S32x256x2048 .f32) (x1 : Vec Ideal S2x1024x2048 .f32) (x2 : Vec Ideal S8192x2048 .bf16) (x3 : Vec Ideal S2048x2048 .bf16)
variable (x4 : Vec Ideal S2x8x12288 .f32) (x5 : Vec Ideal S1x2048x2048 .f32) (x6 : Vec Ideal S1x2048 .f32)

/-- A token of the prompts: the gate. -/
theorem gate_prompt (a : Fin 32) (b : Fin 256) (q : Fin 2048) (s : Fin 8) (hs : s.val = 0) (k : Fin 12288) (hk : k.val = 4096 + q.val) :
    val_main_v26 (F := Ideal) x4 (ValueIdx.ix3 a b q) = x4 (ValueIdx.ix3 (1 : Fin 2) s k) := by
  rw [val_main_v26_apply, val_main_v5_apply, val_main_v2_apply, val_main_v1_apply, val_main_v0_apply]
  refine congrArg x4 (funext fun z => Fin.ext ?_)
  have h2 := q.isLt
  match z with
  | ⟨0, _⟩ => rfl
  | ⟨1, _⟩ => show 0 = s.val; omega
  | ⟨2, _⟩ => show (0 * 12288 + (4096 + q.val)) % 12288 = k.val; omega

/-- A token of the prompts: the mixed row, of one more format. -/
theorem mix_prompt (a : Fin 32) (b : Fin 256) (d : Fin 2048) (k : Fin 8192) (hk : k.val = a.val * 256 + b.val) :
    val_main_v19 (F := Ideal) x2 (ValueIdx.ix3 a b d) = x2 (ValueIdx.ix2 k d) := by
  rw [val_main_v19_apply, val_main_v18_apply]
  refine congrArg x2 (funext fun z => Fin.ext ?_)
  have h2 := d.isLt
  match z with
  | ⟨0, _⟩ => show ((a.val * 256 + b.val) * 2048 + d.val) / 2048 = k.val; omega
  | ⟨1, _⟩ => show ((a.val * 256 + b.val) * 2048 + d.val) % 2048 = d.val; omega

theorem weights_prompt (d q : Fin 2048) : val_main_v20 (F := Ideal) x5 (ValueIdx.ix2 d q) = x5 (ValueIdx.ix3 (0 : Fin 1) d q) := by
  rw [val_main_v20_apply]
  refine congrArg x5 (funext fun z => Fin.ext ?_)
  have h1 := d.isLt
  have h2 := q.isLt
  match z with
  | ⟨0, _⟩ => rfl
  | ⟨1, _⟩ => show (d.val * 2048 + q.val) / 2048 % 2048 = d.val; omega
  | ⟨2, _⟩ => show (d.val * 2048 + q.val) % 2048 = q.val; omega

theorem bias_prompt (a : Fin 32) (b : Fin 256) (q : Fin 2048) :
    val_main_v24 (F := Ideal) x6 (ValueIdx.ix3 a b q) = x6 (ValueIdx.ix2 (0 : Fin 1) q) := by
  rw [val_main_v24_apply, val_main_v23_apply, val_main_v22_apply]
  refine congrArg x6 (funext fun z => Fin.ext ?_)
  have h2 := q.isLt
  match z with
  | ⟨0, _⟩ => rfl
  | ⟨1, _⟩ => show q.val % 2048 = q.val; omega

/-- A token of the prompts: a number after the projection. -/
theorem prompt_apply (a : Fin 32) (b : Fin 256) (q : Fin 2048) (s : Fin 8) (hs : s.val = 0) (j : Fin 12288) (hj : j.val = 4096 + q.val)
    (k : Fin 8192) (hk : k.val = a.val * 256 + b.val) :
    val_main_v28 (F := Ideal) x0 x2 x4 x5 x6 (ValueIdx.ix3 a b q) = Spec.cell (x0 (ValueIdx.ix3 a b q)) (x4 (ValueIdx.ix3 (1 : Fin 2) s j))
      (fun d => x2 (ValueIdx.ix2 k d)) (fun d => x5 (ValueIdx.ix3 (0 : Fin 1) d q)) (x6 (ValueIdx.ix2 (0 : Fin 1) q)) := by
  rw [val_main_v28_apply, val_main_v27_apply, val_main_v25_apply, gate_prompt x4 a b q s hs j hj, bias_prompt x6 a b q, val_main_v21_apply]
  unfold Spec.cell
  refine congrArg (fun z : EReal => x0 (ValueIdx.ix3 a b q) + x4 (ValueIdx.ix3 (1 : Fin 2) s j) * (z + x6 (ValueIdx.ix2 (0 : Fin 1) q))) ?_
  refine Finset.sum_congr (M := EReal) rfl fun d _ => ?_
  have el : lidx_main_v21 (ValueIdx.ix3 a b q) d = ValueIdx.ix3 a b d := funext fun z => Fin.ext (by
    match z with
    | ⟨0, _⟩ => rfl
    | ⟨1, _⟩ => rfl
    | ⟨2, _⟩ => rfl)
  have er : ridx_main_v21 (ValueIdx.ix3 a b q) d = ValueIdx.ix2 d q := funext fun z => Fin.ext (by
    match z with
    | ⟨0, _⟩ => rfl
    | ⟨1, _⟩ => rfl)
  rw [el, er, mix_prompt x2 a b d k hk, weights_prompt x5 d q]

/-- A token of the samples: the gate. -/
theorem gate_sample (a : Fin 2) (b : Fin 1024) (q : Fin 2048) (s : Fin 8) (hs : s.val = 1 + a.val) (k : Fin 12288) (hk : k.val = 4096 + q.val) :
    val_main_v37 (F := Ideal) x4 (ValueIdx.ix3 a b q) = x4 (ValueIdx.ix3 (1 : Fin 2) s k) := by
  rw [val_main_v37_apply, val_main_v14_apply, val_main_v11_apply, val_main_v10_apply, val_main_v9_apply]
  refine congrArg x4 (funext fun z => Fin.ext ?_)
  have h2 := q.isLt
  match z with
  | ⟨0, _⟩ => rfl
  | ⟨1, _⟩ => show 1 + (a.val * 12288 + (4096 + q.val)) / 12288 % 2 = s.val; omega
  | ⟨2, _⟩ => show (a.val * 12288 + (4096 + q.val)) % 12288 = k.val; omega

/-- A token of the samples: the mixed row, of one more format. -/
theorem mix_sample (a : Fin 2) (b : Fin 1024) (d : Fin 2048) (k : Fin 2048) (hk : k.val = a.val * 1024 + b.val) :
    val_main_v30 (F := Ideal) x3 (ValueIdx.ix3 a b d) = x3 (ValueIdx.ix2 k d) := by
  rw [val_main_v30_apply, val_main_v29_apply]
  refine congrArg x3 (funext fun z => Fin.ext ?_)
  have h2 := d.isLt
  match z with
  | ⟨0, _⟩ => show ((a.val * 1024 + b.val) * 2048 + d.val) / 2048 = k.val; omega
  | ⟨1, _⟩ => show ((a.val * 1024 + b.val) * 2048 + d.val) % 2048 = d.val; omega

theorem weights_sample (d q : Fin 2048) : val_main_v31 (F := Ideal) x5 (ValueIdx.ix2 d q) = x5 (ValueIdx.ix3 (0 : Fin 1) d q) := by
  rw [val_main_v31_apply]
  refine congrArg x5 (funext fun z => Fin.ext ?_)
  have h1 := d.isLt
  have h2 := q.isLt
  match z with
  | ⟨0, _⟩ => rfl
  | ⟨1, _⟩ => show (d.val * 2048 + q.val) / 2048 % 2048 = d.val; omega
  | ⟨2, _⟩ => show (d.val * 2048 + q.val) % 2048 = q.val; omega

theorem bias_sample (a : Fin 2) (b : Fin 1024) (q : Fin 2048) :
    val_main_v35 (F := Ideal) x6 (ValueIdx.ix3 a b q) = x6 (ValueIdx.ix2 (0 : Fin 1) q) := by
  rw [val_main_v35_apply, val_main_v34_apply, val_main_v33_apply]
  refine congrArg x6 (funext fun z => Fin.ext ?_)
  have h2 := q.isLt
  match z with
  | ⟨0, _⟩ => rfl
  | ⟨1, _⟩ => show q.val % 2048 = q.val; omega

/-- A token of the samples: a number after the projection. -/
theorem sample_apply (a : Fin 2) (b : Fin 1024) (q : Fin 2048) (s : Fin 8) (hs : s.val = 1 + a.val) (j : Fin 12288) (hj : j.val = 4096 + q.val)
    (k : Fin 2048) (hk : k.val = a.val * 1024 + b.val) :
    val_main_v39 (F := Ideal) x1 x3 x4 x5 x6 (ValueIdx.ix3 a b q) = Spec.cell (x1 (ValueIdx.ix3 a b q)) (x4 (ValueIdx.ix3 (1 : Fin 2) s j))
      (fun d => x3 (ValueIdx.ix2 k d)) (fun d => x5 (ValueIdx.ix3 (0 : Fin 1) d q)) (x6 (ValueIdx.ix2 (0 : Fin 1) q)) := by
  rw [val_main_v39_apply, val_main_v38_apply, val_main_v36_apply, gate_sample x4 a b q s hs j hj, bias_sample x6 a b q, val_main_v32_apply]
  unfold Spec.cell
  refine congrArg (fun z : EReal => x1 (ValueIdx.ix3 a b q) + x4 (ValueIdx.ix3 (1 : Fin 2) s j) * (z + x6 (ValueIdx.ix2 (0 : Fin 1) q))) ?_
  refine Finset.sum_congr (M := EReal) rfl fun d _ => ?_
  have el : lidx_main_v32 (ValueIdx.ix3 a b q) d = ValueIdx.ix3 a b d := funext fun z => Fin.ext (by
    match z with
    | ⟨0, _⟩ => rfl
    | ⟨1, _⟩ => rfl
    | ⟨2, _⟩ => rfl)
  have er : ridx_main_v32 (ValueIdx.ix3 a b q) d = ValueIdx.ix2 d q := funext fun z => Fin.ext (by
    match z with
    | ⟨0, _⟩ => rfl
    | ⟨1, _⟩ => rfl)
  rw [el, er, mix_sample x3 a b d k hk, weights_sample x5 d q]

/-- The joined array at a token of the prompts. -/
theorem joined_left (n : Fin 10240) (a : Fin 32) (b : Fin 256) (q : Fin 2048) (hn : n.val = a.val * 256 + b.val) :
    val_main_v42 (F := Ideal) x0 x1 x2 x3 x4 x5 x6 (ValueIdx.ix2 n q) = val_main_v28 (F := Ideal) x0 x2 x4 x5 x6 (ValueIdx.ix3 a b q) := by
  have ha := a.isLt
  have hb := b.isLt
  have hq := q.isLt
  unfold val_main_v42
  refine (concatenate_pair_apply_left _ _ _ concatenates_S8192x2048_S2048x2048_S10240x2048_d0 (ValueIdx.ix2 n q) rfl
    (ValueIdx.ix2 (⟨n.val, by omega⟩ : Fin 8192) q) (fun z => ?_)).trans ?_
  · match z with
    | ⟨0, _⟩ => rfl
    | ⟨1, _⟩ => rfl
  rw [val_main_v40_apply]
  refine congrArg (val_main_v28 (F := Ideal) x0 x2 x4 x5 x6) (funext fun z => Fin.ext ?_)
  match z with
  | ⟨0, _⟩ => show (n.val * 2048 + q.val) / 524288 = a.val; omega
  | ⟨1, _⟩ => show (n.val * 2048 + q.val) / 2048 % 256 = b.val; omega
  | ⟨2, _⟩ => show (n.val * 2048 + q.val) % 2048 = q.val; omega

/-- The joined array at a token of the samples. -/
theorem joined_right (n : Fin 10240) (a : Fin 2) (b : Fin 1024) (q : Fin 2048) (hn : n.val = 8192 + (a.val * 1024 + b.val)) :
    val_main_v42 (F := Ideal) x0 x1 x2 x3 x4 x5 x6 (ValueIdx.ix2 n q) = val_main_v39 (F := Ideal) x1 x3 x4 x5 x6 (ValueIdx.ix3 a b q) := by
  have ha := a.isLt
  have hb := b.isLt
  have hq := q.isLt
  unfold val_main_v42
  refine (concatenate_pair_apply_right _ _ _ concatenates_S8192x2048_S2048x2048_S10240x2048_d0 (ValueIdx.ix2 n q) rfl rfl
    (ValueIdx.ix2 (⟨a.val * 1024 + b.val, by omega⟩ : Fin 2048) q) (fun z hz => ?_) (show a.val * 1024 + b.val + 8192 = n.val by omega)).trans ?_
  · match z with
    | ⟨0, _⟩ => exact absurd rfl hz
    | ⟨1, _⟩ => rfl
  rw [val_main_v41_apply]
  refine congrArg (val_main_v39 (F := Ideal) x1 x3 x4 x5 x6) (funext fun z => Fin.ext ?_)
  match z with
  | ⟨0, _⟩ => show ((a.val * 1024 + b.val) * 2048 + q.val) / 2097152 = a.val; omega
  | ⟨1, _⟩ => show ((a.val * 1024 + b.val) * 2048 + q.val) / 2048 % 1024 = b.val; omega
  | ⟨2, _⟩ => show ((a.val * 1024 + b.val) * 2048 + q.val) % 2048 = q.val; omega

end Cert.ReferenceOutRnnIdeal.Out

end
-- ==== Proof.OutRnn.Final.lean ====
module

public import proofs.«01_k».proof.Proof.OutRnn.Host
public import proofs.«01_k».proof.Proof.OutRnn.Ref

/-! The rows after the output projection of layer 1, of both programs, are the same. -/

@[expose] public section

noncomputable section

namespace Cert.OutRnn

open Idealize.ShloMosaic Idealize.ShloMosaic.TcCoe Idealize.SL.Sem
open Cert.KernelOutRnnIdeal Cert.Out

variable (m : (ℓ : Loc nD τ sig) → Buf (Elt Ideal) ℓ) (c : Dev nD)
variable (x0 : Vec Ideal S32x256x2048 .f32) (x1 : Vec Ideal S2x1024x2048 .f32) (x2 : Vec Ideal S8192x2048 .bf16) (x3 : Vec Ideal S2048x2048 .bf16)
variable (x4 : Vec Ideal S2x8x12288 .f32) (x5 : Vec Ideal S1x2048x2048 .f32) (x6 : Vec Ideal S1x2048 .f32)

theorem rows_eq (h0 : x0 = m ((c : Thread nD τ).loc main_arg0)) (h1 : x1 = m ((c : Thread nD τ).loc main_arg1)) (h2 : x2 = m ((c : Thread nD τ).loc main_arg2))
    (h3 : x3 = m ((c : Thread nD τ).loc main_arg3)) (h4 : x4 = m ((c : Thread nD τ).loc main_arg4)) (h5 : x5 = m ((c : Thread nD τ).loc main_arg5))
    (h6 : x6 = m ((c : Thread nD τ).loc main_arg6)) :
    (show S10240x2048.Idx → EReal from (Gen.dats m 0 c).arrAt 5 cfg0.N) = Cert.ReferenceOutRnnIdeal.Read.val_main_v42 (F := Ideal) x0 x1 x2 x3 x4 x5 x6 := by
  subst h0 h1 h2 h3 h4 h5 h6
  refine funext fun (i : S10240x2048.Idx) => ?_
  obtain ⟨n, q, rfl⟩ : ∃ (n : Fin 10240) (q : Fin 2048), i = ValueIdx.ix2 n q := ⟨i 0, i 1, funext fun a => by
    match a with
    | ⟨0, _⟩ => rfl
    | ⟨1, _⟩ => rfl⟩
  have hn := n.isLt
  have hq := q.isLt
  let j : Fin 12288 := ⟨4096 + q.val, by omega⟩
  by_cases hlt : n.val < 8192
  · let a : Fin 32 := ⟨n.val / 256, by omega⟩
    let b : Fin 256 := ⟨n.val % 256, by omega⟩
    have hab : n.val = a.val * 256 + b.val := by show n.val = n.val / 256 * 256 + n.val % 256; omega
    let k : Fin 8192 := ⟨n.val, hlt⟩
    refine (Cert.KernelOutRnnIdeal.Out.array_apply c m n q (0 : Fin 8) (by rw [if_pos hlt]; rfl)).trans ?_
    refine Eq.trans ?_ ((Cert.ReferenceOutRnnIdeal.Out.joined_left _ _ _ _ _ _ _ n a b q hab).trans
      (Cert.ReferenceOutRnnIdeal.Out.prompt_apply _ _ _ _ _ a b q (0 : Fin 8) rfl j rfl k hab)).symm
    refine congr (congr (congr (congr (congrArg Spec.cell ?_) ?_) (funext fun d => ?_)) (funext fun d => ?_)) ?_
    · exact Cert.KernelOutRnnIdeal.Out.tokens_apply m c n a b q hab
    · exact Cert.KernelOutRnnIdeal.Out.gate_apply m c (0 : Fin 8) q j rfl
    · exact Cert.KernelOutRnnIdeal.Out.mix_left m c n k d rfl
    · exact Cert.KernelOutRnnIdeal.Out.weights_apply m c d q
    · exact Cert.KernelOutRnnIdeal.Out.bias_apply m c q
  · let a : Fin 2 := ⟨(n.val - 8192) / 1024, by omega⟩
    let b : Fin 1024 := ⟨(n.val - 8192) % 1024, by omega⟩
    have hk : n.val - 8192 = a.val * 1024 + b.val := by show n.val - 8192 = (n.val - 8192) / 1024 * 1024 + (n.val - 8192) % 1024; omega
    have hab : n.val = 8192 + (a.val * 1024 + b.val) := by omega
    let k : Fin 2048 := ⟨n.val - 8192, by omega⟩
    let s : Fin 8 := ⟨1 + (n.val - 8192) / 1024, by omega⟩
    refine (Cert.KernelOutRnnIdeal.Out.array_apply c m n q s (by rw [if_neg hlt])).trans ?_
    refine Eq.trans ?_ ((Cert.ReferenceOutRnnIdeal.Out.joined_right _ _ _ _ _ _ _ n a b q hab).trans
      (Cert.ReferenceOutRnnIdeal.Out.sample_apply _ _ _ _ _ a b q s rfl j rfl k hk)).symm
    refine congr (congr (congr (congr (congrArg Spec.cell ?_) ?_) (funext fun d => ?_)) (funext fun d => ?_)) ?_
    · exact Cert.KernelOutRnnIdeal.Out.samples_apply m c n a b q hab
    · exact Cert.KernelOutRnnIdeal.Out.gate_apply m c s q j rfl
    · exact Cert.KernelOutRnnIdeal.Out.mix_right m c n k d (show n.val = 8192 + (n.val - 8192) by omega)
    · exact Cert.KernelOutRnnIdeal.Out.weights_apply m c d q
    · exact Cert.KernelOutRnnIdeal.Out.bias_apply m c q

end Cert.OutRnn

end
-- ==== Proof.Norm.Blocks.lean ====
module

public import proofs.«01_k».proof.Proof.Kv.Spec
public import proofs.«01_k».proof.Proof.Gen.KernelNormIdeal.Run
public import proofs.«01_k».proof.Proof.Gen.KernelNormIdeal.Read
public import Idealize.ShloMosaic.Lib.ValueIdx
public import Idealize.ShloMosaic.Lib.Pipeline.Value
public import Idealize.ShloMosaic.Lib.Pipeline.ValueKit.Geometry
public import Idealize.ShloMosaic.Lib.Pointwise.TacticCore
public import Idealize.ShloMosaic.Lib.StableHlo.Run

/-! The rows the final norm leaves, element by element, in the program's arguments. -/

@[expose] public section

set_option maxRecDepth 16384

noncomputable section

namespace Cert.Norm.Spec

open Idealize.ShloMosaic
open scoped BigOperators

/-- A number of a row over the row's root mean square, times its weight. -/
def cell (x : Fin 2048 → EReal) (d : Fin 2048) (g : EReal) : EReal := x d * Cert.Kv.Spec.inv (∑ k : Fin 2048, x k * x k) * g

end Cert.Norm.Spec

namespace Cert.KernelNormIdeal.Norm

open Cert.KernelNormIdeal Cert.KernelNormIdeal.Gen Idealize.ShloMosaic Idealize.ShloMosaic.TcCoe Idealize.ShloMosaic.StableHlo
open Idealize.SL Idealize.SL.Sem
open Idealize.ShloMosaic.Pipeline (Dat Cfg Window)
open Cert.Norm
open scoped BigOperators

theorem hz2 : (![0, 0] : Fin 2 → ℕ) = fun _ => 0 := by decide

/-- The block a point leaves is the body's value of the blocks it reads. -/
theorem out_eq {F : FTy → Type} [FloatOps F] (x0 : Vec F S512x2048 .f32) (x1 : Vec F S1x2048 .f32) : out0_2 x0 x1 = k0_pay1 x0 x1 := by
  unfold out0_2
  rw [View.canon_unit_zero (S := S512x2048) hz2, View.ld_unit_zero (S := S512x2048) hz2, View.ld_unit_zero (S := S1x2048) hz2]

/-- The sum along a row. -/
theorem sum_apply (v : FVec Ideal S512x2048 .f32) (r : Fin 512) :
    shapeCast S512x1 (multiReduction .add [1] S512 v 0x00000000#32 reduces_S512x2048_S512 (.inl rfl) rfl) shapeCasts_S512_S512x1 (ValueIdx.ix2 r (0 : Fin 1))
      = ∑ k : Fin 2048, v (ValueIdx.ix2 r k) := by
  refine (shapeCast_apply _ shapeCasts_S512_S512x1 _ (ValueIdx.ix1 r) ?_).trans ?_
  · rw [Shape.rowMajor_val_two, Shape.rowMajor_val_one]; show r.val = r.val * 1 + 0; omega
  · refine (Ideal.multiReduction_add_single v 0x00000000#32 reduces_S512x2048_S512 (.inl rfl) rfl (ValueIdx.ix1 r)).trans ?_
    refine Finset.sum_congr (M := EReal) rfl fun k _ => congrArg v (funext fun a => Fin.ext ?_)
    match a with
    | ⟨0, _⟩ => rfl
    | ⟨1, _⟩ => rfl

theorem pay_apply (x : Vec Ideal S512x2048 .f32) (g : Vec Ideal S1x2048 .f32) (r : Fin 512) (d : Fin 2048) :
    k0_pay1 x g (ValueIdx.ix2 r d) = Spec.cell (fun k => x (ValueIdx.ix2 r k)) d (g (ValueIdx.ix2 (0 : Fin 1) d)) := by
  unfold k0_pay1
  simp only [shapeCast_self]
  unfold Spec.cell
  refine congrArg₂ (fun p q : EReal => p * q) (congrArg (fun q : EReal => x (ValueIdx.ix2 r d) * q) ?_) ?_
  · refine (broadcastTo_apply _ broadcasts_S512x1_S512x2048 _ (ValueIdx.ix2 r (0 : Fin 1)) (fun a => by
      match a with
      | ⟨0, _⟩ => rfl
      | ⟨1, _⟩ => rfl)).trans ?_
    exact congrArg Cert.Kv.Spec.inv (sum_apply (mulf x x) r)
  · exact broadcastTo_apply _ broadcasts_S1x2048_S512x2048 _ (ValueIdx.ix2 (0 : Fin 1) d) (fun a => by
      match a with
      | ⟨0, _⟩ => rfl
      | ⟨1, _⟩ => rfl)

variable {F : FTy → Type} [FloatOps F]
variable (m : (ℓ : Loc nD τ sig) → Buf (Elt F) ℓ) (c : Dev nD)

theorem index0 : ∀ t : Fin cfg0.N, (cfg0.win 0).index t = ![t.val, 0] := by decide
theorem index1 : ∀ t : Fin cfg0.N, (cfg0.win 1).index t = ![0, 0] := by decide
theorem index2 : ∀ t : Fin cfg0.N, (cfg0.win 2).index t = ![t.val, 0] := by decide

theorem iblk0_apply (t : Fin cfg0.N) (r : Fin 512) (d : Fin 2048) (n : Fin 10240) (hn : n.val = t.val * 512 + r.val) :
    (show Vec F S512x2048 .f32 from iblk m c 0 t) (ValueIdx.ix2 r d) = (show Vec F S10240x2048 .f32 from V m c main_arg0) (ValueIdx.ix2 n d) := by
  show (show Vec F S10240x2048 .f32 from V m c main_arg0) (((cfg0.win 0).rect t).emb (ValueIdx.ix2 r d)) = _
  refine congrArg (show Vec F S10240x2048 .f32 from V m c main_arg0) (funext fun a => Fin.ext ?_)
  match a with
  | ⟨0, _⟩ =>
    refine (Pipeline.Window.rect_emb_val (cfg0.win 0) t (ValueIdx.ix2 r d) (0 : Fin 2)).trans ?_
    rw [index0 t]; show t.val * 512 + r.val = n.val; omega
  | ⟨1, _⟩ =>
    refine (Pipeline.Window.rect_emb_val (cfg0.win 0) t (ValueIdx.ix2 r d) (1 : Fin 2)).trans ?_
    rw [index0 t]; show 0 * 2048 + d.val = d.val; omega

theorem iblk1_apply (t : Fin cfg0.N) (d : Fin 2048) :
    (show Vec F S1x2048 .f32 from iblk m c 1 t) (ValueIdx.ix2 (0 : Fin 1) d) = (show Vec F S1x2048 .f32 from V m c main_v0) (ValueIdx.ix2 (0 : Fin 1) d) := by
  show (show Vec F S1x2048 .f32 from V m c main_v0) (((cfg0.win 1).rect t).emb (ValueIdx.ix2 (0 : Fin 1) d)) = _
  refine congrArg (show Vec F S1x2048 .f32 from V m c main_v0) (funext fun a => Fin.ext ?_)
  match a with
  | ⟨0, _⟩ =>
    refine (Pipeline.Window.rect_emb_val (cfg0.win 1) t (ValueIdx.ix2 (0 : Fin 1) d) (0 : Fin 2)).trans ?_
    rw [index1 t]; rfl
  | ⟨1, _⟩ =>
    refine (Pipeline.Window.rect_emb_val (cfg0.win 1) t (ValueIdx.ix2 (0 : Fin 1) d) (1 : Fin 2)).trans ?_
    rw [index1 t]; show 0 * 2048 + d.val = d.val; omega

/-- The result array, block by block. -/
def outArr : Vec F S10240x2048 .f32 := fun y =>
  k0_pay1 (iblk m c 0 ⟨(y 0).val / 512, by
      have h0 : (y 0).val < 10240 := (y 0).isLt
      show _ < 20; omega⟩)
    (iblk m c 1 ⟨(y 0).val / 512, by
      have h0 : (y 0).val < 10240 := (y 0).isLt
      show _ < 20; omega⟩)
    (ValueIdx.ix2 (⟨(y 0).val % 512, Nat.mod_lt _ (by omega)⟩ : Fin 512) (y 1 : Fin 2048))

theorem pay_congr (t t' : Fin cfg0.N) (h : t = t') (z z' : S512x2048.Idx) (hz : z = z') :
    k0_pay1 (iblk m c 0 t) (iblk m c 1 t) z = k0_pay1 (iblk m c 0 t') (iblk m c 1 t') z' := by subst h; subst hz; rfl

theorem flushed_eq (t : Fin cfg0.N) (hf : (cfg0.win 2).flush t = true) :
    (dats m 0 c).flushed 2 t = ((cfg0.win 2).blk t).view.read (Elt F) (outArr m c) := by
  funext y
  have ht : t.val < 20 := t.isLt
  have hy0 : (y (0 : Fin 2)).val < 512 := (y (0 : Fin 2)).isLt
  have hy1 : (y (1 : Fin 2)).val < 2048 := (y (1 : Fin 2)).isLt
  have e0 : (((cfg0.win 2).rect t).emb y (0 : Fin 2) : ℕ) = t.val * 512 + (y (0 : Fin 2)).val := by
    rw [Pipeline.Window.rect_emb_val _ t y (0 : Fin 2), index2 t]; rfl
  have e1 : (((cfg0.win 2).rect t).emb y (1 : Fin 2) : ℕ) = 0 * 2048 + (y (1 : Fin 2)).val := by
    rw [Pipeline.Window.rect_emb_val _ t y (1 : Fin 2), index2 t]; rfl
  have hfl : (dats m 0 c).flushed 2 t = (cfg0.win 2).cut (grid0.coords t) (out0_2 (iblk m c 0 t) (iblk m c 1 t)) := by
    show (cfg0.win 2).cut (grid0.coords t) ((dats m 0 c).after 2 t) = _
    rw [after0_2]
  rw [hfl, out_eq]
  show k0_pay1 (iblk m c 0 t) (iblk m c 1 t) y = outArr m c (((cfg0.win 2).rect t).emb y)
  unfold outArr
  refine pay_congr m c _ _ (Fin.ext ?_) _ _ (funext fun a => Fin.ext ?_)
  · show t.val = (((cfg0.win 2).rect t).emb y (0 : Fin 2) : ℕ) / 512
    rw [e0]; omega
  · match a with
    | ⟨0, _⟩ => show (y (0 : Fin 2)).val = (((cfg0.win 2).rect t).emb y (0 : Fin 2) : ℕ) % 512; rw [e0]; omega
    | ⟨1, _⟩ => show (y (1 : Fin 2)).val = (((cfg0.win 2).rect t).emb y (1 : Fin 2) : ℕ); rw [e1]; omega

theorem arrAt_apply (y : S10240x2048.Idx) : (show Vec F S10240x2048 .f32 from (dats m 0 c).arrAt 2 cfg0.N) y = outArr m c y := by
  have h0 : (y 0).val < 10240 := (y 0).isLt
  have h1 : (y 1).val < 2048 := (y 1).isLt
  have hlt : (y 0).val / 512 < 20 := by omega
  refine Dat.arrAt_apply_of_mem (dats m 0 c) 2 (outArr m c) (flushed_eq m c) cfg0.N ⟨(y 0).val / 512, hlt⟩ y hlt (flush0_2 _) ?_
  refine (Pipeline.Window.emb_mem_blk_iff (cfg0.win 2) ⟨(y 0).val / 512, hlt⟩ y).2 fun a => ?_
  rw [index2]
  match a with
  | ⟨0, _⟩ => show (y 0).val / 512 * 512 ≤ (y 0).val ∧ (y 0).val < (y 0).val / 512 * 512 + 512; omega
  | ⟨1, _⟩ => show 0 * 2048 ≤ (y 1).val ∧ (y 1).val < 0 * 2048 + 2048; omega

theorem rd_v0 : V m c main_v0 = shapeCast S1x2048 (show Vec F S2048 .f32 from m ((c : Thread nD τ).loc main_arg1)) shapeCasts_S2048_S1x2048 := by
  show after (List.flatten [hostOps0]) _ (Proc.devRef .tc main_v0) = _
  simp only [hostOps0, List.flatten_cons, List.flatten_nil, List.append_nil, List.cons_append, List.nil_append]
  after_results <;> rfl

/-- A number of the array the call leaves, in the program's arguments. -/
theorem reg_apply (m : (ℓ : Loc nD τ sig) → Buf (Elt Ideal) ℓ) (n : Fin 10240) (d : Fin 2048) :
    (show Vec Ideal S10240x2048 .f32 from Value.reg_main_v1 m c) (ValueIdx.ix2 n d)
      = Spec.cell (fun k => (show Vec Ideal S10240x2048 .f32 from m ((c : Thread nD τ).loc main_arg0)) (ValueIdx.ix2 n k)) d
        ((show Vec Ideal S2048 .f32 from m ((c : Thread nD τ).loc main_arg1)) (ValueIdx.ix1 d)) := by
  have hn := n.isLt
  refine (arrAt_apply m c (ValueIdx.ix2 n d)).trans ?_
  unfold outArr
  refine (pay_apply _ _ (⟨n.val % 512, Nat.mod_lt _ (by omega)⟩ : Fin 512) d).trans ?_
  refine congr (congrFun (congrArg Spec.cell (funext fun k => ?_)) d) ?_
  · exact (iblk0_apply m c ⟨n.val / 512, by show _ < 20; omega⟩ _ k n (show n.val = n.val / 512 * 512 + n.val % 512 by omega)).trans
      (congrFun (V_main_arg0 m c) _)
  · refine (iblk1_apply m c _ d).trans ((congrFun (rd_v0 m c) _).trans ?_)
    refine shapeCast_apply _ shapeCasts_S2048_S1x2048 _ (ValueIdx.ix1 d) ?_
    rw [Shape.rowMajor_val_two, Shape.rowMajor_val_one]; show d.val = 0 * 2048 + d.val; omega

theorem prompt_apply (r0 : Vec Ideal S10240x2048 .f32) (a : Fin 32) (b : Fin 256) (d : Fin 2048) (n : Fin 10240) (hn : n.val = a.val * 256 + b.val) :
    Read.val_main_v3 (F := Ideal) r0 (ValueIdx.ix3 a b d) = r0 (ValueIdx.ix2 n d) := by
  rw [Read.val_main_v3_apply, Read.val_main_v2_apply]
  refine congrArg r0 (funext fun z => Fin.ext ?_)
  have h2 := d.isLt
  match z with
  | ⟨0, _⟩ => show ((a.val * 256 + b.val) * 2048 + d.val) / 2048 = n.val; omega
  | ⟨1, _⟩ => show ((a.val * 256 + b.val) * 2048 + d.val) % 2048 = d.val; omega

theorem sample_apply (r0 : Vec Ideal S10240x2048 .f32) (a : Fin 2) (b : Fin 1024) (d : Fin 2048) (n : Fin 10240) (hn : n.val = 8192 + (a.val * 1024 + b.val)) :
    Read.val_main_v5 (F := Ideal) r0 (ValueIdx.ix3 a b d) = r0 (ValueIdx.ix2 n d) := by
  rw [Read.val_main_v5_apply, Read.val_main_v4_apply]
  refine congrArg r0 (funext fun z => Fin.ext ?_)
  have h2 := d.isLt
  match z with
  | ⟨0, _⟩ => show 8192 + ((a.val * 1024 + b.val) * 2048 + d.val) / 2048 = n.val; omega
  | ⟨1, _⟩ => show ((a.val * 1024 + b.val) * 2048 + d.val) % 2048 = d.val; omega

end Cert.KernelNormIdeal.Norm

end
-- ==== Proof.Norm.Ref.lean ====
module

public import proofs.«01_k».proof.Proof.Gen.ReferenceNormIdeal.Read
public import proofs.«01_k».proof.Proof.Norm.Blocks

/-! The plain program's final norm, element by element. -/

@[expose] public section

noncomputable section

namespace Cert.ReferenceNormIdeal.Norm

open Cert.ReferenceNormIdeal Cert.ReferenceNormIdeal.Gen Cert.ReferenceNormIdeal.Read Idealize.ShloMosaic Idealize.ShloMosaic.TcCoe Idealize.SL.Sem
open Cert.Norm
open scoped BigOperators

variable (x0 : Vec Ideal S10240x2048 .f32) (x1 : Vec Ideal S2048 .f32)

theorem tokens_apply (a : Fin 32) (b : Fin 256) (d : Fin 2048) (n : Fin 10240) (hn : n.val = a.val * 256 + b.val) :
    val_main_v1 (F := Ideal) x0 (ValueIdx.ix3 a b d) = x0 (ValueIdx.ix2 n d) := by
  rw [val_main_v1_apply, val_main_v0_apply]
  refine congrArg x0 (funext fun z => Fin.ext ?_)
  have h2 := d.isLt
  match z with
  | ⟨0, _⟩ => show ((a.val * 256 + b.val) * 2048 + d.val) / 2048 = n.val; omega
  | ⟨1, _⟩ => show ((a.val * 256 + b.val) * 2048 + d.val) % 2048 = d.val; omega

theorem samples_apply (a : Fin 2) (b : Fin 1024) (d : Fin 2048) (n : Fin 10240) (hn : n.val = 8192 + (a.val * 1024 + b.val)) :
    val_main_v3 (F := Ideal) x0 (ValueIdx.ix3 a b d) = x0 (ValueIdx.ix2 n d) := by
  rw [val_main_v3_apply, val_main_v2_apply]
  refine congrArg x0 (funext fun z => Fin.ext ?_)
  have h2 := d.isLt
  match z with
  | ⟨0, _⟩ => show 8192 + ((a.val * 1024 + b.val) * 2048 + d.val) / 2048 = n.val; omega
  | ⟨1, _⟩ => show ((a.val * 1024 + b.val) * 2048 + d.val) % 2048 = d.val; omega

/-- A number of a normalised token of the prompts. -/
theorem prompt_apply (a : Fin 32) (b : Fin 256) (d : Fin 2048) (n : Fin 10240) (hn : n.val = a.val * 256 + b.val) :
    val_main_v26 (F := Ideal) x0 x1 (ValueIdx.ix3 a b d) = Spec.cell (fun k => x0 (ValueIdx.ix2 n k)) d (x1 (ValueIdx.ix1 d)) := by
  rw [val_main_v26_apply, val_main_v13_apply, tokens_apply x0 a b d n hn, val_main_v12_apply, val_main_v11_apply, val_main_v10_apply, val_main_v9_apply,
    val_main_cst_1_apply, val_main_v8_apply, val_main_v7_apply, val_main_cst_0_apply, val_main_v6_apply, val_main_v5_apply, val_main_cst_apply,
    val_main_v25_apply, val_main_v24_apply]
  show x0 (ValueIdx.ix2 n d) * Cert.Kv.Spec.inv _ * _ = _
  unfold Spec.cell
  refine congrArg₂ (fun p q : EReal => x0 (ValueIdx.ix2 n d) * Cert.Kv.Spec.inv p * q) ?_ (congrArg x1 (funext fun z => Fin.ext ?_))
  · rw [show (FloatOps.ofBits (F := Ideal) .f32 0x00000000#32) = (0 : EReal) from Ideal.ofBits_zero_f32, zero_add]
    refine Finset.sum_congr (M := EReal) rfl fun k _ => ?_
    rw [val_main_v4_apply]
    have e : idx_main_v5 (idx_main_v6 (idx_main_v12 (ValueIdx.ix3 a b d))) k = ValueIdx.ix3 a b k := funext fun z => Fin.ext (by
      match z with
      | ⟨0, _⟩ => rfl
      | ⟨1, _⟩ => rfl
      | ⟨2, _⟩ => rfl)
    rw [e, tokens_apply x0 a b k n hn]; rfl
  · match z with
    | ⟨0, _⟩ => rfl

/-- A number of a normalised token of the samples. -/
theorem sample_apply (a : Fin 2) (b : Fin 1024) (d : Fin 2048) (n : Fin 10240) (hn : n.val = 8192 + (a.val * 1024 + b.val)) :
    val_main_v29 (F := Ideal) x0 x1 (ValueIdx.ix3 a b d) = Spec.cell (fun k => x0 (ValueIdx.ix2 n k)) d (x1 (ValueIdx.ix1 d)) := by
  rw [val_main_v29_apply, val_main_v23_apply, samples_apply x0 a b d n hn, val_main_v22_apply, val_main_v21_apply, val_main_v20_apply, val_main_v19_apply,
    val_main_cst_4_apply, val_main_v18_apply, val_main_v17_apply, val_main_cst_3_apply, val_main_v16_apply, val_main_v15_apply, val_main_cst_2_apply,
    val_main_v28_apply, val_main_v27_apply]
  show x0 (ValueIdx.ix2 n d) * Cert.Kv.Spec.inv _ * _ = _
  unfold Spec.cell
  refine congrArg₂ (fun p q : EReal => x0 (ValueIdx.ix2 n d) * Cert.Kv.Spec.inv p * q) ?_ (congrArg x1 (funext fun z => Fin.ext ?_))
  · rw [show (FloatOps.ofBits (F := Ideal) .f32 0x00000000#32) = (0 : EReal) from Ideal.ofBits_zero_f32, zero_add]
    refine Finset.sum_congr (M := EReal) rfl fun k _ => ?_
    rw [val_main_v14_apply]
    have e : idx_main_v15 (idx_main_v16 (idx_main_v22 (ValueIdx.ix3 a b d))) k = ValueIdx.ix3 a b k := funext fun z => Fin.ext (by
      match z with
      | ⟨0, _⟩ => rfl
      | ⟨1, _⟩ => rfl
      | ⟨2, _⟩ => rfl)
    rw [e, samples_apply x0 a b k n hn]; rfl
  · match z with
    | ⟨0, _⟩ => rfl

end Cert.ReferenceNormIdeal.Norm

namespace Cert.Norm

open Idealize.ShloMosaic Idealize.ShloMosaic.TcCoe Idealize.SL.Sem
open Cert.KernelNormIdeal

variable (m : (ℓ : Loc nD τ sig) → Buf (Elt Ideal) ℓ) (c : Dev nD)
variable (x0 : Vec Ideal S10240x2048 .f32) (x1 : Vec Ideal S2048 .f32)

theorem prompt_eq (h0 : x0 = m ((c : Thread nD τ).loc main_arg0)) (h1 : x1 = m ((c : Thread nD τ).loc main_arg1)) :
    (Cert.KernelNormIdeal.Read.val_main_v3 (F := Ideal) (Cert.KernelNormIdeal.Value.reg_main_v1 m c) : S32x256x2048.Idx → EReal)
      = Cert.ReferenceNormIdeal.Read.val_main_v26 (F := Ideal) x0 x1 := by
  subst h0 h1
  refine funext fun (i : S32x256x2048.Idx) => ?_
  have hi : i = ValueIdx.ix3 (i 0 : Fin 32) (i 1 : Fin 256) (i 2 : Fin 2048) := funext fun a => by
    match a with
    | ⟨0, _⟩ => rfl
    | ⟨1, _⟩ => rfl
    | ⟨2, _⟩ => rfl
  have hn : (i 0).val * 256 + (i 1).val < 10240 := by
    have a0 : (i 0).val < 32 := (i 0).isLt
    have a1 : (i 1).val < 256 := (i 1).isLt
    omega
  rw [hi]
  refine (Cert.KernelNormIdeal.Norm.prompt_apply _ (i 0) (i 1) (i 2) ⟨_, hn⟩ rfl).trans ?_
  exact (Cert.KernelNormIdeal.Norm.reg_apply c m _ _).trans (Cert.ReferenceNormIdeal.Norm.prompt_apply _ _ (i 0) (i 1) (i 2) ⟨_, hn⟩ rfl).symm

theorem sample_eq (h0 : x0 = m ((c : Thread nD τ).loc main_arg0)) (h1 : x1 = m ((c : Thread nD τ).loc main_arg1)) :
    (Cert.KernelNormIdeal.Read.val_main_v5 (F := Ideal) (Cert.KernelNormIdeal.Value.reg_main_v1 m c) : S2x1024x2048.Idx → EReal)
      = Cert.ReferenceNormIdeal.Read.val_main_v29 (F := Ideal) x0 x1 := by
  subst h0 h1
  refine funext fun (i : S2x1024x2048.Idx) => ?_
  have hi : i = ValueIdx.ix3 (i 0 : Fin 2) (i 1 : Fin 1024) (i 2 : Fin 2048) := funext fun a => by
    match a with
    | ⟨0, _⟩ => rfl
    | ⟨1, _⟩ => rfl
    | ⟨2, _⟩ => rfl
  have hn : 8192 + ((i 0).val * 1024 + (i 1).val) < 10240 := by
    have a0 : (i 0).val < 2 := (i 0).isLt
    have a1 : (i 1).val < 1024 := (i 1).isLt
    omega
  rw [hi]
  refine (Cert.KernelNormIdeal.Norm.sample_apply _ (i 0) (i 1) (i 2) ⟨_, hn⟩ rfl).trans ?_
  exact (Cert.KernelNormIdeal.Norm.reg_apply c m _ _).trans (Cert.ReferenceNormIdeal.Norm.sample_apply _ _ (i 0) (i 1) (i 2) ⟨_, hn⟩ rfl).symm

end Cert.Norm

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_routed
public import proofs.«01_k».proof.Proof.Gen.ReferenceIdeal.Run
public import proofs.«01_k».proof.Proof.Gen.ReferenceIdeal.Read
public import proofs.«01_k».proof.Proof.K.Frame
public import proofs.«01_k».proof.Proof.K.Ready
public import proofs.«01_k».proof.Proof.KI.Final
public import proofs.«01_k».proof.Proof.RI.Value
public import proofs.«01_k».proof.Proof.Gen.KernelKv.Frame
public import proofs.«01_k».proof.Proof.Gen.KernelMod.Frame
public import proofs.«01_k».proof.Proof.Gen.ReferenceKvIdeal.Run
public import proofs.«01_k».proof.Proof.Gen.ReferenceModIdeal.Run
public import proofs.«01_k».proof.Proof.Kv.Final
public import proofs.«01_k».proof.Proof.Mod.Final
public import proofs.«01_k».proof.Proof.Gen.KernelOut.Frame
public import proofs.«01_k».proof.Proof.Gen.KernelOutRnn.Frame
public import proofs.«01_k».proof.Proof.Gen.KernelNorm.Frame
public import proofs.«01_k».proof.Proof.Gen.ReferenceOutIdeal.Run
public import proofs.«01_k».proof.Proof.Gen.ReferenceOutRnnIdeal.Run
public import proofs.«01_k».proof.Proof.Gen.ReferenceNormIdeal.Run
public import proofs.«01_k».proof.Proof.Out.Final
public import proofs.«01_k».proof.Proof.OutRnn.Final
public import proofs.«01_k».proof.Proof.Norm.Ref
public import Idealize.ShloMosaic.Adequacy
public import Idealize.ShloMosaic.Init
public import Idealize.ShloMosaic.Lib.Quiescent

@[expose] public section

noncomputable section

namespace Cert.Proof

open Idealize.ShloMosaic Idealize.SL.Sem

local instance : Cert.Kernel.Facts := Cert.Kernel.Gen.facts
local instance : Cert.KernelIdeal.Facts := Cert.KernelIdeal.Gen.facts
local instance : Cert.ReferenceIdeal.Facts := Cert.ReferenceIdeal.Gen.facts
local instance : Cert.KernelKv.Facts := Cert.KernelKv.Gen.facts
local instance : Cert.KernelKvIdeal.Facts := Cert.KernelKvIdeal.Gen.facts
local instance : Cert.ReferenceKvIdeal.Facts := Cert.ReferenceKvIdeal.Gen.facts
local instance : Cert.KernelMod.Facts := Cert.KernelMod.Gen.facts
local instance : Cert.KernelModIdeal.Facts := Cert.KernelModIdeal.Gen.facts
local instance : Cert.ReferenceModIdeal.Facts := Cert.ReferenceModIdeal.Gen.facts
local instance : Cert.KernelOut.Facts := Cert.KernelOut.Gen.facts
local instance : Cert.KernelOutRnn.Facts := Cert.KernelOutRnn.Gen.facts
local instance : Cert.KernelOutIdeal.Facts := Cert.KernelOutIdeal.Gen.facts
local instance : Cert.KernelOutRnnIdeal.Facts := Cert.KernelOutRnnIdeal.Gen.facts
local instance : Cert.ReferenceOutIdeal.Facts := Cert.ReferenceOutIdeal.Gen.facts
local instance : Cert.ReferenceOutRnnIdeal.Facts := Cert.ReferenceOutRnnIdeal.Gen.facts
local instance : Cert.KernelNorm.Facts := Cert.KernelNorm.Gen.facts
local instance : Cert.KernelNormIdeal.Facts := Cert.KernelNormIdeal.Gen.facts
local instance : Cert.ReferenceNormIdeal.Facts := Cert.ReferenceNormIdeal.Gen.facts
local instance : Cert.Pre_routed.Facts := Cert.Pre_routed.Gen.facts

theorem frame_kernel : Cert.quiescent_Kernel := fun m ρ h => by
  have hT := Cert.Kernel.Moe.tables_of m (Cert.Kernel.Moe.ready m 0 (h 0))
  exact Cert.Kernel.Moe.frame m ρ (Cert.Kernel.Moe.ok_of hT) (Cert.Kernel.Moe.small_of m hT)

theorem frame_ideal : Cert.quiescent_KernelIdeal := fun m ρ h => by
  have hT := Cert.KernelIdeal.Moe.tables_of m (Cert.KernelIdeal.Moe.ready m 0 (h 0))
  exact Cert.KernelIdeal.Moe.frame m ρ (Cert.KernelIdeal.Moe.ok_of hT) (Cert.KernelIdeal.Moe.small_of m hT)

theorem frame_reference : Cert.quiescent_ReferenceIdeal := fun m ρ _ =>
  (θ_run _ _ _).mono (fun r h => ⟨fun c => (h c).2, sem_eq_zero_of_no_sems (by decide) r.2⟩) (Cert.ReferenceIdeal.Value.run (F := Ideal) m ρ)

/-- The value both programs leave. -/
theorem value : Cert.algebraic_KernelIdeal_ReferenceIdeal := fun m g m' g' hpre hargs => by
  have hR := Cert.KernelIdeal.Moe.ready m 0 (hpre 0)
  have hT := Cert.KernelIdeal.Moe.tables_of m hR
  refine ⟨fun c => Cert.ReferenceIdeal.Read.val_main_v39 (F := Ideal) (m' ((c.tc : Thread Cert.ReferenceIdeal.nD Cert.ReferenceIdeal.τ).loc Cert.ReferenceIdeal.main_arg0))
    (m' ((c.tc : Thread Cert.ReferenceIdeal.nD Cert.ReferenceIdeal.τ).loc Cert.ReferenceIdeal.main_arg1))
    (m' ((c.tc : Thread Cert.ReferenceIdeal.nD Cert.ReferenceIdeal.τ).loc Cert.ReferenceIdeal.main_arg2))
    (m' ((c.tc : Thread Cert.ReferenceIdeal.nD Cert.ReferenceIdeal.τ).loc Cert.ReferenceIdeal.main_arg5))
    (m' ((c.tc : Thread Cert.ReferenceIdeal.nD Cert.ReferenceIdeal.τ).loc Cert.ReferenceIdeal.main_arg6))
    (m' ((c.tc : Thread Cert.ReferenceIdeal.nD Cert.ReferenceIdeal.τ).loc Cert.ReferenceIdeal.main_arg7))
    (m' ((c.tc : Thread Cert.ReferenceIdeal.nD Cert.ReferenceIdeal.τ).loc Cert.ReferenceIdeal.main_arg8))
    (m' ((c.tc : Thread Cert.ReferenceIdeal.nD Cert.ReferenceIdeal.τ).loc Cert.ReferenceIdeal.main_arg9))
    (m' ((c.tc : Thread Cert.ReferenceIdeal.nD Cert.ReferenceIdeal.τ).loc Cert.ReferenceIdeal.main_arg10)), ?_, ?_⟩
  · refine (θ_run _ _ _).mono (fun r h c => ⟨?_, h.1.1 c⟩)
      (θ_run_and (Cert.KernelIdeal.Moe.frame m g (Cert.KernelIdeal.Moe.ok_of hT) (Cert.KernelIdeal.Moe.small_of m hT)) (Cert.KernelIdeal.Moe.run_value m g hR))
    obtain ⟨h0, h1, h2, -, -, h5, h6, h7, h8, h9, h10⟩ := hargs c
    obtain rfl : c = 0 := Subsingleton.elim _ _
    funext i
    let n : Fin 10240 := i 0
    let d : Fin 2048 := i 1
    have hi : i = ValueIdx.ix2 n d := funext fun a => by
      match a with
      | ⟨0, _⟩ => rfl
      | ⟨1, _⟩ => rfl
    rw [hi]
    refine (h.2 n d).trans (Eq.symm ?_)
    refine (Cert.ReferenceIdeal.Moe.result_apply _ _ _ _ _ _ _ _ _ n d (Cert.KernelIdeal.Moe.ch hR n) (fun k => ?_) (Cert.KernelIdeal.Moe.ch_inj m 0 hR n)).trans ?_
    · rw [h1]
      exact Cert.KernelIdeal.Moe.ch_val m 0 hR n k
    · unfold Cert.KernelIdeal.Moe.ffnOf
      rw [h0, h2, h5, h6, h7, h8, h9, h10]
  · exact (θ_run _ _ _).mono (fun r h c => ⟨(h c).1.trans (Cert.ReferenceIdeal.Read.val_main_v39_eq _ _ _ _ _ _ _ _ _), (h c).2⟩)
      (Cert.ReferenceIdeal.Value.run (F := Ideal) m' g')

/-- The projection runs and leaves its arguments. -/
theorem frame_kv : Cert.quiescent_KernelKv := fun m ρ _ => Cert.KernelKv.Gen.frame m ρ

theorem frame_kv_ideal : Cert.quiescent_KernelKvIdeal := fun m ρ _ => Cert.KernelKvIdeal.Gen.frame m ρ

theorem frame_kv_reference : Cert.quiescent_ReferenceKvIdeal := fun m ρ _ =>
  (θ_run _ _ _).mono (fun r h => ⟨fun c => (h c).2.2.2, sem_eq_zero_of_no_sems (by decide) r.2⟩) (Cert.ReferenceKvIdeal.Value.run (F := Ideal) m ρ)

/-- The modulation runs and leaves its arguments. -/
theorem frame_mod : Cert.quiescent_KernelMod := fun m ρ _ => Cert.KernelMod.Gen.frame m ρ

theorem frame_mod_ideal : Cert.quiescent_KernelModIdeal := fun m ρ _ => Cert.KernelModIdeal.Gen.frame m ρ

theorem frame_mod_reference : Cert.quiescent_ReferenceModIdeal := fun m ρ _ =>
  (θ_run _ _ _).mono (fun r h => ⟨fun c => (h c).2, sem_eq_zero_of_no_sems (by decide) r.2⟩) (Cert.ReferenceModIdeal.Value.run (F := Ideal) m ρ)

/-- The new keys and values and the whole projection, of both programs. -/
theorem value_kv : Cert.algebraic_KernelKvIdeal_ReferenceKvIdeal := fun m g m' g' _ hargs => by
  refine ⟨fun c => Cert.ReferenceKvIdeal.Read.val_main_v40 (F := Ideal) (m' ((c.tc : Thread Cert.ReferenceKvIdeal.nD Cert.ReferenceKvIdeal.τ).loc Cert.ReferenceKvIdeal.main_arg0)) (m' ((c.tc : Thread Cert.ReferenceKvIdeal.nD Cert.ReferenceKvIdeal.τ).loc Cert.ReferenceKvIdeal.main_arg2)) (m' ((c.tc : Thread Cert.ReferenceKvIdeal.nD Cert.ReferenceKvIdeal.τ).loc Cert.ReferenceKvIdeal.main_arg3)) (m' ((c.tc : Thread Cert.ReferenceKvIdeal.nD Cert.ReferenceKvIdeal.τ).loc Cert.ReferenceKvIdeal.main_arg4)) (m' ((c.tc : Thread Cert.ReferenceKvIdeal.nD Cert.ReferenceKvIdeal.τ).loc Cert.ReferenceKvIdeal.main_arg5)),
    fun c => Cert.ReferenceKvIdeal.Read.val_main_v41 (F := Ideal) (m' ((c.tc : Thread Cert.ReferenceKvIdeal.nD Cert.ReferenceKvIdeal.τ).loc Cert.ReferenceKvIdeal.main_arg0)) (m' ((c.tc : Thread Cert.ReferenceKvIdeal.nD Cert.ReferenceKvIdeal.τ).loc Cert.ReferenceKvIdeal.main_arg2)) (m' ((c.tc : Thread Cert.ReferenceKvIdeal.nD Cert.ReferenceKvIdeal.τ).loc Cert.ReferenceKvIdeal.main_arg3)) (m' ((c.tc : Thread Cert.ReferenceKvIdeal.nD Cert.ReferenceKvIdeal.τ).loc Cert.ReferenceKvIdeal.main_arg4)) (m' ((c.tc : Thread Cert.ReferenceKvIdeal.nD Cert.ReferenceKvIdeal.τ).loc Cert.ReferenceKvIdeal.main_arg5)),
    fun c => Cert.ReferenceKvIdeal.Read.val_main_v80 (F := Ideal) (m' ((c.tc : Thread Cert.ReferenceKvIdeal.nD Cert.ReferenceKvIdeal.τ).loc Cert.ReferenceKvIdeal.main_arg0)) (m' ((c.tc : Thread Cert.ReferenceKvIdeal.nD Cert.ReferenceKvIdeal.τ).loc Cert.ReferenceKvIdeal.main_arg1)) (m' ((c.tc : Thread Cert.ReferenceKvIdeal.nD Cert.ReferenceKvIdeal.τ).loc Cert.ReferenceKvIdeal.main_arg2)) (m' ((c.tc : Thread Cert.ReferenceKvIdeal.nD Cert.ReferenceKvIdeal.τ).loc Cert.ReferenceKvIdeal.main_arg3)) (m' ((c.tc : Thread Cert.ReferenceKvIdeal.nD Cert.ReferenceKvIdeal.τ).loc Cert.ReferenceKvIdeal.main_arg4)) (m' ((c.tc : Thread Cert.ReferenceKvIdeal.nD Cert.ReferenceKvIdeal.τ).loc Cert.ReferenceKvIdeal.main_arg5)), ?_, ?_⟩
  · refine (θ_run _ _ _).mono (fun r h c => ⟨(h c).1.trans ?_, (h c).2.1.trans ?_, (h c).2.2.1.trans ?_, (h c).2.2.2⟩) (Cert.KernelKvIdeal.Value.run (F := Ideal) m g)
    · obtain ⟨h0, -, h2, h3, h4, h5⟩ := hargs c
      exact Cert.Kv.keys_eq m c _ _ _ _ _ h0 h2 h3 h4 h5
    · obtain ⟨h0, -, h2, h3, h4, h5⟩ := hargs c
      exact Cert.Kv.values_eq m c _ _ _ _ _ h0 h2 h3 h4 h5
    · obtain ⟨h0, h1, h2, h3, h4, h5⟩ := hargs c
      exact Cert.Kv.proj_eq m c _ _ _ _ _ _ h0 h1 h2 h3 h4 h5
  · exact (θ_run _ _ _).mono (fun r h c => ⟨(h c).1.trans (Cert.ReferenceKvIdeal.Read.val_main_v40_eq _ _ _ _ _),
      (h c).2.1.trans (Cert.ReferenceKvIdeal.Read.val_main_v41_eq _ _ _ _ _),
      (h c).2.2.1.trans (Cert.ReferenceKvIdeal.Read.val_main_v80_eq m' c), (h c).2.2.2⟩) (Cert.ReferenceKvIdeal.Value.run (F := Ideal) m' g')

/-- The modulation table of both programs. -/
theorem value_mod : Cert.algebraic_KernelModIdeal_ReferenceModIdeal := fun m g m' g' _ hargs => by
  refine ⟨fun c => Cert.ReferenceModIdeal.Read.val_main_v22 (F := Ideal) (m' ((c.tc : Thread Cert.ReferenceModIdeal.nD Cert.ReferenceModIdeal.τ).loc Cert.ReferenceModIdeal.main_arg0)) (m' ((c.tc : Thread Cert.ReferenceModIdeal.nD Cert.ReferenceModIdeal.τ).loc Cert.ReferenceModIdeal.main_arg1)) (m' ((c.tc : Thread Cert.ReferenceModIdeal.nD Cert.ReferenceModIdeal.τ).loc Cert.ReferenceModIdeal.main_arg2)) (m' ((c.tc : Thread Cert.ReferenceModIdeal.nD Cert.ReferenceModIdeal.τ).loc Cert.ReferenceModIdeal.main_arg3)), ?_, ?_⟩
  · refine (θ_run _ _ _).mono (fun r h c => ⟨(h c).1.trans ?_, (h c).2⟩) (Cert.KernelModIdeal.Value.run_blocks (F := Ideal) m g)
    obtain ⟨h0, h1, h2, h3⟩ := hargs c
    exact Cert.Mod.table_eq m c _ _ _ _ h0 h1 h2 h3
  · exact (θ_run _ _ _).mono (fun r h c => ⟨(h c).1.trans (Cert.ReferenceModIdeal.Read.val_main_v22_eq _ _ _ _), (h c).2⟩)
      (Cert.ReferenceModIdeal.Value.run (F := Ideal) m' g')

/-- The output projection runs and leaves its arguments. -/
theorem frame_out : Cert.quiescent_KernelOut := fun m ρ _ => Cert.KernelOut.Gen.frame m ρ

theorem frame_out_ideal : Cert.quiescent_KernelOutIdeal := fun m ρ _ => Cert.KernelOutIdeal.Gen.frame m ρ

theorem frame_out_reference : Cert.quiescent_ReferenceOutIdeal := fun m ρ _ =>
  (θ_run _ _ _).mono (fun r h => ⟨fun c => (h c).2, sem_eq_zero_of_no_sems (by decide) r.2⟩) (Cert.ReferenceOutIdeal.Value.run (F := Ideal) m ρ)

/-- The output projection of layer 1 runs and leaves its arguments. -/
theorem frame_out_rnn : Cert.quiescent_KernelOutRnn := fun m ρ _ => Cert.KernelOutRnn.Gen.frame m ρ

theorem frame_out_rnn_ideal : Cert.quiescent_KernelOutRnnIdeal := fun m ρ _ => Cert.KernelOutRnnIdeal.Gen.frame m ρ

theorem frame_out_rnn_reference : Cert.quiescent_ReferenceOutRnnIdeal := fun m ρ _ =>
  (θ_run _ _ _).mono (fun r h => ⟨fun c => (h c).2, sem_eq_zero_of_no_sems (by decide) r.2⟩) (Cert.ReferenceOutRnnIdeal.Value.run (F := Ideal) m ρ)

/-- The final norm runs and leaves its arguments. -/
theorem frame_norm : Cert.quiescent_KernelNorm := fun m ρ _ => Cert.KernelNorm.Gen.frame m ρ

theorem frame_norm_ideal : Cert.quiescent_KernelNormIdeal := fun m ρ _ => Cert.KernelNormIdeal.Gen.frame m ρ

theorem frame_norm_reference : Cert.quiescent_ReferenceNormIdeal := fun m ρ _ =>
  (θ_run _ _ _).mono (fun r h => ⟨fun c => (h c).2.2, sem_eq_zero_of_no_sems (by decide) r.2⟩) (Cert.ReferenceNormIdeal.Value.run (F := Ideal) m ρ)

/-- The rows after the output projection, of both programs. -/
theorem value_out : Cert.algebraic_KernelOutIdeal_ReferenceOutIdeal := fun m g m' g' _ hargs => by
  refine ⟨fun c => Cert.ReferenceOutIdeal.Read.val_main_v42 (F := Ideal) (m' ((c.tc : Thread Cert.ReferenceOutIdeal.nD Cert.ReferenceOutIdeal.τ).loc Cert.ReferenceOutIdeal.main_arg0))
    (m' ((c.tc : Thread Cert.ReferenceOutIdeal.nD Cert.ReferenceOutIdeal.τ).loc Cert.ReferenceOutIdeal.main_arg1))
    (m' ((c.tc : Thread Cert.ReferenceOutIdeal.nD Cert.ReferenceOutIdeal.τ).loc Cert.ReferenceOutIdeal.main_arg2))
    (m' ((c.tc : Thread Cert.ReferenceOutIdeal.nD Cert.ReferenceOutIdeal.τ).loc Cert.ReferenceOutIdeal.main_arg3))
    (m' ((c.tc : Thread Cert.ReferenceOutIdeal.nD Cert.ReferenceOutIdeal.τ).loc Cert.ReferenceOutIdeal.main_arg4))
    (m' ((c.tc : Thread Cert.ReferenceOutIdeal.nD Cert.ReferenceOutIdeal.τ).loc Cert.ReferenceOutIdeal.main_arg5))
    (m' ((c.tc : Thread Cert.ReferenceOutIdeal.nD Cert.ReferenceOutIdeal.τ).loc Cert.ReferenceOutIdeal.main_arg6)), ?_, ?_⟩
  · refine (θ_run _ _ _).mono (fun r h c => ⟨(h c).1.trans ?_, (h c).2⟩) (Cert.KernelOutIdeal.Value.run_blocks (F := Ideal) m g)
    obtain ⟨h0, h1, h2, h3, h4, h5, h6⟩ := hargs c
    exact Cert.Out.rows_eq m c _ _ _ _ _ _ _ h0 h1 h2 h3 h4 h5 h6
  · exact (θ_run _ _ _).mono (fun r h c => ⟨(h c).1.trans (Cert.ReferenceOutIdeal.Read.val_main_v42_eq _ _ _ _ _ _ _), (h c).2⟩)
      (Cert.ReferenceOutIdeal.Value.run (F := Ideal) m' g')

/-- The rows after the output projection of layer 1, of both programs. -/
theorem value_out_rnn : Cert.algebraic_KernelOutRnnIdeal_ReferenceOutRnnIdeal := fun m g m' g' _ hargs => by
  refine ⟨fun c => Cert.ReferenceOutRnnIdeal.Read.val_main_v42 (F := Ideal) (m' ((c.tc : Thread Cert.ReferenceOutRnnIdeal.nD Cert.ReferenceOutRnnIdeal.τ).loc Cert.ReferenceOutRnnIdeal.main_arg0))
    (m' ((c.tc : Thread Cert.ReferenceOutRnnIdeal.nD Cert.ReferenceOutRnnIdeal.τ).loc Cert.ReferenceOutRnnIdeal.main_arg1))
    (m' ((c.tc : Thread Cert.ReferenceOutRnnIdeal.nD Cert.ReferenceOutRnnIdeal.τ).loc Cert.ReferenceOutRnnIdeal.main_arg2))
    (m' ((c.tc : Thread Cert.ReferenceOutRnnIdeal.nD Cert.ReferenceOutRnnIdeal.τ).loc Cert.ReferenceOutRnnIdeal.main_arg3))
    (m' ((c.tc : Thread Cert.ReferenceOutRnnIdeal.nD Cert.ReferenceOutRnnIdeal.τ).loc Cert.ReferenceOutRnnIdeal.main_arg4))
    (m' ((c.tc : Thread Cert.ReferenceOutRnnIdeal.nD Cert.ReferenceOutRnnIdeal.τ).loc Cert.ReferenceOutRnnIdeal.main_arg5))
    (m' ((c.tc : Thread Cert.ReferenceOutRnnIdeal.nD Cert.ReferenceOutRnnIdeal.τ).loc Cert.ReferenceOutRnnIdeal.main_arg6)), ?_, ?_⟩
  · refine (θ_run _ _ _).mono (fun r h c => ⟨(h c).1.trans ?_, (h c).2⟩) (Cert.KernelOutRnnIdeal.Value.run_blocks (F := Ideal) m g)
    obtain ⟨h0, h1, h2, h3, h4, h5, h6⟩ := hargs c
    exact Cert.OutRnn.rows_eq m c _ _ _ _ _ _ _ h0 h1 h2 h3 h4 h5 h6
  · exact (θ_run _ _ _).mono (fun r h c => ⟨(h c).1.trans (Cert.ReferenceOutRnnIdeal.Read.val_main_v42_eq _ _ _ _ _ _ _), (h c).2⟩)
      (Cert.ReferenceOutRnnIdeal.Value.run (F := Ideal) m' g')

/-- The rows after the final norm, of both programs. -/
theorem value_norm : Cert.algebraic_KernelNormIdeal_ReferenceNormIdeal := fun m g m' g' _ hargs => by
  refine ⟨fun c => Cert.ReferenceNormIdeal.Read.val_main_v26 (F := Ideal) (m' ((c.tc : Thread Cert.ReferenceNormIdeal.nD Cert.ReferenceNormIdeal.τ).loc Cert.ReferenceNormIdeal.main_arg0)) (m' ((c.tc : Thread Cert.ReferenceNormIdeal.nD Cert.ReferenceNormIdeal.τ).loc Cert.ReferenceNormIdeal.main_arg1)),
    fun c => Cert.ReferenceNormIdeal.Read.val_main_v29 (F := Ideal) (m' ((c.tc : Thread Cert.ReferenceNormIdeal.nD Cert.ReferenceNormIdeal.τ).loc Cert.ReferenceNormIdeal.main_arg0)) (m' ((c.tc : Thread Cert.ReferenceNormIdeal.nD Cert.ReferenceNormIdeal.τ).loc Cert.ReferenceNormIdeal.main_arg1)), ?_, ?_⟩
  · refine (θ_run _ _ _).mono (fun r h c => ⟨(h c).1.trans ?_, (h c).2.1.trans ?_, (h c).2.2⟩) (Cert.KernelNormIdeal.Value.run (F := Ideal) m g)
    · obtain ⟨h0, h1⟩ := hargs c
      exact Cert.Norm.prompt_eq m c _ _ h0 h1
    · obtain ⟨h0, h1⟩ := hargs c
      exact Cert.Norm.sample_eq m c _ _ h0 h1
  · exact (θ_run _ _ _).mono (fun r h c => ⟨(h c).1.trans (Cert.ReferenceNormIdeal.Read.val_main_v26_eq _ _),
      (h c).2.1.trans (Cert.ReferenceNormIdeal.Read.val_main_v29_eq _ _), (h c).2.2⟩) (Cert.ReferenceNormIdeal.Value.run (F := Ideal) m' g')

theorem claim : Cert.Claim :=
  ⟨Cert.Kernel.Gen.facts, Cert.KernelIdeal.Gen.facts, Cert.ReferenceIdeal.Gen.facts, Cert.KernelKv.Gen.facts, Cert.KernelKvIdeal.Gen.facts,
    Cert.ReferenceKvIdeal.Gen.facts, Cert.KernelMod.Gen.facts, Cert.KernelModIdeal.Gen.facts, Cert.ReferenceModIdeal.Gen.facts,
    Cert.KernelOut.Gen.facts, Cert.KernelOutIdeal.Gen.facts, Cert.ReferenceOutIdeal.Gen.facts, Cert.KernelNorm.Gen.facts, Cert.KernelNormIdeal.Gen.facts,
    Cert.ReferenceNormIdeal.Gen.facts, Cert.KernelOutRnn.Gen.facts, Cert.KernelOutRnnIdeal.Gen.facts, Cert.ReferenceOutRnnIdeal.Gen.facts,
    Cert.Pre_routed.Gen.facts,
    frame_kernel, frame_ideal, frame_reference, frame_kv, frame_kv_ideal, frame_kv_reference, frame_mod, frame_mod_ideal, frame_mod_reference,
    frame_out, frame_out_ideal, frame_out_reference, frame_norm, frame_norm_ideal, frame_norm_reference, frame_out_rnn, frame_out_rnn_ideal,
    frame_out_rnn_reference, trivial, value, trivial, value_kv, trivial, value_mod,
    trivial, value_out, trivial, value_norm, trivial, value_out_rnn⟩

end Cert.Proof

end
